-- ==== Defs.lean ====
def Pre_BwdIn (m : (ℓ : Loc Cert.BwdIn.nD Cert.BwdIn.τ Cert.BwdIn.sig) → Buf (Elt Bits) ℓ) : Prop :=
  True

def Pre_BwdInIdeal (m : (ℓ : Loc Cert.BwdInIdeal.nD Cert.BwdInIdeal.τ Cert.BwdInIdeal.sig) → Buf (Elt Ideal) ℓ) : Prop :=
  True

def Pre_BwdInIdeal_in_finite [hPre_in_finite : Cert.Pre_in_finite.Facts] (m : (ℓ : Loc Cert.BwdInIdeal.nD Cert.BwdInIdeal.τ Cert.BwdInIdeal.sig) → Buf (Elt Ideal) ℓ) : Prop :=
  ∀ c : Dev Cert.BwdInIdeal.nD,
    (Cert.Pre_in_finite.fn (F := Ideal) (m ((c.tc : Thread Cert.BwdInIdeal.nD Cert.BwdInIdeal.τ).loc Cert.BwdInIdeal.main_arg0)) (m ((c.tc : Thread Cert.BwdInIdeal.nD Cert.BwdInIdeal.τ).loc Cert.BwdInIdeal.main_arg1)) (m ((c.tc : Thread Cert.BwdInIdeal.nD Cert.BwdInIdeal.τ).loc Cert.BwdInIdeal.main_arg2)) (m ((c.tc : Thread Cert.BwdInIdeal.nD Cert.BwdInIdeal.τ).loc Cert.BwdInIdeal.main_arg3)) (m ((c.tc : Thread Cert.BwdInIdeal.nD Cert.BwdInIdeal.τ).loc Cert.BwdInIdeal.main_arg4))) = (fun _ => 1#1)

def Pre_BwdInRefIdeal (m : (ℓ : Loc Cert.BwdInRefIdeal.nD Cert.BwdInRefIdeal.τ Cert.BwdInRefIdeal.sig) → Buf (Elt Ideal) ℓ) : Prop :=
  True

def Pre_BwdInRefIdeal_in_finite [hPre_in_finite : Cert.Pre_in_finite.Facts] (m : (ℓ : Loc Cert.BwdInRefIdeal.nD Cert.BwdInRefIdeal.τ Cert.BwdInRefIdeal.sig) → Buf (Elt Ideal) ℓ) : Prop :=
  ∀ c : Dev Cert.BwdInRefIdeal.nD,
    (Cert.Pre_in_finite.fn (F := Ideal) (m ((c.tc : Thread Cert.BwdInRefIdeal.nD Cert.BwdInRefIdeal.τ).loc Cert.BwdInRefIdeal.main_arg0)) (m ((c.tc : Thread Cert.BwdInRefIdeal.nD Cert.BwdInRefIdeal.τ).loc Cert.BwdInRefIdeal.main_arg1)) (m ((c.tc : Thread Cert.BwdInRefIdeal.nD Cert.BwdInRefIdeal.τ).loc Cert.BwdInRefIdeal.main_arg2)) (m ((c.tc : Thread Cert.BwdInRefIdeal.nD Cert.BwdInRefIdeal.τ).loc Cert.BwdInRefIdeal.main_arg3)) (m ((c.tc : Thread Cert.BwdInRefIdeal.nD Cert.BwdInRefIdeal.τ).loc Cert.BwdInRefIdeal.main_arg4))) = (fun _ => 1#1)

def Pre_MixerBwd (m : (ℓ : Loc Cert.MixerBwd.nD Cert.MixerBwd.τ Cert.MixerBwd.sig) → Buf (Elt Bits) ℓ) : Prop :=
  True

def Pre_MixerBwdIdeal (m : (ℓ : Loc Cert.MixerBwdIdeal.nD Cert.MixerBwdIdeal.τ Cert.MixerBwdIdeal.sig) → Buf (Elt Ideal) ℓ) : Prop :=
  True

def Pre_MixerBwdRefIdeal (m : (ℓ : Loc Cert.MixerBwdRefIdeal.nD Cert.MixerBwdRefIdeal.τ Cert.MixerBwdRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdIdeal_ffn_finite [hPre_ffn_finite : Cert.Pre_ffn_finite.Facts] (m : (ℓ : Loc Cert.FfnFwdIdeal.nD Cert.FfnFwdIdeal.τ Cert.FfnFwdIdeal.sig) → Buf (Elt Ideal) ℓ) : Prop :=
  ∀ c : Dev Cert.FfnFwdIdeal.nD,
    (Cert.Pre_ffn_finite.fn (F := Ideal) (m ((c.tc : Thread Cert.FfnFwdIdeal.nD Cert.FfnFwdIdeal.τ).loc Cert.FfnFwdIdeal.main_arg0)) (m ((c.tc : Thread Cert.FfnFwdIdeal.nD Cert.FfnFwdIdeal.τ).loc Cert.FfnFwdIdeal.main_arg1)) (m ((c.tc : Thread Cert.FfnFwdIdeal.nD Cert.FfnFwdIdeal.τ).loc Cert.FfnFwdIdeal.main_arg2)) (m ((c.tc : Thread Cert.FfnFwdIdeal.nD Cert.FfnFwdIdeal.τ).loc Cert.FfnFwdIdeal.main_arg3)) (m ((c.tc : Thread Cert.FfnFwdIdeal.nD Cert.FfnFwdIdeal.τ).loc Cert.FfnFwdIdeal.main_arg4)) (m ((c.tc : Thread Cert.FfnFwdIdeal.nD Cert.FfnFwdIdeal.τ).loc Cert.FfnFwdIdeal.main_arg5)) (m ((c.tc : Thread Cert.FfnFwdIdeal.nD Cert.FfnFwdIdeal.τ).loc Cert.FfnFwdIdeal.main_arg6))) = (fun _ => 1#1)

def Pre_FfnFwdRefIdeal (m : (ℓ : Loc Cert.FfnFwdRefIdeal.nD Cert.FfnFwdRefIdeal.τ Cert.FfnFwdRefIdeal.sig) → Buf (Elt Ideal) ℓ) : Prop :=
  True

def Pre_FfnFwdRefIdeal_ffn_finite [hPre_ffn_finite : Cert.Pre_ffn_finite.Facts] (m : (ℓ : Loc Cert.FfnFwdRefIdeal.nD Cert.FfnFwdRefIdeal.τ Cert.FfnFwdRefIdeal.sig) → Buf (Elt Ideal) ℓ) : Prop :=
  ∀ c : Dev Cert.FfnFwdRefIdeal.nD,
    (Cert.Pre_ffn_finite.fn (F := Ideal) (m ((c.tc : Thread Cert.FfnFwdRefIdeal.nD Cert.FfnFwdRefIdeal.τ).loc Cert.FfnFwdRefIdeal.main_arg0)) (m ((c.tc : Thread Cert.FfnFwdRefIdeal.nD Cert.FfnFwdRefIdeal.τ).loc Cert.FfnFwdRefIdeal.main_arg1)) (m ((c.tc : Thread Cert.FfnFwdRefIdeal.nD Cert.FfnFwdRefIdeal.τ).loc Cert.FfnFwdRefIdeal.main_arg2)) (m ((c.tc : Thread Cert.FfnFwdRefIdeal.nD Cert.FfnFwdRefIdeal.τ).loc Cert.FfnFwdRefIdeal.main_arg3)) (m ((c.tc : Thread Cert.FfnFwdRefIdeal.nD Cert.FfnFwdRefIdeal.τ).loc Cert.FfnFwdRefIdeal.main_arg4)) (m ((c.tc : Thread Cert.FfnFwdRefIdeal.nD Cert.FfnFwdRefIdeal.τ).loc Cert.FfnFwdRefIdeal.main_arg5)) (m ((c.tc : Thread Cert.FfnFwdRefIdeal.nD Cert.FfnFwdRefIdeal.τ).loc Cert.FfnFwdRefIdeal.main_arg6))) = (fun _ => 1#1)

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_ffb_finite [hPre_ffb_finite : Cert.Pre_ffb_finite.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_ffb_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))) = (fun _ => 1#1)

def Pre_FfnBwdRefIdeal (m : (ℓ : Loc Cert.FfnBwdRefIdeal.nD Cert.FfnBwdRefIdeal.τ Cert.FfnBwdRefIdeal.sig) → Buf (Elt Ideal) ℓ) : Prop :=
  True

def Pre_FfnBwdRefIdeal_ffb_finite [hPre_ffb_finite : Cert.Pre_ffb_finite.Facts] (m : (ℓ : Loc Cert.FfnBwdRefIdeal.nD Cert.FfnBwdRefIdeal.τ Cert.FfnBwdRefIdeal.sig) → Buf (Elt Ideal) ℓ) : Prop :=
  ∀ c : Dev Cert.FfnBwdRefIdeal.nD,
    (Cert.Pre_ffb_finite.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4))) = (fun _ => 1#1)

def Pre_BwdOut (m : (ℓ : Loc Cert.BwdOut.nD Cert.BwdOut.τ Cert.BwdOut.sig) → Buf (Elt Bits) ℓ) : Prop :=
  True

def Pre_BwdOutIdeal (m : (ℓ : Loc Cert.BwdOutIdeal.nD Cert.BwdOutIdeal.τ Cert.BwdOutIdeal.sig) → Buf (Elt Ideal) ℓ) : Prop :=
  True

def Pre_BwdOutIdeal_out_finite [hPre_out_finite : Cert.Pre_out_finite.Facts] (m : (ℓ : Loc Cert.BwdOutIdeal.nD Cert.BwdOutIdeal.τ Cert.BwdOutIdeal.sig) → Buf (Elt Ideal) ℓ) : Prop :=
  ∀ c : Dev Cert.BwdOutIdeal.nD,
    (Cert.Pre_out_finite.fn (F := Ideal) (m ((c.tc : Thread Cert.BwdOutIdeal.nD Cert.BwdOutIdeal.τ).loc Cert.BwdOutIdeal.main_arg0)) (m ((c.tc : Thread Cert.BwdOutIdeal.nD Cert.BwdOutIdeal.τ).loc Cert.BwdOutIdeal.main_arg1)) (m ((c.tc : Thread Cert.BwdOutIdeal.nD Cert.BwdOutIdeal.τ).loc Cert.BwdOutIdeal.main_arg2)) (m ((c.tc : Thread Cert.BwdOutIdeal.nD Cert.BwdOutIdeal.τ).loc Cert.BwdOutIdeal.main_arg3)) (m ((c.tc : Thread Cert.BwdOutIdeal.nD Cert.BwdOutIdeal.τ).loc Cert.BwdOutIdeal.main_arg4)) (m ((c.tc : Thread Cert.BwdOutIdeal.nD Cert.BwdOutIdeal.τ).loc Cert.BwdOutIdeal.main_arg5)) (m ((c.tc : Thread Cert.BwdOutIdeal.nD Cert.BwdOutIdeal.τ).loc Cert.BwdOutIdeal.main_arg6)) (m ((c.tc : Thread Cert.BwdOutIdeal.nD Cert.BwdOutIdeal.τ).loc Cert.BwdOutIdeal.main_arg7)) (m ((c.tc : Thread Cert.BwdOutIdeal.nD Cert.BwdOutIdeal.τ).loc Cert.BwdOutIdeal.main_arg8))) = (fun _ => 1#1)

def Pre_BwdOutRefIdeal (m : (ℓ : Loc Cert.BwdOutRefIdeal.nD Cert.BwdOutRefIdeal.τ Cert.BwdOutRefIdeal.sig) → Buf (Elt Ideal) ℓ) : Prop :=
  True

def Pre_BwdOutRefIdeal_out_finite [hPre_out_finite : Cert.Pre_out_finite.Facts] (m : (ℓ : Loc Cert.BwdOutRefIdeal.nD Cert.BwdOutRefIdeal.τ Cert.BwdOutRefIdeal.sig) → Buf (Elt Ideal) ℓ) : Prop :=
  ∀ c : Dev Cert.BwdOutRefIdeal.nD,
    (Cert.Pre_out_finite.fn (F := Ideal) (m ((c.tc : Thread Cert.BwdOutRefIdeal.nD Cert.BwdOutRefIdeal.τ).loc Cert.BwdOutRefIdeal.main_arg0)) (m ((c.tc : Thread Cert.BwdOutRefIdeal.nD Cert.BwdOutRefIdeal.τ).loc Cert.BwdOutRefIdeal.main_arg1)) (m ((c.tc : Thread Cert.BwdOutRefIdeal.nD Cert.BwdOutRefIdeal.τ).loc Cert.BwdOutRefIdeal.main_arg2)) (m ((c.tc : Thread Cert.BwdOutRefIdeal.nD Cert.BwdOutRefIdeal.τ).loc Cert.BwdOutRefIdeal.main_arg3)) (m ((c.tc : Thread Cert.BwdOutRefIdeal.nD Cert.BwdOutRefIdeal.τ).loc Cert.BwdOutRefIdeal.main_arg4)) (m ((c.tc : Thread Cert.BwdOutRefIdeal.nD Cert.BwdOutRefIdeal.τ).loc Cert.BwdOutRefIdeal.main_arg5)) (m ((c.tc : Thread Cert.BwdOutRefIdeal.nD Cert.BwdOutRefIdeal.τ).loc Cert.BwdOutRefIdeal.main_arg6)) (m ((c.tc : Thread Cert.BwdOutRefIdeal.nD Cert.BwdOutRefIdeal.τ).loc Cert.BwdOutRefIdeal.main_arg7)) (m ((c.tc : Thread Cert.BwdOutRefIdeal.nD Cert.BwdOutRefIdeal.τ).loc Cert.BwdOutRefIdeal.main_arg8))) = (fun _ => 1#1)

def Pre_FwdIn (m : (ℓ : Loc Cert.FwdIn.nD Cert.FwdIn.τ Cert.FwdIn.sig) → Buf (Elt Bits) ℓ) : Prop :=
  True

def Pre_FwdInIdeal (m : (ℓ : Loc Cert.FwdInIdeal.nD Cert.FwdInIdeal.τ Cert.FwdInIdeal.sig) → Buf (Elt Ideal) ℓ) : Prop :=
  True

def Pre_FwdInRefIdeal (m : (ℓ : Loc Cert.FwdInRefIdeal.nD Cert.FwdInRefIdeal.τ Cert.FwdInRefIdeal.sig) → Buf (Elt Ideal) ℓ) : Prop :=
  True

def Pre_FwdOut (m : (ℓ : Loc Cert.FwdOut.nD Cert.FwdOut.τ Cert.FwdOut.sig) → Buf (Elt Bits) ℓ) : Prop :=
  True

def Pre_FwdOutIdeal (m : (ℓ : Loc Cert.FwdOutIdeal.nD Cert.FwdOutIdeal.τ Cert.FwdOutIdeal.sig) → Buf (Elt Ideal) ℓ) : Prop :=
  True

def Pre_FwdOutRefIdeal (m : (ℓ : Loc Cert.FwdOutRefIdeal.nD Cert.FwdOutRefIdeal.τ Cert.FwdOutRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamGain (m : (ℓ : Loc Cert.AdamGain.nD Cert.AdamGain.τ Cert.AdamGain.sig) → Buf (Elt Bits) ℓ) : Prop :=
  True

def Pre_AdamGainIdeal (m : (ℓ : Loc Cert.AdamGainIdeal.nD Cert.AdamGainIdeal.τ Cert.AdamGainIdeal.sig) → Buf (Elt Ideal) ℓ) : Prop :=
  True

def Pre_AdamGainRefIdeal (m : (ℓ : Loc Cert.AdamGainRefIdeal.nD Cert.AdamGainRefIdeal.τ Cert.AdamGainRefIdeal.sig) → Buf (Elt Ideal) ℓ) : Prop :=
  True

def Pre_Pack (m : (ℓ : Loc Cert.Pack.nD Cert.Pack.τ Cert.Pack.sig) → Buf (Elt Bits) ℓ) : Prop :=
  True

def Pre_PackIdeal (m : (ℓ : Loc Cert.PackIdeal.nD Cert.PackIdeal.τ Cert.PackIdeal.sig) → Buf (Elt Ideal) ℓ) : Prop :=
  True

def Pre_PackRefIdeal (m : (ℓ : Loc Cert.PackRefIdeal.nD Cert.PackRefIdeal.τ Cert.PackRefIdeal.sig) → Buf (Elt Ideal) ℓ) : Prop :=
  True

def quiescent_BwdIn [hBwdIn : Cert.BwdIn.Facts] : Prop :=
  ∀ (m : (ℓ : Loc Cert.BwdIn.nD Cert.BwdIn.τ Cert.BwdIn.sig) → Buf (Elt Bits) ℓ) (g : Dev Cert.BwdIn.nD → PrngReg), Pre_BwdIn m →
    θ_run (Cert.BwdIn.defs (F := Bits)) (onTc (τ := Cert.BwdIn.τ) (Cert.BwdIn.main (F := Bits))) ⟨m, fun _ => 0, g⟩ (fun r => (∀ c : Dev Cert.BwdIn.nD,
      r.2.mem ((c.tc : Thread Cert.BwdIn.nD Cert.BwdIn.τ).loc Cert.BwdIn.main_arg0) = m ((c.tc : Thread Cert.BwdIn.nD Cert.BwdIn.τ).loc Cert.BwdIn.main_arg0)
      ∧ r.2.mem ((c.tc : Thread Cert.BwdIn.nD Cert.BwdIn.τ).loc Cert.BwdIn.main_arg1) = m ((c.tc : Thread Cert.BwdIn.nD Cert.BwdIn.τ).loc Cert.BwdIn.main_arg1)
      ∧ r.2.mem ((c.tc : Thread Cert.BwdIn.nD Cert.BwdIn.τ).loc Cert.BwdIn.main_arg2) = m ((c.tc : Thread Cert.BwdIn.nD Cert.BwdIn.τ).loc Cert.BwdIn.main_arg2)
      ∧ r.2.mem ((c.tc : Thread Cert.BwdIn.nD Cert.BwdIn.τ).loc Cert.BwdIn.main_arg3) = m ((c.tc : Thread Cert.BwdIn.nD Cert.BwdIn.τ).loc Cert.BwdIn.main_arg3)
      ∧ r.2.mem ((c.tc : Thread Cert.BwdIn.nD Cert.BwdIn.τ).loc Cert.BwdIn.main_arg4) = m ((c.tc : Thread Cert.BwdIn.nD Cert.BwdIn.τ).loc Cert.BwdIn.main_arg4))
      ∧ r.2.sem = fun _ => 0)

def quiescent_BwdInIdeal [hBwdInIdeal : Cert.BwdInIdeal.Facts] : Prop :=
  ∀ (m : (ℓ : Loc Cert.BwdInIdeal.nD Cert.BwdInIdeal.τ Cert.BwdInIdeal.sig) → Buf (Elt Ideal) ℓ) (g : Dev Cert.BwdInIdeal.nD → PrngReg), Pre_BwdInIdeal m →
    θ_run (Cert.BwdInIdeal.defs (F := Ideal)) (onTc (τ := Cert.BwdInIdeal.τ) (Cert.BwdInIdeal.main (F := Ideal))) ⟨m, fun _ => 0, g⟩ (fun r => (∀ c : Dev Cert.BwdInIdeal.nD,
      r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
      ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
      ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
      ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
      ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4))
      ∧ r.2.sem = fun _ => 0)

def quiescent_BwdInIdeal_pre_in_finite [hBwdInIdeal : Cert.BwdInIdeal.Facts] [hPre_in_finite : Cert.Pre_in_finite.Facts] : Prop :=
  ∀ (m : (ℓ : Loc Cert.BwdInIdeal.nD Cert.BwdInIdeal.τ Cert.BwdInIdeal.sig) → Buf (Elt Ideal) ℓ) (g : Dev Cert.BwdInIdeal.nD → PrngReg), Pre_BwdInIdeal_in_finite m →
    θ_run (Cert.BwdInIdeal.defs (F := Ideal)) (onTc (τ := Cert.BwdInIdeal.τ) (Cert.BwdInIdeal.main (F := Ideal))) ⟨m, fun _ => 0, g⟩ (fun r => (∀ c : Dev Cert.BwdInIdeal.nD,
      r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
      ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
      ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
      ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
      ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4))
      ∧ r.2.sem = fun _ => 0)

def quiescent_BwdInRefIdeal [hBwdInRefIdeal : Cert.BwdInRefIdeal.Facts] : Prop :=
  ∀ (m : (ℓ : Loc Cert.BwdInRefIdeal.nD Cert.BwdInRefIdeal.τ Cert.BwdInRefIdeal.sig) → Buf (Elt Ideal) ℓ) (g : Dev Cert.BwdInRefIdeal.nD → PrngReg), Pre_BwdInRefIdeal m →
    θ_run (Cert.BwdInRefIdeal.defs (F := Ideal)) (onTc (τ := Cert.BwdInRefIdeal.τ) (Cert.BwdInRefIdeal.main (F := Ideal))) ⟨m, fun _ => 0, g⟩ (fun r => (∀ c : Dev Cert.BwdInRefIdeal.nD,
      r.2.mem ((c.tc : Thread Cert.BwdInRefIdeal.nD Cert.BwdInRefIdeal.τ).loc Cert.BwdInRefIdeal.main_arg0) = m ((c.tc : Thread Cert.BwdInRefIdeal.nD Cert.BwdInRefIdeal.τ).loc Cert.BwdInRefIdeal.main_arg0)
      ∧ r.2.mem ((c.tc : Thread Cert.BwdInRefIdeal.nD Cert.BwdInRefIdeal.τ).loc Cert.BwdInRefIdeal.main_arg1) = m ((c.tc : Thread Cert.BwdInRefIdeal.nD Cert.BwdInRefIdeal.τ).loc Cert.BwdInRefIdeal.main_arg1)
      ∧ r.2.mem ((c.tc : Thread Cert.BwdInRefIdeal.nD Cert.BwdInRefIdeal.τ).loc Cert.BwdInRefIdeal.main_arg2) = m ((c.tc : Thread Cert.BwdInRefIdeal.nD Cert.BwdInRefIdeal.τ).loc Cert.BwdInRefIdeal.main_arg2)
      ∧ r.2.mem ((c.tc : Thread Cert.BwdInRefIdeal.nD Cert.BwdInRefIdeal.τ).loc Cert.BwdInRefIdeal.main_arg3) = m ((c.tc : Thread Cert.BwdInRefIdeal.nD Cert.BwdInRefIdeal.τ).loc Cert.BwdInRefIdeal.main_arg3)
      ∧ r.2.mem ((c.tc : Thread Cert.BwdInRefIdeal.nD Cert.BwdInRefIdeal.τ).loc Cert.BwdInRefIdeal.main_arg4) = m ((c.tc : Thread Cert.BwdInRefIdeal.nD Cert.BwdInRefIdeal.τ).loc Cert.BwdInRefIdeal.main_arg4))
      ∧ r.2.sem = fun _ => 0)

def quiescent_BwdInRefIdeal_pre_in_finite [hBwdInRefIdeal : Cert.BwdInRefIdeal.Facts] [hPre_in_finite : Cert.Pre_in_finite.Facts] : Prop :=
  ∀ (m : (ℓ : Loc Cert.BwdInRefIdeal.nD Cert.BwdInRefIdeal.τ Cert.BwdInRefIdeal.sig) → Buf (Elt Ideal) ℓ) (g : Dev Cert.BwdInRefIdeal.nD → PrngReg), Pre_BwdInRefIdeal_in_finite m →
    θ_run (Cert.BwdInRefIdeal.defs (F := Ideal)) (onTc (τ := Cert.BwdInRefIdeal.τ) (Cert.BwdInRefIdeal.main (F := Ideal))) ⟨m, fun _ => 0, g⟩ (fun r => (∀ c : Dev Cert.BwdInRefIdeal.nD,
      r.2.mem ((c.tc : Thread Cert.BwdInRefIdeal.nD Cert.BwdInRefIdeal.τ).loc Cert.BwdInRefIdeal.main_arg0) = m ((c.tc : Thread Cert.BwdInRefIdeal.nD Cert.BwdInRefIdeal.τ).loc Cert.BwdInRefIdeal.main_arg0)
      ∧ r.2.mem ((c.tc : Thread Cert.BwdInRefIdeal.nD Cert.BwdInRefIdeal.τ).loc Cert.BwdInRefIdeal.main_arg1) = m ((c.tc : Thread Cert.BwdInRefIdeal.nD Cert.BwdInRefIdeal.τ).loc Cert.BwdInRefIdeal.main_arg1)
      ∧ r.2.mem ((c.tc : Thread Cert.BwdInRefIdeal.nD Cert.BwdInRefIdeal.τ).loc Cert.BwdInRefIdeal.main_arg2) = m ((c.tc : Thread Cert.BwdInRefIdeal.nD Cert.BwdInRefIdeal.τ).loc Cert.BwdInRefIdeal.main_arg2)
      ∧ r.2.mem ((c.tc : Thread Cert.BwdInRefIdeal.nD Cert.BwdInRefIdeal.τ).loc Cert.BwdInRefIdeal.main_arg3) = m ((c.tc : Thread Cert.BwdInRefIdeal.nD Cert.BwdInRefIdeal.τ).loc Cert.BwdInRefIdeal.main_arg3)
      ∧ r.2.mem ((c.tc : Thread Cert.BwdInRefIdeal.nD Cert.BwdInRefIdeal.τ).loc Cert.BwdInRefIdeal.main_arg4) = m ((c.tc : Thread Cert.BwdInRefIdeal.nD Cert.BwdInRefIdeal.τ).loc Cert.BwdInRefIdeal.main_arg4))
      ∧ r.2.sem = fun _ => 0)

def quiescent_MixerBwd [hMixerBwd : Cert.MixerBwd.Facts] : Prop :=
  ∀ (m : (ℓ : Loc Cert.MixerBwd.nD Cert.MixerBwd.τ Cert.MixerBwd.sig) → Buf (Elt Bits) ℓ) (g : Dev Cert.MixerBwd.nD → PrngReg), Pre_MixerBwd m →
    θ_run (Cert.MixerBwd.defs (F := Bits)) (onTc (τ := Cert.MixerBwd.τ) (Cert.MixerBwd.main (F := Bits))) ⟨m, fun _ => 0, g⟩ (fun r => (∀ c : Dev Cert.MixerBwd.nD,
      r.2.mem ((c.tc : Thread Cert.MixerBwd.nD Cert.MixerBwd.τ).loc Cert.MixerBwd.main_arg0) = m ((c.tc : Thread Cert.MixerBwd.nD Cert.MixerBwd.τ).loc Cert.MixerBwd.main_arg0)
      ∧ r.2.mem ((c.tc : Thread Cert.MixerBwd.nD Cert.MixerBwd.τ).loc Cert.MixerBwd.main_arg1) = m ((c.tc : Thread Cert.MixerBwd.nD Cert.MixerBwd.τ).loc Cert.MixerBwd.main_arg1)
      ∧ r.2.mem ((c.tc : Thread Cert.MixerBwd.nD Cert.MixerBwd.τ).loc Cert.MixerBwd.main_arg2) = m ((c.tc : Thread Cert.MixerBwd.nD Cert.MixerBwd.τ).loc Cert.MixerBwd.main_arg2)
      ∧ r.2.mem ((c.tc : Thread Cert.MixerBwd.nD Cert.MixerBwd.τ).loc Cert.MixerBwd.main_arg3) = m ((c.tc : Thread Cert.MixerBwd.nD Cert.MixerBwd.τ).loc Cert.MixerBwd.main_arg3)
      ∧ r.2.mem ((c.tc : Thread Cert.MixerBwd.nD Cert.MixerBwd.τ).loc Cert.MixerBwd.main_arg4) = m ((c.tc : Thread Cert.MixerBwd.nD Cert.MixerBwd.τ).loc Cert.MixerBwd.main_arg4)
      ∧ r.2.mem ((c.tc : Thread Cert.MixerBwd.nD Cert.MixerBwd.τ).loc Cert.MixerBwd.main_arg5) = m ((c.tc : Thread Cert.MixerBwd.nD Cert.MixerBwd.τ).loc Cert.MixerBwd.main_arg5)
      ∧ r.2.mem ((c.tc : Thread Cert.MixerBwd.nD Cert.MixerBwd.τ).loc Cert.MixerBwd.main_arg6) = m ((c.tc : Thread Cert.MixerBwd.nD Cert.MixerBwd.τ).loc Cert.MixerBwd.main_arg6)
      ∧ r.2.mem ((c.tc : Thread Cert.MixerBwd.nD Cert.MixerBwd.τ).loc Cert.MixerBwd.main_arg7) = m ((c.tc : Thread Cert.MixerBwd.nD Cert.MixerBwd.τ).loc Cert.MixerBwd.main_arg7)
      ∧ r.2.mem ((c.tc : Thread Cert.MixerBwd.nD Cert.MixerBwd.τ).loc Cert.MixerBwd.main_arg8) = m ((c.tc : Thread Cert.MixerBwd.nD Cert.MixerBwd.τ).loc Cert.MixerBwd.main_arg8)
      ∧ r.2.mem ((c.tc : Thread Cert.MixerBwd.nD Cert.MixerBwd.τ).loc Cert.MixerBwd.main_arg9) = m ((c.tc : Thread Cert.MixerBwd.nD Cert.MixerBwd.τ).loc Cert.MixerBwd.main_arg9)
      ∧ r.2.mem ((c.tc : Thread Cert.MixerBwd.nD Cert.MixerBwd.τ).loc Cert.MixerBwd.main_arg10) = m ((c.tc : Thread Cert.MixerBwd.nD Cert.MixerBwd.τ).loc Cert.MixerBwd.main_arg10)
      ∧ r.2.mem ((c.tc : Thread Cert.MixerBwd.nD Cert.MixerBwd.τ).loc Cert.MixerBwd.main_arg11) = m ((c.tc : Thread Cert.MixerBwd.nD Cert.MixerBwd.τ).loc Cert.MixerBwd.main_arg11)
      ∧ r.2.mem ((c.tc : Thread Cert.MixerBwd.nD Cert.MixerBwd.τ).loc Cert.MixerBwd.main_arg12) = m ((c.tc : Thread Cert.MixerBwd.nD Cert.MixerBwd.τ).loc Cert.MixerBwd.main_arg12)
      ∧ r.2.mem ((c.tc : Thread Cert.MixerBwd.nD Cert.MixerBwd.τ).loc Cert.MixerBwd.main_arg13) = m ((c.tc : Thread Cert.MixerBwd.nD Cert.MixerBwd.τ).loc Cert.MixerBwd.main_arg13))
      ∧ r.2.sem = fun _ => 0)

def quiescent_MixerBwdIdeal [hMixerBwdIdeal : Cert.MixerBwdIdeal.Facts] : Prop :=
  ∀ (m : (ℓ : Loc Cert.MixerBwdIdeal.nD Cert.MixerBwdIdeal.τ Cert.MixerBwdIdeal.sig) → Buf (Elt Ideal) ℓ) (g : Dev Cert.MixerBwdIdeal.nD → PrngReg), Pre_MixerBwdIdeal m →
    θ_run (Cert.MixerBwdIdeal.defs (F := Ideal)) (onTc (τ := Cert.MixerBwdIdeal.τ) (Cert.MixerBwdIdeal.main (F := Ideal))) ⟨m, fun _ => 0, g⟩ (fun r => (∀ c : Dev Cert.MixerBwdIdeal.nD,
      r.2.mem ((c.tc : Thread Cert.MixerBwdIdeal.nD Cert.MixerBwdIdeal.τ).loc Cert.MixerBwdIdeal.main_arg0) = m ((c.tc : Thread Cert.MixerBwdIdeal.nD Cert.MixerBwdIdeal.τ).loc Cert.MixerBwdIdeal.main_arg0)
      ∧ r.2.mem ((c.tc : Thread Cert.MixerBwdIdeal.nD Cert.MixerBwdIdeal.τ).loc Cert.MixerBwdIdeal.main_arg1) = m ((c.tc : Thread Cert.MixerBwdIdeal.nD Cert.MixerBwdIdeal.τ).loc Cert.MixerBwdIdeal.main_arg1)
      ∧ r.2.mem ((c.tc : Thread Cert.MixerBwdIdeal.nD Cert.MixerBwdIdeal.τ).loc Cert.MixerBwdIdeal.main_arg2) = m ((c.tc : Thread Cert.MixerBwdIdeal.nD Cert.MixerBwdIdeal.τ).loc Cert.MixerBwdIdeal.main_arg2)
      ∧ r.2.mem ((c.tc : Thread Cert.MixerBwdIdeal.nD Cert.MixerBwdIdeal.τ).loc Cert.MixerBwdIdeal.main_arg3) = m ((c.tc : Thread Cert.MixerBwdIdeal.nD Cert.MixerBwdIdeal.τ).loc Cert.MixerBwdIdeal.main_arg3)
      ∧ r.2.mem ((c.tc : Thread Cert.MixerBwdIdeal.nD Cert.MixerBwdIdeal.τ).loc Cert.MixerBwdIdeal.main_arg4) = m ((c.tc : Thread Cert.MixerBwdIdeal.nD Cert.MixerBwdIdeal.τ).loc Cert.MixerBwdIdeal.main_arg4)
      ∧ r.2.mem ((c.tc : Thread Cert.MixerBwdIdeal.nD Cert.MixerBwdIdeal.τ).loc Cert.MixerBwdIdeal.main_arg5) = m ((c.tc : Thread Cert.MixerBwdIdeal.nD Cert.MixerBwdIdeal.τ).loc Cert.MixerBwdIdeal.main_arg5)
      ∧ r.2.mem ((c.tc : Thread Cert.MixerBwdIdeal.nD Cert.MixerBwdIdeal.τ).loc Cert.MixerBwdIdeal.main_arg6) = m ((c.tc : Thread Cert.MixerBwdIdeal.nD Cert.MixerBwdIdeal.τ).loc Cert.MixerBwdIdeal.main_arg6)
      ∧ r.2.mem ((c.tc : Thread Cert.MixerBwdIdeal.nD Cert.MixerBwdIdeal.τ).loc Cert.MixerBwdIdeal.main_arg7) = m ((c.tc : Thread Cert.MixerBwdIdeal.nD Cert.MixerBwdIdeal.τ).loc Cert.MixerBwdIdeal.main_arg7)
      ∧ r.2.mem ((c.tc : Thread Cert.MixerBwdIdeal.nD Cert.MixerBwdIdeal.τ).loc Cert.MixerBwdIdeal.main_arg8) = m ((c.tc : Thread Cert.MixerBwdIdeal.nD Cert.MixerBwdIdeal.τ).loc Cert.MixerBwdIdeal.main_arg8)
      ∧ r.2.mem ((c.tc : Thread Cert.MixerBwdIdeal.nD Cert.MixerBwdIdeal.τ).loc Cert.MixerBwdIdeal.main_arg9) = m ((c.tc : Thread Cert.MixerBwdIdeal.nD Cert.MixerBwdIdeal.τ).loc Cert.MixerBwdIdeal.main_arg9)
      ∧ r.2.mem ((c.tc : Thread Cert.MixerBwdIdeal.nD Cert.MixerBwdIdeal.τ).loc Cert.MixerBwdIdeal.main_arg10) = m ((c.tc : Thread Cert.MixerBwdIdeal.nD Cert.MixerBwdIdeal.τ).loc Cert.MixerBwdIdeal.main_arg10)
      ∧ r.2.mem ((c.tc : Thread Cert.MixerBwdIdeal.nD Cert.MixerBwdIdeal.τ).loc Cert.MixerBwdIdeal.main_arg11) = m ((c.tc : Thread Cert.MixerBwdIdeal.nD Cert.MixerBwdIdeal.τ).loc Cert.MixerBwdIdeal.main_arg11)
      ∧ r.2.mem ((c.tc : Thread Cert.MixerBwdIdeal.nD Cert.MixerBwdIdeal.τ).loc Cert.MixerBwdIdeal.main_arg12) = m ((c.tc : Thread Cert.MixerBwdIdeal.nD Cert.MixerBwdIdeal.τ).loc Cert.MixerBwdIdeal.main_arg12)
      ∧ r.2.mem ((c.tc : Thread Cert.MixerBwdIdeal.nD Cert.MixerBwdIdeal.τ).loc Cert.MixerBwdIdeal.main_arg13) = m ((c.tc : Thread Cert.MixerBwdIdeal.nD Cert.MixerBwdIdeal.τ).loc Cert.MixerBwdIdeal.main_arg13))
      ∧ r.2.sem = fun _ => 0)

def quiescent_MixerBwdRefIdeal [hMixerBwdRefIdeal : Cert.MixerBwdRefIdeal.Facts] : Prop :=
  ∀ (m : (ℓ : Loc Cert.MixerBwdRefIdeal.nD Cert.MixerBwdRefIdeal.τ Cert.MixerBwdRefIdeal.sig) → Buf (Elt Ideal) ℓ) (g : Dev Cert.MixerBwdRefIdeal.nD → PrngReg), Pre_MixerBwdRefIdeal m →
    θ_run (Cert.MixerBwdRefIdeal.defs (F := Ideal)) (onTc (τ := Cert.MixerBwdRefIdeal.τ) (Cert.MixerBwdRefIdeal.main (F := Ideal))) ⟨m, fun _ => 0, g⟩ (fun r => (∀ c : Dev Cert.MixerBwdRefIdeal.nD,
      r.2.mem ((c.tc : Thread Cert.MixerBwdRefIdeal.nD Cert.MixerBwdRefIdeal.τ).loc Cert.MixerBwdRefIdeal.main_arg0) = m ((c.tc : Thread Cert.MixerBwdRefIdeal.nD Cert.MixerBwdRefIdeal.τ).loc Cert.MixerBwdRefIdeal.main_arg0)
      ∧ r.2.mem ((c.tc : Thread Cert.MixerBwdRefIdeal.nD Cert.MixerBwdRefIdeal.τ).loc Cert.MixerBwdRefIdeal.main_arg1) = m ((c.tc : Thread Cert.MixerBwdRefIdeal.nD Cert.MixerBwdRefIdeal.τ).loc Cert.MixerBwdRefIdeal.main_arg1)
      ∧ r.2.mem ((c.tc : Thread Cert.MixerBwdRefIdeal.nD Cert.MixerBwdRefIdeal.τ).loc Cert.MixerBwdRefIdeal.main_arg2) = m ((c.tc : Thread Cert.MixerBwdRefIdeal.nD Cert.MixerBwdRefIdeal.τ).loc Cert.MixerBwdRefIdeal.main_arg2)
      ∧ r.2.mem ((c.tc : Thread Cert.MixerBwdRefIdeal.nD Cert.MixerBwdRefIdeal.τ).loc Cert.MixerBwdRefIdeal.main_arg3) = m ((c.tc : Thread Cert.MixerBwdRefIdeal.nD Cert.MixerBwdRefIdeal.τ).loc Cert.MixerBwdRefIdeal.main_arg3)
      ∧ r.2.mem ((c.tc : Thread Cert.MixerBwdRefIdeal.nD Cert.MixerBwdRefIdeal.τ).loc Cert.MixerBwdRefIdeal.main_arg4) = m ((c.tc : Thread Cert.MixerBwdRefIdeal.nD Cert.MixerBwdRefIdeal.τ).loc Cert.MixerBwdRefIdeal.main_arg4)
      ∧ r.2.mem ((c.tc : Thread Cert.MixerBwdRefIdeal.nD Cert.MixerBwdRefIdeal.τ).loc Cert.MixerBwdRefIdeal.main_arg5) = m ((c.tc : Thread Cert.MixerBwdRefIdeal.nD Cert.MixerBwdRefIdeal.τ).loc Cert.MixerBwdRefIdeal.main_arg5)
      ∧ r.2.mem ((c.tc : Thread Cert.MixerBwdRefIdeal.nD Cert.MixerBwdRefIdeal.τ).loc Cert.MixerBwdRefIdeal.main_arg6) = m ((c.tc : Thread Cert.MixerBwdRefIdeal.nD Cert.MixerBwdRefIdeal.τ).loc Cert.MixerBwdRefIdeal.main_arg6)
      ∧ r.2.mem ((c.tc : Thread Cert.MixerBwdRefIdeal.nD Cert.MixerBwdRefIdeal.τ).loc Cert.MixerBwdRefIdeal.main_arg7) = m ((c.tc : Thread Cert.MixerBwdRefIdeal.nD Cert.MixerBwdRefIdeal.τ).loc Cert.MixerBwdRefIdeal.main_arg7)
      ∧ r.2.mem ((c.tc : Thread Cert.MixerBwdRefIdeal.nD Cert.MixerBwdRefIdeal.τ).loc Cert.MixerBwdRefIdeal.main_arg8) = m ((c.tc : Thread Cert.MixerBwdRefIdeal.nD Cert.MixerBwdRefIdeal.τ).loc Cert.MixerBwdRefIdeal.main_arg8)
      ∧ r.2.mem ((c.tc : Thread Cert.MixerBwdRefIdeal.nD Cert.MixerBwdRefIdeal.τ).loc Cert.MixerBwdRefIdeal.main_arg9) = m ((c.tc : Thread Cert.MixerBwdRefIdeal.nD Cert.MixerBwdRefIdeal.τ).loc Cert.MixerBwdRefIdeal.main_arg9)
      ∧ r.2.mem ((c.tc : Thread Cert.MixerBwdRefIdeal.nD Cert.MixerBwdRefIdeal.τ).loc Cert.MixerBwdRefIdeal.main_arg10) = m ((c.tc : Thread Cert.MixerBwdRefIdeal.nD Cert.MixerBwdRefIdeal.τ).loc Cert.MixerBwdRefIdeal.main_arg10)
      ∧ r.2.mem ((c.tc : Thread Cert.MixerBwdRefIdeal.nD Cert.MixerBwdRefIdeal.τ).loc Cert.MixerBwdRefIdeal.main_arg11) = m ((c.tc : Thread Cert.MixerBwdRefIdeal.nD Cert.MixerBwdRefIdeal.τ).loc Cert.MixerBwdRefIdeal.main_arg11)
      ∧ r.2.mem ((c.tc : Thread Cert.MixerBwdRefIdeal.nD Cert.MixerBwdRefIdeal.τ).loc Cert.MixerBwdRefIdeal.main_arg12) = m ((c.tc : Thread Cert.MixerBwdRefIdeal.nD Cert.MixerBwdRefIdeal.τ).loc Cert.MixerBwdRefIdeal.main_arg12)
      ∧ r.2.mem ((c.tc : Thread Cert.MixerBwdRefIdeal.nD Cert.MixerBwdRefIdeal.τ).loc Cert.MixerBwdRefIdeal.main_arg13) = m ((c.tc : Thread Cert.MixerBwdRefIdeal.nD Cert.MixerBwdRefIdeal.τ).loc Cert.MixerBwdRefIdeal.main_arg13))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4)
      ∧ r.2.mem ((c.tc : Thread Cert.FfnFwd.nD Cert.FfnFwd.τ).loc Cert.FfnFwd.main_arg5) = m ((c.tc : Thread Cert.FfnFwd.nD Cert.FfnFwd.τ).loc Cert.FfnFwd.main_arg5)
      ∧ r.2.mem ((c.tc : Thread Cert.FfnFwd.nD Cert.FfnFwd.τ).loc Cert.FfnFwd.main_arg6) = m ((c.tc : Thread Cert.FfnFwd.nD Cert.FfnFwd.τ).loc Cert.FfnFwd.main_arg6))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
      ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5)
      ∧ r.2.mem ((c.tc : Thread Cert.FfnFwdIdeal.nD Cert.FfnFwdIdeal.τ).loc Cert.FfnFwdIdeal.main_arg6) = m ((c.tc : Thread Cert.FfnFwdIdeal.nD Cert.FfnFwdIdeal.τ).loc Cert.FfnFwdIdeal.main_arg6))
      ∧ r.2.sem = fun _ => 0)

def quiescent_FfnFwdIdeal_pre_ffn_finite [hFfnFwdIdeal : Cert.FfnFwdIdeal.Facts] [hPre_ffn_finite : Cert.Pre_ffn_finite.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal_ffn_finite m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
      ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5)
      ∧ r.2.mem ((c.tc : Thread Cert.FfnFwdIdeal.nD Cert.FfnFwdIdeal.τ).loc Cert.FfnFwdIdeal.main_arg6) = m ((c.tc : Thread Cert.FfnFwdIdeal.nD Cert.FfnFwdIdeal.τ).loc Cert.FfnFwdIdeal.main_arg6))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4)
      ∧ r.2.mem ((c.tc : Thread Cert.FfnFwdRefIdeal.nD Cert.FfnFwdRefIdeal.τ).loc Cert.FfnFwdRefIdeal.main_arg5) = m ((c.tc : Thread Cert.FfnFwdRefIdeal.nD Cert.FfnFwdRefIdeal.τ).loc Cert.FfnFwdRefIdeal.main_arg5)
      ∧ r.2.mem ((c.tc : Thread Cert.FfnFwdRefIdeal.nD Cert.FfnFwdRefIdeal.τ).loc Cert.FfnFwdRefIdeal.main_arg6) = m ((c.tc : Thread Cert.FfnFwdRefIdeal.nD Cert.FfnFwdRefIdeal.τ).loc Cert.FfnFwdRefIdeal.main_arg6))
      ∧ r.2.sem = fun _ => 0)

def quiescent_FfnFwdRefIdeal_pre_ffn_finite [hFfnFwdRefIdeal : Cert.FfnFwdRefIdeal.Facts] [hPre_ffn_finite : Cert.Pre_ffn_finite.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal_ffn_finite m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4)
      ∧ r.2.mem ((c.tc : Thread Cert.FfnFwdRefIdeal.nD Cert.FfnFwdRefIdeal.τ).loc Cert.FfnFwdRefIdeal.main_arg5) = m ((c.tc : Thread Cert.FfnFwdRefIdeal.nD Cert.FfnFwdRefIdeal.τ).loc Cert.FfnFwdRefIdeal.main_arg5)
      ∧ r.2.mem ((c.tc : Thread Cert.FfnFwdRefIdeal.nD Cert.FfnFwdRefIdeal.τ).loc Cert.FfnFwdRefIdeal.main_arg6) = m ((c.tc : Thread Cert.FfnFwdRefIdeal.nD Cert.FfnFwdRefIdeal.τ).loc Cert.FfnFwdRefIdeal.main_arg6))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ r.2.sem = fun _ => 0)

def quiescent_FfnBwdIdeal_pre_ffb_finite [hFfnBwdIdeal : Cert.FfnBwdIdeal.Facts] [hPre_ffb_finite : Cert.Pre_ffb_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_ffb_finite m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ r.2.sem = fun _ => 0)

def quiescent_FfnBwdRefIdeal [hFfnBwdRefIdeal : Cert.FfnBwdRefIdeal.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4))
      ∧ r.2.sem = fun _ => 0)

def quiescent_FfnBwdRefIdeal_pre_ffb_finite [hFfnBwdRefIdeal : Cert.FfnBwdRefIdeal.Facts] [hPre_ffb_finite : Cert.Pre_ffb_finite.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal_ffb_finite m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4))
      ∧ r.2.sem = fun _ => 0)

def quiescent_BwdOut [hBwdOut : Cert.BwdOut.Facts] : Prop :=
  ∀ (m : (ℓ : Loc Cert.BwdOut.nD Cert.BwdOut.τ Cert.BwdOut.sig) → Buf (Elt Bits) ℓ) (g : Dev Cert.BwdOut.nD → PrngReg), Pre_BwdOut m →
    θ_run (Cert.BwdOut.defs (F := Bits)) (onTc (τ := Cert.BwdOut.τ) (Cert.BwdOut.main (F := Bits))) ⟨m, fun _ => 0, g⟩ (fun r => (∀ c : Dev Cert.BwdOut.nD,
      r.2.mem ((c.tc : Thread Cert.BwdOut.nD Cert.BwdOut.τ).loc Cert.BwdOut.main_arg0) = m ((c.tc : Thread Cert.BwdOut.nD Cert.BwdOut.τ).loc Cert.BwdOut.main_arg0)
      ∧ r.2.mem ((c.tc : Thread Cert.BwdOut.nD Cert.BwdOut.τ).loc Cert.BwdOut.main_arg1) = m ((c.tc : Thread Cert.BwdOut.nD Cert.BwdOut.τ).loc Cert.BwdOut.main_arg1)
      ∧ r.2.mem ((c.tc : Thread Cert.BwdOut.nD Cert.BwdOut.τ).loc Cert.BwdOut.main_arg2) = m ((c.tc : Thread Cert.BwdOut.nD Cert.BwdOut.τ).loc Cert.BwdOut.main_arg2)
      ∧ r.2.mem ((c.tc : Thread Cert.BwdOut.nD Cert.BwdOut.τ).loc Cert.BwdOut.main_arg3) = m ((c.tc : Thread Cert.BwdOut.nD Cert.BwdOut.τ).loc Cert.BwdOut.main_arg3)
      ∧ r.2.mem ((c.tc : Thread Cert.BwdOut.nD Cert.BwdOut.τ).loc Cert.BwdOut.main_arg4) = m ((c.tc : Thread Cert.BwdOut.nD Cert.BwdOut.τ).loc Cert.BwdOut.main_arg4)
      ∧ r.2.mem ((c.tc : Thread Cert.BwdOut.nD Cert.BwdOut.τ).loc Cert.BwdOut.main_arg5) = m ((c.tc : Thread Cert.BwdOut.nD Cert.BwdOut.τ).loc Cert.BwdOut.main_arg5)
      ∧ r.2.mem ((c.tc : Thread Cert.BwdOut.nD Cert.BwdOut.τ).loc Cert.BwdOut.main_arg6) = m ((c.tc : Thread Cert.BwdOut.nD Cert.BwdOut.τ).loc Cert.BwdOut.main_arg6)
      ∧ r.2.mem ((c.tc : Thread Cert.BwdOut.nD Cert.BwdOut.τ).loc Cert.BwdOut.main_arg7) = m ((c.tc : Thread Cert.BwdOut.nD Cert.BwdOut.τ).loc Cert.BwdOut.main_arg7)
      ∧ r.2.mem ((c.tc : Thread Cert.BwdOut.nD Cert.BwdOut.τ).loc Cert.BwdOut.main_arg8) = m ((c.tc : Thread Cert.BwdOut.nD Cert.BwdOut.τ).loc Cert.BwdOut.main_arg8))
      ∧ r.2.sem = fun _ => 0)

def quiescent_BwdOutIdeal [hBwdOutIdeal : Cert.BwdOutIdeal.Facts] : Prop :=
  ∀ (m : (ℓ : Loc Cert.BwdOutIdeal.nD Cert.BwdOutIdeal.τ Cert.BwdOutIdeal.sig) → Buf (Elt Ideal) ℓ) (g : Dev Cert.BwdOutIdeal.nD → PrngReg), Pre_BwdOutIdeal m →
    θ_run (Cert.BwdOutIdeal.defs (F := Ideal)) (onTc (τ := Cert.BwdOutIdeal.τ) (Cert.BwdOutIdeal.main (F := Ideal))) ⟨m, fun _ => 0, g⟩ (fun r => (∀ c : Dev Cert.BwdOutIdeal.nD,
      r.2.mem ((c.tc : Thread Cert.BwdOutIdeal.nD Cert.BwdOutIdeal.τ).loc Cert.BwdOutIdeal.main_arg0) = m ((c.tc : Thread Cert.BwdOutIdeal.nD Cert.BwdOutIdeal.τ).loc Cert.BwdOutIdeal.main_arg0)
      ∧ r.2.mem ((c.tc : Thread Cert.BwdOutIdeal.nD Cert.BwdOutIdeal.τ).loc Cert.BwdOutIdeal.main_arg1) = m ((c.tc : Thread Cert.BwdOutIdeal.nD Cert.BwdOutIdeal.τ).loc Cert.BwdOutIdeal.main_arg1)
      ∧ r.2.mem ((c.tc : Thread Cert.BwdOutIdeal.nD Cert.BwdOutIdeal.τ).loc Cert.BwdOutIdeal.main_arg2) = m ((c.tc : Thread Cert.BwdOutIdeal.nD Cert.BwdOutIdeal.τ).loc Cert.BwdOutIdeal.main_arg2)
      ∧ r.2.mem ((c.tc : Thread Cert.BwdOutIdeal.nD Cert.BwdOutIdeal.τ).loc Cert.BwdOutIdeal.main_arg3) = m ((c.tc : Thread Cert.BwdOutIdeal.nD Cert.BwdOutIdeal.τ).loc Cert.BwdOutIdeal.main_arg3)
      ∧ r.2.mem ((c.tc : Thread Cert.BwdOutIdeal.nD Cert.BwdOutIdeal.τ).loc Cert.BwdOutIdeal.main_arg4) = m ((c.tc : Thread Cert.BwdOutIdeal.nD Cert.BwdOutIdeal.τ).loc Cert.BwdOutIdeal.main_arg4)
      ∧ r.2.mem ((c.tc : Thread Cert.BwdOutIdeal.nD Cert.BwdOutIdeal.τ).loc Cert.BwdOutIdeal.main_arg5) = m ((c.tc : Thread Cert.BwdOutIdeal.nD Cert.BwdOutIdeal.τ).loc Cert.BwdOutIdeal.main_arg5)
      ∧ r.2.mem ((c.tc : Thread Cert.BwdOutIdeal.nD Cert.BwdOutIdeal.τ).loc Cert.BwdOutIdeal.main_arg6) = m ((c.tc : Thread Cert.BwdOutIdeal.nD Cert.BwdOutIdeal.τ).loc Cert.BwdOutIdeal.main_arg6)
      ∧ r.2.mem ((c.tc : Thread Cert.BwdOutIdeal.nD Cert.BwdOutIdeal.τ).loc Cert.BwdOutIdeal.main_arg7) = m ((c.tc : Thread Cert.BwdOutIdeal.nD Cert.BwdOutIdeal.τ).loc Cert.BwdOutIdeal.main_arg7)
      ∧ r.2.mem ((c.tc : Thread Cert.BwdOutIdeal.nD Cert.BwdOutIdeal.τ).loc Cert.BwdOutIdeal.main_arg8) = m ((c.tc : Thread Cert.BwdOutIdeal.nD Cert.BwdOutIdeal.τ).loc Cert.BwdOutIdeal.main_arg8))
      ∧ r.2.sem = fun _ => 0)

def quiescent_BwdOutIdeal_pre_out_finite [hBwdOutIdeal : Cert.BwdOutIdeal.Facts] [hPre_out_finite : Cert.Pre_out_finite.Facts] : Prop :=
  ∀ (m : (ℓ : Loc Cert.BwdOutIdeal.nD Cert.BwdOutIdeal.τ Cert.BwdOutIdeal.sig) → Buf (Elt Ideal) ℓ) (g : Dev Cert.BwdOutIdeal.nD → PrngReg), Pre_BwdOutIdeal_out_finite m →
    θ_run (Cert.BwdOutIdeal.defs (F := Ideal)) (onTc (τ := Cert.BwdOutIdeal.τ) (Cert.BwdOutIdeal.main (F := Ideal))) ⟨m, fun _ => 0, g⟩ (fun r => (∀ c : Dev Cert.BwdOutIdeal.nD,
      r.2.mem ((c.tc : Thread Cert.BwdOutIdeal.nD Cert.BwdOutIdeal.τ).loc Cert.BwdOutIdeal.main_arg0) = m ((c.tc : Thread Cert.BwdOutIdeal.nD Cert.BwdOutIdeal.τ).loc Cert.BwdOutIdeal.main_arg0)
      ∧ r.2.mem ((c.tc : Thread Cert.BwdOutIdeal.nD Cert.BwdOutIdeal.τ).loc Cert.BwdOutIdeal.main_arg1) = m ((c.tc : Thread Cert.BwdOutIdeal.nD Cert.BwdOutIdeal.τ).loc Cert.BwdOutIdeal.main_arg1)
      ∧ r.2.mem ((c.tc : Thread Cert.BwdOutIdeal.nD Cert.BwdOutIdeal.τ).loc Cert.BwdOutIdeal.main_arg2) = m ((c.tc : Thread Cert.BwdOutIdeal.nD Cert.BwdOutIdeal.τ).loc Cert.BwdOutIdeal.main_arg2)
      ∧ r.2.mem ((c.tc : Thread Cert.BwdOutIdeal.nD Cert.BwdOutIdeal.τ).loc Cert.BwdOutIdeal.main_arg3) = m ((c.tc : Thread Cert.BwdOutIdeal.nD Cert.BwdOutIdeal.τ).loc Cert.BwdOutIdeal.main_arg3)
      ∧ r.2.mem ((c.tc : Thread Cert.BwdOutIdeal.nD Cert.BwdOutIdeal.τ).loc Cert.BwdOutIdeal.main_arg4) = m ((c.tc : Thread Cert.BwdOutIdeal.nD Cert.BwdOutIdeal.τ).loc Cert.BwdOutIdeal.main_arg4)
      ∧ r.2.mem ((c.tc : Thread Cert.BwdOutIdeal.nD Cert.BwdOutIdeal.τ).loc Cert.BwdOutIdeal.main_arg5) = m ((c.tc : Thread Cert.BwdOutIdeal.nD Cert.BwdOutIdeal.τ).loc Cert.BwdOutIdeal.main_arg5)
      ∧ r.2.mem ((c.tc : Thread Cert.BwdOutIdeal.nD Cert.BwdOutIdeal.τ).loc Cert.BwdOutIdeal.main_arg6) = m ((c.tc : Thread Cert.BwdOutIdeal.nD Cert.BwdOutIdeal.τ).loc Cert.BwdOutIdeal.main_arg6)
      ∧ r.2.mem ((c.tc : Thread Cert.BwdOutIdeal.nD Cert.BwdOutIdeal.τ).loc Cert.BwdOutIdeal.main_arg7) = m ((c.tc : Thread Cert.BwdOutIdeal.nD Cert.BwdOutIdeal.τ).loc Cert.BwdOutIdeal.main_arg7)
      ∧ r.2.mem ((c.tc : Thread Cert.BwdOutIdeal.nD Cert.BwdOutIdeal.τ).loc Cert.BwdOutIdeal.main_arg8) = m ((c.tc : Thread Cert.BwdOutIdeal.nD Cert.BwdOutIdeal.τ).loc Cert.BwdOutIdeal.main_arg8))
      ∧ r.2.sem = fun _ => 0)

def quiescent_BwdOutRefIdeal [hBwdOutRefIdeal : Cert.BwdOutRefIdeal.Facts] : Prop :=
  ∀ (m : (ℓ : Loc Cert.BwdOutRefIdeal.nD Cert.BwdOutRefIdeal.τ Cert.BwdOutRefIdeal.sig) → Buf (Elt Ideal) ℓ) (g : Dev Cert.BwdOutRefIdeal.nD → PrngReg), Pre_BwdOutRefIdeal m →
    θ_run (Cert.BwdOutRefIdeal.defs (F := Ideal)) (onTc (τ := Cert.BwdOutRefIdeal.τ) (Cert.BwdOutRefIdeal.main (F := Ideal))) ⟨m, fun _ => 0, g⟩ (fun r => (∀ c : Dev Cert.BwdOutRefIdeal.nD,
      r.2.mem ((c.tc : Thread Cert.BwdOutRefIdeal.nD Cert.BwdOutRefIdeal.τ).loc Cert.BwdOutRefIdeal.main_arg0) = m ((c.tc : Thread Cert.BwdOutRefIdeal.nD Cert.BwdOutRefIdeal.τ).loc Cert.BwdOutRefIdeal.main_arg0)
      ∧ r.2.mem ((c.tc : Thread Cert.BwdOutRefIdeal.nD Cert.BwdOutRefIdeal.τ).loc Cert.BwdOutRefIdeal.main_arg1) = m ((c.tc : Thread Cert.BwdOutRefIdeal.nD Cert.BwdOutRefIdeal.τ).loc Cert.BwdOutRefIdeal.main_arg1)
      ∧ r.2.mem ((c.tc : Thread Cert.BwdOutRefIdeal.nD Cert.BwdOutRefIdeal.τ).loc Cert.BwdOutRefIdeal.main_arg2) = m ((c.tc : Thread Cert.BwdOutRefIdeal.nD Cert.BwdOutRefIdeal.τ).loc Cert.BwdOutRefIdeal.main_arg2)
      ∧ r.2.mem ((c.tc : Thread Cert.BwdOutRefIdeal.nD Cert.BwdOutRefIdeal.τ).loc Cert.BwdOutRefIdeal.main_arg3) = m ((c.tc : Thread Cert.BwdOutRefIdeal.nD Cert.BwdOutRefIdeal.τ).loc Cert.BwdOutRefIdeal.main_arg3)
      ∧ r.2.mem ((c.tc : Thread Cert.BwdOutRefIdeal.nD Cert.BwdOutRefIdeal.τ).loc Cert.BwdOutRefIdeal.main_arg4) = m ((c.tc : Thread Cert.BwdOutRefIdeal.nD Cert.BwdOutRefIdeal.τ).loc Cert.BwdOutRefIdeal.main_arg4)
      ∧ r.2.mem ((c.tc : Thread Cert.BwdOutRefIdeal.nD Cert.BwdOutRefIdeal.τ).loc Cert.BwdOutRefIdeal.main_arg5) = m ((c.tc : Thread Cert.BwdOutRefIdeal.nD Cert.BwdOutRefIdeal.τ).loc Cert.BwdOutRefIdeal.main_arg5)
      ∧ r.2.mem ((c.tc : Thread Cert.BwdOutRefIdeal.nD Cert.BwdOutRefIdeal.τ).loc Cert.BwdOutRefIdeal.main_arg6) = m ((c.tc : Thread Cert.BwdOutRefIdeal.nD Cert.BwdOutRefIdeal.τ).loc Cert.BwdOutRefIdeal.main_arg6)
      ∧ r.2.mem ((c.tc : Thread Cert.BwdOutRefIdeal.nD Cert.BwdOutRefIdeal.τ).loc Cert.BwdOutRefIdeal.main_arg7) = m ((c.tc : Thread Cert.BwdOutRefIdeal.nD Cert.BwdOutRefIdeal.τ).loc Cert.BwdOutRefIdeal.main_arg7)
      ∧ r.2.mem ((c.tc : Thread Cert.BwdOutRefIdeal.nD Cert.BwdOutRefIdeal.τ).loc Cert.BwdOutRefIdeal.main_arg8) = m ((c.tc : Thread Cert.BwdOutRefIdeal.nD Cert.BwdOutRefIdeal.τ).loc Cert.BwdOutRefIdeal.main_arg8))
      ∧ r.2.sem = fun _ => 0)

def quiescent_BwdOutRefIdeal_pre_out_finite [hBwdOutRefIdeal : Cert.BwdOutRefIdeal.Facts] [hPre_out_finite : Cert.Pre_out_finite.Facts] : Prop :=
  ∀ (m : (ℓ : Loc Cert.BwdOutRefIdeal.nD Cert.BwdOutRefIdeal.τ Cert.BwdOutRefIdeal.sig) → Buf (Elt Ideal) ℓ) (g : Dev Cert.BwdOutRefIdeal.nD → PrngReg), Pre_BwdOutRefIdeal_out_finite m →
    θ_run (Cert.BwdOutRefIdeal.defs (F := Ideal)) (onTc (τ := Cert.BwdOutRefIdeal.τ) (Cert.BwdOutRefIdeal.main (F := Ideal))) ⟨m, fun _ => 0, g⟩ (fun r => (∀ c : Dev Cert.BwdOutRefIdeal.nD,
      r.2.mem ((c.tc : Thread Cert.BwdOutRefIdeal.nD Cert.BwdOutRefIdeal.τ).loc Cert.BwdOutRefIdeal.main_arg0) = m ((c.tc : Thread Cert.BwdOutRefIdeal.nD Cert.BwdOutRefIdeal.τ).loc Cert.BwdOutRefIdeal.main_arg0)
      ∧ r.2.mem ((c.tc : Thread Cert.BwdOutRefIdeal.nD Cert.BwdOutRefIdeal.τ).loc Cert.BwdOutRefIdeal.main_arg1) = m ((c.tc : Thread Cert.BwdOutRefIdeal.nD Cert.BwdOutRefIdeal.τ).loc Cert.BwdOutRefIdeal.main_arg1)
      ∧ r.2.mem ((c.tc : Thread Cert.BwdOutRefIdeal.nD Cert.BwdOutRefIdeal.τ).loc Cert.BwdOutRefIdeal.main_arg2) = m ((c.tc : Thread Cert.BwdOutRefIdeal.nD Cert.BwdOutRefIdeal.τ).loc Cert.BwdOutRefIdeal.main_arg2)
      ∧ r.2.mem ((c.tc : Thread Cert.BwdOutRefIdeal.nD Cert.BwdOutRefIdeal.τ).loc Cert.BwdOutRefIdeal.main_arg3) = m ((c.tc : Thread Cert.BwdOutRefIdeal.nD Cert.BwdOutRefIdeal.τ).loc Cert.BwdOutRefIdeal.main_arg3)
      ∧ r.2.mem ((c.tc : Thread Cert.BwdOutRefIdeal.nD Cert.BwdOutRefIdeal.τ).loc Cert.BwdOutRefIdeal.main_arg4) = m ((c.tc : Thread Cert.BwdOutRefIdeal.nD Cert.BwdOutRefIdeal.τ).loc Cert.BwdOutRefIdeal.main_arg4)
      ∧ r.2.mem ((c.tc : Thread Cert.BwdOutRefIdeal.nD Cert.BwdOutRefIdeal.τ).loc Cert.BwdOutRefIdeal.main_arg5) = m ((c.tc : Thread Cert.BwdOutRefIdeal.nD Cert.BwdOutRefIdeal.τ).loc Cert.BwdOutRefIdeal.main_arg5)
      ∧ r.2.mem ((c.tc : Thread Cert.BwdOutRefIdeal.nD Cert.BwdOutRefIdeal.τ).loc Cert.BwdOutRefIdeal.main_arg6) = m ((c.tc : Thread Cert.BwdOutRefIdeal.nD Cert.BwdOutRefIdeal.τ).loc Cert.BwdOutRefIdeal.main_arg6)
      ∧ r.2.mem ((c.tc : Thread Cert.BwdOutRefIdeal.nD Cert.BwdOutRefIdeal.τ).loc Cert.BwdOutRefIdeal.main_arg7) = m ((c.tc : Thread Cert.BwdOutRefIdeal.nD Cert.BwdOutRefIdeal.τ).loc Cert.BwdOutRefIdeal.main_arg7)
      ∧ r.2.mem ((c.tc : Thread Cert.BwdOutRefIdeal.nD Cert.BwdOutRefIdeal.τ).loc Cert.BwdOutRefIdeal.main_arg8) = m ((c.tc : Thread Cert.BwdOutRefIdeal.nD Cert.BwdOutRefIdeal.τ).loc Cert.BwdOutRefIdeal.main_arg8))
      ∧ r.2.sem = fun _ => 0)

def quiescent_FwdIn [hFwdIn : Cert.FwdIn.Facts] : Prop :=
  ∀ (m : (ℓ : Loc Cert.FwdIn.nD Cert.FwdIn.τ Cert.FwdIn.sig) → Buf (Elt Bits) ℓ) (g : Dev Cert.FwdIn.nD → PrngReg), Pre_FwdIn m →
    θ_run (Cert.FwdIn.defs (F := Bits)) (onTc (τ := Cert.FwdIn.τ) (Cert.FwdIn.main (F := Bits))) ⟨m, fun _ => 0, g⟩ (fun r => (∀ c : Dev Cert.FwdIn.nD,
      r.2.mem ((c.tc : Thread Cert.FwdIn.nD Cert.FwdIn.τ).loc Cert.FwdIn.main_arg0) = m ((c.tc : Thread Cert.FwdIn.nD Cert.FwdIn.τ).loc Cert.FwdIn.main_arg0)
      ∧ r.2.mem ((c.tc : Thread Cert.FwdIn.nD Cert.FwdIn.τ).loc Cert.FwdIn.main_arg1) = m ((c.tc : Thread Cert.FwdIn.nD Cert.FwdIn.τ).loc Cert.FwdIn.main_arg1)
      ∧ r.2.mem ((c.tc : Thread Cert.FwdIn.nD Cert.FwdIn.τ).loc Cert.FwdIn.main_arg2) = m ((c.tc : Thread Cert.FwdIn.nD Cert.FwdIn.τ).loc Cert.FwdIn.main_arg2))
      ∧ r.2.sem = fun _ => 0)

def quiescent_FwdInIdeal [hFwdInIdeal : Cert.FwdInIdeal.Facts] : Prop :=
  ∀ (m : (ℓ : Loc Cert.FwdInIdeal.nD Cert.FwdInIdeal.τ Cert.FwdInIdeal.sig) → Buf (Elt Ideal) ℓ) (g : Dev Cert.FwdInIdeal.nD → PrngReg), Pre_FwdInIdeal m →
    θ_run (Cert.FwdInIdeal.defs (F := Ideal)) (onTc (τ := Cert.FwdInIdeal.τ) (Cert.FwdInIdeal.main (F := Ideal))) ⟨m, fun _ => 0, g⟩ (fun r => (∀ c : Dev Cert.FwdInIdeal.nD,
      r.2.mem ((c.tc : Thread Cert.FwdInIdeal.nD Cert.FwdInIdeal.τ).loc Cert.FwdInIdeal.main_arg0) = m ((c.tc : Thread Cert.FwdInIdeal.nD Cert.FwdInIdeal.τ).loc Cert.FwdInIdeal.main_arg0)
      ∧ r.2.mem ((c.tc : Thread Cert.FwdInIdeal.nD Cert.FwdInIdeal.τ).loc Cert.FwdInIdeal.main_arg1) = m ((c.tc : Thread Cert.FwdInIdeal.nD Cert.FwdInIdeal.τ).loc Cert.FwdInIdeal.main_arg1)
      ∧ r.2.mem ((c.tc : Thread Cert.FwdInIdeal.nD Cert.FwdInIdeal.τ).loc Cert.FwdInIdeal.main_arg2) = m ((c.tc : Thread Cert.FwdInIdeal.nD Cert.FwdInIdeal.τ).loc Cert.FwdInIdeal.main_arg2))
      ∧ r.2.sem = fun _ => 0)

def quiescent_FwdInRefIdeal [hFwdInRefIdeal : Cert.FwdInRefIdeal.Facts] : Prop :=
  ∀ (m : (ℓ : Loc Cert.FwdInRefIdeal.nD Cert.FwdInRefIdeal.τ Cert.FwdInRefIdeal.sig) → Buf (Elt Ideal) ℓ) (g : Dev Cert.FwdInRefIdeal.nD → PrngReg), Pre_FwdInRefIdeal m →
    θ_run (Cert.FwdInRefIdeal.defs (F := Ideal)) (onTc (τ := Cert.FwdInRefIdeal.τ) (Cert.FwdInRefIdeal.main (F := Ideal))) ⟨m, fun _ => 0, g⟩ (fun r => (∀ c : Dev Cert.FwdInRefIdeal.nD,
      r.2.mem ((c.tc : Thread Cert.FwdInRefIdeal.nD Cert.FwdInRefIdeal.τ).loc Cert.FwdInRefIdeal.main_arg0) = m ((c.tc : Thread Cert.FwdInRefIdeal.nD Cert.FwdInRefIdeal.τ).loc Cert.FwdInRefIdeal.main_arg0)
      ∧ r.2.mem ((c.tc : Thread Cert.FwdInRefIdeal.nD Cert.FwdInRefIdeal.τ).loc Cert.FwdInRefIdeal.main_arg1) = m ((c.tc : Thread Cert.FwdInRefIdeal.nD Cert.FwdInRefIdeal.τ).loc Cert.FwdInRefIdeal.main_arg1)
      ∧ r.2.mem ((c.tc : Thread Cert.FwdInRefIdeal.nD Cert.FwdInRefIdeal.τ).loc Cert.FwdInRefIdeal.main_arg2) = m ((c.tc : Thread Cert.FwdInRefIdeal.nD Cert.FwdInRefIdeal.τ).loc Cert.FwdInRefIdeal.main_arg2))
      ∧ r.2.sem = fun _ => 0)

def quiescent_FwdOut [hFwdOut : Cert.FwdOut.Facts] : Prop :=
  ∀ (m : (ℓ : Loc Cert.FwdOut.nD Cert.FwdOut.τ Cert.FwdOut.sig) → Buf (Elt Bits) ℓ) (g : Dev Cert.FwdOut.nD → PrngReg), Pre_FwdOut m →
    θ_run (Cert.FwdOut.defs (F := Bits)) (onTc (τ := Cert.FwdOut.τ) (Cert.FwdOut.main (F := Bits))) ⟨m, fun _ => 0, g⟩ (fun r => (∀ c : Dev Cert.FwdOut.nD,
      r.2.mem ((c.tc : Thread Cert.FwdOut.nD Cert.FwdOut.τ).loc Cert.FwdOut.main_arg0) = m ((c.tc : Thread Cert.FwdOut.nD Cert.FwdOut.τ).loc Cert.FwdOut.main_arg0)
      ∧ r.2.mem ((c.tc : Thread Cert.FwdOut.nD Cert.FwdOut.τ).loc Cert.FwdOut.main_arg1) = m ((c.tc : Thread Cert.FwdOut.nD Cert.FwdOut.τ).loc Cert.FwdOut.main_arg1)
      ∧ r.2.mem ((c.tc : Thread Cert.FwdOut.nD Cert.FwdOut.τ).loc Cert.FwdOut.main_arg2) = m ((c.tc : Thread Cert.FwdOut.nD Cert.FwdOut.τ).loc Cert.FwdOut.main_arg2)
      ∧ r.2.mem ((c.tc : Thread Cert.FwdOut.nD Cert.FwdOut.τ).loc Cert.FwdOut.main_arg3) = m ((c.tc : Thread Cert.FwdOut.nD Cert.FwdOut.τ).loc Cert.FwdOut.main_arg3)
      ∧ r.2.mem ((c.tc : Thread Cert.FwdOut.nD Cert.FwdOut.τ).loc Cert.FwdOut.main_arg4) = m ((c.tc : Thread Cert.FwdOut.nD Cert.FwdOut.τ).loc Cert.FwdOut.main_arg4)
      ∧ r.2.mem ((c.tc : Thread Cert.FwdOut.nD Cert.FwdOut.τ).loc Cert.FwdOut.main_arg5) = m ((c.tc : Thread Cert.FwdOut.nD Cert.FwdOut.τ).loc Cert.FwdOut.main_arg5)
      ∧ r.2.mem ((c.tc : Thread Cert.FwdOut.nD Cert.FwdOut.τ).loc Cert.FwdOut.main_arg6) = m ((c.tc : Thread Cert.FwdOut.nD Cert.FwdOut.τ).loc Cert.FwdOut.main_arg6))
      ∧ r.2.sem = fun _ => 0)

def quiescent_FwdOutIdeal [hFwdOutIdeal : Cert.FwdOutIdeal.Facts] : Prop :=
  ∀ (m : (ℓ : Loc Cert.FwdOutIdeal.nD Cert.FwdOutIdeal.τ Cert.FwdOutIdeal.sig) → Buf (Elt Ideal) ℓ) (g : Dev Cert.FwdOutIdeal.nD → PrngReg), Pre_FwdOutIdeal m →
    θ_run (Cert.FwdOutIdeal.defs (F := Ideal)) (onTc (τ := Cert.FwdOutIdeal.τ) (Cert.FwdOutIdeal.main (F := Ideal))) ⟨m, fun _ => 0, g⟩ (fun r => (∀ c : Dev Cert.FwdOutIdeal.nD,
      r.2.mem ((c.tc : Thread Cert.FwdOutIdeal.nD Cert.FwdOutIdeal.τ).loc Cert.FwdOutIdeal.main_arg0) = m ((c.tc : Thread Cert.FwdOutIdeal.nD Cert.FwdOutIdeal.τ).loc Cert.FwdOutIdeal.main_arg0)
      ∧ r.2.mem ((c.tc : Thread Cert.FwdOutIdeal.nD Cert.FwdOutIdeal.τ).loc Cert.FwdOutIdeal.main_arg1) = m ((c.tc : Thread Cert.FwdOutIdeal.nD Cert.FwdOutIdeal.τ).loc Cert.FwdOutIdeal.main_arg1)
      ∧ r.2.mem ((c.tc : Thread Cert.FwdOutIdeal.nD Cert.FwdOutIdeal.τ).loc Cert.FwdOutIdeal.main_arg2) = m ((c.tc : Thread Cert.FwdOutIdeal.nD Cert.FwdOutIdeal.τ).loc Cert.FwdOutIdeal.main_arg2)
      ∧ r.2.mem ((c.tc : Thread Cert.FwdOutIdeal.nD Cert.FwdOutIdeal.τ).loc Cert.FwdOutIdeal.main_arg3) = m ((c.tc : Thread Cert.FwdOutIdeal.nD Cert.FwdOutIdeal.τ).loc Cert.FwdOutIdeal.main_arg3)
      ∧ r.2.mem ((c.tc : Thread Cert.FwdOutIdeal.nD Cert.FwdOutIdeal.τ).loc Cert.FwdOutIdeal.main_arg4) = m ((c.tc : Thread Cert.FwdOutIdeal.nD Cert.FwdOutIdeal.τ).loc Cert.FwdOutIdeal.main_arg4)
      ∧ r.2.mem ((c.tc : Thread Cert.FwdOutIdeal.nD Cert.FwdOutIdeal.τ).loc Cert.FwdOutIdeal.main_arg5) = m ((c.tc : Thread Cert.FwdOutIdeal.nD Cert.FwdOutIdeal.τ).loc Cert.FwdOutIdeal.main_arg5)
      ∧ r.2.mem ((c.tc : Thread Cert.FwdOutIdeal.nD Cert.FwdOutIdeal.τ).loc Cert.FwdOutIdeal.main_arg6) = m ((c.tc : Thread Cert.FwdOutIdeal.nD Cert.FwdOutIdeal.τ).loc Cert.FwdOutIdeal.main_arg6))
      ∧ r.2.sem = fun _ => 0)

def quiescent_FwdOutRefIdeal [hFwdOutRefIdeal : Cert.FwdOutRefIdeal.Facts] : Prop :=
  ∀ (m : (ℓ : Loc Cert.FwdOutRefIdeal.nD Cert.FwdOutRefIdeal.τ Cert.FwdOutRefIdeal.sig) → Buf (Elt Ideal) ℓ) (g : Dev Cert.FwdOutRefIdeal.nD → PrngReg), Pre_FwdOutRefIdeal m →
    θ_run (Cert.FwdOutRefIdeal.defs (F := Ideal)) (onTc (τ := Cert.FwdOutRefIdeal.τ) (Cert.FwdOutRefIdeal.main (F := Ideal))) ⟨m, fun _ => 0, g⟩ (fun r => (∀ c : Dev Cert.FwdOutRefIdeal.nD,
      r.2.mem ((c.tc : Thread Cert.FwdOutRefIdeal.nD Cert.FwdOutRefIdeal.τ).loc Cert.FwdOutRefIdeal.main_arg0) = m ((c.tc : Thread Cert.FwdOutRefIdeal.nD Cert.FwdOutRefIdeal.τ).loc Cert.FwdOutRefIdeal.main_arg0)
      ∧ r.2.mem ((c.tc : Thread Cert.FwdOutRefIdeal.nD Cert.FwdOutRefIdeal.τ).loc Cert.FwdOutRefIdeal.main_arg1) = m ((c.tc : Thread Cert.FwdOutRefIdeal.nD Cert.FwdOutRefIdeal.τ).loc Cert.FwdOutRefIdeal.main_arg1)
      ∧ r.2.mem ((c.tc : Thread Cert.FwdOutRefIdeal.nD Cert.FwdOutRefIdeal.τ).loc Cert.FwdOutRefIdeal.main_arg2) = m ((c.tc : Thread Cert.FwdOutRefIdeal.nD Cert.FwdOutRefIdeal.τ).loc Cert.FwdOutRefIdeal.main_arg2)
      ∧ r.2.mem ((c.tc : Thread Cert.FwdOutRefIdeal.nD Cert.FwdOutRefIdeal.τ).loc Cert.FwdOutRefIdeal.main_arg3) = m ((c.tc : Thread Cert.FwdOutRefIdeal.nD Cert.FwdOutRefIdeal.τ).loc Cert.FwdOutRefIdeal.main_arg3)
      ∧ r.2.mem ((c.tc : Thread Cert.FwdOutRefIdeal.nD Cert.FwdOutRefIdeal.τ).loc Cert.FwdOutRefIdeal.main_arg4) = m ((c.tc : Thread Cert.FwdOutRefIdeal.nD Cert.FwdOutRefIdeal.τ).loc Cert.FwdOutRefIdeal.main_arg4)
      ∧ r.2.mem ((c.tc : Thread Cert.FwdOutRefIdeal.nD Cert.FwdOutRefIdeal.τ).loc Cert.FwdOutRefIdeal.main_arg5) = m ((c.tc : Thread Cert.FwdOutRefIdeal.nD Cert.FwdOutRefIdeal.τ).loc Cert.FwdOutRefIdeal.main_arg5)
      ∧ r.2.mem ((c.tc : Thread Cert.FwdOutRefIdeal.nD Cert.FwdOutRefIdeal.τ).loc Cert.FwdOutRefIdeal.main_arg6) = m ((c.tc : Thread Cert.FwdOutRefIdeal.nD Cert.FwdOutRefIdeal.τ).loc Cert.FwdOutRefIdeal.main_arg6))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamGain [hAdamGain : Cert.AdamGain.Facts] : Prop :=
  ∀ (m : (ℓ : Loc Cert.AdamGain.nD Cert.AdamGain.τ Cert.AdamGain.sig) → Buf (Elt Bits) ℓ) (g : Dev Cert.AdamGain.nD → PrngReg), Pre_AdamGain m →
    θ_run (Cert.AdamGain.defs (F := Bits)) (onTc (τ := Cert.AdamGain.τ) (Cert.AdamGain.main (F := Bits))) ⟨m, fun _ => 0, g⟩ (fun r => (∀ c : Dev Cert.AdamGain.nD,
      r.2.mem ((c.tc : Thread Cert.AdamGain.nD Cert.AdamGain.τ).loc Cert.AdamGain.main_arg0) = m ((c.tc : Thread Cert.AdamGain.nD Cert.AdamGain.τ).loc Cert.AdamGain.main_arg0)
      ∧ r.2.mem ((c.tc : Thread Cert.AdamGain.nD Cert.AdamGain.τ).loc Cert.AdamGain.main_arg1) = m ((c.tc : Thread Cert.AdamGain.nD Cert.AdamGain.τ).loc Cert.AdamGain.main_arg1)
      ∧ r.2.mem ((c.tc : Thread Cert.AdamGain.nD Cert.AdamGain.τ).loc Cert.AdamGain.main_arg2) = m ((c.tc : Thread Cert.AdamGain.nD Cert.AdamGain.τ).loc Cert.AdamGain.main_arg2)
      ∧ r.2.mem ((c.tc : Thread Cert.AdamGain.nD Cert.AdamGain.τ).loc Cert.AdamGain.main_arg3) = m ((c.tc : Thread Cert.AdamGain.nD Cert.AdamGain.τ).loc Cert.AdamGain.main_arg3))
      ∧ r.2.sem = fun _ => 0)

def quiescent_AdamGainIdeal [hAdamGainIdeal : Cert.AdamGainIdeal.Facts] : Prop :=
  ∀ (m : (ℓ : Loc Cert.AdamGainIdeal.nD Cert.AdamGainIdeal.τ Cert.AdamGainIdeal.sig) → Buf (Elt Ideal) ℓ) (g : Dev Cert.AdamGainIdeal.nD → PrngReg), Pre_AdamGainIdeal m →
    θ_run (Cert.AdamGainIdeal.defs (F := Ideal)) (onTc (τ := Cert.AdamGainIdeal.τ) (Cert.AdamGainIdeal.main (F := Ideal))) ⟨m, fun _ => 0, g⟩ (fun r => (∀ c : Dev Cert.AdamGainIdeal.nD,
      r.2.mem ((c.tc : Thread Cert.AdamGainIdeal.nD Cert.AdamGainIdeal.τ).loc Cert.AdamGainIdeal.main_arg0) = m ((c.tc : Thread Cert.AdamGainIdeal.nD Cert.AdamGainIdeal.τ).loc Cert.AdamGainIdeal.main_arg0)
      ∧ r.2.mem ((c.tc : Thread Cert.AdamGainIdeal.nD Cert.AdamGainIdeal.τ).loc Cert.AdamGainIdeal.main_arg1) = m ((c.tc : Thread Cert.AdamGainIdeal.nD Cert.AdamGainIdeal.τ).loc Cert.AdamGainIdeal.main_arg1)
      ∧ r.2.mem ((c.tc : Thread Cert.AdamGainIdeal.nD Cert.AdamGainIdeal.τ).loc Cert.AdamGainIdeal.main_arg2) = m ((c.tc : Thread Cert.AdamGainIdeal.nD Cert.AdamGainIdeal.τ).loc Cert.AdamGainIdeal.main_arg2)
      ∧ r.2.mem ((c.tc : Thread Cert.AdamGainIdeal.nD Cert.AdamGainIdeal.τ).loc Cert.AdamGainIdeal.main_arg3) = m ((c.tc : Thread Cert.AdamGainIdeal.nD Cert.AdamGainIdeal.τ).loc Cert.AdamGainIdeal.main_arg3))
      ∧ r.2.sem = fun _ => 0)

def quiescent_AdamGainRefIdeal [hAdamGainRefIdeal : Cert.AdamGainRefIdeal.Facts] : Prop :=
  ∀ (m : (ℓ : Loc Cert.AdamGainRefIdeal.nD Cert.AdamGainRefIdeal.τ Cert.AdamGainRefIdeal.sig) → Buf (Elt Ideal) ℓ) (g : Dev Cert.AdamGainRefIdeal.nD → PrngReg), Pre_AdamGainRefIdeal m →
    θ_run (Cert.AdamGainRefIdeal.defs (F := Ideal)) (onTc (τ := Cert.AdamGainRefIdeal.τ) (Cert.AdamGainRefIdeal.main (F := Ideal))) ⟨m, fun _ => 0, g⟩ (fun r => (∀ c : Dev Cert.AdamGainRefIdeal.nD,
      r.2.mem ((c.tc : Thread Cert.AdamGainRefIdeal.nD Cert.AdamGainRefIdeal.τ).loc Cert.AdamGainRefIdeal.main_arg0) = m ((c.tc : Thread Cert.AdamGainRefIdeal.nD Cert.AdamGainRefIdeal.τ).loc Cert.AdamGainRefIdeal.main_arg0)
      ∧ r.2.mem ((c.tc : Thread Cert.AdamGainRefIdeal.nD Cert.AdamGainRefIdeal.τ).loc Cert.AdamGainRefIdeal.main_arg1) = m ((c.tc : Thread Cert.AdamGainRefIdeal.nD Cert.AdamGainRefIdeal.τ).loc Cert.AdamGainRefIdeal.main_arg1)
      ∧ r.2.mem ((c.tc : Thread Cert.AdamGainRefIdeal.nD Cert.AdamGainRefIdeal.τ).loc Cert.AdamGainRefIdeal.main_arg2) = m ((c.tc : Thread Cert.AdamGainRefIdeal.nD Cert.AdamGainRefIdeal.τ).loc Cert.AdamGainRefIdeal.main_arg2)
      ∧ r.2.mem ((c.tc : Thread Cert.AdamGainRefIdeal.nD Cert.AdamGainRefIdeal.τ).loc Cert.AdamGainRefIdeal.main_arg3) = m ((c.tc : Thread Cert.AdamGainRefIdeal.nD Cert.AdamGainRefIdeal.τ).loc Cert.AdamGainRefIdeal.main_arg3))
      ∧ r.2.sem = fun _ => 0)

def quiescent_Pack [hPack : Cert.Pack.Facts] : Prop :=
  ∀ (m : (ℓ : Loc Cert.Pack.nD Cert.Pack.τ Cert.Pack.sig) → Buf (Elt Bits) ℓ) (g : Dev Cert.Pack.nD → PrngReg), Pre_Pack m →
    θ_run (Cert.Pack.defs (F := Bits)) (onTc (τ := Cert.Pack.τ) (Cert.Pack.main (F := Bits))) ⟨m, fun _ => 0, g⟩ (fun r => (∀ c : Dev Cert.Pack.nD,
      r.2.mem ((c.tc : Thread Cert.Pack.nD Cert.Pack.τ).loc Cert.Pack.main_arg0) = m ((c.tc : Thread Cert.Pack.nD Cert.Pack.τ).loc Cert.Pack.main_arg0)
      ∧ r.2.mem ((c.tc : Thread Cert.Pack.nD Cert.Pack.τ).loc Cert.Pack.main_arg1) = m ((c.tc : Thread Cert.Pack.nD Cert.Pack.τ).loc Cert.Pack.main_arg1)
      ∧ r.2.mem ((c.tc : Thread Cert.Pack.nD Cert.Pack.τ).loc Cert.Pack.main_arg2) = m ((c.tc : Thread Cert.Pack.nD Cert.Pack.τ).loc Cert.Pack.main_arg2)
      ∧ r.2.mem ((c.tc : Thread Cert.Pack.nD Cert.Pack.τ).loc Cert.Pack.main_arg3) = m ((c.tc : Thread Cert.Pack.nD Cert.Pack.τ).loc Cert.Pack.main_arg3)
      ∧ r.2.mem ((c.tc : Thread Cert.Pack.nD Cert.Pack.τ).loc Cert.Pack.main_arg4) = m ((c.tc : Thread Cert.Pack.nD Cert.Pack.τ).loc Cert.Pack.main_arg4)
      ∧ r.2.mem ((c.tc : Thread Cert.Pack.nD Cert.Pack.τ).loc Cert.Pack.main_arg5) = m ((c.tc : Thread Cert.Pack.nD Cert.Pack.τ).loc Cert.Pack.main_arg5)
      ∧ r.2.mem ((c.tc : Thread Cert.Pack.nD Cert.Pack.τ).loc Cert.Pack.main_arg6) = m ((c.tc : Thread Cert.Pack.nD Cert.Pack.τ).loc Cert.Pack.main_arg6)
      ∧ r.2.mem ((c.tc : Thread Cert.Pack.nD Cert.Pack.τ).loc Cert.Pack.main_arg7) = m ((c.tc : Thread Cert.Pack.nD Cert.Pack.τ).loc Cert.Pack.main_arg7)
      ∧ r.2.mem ((c.tc : Thread Cert.Pack.nD Cert.Pack.τ).loc Cert.Pack.main_arg8) = m ((c.tc : Thread Cert.Pack.nD Cert.Pack.τ).loc Cert.Pack.main_arg8)
      ∧ r.2.mem ((c.tc : Thread Cert.Pack.nD Cert.Pack.τ).loc Cert.Pack.main_arg9) = m ((c.tc : Thread Cert.Pack.nD Cert.Pack.τ).loc Cert.Pack.main_arg9)
      ∧ r.2.mem ((c.tc : Thread Cert.Pack.nD Cert.Pack.τ).loc Cert.Pack.main_arg10) = m ((c.tc : Thread Cert.Pack.nD Cert.Pack.τ).loc Cert.Pack.main_arg10)
      ∧ r.2.mem ((c.tc : Thread Cert.Pack.nD Cert.Pack.τ).loc Cert.Pack.main_arg11) = m ((c.tc : Thread Cert.Pack.nD Cert.Pack.τ).loc Cert.Pack.main_arg11)
      ∧ r.2.mem ((c.tc : Thread Cert.Pack.nD Cert.Pack.τ).loc Cert.Pack.main_arg12) = m ((c.tc : Thread Cert.Pack.nD Cert.Pack.τ).loc Cert.Pack.main_arg12)
      ∧ r.2.mem ((c.tc : Thread Cert.Pack.nD Cert.Pack.τ).loc Cert.Pack.main_arg13) = m ((c.tc : Thread Cert.Pack.nD Cert.Pack.τ).loc Cert.Pack.main_arg13))
      ∧ r.2.sem = fun _ => 0)

def quiescent_PackIdeal [hPackIdeal : Cert.PackIdeal.Facts] : Prop :=
  ∀ (m : (ℓ : Loc Cert.PackIdeal.nD Cert.PackIdeal.τ Cert.PackIdeal.sig) → Buf (Elt Ideal) ℓ) (g : Dev Cert.PackIdeal.nD → PrngReg), Pre_PackIdeal m →
    θ_run (Cert.PackIdeal.defs (F := Ideal)) (onTc (τ := Cert.PackIdeal.τ) (Cert.PackIdeal.main (F := Ideal))) ⟨m, fun _ => 0, g⟩ (fun r => (∀ c : Dev Cert.PackIdeal.nD,
      r.2.mem ((c.tc : Thread Cert.PackIdeal.nD Cert.PackIdeal.τ).loc Cert.PackIdeal.main_arg0) = m ((c.tc : Thread Cert.PackIdeal.nD Cert.PackIdeal.τ).loc Cert.PackIdeal.main_arg0)
      ∧ r.2.mem ((c.tc : Thread Cert.PackIdeal.nD Cert.PackIdeal.τ).loc Cert.PackIdeal.main_arg1) = m ((c.tc : Thread Cert.PackIdeal.nD Cert.PackIdeal.τ).loc Cert.PackIdeal.main_arg1)
      ∧ r.2.mem ((c.tc : Thread Cert.PackIdeal.nD Cert.PackIdeal.τ).loc Cert.PackIdeal.main_arg2) = m ((c.tc : Thread Cert.PackIdeal.nD Cert.PackIdeal.τ).loc Cert.PackIdeal.main_arg2)
      ∧ r.2.mem ((c.tc : Thread Cert.PackIdeal.nD Cert.PackIdeal.τ).loc Cert.PackIdeal.main_arg3) = m ((c.tc : Thread Cert.PackIdeal.nD Cert.PackIdeal.τ).loc Cert.PackIdeal.main_arg3)
      ∧ r.2.mem ((c.tc : Thread Cert.PackIdeal.nD Cert.PackIdeal.τ).loc Cert.PackIdeal.main_arg4) = m ((c.tc : Thread Cert.PackIdeal.nD Cert.PackIdeal.τ).loc Cert.PackIdeal.main_arg4)
      ∧ r.2.mem ((c.tc : Thread Cert.PackIdeal.nD Cert.PackIdeal.τ).loc Cert.PackIdeal.main_arg5) = m ((c.tc : Thread Cert.PackIdeal.nD Cert.PackIdeal.τ).loc Cert.PackIdeal.main_arg5)
      ∧ r.2.mem ((c.tc : Thread Cert.PackIdeal.nD Cert.PackIdeal.τ).loc Cert.PackIdeal.main_arg6) = m ((c.tc : Thread Cert.PackIdeal.nD Cert.PackIdeal.τ).loc Cert.PackIdeal.main_arg6)
      ∧ r.2.mem ((c.tc : Thread Cert.PackIdeal.nD Cert.PackIdeal.τ).loc Cert.PackIdeal.main_arg7) = m ((c.tc : Thread Cert.PackIdeal.nD Cert.PackIdeal.τ).loc Cert.PackIdeal.main_arg7)
      ∧ r.2.mem ((c.tc : Thread Cert.PackIdeal.nD Cert.PackIdeal.τ).loc Cert.PackIdeal.main_arg8) = m ((c.tc : Thread Cert.PackIdeal.nD Cert.PackIdeal.τ).loc Cert.PackIdeal.main_arg8)
      ∧ r.2.mem ((c.tc : Thread Cert.PackIdeal.nD Cert.PackIdeal.τ).loc Cert.PackIdeal.main_arg9) = m ((c.tc : Thread Cert.PackIdeal.nD Cert.PackIdeal.τ).loc Cert.PackIdeal.main_arg9)
      ∧ r.2.mem ((c.tc : Thread Cert.PackIdeal.nD Cert.PackIdeal.τ).loc Cert.PackIdeal.main_arg10) = m ((c.tc : Thread Cert.PackIdeal.nD Cert.PackIdeal.τ).loc Cert.PackIdeal.main_arg10)
      ∧ r.2.mem ((c.tc : Thread Cert.PackIdeal.nD Cert.PackIdeal.τ).loc Cert.PackIdeal.main_arg11) = m ((c.tc : Thread Cert.PackIdeal.nD Cert.PackIdeal.τ).loc Cert.PackIdeal.main_arg11)
      ∧ r.2.mem ((c.tc : Thread Cert.PackIdeal.nD Cert.PackIdeal.τ).loc Cert.PackIdeal.main_arg12) = m ((c.tc : Thread Cert.PackIdeal.nD Cert.PackIdeal.τ).loc Cert.PackIdeal.main_arg12)
      ∧ r.2.mem ((c.tc : Thread Cert.PackIdeal.nD Cert.PackIdeal.τ).loc Cert.PackIdeal.main_arg13) = m ((c.tc : Thread Cert.PackIdeal.nD Cert.PackIdeal.τ).loc Cert.PackIdeal.main_arg13))
      ∧ r.2.sem = fun _ => 0)

def quiescent_PackRefIdeal [hPackRefIdeal : Cert.PackRefIdeal.Facts] : Prop :=
  ∀ (m : (ℓ : Loc Cert.PackRefIdeal.nD Cert.PackRefIdeal.τ Cert.PackRefIdeal.sig) → Buf (Elt Ideal) ℓ) (g : Dev Cert.PackRefIdeal.nD → PrngReg), Pre_PackRefIdeal m →
    θ_run (Cert.PackRefIdeal.defs (F := Ideal)) (onTc (τ := Cert.PackRefIdeal.τ) (Cert.PackRefIdeal.main (F := Ideal))) ⟨m, fun _ => 0, g⟩ (fun r => (∀ c : Dev Cert.PackRefIdeal.nD,
      r.2.mem ((c.tc : Thread Cert.PackRefIdeal.nD Cert.PackRefIdeal.τ).loc Cert.PackRefIdeal.main_arg0) = m ((c.tc : Thread Cert.PackRefIdeal.nD Cert.PackRefIdeal.τ).loc Cert.PackRefIdeal.main_arg0)
      ∧ r.2.mem ((c.tc : Thread Cert.PackRefIdeal.nD Cert.PackRefIdeal.τ).loc Cert.PackRefIdeal.main_arg1) = m ((c.tc : Thread Cert.PackRefIdeal.nD Cert.PackRefIdeal.τ).loc Cert.PackRefIdeal.main_arg1)
      ∧ r.2.mem ((c.tc : Thread Cert.PackRefIdeal.nD Cert.PackRefIdeal.τ).loc Cert.PackRefIdeal.main_arg2) = m ((c.tc : Thread Cert.PackRefIdeal.nD Cert.PackRefIdeal.τ).loc Cert.PackRefIdeal.main_arg2)
      ∧ r.2.mem ((c.tc : Thread Cert.PackRefIdeal.nD Cert.PackRefIdeal.τ).loc Cert.PackRefIdeal.main_arg3) = m ((c.tc : Thread Cert.PackRefIdeal.nD Cert.PackRefIdeal.τ).loc Cert.PackRefIdeal.main_arg3)
      ∧ r.2.mem ((c.tc : Thread Cert.PackRefIdeal.nD Cert.PackRefIdeal.τ).loc Cert.PackRefIdeal.main_arg4) = m ((c.tc : Thread Cert.PackRefIdeal.nD Cert.PackRefIdeal.τ).loc Cert.PackRefIdeal.main_arg4)
      ∧ r.2.mem ((c.tc : Thread Cert.PackRefIdeal.nD Cert.PackRefIdeal.τ).loc Cert.PackRefIdeal.main_arg5) = m ((c.tc : Thread Cert.PackRefIdeal.nD Cert.PackRefIdeal.τ).loc Cert.PackRefIdeal.main_arg5)
      ∧ r.2.mem ((c.tc : Thread Cert.PackRefIdeal.nD Cert.PackRefIdeal.τ).loc Cert.PackRefIdeal.main_arg6) = m ((c.tc : Thread Cert.PackRefIdeal.nD Cert.PackRefIdeal.τ).loc Cert.PackRefIdeal.main_arg6)
      ∧ r.2.mem ((c.tc : Thread Cert.PackRefIdeal.nD Cert.PackRefIdeal.τ).loc Cert.PackRefIdeal.main_arg7) = m ((c.tc : Thread Cert.PackRefIdeal.nD Cert.PackRefIdeal.τ).loc Cert.PackRefIdeal.main_arg7)
      ∧ r.2.mem ((c.tc : Thread Cert.PackRefIdeal.nD Cert.PackRefIdeal.τ).loc Cert.PackRefIdeal.main_arg8) = m ((c.tc : Thread Cert.PackRefIdeal.nD Cert.PackRefIdeal.τ).loc Cert.PackRefIdeal.main_arg8)
      ∧ r.2.mem ((c.tc : Thread Cert.PackRefIdeal.nD Cert.PackRefIdeal.τ).loc Cert.PackRefIdeal.main_arg9) = m ((c.tc : Thread Cert.PackRefIdeal.nD Cert.PackRefIdeal.τ).loc Cert.PackRefIdeal.main_arg9)
      ∧ r.2.mem ((c.tc : Thread Cert.PackRefIdeal.nD Cert.PackRefIdeal.τ).loc Cert.PackRefIdeal.main_arg10) = m ((c.tc : Thread Cert.PackRefIdeal.nD Cert.PackRefIdeal.τ).loc Cert.PackRefIdeal.main_arg10)
      ∧ r.2.mem ((c.tc : Thread Cert.PackRefIdeal.nD Cert.PackRefIdeal.τ).loc Cert.PackRefIdeal.main_arg11) = m ((c.tc : Thread Cert.PackRefIdeal.nD Cert.PackRefIdeal.τ).loc Cert.PackRefIdeal.main_arg11)
      ∧ r.2.mem ((c.tc : Thread Cert.PackRefIdeal.nD Cert.PackRefIdeal.τ).loc Cert.PackRefIdeal.main_arg12) = m ((c.tc : Thread Cert.PackRefIdeal.nD Cert.PackRefIdeal.τ).loc Cert.PackRefIdeal.main_arg12)
      ∧ r.2.mem ((c.tc : Thread Cert.PackRefIdeal.nD Cert.PackRefIdeal.τ).loc Cert.PackRefIdeal.main_arg13) = m ((c.tc : Thread Cert.PackRefIdeal.nD Cert.PackRefIdeal.τ).loc Cert.PackRefIdeal.main_arg13))
      ∧ r.2.sem = fun _ => 0)

def preserves_BwdIn_BwdInIdeal : Prop :=
  True

def algebraic_BwdInIdeal_BwdInRefIdeal_pre_in_finite [hBwdInIdeal : Cert.BwdInIdeal.Facts] [hBwdInRefIdeal : Cert.BwdInRefIdeal.Facts] [hPre_in_finite : Cert.Pre_in_finite.Facts] : Prop :=
  ∀ (m : (ℓ : Loc Cert.BwdInIdeal.nD Cert.BwdInIdeal.τ Cert.BwdInIdeal.sig) → Buf (Elt Ideal) ℓ) (g : Dev Cert.BwdInIdeal.nD → PrngReg)
    (m' : (ℓ : Loc Cert.BwdInRefIdeal.nD Cert.BwdInRefIdeal.τ Cert.BwdInRefIdeal.sig) → Buf (Elt Ideal) ℓ) (g' : Dev Cert.BwdInRefIdeal.nD → PrngReg), Pre_BwdInIdeal_in_finite m →
    (∀ c : Dev Cert.BwdInIdeal.nD,
      m' ((c.tc : Thread Cert.BwdInRefIdeal.nD Cert.BwdInRefIdeal.τ).loc Cert.BwdInRefIdeal.main_arg0) = m ((c.tc : Thread Cert.BwdInIdeal.nD Cert.BwdInIdeal.τ).loc Cert.BwdInIdeal.main_arg0)
      ∧ m' ((c.tc : Thread Cert.BwdInRefIdeal.nD Cert.BwdInRefIdeal.τ).loc Cert.BwdInRefIdeal.main_arg1) = m ((c.tc : Thread Cert.BwdInIdeal.nD Cert.BwdInIdeal.τ).loc Cert.BwdInIdeal.main_arg1)
      ∧ m' ((c.tc : Thread Cert.BwdInRefIdeal.nD Cert.BwdInRefIdeal.τ).loc Cert.BwdInRefIdeal.main_arg2) = m ((c.tc : Thread Cert.BwdInIdeal.nD Cert.BwdInIdeal.τ).loc Cert.BwdInIdeal.main_arg2)
      ∧ m' ((c.tc : Thread Cert.BwdInRefIdeal.nD Cert.BwdInRefIdeal.τ).loc Cert.BwdInRefIdeal.main_arg3) = m ((c.tc : Thread Cert.BwdInIdeal.nD Cert.BwdInIdeal.τ).loc Cert.BwdInIdeal.main_arg3)
      ∧ m' ((c.tc : Thread Cert.BwdInRefIdeal.nD Cert.BwdInRefIdeal.τ).loc Cert.BwdInRefIdeal.main_arg4) = m ((c.tc : Thread Cert.BwdInIdeal.nD Cert.BwdInIdeal.τ).loc Cert.BwdInIdeal.main_arg4)) →
    ∃ (v0 : (c : Dev Cert.BwdInIdeal.nD) → Buf (Elt Ideal) ((c.tc : Thread Cert.BwdInIdeal.nD Cert.BwdInIdeal.τ).loc Cert.BwdInIdeal.main_v21_0)) (v1 : (c : Dev Cert.BwdInIdeal.nD) → Buf (Elt Ideal) ((c.tc : Thread Cert.BwdInIdeal.nD Cert.BwdInIdeal.τ).loc Cert.BwdInIdeal.main_v21_1)) (v2 : (c : Dev Cert.BwdInIdeal.nD) → Buf (Elt Ideal) ((c.tc : Thread Cert.BwdInIdeal.nD Cert.BwdInIdeal.τ).loc Cert.BwdInIdeal.main_v21_2)),
      θ_run (Cert.BwdInIdeal.defs (F := Ideal)) (onTc (τ := Cert.BwdInIdeal.τ) (Cert.BwdInIdeal.main (F := Ideal))) ⟨m, fun _ => 0, g⟩ (fun r => ∀ c : Dev Cert.BwdInIdeal.nD,
          r.2.mem ((c.tc : Thread Cert.BwdInIdeal.nD Cert.BwdInIdeal.τ).loc Cert.BwdInIdeal.main_v21_0) = v0 c
          ∧ r.2.mem ((c.tc : Thread Cert.BwdInIdeal.nD Cert.BwdInIdeal.τ).loc Cert.BwdInIdeal.main_v21_1) = v1 c
          ∧ r.2.mem ((c.tc : Thread Cert.BwdInIdeal.nD Cert.BwdInIdeal.τ).loc Cert.BwdInIdeal.main_v21_2) = v2 c
          ∧ r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
          ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
          ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
          ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
          ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4))
      ∧ θ_run (Cert.BwdInRefIdeal.defs (F := Ideal)) (onTc (τ := Cert.BwdInRefIdeal.τ) (Cert.BwdInRefIdeal.main (F := Ideal))) ⟨m', fun _ => 0, g'⟩ (fun r => ∀ c : Dev Cert.BwdInRefIdeal.nD,
          r.2.mem ((c.tc : Thread Cert.BwdInRefIdeal.nD Cert.BwdInRefIdeal.τ).loc Cert.BwdInRefIdeal.main_v46) = v0 c
          ∧ r.2.mem ((c.tc : Thread Cert.BwdInRefIdeal.nD Cert.BwdInRefIdeal.τ).loc Cert.BwdInRefIdeal.main_v49) = v1 c
          ∧ r.2.mem ((c.tc : Thread Cert.BwdInRefIdeal.nD Cert.BwdInRefIdeal.τ).loc Cert.BwdInRefIdeal.main_v45) = v2 c
          ∧ r.2.mem ((c.tc : Thread Cert.BwdInRefIdeal.nD Cert.BwdInRefIdeal.τ).loc Cert.BwdInRefIdeal.main_arg0) = m' ((c.tc : Thread Cert.BwdInRefIdeal.nD Cert.BwdInRefIdeal.τ).loc Cert.BwdInRefIdeal.main_arg0)
          ∧ r.2.mem ((c.tc : Thread Cert.BwdInRefIdeal.nD Cert.BwdInRefIdeal.τ).loc Cert.BwdInRefIdeal.main_arg1) = m' ((c.tc : Thread Cert.BwdInRefIdeal.nD Cert.BwdInRefIdeal.τ).loc Cert.BwdInRefIdeal.main_arg1)
          ∧ r.2.mem ((c.tc : Thread Cert.BwdInRefIdeal.nD Cert.BwdInRefIdeal.τ).loc Cert.BwdInRefIdeal.main_arg2) = m' ((c.tc : Thread Cert.BwdInRefIdeal.nD Cert.BwdInRefIdeal.τ).loc Cert.BwdInRefIdeal.main_arg2)
          ∧ r.2.mem ((c.tc : Thread Cert.BwdInRefIdeal.nD Cert.BwdInRefIdeal.τ).loc Cert.BwdInRefIdeal.main_arg3) = m' ((c.tc : Thread Cert.BwdInRefIdeal.nD Cert.BwdInRefIdeal.τ).loc Cert.BwdInRefIdeal.main_arg3)
          ∧ r.2.mem ((c.tc : Thread Cert.BwdInRefIdeal.nD Cert.BwdInRefIdeal.τ).loc Cert.BwdInRefIdeal.main_arg4) = m' ((c.tc : Thread Cert.BwdInRefIdeal.nD Cert.BwdInRefIdeal.τ).loc Cert.BwdInRefIdeal.main_arg4))

def preserves_MixerBwd_MixerBwdIdeal : Prop :=
  True

def preserves_FfnFwd_FfnFwdIdeal : Prop :=
  True

def algebraic_FfnFwdIdeal_FfnFwdRefIdeal_pre_ffn_finite [hFfnFwdIdeal : Cert.FfnFwdIdeal.Facts] [hFfnFwdRefIdeal : Cert.FfnFwdRefIdeal.Facts] [hPre_ffn_finite : Cert.Pre_ffn_finite.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal_ffn_finite m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)
      ∧ m' ((c.tc : Thread Cert.FfnFwdRefIdeal.nD Cert.FfnFwdRefIdeal.τ).loc Cert.FfnFwdRefIdeal.main_arg5) = m ((c.tc : Thread Cert.FfnFwdIdeal.nD Cert.FfnFwdIdeal.τ).loc Cert.FfnFwdIdeal.main_arg5)
      ∧ m' ((c.tc : Thread Cert.FfnFwdRefIdeal.nD Cert.FfnFwdRefIdeal.τ).loc Cert.FfnFwdRefIdeal.main_arg6) = m ((c.tc : Thread Cert.FfnFwdIdeal.nD Cert.FfnFwdIdeal.τ).loc Cert.FfnFwdIdeal.main_arg6)) →
    ∃ (v0 : (c : Dev Cert.FfnFwdIdeal.nD) → Buf (Elt Ideal) ((c.tc : Thread Cert.FfnFwdIdeal.nD Cert.FfnFwdIdeal.τ).loc Cert.FfnFwdIdeal.main_v13_0)) (v1 : (c : Dev Cert.FfnFwdIdeal.nD) → Buf (Elt Ideal) ((c.tc : Thread Cert.FfnFwdIdeal.nD Cert.FfnFwdIdeal.τ).loc Cert.FfnFwdIdeal.main_v13_1)) (v2 : (c : Dev Cert.FfnFwdIdeal.nD) → Buf (Elt Ideal) ((c.tc : Thread Cert.FfnFwdIdeal.nD Cert.FfnFwdIdeal.τ).loc Cert.FfnFwdIdeal.main_v13_2)) (v3 : (c : Dev Cert.FfnFwdIdeal.nD) → Buf (Elt Ideal) ((c.tc : Thread Cert.FfnFwdIdeal.nD Cert.FfnFwdIdeal.τ).loc Cert.FfnFwdIdeal.main_v13_3)) (v4 : (c : Dev Cert.FfnFwdIdeal.nD) → Buf (Elt Ideal) ((c.tc : Thread Cert.FfnFwdIdeal.nD Cert.FfnFwdIdeal.τ).loc Cert.FfnFwdIdeal.main_v13_4)) (v5 : (c : Dev Cert.FfnFwdIdeal.nD) → Buf (Elt Ideal) ((c.tc : Thread Cert.FfnFwdIdeal.nD Cert.FfnFwdIdeal.τ).loc Cert.FfnFwdIdeal.main_v13_5)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v13_0) = v0 c
          ∧ r.2.mem ((c.tc : Thread Cert.FfnFwdIdeal.nD Cert.FfnFwdIdeal.τ).loc Cert.FfnFwdIdeal.main_v13_1) = v1 c
          ∧ r.2.mem ((c.tc : Thread Cert.FfnFwdIdeal.nD Cert.FfnFwdIdeal.τ).loc Cert.FfnFwdIdeal.main_v13_2) = v2 c
          ∧ r.2.mem ((c.tc : Thread Cert.FfnFwdIdeal.nD Cert.FfnFwdIdeal.τ).loc Cert.FfnFwdIdeal.main_v13_3) = v3 c
          ∧ r.2.mem ((c.tc : Thread Cert.FfnFwdIdeal.nD Cert.FfnFwdIdeal.τ).loc Cert.FfnFwdIdeal.main_v13_4) = v4 c
          ∧ r.2.mem ((c.tc : Thread Cert.FfnFwdIdeal.nD Cert.FfnFwdIdeal.τ).loc Cert.FfnFwdIdeal.main_v13_5) = v5 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
          ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5)
          ∧ r.2.mem ((c.tc : Thread Cert.FfnFwdIdeal.nD Cert.FfnFwdIdeal.τ).loc Cert.FfnFwdIdeal.main_arg6) = m ((c.tc : Thread Cert.FfnFwdIdeal.nD Cert.FfnFwdIdeal.τ).loc Cert.FfnFwdIdeal.main_arg6))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v79) = v0 c
          ∧ r.2.mem ((c.tc : Thread Cert.FfnFwdRefIdeal.nD Cert.FfnFwdRefIdeal.τ).loc Cert.FfnFwdRefIdeal.main_v81) = v1 c
          ∧ r.2.mem ((c.tc : Thread Cert.FfnFwdRefIdeal.nD Cert.FfnFwdRefIdeal.τ).loc Cert.FfnFwdRefIdeal.main_v82) = v2 c
          ∧ r.2.mem ((c.tc : Thread Cert.FfnFwdRefIdeal.nD Cert.FfnFwdRefIdeal.τ).loc Cert.FfnFwdRefIdeal.main_v84) = v3 c
          ∧ r.2.mem ((c.tc : Thread Cert.FfnFwdRefIdeal.nD Cert.FfnFwdRefIdeal.τ).loc Cert.FfnFwdRefIdeal.main_v85) = v4 c
          ∧ r.2.mem ((c.tc : Thread Cert.FfnFwdRefIdeal.nD Cert.FfnFwdRefIdeal.τ).loc Cert.FfnFwdRefIdeal.main_v86) = v5 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4)
          ∧ r.2.mem ((c.tc : Thread Cert.FfnFwdRefIdeal.nD Cert.FfnFwdRefIdeal.τ).loc Cert.FfnFwdRefIdeal.main_arg5) = m' ((c.tc : Thread Cert.FfnFwdRefIdeal.nD Cert.FfnFwdRefIdeal.τ).loc Cert.FfnFwdRefIdeal.main_arg5)
          ∧ r.2.mem ((c.tc : Thread Cert.FfnFwdRefIdeal.nD Cert.FfnFwdRefIdeal.τ).loc Cert.FfnFwdRefIdeal.main_arg6) = m' ((c.tc : Thread Cert.FfnFwdRefIdeal.nD Cert.FfnFwdRefIdeal.τ).loc Cert.FfnFwdRefIdeal.main_arg6))

def preserves_FfnBwd_FfnBwdIdeal : Prop :=
  True

def algebraic_FfnBwdIdeal_FfnBwdRefIdeal_pre_ffb_finite [hFfnBwdIdeal : Cert.FfnBwdIdeal.Facts] [hFfnBwdRefIdeal : Cert.FfnBwdRefIdeal.Facts] [hPre_ffb_finite : Cert.Pre_ffb_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnBwdRefIdeal.nD Cert.FfnBwdRefIdeal.τ Cert.FfnBwdRefIdeal.sig) → Buf (Elt Ideal) ℓ) (g' : Dev Cert.FfnBwdRefIdeal.nD → PrngReg), Pre_FfnBwdIdeal_ffb_finite m →
    (∀ c : Dev Cert.FfnBwdIdeal.nD,
      m' ((c.tc : Thread Cert.FfnBwdRefIdeal.nD Cert.FfnBwdRefIdeal.τ).loc Cert.FfnBwdRefIdeal.main_arg0) = m ((c.tc : Thread Cert.FfnBwdIdeal.nD Cert.FfnBwdIdeal.τ).loc Cert.FfnBwdIdeal.main_arg0)
      ∧ m' ((c.tc : Thread Cert.FfnBwdRefIdeal.nD Cert.FfnBwdRefIdeal.τ).loc Cert.FfnBwdRefIdeal.main_arg1) = m ((c.tc : Thread Cert.FfnBwdIdeal.nD Cert.FfnBwdIdeal.τ).loc Cert.FfnBwdIdeal.main_arg1)
      ∧ m' ((c.tc : Thread Cert.FfnBwdRefIdeal.nD Cert.FfnBwdRefIdeal.τ).loc Cert.FfnBwdRefIdeal.main_arg2) = m ((c.tc : Thread Cert.FfnBwdIdeal.nD Cert.FfnBwdIdeal.τ).loc Cert.FfnBwdIdeal.main_arg2)
      ∧ m' ((c.tc : Thread Cert.FfnBwdRefIdeal.nD Cert.FfnBwdRefIdeal.τ).loc Cert.FfnBwdRefIdeal.main_arg3) = m ((c.tc : Thread Cert.FfnBwdIdeal.nD Cert.FfnBwdIdeal.τ).loc Cert.FfnBwdIdeal.main_arg3)
      ∧ m' ((c.tc : Thread Cert.FfnBwdRefIdeal.nD Cert.FfnBwdRefIdeal.τ).loc Cert.FfnBwdRefIdeal.main_arg4) = m ((c.tc : Thread Cert.FfnBwdIdeal.nD Cert.FfnBwdIdeal.τ).loc Cert.FfnBwdIdeal.main_arg4)) →
    ∃ (v0 : (c : Dev Cert.FfnBwdIdeal.nD) → Buf (Elt Ideal) ((c.tc : Thread Cert.FfnBwdIdeal.nD Cert.FfnBwdIdeal.τ).loc Cert.FfnBwdIdeal.main_v18_0)) (v1 : (c : Dev Cert.FfnBwdIdeal.nD) → Buf (Elt Ideal) ((c.tc : Thread Cert.FfnBwdIdeal.nD Cert.FfnBwdIdeal.τ).loc Cert.FfnBwdIdeal.main_v18_1)) (v2 : (c : Dev Cert.FfnBwdIdeal.nD) → Buf (Elt Ideal) ((c.tc : Thread Cert.FfnBwdIdeal.nD Cert.FfnBwdIdeal.τ).loc Cert.FfnBwdIdeal.main_v18_2)) (v3 : (c : Dev Cert.FfnBwdIdeal.nD) → Buf (Elt Ideal) ((c.tc : Thread Cert.FfnBwdIdeal.nD Cert.FfnBwdIdeal.τ).loc Cert.FfnBwdIdeal.main_v18_3)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v18_0) = v0 c
          ∧ r.2.mem ((c.tc : Thread Cert.FfnBwdIdeal.nD Cert.FfnBwdIdeal.τ).loc Cert.FfnBwdIdeal.main_v18_1) = v1 c
          ∧ r.2.mem ((c.tc : Thread Cert.FfnBwdIdeal.nD Cert.FfnBwdIdeal.τ).loc Cert.FfnBwdIdeal.main_v18_2) = v2 c
          ∧ r.2.mem ((c.tc : Thread Cert.FfnBwdIdeal.nD Cert.FfnBwdIdeal.τ).loc Cert.FfnBwdIdeal.main_v18_3) = v3 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ θ_run (Cert.FfnBwdRefIdeal.defs (F := Ideal)) (onTc (τ := Cert.FfnBwdRefIdeal.τ) (Cert.FfnBwdRefIdeal.main (F := Ideal))) ⟨m', fun _ => 0, g'⟩ (fun r => ∀ c : Dev Cert.FfnBwdRefIdeal.nD,
          r.2.mem ((c.tc : Thread Cert.FfnBwdRefIdeal.nD Cert.FfnBwdRefIdeal.τ).loc Cert.FfnBwdRefIdeal.main_v26) = v0 c
          ∧ r.2.mem ((c.tc : Thread Cert.FfnBwdRefIdeal.nD Cert.FfnBwdRefIdeal.τ).loc Cert.FfnBwdRefIdeal.main_v29) = v1 c
          ∧ r.2.mem ((c.tc : Thread Cert.FfnBwdRefIdeal.nD Cert.FfnBwdRefIdeal.τ).loc Cert.FfnBwdRefIdeal.main_v31) = v2 c
          ∧ r.2.mem ((c.tc : Thread Cert.FfnBwdRefIdeal.nD Cert.FfnBwdRefIdeal.τ).loc Cert.FfnBwdRefIdeal.main_v32) = v3 c
          ∧ r.2.mem ((c.tc : Thread Cert.FfnBwdRefIdeal.nD Cert.FfnBwdRefIdeal.τ).loc Cert.FfnBwdRefIdeal.main_arg0) = m' ((c.tc : Thread Cert.FfnBwdRefIdeal.nD Cert.FfnBwdRefIdeal.τ).loc Cert.FfnBwdRefIdeal.main_arg0)
          ∧ r.2.mem ((c.tc : Thread Cert.FfnBwdRefIdeal.nD Cert.FfnBwdRefIdeal.τ).loc Cert.FfnBwdRefIdeal.main_arg1) = m' ((c.tc : Thread Cert.FfnBwdRefIdeal.nD Cert.FfnBwdRefIdeal.τ).loc Cert.FfnBwdRefIdeal.main_arg1)
          ∧ r.2.mem ((c.tc : Thread Cert.FfnBwdRefIdeal.nD Cert.FfnBwdRefIdeal.τ).loc Cert.FfnBwdRefIdeal.main_arg2) = m' ((c.tc : Thread Cert.FfnBwdRefIdeal.nD Cert.FfnBwdRefIdeal.τ).loc Cert.FfnBwdRefIdeal.main_arg2)
          ∧ r.2.mem ((c.tc : Thread Cert.FfnBwdRefIdeal.nD Cert.FfnBwdRefIdeal.τ).loc Cert.FfnBwdRefIdeal.main_arg3) = m' ((c.tc : Thread Cert.FfnBwdRefIdeal.nD Cert.FfnBwdRefIdeal.τ).loc Cert.FfnBwdRefIdeal.main_arg3)
          ∧ r.2.mem ((c.tc : Thread Cert.FfnBwdRefIdeal.nD Cert.FfnBwdRefIdeal.τ).loc Cert.FfnBwdRefIdeal.main_arg4) = m' ((c.tc : Thread Cert.FfnBwdRefIdeal.nD Cert.FfnBwdRefIdeal.τ).loc Cert.FfnBwdRefIdeal.main_arg4))

def preserves_BwdOut_BwdOutIdeal : Prop :=
  True

def algebraic_BwdOutIdeal_BwdOutRefIdeal_pre_out_finite [hBwdOutIdeal : Cert.BwdOutIdeal.Facts] [hBwdOutRefIdeal : Cert.BwdOutRefIdeal.Facts] [hPre_out_finite : Cert.Pre_out_finite.Facts] : Prop :=
  ∀ (m : (ℓ : Loc Cert.BwdOutIdeal.nD Cert.BwdOutIdeal.τ Cert.BwdOutIdeal.sig) → Buf (Elt Ideal) ℓ) (g : Dev Cert.BwdOutIdeal.nD → PrngReg)
    (m' : (ℓ : Loc Cert.BwdOutRefIdeal.nD Cert.BwdOutRefIdeal.τ Cert.BwdOutRefIdeal.sig) → Buf (Elt Ideal) ℓ) (g' : Dev Cert.BwdOutRefIdeal.nD → PrngReg), Pre_BwdOutIdeal_out_finite m →
    (∀ c : Dev Cert.BwdOutIdeal.nD,
      m' ((c.tc : Thread Cert.BwdOutRefIdeal.nD Cert.BwdOutRefIdeal.τ).loc Cert.BwdOutRefIdeal.main_arg0) = m ((c.tc : Thread Cert.BwdOutIdeal.nD Cert.BwdOutIdeal.τ).loc Cert.BwdOutIdeal.main_arg0)
      ∧ m' ((c.tc : Thread Cert.BwdOutRefIdeal.nD Cert.BwdOutRefIdeal.τ).loc Cert.BwdOutRefIdeal.main_arg1) = m ((c.tc : Thread Cert.BwdOutIdeal.nD Cert.BwdOutIdeal.τ).loc Cert.BwdOutIdeal.main_arg1)
      ∧ m' ((c.tc : Thread Cert.BwdOutRefIdeal.nD Cert.BwdOutRefIdeal.τ).loc Cert.BwdOutRefIdeal.main_arg2) = m ((c.tc : Thread Cert.BwdOutIdeal.nD Cert.BwdOutIdeal.τ).loc Cert.BwdOutIdeal.main_arg2)
      ∧ m' ((c.tc : Thread Cert.BwdOutRefIdeal.nD Cert.BwdOutRefIdeal.τ).loc Cert.BwdOutRefIdeal.main_arg3) = m ((c.tc : Thread Cert.BwdOutIdeal.nD Cert.BwdOutIdeal.τ).loc Cert.BwdOutIdeal.main_arg3)
      ∧ m' ((c.tc : Thread Cert.BwdOutRefIdeal.nD Cert.BwdOutRefIdeal.τ).loc Cert.BwdOutRefIdeal.main_arg4) = m ((c.tc : Thread Cert.BwdOutIdeal.nD Cert.BwdOutIdeal.τ).loc Cert.BwdOutIdeal.main_arg4)
      ∧ m' ((c.tc : Thread Cert.BwdOutRefIdeal.nD Cert.BwdOutRefIdeal.τ).loc Cert.BwdOutRefIdeal.main_arg5) = m ((c.tc : Thread Cert.BwdOutIdeal.nD Cert.BwdOutIdeal.τ).loc Cert.BwdOutIdeal.main_arg5)
      ∧ m' ((c.tc : Thread Cert.BwdOutRefIdeal.nD Cert.BwdOutRefIdeal.τ).loc Cert.BwdOutRefIdeal.main_arg6) = m ((c.tc : Thread Cert.BwdOutIdeal.nD Cert.BwdOutIdeal.τ).loc Cert.BwdOutIdeal.main_arg6)
      ∧ m' ((c.tc : Thread Cert.BwdOutRefIdeal.nD Cert.BwdOutRefIdeal.τ).loc Cert.BwdOutRefIdeal.main_arg7) = m ((c.tc : Thread Cert.BwdOutIdeal.nD Cert.BwdOutIdeal.τ).loc Cert.BwdOutIdeal.main_arg7)
      ∧ m' ((c.tc : Thread Cert.BwdOutRefIdeal.nD Cert.BwdOutRefIdeal.τ).loc Cert.BwdOutRefIdeal.main_arg8) = m ((c.tc : Thread Cert.BwdOutIdeal.nD Cert.BwdOutIdeal.τ).loc Cert.BwdOutIdeal.main_arg8)) →
    ∃ (v0 : (c : Dev Cert.BwdOutIdeal.nD) → Buf (Elt Ideal) ((c.tc : Thread Cert.BwdOutIdeal.nD Cert.BwdOutIdeal.τ).loc Cert.BwdOutIdeal.main_v58_0)) (v1 : (c : Dev Cert.BwdOutIdeal.nD) → Buf (Elt Ideal) ((c.tc : Thread Cert.BwdOutIdeal.nD Cert.BwdOutIdeal.τ).loc Cert.BwdOutIdeal.main_v58_1)) (v2 : (c : Dev Cert.BwdOutIdeal.nD) → Buf (Elt Ideal) ((c.tc : Thread Cert.BwdOutIdeal.nD Cert.BwdOutIdeal.τ).loc Cert.BwdOutIdeal.main_v58_2)) (v3 : (c : Dev Cert.BwdOutIdeal.nD) → Buf (Elt Ideal) ((c.tc : Thread Cert.BwdOutIdeal.nD Cert.BwdOutIdeal.τ).loc Cert.BwdOutIdeal.main_v58_3)) (v4 : (c : Dev Cert.BwdOutIdeal.nD) → Buf (Elt Ideal) ((c.tc : Thread Cert.BwdOutIdeal.nD Cert.BwdOutIdeal.τ).loc Cert.BwdOutIdeal.main_v58_4)) (v5 : (c : Dev Cert.BwdOutIdeal.nD) → Buf (Elt Ideal) ((c.tc : Thread Cert.BwdOutIdeal.nD Cert.BwdOutIdeal.τ).loc Cert.BwdOutIdeal.main_v58_5)) (v6 : (c : Dev Cert.BwdOutIdeal.nD) → Buf (Elt Ideal) ((c.tc : Thread Cert.BwdOutIdeal.nD Cert.BwdOutIdeal.τ).loc Cert.BwdOutIdeal.main_v58_6)),
      θ_run (Cert.BwdOutIdeal.defs (F := Ideal)) (onTc (τ := Cert.BwdOutIdeal.τ) (Cert.BwdOutIdeal.main (F := Ideal))) ⟨m, fun _ => 0, g⟩ (fun r => ∀ c : Dev Cert.BwdOutIdeal.nD,
          r.2.mem ((c.tc : Thread Cert.BwdOutIdeal.nD Cert.BwdOutIdeal.τ).loc Cert.BwdOutIdeal.main_v58_0) = v0 c
          ∧ r.2.mem ((c.tc : Thread Cert.BwdOutIdeal.nD Cert.BwdOutIdeal.τ).loc Cert.BwdOutIdeal.main_v58_1) = v1 c
          ∧ r.2.mem ((c.tc : Thread Cert.BwdOutIdeal.nD Cert.BwdOutIdeal.τ).loc Cert.BwdOutIdeal.main_v58_2) = v2 c
          ∧ r.2.mem ((c.tc : Thread Cert.BwdOutIdeal.nD Cert.BwdOutIdeal.τ).loc Cert.BwdOutIdeal.main_v58_3) = v3 c
          ∧ r.2.mem ((c.tc : Thread Cert.BwdOutIdeal.nD Cert.BwdOutIdeal.τ).loc Cert.BwdOutIdeal.main_v58_4) = v4 c
          ∧ r.2.mem ((c.tc : Thread Cert.BwdOutIdeal.nD Cert.BwdOutIdeal.τ).loc Cert.BwdOutIdeal.main_v58_5) = v5 c
          ∧ r.2.mem ((c.tc : Thread Cert.BwdOutIdeal.nD Cert.BwdOutIdeal.τ).loc Cert.BwdOutIdeal.main_v58_6) = v6 c
          ∧ r.2.mem ((c.tc : Thread Cert.BwdOutIdeal.nD Cert.BwdOutIdeal.τ).loc Cert.BwdOutIdeal.main_arg0) = m ((c.tc : Thread Cert.BwdOutIdeal.nD Cert.BwdOutIdeal.τ).loc Cert.BwdOutIdeal.main_arg0)
          ∧ r.2.mem ((c.tc : Thread Cert.BwdOutIdeal.nD Cert.BwdOutIdeal.τ).loc Cert.BwdOutIdeal.main_arg1) = m ((c.tc : Thread Cert.BwdOutIdeal.nD Cert.BwdOutIdeal.τ).loc Cert.BwdOutIdeal.main_arg1)
          ∧ r.2.mem ((c.tc : Thread Cert.BwdOutIdeal.nD Cert.BwdOutIdeal.τ).loc Cert.BwdOutIdeal.main_arg2) = m ((c.tc : Thread Cert.BwdOutIdeal.nD Cert.BwdOutIdeal.τ).loc Cert.BwdOutIdeal.main_arg2)
          ∧ r.2.mem ((c.tc : Thread Cert.BwdOutIdeal.nD Cert.BwdOutIdeal.τ).loc Cert.BwdOutIdeal.main_arg3) = m ((c.tc : Thread Cert.BwdOutIdeal.nD Cert.BwdOutIdeal.τ).loc Cert.BwdOutIdeal.main_arg3)
          ∧ r.2.mem ((c.tc : Thread Cert.BwdOutIdeal.nD Cert.BwdOutIdeal.τ).loc Cert.BwdOutIdeal.main_arg4) = m ((c.tc : Thread Cert.BwdOutIdeal.nD Cert.BwdOutIdeal.τ).loc Cert.BwdOutIdeal.main_arg4)
          ∧ r.2.mem ((c.tc : Thread Cert.BwdOutIdeal.nD Cert.BwdOutIdeal.τ).loc Cert.BwdOutIdeal.main_arg5) = m ((c.tc : Thread Cert.BwdOutIdeal.nD Cert.BwdOutIdeal.τ).loc Cert.BwdOutIdeal.main_arg5)
          ∧ r.2.mem ((c.tc : Thread Cert.BwdOutIdeal.nD Cert.BwdOutIdeal.τ).loc Cert.BwdOutIdeal.main_arg6) = m ((c.tc : Thread Cert.BwdOutIdeal.nD Cert.BwdOutIdeal.τ).loc Cert.BwdOutIdeal.main_arg6)
          ∧ r.2.mem ((c.tc : Thread Cert.BwdOutIdeal.nD Cert.BwdOutIdeal.τ).loc Cert.BwdOutIdeal.main_arg7) = m ((c.tc : Thread Cert.BwdOutIdeal.nD Cert.BwdOutIdeal.τ).loc Cert.BwdOutIdeal.main_arg7)
          ∧ r.2.mem ((c.tc : Thread Cert.BwdOutIdeal.nD Cert.BwdOutIdeal.τ).loc Cert.BwdOutIdeal.main_arg8) = m ((c.tc : Thread Cert.BwdOutIdeal.nD Cert.BwdOutIdeal.τ).loc Cert.BwdOutIdeal.main_arg8))
      ∧ θ_run (Cert.BwdOutRefIdeal.defs (F := Ideal)) (onTc (τ := Cert.BwdOutRefIdeal.τ) (Cert.BwdOutRefIdeal.main (F := Ideal))) ⟨m', fun _ => 0, g'⟩ (fun r => ∀ c : Dev Cert.BwdOutRefIdeal.nD,
          r.2.mem ((c.tc : Thread Cert.BwdOutRefIdeal.nD Cert.BwdOutRefIdeal.τ).loc Cert.BwdOutRefIdeal.main_v135) = v0 c
          ∧ r.2.mem ((c.tc : Thread Cert.BwdOutRefIdeal.nD Cert.BwdOutRefIdeal.τ).loc Cert.BwdOutRefIdeal.main_v131) = v1 c
          ∧ r.2.mem ((c.tc : Thread Cert.BwdOutRefIdeal.nD Cert.BwdOutRefIdeal.τ).loc Cert.BwdOutRefIdeal.main_v134) = v2 c
          ∧ r.2.mem ((c.tc : Thread Cert.BwdOutRefIdeal.nD Cert.BwdOutRefIdeal.τ).loc Cert.BwdOutRefIdeal.main_v137) = v3 c
          ∧ r.2.mem ((c.tc : Thread Cert.BwdOutRefIdeal.nD Cert.BwdOutRefIdeal.τ).loc Cert.BwdOutRefIdeal.main_v77) = v4 c
          ∧ r.2.mem ((c.tc : Thread Cert.BwdOutRefIdeal.nD Cert.BwdOutRefIdeal.τ).loc Cert.BwdOutRefIdeal.main_v128) = v5 c
          ∧ r.2.mem ((c.tc : Thread Cert.BwdOutRefIdeal.nD Cert.BwdOutRefIdeal.τ).loc Cert.BwdOutRefIdeal.main_v106) = v6 c
          ∧ r.2.mem ((c.tc : Thread Cert.BwdOutRefIdeal.nD Cert.BwdOutRefIdeal.τ).loc Cert.BwdOutRefIdeal.main_arg0) = m' ((c.tc : Thread Cert.BwdOutRefIdeal.nD Cert.BwdOutRefIdeal.τ).loc Cert.BwdOutRefIdeal.main_arg0)
          ∧ r.2.mem ((c.tc : Thread Cert.BwdOutRefIdeal.nD Cert.BwdOutRefIdeal.τ).loc Cert.BwdOutRefIdeal.main_arg1) = m' ((c.tc : Thread Cert.BwdOutRefIdeal.nD Cert.BwdOutRefIdeal.τ).loc Cert.BwdOutRefIdeal.main_arg1)
          ∧ r.2.mem ((c.tc : Thread Cert.BwdOutRefIdeal.nD Cert.BwdOutRefIdeal.τ).loc Cert.BwdOutRefIdeal.main_arg2) = m' ((c.tc : Thread Cert.BwdOutRefIdeal.nD Cert.BwdOutRefIdeal.τ).loc Cert.BwdOutRefIdeal.main_arg2)
          ∧ r.2.mem ((c.tc : Thread Cert.BwdOutRefIdeal.nD Cert.BwdOutRefIdeal.τ).loc Cert.BwdOutRefIdeal.main_arg3) = m' ((c.tc : Thread Cert.BwdOutRefIdeal.nD Cert.BwdOutRefIdeal.τ).loc Cert.BwdOutRefIdeal.main_arg3)
          ∧ r.2.mem ((c.tc : Thread Cert.BwdOutRefIdeal.nD Cert.BwdOutRefIdeal.τ).loc Cert.BwdOutRefIdeal.main_arg4) = m' ((c.tc : Thread Cert.BwdOutRefIdeal.nD Cert.BwdOutRefIdeal.τ).loc Cert.BwdOutRefIdeal.main_arg4)
          ∧ r.2.mem ((c.tc : Thread Cert.BwdOutRefIdeal.nD Cert.BwdOutRefIdeal.τ).loc Cert.BwdOutRefIdeal.main_arg5) = m' ((c.tc : Thread Cert.BwdOutRefIdeal.nD Cert.BwdOutRefIdeal.τ).loc Cert.BwdOutRefIdeal.main_arg5)
          ∧ r.2.mem ((c.tc : Thread Cert.BwdOutRefIdeal.nD Cert.BwdOutRefIdeal.τ).loc Cert.BwdOutRefIdeal.main_arg6) = m' ((c.tc : Thread Cert.BwdOutRefIdeal.nD Cert.BwdOutRefIdeal.τ).loc Cert.BwdOutRefIdeal.main_arg6)
          ∧ r.2.mem ((c.tc : Thread Cert.BwdOutRefIdeal.nD Cert.BwdOutRefIdeal.τ).loc Cert.BwdOutRefIdeal.main_arg7) = m' ((c.tc : Thread Cert.BwdOutRefIdeal.nD Cert.BwdOutRefIdeal.τ).loc Cert.BwdOutRefIdeal.main_arg7)
          ∧ r.2.mem ((c.tc : Thread Cert.BwdOutRefIdeal.nD Cert.BwdOutRefIdeal.τ).loc Cert.BwdOutRefIdeal.main_arg8) = m' ((c.tc : Thread Cert.BwdOutRefIdeal.nD Cert.BwdOutRefIdeal.τ).loc Cert.BwdOutRefIdeal.main_arg8))

def preserves_FwdIn_FwdInIdeal : Prop :=
  True

def algebraic_FwdInIdeal_FwdInRefIdeal [hFwdInIdeal : Cert.FwdInIdeal.Facts] [hFwdInRefIdeal : Cert.FwdInRefIdeal.Facts] : Prop :=
  ∀ (m : (ℓ : Loc Cert.FwdInIdeal.nD Cert.FwdInIdeal.τ Cert.FwdInIdeal.sig) → Buf (Elt Ideal) ℓ) (g : Dev Cert.FwdInIdeal.nD → PrngReg)
    (m' : (ℓ : Loc Cert.FwdInRefIdeal.nD Cert.FwdInRefIdeal.τ Cert.FwdInRefIdeal.sig) → Buf (Elt Ideal) ℓ) (g' : Dev Cert.FwdInRefIdeal.nD → PrngReg), Pre_FwdInIdeal m →
    (∀ c : Dev Cert.FwdInIdeal.nD,
      m' ((c.tc : Thread Cert.FwdInRefIdeal.nD Cert.FwdInRefIdeal.τ).loc Cert.FwdInRefIdeal.main_arg0) = m ((c.tc : Thread Cert.FwdInIdeal.nD Cert.FwdInIdeal.τ).loc Cert.FwdInIdeal.main_arg0)
      ∧ m' ((c.tc : Thread Cert.FwdInRefIdeal.nD Cert.FwdInRefIdeal.τ).loc Cert.FwdInRefIdeal.main_arg1) = m ((c.tc : Thread Cert.FwdInIdeal.nD Cert.FwdInIdeal.τ).loc Cert.FwdInIdeal.main_arg1)
      ∧ m' ((c.tc : Thread Cert.FwdInRefIdeal.nD Cert.FwdInRefIdeal.τ).loc Cert.FwdInRefIdeal.main_arg2) = m ((c.tc : Thread Cert.FwdInIdeal.nD Cert.FwdInIdeal.τ).loc Cert.FwdInIdeal.main_arg2)) →
    ∃ (v0 : (c : Dev Cert.FwdInIdeal.nD) → Buf (Elt Ideal) ((c.tc : Thread Cert.FwdInIdeal.nD Cert.FwdInIdeal.τ).loc Cert.FwdInIdeal.main_v4_0)) (v1 : (c : Dev Cert.FwdInIdeal.nD) → Buf (Elt Ideal) ((c.tc : Thread Cert.FwdInIdeal.nD Cert.FwdInIdeal.τ).loc Cert.FwdInIdeal.main_v4_1)) (v2 : (c : Dev Cert.FwdInIdeal.nD) → Buf (Elt Ideal) ((c.tc : Thread Cert.FwdInIdeal.nD Cert.FwdInIdeal.τ).loc Cert.FwdInIdeal.main_v4_2)),
      θ_run (Cert.FwdInIdeal.defs (F := Ideal)) (onTc (τ := Cert.FwdInIdeal.τ) (Cert.FwdInIdeal.main (F := Ideal))) ⟨m, fun _ => 0, g⟩ (fun r => ∀ c : Dev Cert.FwdInIdeal.nD,
          r.2.mem ((c.tc : Thread Cert.FwdInIdeal.nD Cert.FwdInIdeal.τ).loc Cert.FwdInIdeal.main_v4_0) = v0 c
          ∧ r.2.mem ((c.tc : Thread Cert.FwdInIdeal.nD Cert.FwdInIdeal.τ).loc Cert.FwdInIdeal.main_v4_1) = v1 c
          ∧ r.2.mem ((c.tc : Thread Cert.FwdInIdeal.nD Cert.FwdInIdeal.τ).loc Cert.FwdInIdeal.main_v4_2) = v2 c
          ∧ r.2.mem ((c.tc : Thread Cert.FwdInIdeal.nD Cert.FwdInIdeal.τ).loc Cert.FwdInIdeal.main_arg0) = m ((c.tc : Thread Cert.FwdInIdeal.nD Cert.FwdInIdeal.τ).loc Cert.FwdInIdeal.main_arg0)
          ∧ r.2.mem ((c.tc : Thread Cert.FwdInIdeal.nD Cert.FwdInIdeal.τ).loc Cert.FwdInIdeal.main_arg1) = m ((c.tc : Thread Cert.FwdInIdeal.nD Cert.FwdInIdeal.τ).loc Cert.FwdInIdeal.main_arg1)
          ∧ r.2.mem ((c.tc : Thread Cert.FwdInIdeal.nD Cert.FwdInIdeal.τ).loc Cert.FwdInIdeal.main_arg2) = m ((c.tc : Thread Cert.FwdInIdeal.nD Cert.FwdInIdeal.τ).loc Cert.FwdInIdeal.main_arg2))
      ∧ θ_run (Cert.FwdInRefIdeal.defs (F := Ideal)) (onTc (τ := Cert.FwdInRefIdeal.τ) (Cert.FwdInRefIdeal.main (F := Ideal))) ⟨m', fun _ => 0, g'⟩ (fun r => ∀ c : Dev Cert.FwdInRefIdeal.nD,
          r.2.mem ((c.tc : Thread Cert.FwdInRefIdeal.nD Cert.FwdInRefIdeal.τ).loc Cert.FwdInRefIdeal.main_v21) = v0 c
          ∧ r.2.mem ((c.tc : Thread Cert.FwdInRefIdeal.nD Cert.FwdInRefIdeal.τ).loc Cert.FwdInRefIdeal.main_v24) = v1 c
          ∧ r.2.mem ((c.tc : Thread Cert.FwdInRefIdeal.nD Cert.FwdInRefIdeal.τ).loc Cert.FwdInRefIdeal.main_v27) = v2 c
          ∧ r.2.mem ((c.tc : Thread Cert.FwdInRefIdeal.nD Cert.FwdInRefIdeal.τ).loc Cert.FwdInRefIdeal.main_arg0) = m' ((c.tc : Thread Cert.FwdInRefIdeal.nD Cert.FwdInRefIdeal.τ).loc Cert.FwdInRefIdeal.main_arg0)
          ∧ r.2.mem ((c.tc : Thread Cert.FwdInRefIdeal.nD Cert.FwdInRefIdeal.τ).loc Cert.FwdInRefIdeal.main_arg1) = m' ((c.tc : Thread Cert.FwdInRefIdeal.nD Cert.FwdInRefIdeal.τ).loc Cert.FwdInRefIdeal.main_arg1)
          ∧ r.2.mem ((c.tc : Thread Cert.FwdInRefIdeal.nD Cert.FwdInRefIdeal.τ).loc Cert.FwdInRefIdeal.main_arg2) = m' ((c.tc : Thread Cert.FwdInRefIdeal.nD Cert.FwdInRefIdeal.τ).loc Cert.FwdInRefIdeal.main_arg2))

def preserves_FwdOut_FwdOutIdeal : Prop :=
  True

def algebraic_FwdOutIdeal_FwdOutRefIdeal [hFwdOutIdeal : Cert.FwdOutIdeal.Facts] [hFwdOutRefIdeal : Cert.FwdOutRefIdeal.Facts] : Prop :=
  ∀ (m : (ℓ : Loc Cert.FwdOutIdeal.nD Cert.FwdOutIdeal.τ Cert.FwdOutIdeal.sig) → Buf (Elt Ideal) ℓ) (g : Dev Cert.FwdOutIdeal.nD → PrngReg)
    (m' : (ℓ : Loc Cert.FwdOutRefIdeal.nD Cert.FwdOutRefIdeal.τ Cert.FwdOutRefIdeal.sig) → Buf (Elt Ideal) ℓ) (g' : Dev Cert.FwdOutRefIdeal.nD → PrngReg), Pre_FwdOutIdeal m →
    (∀ c : Dev Cert.FwdOutIdeal.nD,
      m' ((c.tc : Thread Cert.FwdOutRefIdeal.nD Cert.FwdOutRefIdeal.τ).loc Cert.FwdOutRefIdeal.main_arg0) = m ((c.tc : Thread Cert.FwdOutIdeal.nD Cert.FwdOutIdeal.τ).loc Cert.FwdOutIdeal.main_arg0)
      ∧ m' ((c.tc : Thread Cert.FwdOutRefIdeal.nD Cert.FwdOutRefIdeal.τ).loc Cert.FwdOutRefIdeal.main_arg1) = m ((c.tc : Thread Cert.FwdOutIdeal.nD Cert.FwdOutIdeal.τ).loc Cert.FwdOutIdeal.main_arg1)
      ∧ m' ((c.tc : Thread Cert.FwdOutRefIdeal.nD Cert.FwdOutRefIdeal.τ).loc Cert.FwdOutRefIdeal.main_arg2) = m ((c.tc : Thread Cert.FwdOutIdeal.nD Cert.FwdOutIdeal.τ).loc Cert.FwdOutIdeal.main_arg2)
      ∧ m' ((c.tc : Thread Cert.FwdOutRefIdeal.nD Cert.FwdOutRefIdeal.τ).loc Cert.FwdOutRefIdeal.main_arg3) = m ((c.tc : Thread Cert.FwdOutIdeal.nD Cert.FwdOutIdeal.τ).loc Cert.FwdOutIdeal.main_arg3)
      ∧ m' ((c.tc : Thread Cert.FwdOutRefIdeal.nD Cert.FwdOutRefIdeal.τ).loc Cert.FwdOutRefIdeal.main_arg4) = m ((c.tc : Thread Cert.FwdOutIdeal.nD Cert.FwdOutIdeal.τ).loc Cert.FwdOutIdeal.main_arg4)
      ∧ m' ((c.tc : Thread Cert.FwdOutRefIdeal.nD Cert.FwdOutRefIdeal.τ).loc Cert.FwdOutRefIdeal.main_arg5) = m ((c.tc : Thread Cert.FwdOutIdeal.nD Cert.FwdOutIdeal.τ).loc Cert.FwdOutIdeal.main_arg5)
      ∧ m' ((c.tc : Thread Cert.FwdOutRefIdeal.nD Cert.FwdOutRefIdeal.τ).loc Cert.FwdOutRefIdeal.main_arg6) = m ((c.tc : Thread Cert.FwdOutIdeal.nD Cert.FwdOutIdeal.τ).loc Cert.FwdOutIdeal.main_arg6)) →
    ∃ (v0 : (c : Dev Cert.FwdOutIdeal.nD) → Buf (Elt Ideal) ((c.tc : Thread Cert.FwdOutIdeal.nD Cert.FwdOutIdeal.τ).loc Cert.FwdOutIdeal.main_v9_0)) (v1 : (c : Dev Cert.FwdOutIdeal.nD) → Buf (Elt Ideal) ((c.tc : Thread Cert.FwdOutIdeal.nD Cert.FwdOutIdeal.τ).loc Cert.FwdOutIdeal.main_v9_1)),
      θ_run (Cert.FwdOutIdeal.defs (F := Ideal)) (onTc (τ := Cert.FwdOutIdeal.τ) (Cert.FwdOutIdeal.main (F := Ideal))) ⟨m, fun _ => 0, g⟩ (fun r => ∀ c : Dev Cert.FwdOutIdeal.nD,
          r.2.mem ((c.tc : Thread Cert.FwdOutIdeal.nD Cert.FwdOutIdeal.τ).loc Cert.FwdOutIdeal.main_v9_0) = v0 c
          ∧ r.2.mem ((c.tc : Thread Cert.FwdOutIdeal.nD Cert.FwdOutIdeal.τ).loc Cert.FwdOutIdeal.main_v9_1) = v1 c
          ∧ r.2.mem ((c.tc : Thread Cert.FwdOutIdeal.nD Cert.FwdOutIdeal.τ).loc Cert.FwdOutIdeal.main_arg0) = m ((c.tc : Thread Cert.FwdOutIdeal.nD Cert.FwdOutIdeal.τ).loc Cert.FwdOutIdeal.main_arg0)
          ∧ r.2.mem ((c.tc : Thread Cert.FwdOutIdeal.nD Cert.FwdOutIdeal.τ).loc Cert.FwdOutIdeal.main_arg1) = m ((c.tc : Thread Cert.FwdOutIdeal.nD Cert.FwdOutIdeal.τ).loc Cert.FwdOutIdeal.main_arg1)
          ∧ r.2.mem ((c.tc : Thread Cert.FwdOutIdeal.nD Cert.FwdOutIdeal.τ).loc Cert.FwdOutIdeal.main_arg2) = m ((c.tc : Thread Cert.FwdOutIdeal.nD Cert.FwdOutIdeal.τ).loc Cert.FwdOutIdeal.main_arg2)
          ∧ r.2.mem ((c.tc : Thread Cert.FwdOutIdeal.nD Cert.FwdOutIdeal.τ).loc Cert.FwdOutIdeal.main_arg3) = m ((c.tc : Thread Cert.FwdOutIdeal.nD Cert.FwdOutIdeal.τ).loc Cert.FwdOutIdeal.main_arg3)
          ∧ r.2.mem ((c.tc : Thread Cert.FwdOutIdeal.nD Cert.FwdOutIdeal.τ).loc Cert.FwdOutIdeal.main_arg4) = m ((c.tc : Thread Cert.FwdOutIdeal.nD Cert.FwdOutIdeal.τ).loc Cert.FwdOutIdeal.main_arg4)
          ∧ r.2.mem ((c.tc : Thread Cert.FwdOutIdeal.nD Cert.FwdOutIdeal.τ).loc Cert.FwdOutIdeal.main_arg5) = m ((c.tc : Thread Cert.FwdOutIdeal.nD Cert.FwdOutIdeal.τ).loc Cert.FwdOutIdeal.main_arg5)
          ∧ r.2.mem ((c.tc : Thread Cert.FwdOutIdeal.nD Cert.FwdOutIdeal.τ).loc Cert.FwdOutIdeal.main_arg6) = m ((c.tc : Thread Cert.FwdOutIdeal.nD Cert.FwdOutIdeal.τ).loc Cert.FwdOutIdeal.main_arg6))
      ∧ θ_run (Cert.FwdOutRefIdeal.defs (F := Ideal)) (onTc (τ := Cert.FwdOutRefIdeal.τ) (Cert.FwdOutRefIdeal.main (F := Ideal))) ⟨m', fun _ => 0, g'⟩ (fun r => ∀ c : Dev Cert.FwdOutRefIdeal.nD,
          r.2.mem ((c.tc : Thread Cert.FwdOutRefIdeal.nD Cert.FwdOutRefIdeal.τ).loc Cert.FwdOutRefIdeal.main_v46) = v0 c
          ∧ r.2.mem ((c.tc : Thread Cert.FwdOutRefIdeal.nD Cert.FwdOutRefIdeal.τ).loc Cert.FwdOutRefIdeal.main_v48) = v1 c
          ∧ r.2.mem ((c.tc : Thread Cert.FwdOutRefIdeal.nD Cert.FwdOutRefIdeal.τ).loc Cert.FwdOutRefIdeal.main_arg0) = m' ((c.tc : Thread Cert.FwdOutRefIdeal.nD Cert.FwdOutRefIdeal.τ).loc Cert.FwdOutRefIdeal.main_arg0)
          ∧ r.2.mem ((c.tc : Thread Cert.FwdOutRefIdeal.nD Cert.FwdOutRefIdeal.τ).loc Cert.FwdOutRefIdeal.main_arg1) = m' ((c.tc : Thread Cert.FwdOutRefIdeal.nD Cert.FwdOutRefIdeal.τ).loc Cert.FwdOutRefIdeal.main_arg1)
          ∧ r.2.mem ((c.tc : Thread Cert.FwdOutRefIdeal.nD Cert.FwdOutRefIdeal.τ).loc Cert.FwdOutRefIdeal.main_arg2) = m' ((c.tc : Thread Cert.FwdOutRefIdeal.nD Cert.FwdOutRefIdeal.τ).loc Cert.FwdOutRefIdeal.main_arg2)
          ∧ r.2.mem ((c.tc : Thread Cert.FwdOutRefIdeal.nD Cert.FwdOutRefIdeal.τ).loc Cert.FwdOutRefIdeal.main_arg3) = m' ((c.tc : Thread Cert.FwdOutRefIdeal.nD Cert.FwdOutRefIdeal.τ).loc Cert.FwdOutRefIdeal.main_arg3)
          ∧ r.2.mem ((c.tc : Thread Cert.FwdOutRefIdeal.nD Cert.FwdOutRefIdeal.τ).loc Cert.FwdOutRefIdeal.main_arg4) = m' ((c.tc : Thread Cert.FwdOutRefIdeal.nD Cert.FwdOutRefIdeal.τ).loc Cert.FwdOutRefIdeal.main_arg4)
          ∧ r.2.mem ((c.tc : Thread Cert.FwdOutRefIdeal.nD Cert.FwdOutRefIdeal.τ).loc Cert.FwdOutRefIdeal.main_arg5) = m' ((c.tc : Thread Cert.FwdOutRefIdeal.nD Cert.FwdOutRefIdeal.τ).loc Cert.FwdOutRefIdeal.main_arg5)
          ∧ r.2.mem ((c.tc : Thread Cert.FwdOutRefIdeal.nD Cert.FwdOutRefIdeal.τ).loc Cert.FwdOutRefIdeal.main_arg6) = m' ((c.tc : Thread Cert.FwdOutRefIdeal.nD Cert.FwdOutRefIdeal.τ).loc Cert.FwdOutRefIdeal.main_arg6))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v6_0)) (v1 : (c : Dev Cert.AdamUpIdeal.nD) → Buf (Elt Ideal) ((c.tc : Thread Cert.AdamUpIdeal.nD Cert.AdamUpIdeal.τ).loc Cert.AdamUpIdeal.main_v6_1)) (v2 : (c : Dev Cert.AdamUpIdeal.nD) → Buf (Elt Ideal) ((c.tc : Thread Cert.AdamUpIdeal.nD Cert.AdamUpIdeal.τ).loc Cert.AdamUpIdeal.main_v6_2)) (v3 : (c : Dev Cert.AdamUpIdeal.nD) → Buf (Elt Ideal) ((c.tc : Thread Cert.AdamUpIdeal.nD Cert.AdamUpIdeal.τ).loc Cert.AdamUpIdeal.main_v6_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v6_0) = v0 c
          ∧ r.2.mem ((c.tc : Thread Cert.AdamUpIdeal.nD Cert.AdamUpIdeal.τ).loc Cert.AdamUpIdeal.main_v6_1) = v1 c
          ∧ r.2.mem ((c.tc : Thread Cert.AdamUpIdeal.nD Cert.AdamUpIdeal.τ).loc Cert.AdamUpIdeal.main_v6_2) = v2 c
          ∧ r.2.mem ((c.tc : Thread Cert.AdamUpIdeal.nD Cert.AdamUpIdeal.τ).loc Cert.AdamUpIdeal.main_v6_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v29) = v0 c
          ∧ r.2.mem ((c.tc : Thread Cert.AdamUpRefIdeal.nD Cert.AdamUpRefIdeal.τ).loc Cert.AdamUpRefIdeal.main_v31) = v1 c
          ∧ r.2.mem ((c.tc : Thread Cert.AdamUpRefIdeal.nD Cert.AdamUpRefIdeal.τ).loc Cert.AdamUpRefIdeal.main_v33) = v2 c
          ∧ r.2.mem ((c.tc : Thread Cert.AdamUpRefIdeal.nD Cert.AdamUpRefIdeal.τ).loc Cert.AdamUpRefIdeal.main_v35) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v3_0)) (v1 : (c : Dev Cert.AdamDownIdeal.nD) → Buf (Elt Ideal) ((c.tc : Thread Cert.AdamDownIdeal.nD Cert.AdamDownIdeal.τ).loc Cert.AdamDownIdeal.main_v3_1)) (v2 : (c : Dev Cert.AdamDownIdeal.nD) → Buf (Elt Ideal) ((c.tc : Thread Cert.AdamDownIdeal.nD Cert.AdamDownIdeal.τ).loc Cert.AdamDownIdeal.main_v3_2)) (v3 : (c : Dev Cert.AdamDownIdeal.nD) → Buf (Elt Ideal) ((c.tc : Thread Cert.AdamDownIdeal.nD Cert.AdamDownIdeal.τ).loc Cert.AdamDownIdeal.main_v3_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v3_0) = v0 c
          ∧ r.2.mem ((c.tc : Thread Cert.AdamDownIdeal.nD Cert.AdamDownIdeal.τ).loc Cert.AdamDownIdeal.main_v3_1) = v1 c
          ∧ r.2.mem ((c.tc : Thread Cert.AdamDownIdeal.nD Cert.AdamDownIdeal.τ).loc Cert.AdamDownIdeal.main_v3_2) = v2 c
          ∧ r.2.mem ((c.tc : Thread Cert.AdamDownIdeal.nD Cert.AdamDownIdeal.τ).loc Cert.AdamDownIdeal.main_v3_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v27) = v0 c
          ∧ r.2.mem ((c.tc : Thread Cert.AdamDownRefIdeal.nD Cert.AdamDownRefIdeal.τ).loc Cert.AdamDownRefIdeal.main_v28) = v1 c
          ∧ r.2.mem ((c.tc : Thread Cert.AdamDownRefIdeal.nD Cert.AdamDownRefIdeal.τ).loc Cert.AdamDownRefIdeal.main_v29) = v2 c
          ∧ r.2.mem ((c.tc : Thread Cert.AdamDownRefIdeal.nD Cert.AdamDownRefIdeal.τ).loc Cert.AdamDownRefIdeal.main_v30) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v6_0)) (v1 : (c : Dev Cert.AdamInIdeal.nD) → Buf (Elt Ideal) ((c.tc : Thread Cert.AdamInIdeal.nD Cert.AdamInIdeal.τ).loc Cert.AdamInIdeal.main_v6_1)) (v2 : (c : Dev Cert.AdamInIdeal.nD) → Buf (Elt Ideal) ((c.tc : Thread Cert.AdamInIdeal.nD Cert.AdamInIdeal.τ).loc Cert.AdamInIdeal.main_v6_2)) (v3 : (c : Dev Cert.AdamInIdeal.nD) → Buf (Elt Ideal) ((c.tc : Thread Cert.AdamInIdeal.nD Cert.AdamInIdeal.τ).loc Cert.AdamInIdeal.main_v6_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v6_0) = v0 c
          ∧ r.2.mem ((c.tc : Thread Cert.AdamInIdeal.nD Cert.AdamInIdeal.τ).loc Cert.AdamInIdeal.main_v6_1) = v1 c
          ∧ r.2.mem ((c.tc : Thread Cert.AdamInIdeal.nD Cert.AdamInIdeal.τ).loc Cert.AdamInIdeal.main_v6_2) = v2 c
          ∧ r.2.mem ((c.tc : Thread Cert.AdamInIdeal.nD Cert.AdamInIdeal.τ).loc Cert.AdamInIdeal.main_v6_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v29) = v0 c
          ∧ r.2.mem ((c.tc : Thread Cert.AdamInRefIdeal.nD Cert.AdamInRefIdeal.τ).loc Cert.AdamInRefIdeal.main_v31) = v1 c
          ∧ r.2.mem ((c.tc : Thread Cert.AdamInRefIdeal.nD Cert.AdamInRefIdeal.τ).loc Cert.AdamInRefIdeal.main_v33) = v2 c
          ∧ r.2.mem ((c.tc : Thread Cert.AdamInRefIdeal.nD Cert.AdamInRefIdeal.τ).loc Cert.AdamInRefIdeal.main_v35) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v3_0)) (v1 : (c : Dev Cert.AdamOutIdeal.nD) → Buf (Elt Ideal) ((c.tc : Thread Cert.AdamOutIdeal.nD Cert.AdamOutIdeal.τ).loc Cert.AdamOutIdeal.main_v3_1)) (v2 : (c : Dev Cert.AdamOutIdeal.nD) → Buf (Elt Ideal) ((c.tc : Thread Cert.AdamOutIdeal.nD Cert.AdamOutIdeal.τ).loc Cert.AdamOutIdeal.main_v3_2)) (v3 : (c : Dev Cert.AdamOutIdeal.nD) → Buf (Elt Ideal) ((c.tc : Thread Cert.AdamOutIdeal.nD Cert.AdamOutIdeal.τ).loc Cert.AdamOutIdeal.main_v3_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v3_0) = v0 c
          ∧ r.2.mem ((c.tc : Thread Cert.AdamOutIdeal.nD Cert.AdamOutIdeal.τ).loc Cert.AdamOutIdeal.main_v3_1) = v1 c
          ∧ r.2.mem ((c.tc : Thread Cert.AdamOutIdeal.nD Cert.AdamOutIdeal.τ).loc Cert.AdamOutIdeal.main_v3_2) = v2 c
          ∧ r.2.mem ((c.tc : Thread Cert.AdamOutIdeal.nD Cert.AdamOutIdeal.τ).loc Cert.AdamOutIdeal.main_v3_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v27) = v0 c
          ∧ r.2.mem ((c.tc : Thread Cert.AdamOutRefIdeal.nD Cert.AdamOutRefIdeal.τ).loc Cert.AdamOutRefIdeal.main_v28) = v1 c
          ∧ r.2.mem ((c.tc : Thread Cert.AdamOutRefIdeal.nD Cert.AdamOutRefIdeal.τ).loc Cert.AdamOutRefIdeal.main_v29) = v2 c
          ∧ r.2.mem ((c.tc : Thread Cert.AdamOutRefIdeal.nD Cert.AdamOutRefIdeal.τ).loc Cert.AdamOutRefIdeal.main_v30) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamGain_AdamGainIdeal : Prop :=
  True

def algebraic_AdamGainIdeal_AdamGainRefIdeal [hAdamGainIdeal : Cert.AdamGainIdeal.Facts] [hAdamGainRefIdeal : Cert.AdamGainRefIdeal.Facts] : Prop :=
  ∀ (m : (ℓ : Loc Cert.AdamGainIdeal.nD Cert.AdamGainIdeal.τ Cert.AdamGainIdeal.sig) → Buf (Elt Ideal) ℓ) (g : Dev Cert.AdamGainIdeal.nD → PrngReg)
    (m' : (ℓ : Loc Cert.AdamGainRefIdeal.nD Cert.AdamGainRefIdeal.τ Cert.AdamGainRefIdeal.sig) → Buf (Elt Ideal) ℓ) (g' : Dev Cert.AdamGainRefIdeal.nD → PrngReg), Pre_AdamGainIdeal m →
    (∀ c : Dev Cert.AdamGainIdeal.nD,
      m' ((c.tc : Thread Cert.AdamGainRefIdeal.nD Cert.AdamGainRefIdeal.τ).loc Cert.AdamGainRefIdeal.main_arg0) = m ((c.tc : Thread Cert.AdamGainIdeal.nD Cert.AdamGainIdeal.τ).loc Cert.AdamGainIdeal.main_arg0)
      ∧ m' ((c.tc : Thread Cert.AdamGainRefIdeal.nD Cert.AdamGainRefIdeal.τ).loc Cert.AdamGainRefIdeal.main_arg1) = m ((c.tc : Thread Cert.AdamGainIdeal.nD Cert.AdamGainIdeal.τ).loc Cert.AdamGainIdeal.main_arg1)
      ∧ m' ((c.tc : Thread Cert.AdamGainRefIdeal.nD Cert.AdamGainRefIdeal.τ).loc Cert.AdamGainRefIdeal.main_arg2) = m ((c.tc : Thread Cert.AdamGainIdeal.nD Cert.AdamGainIdeal.τ).loc Cert.AdamGainIdeal.main_arg2)
      ∧ m' ((c.tc : Thread Cert.AdamGainRefIdeal.nD Cert.AdamGainRefIdeal.τ).loc Cert.AdamGainRefIdeal.main_arg3) = m ((c.tc : Thread Cert.AdamGainIdeal.nD Cert.AdamGainIdeal.τ).loc Cert.AdamGainIdeal.main_arg3)) →
    ∃ (v0 : (c : Dev Cert.AdamGainIdeal.nD) → Buf (Elt Ideal) ((c.tc : Thread Cert.AdamGainIdeal.nD Cert.AdamGainIdeal.τ).loc Cert.AdamGainIdeal.main_v0_0)) (v1 : (c : Dev Cert.AdamGainIdeal.nD) → Buf (Elt Ideal) ((c.tc : Thread Cert.AdamGainIdeal.nD Cert.AdamGainIdeal.τ).loc Cert.AdamGainIdeal.main_v0_1)) (v2 : (c : Dev Cert.AdamGainIdeal.nD) → Buf (Elt Ideal) ((c.tc : Thread Cert.AdamGainIdeal.nD Cert.AdamGainIdeal.τ).loc Cert.AdamGainIdeal.main_v0_2)) (v3 : (c : Dev Cert.AdamGainIdeal.nD) → Buf (Elt Ideal) ((c.tc : Thread Cert.AdamGainIdeal.nD Cert.AdamGainIdeal.τ).loc Cert.AdamGainIdeal.main_v0_3)),
      θ_run (Cert.AdamGainIdeal.defs (F := Ideal)) (onTc (τ := Cert.AdamGainIdeal.τ) (Cert.AdamGainIdeal.main (F := Ideal))) ⟨m, fun _ => 0, g⟩ (fun r => ∀ c : Dev Cert.AdamGainIdeal.nD,
          r.2.mem ((c.tc : Thread Cert.AdamGainIdeal.nD Cert.AdamGainIdeal.τ).loc Cert.AdamGainIdeal.main_v0_0) = v0 c
          ∧ r.2.mem ((c.tc : Thread Cert.AdamGainIdeal.nD Cert.AdamGainIdeal.τ).loc Cert.AdamGainIdeal.main_v0_1) = v1 c
          ∧ r.2.mem ((c.tc : Thread Cert.AdamGainIdeal.nD Cert.AdamGainIdeal.τ).loc Cert.AdamGainIdeal.main_v0_2) = v2 c
          ∧ r.2.mem ((c.tc : Thread Cert.AdamGainIdeal.nD Cert.AdamGainIdeal.τ).loc Cert.AdamGainIdeal.main_v0_3) = v3 c
          ∧ r.2.mem ((c.tc : Thread Cert.AdamGainIdeal.nD Cert.AdamGainIdeal.τ).loc Cert.AdamGainIdeal.main_arg0) = m ((c.tc : Thread Cert.AdamGainIdeal.nD Cert.AdamGainIdeal.τ).loc Cert.AdamGainIdeal.main_arg0)
          ∧ r.2.mem ((c.tc : Thread Cert.AdamGainIdeal.nD Cert.AdamGainIdeal.τ).loc Cert.AdamGainIdeal.main_arg1) = m ((c.tc : Thread Cert.AdamGainIdeal.nD Cert.AdamGainIdeal.τ).loc Cert.AdamGainIdeal.main_arg1)
          ∧ r.2.mem ((c.tc : Thread Cert.AdamGainIdeal.nD Cert.AdamGainIdeal.τ).loc Cert.AdamGainIdeal.main_arg2) = m ((c.tc : Thread Cert.AdamGainIdeal.nD Cert.AdamGainIdeal.τ).loc Cert.AdamGainIdeal.main_arg2)
          ∧ r.2.mem ((c.tc : Thread Cert.AdamGainIdeal.nD Cert.AdamGainIdeal.τ).loc Cert.AdamGainIdeal.main_arg3) = m ((c.tc : Thread Cert.AdamGainIdeal.nD Cert.AdamGainIdeal.τ).loc Cert.AdamGainIdeal.main_arg3))
      ∧ θ_run (Cert.AdamGainRefIdeal.defs (F := Ideal)) (onTc (τ := Cert.AdamGainRefIdeal.τ) (Cert.AdamGainRefIdeal.main (F := Ideal))) ⟨m', fun _ => 0, g'⟩ (fun r => ∀ c : Dev Cert.AdamGainRefIdeal.nD,
          r.2.mem ((c.tc : Thread Cert.AdamGainRefIdeal.nD Cert.AdamGainRefIdeal.τ).loc Cert.AdamGainRefIdeal.main_v0) = v0 c
          ∧ r.2.mem ((c.tc : Thread Cert.AdamGainRefIdeal.nD Cert.AdamGainRefIdeal.τ).loc Cert.AdamGainRefIdeal.main_v24) = v1 c
          ∧ r.2.mem ((c.tc : Thread Cert.AdamGainRefIdeal.nD Cert.AdamGainRefIdeal.τ).loc Cert.AdamGainRefIdeal.main_v5) = v2 c
          ∧ r.2.mem ((c.tc : Thread Cert.AdamGainRefIdeal.nD Cert.AdamGainRefIdeal.τ).loc Cert.AdamGainRefIdeal.main_v11) = v3 c
          ∧ r.2.mem ((c.tc : Thread Cert.AdamGainRefIdeal.nD Cert.AdamGainRefIdeal.τ).loc Cert.AdamGainRefIdeal.main_arg0) = m' ((c.tc : Thread Cert.AdamGainRefIdeal.nD Cert.AdamGainRefIdeal.τ).loc Cert.AdamGainRefIdeal.main_arg0)
          ∧ r.2.mem ((c.tc : Thread Cert.AdamGainRefIdeal.nD Cert.AdamGainRefIdeal.τ).loc Cert.AdamGainRefIdeal.main_arg1) = m' ((c.tc : Thread Cert.AdamGainRefIdeal.nD Cert.AdamGainRefIdeal.τ).loc Cert.AdamGainRefIdeal.main_arg1)
          ∧ r.2.mem ((c.tc : Thread Cert.AdamGainRefIdeal.nD Cert.AdamGainRefIdeal.τ).loc Cert.AdamGainRefIdeal.main_arg2) = m' ((c.tc : Thread Cert.AdamGainRefIdeal.nD Cert.AdamGainRefIdeal.τ).loc Cert.AdamGainRefIdeal.main_arg2)
          ∧ r.2.mem ((c.tc : Thread Cert.AdamGainRefIdeal.nD Cert.AdamGainRefIdeal.τ).loc Cert.AdamGainRefIdeal.main_arg3) = m' ((c.tc : Thread Cert.AdamGainRefIdeal.nD Cert.AdamGainRefIdeal.τ).loc Cert.AdamGainRefIdeal.main_arg3))

def preserves_Pack_PackIdeal : Prop :=
  True

def algebraic_PackIdeal_PackRefIdeal [hPackIdeal : Cert.PackIdeal.Facts] [hPackRefIdeal : Cert.PackRefIdeal.Facts] : Prop :=
  ∀ (m : (ℓ : Loc Cert.PackIdeal.nD Cert.PackIdeal.τ Cert.PackIdeal.sig) → Buf (Elt Ideal) ℓ) (g : Dev Cert.PackIdeal.nD → PrngReg)
    (m' : (ℓ : Loc Cert.PackRefIdeal.nD Cert.PackRefIdeal.τ Cert.PackRefIdeal.sig) → Buf (Elt Ideal) ℓ) (g' : Dev Cert.PackRefIdeal.nD → PrngReg), Pre_PackIdeal m →
    (∀ c : Dev Cert.PackIdeal.nD,
      m' ((c.tc : Thread Cert.PackRefIdeal.nD Cert.PackRefIdeal.τ).loc Cert.PackRefIdeal.main_arg0) = m ((c.tc : Thread Cert.PackIdeal.nD Cert.PackIdeal.τ).loc Cert.PackIdeal.main_arg0)
      ∧ m' ((c.tc : Thread Cert.PackRefIdeal.nD Cert.PackRefIdeal.τ).loc Cert.PackRefIdeal.main_arg1) = m ((c.tc : Thread Cert.PackIdeal.nD Cert.PackIdeal.τ).loc Cert.PackIdeal.main_arg1)
      ∧ m' ((c.tc : Thread Cert.PackRefIdeal.nD Cert.PackRefIdeal.τ).loc Cert.PackRefIdeal.main_arg2) = m ((c.tc : Thread Cert.PackIdeal.nD Cert.PackIdeal.τ).loc Cert.PackIdeal.main_arg2)
      ∧ m' ((c.tc : Thread Cert.PackRefIdeal.nD Cert.PackRefIdeal.τ).loc Cert.PackRefIdeal.main_arg3) = m ((c.tc : Thread Cert.PackIdeal.nD Cert.PackIdeal.τ).loc Cert.PackIdeal.main_arg3)
      ∧ m' ((c.tc : Thread Cert.PackRefIdeal.nD Cert.PackRefIdeal.τ).loc Cert.PackRefIdeal.main_arg4) = m ((c.tc : Thread Cert.PackIdeal.nD Cert.PackIdeal.τ).loc Cert.PackIdeal.main_arg4)
      ∧ m' ((c.tc : Thread Cert.PackRefIdeal.nD Cert.PackRefIdeal.τ).loc Cert.PackRefIdeal.main_arg5) = m ((c.tc : Thread Cert.PackIdeal.nD Cert.PackIdeal.τ).loc Cert.PackIdeal.main_arg5)
      ∧ m' ((c.tc : Thread Cert.PackRefIdeal.nD Cert.PackRefIdeal.τ).loc Cert.PackRefIdeal.main_arg6) = m ((c.tc : Thread Cert.PackIdeal.nD Cert.PackIdeal.τ).loc Cert.PackIdeal.main_arg6)
      ∧ m' ((c.tc : Thread Cert.PackRefIdeal.nD Cert.PackRefIdeal.τ).loc Cert.PackRefIdeal.main_arg7) = m ((c.tc : Thread Cert.PackIdeal.nD Cert.PackIdeal.τ).loc Cert.PackIdeal.main_arg7)
      ∧ m' ((c.tc : Thread Cert.PackRefIdeal.nD Cert.PackRefIdeal.τ).loc Cert.PackRefIdeal.main_arg8) = m ((c.tc : Thread Cert.PackIdeal.nD Cert.PackIdeal.τ).loc Cert.PackIdeal.main_arg8)
      ∧ m' ((c.tc : Thread Cert.PackRefIdeal.nD Cert.PackRefIdeal.τ).loc Cert.PackRefIdeal.main_arg9) = m ((c.tc : Thread Cert.PackIdeal.nD Cert.PackIdeal.τ).loc Cert.PackIdeal.main_arg9)
      ∧ m' ((c.tc : Thread Cert.PackRefIdeal.nD Cert.PackRefIdeal.τ).loc Cert.PackRefIdeal.main_arg10) = m ((c.tc : Thread Cert.PackIdeal.nD Cert.PackIdeal.τ).loc Cert.PackIdeal.main_arg10)
      ∧ m' ((c.tc : Thread Cert.PackRefIdeal.nD Cert.PackRefIdeal.τ).loc Cert.PackRefIdeal.main_arg11) = m ((c.tc : Thread Cert.PackIdeal.nD Cert.PackIdeal.τ).loc Cert.PackIdeal.main_arg11)
      ∧ m' ((c.tc : Thread Cert.PackRefIdeal.nD Cert.PackRefIdeal.τ).loc Cert.PackRefIdeal.main_arg12) = m ((c.tc : Thread Cert.PackIdeal.nD Cert.PackIdeal.τ).loc Cert.PackIdeal.main_arg12)
      ∧ m' ((c.tc : Thread Cert.PackRefIdeal.nD Cert.PackRefIdeal.τ).loc Cert.PackRefIdeal.main_arg13) = m ((c.tc : Thread Cert.PackIdeal.nD Cert.PackIdeal.τ).loc Cert.PackIdeal.main_arg13)) →
    ∃ (v0 : (c : Dev Cert.PackIdeal.nD) → Buf (Elt Ideal) ((c.tc : Thread Cert.PackIdeal.nD Cert.PackIdeal.τ).loc Cert.PackIdeal.main_v0_0)) (v1 : (c : Dev Cert.PackIdeal.nD) → Buf (Elt Ideal) ((c.tc : Thread Cert.PackIdeal.nD Cert.PackIdeal.τ).loc Cert.PackIdeal.main_v0_1)),
      θ_run (Cert.PackIdeal.defs (F := Ideal)) (onTc (τ := Cert.PackIdeal.τ) (Cert.PackIdeal.main (F := Ideal))) ⟨m, fun _ => 0, g⟩ (fun r => ∀ c : Dev Cert.PackIdeal.nD,
          r.2.mem ((c.tc : Thread Cert.PackIdeal.nD Cert.PackIdeal.τ).loc Cert.PackIdeal.main_v0_0) = v0 c
          ∧ r.2.mem ((c.tc : Thread Cert.PackIdeal.nD Cert.PackIdeal.τ).loc Cert.PackIdeal.main_v0_1) = v1 c
          ∧ r.2.mem ((c.tc : Thread Cert.PackIdeal.nD Cert.PackIdeal.τ).loc Cert.PackIdeal.main_arg0) = m ((c.tc : Thread Cert.PackIdeal.nD Cert.PackIdeal.τ).loc Cert.PackIdeal.main_arg0)
          ∧ r.2.mem ((c.tc : Thread Cert.PackIdeal.nD Cert.PackIdeal.τ).loc Cert.PackIdeal.main_arg1) = m ((c.tc : Thread Cert.PackIdeal.nD Cert.PackIdeal.τ).loc Cert.PackIdeal.main_arg1)
          ∧ r.2.mem ((c.tc : Thread Cert.PackIdeal.nD Cert.PackIdeal.τ).loc Cert.PackIdeal.main_arg2) = m ((c.tc : Thread Cert.PackIdeal.nD Cert.PackIdeal.τ).loc Cert.PackIdeal.main_arg2)
          ∧ r.2.mem ((c.tc : Thread Cert.PackIdeal.nD Cert.PackIdeal.τ).loc Cert.PackIdeal.main_arg3) = m ((c.tc : Thread Cert.PackIdeal.nD Cert.PackIdeal.τ).loc Cert.PackIdeal.main_arg3)
          ∧ r.2.mem ((c.tc : Thread Cert.PackIdeal.nD Cert.PackIdeal.τ).loc Cert.PackIdeal.main_arg4) = m ((c.tc : Thread Cert.PackIdeal.nD Cert.PackIdeal.τ).loc Cert.PackIdeal.main_arg4)
          ∧ r.2.mem ((c.tc : Thread Cert.PackIdeal.nD Cert.PackIdeal.τ).loc Cert.PackIdeal.main_arg5) = m ((c.tc : Thread Cert.PackIdeal.nD Cert.PackIdeal.τ).loc Cert.PackIdeal.main_arg5)
          ∧ r.2.mem ((c.tc : Thread Cert.PackIdeal.nD Cert.PackIdeal.τ).loc Cert.PackIdeal.main_arg6) = m ((c.tc : Thread Cert.PackIdeal.nD Cert.PackIdeal.τ).loc Cert.PackIdeal.main_arg6)
          ∧ r.2.mem ((c.tc : Thread Cert.PackIdeal.nD Cert.PackIdeal.τ).loc Cert.PackIdeal.main_arg7) = m ((c.tc : Thread Cert.PackIdeal.nD Cert.PackIdeal.τ).loc Cert.PackIdeal.main_arg7)
          ∧ r.2.mem ((c.tc : Thread Cert.PackIdeal.nD Cert.PackIdeal.τ).loc Cert.PackIdeal.main_arg8) = m ((c.tc : Thread Cert.PackIdeal.nD Cert.PackIdeal.τ).loc Cert.PackIdeal.main_arg8)
          ∧ r.2.mem ((c.tc : Thread Cert.PackIdeal.nD Cert.PackIdeal.τ).loc Cert.PackIdeal.main_arg9) = m ((c.tc : Thread Cert.PackIdeal.nD Cert.PackIdeal.τ).loc Cert.PackIdeal.main_arg9)
          ∧ r.2.mem ((c.tc : Thread Cert.PackIdeal.nD Cert.PackIdeal.τ).loc Cert.PackIdeal.main_arg10) = m ((c.tc : Thread Cert.PackIdeal.nD Cert.PackIdeal.τ).loc Cert.PackIdeal.main_arg10)
          ∧ r.2.mem ((c.tc : Thread Cert.PackIdeal.nD Cert.PackIdeal.τ).loc Cert.PackIdeal.main_arg11) = m ((c.tc : Thread Cert.PackIdeal.nD Cert.PackIdeal.τ).loc Cert.PackIdeal.main_arg11)
          ∧ r.2.mem ((c.tc : Thread Cert.PackIdeal.nD Cert.PackIdeal.τ).loc Cert.PackIdeal.main_arg12) = m ((c.tc : Thread Cert.PackIdeal.nD Cert.PackIdeal.τ).loc Cert.PackIdeal.main_arg12)
          ∧ r.2.mem ((c.tc : Thread Cert.PackIdeal.nD Cert.PackIdeal.τ).loc Cert.PackIdeal.main_arg13) = m ((c.tc : Thread Cert.PackIdeal.nD Cert.PackIdeal.τ).loc Cert.PackIdeal.main_arg13))
      ∧ θ_run (Cert.PackRefIdeal.defs (F := Ideal)) (onTc (τ := Cert.PackRefIdeal.τ) (Cert.PackRefIdeal.main (F := Ideal))) ⟨m', fun _ => 0, g'⟩ (fun r => ∀ c : Dev Cert.PackRefIdeal.nD,
          r.2.mem ((c.tc : Thread Cert.PackRefIdeal.nD Cert.PackRefIdeal.τ).loc Cert.PackRefIdeal.main_v29) = v0 c
          ∧ r.2.mem ((c.tc : Thread Cert.PackRefIdeal.nD Cert.PackRefIdeal.τ).loc Cert.PackRefIdeal.main_v31) = v1 c
          ∧ r.2.mem ((c.tc : Thread Cert.PackRefIdeal.nD Cert.PackRefIdeal.τ).loc Cert.PackRefIdeal.main_arg0) = m' ((c.tc : Thread Cert.PackRefIdeal.nD Cert.PackRefIdeal.τ).loc Cert.PackRefIdeal.main_arg0)
          ∧ r.2.mem ((c.tc : Thread Cert.PackRefIdeal.nD Cert.PackRefIdeal.τ).loc Cert.PackRefIdeal.main_arg1) = m' ((c.tc : Thread Cert.PackRefIdeal.nD Cert.PackRefIdeal.τ).loc Cert.PackRefIdeal.main_arg1)
          ∧ r.2.mem ((c.tc : Thread Cert.PackRefIdeal.nD Cert.PackRefIdeal.τ).loc Cert.PackRefIdeal.main_arg2) = m' ((c.tc : Thread Cert.PackRefIdeal.nD Cert.PackRefIdeal.τ).loc Cert.PackRefIdeal.main_arg2)
          ∧ r.2.mem ((c.tc : Thread Cert.PackRefIdeal.nD Cert.PackRefIdeal.τ).loc Cert.PackRefIdeal.main_arg3) = m' ((c.tc : Thread Cert.PackRefIdeal.nD Cert.PackRefIdeal.τ).loc Cert.PackRefIdeal.main_arg3)
          ∧ r.2.mem ((c.tc : Thread Cert.PackRefIdeal.nD Cert.PackRefIdeal.τ).loc Cert.PackRefIdeal.main_arg4) = m' ((c.tc : Thread Cert.PackRefIdeal.nD Cert.PackRefIdeal.τ).loc Cert.PackRefIdeal.main_arg4)
          ∧ r.2.mem ((c.tc : Thread Cert.PackRefIdeal.nD Cert.PackRefIdeal.τ).loc Cert.PackRefIdeal.main_arg5) = m' ((c.tc : Thread Cert.PackRefIdeal.nD Cert.PackRefIdeal.τ).loc Cert.PackRefIdeal.main_arg5)
          ∧ r.2.mem ((c.tc : Thread Cert.PackRefIdeal.nD Cert.PackRefIdeal.τ).loc Cert.PackRefIdeal.main_arg6) = m' ((c.tc : Thread Cert.PackRefIdeal.nD Cert.PackRefIdeal.τ).loc Cert.PackRefIdeal.main_arg6)
          ∧ r.2.mem ((c.tc : Thread Cert.PackRefIdeal.nD Cert.PackRefIdeal.τ).loc Cert.PackRefIdeal.main_arg7) = m' ((c.tc : Thread Cert.PackRefIdeal.nD Cert.PackRefIdeal.τ).loc Cert.PackRefIdeal.main_arg7)
          ∧ r.2.mem ((c.tc : Thread Cert.PackRefIdeal.nD Cert.PackRefIdeal.τ).loc Cert.PackRefIdeal.main_arg8) = m' ((c.tc : Thread Cert.PackRefIdeal.nD Cert.PackRefIdeal.τ).loc Cert.PackRefIdeal.main_arg8)
          ∧ r.2.mem ((c.tc : Thread Cert.PackRefIdeal.nD Cert.PackRefIdeal.τ).loc Cert.PackRefIdeal.main_arg9) = m' ((c.tc : Thread Cert.PackRefIdeal.nD Cert.PackRefIdeal.τ).loc Cert.PackRefIdeal.main_arg9)
          ∧ r.2.mem ((c.tc : Thread Cert.PackRefIdeal.nD Cert.PackRefIdeal.τ).loc Cert.PackRefIdeal.main_arg10) = m' ((c.tc : Thread Cert.PackRefIdeal.nD Cert.PackRefIdeal.τ).loc Cert.PackRefIdeal.main_arg10)
          ∧ r.2.mem ((c.tc : Thread Cert.PackRefIdeal.nD Cert.PackRefIdeal.τ).loc Cert.PackRefIdeal.main_arg11) = m' ((c.tc : Thread Cert.PackRefIdeal.nD Cert.PackRefIdeal.τ).loc Cert.PackRefIdeal.main_arg11)
          ∧ r.2.mem ((c.tc : Thread Cert.PackRefIdeal.nD Cert.PackRefIdeal.τ).loc Cert.PackRefIdeal.main_arg12) = m' ((c.tc : Thread Cert.PackRefIdeal.nD Cert.PackRefIdeal.τ).loc Cert.PackRefIdeal.main_arg12)
          ∧ r.2.mem ((c.tc : Thread Cert.PackRefIdeal.nD Cert.PackRefIdeal.τ).loc Cert.PackRefIdeal.main_arg13) = m' ((c.tc : Thread Cert.PackRefIdeal.nD Cert.PackRefIdeal.τ).loc Cert.PackRefIdeal.main_arg13))

def Claim : Prop :=
  ∃ (hBwdIn : Cert.BwdIn.Facts) (hBwdInIdeal : Cert.BwdInIdeal.Facts) (hBwdInRefIdeal : Cert.BwdInRefIdeal.Facts) (hMixerBwd : Cert.MixerBwd.Facts) (hMixerBwdIdeal : Cert.MixerBwdIdeal.Facts) (hMixerBwdRefIdeal : Cert.MixerBwdRefIdeal.Facts) (hFfnFwd : Cert.FfnFwd.Facts) (hFfnFwdIdeal : Cert.FfnFwdIdeal.Facts) (hFfnFwdRefIdeal : Cert.FfnFwdRefIdeal.Facts) (hFfnBwd : Cert.FfnBwd.Facts) (hFfnBwdIdeal : Cert.FfnBwdIdeal.Facts) (hFfnBwdRefIdeal : Cert.FfnBwdRefIdeal.Facts) (hBwdOut : Cert.BwdOut.Facts) (hBwdOutIdeal : Cert.BwdOutIdeal.Facts) (hBwdOutRefIdeal : Cert.BwdOutRefIdeal.Facts) (hFwdIn : Cert.FwdIn.Facts) (hFwdInIdeal : Cert.FwdInIdeal.Facts) (hFwdInRefIdeal : Cert.FwdInRefIdeal.Facts) (hFwdOut : Cert.FwdOut.Facts) (hFwdOutIdeal : Cert.FwdOutIdeal.Facts) (hFwdOutRefIdeal : Cert.FwdOutRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamGain : Cert.AdamGain.Facts) (hAdamGainIdeal : Cert.AdamGainIdeal.Facts) (hAdamGainRefIdeal : Cert.AdamGainRefIdeal.Facts) (hPack : Cert.Pack.Facts) (hPackIdeal : Cert.PackIdeal.Facts) (hPackRefIdeal : Cert.PackRefIdeal.Facts) (hPre_in_finite : Cert.Pre_in_finite.Facts) (hPre_ffn_finite : Cert.Pre_ffn_finite.Facts) (hPre_ffb_finite : Cert.Pre_ffb_finite.Facts) (hPre_out_finite : Cert.Pre_out_finite.Facts),
    quiescent_BwdIn (hBwdIn := hBwdIn)
    ∧ quiescent_BwdInIdeal (hBwdInIdeal := hBwdInIdeal)
    ∧ quiescent_BwdInIdeal_pre_in_finite (hBwdInIdeal := hBwdInIdeal) (hPre_in_finite := hPre_in_finite)
    ∧ quiescent_BwdInRefIdeal (hBwdInRefIdeal := hBwdInRefIdeal)
    ∧ quiescent_BwdInRefIdeal_pre_in_finite (hBwdInRefIdeal := hBwdInRefIdeal) (hPre_in_finite := hPre_in_finite)
    ∧ quiescent_MixerBwd (hMixerBwd := hMixerBwd)
    ∧ quiescent_MixerBwdIdeal (hMixerBwdIdeal := hMixerBwdIdeal)
    ∧ quiescent_MixerBwdRefIdeal (hMixerBwdRefIdeal := hMixerBwdRefIdeal)
    ∧ quiescent_FfnFwd (hFfnFwd := hFfnFwd)
    ∧ quiescent_FfnFwdIdeal (hFfnFwdIdeal := hFfnFwdIdeal)
    ∧ quiescent_FfnFwdIdeal_pre_ffn_finite (hFfnFwdIdeal := hFfnFwdIdeal) (hPre_ffn_finite := hPre_ffn_finite)
    ∧ quiescent_FfnFwdRefIdeal (hFfnFwdRefIdeal := hFfnFwdRefIdeal)
    ∧ quiescent_FfnFwdRefIdeal_pre_ffn_finite (hFfnFwdRefIdeal := hFfnFwdRefIdeal) (hPre_ffn_finite := hPre_ffn_finite)
    ∧ quiescent_FfnBwd (hFfnBwd := hFfnBwd)
    ∧ quiescent_FfnBwdIdeal (hFfnBwdIdeal := hFfnBwdIdeal)
    ∧ quiescent_FfnBwdIdeal_pre_ffb_finite (hFfnBwdIdeal := hFfnBwdIdeal) (hPre_ffb_finite := hPre_ffb_finite)
    ∧ quiescent_FfnBwdRefIdeal (hFfnBwdRefIdeal := hFfnBwdRefIdeal)
    ∧ quiescent_FfnBwdRefIdeal_pre_ffb_finite (hFfnBwdRefIdeal := hFfnBwdRefIdeal) (hPre_ffb_finite := hPre_ffb_finite)
    ∧ quiescent_BwdOut (hBwdOut := hBwdOut)
    ∧ quiescent_BwdOutIdeal (hBwdOutIdeal := hBwdOutIdeal)
    ∧ quiescent_BwdOutIdeal_pre_out_finite (hBwdOutIdeal := hBwdOutIdeal) (hPre_out_finite := hPre_out_finite)
    ∧ quiescent_BwdOutRefIdeal (hBwdOutRefIdeal := hBwdOutRefIdeal)
    ∧ quiescent_BwdOutRefIdeal_pre_out_finite (hBwdOutRefIdeal := hBwdOutRefIdeal) (hPre_out_finite := hPre_out_finite)
    ∧ quiescent_FwdIn (hFwdIn := hFwdIn)
    ∧ quiescent_FwdInIdeal (hFwdInIdeal := hFwdInIdeal)
    ∧ quiescent_FwdInRefIdeal (hFwdInRefIdeal := hFwdInRefIdeal)
    ∧ quiescent_FwdOut (hFwdOut := hFwdOut)
    ∧ quiescent_FwdOutIdeal (hFwdOutIdeal := hFwdOutIdeal)
    ∧ quiescent_FwdOutRefIdeal (hFwdOutRefIdeal := hFwdOutRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamGain (hAdamGain := hAdamGain)
    ∧ quiescent_AdamGainIdeal (hAdamGainIdeal := hAdamGainIdeal)
    ∧ quiescent_AdamGainRefIdeal (hAdamGainRefIdeal := hAdamGainRefIdeal)
    ∧ quiescent_Pack (hPack := hPack)
    ∧ quiescent_PackIdeal (hPackIdeal := hPackIdeal)
    ∧ quiescent_PackRefIdeal (hPackRefIdeal := hPackRefIdeal)
    ∧ preserves_BwdIn_BwdInIdeal
    ∧ algebraic_BwdInIdeal_BwdInRefIdeal_pre_in_finite (hBwdInIdeal := hBwdInIdeal) (hBwdInRefIdeal := hBwdInRefIdeal) (hPre_in_finite := hPre_in_finite)
    ∧ preserves_MixerBwd_MixerBwdIdeal
    ∧ preserves_FfnFwd_FfnFwdIdeal
    ∧ algebraic_FfnFwdIdeal_FfnFwdRefIdeal_pre_ffn_finite (hFfnFwdIdeal := hFfnFwdIdeal) (hFfnFwdRefIdeal := hFfnFwdRefIdeal) (hPre_ffn_finite := hPre_ffn_finite)
    ∧ preserves_FfnBwd_FfnBwdIdeal
    ∧ algebraic_FfnBwdIdeal_FfnBwdRefIdeal_pre_ffb_finite (hFfnBwdIdeal := hFfnBwdIdeal) (hFfnBwdRefIdeal := hFfnBwdRefIdeal) (hPre_ffb_finite := hPre_ffb_finite)
    ∧ preserves_BwdOut_BwdOutIdeal
    ∧ algebraic_BwdOutIdeal_BwdOutRefIdeal_pre_out_finite (hBwdOutIdeal := hBwdOutIdeal) (hBwdOutRefIdeal := hBwdOutRefIdeal) (hPre_out_finite := hPre_out_finite)
    ∧ preserves_FwdIn_FwdInIdeal
    ∧ algebraic_FwdInIdeal_FwdInRefIdeal (hFwdInIdeal := hFwdInIdeal) (hFwdInRefIdeal := hFwdInRefIdeal)
    ∧ preserves_FwdOut_FwdOutIdeal
    ∧ algebraic_FwdOutIdeal_FwdOutRefIdeal (hFwdOutIdeal := hFwdOutIdeal) (hFwdOutRefIdeal := hFwdOutRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamGain_AdamGainIdeal
    ∧ algebraic_AdamGainIdeal_AdamGainRefIdeal (hAdamGainIdeal := hAdamGainIdeal) (hAdamGainRefIdeal := hAdamGainRefIdeal)
    ∧ preserves_Pack_PackIdeal
    ∧ algebraic_PackIdeal_PackRefIdeal (hPackIdeal := hPackIdeal) (hPackRefIdeal := hPackRefIdeal)
-- ==== Pre_ffb_finite.lean ====
abbrev S1x4096x1024 : Shape := ⟨3, ![1, 4096, 1024]⟩
abbrev S1x1024x2816 : Shape := ⟨3, ![1, 1024, 2816]⟩
abbrev S1x2816x1024 : Shape := ⟨3, ![1, 2816, 1024]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1x1024x2816 : S_.BroadcastsInDim S1x1024x2816 (![] : Fin 0 → Fin S1x1024x2816.rank)
  reducesTo_S1x1024x2816_S_d0_1_2 : S1x1024x2816.ReducesTo [0, 1, 2] S_
  bcast_S_S1x2816x1024 : S_.BroadcastsInDim S1x2816x1024 (![] : Fin 0 → Fin S1x2816x1024.rank)
  reducesTo_S1x2816x1024_S_d0_1_2 : S1x2816x1024.ReducesTo [0, 1, 2] S_

variable [Facts]

def fn_part1 {F : FTy → Type} [FloatOps F] (main_arg4 : FVec F S1x4096x1024 .f32) (main_v13 : IVec S_ 1) (main_v16 : IVec S1x2816x1024 1) : IVec S_ 1 :=
  let main_c_5 : IVec S_ 1 := constantI S_ 1 1#1
  let main_v17 : IVec S_ 1 := (fun x v => Host.reduce IntOp.andi x v reducesTo_S1x2816x1024_S_d0_1_2 h_S_) main_v16 main_c_5
  let main_v18 : IVec S_ 1 := andi main_v13 main_v17
  let main_v19 : FVec F S1x4096x1024 .f32 := Host.absf main_arg4
  let main_cst_6 : FVec F S_ .f32 := constant S_ .f32 0x7F800000#32
  let main_v20 : FVec F S1x4096x1024 .f32 := broadcastInDim S1x4096x1024 ![] bcast_S_S1x4096x1024 main_cst_6
  let main_v21 : IVec S1x4096x1024 1 := cmpf .olt main_v19 main_v20
  let main_c_7 : IVec S_ 1 := constantI S_ 1 1#1
  let main_v22 : IVec S_ 1 := (fun x v => Host.reduce IntOp.andi x v reducesTo_S1x4096x1024_S_d0_1_2 h_S_) main_v21 main_c_7
  let main_v23 : IVec S_ 1 := andi main_v18 main_v22
  main_v23

def fn {F : FTy → Type} [FloatOps F] (main_arg0 : FVec F S1x4096x1024 .f32) (main_arg1 : FVec F S1x1024x2816 .f32) (main_arg2 : FVec F S1x1024x2816 .f32) (main_arg3 : FVec F S1x2816x1024 .f32) (main_arg4 : FVec F S1x4096x1024 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1x1024x2816 .f32 := Host.absf main_arg1
  let main_cst_0 : FVec F S_ .f32 := constant S_ .f32 0x7F800000#32
  let main_v5 : FVec F S1x1024x2816 .f32 := broadcastInDim S1x1024x2816 ![] bcast_S_S1x1024x2816 main_cst_0
  let main_v6 : IVec S1x1024x2816 1 := cmpf .olt main_v4 main_v5
  let main_c_1 : IVec S_ 1 := constantI S_ 1 1#1
  let main_v7 : IVec S_ 1 := (fun x v => Host.reduce IntOp.andi x v reducesTo_S1x1024x2816_S_d0_1_2 h_S_) main_v6 main_c_1
  let main_v8 : IVec S_ 1 := andi main_v3 main_v7
  let main_v9 : FVec F S1x1024x2816 .f32 := Host.absf main_arg2
  let main_cst_2 : FVec F S_ .f32 := constant S_ .f32 0x7F800000#32
  let main_v10 : FVec F S1x1024x2816 .f32 := broadcastInDim S1x1024x2816 ![] bcast_S_S1x1024x2816 main_cst_2
  let main_v11 : IVec S1x1024x2816 1 := cmpf .olt main_v9 main_v10
  let main_c_3 : IVec S_ 1 := constantI S_ 1 1#1
  let main_v12 : IVec S_ 1 := (fun x v => Host.reduce IntOp.andi x v reducesTo_S1x1024x2816_S_d0_1_2 h_S_) main_v11 main_c_3
  let main_v13 : IVec S_ 1 := andi main_v8 main_v12
  let main_v14 : FVec F S1x2816x1024 .f32 := Host.absf main_arg3
  let main_cst_4 : FVec F S_ .f32 := constant S_ .f32 0x7F800000#32
  let main_v15 : FVec F S1x2816x1024 .f32 := broadcastInDim S1x2816x1024 ![] bcast_S_S1x2816x1024 main_cst_4
  let main_v16 : IVec S1x2816x1024 1 := cmpf .olt main_v14 main_v15
  fn_part1 (F := F) main_arg4 main_v13 main_v16
-- ==== Pre_ffn_finite.lean ====
abbrev S1x4096x1024 : Shape := ⟨3, ![1, 4096, 1024]⟩
abbrev S1024 : Shape := ⟨1, ![1024]⟩
abbrev S1x1024x2816 : Shape := ⟨3, ![1, 1024, 2816]⟩
abbrev S1x2816x1024 : Shape := ⟨3, ![1, 2816, 1024]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1x1024x2816 : S_.BroadcastsInDim S1x1024x2816 (![] : Fin 0 → Fin S1x1024x2816.rank)
  reducesTo_S1x1024x2816_S_d0_1_2 : S1x1024x2816.ReducesTo [0, 1, 2] S_
  bcast_S_S1x2816x1024 : S_.BroadcastsInDim S1x2816x1024 (![] : Fin 0 → Fin S1x2816x1024.rank)
  reducesTo_S1x2816x1024_S_d0_1_2 : S1x2816x1024.ReducesTo [0, 1, 2] S_

variable [Facts]

def fn_part1 {F : FTy → Type} [FloatOps F] (main_arg4 : FVec F S1x1024x2816 .f32) (main_arg5 : FVec F S1x1024x2816 .f32) (main_arg6 : FVec F S1x2816x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1x1024x2816 .f32 := Host.absf main_arg4
  let main_cst_6 : FVec F S_ .f32 := constant S_ .f32 0x7F800000#32
  let main_v20 : FVec F S1x1024x2816 .f32 := broadcastInDim S1x1024x2816 ![] bcast_S_S1x1024x2816 main_cst_6
  let main_v21 : IVec S1x1024x2816 1 := cmpf .olt main_v19 main_v20
  let main_c_7 : IVec S_ 1 := constantI S_ 1 1#1
  let main_v22 : IVec S_ 1 := (fun x v => Host.reduce IntOp.andi x v reducesTo_S1x1024x2816_S_d0_1_2 h_S_) main_v21 main_c_7
  let main_v23 : IVec S_ 1 := andi main_v18 main_v22
  let main_v24 : FVec F S1x1024x2816 .f32 := Host.absf main_arg5
  let main_cst_8 : FVec F S_ .f32 := constant S_ .f32 0x7F800000#32
  let main_v25 : FVec F S1x1024x2816 .f32 := broadcastInDim S1x1024x2816 ![] bcast_S_S1x1024x2816 main_cst_8
  let main_v26 : IVec S1x1024x2816 1 := cmpf .olt main_v24 main_v25
  let main_c_9 : IVec S_ 1 := constantI S_ 1 1#1
  let main_v27 : IVec S_ 1 := (fun x v => Host.reduce IntOp.andi x v reducesTo_S1x1024x2816_S_d0_1_2 h_S_) main_v26 main_c_9
  let main_v28 : IVec S_ 1 := andi main_v23 main_v27
  let main_v29 : FVec F S1x2816x1024 .f32 := Host.absf main_arg6
  let main_cst_10 : FVec F S_ .f32 := constant S_ .f32 0x7F800000#32
  let main_v30 : FVec F S1x2816x1024 .f32 := broadcastInDim S1x2816x1024 ![] bcast_S_S1x2816x1024 main_cst_10
  let main_v31 : IVec S1x2816x1024 1 := cmpf .olt main_v29 main_v30
  let main_c_11 : IVec S_ 1 := constantI S_ 1 1#1
  let main_v32 : IVec S_ 1 := (fun x v => Host.reduce IntOp.andi x v reducesTo_S1x2816x1024_S_d0_1_2 h_S_) main_v31 main_c_11
  let main_v33 : IVec S_ 1 := andi main_v28 main_v32
  main_v33

def fn {F : FTy → Type} [FloatOps F] (main_arg0 : FVec F S1x4096x1024 .f32) (main_arg1 : FVec F S1x4096x1024 .f32) (main_arg2 : FVec F S1x4096x1024 .f32) (main_arg3 : FVec F S1024 .f32) (main_arg4 : FVec F S1x1024x2816 .f32) (main_arg5 : FVec F S1x1024x2816 .f32) (main_arg6 : FVec F S1x2816x1024 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1x4096x1024 .f32 := Host.absf main_arg1
  let main_cst_0 : FVec F S_ .f32 := constant S_ .f32 0x7F800000#32
  let main_v5 : FVec F S1x4096x1024 .f32 := broadcastInDim S1x4096x1024 ![] bcast_S_S1x4096x1024 main_cst_0
  let main_v6 : IVec S1x4096x1024 1 := cmpf .olt main_v4 main_v5
  let main_c_1 : IVec S_ 1 := constantI S_ 1 1#1
  let main_v7 : IVec S_ 1 := (fun x v => Host.reduce IntOp.andi x v reducesTo_S1x4096x1024_S_d0_1_2 h_S_) main_v6 main_c_1
  let main_v8 : IVec S_ 1 := andi main_v3 main_v7
  let main_v9 : FVec F S1x4096x1024 .f32 := Host.absf main_arg2
  let main_cst_2 : FVec F S_ .f32 := constant S_ .f32 0x7F800000#32
  let main_v10 : FVec F S1x4096x1024 .f32 := broadcastInDim S1x4096x1024 ![] bcast_S_S1x4096x1024 main_cst_2
  let main_v11 : IVec S1x4096x1024 1 := cmpf .olt main_v9 main_v10
  let main_c_3 : IVec S_ 1 := constantI S_ 1 1#1
  let main_v12 : IVec S_ 1 := (fun x v => Host.reduce IntOp.andi x v reducesTo_S1x4096x1024_S_d0_1_2 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_v13 main_v16
-- ==== Pre_in_finite.lean ====
abbrev S1x4096x1024 : Shape := ⟨3, ![1, 4096, 1024]⟩
abbrev S1x1024 : Shape := ⟨2, ![1, 1024]⟩
abbrev S1x1024x1536 : Shape := ⟨3, ![1, 1024, 1536]⟩
abbrev S1x4096x1536 : Shape := ⟨3, ![1, 4096, 1536]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x1536 : S_.BroadcastsInDim S1x1024x1536 (![] : Fin 0 → Fin S1x1024x1536.rank)
  reducesTo_S1x1024x1536_S_d0_1_2 : S1x1024x1536.ReducesTo [0, 1, 2] S_
  bcast_S_S1x4096x1536 : S_.BroadcastsInDim S1x4096x1536 (![] : Fin 0 → Fin S1x4096x1536.rank)
  reducesTo_S1x4096x1536_S_d0_1_2 : S1x4096x1536.ReducesTo [0, 1, 2] S_

variable [Facts]

def fn_part1 {F : FTy → Type} [FloatOps F] (main_v13 : IVec S_ 1) (main_v16 : IVec S1x4096x1536 1) : IVec S_ 1 :=
  let main_c_5 : IVec S_ 1 := constantI S_ 1 1#1
  let main_v17 : IVec S_ 1 := (fun x v => Host.reduce IntOp.andi x v reducesTo_S1x4096x1536_S_d0_1_2 h_S_) main_v16 main_c_5
  let main_v18 : IVec S_ 1 := andi main_v13 main_v17
  main_v18

def fn {F : FTy → Type} [FloatOps F] (main_arg0 : FVec F S1x4096x1024 .f32) (main_arg1 : FVec F S1x1024 .f32) (main_arg2 : FVec F S1x1024x1536 .f32) (main_arg3 : FVec F S1x4096x1024 .f32) (main_arg4 : FVec F S1x4096x1536 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x1536 .f32 := Host.absf main_arg2
  let main_cst_2 : FVec F S_ .f32 := constant S_ .f32 0x7F800000#32
  let main_v10 : FVec F S1x1024x1536 .f32 := broadcastInDim S1x1024x1536 ![] bcast_S_S1x1024x1536 main_cst_2
  let main_v11 : IVec S1x1024x1536 1 := cmpf .olt main_v9 main_v10
  let main_c_3 : IVec S_ 1 := constantI S_ 1 1#1
  let main_v12 : IVec S_ 1 := (fun x v => Host.reduce IntOp.andi x v reducesTo_S1x1024x1536_S_d0_1_2 h_S_) main_v11 main_c_3
  let main_v13 : IVec S_ 1 := andi main_v8 main_v12
  let main_v14 : FVec F S1x4096x1536 .f32 := Host.absf main_arg4
  let main_cst_4 : FVec F S_ .f32 := constant S_ .f32 0x7F800000#32
  let main_v15 : FVec F S1x4096x1536 .f32 := broadcastInDim S1x4096x1536 ![] bcast_S_S1x4096x1536 main_cst_4
  let main_v16 : IVec S1x4096x1536 1 := cmpf .olt main_v14 main_v15
  fn_part1 (F := F) main_v13 main_v16
-- ==== Pre_out_finite.lean ====
abbrev S1x4096x1024 : Shape := ⟨3, ![1, 4096, 1024]⟩
abbrev S1x4096x512 : Shape := ⟨3, ![1, 4096, 512]⟩
abbrev S1x512 : Shape := ⟨2, ![1, 512]⟩
abbrev S1x1024x1024 : Shape := ⟨3, ![1, 1024, 1024]⟩
abbrev S1x1024 : Shape := ⟨2, ![1, 1024]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1x4096x512 : S_.BroadcastsInDim S1x4096x512 (![] : Fin 0 → Fin S1x4096x512.rank)
  reducesTo_S1x4096x512_S_d0_1_2 : S1x4096x512.ReducesTo [0, 1, 2] S_
  bcast_S_S1x512 : S_.BroadcastsInDim S1x512 (![] : Fin 0 → Fin S1x512.rank)
  reducesTo_S1x512_S_d0_1 : S1x512.ReducesTo [0, 1] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_arg7 : FVec F S1x4096x1024 .f32) (main_arg8 : FVec F S1x4096x1024 .f32) (main_v33 : IVec S_ 1) : IVec S_ 1 :=
  let main_v34 : FVec F S1x4096x1024 .f32 := Host.absf main_arg7
  let main_cst_12 : FVec F S_ .f32 := constant S_ .f32 0x7F800000#32
  let main_v35 : FVec F S1x4096x1024 .f32 := broadcastInDim S1x4096x1024 ![] bcast_S_S1x4096x1024 main_cst_12
  let main_v36 : IVec S1x4096x1024 1 := cmpf .olt main_v34 main_v35
  let main_c_13 : IVec S_ 1 := constantI S_ 1 1#1
  let main_v37 : IVec S_ 1 := (fun x v => Host.reduce IntOp.andi x v reducesTo_S1x4096x1024_S_d0_1_2 h_S_) main_v36 main_c_13
  let main_v38 : IVec S_ 1 := andi main_v33 main_v37
  let main_v39 : FVec F S1x4096x1024 .f32 := Host.absf main_arg8
  let main_cst_14 : FVec F S_ .f32 := constant S_ .f32 0x7F800000#32
  let main_v40 : FVec F S1x4096x1024 .f32 := broadcastInDim S1x4096x1024 ![] bcast_S_S1x4096x1024 main_cst_14
  let main_v41 : IVec S1x4096x1024 1 := cmpf .olt main_v39 main_v40
  let main_c_15 : IVec S_ 1 := constantI S_ 1 1#1
  let main_v42 : IVec S_ 1 := (fun x v => Host.reduce IntOp.andi x v reducesTo_S1x4096x1024_S_d0_1_2 h_S_) main_v41 main_c_15
  let main_v43 : IVec S_ 1 := andi main_v38 main_v42
  main_v43

def fn_part1 {F : FTy → Type} [FloatOps F] (main_arg4 : FVec F S1x512 .f32) (main_arg5 : FVec F S1x1024x1024 .f32) (main_arg6 : FVec F S1x1024 .f32) (main_arg7 : FVec F S1x4096x1024 .f32) (main_arg8 : FVec F S1x4096x1024 .f32) (main_v13 : IVec S_ 1) (main_v16 : IVec S1x512 1) : IVec S_ 1 :=
  let main_c_5 : IVec S_ 1 := constantI S_ 1 1#1
  let main_v17 : IVec S_ 1 := (fun x v => Host.reduce IntOp.andi x v reducesTo_S1x512_S_d0_1 h_S_) main_v16 main_c_5
  let main_v18 : IVec S_ 1 := andi main_v13 main_v17
  let main_v19 : FVec F S1x512 .f32 := Host.absf main_arg4
  let main_cst_6 : FVec F S_ .f32 := constant S_ .f32 0x7F800000#32
  let main_v20 : FVec F S1x512 .f32 := broadcastInDim S1x512 ![] bcast_S_S1x512 main_cst_6
  let main_v21 : IVec S1x512 1 := cmpf .olt main_v19 main_v20
  let main_c_7 : IVec S_ 1 := constantI S_ 1 1#1
  let main_v22 : IVec S_ 1 := (fun x v => Host.reduce IntOp.andi x v reducesTo_S1x512_S_d0_1 h_S_) main_v21 main_c_7
  let main_v23 : IVec S_ 1 := andi main_v18 main_v22
  let main_v24 : FVec F S1x1024x1024 .f32 := Host.absf main_arg5
  let main_cst_8 : FVec F S_ .f32 := constant S_ .f32 0x7F800000#32
  let main_v25 : FVec F S1x1024x1024 .f32 := broadcastInDim S1x1024x1024 ![] bcast_S_S1x1024x1024 main_cst_8
  let main_v26 : IVec S1x1024x1024 1 := cmpf .olt main_v24 main_v25
  let main_c_9 : IVec S_ 1 := constantI S_ 1 1#1
  let main_v27 : IVec S_ 1 := (fun x v => Host.reduce IntOp.andi x v reducesTo_S1x1024x1024_S_d0_1_2 h_S_) main_v26 main_c_9
  let main_v28 : IVec S_ 1 := andi main_v23 main_v27
  let main_v29 : FVec F S1x1024 .f32 := Host.absf main_arg6
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : IVec S_ 1 := andi main_v28 main_v32
  fn_part2 (F := F) main_arg7 main_arg8 main_v33

def fn {F : FTy → Type} [FloatOps F] (main_arg0 : FVec F S1x4096x1024 .f32) (main_arg1 : FVec F S1x4096x512 .f32) (main_arg2 : FVec F S1x4096x512 .f32) (main_arg3 : FVec F S1x512 .f32) (main_arg4 : FVec F S1x512 .f32) (main_arg5 : FVec F S1x1024x1024 .f32) (main_arg6 : FVec F S1x1024 .f32) (main_arg7 : FVec F S1x4096x1024 .f32) (main_arg8 : FVec F S1x4096x1024 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1x4096x512 .f32 := Host.absf main_arg1
  let main_cst_0 : FVec F S_ .f32 := constant S_ .f32 0x7F800000#32
  let main_v5 : FVec F S1x4096x512 .f32 := broadcastInDim S1x4096x512 ![] bcast_S_S1x4096x512 main_cst_0
  let main_v6 : IVec S1x4096x512 1 := cmpf .olt main_v4 main_v5
  let main_c_1 : IVec S_ 1 := constantI S_ 1 1#1
  let main_v7 : IVec S_ 1 := (fun x v => Host.reduce IntOp.andi x v reducesTo_S1x4096x512_S_d0_1_2 h_S_) main_v6 main_c_1
  let main_v8 : IVec S_ 1 := andi main_v3 main_v7
  let main_v9 : FVec F S1x4096x512 .f32 := Host.absf main_arg2
  let main_cst_2 : FVec F S_ .f32 := constant S_ .f32 0x7F800000#32
  let main_v10 : FVec F S1x4096x512 .f32 := broadcastInDim S1x4096x512 ![] bcast_S_S1x4096x512 main_cst_2
  let main_v11 : IVec S1x4096x512 1 := cmpf .olt main_v9 main_v10
  let main_c_3 : IVec S_ 1 := constantI S_ 1 1#1
  let main_v12 : IVec S_ 1 := (fun x v => Host.reduce IntOp.andi x v reducesTo_S1x4096x512_S_d0_1_2 h_S_) main_v11 main_c_3
  let main_v13 : IVec S_ 1 := andi main_v8 main_v12
  let main_v14 : FVec F S1x512 .f32 := Host.absf main_arg3
  let main_cst_4 : FVec F S_ .f32 := constant S_ .f32 0x7F800000#32
  let main_v15 : FVec F S1x512 .f32 := broadcastInDim S1x512 ![] bcast_S_S1x512 main_cst_4
  let main_v16 : IVec S1x512 1 := cmpf .olt main_v14 main_v15
  fn_part1 (F := F) main_arg4 main_arg5 main_arg6 main_arg7 main_arg8 main_v13 main_v16
-- ==== BwdIn.lean ====
abbrev S1x4096x1024 : Shape := ⟨3, ![1, 4096, 1024]⟩
abbrev S1x1024 : Shape := ⟨2, ![1, 1024]⟩
abbrev S1x1024x1536 : Shape := ⟨3, ![1, 1024, 1536]⟩
abbrev S1x4096x1536 : Shape := ⟨3, ![1, 4096, 1536]⟩
abbrev S1x4096x512 : Shape := ⟨3, ![1, 4096, 512]⟩
abbrev S4096x512 : Shape := ⟨2, ![4096, 512]⟩
abbrev S4096x4x128 : Shape := ⟨3, ![4096, 4, 128]⟩
abbrev S4x4096x128 : Shape := ⟨3, ![4, 4096, 128]⟩
abbrev S4096x1024 : Shape := ⟨2, ![4096, 1024]⟩
abbrev S1024x1536 : Shape := ⟨2, ![1024, 1536]⟩
abbrev S1536x1024 : Shape := ⟨2, ![1536, 1024]⟩
abbrev S_ : Shape := ⟨0, ![]⟩
abbrev S8x128 : Shape := ⟨2, ![8, 128]⟩
abbrev S512x1024 : Shape := ⟨2, ![512, 1024]⟩
abbrev S4x512x128 : Shape := ⟨3, ![4, 512, 128]⟩
abbrev S512 : Shape := ⟨1, ![512]⟩
abbrev S512x1 : Shape := ⟨2, ![512, 1]⟩
abbrev S1x512x128 : Shape := ⟨3, ![1, 512, 128]⟩
abbrev S512x128 : Shape := ⟨2, ![512, 128]⟩
abbrev S512x512 : Shape := ⟨2, ![512, 512]⟩
abbrev S512x1536 : Shape := ⟨2, ![512, 1536]⟩
abbrev S1024 : Shape := ⟨1, ![1024]⟩

abbrev nBuf : Space → Nat
  | .hbm => 30
  | .vmem => 17
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x1536, .f32⟩
  | .hbm, ⟨3, _⟩ => ⟨S1x4096x1024, .f32⟩
  | .hbm, ⟨4, _⟩ => ⟨S1x4096x1536, .f32⟩
  | .hbm, ⟨5, _⟩ => ⟨S1x4096x512, .f32⟩
  | .hbm, ⟨6, _⟩ => ⟨S4096x512, .f32⟩
  | .hbm, ⟨7, _⟩ => ⟨S4096x512, .bf16⟩
  | .hbm, ⟨8, _⟩ => ⟨S4096x4x128, .bf16⟩
  | .hbm, ⟨9, _⟩ => ⟨S4x4096x128, .bf16⟩
  | .hbm, ⟨10, _⟩ => ⟨S1x4096x512, .f32⟩
  | .hbm, ⟨11, _⟩ => ⟨S4096x512, .f32⟩
  | .hbm, ⟨12, _⟩ => ⟨S4096x512, .bf16⟩
  | .hbm, ⟨13, _⟩ => ⟨S4096x4x128, .bf16⟩
  | .hbm, ⟨14, _⟩ => ⟨S4x4096x128, .bf16⟩
  | .hbm, ⟨15, _⟩ => ⟨S1x4096x512, .f32⟩
  | .hbm, ⟨16, _⟩ => ⟨S4096x512, .f32⟩
  | .hbm, ⟨17, _⟩ => ⟨S4096x512, .bf16⟩
  | .hbm, ⟨18, _⟩ => ⟨S4096x4x128, .bf16⟩
  | .hbm, ⟨19, _⟩ => ⟨S4x4096x128, .bf16⟩
  | .hbm, ⟨20, _⟩ => ⟨S4096x1024, .f32⟩
  | .hbm, ⟨21, _⟩ => ⟨S4096x1024, .f32⟩
  | .hbm, ⟨22, _⟩ => ⟨S1024x1536, .f32⟩
  | .hbm, ⟨23, _⟩ => ⟨S1024x1536, .bf16⟩
  | .hbm, ⟨24, _⟩ => ⟨S1536x1024, .bf16⟩
  | .hbm, ⟨25, _⟩ => ⟨S_, .f32⟩
  | .hbm, ⟨26, _⟩ => ⟨S8x128, .f32⟩
  | .hbm, ⟨27, _⟩ => ⟨S4096x1024, .f32⟩
  | .hbm, ⟨28, _⟩ => ⟨S1536x1024, .bf16⟩
  | .hbm, ⟨29, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S4x512x128, .bf16⟩
  | .local _ .vmem, ⟨5, _⟩ => ⟨S4x512x128, .bf16⟩
  | .local _ .vmem, ⟨6, _⟩ => ⟨S4x512x128, .bf16⟩
  | .local _ .vmem, ⟨7, _⟩ => ⟨S4x512x128, .bf16⟩
  | .local _ .vmem, ⟨8, _⟩ => ⟨S4x512x128, .bf16⟩
  | .local _ .vmem, ⟨9, _⟩ => ⟨S4x512x128, .bf16⟩
  | .local _ .vmem, ⟨10, _⟩ => ⟨S1x1024, .f32⟩
  | .local _ .vmem, ⟨11, _⟩ => ⟨S1536x1024, .bf16⟩
  | .local _ .vmem, ⟨12, _⟩ => ⟨S512x1024, .f32⟩
  | .local _ .vmem, ⟨13, _⟩ => ⟨S512x1024, .f32⟩
  | .local _ .vmem, ⟨14, _⟩ => ⟨S1536x1024, .bf16⟩
  | .local _ .vmem, ⟨15, _⟩ => ⟨S1x1024, .f32⟩
  | .local _ .vmem, ⟨16, _⟩ => ⟨S1536x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst : Ref sig .tc := ⟨.hbm, 25, rfl⟩
abbrev main_v20 : Ref sig .tc := ⟨.hbm, 26, rfl⟩
abbrev main_v21_0 : Ref sig .tc := ⟨.hbm, 27, rfl⟩
abbrev main_v21_1 : Ref sig .tc := ⟨.hbm, 28, rfl⟩
abbrev main_v21_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v81 : BitVec 1 := Scalar.cmpi .eq arg0 c7_i32
  let v82 : BitVec 32 := Scalar.extui v81
  let c0_i32_58 : BitVec 32 := 0#32
  let v83 : BitVec 1 := Scalar.cmpi .ne v82 c0_i32_58
  v83

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1536x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1536x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== BwdInRefIdeal.lean ====
abbrev S1x4096x1024 : Shape := ⟨3, ![1, 4096, 1024]⟩
abbrev S1x1024 : Shape := ⟨2, ![1, 1024]⟩
abbrev S1x1024x1536 : Shape := ⟨3, ![1, 1024, 1536]⟩
abbrev S1x4096x1536 : Shape := ⟨3, ![1, 4096, 1536]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1024x1536 : Shape := ⟨2, ![1024, 1536]⟩
abbrev S1536x1024 : Shape := ⟨2, ![1536, 1024]⟩
abbrev S4096 : Shape := ⟨1, ![4096]⟩
abbrev S4096x1024 : Shape := ⟨2, ![4096, 1024]⟩

abbrev nBuf : Space → Nat
  | .hbm => 64
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x1536, .f32⟩
  | .hbm, ⟨3, _⟩ => ⟨S1x4096x1024, .f32⟩
  | .hbm, ⟨4, _⟩ => ⟨S1x4096x1536, .f32⟩
  | .hbm, ⟨5, _⟩ => ⟨S1024, .f32⟩
  | .hbm, ⟨6, _⟩ => ⟨S1x4096x1024, .f32⟩
  | .hbm, ⟨7, _⟩ => ⟨S_, .f32⟩
  | .hbm, ⟨8, _⟩ => ⟨S1x4096, .f32⟩
  | .hbm, ⟨9, _⟩ => ⟨S1x4096x1, .f32⟩
  | .hbm, ⟨10, _⟩ => ⟨S_, .f32⟩
  | .hbm, ⟨11, _⟩ => ⟨S1x4096x1, .f32⟩
  | .hbm, ⟨12, _⟩ => ⟨S1x4096x1, .f32⟩
  | .hbm, ⟨13, _⟩ => ⟨S_, .f32⟩
  | .hbm, ⟨14, _⟩ => ⟨S1x4096x1, .f32⟩
  | .hbm, ⟨15, _⟩ => ⟨S1x4096x1, .f32⟩
  | .hbm, ⟨16, _⟩ => ⟨S1x4096x1, .f32⟩
  | .hbm, ⟨17, _⟩ => ⟨S1x4096x1, .f32⟩
  | .hbm, ⟨18, _⟩ => ⟨S_, .f32⟩
  | .hbm, ⟨19, _⟩ => ⟨S1x4096x1, .f32⟩
  | .hbm, ⟨20, _⟩ => ⟨S1x4096x1, .f32⟩
  | .hbm, ⟨21, _⟩ => ⟨S1x4096x1024, .f32⟩
  | .hbm, ⟨22, _⟩ => ⟨S1x4096x1024, .f32⟩
  | .hbm, ⟨23, _⟩ => ⟨S1x1x1024, .f32⟩
  | .hbm, ⟨24, _⟩ => ⟨S1x4096x1024, .f32⟩
  | .hbm, ⟨25, _⟩ => ⟨S1x4096x1024, .f32⟩
  | .hbm, ⟨26, _⟩ => ⟨S1024x1536, .f32⟩
  | .hbm, ⟨27, _⟩ => ⟨S1x4096x1536, .f32⟩
  | .hbm, ⟨28, _⟩ => ⟨S1536x1024, .f32⟩
  | .hbm, ⟨29, _⟩ => ⟨S1024x1536, .f32⟩
  | .hbm, ⟨30, _⟩ => ⟨S1x4096x1024, .f32⟩
  | .hbm, ⟨31, _⟩ => ⟨S1x1024x1536, .f32⟩
  | .hbm, ⟨32, _⟩ => ⟨S1x4096x1024, .f32⟩
  | .hbm, ⟨33, _⟩ => ⟨S_, .f32⟩
  | .hbm, ⟨34, _⟩ => ⟨S1x1024, .f32⟩
  | .hbm, ⟨35, _⟩ => ⟨S1x1x1024, .f32⟩
  | .hbm, ⟨36, _⟩ => ⟨S1x4096x1024, .f32⟩
  | .hbm, ⟨37, _⟩ => ⟨S1x4096x1024, .f32⟩
  | .hbm, ⟨38, _⟩ => ⟨S_, .f32⟩
  | .hbm, ⟨39, _⟩ => ⟨S1024, .f32⟩
  | .hbm, ⟨40, _⟩ => ⟨S1x4096x1024, .f32⟩
  | .hbm, ⟨41, _⟩ => ⟨S_, .f32⟩
  | .hbm, ⟨42, _⟩ => ⟨S1x4096, .f32⟩
  | .hbm, ⟨43, _⟩ => ⟨S1x4096x1, .f32⟩
  | .hbm, ⟨44, _⟩ => ⟨S1x4096x1024, .f32⟩
  | .hbm, ⟨45, _⟩ => ⟨S1x4096x1024, .f32⟩
  | .hbm, ⟨46, _⟩ => ⟨S1x4096x1024, .f32⟩
  | .hbm, ⟨47, _⟩ => ⟨S1x4096x1, .f32⟩
  | .hbm, ⟨48, _⟩ => ⟨S_, .f32⟩
  | .hbm, ⟨49, _⟩ => ⟨S1x4096x1, .f32⟩
  | .hbm, ⟨50, _⟩ => ⟨S1x4096x1, .f32⟩
  | .hbm, ⟨51, _⟩ => ⟨S_, .f32⟩
  | .hbm, ⟨52, _⟩ => ⟨S4096, .f32⟩
  | .hbm, ⟨53, _⟩ => ⟨S1x4096, .f32⟩
  | .hbm, ⟨54, _⟩ => ⟨S1x4096x1024, .f32⟩
  | .hbm, ⟨55, _⟩ => ⟨S1x4096x1024, .f32⟩
  | .hbm, ⟨56, _⟩ => ⟨S1x4096x1024, .f32⟩
  | .hbm, ⟨57, _⟩ => ⟨S1x4096x1024, .f32⟩
  | .hbm, ⟨58, _⟩ => ⟨S1x4096x1024, .f32⟩
  | .hbm, ⟨59, _⟩ => ⟨S1x1024, .f32⟩
  | .hbm, ⟨60, _⟩ => ⟨S4096x1024, .f32⟩
  | .hbm, ⟨61, _⟩ => ⟨S1024x1536, .f32⟩
  | .hbm, ⟨62, _⟩ => ⟨S1536x1024, .f32⟩
  | .hbm, ⟨63, _⟩ => ⟨S1536x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩

abbrev nD : Nat := 1
abbrev τ : Topo := Topo.v7x

variable {F : FTy → Type} [FloatOps F]
-- ==== MixerBwd.lean ====
abbrev S1x4096x512 : Shape := ⟨3, ![1, 4096, 512]⟩
abbrev S1x4x128x128 : Shape := ⟨4, ![1, 4, 128, 128]⟩
abbrev S1x512 : Shape := ⟨2, ![1, 512]⟩
abbrev S1x4x512 : Shape := ⟨3, ![1, 4, 512]⟩
abbrev S1x8x64x64 : Shape := ⟨4, ![1, 8, 64, 64]⟩
abbrev S4x512 : Shape := ⟨2, ![4, 512]⟩
abbrev S512 : Shape := ⟨1, ![512]⟩
abbrev S_ : Shape := ⟨0, ![]⟩
abbrev S1x3x512 : Shape := ⟨3, ![1, 3, 512]⟩
abbrev S1x4093x512 : Shape := ⟨3, ![1, 4093, 512]⟩
abbrev S1x1x512 : Shape := ⟨3, ![1, 1, 512]⟩
abbrev S1x2x512 : Shape := ⟨3, ![1, 2, 512]⟩
abbrev S1x4094x512 : Shape := ⟨3, ![1, 4094, 512]⟩
abbrev S1x4095x512 : Shape := ⟨3, ![1, 4095, 512]⟩
abbrev S8x64x64 : Shape := ⟨3, ![8, 64, 64]⟩
abbrev S1x4096x8x64 : Shape := ⟨4, ![1, 4096, 8, 64]⟩
abbrev S8x64x1x4096 : Shape := ⟨4, ![8, 64, 1, 4096]⟩
abbrev S1x4092x512 : Shape := ⟨3, ![1, 4092, 512]⟩
abbrev S1x8x512 : Shape := ⟨3, ![1, 8, 512]⟩
abbrev S1x4088x512 : Shape := ⟨3, ![1, 4088, 512]⟩
abbrev S1x16x512 : Shape := ⟨3, ![1, 16, 512]⟩
abbrev S1x4080x512 : Shape := ⟨3, ![1, 4080, 512]⟩
abbrev S1x32x512 : Shape := ⟨3, ![1, 32, 512]⟩
abbrev S1x4064x512 : Shape := ⟨3, ![1, 4064, 512]⟩
abbrev S1x64x512 : Shape := ⟨3, ![1, 64, 512]⟩
abbrev S1x4032x512 : Shape := ⟨3, ![1, 4032, 512]⟩
abbrev S1x128x512 : Shape := ⟨3, ![1, 128, 512]⟩
abbrev S1x3968x512 : Shape := ⟨3, ![1, 3968, 512]⟩
abbrev S1x256x512 : Shape := ⟨3, ![1, 256, 512]⟩
abbrev S1x3840x512 : Shape := ⟨3, ![1, 3840, 512]⟩
abbrev S1x512x512 : Shape := ⟨3, ![1, 512, 512]⟩
abbrev S1x3584x512 : Shape := ⟨3, ![1, 3584, 512]⟩
abbrev S1x1024x512 : Shape := ⟨3, ![1, 1024, 512]⟩
abbrev S1x3072x512 : Shape := ⟨3, ![1, 3072, 512]⟩
abbrev S1x2048x512 : Shape := ⟨3, ![1, 2048, 512]⟩
abbrev S4096x512 : Shape := ⟨2, ![4096, 512]⟩
abbrev S4096x4x128 : Shape := ⟨3, ![4096, 4, 128]⟩
abbrev S4x4096x128 : Shape := ⟨3, ![4, 4096, 128]⟩
abbrev S4x128x128 : Shape := ⟨3, ![4, 128, 128]⟩
abbrev S4x64x64 : Shape := ⟨3, ![4, 64, 64]⟩
abbrev S4x2x64x64 : Shape := ⟨4, ![4, 2, 64, 64]⟩
abbrev S4x1x64x64 : Shape := ⟨4, ![4, 1, 64, 64]⟩
abbrev S4x64x128 : Shape := ⟨3, ![4, 64, 128]⟩
abbrev S8x128 : Shape := ⟨2, ![8, 128]⟩
abbrev S1x4096x128 : Shape := ⟨3, ![1, 4096, 128]⟩
abbrev S1x128x128 : Shape := ⟨3, ![1, 128, 128]⟩
abbrev S1x128 : Shape := ⟨2, ![1, 128]⟩
abbrev S4x128 : Shape := ⟨2, ![4, 128]⟩
abbrev S520x128 : Shape := ⟨2, ![520, 128]⟩
abbrev S528x128 : Shape := ⟨2, ![528, 128]⟩
abbrev S128x128 : Shape := ⟨2, ![128, 128]⟩
abbrev S512x128 : Shape := ⟨2, ![512, 128]⟩
abbrev S16x128 : Shape := ⟨2, ![16, 128]⟩
abbrev S1x528x128 : Shape := ⟨3, ![1, 528, 128]⟩
abbrev S1x512x128 : Shape := ⟨3, ![1, 512, 128]⟩
abbrev S128 : Shape := ⟨1, ![128]⟩

abbrev nBuf : Space → Nat
  | .hbm => 318
  | .vmem => 64
  | .smem => 0
  | _ => 0

abbrev hbmTy0_0 (i : Nat) : BufTy := match i % 128 with
  | 0 => ⟨S1x4096x512, .f32⟩
  | 1 => ⟨S1x4096x512, .f32⟩
  | 2 => ⟨S1x4096x512, .f32⟩
  | 3 => ⟨S1x4x128x128, .f32⟩
  | 4 => ⟨S1x512, .f32⟩
  | 5 => ⟨S1x4x512, .f32⟩
  | 6 => ⟨S1x512, .f32⟩
  | 7 => ⟨S1x8x64x64, .f32⟩
  | 8 => ⟨S1x512, .f32⟩
  | 9 => ⟨S1x8x64x64, .f32⟩
  | 10 => ⟨S1x512, .f32⟩
  | 11 => ⟨S1x512, .f32⟩
  | 12 => ⟨S1x4096x512, .f32⟩
  | 13 => ⟨S1x4096x512, .f32⟩
  | 14 => ⟨S4x512, .f32⟩
  | 15 => ⟨S512, .f32⟩
  | 16 => ⟨S_, .f32⟩
  | 17 => ⟨S1x4096x512, .f32⟩
  | 18 => ⟨S1x512, .f32⟩
  | 19 => ⟨S512, .f32⟩
  | 20 => ⟨S_, .f32⟩
  | 21 => ⟨S1x3x512, .f32⟩
  | 22 => ⟨S1x4093x512, .f32⟩
  | 23 => ⟨S1x4096x512, .f32⟩
  | 24 => ⟨S1x1x512, .f32⟩
  | 25 => ⟨S1x4096x512, .f32⟩
  | 26 => ⟨S1x4096x512, .f32⟩
  | 27 => ⟨S1x4096x512, .f32⟩
  | 28 => ⟨S1x512, .f32⟩
  | 29 => ⟨S512, .f32⟩
  | 30 => ⟨S_, .f32⟩
  | 31 => ⟨S1x2x512, .f32⟩
  | 32 => ⟨S1x4094x512, .f32⟩
  | 33 => ⟨S1x4096x512, .f32⟩
  | 34 => ⟨S1x1x512, .f32⟩
  | 35 => ⟨S1x4096x512, .f32⟩
  | 36 => ⟨S1x4096x512, .f32⟩
  | 37 => ⟨S1x4096x512, .f32⟩
  | 38 => ⟨S1x512, .f32⟩
  | 39 => ⟨S512, .f32⟩
  | 40 => ⟨S_, .f32⟩
  | 41 => ⟨S1x1x512, .f32⟩
  | 42 => ⟨S1x4095x512, .f32⟩
  | 43 => ⟨S1x4096x512, .f32⟩
  | 44 => ⟨S1x1x512, .f32⟩
  | 45 => ⟨S1x4096x512, .f32⟩
  | 46 => ⟨S1x4096x512, .f32⟩
  | 47 => ⟨S1x4096x512, .f32⟩
  | 48 => ⟨S1x512, .f32⟩
  | 49 => ⟨S512, .f32⟩
  | 50 => ⟨S1x1x512, .f32⟩
  | 51 => ⟨S1x4096x512, .f32⟩
  | 52 => ⟨S1x4096x512, .f32⟩
  | 53 => ⟨S1x4096x512, .f32⟩
  | 54 => ⟨S1x1x512, .f32⟩
  | 55 => ⟨S1x4096x512, .f32⟩
  | 56 => ⟨S1x4096x512, .f32⟩
  | 57 => ⟨S8x64x64, .f32⟩
  | 58 => ⟨S512, .f32⟩
  | 59 => ⟨S8x64x64, .f32⟩
  | 60 => ⟨S512, .f32⟩
  | 61 => ⟨S512, .f32⟩
  | 62 => ⟨S1x4096x8x64, .f32⟩
  | 63 => ⟨S8x64x1x4096, .f32⟩
  | 64 => ⟨S1x4096x8x64, .f32⟩
  | 65 => ⟨S1x4096x512, .f32⟩
  | 66 => ⟨S1x1x512, .f32⟩
  | 67 => ⟨S1x4096x512, .f32⟩
  | 68 => ⟨S1x4096x512, .f32⟩
  | 69 => ⟨S1x4096x512, .f32⟩
  | 70 => ⟨S1x4096x512, .f32⟩
  | 71 => ⟨S_, .f32⟩
  | 72 => ⟨S1x4096x512, .f32⟩
  | 73 => ⟨S1x4096x512, .f32⟩
  | 74 => ⟨S_, .f32⟩
  | 75 => ⟨S1x4096x512, .f32⟩
  | 76 => ⟨S1x4096x512, .f32⟩
  | 77 => ⟨S8x64x1x4096, .f32⟩
  | 78 => ⟨S1x4096x8x64, .f32⟩
  | 79 => ⟨S1x4096x512, .f32⟩
  | 80 => ⟨S1x1x512, .f32⟩
  | 81 => ⟨S1x4096x512, .f32⟩
  | 82 => ⟨S1x4096x512, .f32⟩
  | 83 => ⟨S1x4096x512, .f32⟩
  | 84 => ⟨S1x4096x512, .f32⟩
  | 85 => ⟨S_, .f32⟩
  | 86 => ⟨S1x4096x512, .f32⟩
  | 87 => ⟨S1x4096x512, .f32⟩
  | 88 => ⟨S_, .f32⟩
  | 89 => ⟨S1x4096x512, .f32⟩
  | 90 => ⟨S1x4096x512, .f32⟩
  | 91 => ⟨S_, .f32⟩
  | 92 => ⟨S1x4096x512, .f32⟩
  | 93 => ⟨S1x4096x512, .f32⟩
  | 94 => ⟨S512, .f32⟩
  | 95 => ⟨S_, .f32⟩
  | 96 => ⟨S512, .f32⟩
  | 97 => ⟨S512, .f32⟩
  | 98 => ⟨S512, .f32⟩
  | 99 => ⟨S512, .f32⟩
  | 100 => ⟨S512, .i1⟩
  | 101 => ⟨S512, .f32⟩
  | 102 => ⟨S512, .f32⟩
  | 103 => ⟨S512, .f32⟩
  | 104 => ⟨S512, .f32⟩
  | 105 => ⟨S512, .f32⟩
  | 106 => ⟨S512, .f32⟩
  | 107 => ⟨S512, .f32⟩
  | 108 => ⟨S512, .f32⟩
  | 109 => ⟨S1x1x512, .f32⟩
  | 110 => ⟨S1x4096x512, .f32⟩
  | 111 => ⟨S1x4096x512, .f32⟩
  | 112 => ⟨S1x4096x512, .f32⟩
  | 113 => ⟨S_, .f32⟩
  | 114 => ⟨S1x4096x512, .f32⟩
  | 115 => ⟨S1x4096x512, .f32⟩
  | 116 => ⟨S1x4096x512, .f32⟩
  | 117 => ⟨S1x4096x512, .f32⟩
  | 118 => ⟨S_, .f32⟩
  | 119 => ⟨S1x4096x512, .f32⟩
  | 120 => ⟨S1x4096x512, .f32⟩
  | 121 => ⟨S1x4096x512, .f32⟩
  | 122 => ⟨S1x4096x512, .f32⟩
  | 123 => ⟨S1x4096x512, .f32⟩
  | 124 => ⟨S_, .f32⟩
  | 125 => ⟨S1x1x512, .f32⟩
  | 126 => ⟨S1x4095x512, .f32⟩
  | 127 => ⟨S1x4096x512, .f32⟩
  | _ => ⟨S1x4096x512, .f32⟩

abbrev hbmTy0_1 (i : Nat) : BufTy := match i % 128 with
  | 0 => ⟨S_, .f32⟩
  | 1 => ⟨S1x1x512, .f32⟩
  | 2 => ⟨S1x4095x512, .f32⟩
  | 3 => ⟨S1x4096x512, .f32⟩
  | 4 => ⟨S1x4096x512, .f32⟩
  | 5 => ⟨S1x4096x512, .f32⟩
  | 6 => ⟨S1x4096x512, .f32⟩
  | 7 => ⟨S_, .f32⟩
  | 8 => ⟨S1x2x512, .f32⟩
  | 9 => ⟨S1x4094x512, .f32⟩
  | 10 => ⟨S1x4096x512, .f32⟩
  | 11 => ⟨S_, .f32⟩
  | 12 => ⟨S1x2x512, .f32⟩
  | 13 => ⟨S1x4094x512, .f32⟩
  | 14 => ⟨S1x4096x512, .f32⟩
  | 15 => ⟨S1x4096x512, .f32⟩
  | 16 => ⟨S1x4096x512, .f32⟩
  | 17 => ⟨S1x4096x512, .f32⟩
  | 18 => ⟨S_, .f32⟩
  | 19 => ⟨S1x4x512, .f32⟩
  | 20 => ⟨S1x4092x512, .f32⟩
  | 21 => ⟨S1x4096x512, .f32⟩
  | 22 => ⟨S_, .f32⟩
  | 23 => ⟨S1x4x512, .f32⟩
  | 24 => ⟨S1x4092x512, .f32⟩
  | 25 => ⟨S1x4096x512, .f32⟩
  | 26 => ⟨S1x4096x512, .f32⟩
  | 27 => ⟨S1x4096x512, .f32⟩
  | 28 => ⟨S1x4096x512, .f32⟩
  | 29 => ⟨S_, .f32⟩
  | 30 => ⟨S1x8x512, .f32⟩
  | 31 => ⟨S1x4088x512, .f32⟩
  | 32 => ⟨S1x4096x512, .f32⟩
  | 33 => ⟨S_, .f32⟩
  | 34 => ⟨S1x8x512, .f32⟩
  | 35 => ⟨S1x4088x512, .f32⟩
  | 36 => ⟨S1x4096x512, .f32⟩
  | 37 => ⟨S1x4096x512, .f32⟩
  | 38 => ⟨S1x4096x512, .f32⟩
  | 39 => ⟨S1x4096x512, .f32⟩
  | 40 => ⟨S_, .f32⟩
  | 41 => ⟨S1x16x512, .f32⟩
  | 42 => ⟨S1x4080x512, .f32⟩
  | 43 => ⟨S1x4096x512, .f32⟩
  | 44 => ⟨S_, .f32⟩
  | 45 => ⟨S1x16x512, .f32⟩
  | 46 => ⟨S1x4080x512, .f32⟩
  | 47 => ⟨S1x4096x512, .f32⟩
  | 48 => ⟨S1x4096x512, .f32⟩
  | 49 => ⟨S1x4096x512, .f32⟩
  | 50 => ⟨S1x4096x512, .f32⟩
  | 51 => ⟨S_, .f32⟩
  | 52 => ⟨S1x32x512, .f32⟩
  | 53 => ⟨S1x4064x512, .f32⟩
  | 54 => ⟨S1x4096x512, .f32⟩
  | 55 => ⟨S_, .f32⟩
  | 56 => ⟨S1x32x512, .f32⟩
  | 57 => ⟨S1x4064x512, .f32⟩
  | 58 => ⟨S1x4096x512, .f32⟩
  | 59 => ⟨S1x4096x512, .f32⟩
  | 60 => ⟨S1x4096x512, .f32⟩
  | 61 => ⟨S1x4096x512, .f32⟩
  | 62 => ⟨S_, .f32⟩
  | 63 => ⟨S1x64x512, .f32⟩
  | 64 => ⟨S1x4032x512, .f32⟩
  | 65 => ⟨S1x4096x512, .f32⟩
  | 66 => ⟨S_, .f32⟩
  | 67 => ⟨S1x64x512, .f32⟩
  | 68 => ⟨S1x4032x512, .f32⟩
  | 69 => ⟨S1x4096x512, .f32⟩
  | 70 => ⟨S1x4096x512, .f32⟩
  | 71 => ⟨S1x4096x512, .f32⟩
  | 72 => ⟨S1x4096x512, .f32⟩
  | 73 => ⟨S_, .f32⟩
  | 74 => ⟨S1x128x512, .f32⟩
  | 75 => ⟨S1x3968x512, .f32⟩
  | 76 => ⟨S1x4096x512, .f32⟩
  | 77 => ⟨S_, .f32⟩
  | 78 => ⟨S1x128x512, .f32⟩
  | 79 => ⟨S1x3968x512, .f32⟩
  | 80 => ⟨S1x4096x512, .f32⟩
  | 81 => ⟨S1x4096x512, .f32⟩
  | 82 => ⟨S1x4096x512, .f32⟩
  | 83 => ⟨S1x4096x512, .f32⟩
  | 84 => ⟨S_, .f32⟩
  | 85 => ⟨S1x256x512, .f32⟩
  | 86 => ⟨S1x3840x512, .f32⟩
  | 87 => ⟨S1x4096x512, .f32⟩
  | 88 => ⟨S_, .f32⟩
  | 89 => ⟨S1x256x512, .f32⟩
  | 90 => ⟨S1x3840x512, .f32⟩
  | 91 => ⟨S1x4096x512, .f32⟩
  | 92 => ⟨S1x4096x512, .f32⟩
  | 93 => ⟨S1x4096x512, .f32⟩
  | 94 => ⟨S1x4096x512, .f32⟩
  | 95 => ⟨S_, .f32⟩
  | 96 => ⟨S1x512x512, .f32⟩
  | 97 => ⟨S1x3584x512, .f32⟩
  | 98 => ⟨S1x4096x512, .f32⟩
  | 99 => ⟨S_, .f32⟩
  | 100 => ⟨S1x512x512, .f32⟩
  | 101 => ⟨S1x3584x512, .f32⟩
  | 102 => ⟨S1x4096x512, .f32⟩
  | 103 => ⟨S1x4096x512, .f32⟩
  | 104 => ⟨S1x4096x512, .f32⟩
  | 105 => ⟨S1x4096x512, .f32⟩
  | 106 => ⟨S_, .f32⟩
  | 107 => ⟨S1x1024x512, .f32⟩
  | 108 => ⟨S1x3072x512, .f32⟩
  | 109 => ⟨S1x4096x512, .f32⟩
  | 110 => ⟨S_, .f32⟩
  | 111 => ⟨S1x1024x512, .f32⟩
  | 112 => ⟨S1x3072x512, .f32⟩
  | 113 => ⟨S1x4096x512, .f32⟩
  | 114 => ⟨S1x4096x512, .f32⟩
  | 115 => ⟨S1x4096x512, .f32⟩
  | 116 => ⟨S1x4096x512, .f32⟩
  | 117 => ⟨S_, .f32⟩
  | 118 => ⟨S1x2048x512, .f32⟩
  | 119 => ⟨S1x2048x512, .f32⟩
  | 120 => ⟨S1x4096x512, .f32⟩
  | 121 => ⟨S_, .f32⟩
  | 122 => ⟨S1x2048x512, .f32⟩
  | 123 => ⟨S1x2048x512, .f32⟩
  | 124 => ⟨S1x4096x512, .f32⟩
  | 125 => ⟨S1x4096x512, .f32⟩
  | 126 => ⟨S1x4096x512, .f32⟩
  | 127 => ⟨S1x4096x512, .f32⟩
  | _ => ⟨S1x4096x512, .f32⟩

abbrev hbmTy0_2 (i : Nat) : BufTy := match i % 128 with
  | 0 => ⟨S4096x512, .f32⟩
  | 1 => ⟨S4096x4x128, .f32⟩
  | 2 => ⟨S4x4096x128, .f32⟩
  | 3 => ⟨S4096x512, .f32⟩
  | 4 => ⟨S4096x4x128, .f32⟩
  | 5 => ⟨S4x4096x128, .f32⟩
  | 6 => ⟨S4096x512, .f32⟩
  | 7 => ⟨S4096x4x128, .f32⟩
  | 8 => ⟨S4x4096x128, .f32⟩
  | 9 => ⟨S4096x512, .f32⟩
  | 10 => ⟨S4096x4x128, .f32⟩
  | 11 => ⟨S4x4096x128, .f32⟩
  | 12 => ⟨S4096x512, .f32⟩
  | 13 => ⟨S4096x4x128, .f32⟩
  | 14 => ⟨S4x4096x128, .f32⟩
  | 15 => ⟨S4096x512, .f32⟩
  | 16 => ⟨S4096x4x128, .f32⟩
  | 17 => ⟨S4x4096x128, .f32⟩
  | 18 => ⟨S4096x512, .f32⟩
  | 19 => ⟨S4096x4x128, .f32⟩
  | 20 => ⟨S4x4096x128, .f32⟩
  | 21 => ⟨S4096x512, .f32⟩
  | 22 => ⟨S4096x4x128, .f32⟩
  | 23 => ⟨S4x4096x128, .f32⟩
  | 24 => ⟨S4x128x128, .f32⟩
  | 25 => ⟨S4x512, .f32⟩
  | 26 => ⟨S8x64x64, .f32⟩
  | 27 => ⟨S_, .f32⟩
  | 28 => ⟨S4x64x64, .f32⟩
  | 29 => ⟨S4x2x64x64, .f32⟩
  | 30 => ⟨S4x1x64x64, .f32⟩
  | 31 => ⟨S4x64x64, .f32⟩
  | 32 => ⟨S4x64x128, .f32⟩
  | 33 => ⟨S4x1x64x64, .f32⟩
  | 34 => ⟨S4x64x64, .f32⟩
  | 35 => ⟨S4x64x128, .f32⟩
  | 36 => ⟨S4x128x128, .f32⟩
  | 37 => ⟨S8x64x64, .f32⟩
  | 38 => ⟨S_, .f32⟩
  | 39 => ⟨S4x64x64, .f32⟩
  | 40 => ⟨S4x2x64x64, .f32⟩
  | 41 => ⟨S4x1x64x64, .f32⟩
  | 42 => ⟨S4x64x64, .f32⟩
  | 43 => ⟨S4x64x128, .f32⟩
  | 44 => ⟨S4x1x64x64, .f32⟩
  | 45 => ⟨S4x64x64, .f32⟩
  | 46 => ⟨S4x64x128, .f32⟩
  | 47 => ⟨S4x128x128, .f32⟩
  | 48 => ⟨S_, .f32⟩
  | 49 => ⟨S8x128, .f32⟩
  | 50 => ⟨S4x4096x128, .bf16⟩
  | 51 => ⟨S4x4096x128, .bf16⟩
  | 52 => ⟨S4x4096x128, .bf16⟩
  | 53 => ⟨S4x128x128, .f32⟩
  | 54 => ⟨S1x512, .f32⟩
  | 55 => ⟨S4x512, .f32⟩
  | 56 => ⟨S1x512, .f32⟩
  | 57 => ⟨S4x128x128, .f32⟩
  | 58 => ⟨S1x512, .f32⟩
  | 59 => ⟨S4x128x128, .f32⟩
  | 60 => ⟨S1x512, .f32⟩
  | 61 => ⟨S1x512, .f32⟩
  | _ => ⟨S1x4096x512, .f32⟩

abbrev hbmTy (i : Nat) : BufTy := match i / 128 with
  | 0 => hbmTy0_0 i
  | 1 => hbmTy0_1 i
  | 2 => hbmTy0_2 i
  | _ => ⟨S1x4096x512, .f32⟩

abbrev bufTy : (tb : Table) → Fin (tcTables nBuf tb) → BufTy
  | .hbm, ⟨i, _⟩ => hbmTy i
  | .local _ .vmem, ⟨0, _⟩ => ⟨S1x4096x128, .f32⟩
  | .local _ .vmem, ⟨1, _⟩ => ⟨S1x4096x128, .f32⟩
  | .local _ .vmem, ⟨2, _⟩ => ⟨S1x4096x128, .f32⟩
  | .local _ .vmem, ⟨3, _⟩ => ⟨S1x4096x128, .f32⟩
  | .local _ .vmem, ⟨4, _⟩ => ⟨S1x4096x128, .f32⟩
  | .local _ .vmem, ⟨5, _⟩ => ⟨S1x4096x128, .f32⟩
  | .local _ .vmem, ⟨6, _⟩ => ⟨S1x4096x128, .f32⟩
  | .local _ .vmem, ⟨7, _⟩ => ⟨S1x4096x128, .f32⟩
  | .local _ .vmem, ⟨8, _⟩ => ⟨S1x4096x128, .f32⟩
  | .local _ .vmem, ⟨9, _⟩ => ⟨S1x4096x128, .f32⟩
  | .local _ .vmem, ⟨10, _⟩ => ⟨S1x4096x128, .f32⟩
  | .local _ .vmem, ⟨11, _⟩ => ⟨S1x4096x128, .f32⟩
  | .local _ .vmem, ⟨12, _⟩ => ⟨S1x4096x128, .f32⟩
  | .local _ .vmem, ⟨13, _⟩ => ⟨S1x4096x128, .f32⟩
  | .local _ .vmem, ⟨14, _⟩ => ⟨S1x4096x128, .f32⟩
  | .local _ .vmem, ⟨15, _⟩ => ⟨S1x4096x128, .f32⟩
  | .local _ .vmem, ⟨16, _⟩ => ⟨S1x128x128, .f32⟩
  | .local _ .vmem, ⟨17, _⟩ => ⟨S1x128x128, .f32⟩
  | .local _ .vmem, ⟨18, _⟩ => ⟨S1x128, .f32⟩
  | .local _ .vmem, ⟨19, _⟩ => ⟨S1x128, .f32⟩
  | .local _ .vmem, ⟨20, _⟩ => ⟨S4x128, .f32⟩
  | .local _ .vmem, ⟨21, _⟩ => ⟨S4x128, .f32⟩
  | .local _ .vmem, ⟨22, _⟩ => ⟨S1x128, .f32⟩
  | .local _ .vmem, ⟨23, _⟩ => ⟨S1x128, .f32⟩
  | .local _ .vmem, ⟨24, _⟩ => ⟨S1x128x128, .f32⟩
  | .local _ .vmem, ⟨25, _⟩ => ⟨S1x128x128, .f32⟩
  | .local _ .vmem, ⟨26, _⟩ => ⟨S1x128, .f32⟩
  | .local _ .vmem, ⟨27, _⟩ => ⟨S1x128, .f32⟩
  | .local _ .vmem, ⟨28, _⟩ => ⟨S1x128x128, .f32⟩
  | .local _ .vmem, ⟨29, _⟩ => ⟨S1x128x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S1x4096x128, .bf16⟩
  | .local _ .vmem, ⟨35, _⟩ => ⟨S1x4096x128, .bf16⟩
  | .local _ .vmem, ⟨36, _⟩ => ⟨S1x4096x128, .bf16⟩
  | .local _ .vmem, ⟨37, _⟩ => ⟨S1x4096x128, .bf16⟩
  | .local _ .vmem, ⟨38, _⟩ => ⟨S1x4096x128, .bf16⟩
  | .local _ .vmem, ⟨39, _⟩ => ⟨S1x4096x128, .bf16⟩
  | .local _ .vmem, ⟨40, _⟩ => ⟨S1x128x128, .f32⟩
  | .local _ .vmem, ⟨41, _⟩ => ⟨S1x128x128, .f32⟩
  | .local _ .vmem, ⟨42, _⟩ => ⟨S1x128, .f32⟩
  | .local _ .vmem, ⟨43, _⟩ => ⟨S1x128, .f32⟩
  | .local _ .vmem, ⟨44, _⟩ => ⟨S4x128, .f32⟩
  | .local _ .vmem, ⟨45, _⟩ => ⟨S4x128, .f32⟩
  | .local _ .vmem, ⟨46, _⟩ => ⟨S1x128, .f32⟩
  | .local _ .vmem, ⟨47, _⟩ => ⟨S1x128, .f32⟩
  | .local _ .vmem, ⟨48, _⟩ => ⟨S1x128x128, .f32⟩
  | .local _ .vmem, ⟨49, _⟩ => ⟨S1x128x128, .f32⟩
  | .local _ .vmem, ⟨50, _⟩ => ⟨S1x128, .f32⟩
  | .local _ .vmem, ⟨51, _⟩ => ⟨S1x128, .f32⟩
  | .local _ .vmem, ⟨52, _⟩ => ⟨S1x128x128, .f32⟩
  | .local _ .vmem, ⟨53, _⟩ => ⟨S1x128x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S1x128, .f32⟩
  | .local _ .vmem, ⟨58, _⟩ => ⟨S520x128, .f32⟩
  | .local _ .vmem, ⟨59, _⟩ => ⟨S520x128, .f32⟩
  | .local _ .vmem, ⟨60, _⟩ => ⟨S528x128, .f32⟩
  | .local _ .vmem, ⟨61, _⟩ => ⟨S528x128, .f32⟩
  | .local _ .vmem, ⟨62, _⟩ => ⟨S520x128, .f32⟩
  | .local _ .vmem, ⟨63, _⟩ => ⟨S520x128, .f32⟩
  | _, _ => ⟨S1x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_3 : Ref sig .tc := ⟨.hbm, 71, rfl⟩
abbrev main_v53 : Ref sig .tc := ⟨.hbm, 72, rfl⟩
abbrev main_v54 : Ref sig .tc := ⟨.hbm, 73, rfl⟩
abbrev main_cst_4 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_5 : Ref sig .tc := ⟨.hbm, 85, rfl⟩
abbrev main_v65 : Ref sig .tc := ⟨.hbm, 86, rfl⟩
abbrev main_v66 : Ref sig .tc := ⟨.hbm, 87, rfl⟩
abbrev main_cst_6 : Ref sig .tc := ⟨.hbm, 88, rfl⟩
abbrev main_v67 : Ref sig .tc := ⟨.hbm, 89, rfl⟩
abbrev main_v68 : Ref sig .tc := ⟨.hbm, 90, rfl⟩
abbrev main_cst_7 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_call0_cst : Ref sig .tc := ⟨.hbm, 95, rfl⟩
abbrev main_call0_v0 : Ref sig .tc := ⟨.hbm, 96, rfl⟩
abbrev main_call0_v1 : Ref sig .tc := ⟨.hbm, 97, rfl⟩
abbrev main_call0_v2 : Ref sig .tc := ⟨.hbm, 98, rfl⟩
abbrev main_call0_v3 : Ref sig .tc := ⟨.hbm, 99, rfl⟩
abbrev main_call0_v4 : Ref sig .tc := ⟨.hbm, 100, rfl⟩
abbrev main_call0_v5 : Ref sig .tc := ⟨.hbm, 101, rfl⟩
abbrev main_call0_v6 : Ref sig .tc := ⟨.hbm, 102, rfl⟩
abbrev main_call0_v7 : Ref sig .tc := ⟨.hbm, 103, rfl⟩
abbrev main_call0_v8 : Ref sig .tc := ⟨.hbm, 104, rfl⟩
abbrev main_call0_v9 : Ref sig .tc := ⟨.hbm, 105, rfl⟩
abbrev main_call0_v10 : Ref sig .tc := ⟨.hbm, 106, rfl⟩
abbrev main_call0_v11 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_8 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_cst_9 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_10 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_cst_11 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_cst_12 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_cst_13 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_cst_14 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_cst_15 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_cst_16 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_cst_17 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_cst_18 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_cst_19 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_cst_20 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_cst_21 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_cst_22 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_cst_23 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_cst_24 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_cst_25 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_cst_26 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_cst_27 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_cst_28 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_cst_29 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_cst_30 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_cst_31 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_cst_32 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_cst_33 : Ref sig .tc := ⟨.hbm, 249, rfl⟩
abbrev main_v188 : Ref sig .tc := ⟨.hbm, 250, rfl⟩
abbrev main_v189 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_v199 : Ref sig .tc := ⟨.hbm, 261, rfl⟩
abbrev main_v200 : Ref sig .tc := ⟨.hbm, 262, rfl⟩
abbrev main_v201 : Ref sig .tc := ⟨.hbm, 263, rfl⟩
abbrev main_v202 : Ref sig .tc := ⟨.hbm, 264, rfl⟩
abbrev main_v203 : Ref sig .tc := ⟨.hbm, 265, rfl⟩
abbrev main_v204 : Ref sig .tc := ⟨.hbm, 266, rfl⟩
abbrev main_v205 : Ref sig .tc := ⟨.hbm, 267, rfl⟩
abbrev main_v206 : Ref sig .tc := ⟨.hbm, 268, rfl⟩
abbrev main_v207 : Ref sig .tc := ⟨.hbm, 269, rfl⟩
abbrev main_v208 : Ref sig .tc := ⟨.hbm, 270, rfl⟩
abbrev main_v209 : Ref sig .tc := ⟨.hbm, 271, rfl⟩
abbrev main_v210 : Ref sig .tc := ⟨.hbm, 272, rfl⟩
abbrev main_v211 : Ref sig .tc := ⟨.hbm, 273, rfl⟩
abbrev main_v212 : Ref sig .tc := ⟨.hbm, 274, rfl⟩
abbrev main_v213 : Ref sig .tc := ⟨.hbm, 275, rfl⟩
abbrev main_v214 : Ref sig .tc := ⟨.hbm, 276, rfl⟩
abbrev main_v215 : Ref sig .tc := ⟨.hbm, 277, rfl⟩
abbrev main_v216 : Ref sig .tc := ⟨.hbm, 278, rfl⟩
abbrev main_v217 : Ref sig .tc := ⟨.hbm, 279, rfl⟩
abbrev main_v218 : Ref sig .tc := ⟨.hbm, 280, rfl⟩
abbrev main_v219 : Ref sig .tc := ⟨.hbm, 281, rfl⟩
abbrev main_v220 : Ref sig .tc := ⟨.hbm, 282, rfl⟩
abbrev main_cst_34 : Ref sig .tc := ⟨.hbm, 283, rfl⟩
abbrev main_v221 : Ref sig .tc := ⟨.hbm, 284, rfl⟩
abbrev main_v222 : Ref sig .tc := ⟨.hbm, 285, rfl⟩
abbrev main_v223 : Ref sig .tc := ⟨.hbm, 286, rfl⟩
abbrev main_v224 : Ref sig .tc := ⟨.hbm, 287, rfl⟩
abbrev main_v225 : Ref sig .tc := ⟨.hbm, 288, rfl⟩
abbrev main_v226 : Ref sig .tc := ⟨.hbm, 289, rfl⟩
abbrev main_v227 : Ref sig .tc := ⟨.hbm, 290, rfl⟩
abbrev main_v228 : Ref sig .tc := ⟨.hbm, 291, rfl⟩
abbrev main_v229 : Ref sig .tc := ⟨.hbm, 292, rfl⟩
abbrev main_v230 : Ref sig .tc := ⟨.hbm, 293, rfl⟩
abbrev main_cst_35 : Ref sig .tc := ⟨.hbm, 294, rfl⟩
abbrev main_v231 : Ref sig .tc := ⟨.hbm, 295, rfl⟩
abbrev main_v232 : Ref sig .tc := ⟨.hbm, 296, rfl⟩
abbrev main_v233 : Ref sig .tc := ⟨.hbm, 297, rfl⟩
abbrev main_v234 : Ref sig .tc := ⟨.hbm, 298, rfl⟩
abbrev main_v235 : Ref sig .tc := ⟨.hbm, 299, rfl⟩
abbrev main_v236 : Ref sig .tc := ⟨.hbm, 300, rfl⟩
abbrev main_v237 : Ref sig .tc := ⟨.hbm, 301, rfl⟩
abbrev main_v238 : Ref sig .tc := ⟨.hbm, 302, rfl⟩
abbrev main_v239 : Ref sig .tc := ⟨.hbm, 303, rfl⟩
abbrev main_cst_36 : Ref sig .tc := ⟨.hbm, 304, rfl⟩
abbrev main_v240 : Ref sig .tc := ⟨.hbm, 305, rfl⟩
abbrev main_v241_0 : Ref sig .tc := ⟨.hbm, 306, rfl⟩
abbrev main_v241_1 : Ref sig .tc := ⟨.hbm, 307, rfl⟩
abbrev main_v241_2 : Ref sig .tc := ⟨.hbm, 308, rfl⟩
abbrev main_v241_3 : Ref sig .tc := ⟨.hbm, 309, rfl⟩
abbrev main_v241_4 : Ref sig .tc := ⟨.hbm, 310, rfl⟩
abbrev main_v241_5 : Ref sig .tc := ⟨.hbm, 311, rfl⟩
abbrev main_v241_6 : Ref sig .tc := ⟨.hbm, 312, rfl⟩
abbrev main_v241_7 : Ref sig .tc := ⟨.hbm, 313, rfl⟩
abbrev main_v241_8 : Ref sig .tc := ⟨.hbm, 314, rfl⟩
abbrev main_v241_9 : Ref sig .tc := ⟨.hbm, 315, rfl⟩
abbrev main_v241_10 : Ref sig .tc := ⟨.hbm, 316, rfl⟩
abbrev main_v241_11 : Ref sig .tc := ⟨.hbm, 317, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_stg25_0 : Ref sig .tc := ⟨.vmem, 50, rfl⟩
abbrev cc0_stg25_1 : Ref sig .tc := ⟨.vmem, 51, rfl⟩
abbrev cc0_stg26_0 : Ref sig .tc := ⟨.vmem, 52, rfl⟩
abbrev cc0_stg26_1 : Ref sig .tc := ⟨.vmem, 53, rfl⟩
abbrev cc0_stg27_0 : Ref sig .tc := ⟨.vmem, 54, rfl⟩
abbrev cc0_stg27_1 : Ref sig .tc := ⟨.vmem, 55, rfl⟩
abbrev cc0_stg28_0 : Ref sig .tc := ⟨.vmem, 56, rfl⟩
abbrev cc0_stg28_1 : Ref sig .tc := ⟨.vmem, 57, rfl⟩
abbrev cc0_scratch0 : Ref sig .tc := ⟨.vmem, 58, rfl⟩
abbrev cc0_scratch1 : Ref sig .tc := ⟨.vmem, 59, rfl⟩
abbrev cc0_scratch2 : Ref sig .tc := ⟨.vmem, 60, rfl⟩
abbrev cc0_scratch3 : Ref sig .tc := ⟨.vmem, 61, rfl⟩
abbrev cc0_scratch4 : Ref sig .tc := ⟨.vmem, 62, rfl⟩
abbrev cc0_scratch5 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49
abbrev cc0_sem25_0 : DmaSem sig := 50
abbrev cc0_sem25_1 : DmaSem sig := 51
abbrev cc0_sem26_0 : DmaSem sig := 52
abbrev cc0_sem26_1 : DmaSem sig := 53
abbrev cc0_sem27_0 : DmaSem sig := 54
abbrev cc0_sem27_1 : DmaSem sig := 55
abbrev cc0_sem28_0 : DmaSem sig := 56
abbrev cc0_sem28_1 : DmaSem sig := 57

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_81 : BitVec 32 := 0#32
  let c7_i32 : BitVec 32 := 7#32
  let v86 : BitVec 32 := Scalar.addi c0_i32_81 c7_i32
  let c1_i32_82 : BitVec 32 := 1#32
  ⟨c0_i32_81, v86, c1_i32_82⟩
def k0_mult1 (k0_t1 : Fin k0_t1_loop.trips) : BitVec 32 :=
  let c7_i32_273 : BitVec 32 := 7#32
  let c0_i32_81 : BitVec 32 := 0#32
  let c1_i32_82 : BitVec 32 := 1#32
  let arg37 : BitVec 32 := Scf.iv c0_i32_81 c1_i32_82 k0_t1
  let v702 : BitVec 32 := Scalar.subi c7_i32_273 arg37
  let c512_i32 : BitVec 32 := 512#32
  let v703 : BitVec 32 := Scalar.muli v702 c512_i32
  v703
def k0_mult2 (k0_t1 : Fin k0_t1_loop.trips) : BitVec 32 :=
  let c7_i32_273 : BitVec 32 := 7#32
  let c0_i32_81 : BitVec 32 := 0#32
  let c1_i32_82 : BitVec 32 := 1#32
  let arg37 : BitVec 32 := Scf.iv c0_i32_81 c1_i32_82 k0_t1
  let v702 : BitVec 32 := Scalar.subi c7_i32_273 arg37
  let c512_i32_274 : BitVec 32 := 512#32
  let v705 : BitVec 32 := Scalar.muli v702 c512_i32_274
  let c16_i32 : BitVec 32 := 16#32
  let v706 : BitVec 32 := Scalar.subi v705 c16_i32
  v706
def k0_off1 (k0_t1 : Fin k0_t1_loop.trips) : Fin 3 → Nat :=
  let c0_275 : Index := 0#32
  let c7_i32_273 : BitVec 32 := 7#32
  let c0_i32_81 : BitVec 32 := 0#32
  let c1_i32_82 : BitVec 32 := 1#32
  let arg37 : BitVec 32 := Scf.iv c0_i32_81 c1_i32_82 k0_t1
  let v702 : BitVec 32 := Scalar.subi c7_i32_273 arg37
  let c512_i32_274 : BitVec 32 := 512#32
  let v705 : BitVec 32 := Scalar.muli v702 c512_i32_274
  let c16_i32 : BitVec 32 := 16#32
  let v706 : BitVec 32 := Scalar.subi v705 c16_i32
  let v707 : BitVec 32 := v706
  let v708 : Index := Scalar.indexCast v707
  let c0_276 : Index := 0#32
  ![0, v708.toNat, 0]
def k0_off2 (k0_t1 : Fin k0_t1_loop.trips) : Fin 3 → Nat :=
  let c0_299 : Index := 0#32
  let c7_i32_273 : BitVec 32 := 7#32
  let c0_i32_81 : BitVec 32 := 0#32
  let c1_i32_82 : BitVec 32 := 1#32
  let arg37 : BitVec 32 := Scf.iv c0_i32_81 c1_i32_82 k0_t1
  let v702 : BitVec 32 := Scalar.subi c7_i32_273 arg37
  let c512_i32 : BitVec 32 := 512#32
  let v703 : BitVec 32 := Scalar.muli v702 c512_i32
  let v704 : BitVec 32 := v703
  let v758 : Index := Scalar.indexCast v704
  let c0_300 : Index := 0#32
  ![0, v758.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_23 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_24 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_25 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_27 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_29 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x4096x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x4096x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x4096x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x128x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S4x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x128x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x128 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1x128x128 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S1x128 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S1x128 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]
-- ==== MixerBwdRefIdeal.lean ====
abbrev S1x4096x512 : Shape := ⟨3, ![1, 4096, 512]⟩
abbrev S1x4x128x128 : Shape := ⟨4, ![1, 4, 128, 128]⟩
abbrev S1x512 : Shape := ⟨2, ![1, 512]⟩
abbrev S1x4x512 : Shape := ⟨3, ![1, 4, 512]⟩
abbrev S1x8x64x64 : Shape := ⟨4, ![1, 8, 64, 64]⟩
abbrev S4x128x128 : Shape := ⟨3, ![4, 128, 128]⟩
abbrev S512 : Shape := ⟨1, ![512]⟩
abbrev S4096 : Shape := ⟨1, ![4096]⟩
abbrev S_ : Shape := ⟨0, ![]⟩
abbrev S1x4096x1 : Shape := ⟨3, ![1, 4096, 1]⟩
abbrev S1x4096x128 : Shape := ⟨3, ![1, 4096, 128]⟩
abbrev S1x2x128 : Shape := ⟨3, ![1, 2, 128]⟩
abbrev S1x4094x128 : Shape := ⟨3, ![1, 4094, 128]⟩
abbrev S1x4x128 : Shape := ⟨3, ![1, 4, 128]⟩
abbrev S1x4092x128 : Shape := ⟨3, ![1, 4092, 128]⟩
abbrev S1x8x128 : Shape := ⟨3, ![1, 8, 128]⟩
abbrev S1x4088x128 : Shape := ⟨3, ![1, 4088, 128]⟩
abbrev S1x16x128 : Shape := ⟨3, ![1, 16, 128]⟩
abbrev S1x4080x128 : Shape := ⟨3, ![1, 4080, 128]⟩
abbrev S1x4096x1x128 : Shape := ⟨4, ![1, 4096, 1, 128]⟩
abbrev S1x4096x4x128 : Shape := ⟨4, ![1, 4096, 4, 128]⟩
abbrev S4x128x1x4096 : Shape := ⟨4, ![4, 128, 1, 4096]⟩
abbrev S1x1x512 : Shape := ⟨3, ![1, 1, 512]⟩
abbrev S4x512 : Shape := ⟨2, ![4, 512]⟩
abbrev S1x3x512 : Shape := ⟨3, ![1, 3, 512]⟩
abbrev S1x4093x512 : Shape := ⟨3, ![1, 4093, 512]⟩
abbrev S1x2x512 : Shape := ⟨3, ![1, 2, 512]⟩
abbrev S1x4094x512 : Shape := ⟨3, ![1, 4094, 512]⟩
abbrev S1x4095x512 : Shape := ⟨3, ![1, 4095, 512]⟩
abbrev S8x64x64 : Shape := ⟨3, ![8, 64, 64]⟩
abbrev S1x4096x8x64 : Shape := ⟨4, ![1, 4096, 8, 64]⟩
abbrev S8x64x1x4096 : Shape := ⟨4, ![8, 64, 1, 4096]⟩
abbrev S1x4092x512 : Shape := ⟨3, ![1, 4092, 512]⟩
abbrev S1x8x512 : Shape := ⟨3, ![1, 8, 512]⟩
abbrev S1x4088x512 : Shape := ⟨3, ![1, 4088, 512]⟩
abbrev S1x16x512 : Shape := ⟨3, ![1, 16, 512]⟩
abbrev S1x4080x512 : Shape := ⟨3, ![1, 4080, 512]⟩
abbrev S1x32x512 : Shape := ⟨3, ![1, 32, 512]⟩
abbrev S1x4064x512 : Shape := ⟨3, ![1, 4064, 512]⟩
abbrev S1x64x512 : Shape := ⟨3, ![1, 64, 512]⟩
abbrev S1x4032x512 : Shape := ⟨3, ![1, 4032, 512]⟩
abbrev S1x128x512 : Shape := ⟨3, ![1, 128, 512]⟩
abbrev S1x3968x512 : Shape := ⟨3, ![1, 3968, 512]⟩
abbrev S1x256x512 : Shape := ⟨3, ![1, 256, 512]⟩
abbrev S1x3840x512 : Shape := ⟨3, ![1, 3840, 512]⟩
abbrev S1x512x512 : Shape := ⟨3, ![1, 512, 512]⟩
abbrev S1x3584x512 : Shape := ⟨3, ![1, 3584, 512]⟩
abbrev S1x1024x512 : Shape := ⟨3, ![1, 1024, 512]⟩
abbrev S1x3072x512 : Shape := ⟨3, ![1, 3072, 512]⟩
abbrev S1x2048x512 : Shape := ⟨3, ![1, 2048, 512]⟩
abbrev S8x1x4096x64 : Shape := ⟨4, ![8, 1, 4096, 64]⟩
abbrev S4x1x4096x128 : Shape := ⟨4, ![4, 1, 4096, 128]⟩
abbrev S4096x512 : Shape := ⟨2, ![4096, 512]⟩
abbrev S4096x4x128 : Shape := ⟨3, ![4096, 4, 128]⟩
abbrev S4x4096x128 : Shape := ⟨3, ![4, 4096, 128]⟩

abbrev nBuf : Space → Nat
  | .hbm => 903
  | .vmem => 0
  | .smem => 0
  | _ => 0

abbrev hbmTy0_0 (i : Nat) : BufTy := match i % 128 with
  | 0 => ⟨S1x4096x512, .f32⟩
  | 1 => ⟨S1x4096x512, .f32⟩
  | 2 => ⟨S1x4096x512, .f32⟩
  | 3 => ⟨S1x4x128x128, .f32⟩
  | 4 => ⟨S1x512, .f32⟩
  | 5 => ⟨S1x4x512, .f32⟩
  | 6 => ⟨S1x512, .f32⟩
  | 7 => ⟨S1x8x64x64, .f32⟩
  | 8 => ⟨S1x512, .f32⟩
  | 9 => ⟨S1x8x64x64, .f32⟩
  | 10 => ⟨S1x512, .f32⟩
  | 11 => ⟨S1x512, .f32⟩
  | 12 => ⟨S1x4096x512, .f32⟩
  | 13 => ⟨S1x4096x512, .f32⟩
  | 14 => ⟨S4x128x128, .f32⟩
  | 15 => ⟨S512, .f32⟩
  | 16 => ⟨S4096, .i32⟩
  | 17 => ⟨S_, .i32⟩
  | 18 => ⟨S4096, .i32⟩
  | 19 => ⟨S4096, .i32⟩
  | 20 => ⟨S4096, .f32⟩
  | 21 => ⟨S1x4096x1, .f32⟩
  | 22 => ⟨S1x4096x128, .f32⟩
  | 23 => ⟨S_, .f32⟩
  | 24 => ⟨S_, .f32⟩
  | 25 => ⟨S1x4096x128, .f32⟩
  | 26 => ⟨S_, .f32⟩
  | 27 => ⟨S1x2x128, .f32⟩
  | 28 => ⟨S1x4094x128, .f32⟩
  | 29 => ⟨S1x4096x128, .f32⟩
  | 30 => ⟨S_, .f32⟩
  | 31 => ⟨S1x2x128, .f32⟩
  | 32 => ⟨S1x4096x128, .f32⟩
  | 33 => ⟨S_, .f32⟩
  | 34 => ⟨S1x4096x1, .f32⟩
  | 35 => ⟨S1x4096x1, .f32⟩
  | 36 => ⟨S1x4096x128, .f32⟩
  | 37 => ⟨S1x4096x128, .f32⟩
  | 38 => ⟨S1x4096x128, .f32⟩
  | 39 => ⟨S1x4096x128, .f32⟩
  | 40 => ⟨S_, .f32⟩
  | 41 => ⟨S_, .f32⟩
  | 42 => ⟨S1x4096x128, .f32⟩
  | 43 => ⟨S_, .f32⟩
  | 44 => ⟨S1x4x128, .f32⟩
  | 45 => ⟨S1x4092x128, .f32⟩
  | 46 => ⟨S1x4096x128, .f32⟩
  | 47 => ⟨S_, .f32⟩
  | 48 => ⟨S1x4x128, .f32⟩
  | 49 => ⟨S1x4096x128, .f32⟩
  | 50 => ⟨S_, .f32⟩
  | 51 => ⟨S1x4096x1, .f32⟩
  | 52 => ⟨S1x4096x1, .f32⟩
  | 53 => ⟨S1x4096x128, .f32⟩
  | 54 => ⟨S1x4096x128, .f32⟩
  | 55 => ⟨S1x4096x128, .f32⟩
  | 56 => ⟨S1x4096x128, .f32⟩
  | 57 => ⟨S_, .f32⟩
  | 58 => ⟨S_, .f32⟩
  | 59 => ⟨S1x4096x128, .f32⟩
  | 60 => ⟨S_, .f32⟩
  | 61 => ⟨S1x8x128, .f32⟩
  | 62 => ⟨S1x4088x128, .f32⟩
  | 63 => ⟨S1x4096x128, .f32⟩
  | 64 => ⟨S_, .f32⟩
  | 65 => ⟨S1x8x128, .f32⟩
  | 66 => ⟨S1x4096x128, .f32⟩
  | 67 => ⟨S_, .f32⟩
  | 68 => ⟨S1x4096x1, .f32⟩
  | 69 => ⟨S1x4096x1, .f32⟩
  | 70 => ⟨S1x4096x128, .f32⟩
  | 71 => ⟨S1x4096x128, .f32⟩
  | 72 => ⟨S1x4096x128, .f32⟩
  | 73 => ⟨S1x4096x128, .f32⟩
  | 74 => ⟨S_, .f32⟩
  | 75 => ⟨S_, .f32⟩
  | 76 => ⟨S1x4096x128, .f32⟩
  | 77 => ⟨S_, .f32⟩
  | 78 => ⟨S1x16x128, .f32⟩
  | 79 => ⟨S1x4080x128, .f32⟩
  | 80 => ⟨S1x4096x128, .f32⟩
  | 81 => ⟨S_, .f32⟩
  | 82 => ⟨S1x16x128, .f32⟩
  | 83 => ⟨S1x4096x128, .f32⟩
  | 84 => ⟨S_, .f32⟩
  | 85 => ⟨S1x4096x1, .f32⟩
  | 86 => ⟨S1x4096x1, .f32⟩
  | 87 => ⟨S1x4096x128, .f32⟩
  | 88 => ⟨S1x4096x128, .f32⟩
  | 89 => ⟨S1x4096x128, .f32⟩
  | 90 => ⟨S1x4096x1x128, .f32⟩
  | 91 => ⟨S1x4096x1x128, .f32⟩
  | 92 => ⟨S1x4096x1x128, .f32⟩
  | 93 => ⟨S1x4096x1x128, .f32⟩
  | 94 => ⟨S1x4096x4x128, .f32⟩
  | 95 => ⟨S4x128x1x4096, .f32⟩
  | 96 => ⟨S1x4096x4x128, .f32⟩
  | 97 => ⟨S1x4096x512, .f32⟩
  | 98 => ⟨S1x1x512, .f32⟩
  | 99 => ⟨S1x4096x512, .f32⟩
  | 100 => ⟨S1x4096x512, .f32⟩
  | 101 => ⟨S4x512, .f32⟩
  | 102 => ⟨S512, .f32⟩
  | 103 => ⟨S_, .f32⟩
  | 104 => ⟨S1x4096x512, .f32⟩
  | 105 => ⟨S1x512, .f32⟩
  | 106 => ⟨S512, .f32⟩
  | 107 => ⟨S_, .f32⟩
  | 108 => ⟨S1x3x512, .f32⟩
  | 109 => ⟨S1x4093x512, .f32⟩
  | 110 => ⟨S1x4096x512, .f32⟩
  | 111 => ⟨S_, .f32⟩
  | 112 => ⟨S1x3x512, .f32⟩
  | 113 => ⟨S1x1x512, .f32⟩
  | 114 => ⟨S1x4096x512, .f32⟩
  | 115 => ⟨S1x4096x512, .f32⟩
  | 116 => ⟨S1x4096x512, .f32⟩
  | 117 => ⟨S1x512, .f32⟩
  | 118 => ⟨S512, .f32⟩
  | 119 => ⟨S_, .f32⟩
  | 120 => ⟨S1x2x512, .f32⟩
  | 121 => ⟨S1x4094x512, .f32⟩
  | 122 => ⟨S1x4096x512, .f32⟩
  | 123 => ⟨S_, .f32⟩
  | 124 => ⟨S1x2x512, .f32⟩
  | 125 => ⟨S1x1x512, .f32⟩
  | 126 => ⟨S1x4096x512, .f32⟩
  | 127 => ⟨S1x4096x512, .f32⟩
  | _ => ⟨S1x4096x512, .f32⟩

abbrev hbmTy0_1 (i : Nat) : BufTy := match i % 128 with
  | 0 => ⟨S1x4096x512, .f32⟩
  | 1 => ⟨S1x512, .f32⟩
  | 2 => ⟨S512, .f32⟩
  | 3 => ⟨S_, .f32⟩
  | 4 => ⟨S1x1x512, .f32⟩
  | 5 => ⟨S1x4095x512, .f32⟩
  | 6 => ⟨S1x4096x512, .f32⟩
  | 7 => ⟨S_, .f32⟩
  | 8 => ⟨S1x1x512, .f32⟩
  | 9 => ⟨S1x1x512, .f32⟩
  | 10 => ⟨S1x4096x512, .f32⟩
  | 11 => ⟨S1x4096x512, .f32⟩
  | 12 => ⟨S1x4096x512, .f32⟩
  | 13 => ⟨S1x512, .f32⟩
  | 14 => ⟨S512, .f32⟩
  | 15 => ⟨S1x1x512, .f32⟩
  | 16 => ⟨S1x4096x512, .f32⟩
  | 17 => ⟨S1x4096x512, .f32⟩
  | 18 => ⟨S1x4096x512, .f32⟩
  | 19 => ⟨S1x1x512, .f32⟩
  | 20 => ⟨S1x4096x512, .f32⟩
  | 21 => ⟨S1x4096x512, .f32⟩
  | 22 => ⟨S8x64x64, .f32⟩
  | 23 => ⟨S512, .f32⟩
  | 24 => ⟨S8x64x64, .f32⟩
  | 25 => ⟨S512, .f32⟩
  | 26 => ⟨S512, .f32⟩
  | 27 => ⟨S1x4096x8x64, .f32⟩
  | 28 => ⟨S8x64x1x4096, .f32⟩
  | 29 => ⟨S1x4096x8x64, .f32⟩
  | 30 => ⟨S1x4096x512, .f32⟩
  | 31 => ⟨S1x1x512, .f32⟩
  | 32 => ⟨S1x4096x512, .f32⟩
  | 33 => ⟨S1x4096x512, .f32⟩
  | 34 => ⟨S1x4096x512, .f32⟩
  | 35 => ⟨S1x4096x512, .f32⟩
  | 36 => ⟨S_, .f32⟩
  | 37 => ⟨S1x4096x512, .f32⟩
  | 38 => ⟨S1x4096x512, .f32⟩
  | 39 => ⟨S_, .f32⟩
  | 40 => ⟨S1x4096x512, .f32⟩
  | 41 => ⟨S1x4096x512, .f32⟩
  | 42 => ⟨S_, .f32⟩
  | 43 => ⟨S1x4096x512, .f32⟩
  | 44 => ⟨S1x4096x512, .f32⟩
  | 45 => ⟨S1x4096x512, .f32⟩
  | 46 => ⟨S8x64x1x4096, .f32⟩
  | 47 => ⟨S1x4096x8x64, .f32⟩
  | 48 => ⟨S1x4096x512, .f32⟩
  | 49 => ⟨S1x1x512, .f32⟩
  | 50 => ⟨S1x4096x512, .f32⟩
  | 51 => ⟨S1x4096x512, .f32⟩
  | 52 => ⟨S1x4096x512, .f32⟩
  | 53 => ⟨S1x4096x512, .f32⟩
  | 54 => ⟨S_, .f32⟩
  | 55 => ⟨S1x4096x512, .f32⟩
  | 56 => ⟨S1x4096x512, .f32⟩
  | 57 => ⟨S_, .f32⟩
  | 58 => ⟨S1x4096x512, .f32⟩
  | 59 => ⟨S1x4096x512, .f32⟩
  | 60 => ⟨S_, .f32⟩
  | 61 => ⟨S1x4096x512, .f32⟩
  | 62 => ⟨S1x4096x512, .f32⟩
  | 63 => ⟨S1x4096x512, .f32⟩
  | 64 => ⟨S_, .f32⟩
  | 65 => ⟨S1x4096x512, .f32⟩
  | 66 => ⟨S1x4096x512, .f32⟩
  | 67 => ⟨S512, .f32⟩
  | 68 => ⟨S_, .f32⟩
  | 69 => ⟨S512, .f32⟩
  | 70 => ⟨S512, .f32⟩
  | 71 => ⟨S512, .f32⟩
  | 72 => ⟨S512, .f32⟩
  | 73 => ⟨S512, .i1⟩
  | 74 => ⟨S512, .f32⟩
  | 75 => ⟨S512, .f32⟩
  | 76 => ⟨S512, .f32⟩
  | 77 => ⟨S512, .f32⟩
  | 78 => ⟨S512, .f32⟩
  | 79 => ⟨S512, .f32⟩
  | 80 => ⟨S512, .f32⟩
  | 81 => ⟨S512, .f32⟩
  | 82 => ⟨S_, .f32⟩
  | 83 => ⟨S512, .f32⟩
  | 84 => ⟨S512, .i1⟩
  | 85 => ⟨S_, .f32⟩
  | 86 => ⟨S512, .f32⟩
  | 87 => ⟨S512, .f32⟩
  | 88 => ⟨S_, .f32⟩
  | 89 => ⟨S512, .f32⟩
  | 90 => ⟨S512, .i1⟩
  | 91 => ⟨S_, .f32⟩
  | 92 => ⟨S512, .f32⟩
  | 93 => ⟨S512, .f32⟩
  | 94 => ⟨S512, .f32⟩
  | 95 => ⟨S512, .f32⟩
  | 96 => ⟨S_, .f32⟩
  | 97 => ⟨S_, .f32⟩
  | 98 => ⟨S_, .i1⟩
  | 99 => ⟨S_, .f32⟩
  | 100 => ⟨S_, .f32⟩
  | 101 => ⟨S_, .f32⟩
  | 102 => ⟨S_, .f32⟩
  | 103 => ⟨S512, .f32⟩
  | 104 => ⟨S512, .i1⟩
  | 105 => ⟨S_, .f32⟩
  | 106 => ⟨S512, .f32⟩
  | 107 => ⟨S512, .f32⟩
  | 108 => ⟨S512, .f32⟩
  | 109 => ⟨S512, .f32⟩
  | 110 => ⟨S512, .f32⟩
  | 111 => ⟨S_, .f32⟩
  | 112 => ⟨S512, .f32⟩
  | 113 => ⟨S512, .f32⟩
  | 114 => ⟨S1x1x512, .f32⟩
  | 115 => ⟨S1x4096x512, .f32⟩
  | 116 => ⟨S1x4096x512, .f32⟩
  | 117 => ⟨S1x4096x512, .f32⟩
  | 118 => ⟨S_, .f32⟩
  | 119 => ⟨S1x4096x512, .f32⟩
  | 120 => ⟨S1x4096x512, .f32⟩
  | 121 => ⟨S1x4096x512, .f32⟩
  | 122 => ⟨S1x4096x512, .f32⟩
  | 123 => ⟨S1x4096x512, .f32⟩
  | 124 => ⟨S_, .f32⟩
  | 125 => ⟨S1x4096x512, .f32⟩
  | 126 => ⟨S1x4096x512, .f32⟩
  | 127 => ⟨S_, .f32⟩
  | _ => ⟨S1x4096x512, .f32⟩

abbrev hbmTy0_2 (i : Nat) : BufTy := match i % 128 with
  | 0 => ⟨S1x4096x512, .f32⟩
  | 1 => ⟨S1x4096x512, .i1⟩
  | 2 => ⟨S_, .f32⟩
  | 3 => ⟨S1x4096x512, .f32⟩
  | 4 => ⟨S1x4096x512, .i1⟩
  | 5 => ⟨S_, .f32⟩
  | 6 => ⟨S1x4096x512, .f32⟩
  | 7 => ⟨S_, .f32⟩
  | 8 => ⟨S1x4096x512, .f32⟩
  | 9 => ⟨S_, .f32⟩
  | 10 => ⟨S1x4096x512, .f32⟩
  | 11 => ⟨S1x4096x512, .f32⟩
  | 12 => ⟨S1x4096x512, .f32⟩
  | 13 => ⟨S1x4096x512, .f32⟩
  | 14 => ⟨S_, .f32⟩
  | 15 => ⟨S1x4096x512, .f32⟩
  | 16 => ⟨S1x4096x512, .f32⟩
  | 17 => ⟨S1x4096x512, .f32⟩
  | 18 => ⟨S1x4096x512, .f32⟩
  | 19 => ⟨S_, .f32⟩
  | 20 => ⟨S1x1x512, .f32⟩
  | 21 => ⟨S1x4095x512, .f32⟩
  | 22 => ⟨S1x4096x512, .f32⟩
  | 23 => ⟨S_, .f32⟩
  | 24 => ⟨S1x1x512, .f32⟩
  | 25 => ⟨S_, .f32⟩
  | 26 => ⟨S1x1x512, .f32⟩
  | 27 => ⟨S1x4095x512, .f32⟩
  | 28 => ⟨S1x4096x512, .f32⟩
  | 29 => ⟨S_, .f32⟩
  | 30 => ⟨S1x1x512, .f32⟩
  | 31 => ⟨S1x4096x512, .f32⟩
  | 32 => ⟨S1x4096x512, .f32⟩
  | 33 => ⟨S1x4096x512, .f32⟩
  | 34 => ⟨S_, .f32⟩
  | 35 => ⟨S1x2x512, .f32⟩
  | 36 => ⟨S1x4094x512, .f32⟩
  | 37 => ⟨S1x4096x512, .f32⟩
  | 38 => ⟨S_, .f32⟩
  | 39 => ⟨S1x2x512, .f32⟩
  | 40 => ⟨S_, .f32⟩
  | 41 => ⟨S1x2x512, .f32⟩
  | 42 => ⟨S1x4094x512, .f32⟩
  | 43 => ⟨S1x4096x512, .f32⟩
  | 44 => ⟨S_, .f32⟩
  | 45 => ⟨S1x2x512, .f32⟩
  | 46 => ⟨S1x4096x512, .f32⟩
  | 47 => ⟨S1x4096x512, .f32⟩
  | 48 => ⟨S1x4096x512, .f32⟩
  | 49 => ⟨S_, .f32⟩
  | 50 => ⟨S1x4x512, .f32⟩
  | 51 => ⟨S1x4092x512, .f32⟩
  | 52 => ⟨S1x4096x512, .f32⟩
  | 53 => ⟨S_, .f32⟩
  | 54 => ⟨S1x4x512, .f32⟩
  | 55 => ⟨S_, .f32⟩
  | 56 => ⟨S1x4x512, .f32⟩
  | 57 => ⟨S1x4092x512, .f32⟩
  | 58 => ⟨S1x4096x512, .f32⟩
  | 59 => ⟨S_, .f32⟩
  | 60 => ⟨S1x4x512, .f32⟩
  | 61 => ⟨S1x4096x512, .f32⟩
  | 62 => ⟨S1x4096x512, .f32⟩
  | 63 => ⟨S1x4096x512, .f32⟩
  | 64 => ⟨S_, .f32⟩
  | 65 => ⟨S1x8x512, .f32⟩
  | 66 => ⟨S1x4088x512, .f32⟩
  | 67 => ⟨S1x4096x512, .f32⟩
  | 68 => ⟨S_, .f32⟩
  | 69 => ⟨S1x8x512, .f32⟩
  | 70 => ⟨S_, .f32⟩
  | 71 => ⟨S1x8x512, .f32⟩
  | 72 => ⟨S1x4088x512, .f32⟩
  | 73 => ⟨S1x4096x512, .f32⟩
  | 74 => ⟨S_, .f32⟩
  | 75 => ⟨S1x8x512, .f32⟩
  | 76 => ⟨S1x4096x512, .f32⟩
  | 77 => ⟨S1x4096x512, .f32⟩
  | 78 => ⟨S1x4096x512, .f32⟩
  | 79 => ⟨S_, .f32⟩
  | 80 => ⟨S1x16x512, .f32⟩
  | 81 => ⟨S1x4080x512, .f32⟩
  | 82 => ⟨S1x4096x512, .f32⟩
  | 83 => ⟨S_, .f32⟩
  | 84 => ⟨S1x16x512, .f32⟩
  | 85 => ⟨S_, .f32⟩
  | 86 => ⟨S1x16x512, .f32⟩
  | 87 => ⟨S1x4080x512, .f32⟩
  | 88 => ⟨S1x4096x512, .f32⟩
  | 89 => ⟨S_, .f32⟩
  | 90 => ⟨S1x16x512, .f32⟩
  | 91 => ⟨S1x4096x512, .f32⟩
  | 92 => ⟨S1x4096x512, .f32⟩
  | 93 => ⟨S1x4096x512, .f32⟩
  | 94 => ⟨S_, .f32⟩
  | 95 => ⟨S1x32x512, .f32⟩
  | 96 => ⟨S1x4064x512, .f32⟩
  | 97 => ⟨S1x4096x512, .f32⟩
  | 98 => ⟨S_, .f32⟩
  | 99 => ⟨S1x32x512, .f32⟩
  | 100 => ⟨S_, .f32⟩
  | 101 => ⟨S1x32x512, .f32⟩
  | 102 => ⟨S1x4064x512, .f32⟩
  | 103 => ⟨S1x4096x512, .f32⟩
  | 104 => ⟨S_, .f32⟩
  | 105 => ⟨S1x32x512, .f32⟩
  | 106 => ⟨S1x4096x512, .f32⟩
  | 107 => ⟨S1x4096x512, .f32⟩
  | 108 => ⟨S1x4096x512, .f32⟩
  | 109 => ⟨S_, .f32⟩
  | 110 => ⟨S1x64x512, .f32⟩
  | 111 => ⟨S1x4032x512, .f32⟩
  | 112 => ⟨S1x4096x512, .f32⟩
  | 113 => ⟨S_, .f32⟩
  | 114 => ⟨S1x64x512, .f32⟩
  | 115 => ⟨S_, .f32⟩
  | 116 => ⟨S1x64x512, .f32⟩
  | 117 => ⟨S1x4032x512, .f32⟩
  | 118 => ⟨S1x4096x512, .f32⟩
  | 119 => ⟨S_, .f32⟩
  | 120 => ⟨S1x64x512, .f32⟩
  | 121 => ⟨S1x4096x512, .f32⟩
  | 122 => ⟨S1x4096x512, .f32⟩
  | 123 => ⟨S1x4096x512, .f32⟩
  | 124 => ⟨S_, .f32⟩
  | 125 => ⟨S1x128x512, .f32⟩
  | 126 => ⟨S1x3968x512, .f32⟩
  | 127 => ⟨S1x4096x512, .f32⟩
  | _ => ⟨S1x4096x512, .f32⟩

abbrev hbmTy0_3 (i : Nat) : BufTy := match i % 128 with
  | 0 => ⟨S_, .f32⟩
  | 1 => ⟨S1x128x512, .f32⟩
  | 2 => ⟨S_, .f32⟩
  | 3 => ⟨S1x128x512, .f32⟩
  | 4 => ⟨S1x3968x512, .f32⟩
  | 5 => ⟨S1x4096x512, .f32⟩
  | 6 => ⟨S_, .f32⟩
  | 7 => ⟨S1x128x512, .f32⟩
  | 8 => ⟨S1x4096x512, .f32⟩
  | 9 => ⟨S1x4096x512, .f32⟩
  | 10 => ⟨S1x4096x512, .f32⟩
  | 11 => ⟨S_, .f32⟩
  | 12 => ⟨S1x256x512, .f32⟩
  | 13 => ⟨S1x3840x512, .f32⟩
  | 14 => ⟨S1x4096x512, .f32⟩
  | 15 => ⟨S_, .f32⟩
  | 16 => ⟨S1x256x512, .f32⟩
  | 17 => ⟨S_, .f32⟩
  | 18 => ⟨S1x256x512, .f32⟩
  | 19 => ⟨S1x3840x512, .f32⟩
  | 20 => ⟨S1x4096x512, .f32⟩
  | 21 => ⟨S_, .f32⟩
  | 22 => ⟨S1x256x512, .f32⟩
  | 23 => ⟨S1x4096x512, .f32⟩
  | 24 => ⟨S1x4096x512, .f32⟩
  | 25 => ⟨S1x4096x512, .f32⟩
  | 26 => ⟨S_, .f32⟩
  | 27 => ⟨S1x512x512, .f32⟩
  | 28 => ⟨S1x3584x512, .f32⟩
  | 29 => ⟨S1x4096x512, .f32⟩
  | 30 => ⟨S_, .f32⟩
  | 31 => ⟨S1x512x512, .f32⟩
  | 32 => ⟨S_, .f32⟩
  | 33 => ⟨S1x512x512, .f32⟩
  | 34 => ⟨S1x3584x512, .f32⟩
  | 35 => ⟨S1x4096x512, .f32⟩
  | 36 => ⟨S_, .f32⟩
  | 37 => ⟨S1x512x512, .f32⟩
  | 38 => ⟨S1x4096x512, .f32⟩
  | 39 => ⟨S1x4096x512, .f32⟩
  | 40 => ⟨S1x4096x512, .f32⟩
  | 41 => ⟨S_, .f32⟩
  | 42 => ⟨S1x1024x512, .f32⟩
  | 43 => ⟨S1x3072x512, .f32⟩
  | 44 => ⟨S1x4096x512, .f32⟩
  | 45 => ⟨S_, .f32⟩
  | 46 => ⟨S1x1024x512, .f32⟩
  | 47 => ⟨S_, .f32⟩
  | 48 => ⟨S1x1024x512, .f32⟩
  | 49 => ⟨S1x3072x512, .f32⟩
  | 50 => ⟨S1x4096x512, .f32⟩
  | 51 => ⟨S_, .f32⟩
  | 52 => ⟨S1x1024x512, .f32⟩
  | 53 => ⟨S1x4096x512, .f32⟩
  | 54 => ⟨S1x4096x512, .f32⟩
  | 55 => ⟨S1x4096x512, .f32⟩
  | 56 => ⟨S_, .f32⟩
  | 57 => ⟨S1x2048x512, .f32⟩
  | 58 => ⟨S1x2048x512, .f32⟩
  | 59 => ⟨S1x4096x512, .f32⟩
  | 60 => ⟨S_, .f32⟩
  | 61 => ⟨S1x2048x512, .f32⟩
  | 62 => ⟨S_, .f32⟩
  | 63 => ⟨S1x2048x512, .f32⟩
  | 64 => ⟨S1x2048x512, .f32⟩
  | 65 => ⟨S1x4096x512, .f32⟩
  | 66 => ⟨S_, .f32⟩
  | 67 => ⟨S1x2048x512, .f32⟩
  | 68 => ⟨S1x4096x512, .f32⟩
  | 69 => ⟨S1x4096x512, .f32⟩
  | 70 => ⟨S1x4096x512, .f32⟩
  | 71 => ⟨S1x4096x512, .f32⟩
  | 72 => ⟨S1x4096x512, .f32⟩
  | 73 => ⟨S1x4096x512, .f32⟩
  | 74 => ⟨S_, .f32⟩
  | 75 => ⟨S1x4096x512, .f32⟩
  | 76 => ⟨S1x4096x512, .f32⟩
  | 77 => ⟨S_, .f32⟩
  | 78 => ⟨S1x4096x512, .f32⟩
  | 79 => ⟨S1x4096x512, .f32⟩
  | 80 => ⟨S1x4096x512, .f32⟩
  | 81 => ⟨S_, .f32⟩
  | 82 => ⟨S1x4096x512, .f32⟩
  | 83 => ⟨S1x4096x512, .f32⟩
  | 84 => ⟨S1x4096x512, .f32⟩
  | 85 => ⟨S_, .f32⟩
  | 86 => ⟨S1x4096x512, .f32⟩
  | 87 => ⟨S1x4096x512, .f32⟩
  | 88 => ⟨S_, .f32⟩
  | 89 => ⟨S1x4096x512, .f32⟩
  | 90 => ⟨S1x4096x512, .f32⟩
  | 91 => ⟨S1x4096x512, .f32⟩
  | 92 => ⟨S_, .f32⟩
  | 93 => ⟨S1x4096x512, .f32⟩
  | 94 => ⟨S1x4096x512, .f32⟩
  | 95 => ⟨S_, .f32⟩
  | 96 => ⟨S1x4096x512, .f32⟩
  | 97 => ⟨S1x4096x512, .f32⟩
  | 98 => ⟨S1x4096x512, .f32⟩
  | 99 => ⟨S1x4096x512, .f32⟩
  | 100 => ⟨S1x4096x512, .f32⟩
  | 101 => ⟨S1x4096x512, .f32⟩
  | 102 => ⟨S1x4096x512, .f32⟩
  | 103 => ⟨S1x4096x512, .f32⟩
  | 104 => ⟨S_, .f32⟩
  | 105 => ⟨S1x4096x512, .f32⟩
  | 106 => ⟨S1x4096x512, .f32⟩
  | 107 => ⟨S1x4096x512, .f32⟩
  | 108 => ⟨S_, .f32⟩
  | 109 => ⟨S1x4096x512, .f32⟩
  | 110 => ⟨S1x4096x512, .f32⟩
  | 111 => ⟨S1x4096x512, .f32⟩
  | 112 => ⟨S_, .f32⟩
  | 113 => ⟨S1x4096x512, .f32⟩
  | 114 => ⟨S1x4096x512, .f32⟩
  | 115 => ⟨S1x4096x512, .f32⟩
  | 116 => ⟨S1x4096x512, .f32⟩
  | 117 => ⟨S1x4096x512, .f32⟩
  | 118 => ⟨S1x4096x512, .f32⟩
  | 119 => ⟨S1x2048x512, .f32⟩
  | 120 => ⟨S1x2048x512, .f32⟩
  | 121 => ⟨S_, .f32⟩
  | 122 => ⟨S1x4096x512, .f32⟩
  | 123 => ⟨S1x4096x512, .f32⟩
  | 124 => ⟨S1x4096x512, .f32⟩
  | 125 => ⟨S1x4096x512, .f32⟩
  | 126 => ⟨S1x4096x512, .f32⟩
  | 127 => ⟨S1x4096x512, .f32⟩
  | _ => ⟨S1x4096x512, .f32⟩

abbrev hbmTy0_4 (i : Nat) : BufTy := match i % 128 with
  | 0 => ⟨S1x4096x512, .f32⟩
  | 1 => ⟨S1x1024x512, .f32⟩
  | 2 => ⟨S1x3072x512, .f32⟩
  | 3 => ⟨S_, .f32⟩
  | 4 => ⟨S1x4096x512, .f32⟩
  | 5 => ⟨S1x4096x512, .f32⟩
  | 6 => ⟨S1x1024x512, .f32⟩
  | 7 => ⟨S1x3072x512, .f32⟩
  | 8 => ⟨S_, .f32⟩
  | 9 => ⟨S1x4096x512, .f32⟩
  | 10 => ⟨S1x4096x512, .f32⟩
  | 11 => ⟨S1x4096x512, .f32⟩
  | 12 => ⟨S1x4096x512, .f32⟩
  | 13 => ⟨S1x4096x512, .f32⟩
  | 14 => ⟨S1x4096x512, .f32⟩
  | 15 => ⟨S1x4096x512, .f32⟩
  | 16 => ⟨S1x512x512, .f32⟩
  | 17 => ⟨S1x3584x512, .f32⟩
  | 18 => ⟨S_, .f32⟩
  | 19 => ⟨S1x4096x512, .f32⟩
  | 20 => ⟨S1x4096x512, .f32⟩
  | 21 => ⟨S1x512x512, .f32⟩
  | 22 => ⟨S1x3584x512, .f32⟩
  | 23 => ⟨S_, .f32⟩
  | 24 => ⟨S1x4096x512, .f32⟩
  | 25 => ⟨S1x4096x512, .f32⟩
  | 26 => ⟨S1x4096x512, .f32⟩
  | 27 => ⟨S1x4096x512, .f32⟩
  | 28 => ⟨S1x4096x512, .f32⟩
  | 29 => ⟨S1x4096x512, .f32⟩
  | 30 => ⟨S1x4096x512, .f32⟩
  | 31 => ⟨S1x256x512, .f32⟩
  | 32 => ⟨S1x3840x512, .f32⟩
  | 33 => ⟨S_, .f32⟩
  | 34 => ⟨S1x4096x512, .f32⟩
  | 35 => ⟨S1x4096x512, .f32⟩
  | 36 => ⟨S1x256x512, .f32⟩
  | 37 => ⟨S1x3840x512, .f32⟩
  | 38 => ⟨S_, .f32⟩
  | 39 => ⟨S1x4096x512, .f32⟩
  | 40 => ⟨S1x4096x512, .f32⟩
  | 41 => ⟨S1x4096x512, .f32⟩
  | 42 => ⟨S1x4096x512, .f32⟩
  | 43 => ⟨S1x4096x512, .f32⟩
  | 44 => ⟨S1x4096x512, .f32⟩
  | 45 => ⟨S1x4096x512, .f32⟩
  | 46 => ⟨S1x128x512, .f32⟩
  | 47 => ⟨S1x3968x512, .f32⟩
  | 48 => ⟨S_, .f32⟩
  | 49 => ⟨S1x4096x512, .f32⟩
  | 50 => ⟨S1x4096x512, .f32⟩
  | 51 => ⟨S1x128x512, .f32⟩
  | 52 => ⟨S1x3968x512, .f32⟩
  | 53 => ⟨S_, .f32⟩
  | 54 => ⟨S1x4096x512, .f32⟩
  | 55 => ⟨S1x4096x512, .f32⟩
  | 56 => ⟨S1x4096x512, .f32⟩
  | 57 => ⟨S1x4096x512, .f32⟩
  | 58 => ⟨S1x4096x512, .f32⟩
  | 59 => ⟨S1x4096x512, .f32⟩
  | 60 => ⟨S1x4096x512, .f32⟩
  | 61 => ⟨S1x64x512, .f32⟩
  | 62 => ⟨S1x4032x512, .f32⟩
  | 63 => ⟨S_, .f32⟩
  | 64 => ⟨S1x4096x512, .f32⟩
  | 65 => ⟨S1x4096x512, .f32⟩
  | 66 => ⟨S1x64x512, .f32⟩
  | 67 => ⟨S1x4032x512, .f32⟩
  | 68 => ⟨S_, .f32⟩
  | 69 => ⟨S1x4096x512, .f32⟩
  | 70 => ⟨S1x4096x512, .f32⟩
  | 71 => ⟨S1x4096x512, .f32⟩
  | 72 => ⟨S1x4096x512, .f32⟩
  | 73 => ⟨S1x4096x512, .f32⟩
  | 74 => ⟨S1x4096x512, .f32⟩
  | 75 => ⟨S1x4096x512, .f32⟩
  | 76 => ⟨S1x32x512, .f32⟩
  | 77 => ⟨S1x4064x512, .f32⟩
  | 78 => ⟨S_, .f32⟩
  | 79 => ⟨S1x4096x512, .f32⟩
  | 80 => ⟨S1x4096x512, .f32⟩
  | 81 => ⟨S1x32x512, .f32⟩
  | 82 => ⟨S1x4064x512, .f32⟩
  | 83 => ⟨S_, .f32⟩
  | 84 => ⟨S1x4096x512, .f32⟩
  | 85 => ⟨S1x4096x512, .f32⟩
  | 86 => ⟨S1x4096x512, .f32⟩
  | 87 => ⟨S1x4096x512, .f32⟩
  | 88 => ⟨S1x4096x512, .f32⟩
  | 89 => ⟨S1x4096x512, .f32⟩
  | 90 => ⟨S1x4096x512, .f32⟩
  | 91 => ⟨S1x16x512, .f32⟩
  | 92 => ⟨S1x4080x512, .f32⟩
  | 93 => ⟨S_, .f32⟩
  | 94 => ⟨S1x4096x512, .f32⟩
  | 95 => ⟨S1x4096x512, .f32⟩
  | 96 => ⟨S1x16x512, .f32⟩
  | 97 => ⟨S1x4080x512, .f32⟩
  | 98 => ⟨S_, .f32⟩
  | 99 => ⟨S1x4096x512, .f32⟩
  | 100 => ⟨S1x4096x512, .f32⟩
  | 101 => ⟨S1x4096x512, .f32⟩
  | 102 => ⟨S1x4096x512, .f32⟩
  | 103 => ⟨S1x4096x512, .f32⟩
  | 104 => ⟨S1x4096x512, .f32⟩
  | 105 => ⟨S1x4096x512, .f32⟩
  | 106 => ⟨S1x8x512, .f32⟩
  | 107 => ⟨S1x4088x512, .f32⟩
  | 108 => ⟨S_, .f32⟩
  | 109 => ⟨S1x4096x512, .f32⟩
  | 110 => ⟨S1x4096x512, .f32⟩
  | 111 => ⟨S1x8x512, .f32⟩
  | 112 => ⟨S1x4088x512, .f32⟩
  | 113 => ⟨S_, .f32⟩
  | 114 => ⟨S1x4096x512, .f32⟩
  | 115 => ⟨S1x4096x512, .f32⟩
  | 116 => ⟨S1x4096x512, .f32⟩
  | 117 => ⟨S1x4096x512, .f32⟩
  | 118 => ⟨S1x4096x512, .f32⟩
  | 119 => ⟨S1x4096x512, .f32⟩
  | 120 => ⟨S1x4096x512, .f32⟩
  | 121 => ⟨S1x4x512, .f32⟩
  | 122 => ⟨S1x4092x512, .f32⟩
  | 123 => ⟨S_, .f32⟩
  | 124 => ⟨S1x4096x512, .f32⟩
  | 125 => ⟨S1x4096x512, .f32⟩
  | 126 => ⟨S1x4x512, .f32⟩
  | 127 => ⟨S1x4092x512, .f32⟩
  | _ => ⟨S1x4096x512, .f32⟩

abbrev hbmTy0_5 (i : Nat) : BufTy := match i % 128 with
  | 0 => ⟨S_, .f32⟩
  | 1 => ⟨S1x4096x512, .f32⟩
  | 2 => ⟨S1x4096x512, .f32⟩
  | 3 => ⟨S1x4096x512, .f32⟩
  | 4 => ⟨S1x4096x512, .f32⟩
  | 5 => ⟨S1x4096x512, .f32⟩
  | 6 => ⟨S1x4096x512, .f32⟩
  | 7 => ⟨S1x4096x512, .f32⟩
  | 8 => ⟨S1x2x512, .f32⟩
  | 9 => ⟨S1x4094x512, .f32⟩
  | 10 => ⟨S_, .f32⟩
  | 11 => ⟨S1x4096x512, .f32⟩
  | 12 => ⟨S1x4096x512, .f32⟩
  | 13 => ⟨S1x2x512, .f32⟩
  | 14 => ⟨S1x4094x512, .f32⟩
  | 15 => ⟨S_, .f32⟩
  | 16 => ⟨S1x4096x512, .f32⟩
  | 17 => ⟨S1x4096x512, .f32⟩
  | 18 => ⟨S1x4096x512, .f32⟩
  | 19 => ⟨S1x4096x512, .f32⟩
  | 20 => ⟨S1x4096x512, .f32⟩
  | 21 => ⟨S1x4096x512, .f32⟩
  | 22 => ⟨S1x4096x512, .f32⟩
  | 23 => ⟨S1x1x512, .f32⟩
  | 24 => ⟨S1x4095x512, .f32⟩
  | 25 => ⟨S_, .f32⟩
  | 26 => ⟨S1x4096x512, .f32⟩
  | 27 => ⟨S1x4096x512, .f32⟩
  | 28 => ⟨S1x1x512, .f32⟩
  | 29 => ⟨S1x4095x512, .f32⟩
  | 30 => ⟨S_, .f32⟩
  | 31 => ⟨S1x4096x512, .f32⟩
  | 32 => ⟨S1x4096x512, .f32⟩
  | 33 => ⟨S1x4096x512, .f32⟩
  | 34 => ⟨S1x4096x512, .f32⟩
  | 35 => ⟨S1x4096x512, .f32⟩
  | 36 => ⟨S1x4096x512, .f32⟩
  | 37 => ⟨S1x4096x512, .f32⟩
  | 38 => ⟨S1x4096x512, .f32⟩
  | 39 => ⟨S1x4096x512, .f32⟩
  | 40 => ⟨S1x4096x512, .f32⟩
  | 41 => ⟨S_, .f32⟩
  | 42 => ⟨S1x4096x512, .f32⟩
  | 43 => ⟨S1x4096x512, .f32⟩
  | 44 => ⟨S1x4096x512, .f32⟩
  | 45 => ⟨S1x4096x512, .f32⟩
  | 46 => ⟨S1x4096x512, .f32⟩
  | 47 => ⟨S_, .f32⟩
  | 48 => ⟨S1x512, .f32⟩
  | 49 => ⟨S1x1x512, .f32⟩
  | 50 => ⟨S1x4096x512, .f32⟩
  | 51 => ⟨S1x4096x512, .f32⟩
  | 52 => ⟨S_, .f32⟩
  | 53 => ⟨S512, .f32⟩
  | 54 => ⟨S512, .f32⟩
  | 55 => ⟨S512, .f32⟩
  | 56 => ⟨S_, .f32⟩
  | 57 => ⟨S1x4096x512, .f32⟩
  | 58 => ⟨S1x4096x512, .f32⟩
  | 59 => ⟨S1x4096x512, .f32⟩
  | 60 => ⟨S_, .f32⟩
  | 61 => ⟨S1x512, .f32⟩
  | 62 => ⟨S1x1x512, .f32⟩
  | 63 => ⟨S_, .f32⟩
  | 64 => ⟨S512, .f32⟩
  | 65 => ⟨S1x4096x8x64, .f32⟩
  | 66 => ⟨S8x64x1x4096, .f32⟩
  | 67 => ⟨S8x1x4096x64, .f32⟩
  | 68 => ⟨S1x4096x8x64, .f32⟩
  | 69 => ⟨S8x64x64, .f32⟩
  | 70 => ⟨S8x64x64, .f32⟩
  | 71 => ⟨S1x4096x512, .f32⟩
  | 72 => ⟨S_, .f32⟩
  | 73 => ⟨S1x512, .f32⟩
  | 74 => ⟨S1x1x512, .f32⟩
  | 75 => ⟨S_, .f32⟩
  | 76 => ⟨S512, .f32⟩
  | 77 => ⟨S1x4096x8x64, .f32⟩
  | 78 => ⟨S8x64x1x4096, .f32⟩
  | 79 => ⟨S8x1x4096x64, .f32⟩
  | 80 => ⟨S1x4096x8x64, .f32⟩
  | 81 => ⟨S1x4096x8x64, .f32⟩
  | 82 => ⟨S8x64x64, .f32⟩
  | 83 => ⟨S8x64x64, .f32⟩
  | 84 => ⟨S1x4096x512, .f32⟩
  | 85 => ⟨S1x4096x512, .f32⟩
  | 86 => ⟨S1x512, .f32⟩
  | 87 => ⟨S1x512, .f32⟩
  | 88 => ⟨S1x8x64x64, .f32⟩
  | 89 => ⟨S1x512, .f32⟩
  | 90 => ⟨S1x8x64x64, .f32⟩
  | 91 => ⟨S_, .f32⟩
  | 92 => ⟨S1x512, .f32⟩
  | 93 => ⟨S1x1x512, .f32⟩
  | 94 => ⟨S_, .f32⟩
  | 95 => ⟨S512, .f32⟩
  | 96 => ⟨S1x4096x512, .f32⟩
  | 97 => ⟨S1x4096x512, .f32⟩
  | 98 => ⟨S1x4096x512, .f32⟩
  | 99 => ⟨S_, .f32⟩
  | 100 => ⟨S1x512, .f32⟩
  | 101 => ⟨S1x1x512, .f32⟩
  | 102 => ⟨S_, .f32⟩
  | 103 => ⟨S512, .f32⟩
  | 104 => ⟨S1x512, .f32⟩
  | 105 => ⟨S_, .f32⟩
  | 106 => ⟨S4x512, .f32⟩
  | 107 => ⟨S1x4096x512, .f32⟩
  | 108 => ⟨S1x4096x512, .f32⟩
  | 109 => ⟨S1x4096x512, .f32⟩
  | 110 => ⟨S_, .f32⟩
  | 111 => ⟨S1x512, .f32⟩
  | 112 => ⟨S1x1x512, .f32⟩
  | 113 => ⟨S_, .f32⟩
  | 114 => ⟨S512, .f32⟩
  | 115 => ⟨S1x1x512, .f32⟩
  | 116 => ⟨S1x4095x512, .f32⟩
  | 117 => ⟨S_, .f32⟩
  | 118 => ⟨S1x4096x512, .f32⟩
  | 119 => ⟨S1x4096x512, .f32⟩
  | 120 => ⟨S1x512, .f32⟩
  | 121 => ⟨S_, .f32⟩
  | 122 => ⟨S4x512, .f32⟩
  | 123 => ⟨S4x512, .f32⟩
  | 124 => ⟨S1x4096x512, .f32⟩
  | 125 => ⟨S1x4096x512, .f32⟩
  | 126 => ⟨S1x4096x512, .f32⟩
  | 127 => ⟨S_, .f32⟩
  | _ => ⟨S1x4096x512, .f32⟩

abbrev hbmTy0_6 (i : Nat) : BufTy := match i % 128 with
  | 0 => ⟨S1x512, .f32⟩
  | 1 => ⟨S1x1x512, .f32⟩
  | 2 => ⟨S_, .f32⟩
  | 3 => ⟨S512, .f32⟩
  | 4 => ⟨S1x2x512, .f32⟩
  | 5 => ⟨S1x4094x512, .f32⟩
  | 6 => ⟨S_, .f32⟩
  | 7 => ⟨S1x4096x512, .f32⟩
  | 8 => ⟨S1x4096x512, .f32⟩
  | 9 => ⟨S1x512, .f32⟩
  | 10 => ⟨S_, .f32⟩
  | 11 => ⟨S4x512, .f32⟩
  | 12 => ⟨S4x512, .f32⟩
  | 13 => ⟨S1x4096x512, .f32⟩
  | 14 => ⟨S1x4096x512, .f32⟩
  | 15 => ⟨S1x4096x512, .f32⟩
  | 16 => ⟨S_, .f32⟩
  | 17 => ⟨S1x512, .f32⟩
  | 18 => ⟨S1x1x512, .f32⟩
  | 19 => ⟨S_, .f32⟩
  | 20 => ⟨S512, .f32⟩
  | 21 => ⟨S1x3x512, .f32⟩
  | 22 => ⟨S1x4093x512, .f32⟩
  | 23 => ⟨S_, .f32⟩
  | 24 => ⟨S1x4096x512, .f32⟩
  | 25 => ⟨S1x4096x512, .f32⟩
  | 26 => ⟨S1x512, .f32⟩
  | 27 => ⟨S_, .f32⟩
  | 28 => ⟨S4x512, .f32⟩
  | 29 => ⟨S4x512, .f32⟩
  | 30 => ⟨S1x512, .f32⟩
  | 31 => ⟨S1x4x512, .f32⟩
  | 32 => ⟨S1x4096x512, .f32⟩
  | 33 => ⟨S_, .f32⟩
  | 34 => ⟨S1x512, .f32⟩
  | 35 => ⟨S1x1x512, .f32⟩
  | 36 => ⟨S1x4096x512, .f32⟩
  | 37 => ⟨S1x4096x512, .f32⟩
  | 38 => ⟨S_, .f32⟩
  | 39 => ⟨S512, .f32⟩
  | 40 => ⟨S1x4096x4x128, .f32⟩
  | 41 => ⟨S4x128x1x4096, .f32⟩
  | 42 => ⟨S4x1x4096x128, .f32⟩
  | 43 => ⟨S1x4096x4x128, .f32⟩
  | 44 => ⟨S4x128x128, .f32⟩
  | 45 => ⟨S4x128x128, .f32⟩
  | 46 => ⟨S1x4096x1x128, .f32⟩
  | 47 => ⟨S1x4096x128, .f32⟩
  | 48 => ⟨S1x4096x1x128, .f32⟩
  | 49 => ⟨S1x4096x128, .f32⟩
  | 50 => ⟨S1x4096x1x128, .f32⟩
  | 51 => ⟨S1x4096x128, .f32⟩
  | 52 => ⟨S1x4096x1x128, .f32⟩
  | 53 => ⟨S1x4096x128, .f32⟩
  | 54 => ⟨S1x4096x128, .f32⟩
  | 55 => ⟨S1x4096x128, .f32⟩
  | 56 => ⟨S1x4096x128, .f32⟩
  | 57 => ⟨S1x4096x128, .f32⟩
  | 58 => ⟨S1x16x128, .f32⟩
  | 59 => ⟨S1x4080x128, .f32⟩
  | 60 => ⟨S_, .f32⟩
  | 61 => ⟨S1x4096x128, .f32⟩
  | 62 => ⟨S1x4096x128, .f32⟩
  | 63 => ⟨S_, .f32⟩
  | 64 => ⟨S_, .f32⟩
  | 65 => ⟨S1x4096x128, .f32⟩
  | 66 => ⟨S1x4096x128, .f32⟩
  | 67 => ⟨S_, .f32⟩
  | 68 => ⟨S1x4096x512, .f32⟩
  | 69 => ⟨S1x4096x128, .f32⟩
  | 70 => ⟨S1x4096x128, .f32⟩
  | 71 => ⟨S1x4096x128, .f32⟩
  | 72 => ⟨S1x4096x128, .f32⟩
  | 73 => ⟨S1x8x128, .f32⟩
  | 74 => ⟨S1x4088x128, .f32⟩
  | 75 => ⟨S_, .f32⟩
  | 76 => ⟨S1x4096x128, .f32⟩
  | 77 => ⟨S1x4096x128, .f32⟩
  | 78 => ⟨S_, .f32⟩
  | 79 => ⟨S_, .f32⟩
  | 80 => ⟨S1x4096x128, .f32⟩
  | 81 => ⟨S1x4096x128, .f32⟩
  | 82 => ⟨S_, .f32⟩
  | 83 => ⟨S1x4096x512, .f32⟩
  | 84 => ⟨S1x4096x512, .f32⟩
  | 85 => ⟨S1x4096x128, .f32⟩
  | 86 => ⟨S1x4096x128, .f32⟩
  | 87 => ⟨S1x4096x128, .f32⟩
  | 88 => ⟨S1x4096x128, .f32⟩
  | 89 => ⟨S1x4x128, .f32⟩
  | 90 => ⟨S1x4092x128, .f32⟩
  | 91 => ⟨S_, .f32⟩
  | 92 => ⟨S1x4096x128, .f32⟩
  | 93 => ⟨S1x4096x128, .f32⟩
  | 94 => ⟨S_, .f32⟩
  | 95 => ⟨S_, .f32⟩
  | 96 => ⟨S1x4096x128, .f32⟩
  | 97 => ⟨S1x4096x128, .f32⟩
  | 98 => ⟨S_, .f32⟩
  | 99 => ⟨S1x4096x512, .f32⟩
  | 100 => ⟨S1x4096x512, .f32⟩
  | 101 => ⟨S1x4096x128, .f32⟩
  | 102 => ⟨S1x4096x128, .f32⟩
  | 103 => ⟨S1x4096x128, .f32⟩
  | 104 => ⟨S1x4096x128, .f32⟩
  | 105 => ⟨S1x2x128, .f32⟩
  | 106 => ⟨S1x4094x128, .f32⟩
  | 107 => ⟨S_, .f32⟩
  | 108 => ⟨S1x4096x128, .f32⟩
  | 109 => ⟨S1x4096x128, .f32⟩
  | 110 => ⟨S_, .f32⟩
  | 111 => ⟨S_, .f32⟩
  | 112 => ⟨S1x4096x128, .f32⟩
  | 113 => ⟨S1x4096x128, .f32⟩
  | 114 => ⟨S_, .f32⟩
  | 115 => ⟨S1x4096x512, .f32⟩
  | 116 => ⟨S1x4096x512, .f32⟩
  | 117 => ⟨S1x512, .f32⟩
  | 118 => ⟨S1x4x128x128, .f32⟩
  | 119 => ⟨S4096x512, .f32⟩
  | 120 => ⟨S4096x512, .bf16⟩
  | 121 => ⟨S4096x4x128, .bf16⟩
  | 122 => ⟨S4x4096x128, .bf16⟩
  | 123 => ⟨S4096x512, .f32⟩
  | 124 => ⟨S4096x512, .bf16⟩
  | 125 => ⟨S4096x4x128, .bf16⟩
  | 126 => ⟨S4x4096x128, .bf16⟩
  | 127 => ⟨S4096x512, .f32⟩
  | _ => ⟨S1x4096x512, .f32⟩

abbrev hbmTy0_7 (i : Nat) : BufTy := match i % 128 with
  | 0 => ⟨S4096x512, .bf16⟩
  | 1 => ⟨S4096x4x128, .bf16⟩
  | 2 => ⟨S4x4096x128, .bf16⟩
  | 3 => ⟨S4x128x128, .f32⟩
  | 4 => ⟨S4x512, .f32⟩
  | 5 => ⟨S8x64x64, .f32⟩
  | 6 => ⟨S8x64x64, .f32⟩
  | _ => ⟨S1x4096x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S1x4096x512, .f32⟩

abbrev bufTy : (tb : Table) → Fin (tcTables nBuf tb) → BufTy
  | .hbm, ⟨i, _⟩ => hbmTy i
  | _, _ => ⟨S1x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_c : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_call0_call0_cst : Ref sig .tc := ⟨.hbm, 23, rfl⟩
abbrev main_call0_call0_v0 : Ref sig .tc := ⟨.hbm, 24, rfl⟩
abbrev main_v8 : Ref sig .tc := ⟨.hbm, 25, rfl⟩
abbrev main_cst : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_0 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_call1_call0_cst : Ref sig .tc := ⟨.hbm, 40, rfl⟩
abbrev main_call1_call0_v0 : Ref sig .tc := ⟨.hbm, 41, rfl⟩
abbrev main_v20 : Ref sig .tc := ⟨.hbm, 42, rfl⟩
abbrev main_cst_2 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_3 : Ref sig .tc := ⟨.hbm, 47, rfl⟩
abbrev main_v24 : Ref sig .tc := ⟨.hbm, 48, rfl⟩
abbrev main_v25 : Ref sig .tc := ⟨.hbm, 49, rfl⟩
abbrev main_cst_4 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_call2_call0_cst : Ref sig .tc := ⟨.hbm, 57, rfl⟩
abbrev main_call2_call0_v0 : Ref sig .tc := ⟨.hbm, 58, rfl⟩
abbrev main_v32 : Ref sig .tc := ⟨.hbm, 59, rfl⟩
abbrev main_cst_5 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_6 : Ref sig .tc := ⟨.hbm, 64, rfl⟩
abbrev main_v36 : Ref sig .tc := ⟨.hbm, 65, rfl⟩
abbrev main_v37 : Ref sig .tc := ⟨.hbm, 66, rfl⟩
abbrev main_cst_7 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_call3_call0_cst : Ref sig .tc := ⟨.hbm, 74, rfl⟩
abbrev main_call3_call0_v0 : Ref sig .tc := ⟨.hbm, 75, rfl⟩
abbrev main_v44 : Ref sig .tc := ⟨.hbm, 76, rfl⟩
abbrev main_cst_8 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_cst_9 : Ref sig .tc := ⟨.hbm, 81, rfl⟩
abbrev main_v48 : Ref sig .tc := ⟨.hbm, 82, rfl⟩
abbrev main_v49 : Ref sig .tc := ⟨.hbm, 83, rfl⟩
abbrev main_cst_10 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_11 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_12 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_13 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_cst_14 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_cst_15 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_cst_16 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_cst_17 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_cst_18 : Ref sig .tc := ⟨.hbm, 164, rfl⟩
abbrev main_v122 : Ref sig .tc := ⟨.hbm, 165, rfl⟩
abbrev main_v123 : Ref sig .tc := ⟨.hbm, 166, rfl⟩
abbrev main_cst_19 : Ref sig .tc := ⟨.hbm, 167, rfl⟩
abbrev main_v124 : Ref sig .tc := ⟨.hbm, 168, rfl⟩
abbrev main_v125 : Ref sig .tc := ⟨.hbm, 169, rfl⟩
abbrev main_cst_20 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_cst_21 : Ref sig .tc := ⟨.hbm, 182, rfl⟩
abbrev main_v137 : Ref sig .tc := ⟨.hbm, 183, rfl⟩
abbrev main_v138 : Ref sig .tc := ⟨.hbm, 184, rfl⟩
abbrev main_cst_22 : Ref sig .tc := ⟨.hbm, 185, rfl⟩
abbrev main_v139 : Ref sig .tc := ⟨.hbm, 186, rfl⟩
abbrev main_v140 : Ref sig .tc := ⟨.hbm, 187, rfl⟩
abbrev main_cst_23 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_cst_24 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_call4_cst : Ref sig .tc := ⟨.hbm, 196, rfl⟩
abbrev main_call4_v0 : Ref sig .tc := ⟨.hbm, 197, rfl⟩
abbrev main_call4_v1 : Ref sig .tc := ⟨.hbm, 198, rfl⟩
abbrev main_call4_v2 : Ref sig .tc := ⟨.hbm, 199, rfl⟩
abbrev main_call4_v3 : Ref sig .tc := ⟨.hbm, 200, rfl⟩
abbrev main_call4_v4 : Ref sig .tc := ⟨.hbm, 201, rfl⟩
abbrev main_call4_v5 : Ref sig .tc := ⟨.hbm, 202, rfl⟩
abbrev main_call4_v6 : Ref sig .tc := ⟨.hbm, 203, rfl⟩
abbrev main_call4_v7 : Ref sig .tc := ⟨.hbm, 204, rfl⟩
abbrev main_call4_v8 : Ref sig .tc := ⟨.hbm, 205, rfl⟩
abbrev main_call4_v9 : Ref sig .tc := ⟨.hbm, 206, rfl⟩
abbrev main_call4_v10 : Ref sig .tc := ⟨.hbm, 207, rfl⟩
abbrev main_call4_v11 : Ref sig .tc := ⟨.hbm, 208, rfl⟩
abbrev main_v147_0 : Ref sig .tc := ⟨.hbm, 209, rfl⟩
abbrev main_call4_cst_0 : Ref sig .tc := ⟨.hbm, 210, rfl⟩
abbrev main_call4_v13 : Ref sig .tc := ⟨.hbm, 211, rfl⟩
abbrev main_call4_v14 : Ref sig .tc := ⟨.hbm, 212, rfl⟩
abbrev main_call4_cst_1 : Ref sig .tc := ⟨.hbm, 213, rfl⟩
abbrev main_call4_v15 : Ref sig .tc := ⟨.hbm, 214, rfl⟩
abbrev main_call4_v16 : Ref sig .tc := ⟨.hbm, 215, rfl⟩
abbrev main_call4_cst_2 : Ref sig .tc := ⟨.hbm, 216, rfl⟩
abbrev main_call4_v17 : Ref sig .tc := ⟨.hbm, 217, rfl⟩
abbrev main_call4_v18 : Ref sig .tc := ⟨.hbm, 218, rfl⟩
abbrev main_call4_cst_3 : Ref sig .tc := ⟨.hbm, 219, rfl⟩
abbrev main_call4_v19 : Ref sig .tc := ⟨.hbm, 220, rfl⟩
abbrev main_call4_v20 : Ref sig .tc := ⟨.hbm, 221, rfl⟩
abbrev main_call4_v21 : Ref sig .tc := ⟨.hbm, 222, rfl⟩
abbrev main_v147_1 : Ref sig .tc := ⟨.hbm, 223, rfl⟩
abbrev main_call4_cst_4 : Ref sig .tc := ⟨.hbm, 224, rfl⟩
abbrev main_call4_cst_5 : Ref sig .tc := ⟨.hbm, 225, rfl⟩
abbrev main_call4_v23 : Ref sig .tc := ⟨.hbm, 226, rfl⟩
abbrev main_call4_cst_6 : Ref sig .tc := ⟨.hbm, 227, rfl⟩
abbrev main_call4_cst_7 : Ref sig .tc := ⟨.hbm, 228, rfl⟩
abbrev main_call4_v24 : Ref sig .tc := ⟨.hbm, 229, rfl⟩
abbrev main_call4_cst_8 : Ref sig .tc := ⟨.hbm, 230, rfl⟩
abbrev main_call4_v25 : Ref sig .tc := ⟨.hbm, 231, rfl⟩
abbrev main_call4_v26 : Ref sig .tc := ⟨.hbm, 232, rfl⟩
abbrev main_call4_cst_9 : Ref sig .tc := ⟨.hbm, 233, rfl⟩
abbrev main_call4_v27 : Ref sig .tc := ⟨.hbm, 234, rfl⟩
abbrev main_call4_v28 : Ref sig .tc := ⟨.hbm, 235, rfl⟩
abbrev main_call4_v29 : Ref sig .tc := ⟨.hbm, 236, rfl⟩
abbrev main_call4_v30 : Ref sig .tc := ⟨.hbm, 237, rfl⟩
abbrev main_call4_v31 : Ref sig .tc := ⟨.hbm, 238, rfl⟩
abbrev main_call4_cst_10 : Ref sig .tc := ⟨.hbm, 239, rfl⟩
abbrev main_call4_v32 : Ref sig .tc := ⟨.hbm, 240, rfl⟩
abbrev main_v147_2 : Ref sig .tc := ⟨.hbm, 241, rfl⟩
abbrev main_v148 : Ref sig .tc := ⟨.hbm, 242, rfl⟩
abbrev main_v149 : Ref sig .tc := ⟨.hbm, 243, rfl⟩
abbrev main_v150 : Ref sig .tc := ⟨.hbm, 244, rfl⟩
abbrev main_v151 : Ref sig .tc := ⟨.hbm, 245, rfl⟩
abbrev main_cst_25 : Ref sig .tc := ⟨.hbm, 246, rfl⟩
abbrev main_v152 : Ref sig .tc := ⟨.hbm, 247, rfl⟩
abbrev main_v153 : Ref sig .tc := ⟨.hbm, 248, rfl⟩
abbrev main_v154 : Ref sig .tc := ⟨.hbm, 249, rfl⟩
abbrev main_v155 : Ref sig .tc := ⟨.hbm, 250, rfl⟩
abbrev main_v156 : Ref sig .tc := ⟨.hbm, 251, rfl⟩
abbrev main_cst_26 : Ref sig .tc := ⟨.hbm, 252, rfl⟩
abbrev main_v157 : Ref sig .tc := ⟨.hbm, 253, rfl⟩
abbrev main_v158 : Ref sig .tc := ⟨.hbm, 254, rfl⟩
abbrev main_cst_27 : Ref sig .tc := ⟨.hbm, 255, rfl⟩
abbrev main_v159 : Ref sig .tc := ⟨.hbm, 256, rfl⟩
abbrev main_v160 : Ref sig .tc := ⟨.hbm, 257, rfl⟩
abbrev main_cst_28 : Ref sig .tc := ⟨.hbm, 258, rfl⟩
abbrev main_v161 : Ref sig .tc := ⟨.hbm, 259, rfl⟩
abbrev main_v162 : Ref sig .tc := ⟨.hbm, 260, rfl⟩
abbrev main_cst_29 : Ref sig .tc := ⟨.hbm, 261, rfl⟩
abbrev main_v163 : Ref sig .tc := ⟨.hbm, 262, rfl⟩
abbrev main_cst_30 : Ref sig .tc := ⟨.hbm, 263, rfl⟩
abbrev main_v164 : Ref sig .tc := ⟨.hbm, 264, rfl⟩
abbrev main_cst_31 : Ref sig .tc := ⟨.hbm, 265, rfl⟩
abbrev main_v165 : Ref sig .tc := ⟨.hbm, 266, rfl⟩
abbrev main_v166 : Ref sig .tc := ⟨.hbm, 267, rfl⟩
abbrev main_v167 : Ref sig .tc := ⟨.hbm, 268, rfl⟩
abbrev main_v168 : Ref sig .tc := ⟨.hbm, 269, rfl⟩
abbrev main_cst_32 : Ref sig .tc := ⟨.hbm, 270, rfl⟩
abbrev main_v169 : Ref sig .tc := ⟨.hbm, 271, rfl⟩
abbrev main_v170 : Ref sig .tc := ⟨.hbm, 272, rfl⟩
abbrev main_v171 : Ref sig .tc := ⟨.hbm, 273, rfl⟩
abbrev main_v172 : Ref sig .tc := ⟨.hbm, 274, rfl⟩
abbrev main_cst_33 : Ref sig .tc := ⟨.hbm, 275, rfl⟩
abbrev main_v173 : Ref sig .tc := ⟨.hbm, 276, rfl⟩
abbrev main_v174 : Ref sig .tc := ⟨.hbm, 277, rfl⟩
abbrev main_v175 : Ref sig .tc := ⟨.hbm, 278, rfl⟩
abbrev main_cst_34 : Ref sig .tc := ⟨.hbm, 279, rfl⟩
abbrev main_v176 : Ref sig .tc := ⟨.hbm, 280, rfl⟩
abbrev main_cst_35 : Ref sig .tc := ⟨.hbm, 281, rfl⟩
abbrev main_v177 : Ref sig .tc := ⟨.hbm, 282, rfl⟩
abbrev main_v178 : Ref sig .tc := ⟨.hbm, 283, rfl⟩
abbrev main_v179 : Ref sig .tc := ⟨.hbm, 284, rfl⟩
abbrev main_cst_36 : Ref sig .tc := ⟨.hbm, 285, rfl⟩
abbrev main_v180 : Ref sig .tc := ⟨.hbm, 286, rfl⟩
abbrev main_v181 : Ref sig .tc := ⟨.hbm, 287, rfl⟩
abbrev main_v182 : Ref sig .tc := ⟨.hbm, 288, rfl⟩
abbrev main_v183 : Ref sig .tc := ⟨.hbm, 289, rfl⟩
abbrev main_cst_37 : Ref sig .tc := ⟨.hbm, 290, rfl⟩
abbrev main_v184 : Ref sig .tc := ⟨.hbm, 291, rfl⟩
abbrev main_v185 : Ref sig .tc := ⟨.hbm, 292, rfl⟩
abbrev main_v186 : Ref sig .tc := ⟨.hbm, 293, rfl⟩
abbrev main_cst_38 : Ref sig .tc := ⟨.hbm, 294, rfl⟩
abbrev main_v187 : Ref sig .tc := ⟨.hbm, 295, rfl⟩
abbrev main_cst_39 : Ref sig .tc := ⟨.hbm, 296, rfl⟩
abbrev main_v188 : Ref sig .tc := ⟨.hbm, 297, rfl⟩
abbrev main_v189 : Ref sig .tc := ⟨.hbm, 298, rfl⟩
abbrev main_v190 : Ref sig .tc := ⟨.hbm, 299, rfl⟩
abbrev main_cst_40 : Ref sig .tc := ⟨.hbm, 300, rfl⟩
abbrev main_v191 : Ref sig .tc := ⟨.hbm, 301, rfl⟩
abbrev main_v192 : Ref sig .tc := ⟨.hbm, 302, rfl⟩
abbrev main_v193 : Ref sig .tc := ⟨.hbm, 303, rfl⟩
abbrev main_v194 : Ref sig .tc := ⟨.hbm, 304, rfl⟩
abbrev main_cst_41 : Ref sig .tc := ⟨.hbm, 305, rfl⟩
abbrev main_v195 : Ref sig .tc := ⟨.hbm, 306, rfl⟩
abbrev main_v196 : Ref sig .tc := ⟨.hbm, 307, rfl⟩
abbrev main_v197 : Ref sig .tc := ⟨.hbm, 308, rfl⟩
abbrev main_cst_42 : Ref sig .tc := ⟨.hbm, 309, rfl⟩
abbrev main_v198 : Ref sig .tc := ⟨.hbm, 310, rfl⟩
abbrev main_cst_43 : Ref sig .tc := ⟨.hbm, 311, rfl⟩
abbrev main_v199 : Ref sig .tc := ⟨.hbm, 312, rfl⟩
abbrev main_v200 : Ref sig .tc := ⟨.hbm, 313, rfl⟩
abbrev main_v201 : Ref sig .tc := ⟨.hbm, 314, rfl⟩
abbrev main_cst_44 : Ref sig .tc := ⟨.hbm, 315, rfl⟩
abbrev main_v202 : Ref sig .tc := ⟨.hbm, 316, rfl⟩
abbrev main_v203 : Ref sig .tc := ⟨.hbm, 317, rfl⟩
abbrev main_v204 : Ref sig .tc := ⟨.hbm, 318, rfl⟩
abbrev main_v205 : Ref sig .tc := ⟨.hbm, 319, rfl⟩
abbrev main_cst_45 : Ref sig .tc := ⟨.hbm, 320, rfl⟩
abbrev main_v206 : Ref sig .tc := ⟨.hbm, 321, rfl⟩
abbrev main_v207 : Ref sig .tc := ⟨.hbm, 322, rfl⟩
abbrev main_v208 : Ref sig .tc := ⟨.hbm, 323, rfl⟩
abbrev main_cst_46 : Ref sig .tc := ⟨.hbm, 324, rfl⟩
abbrev main_v209 : Ref sig .tc := ⟨.hbm, 325, rfl⟩
abbrev main_cst_47 : Ref sig .tc := ⟨.hbm, 326, rfl⟩
abbrev main_v210 : Ref sig .tc := ⟨.hbm, 327, rfl⟩
abbrev main_v211 : Ref sig .tc := ⟨.hbm, 328, rfl⟩
abbrev main_v212 : Ref sig .tc := ⟨.hbm, 329, rfl⟩
abbrev main_cst_48 : Ref sig .tc := ⟨.hbm, 330, rfl⟩
abbrev main_v213 : Ref sig .tc := ⟨.hbm, 331, rfl⟩
abbrev main_v214 : Ref sig .tc := ⟨.hbm, 332, rfl⟩
abbrev main_v215 : Ref sig .tc := ⟨.hbm, 333, rfl⟩
abbrev main_v216 : Ref sig .tc := ⟨.hbm, 334, rfl⟩
abbrev main_cst_49 : Ref sig .tc := ⟨.hbm, 335, rfl⟩
abbrev main_v217 : Ref sig .tc := ⟨.hbm, 336, rfl⟩
abbrev main_v218 : Ref sig .tc := ⟨.hbm, 337, rfl⟩
abbrev main_v219 : Ref sig .tc := ⟨.hbm, 338, rfl⟩
abbrev main_cst_50 : Ref sig .tc := ⟨.hbm, 339, rfl⟩
abbrev main_v220 : Ref sig .tc := ⟨.hbm, 340, rfl⟩
abbrev main_cst_51 : Ref sig .tc := ⟨.hbm, 341, rfl⟩
abbrev main_v221 : Ref sig .tc := ⟨.hbm, 342, rfl⟩
abbrev main_v222 : Ref sig .tc := ⟨.hbm, 343, rfl⟩
abbrev main_v223 : Ref sig .tc := ⟨.hbm, 344, rfl⟩
abbrev main_cst_52 : Ref sig .tc := ⟨.hbm, 345, rfl⟩
abbrev main_v224 : Ref sig .tc := ⟨.hbm, 346, rfl⟩
abbrev main_v225 : Ref sig .tc := ⟨.hbm, 347, rfl⟩
abbrev main_v226 : Ref sig .tc := ⟨.hbm, 348, rfl⟩
abbrev main_v227 : Ref sig .tc := ⟨.hbm, 349, rfl⟩
abbrev main_cst_53 : Ref sig .tc := ⟨.hbm, 350, rfl⟩
abbrev main_v228 : Ref sig .tc := ⟨.hbm, 351, rfl⟩
abbrev main_v229 : Ref sig .tc := ⟨.hbm, 352, rfl⟩
abbrev main_v230 : Ref sig .tc := ⟨.hbm, 353, rfl⟩
abbrev main_cst_54 : Ref sig .tc := ⟨.hbm, 354, rfl⟩
abbrev main_v231 : Ref sig .tc := ⟨.hbm, 355, rfl⟩
abbrev main_cst_55 : Ref sig .tc := ⟨.hbm, 356, rfl⟩
abbrev main_v232 : Ref sig .tc := ⟨.hbm, 357, rfl⟩
abbrev main_v233 : Ref sig .tc := ⟨.hbm, 358, rfl⟩
abbrev main_v234 : Ref sig .tc := ⟨.hbm, 359, rfl⟩
abbrev main_cst_56 : Ref sig .tc := ⟨.hbm, 360, rfl⟩
abbrev main_v235 : Ref sig .tc := ⟨.hbm, 361, rfl⟩
abbrev main_v236 : Ref sig .tc := ⟨.hbm, 362, rfl⟩
abbrev main_v237 : Ref sig .tc := ⟨.hbm, 363, rfl⟩
abbrev main_v238 : Ref sig .tc := ⟨.hbm, 364, rfl⟩
abbrev main_cst_57 : Ref sig .tc := ⟨.hbm, 365, rfl⟩
abbrev main_v239 : Ref sig .tc := ⟨.hbm, 366, rfl⟩
abbrev main_v240 : Ref sig .tc := ⟨.hbm, 367, rfl⟩
abbrev main_v241 : Ref sig .tc := ⟨.hbm, 368, rfl⟩
abbrev main_cst_58 : Ref sig .tc := ⟨.hbm, 369, rfl⟩
abbrev main_v242 : Ref sig .tc := ⟨.hbm, 370, rfl⟩
abbrev main_cst_59 : Ref sig .tc := ⟨.hbm, 371, rfl⟩
abbrev main_v243 : Ref sig .tc := ⟨.hbm, 372, rfl⟩
abbrev main_v244 : Ref sig .tc := ⟨.hbm, 373, rfl⟩
abbrev main_v245 : Ref sig .tc := ⟨.hbm, 374, rfl⟩
abbrev main_cst_60 : Ref sig .tc := ⟨.hbm, 375, rfl⟩
abbrev main_v246 : Ref sig .tc := ⟨.hbm, 376, rfl⟩
abbrev main_v247 : Ref sig .tc := ⟨.hbm, 377, rfl⟩
abbrev main_v248 : Ref sig .tc := ⟨.hbm, 378, rfl⟩
abbrev main_v249 : Ref sig .tc := ⟨.hbm, 379, rfl⟩
abbrev main_cst_61 : Ref sig .tc := ⟨.hbm, 380, rfl⟩
abbrev main_v250 : Ref sig .tc := ⟨.hbm, 381, rfl⟩
abbrev main_v251 : Ref sig .tc := ⟨.hbm, 382, rfl⟩
abbrev main_v252 : Ref sig .tc := ⟨.hbm, 383, rfl⟩
abbrev main_cst_62 : Ref sig .tc := ⟨.hbm, 384, rfl⟩
abbrev main_v253 : Ref sig .tc := ⟨.hbm, 385, rfl⟩
abbrev main_cst_63 : Ref sig .tc := ⟨.hbm, 386, rfl⟩
abbrev main_v254 : Ref sig .tc := ⟨.hbm, 387, rfl⟩
abbrev main_v255 : Ref sig .tc := ⟨.hbm, 388, rfl⟩
abbrev main_v256 : Ref sig .tc := ⟨.hbm, 389, rfl⟩
abbrev main_cst_64 : Ref sig .tc := ⟨.hbm, 390, rfl⟩
abbrev main_v257 : Ref sig .tc := ⟨.hbm, 391, rfl⟩
abbrev main_v258 : Ref sig .tc := ⟨.hbm, 392, rfl⟩
abbrev main_v259 : Ref sig .tc := ⟨.hbm, 393, rfl⟩
abbrev main_v260 : Ref sig .tc := ⟨.hbm, 394, rfl⟩
abbrev main_cst_65 : Ref sig .tc := ⟨.hbm, 395, rfl⟩
abbrev main_v261 : Ref sig .tc := ⟨.hbm, 396, rfl⟩
abbrev main_v262 : Ref sig .tc := ⟨.hbm, 397, rfl⟩
abbrev main_v263 : Ref sig .tc := ⟨.hbm, 398, rfl⟩
abbrev main_cst_66 : Ref sig .tc := ⟨.hbm, 399, rfl⟩
abbrev main_v264 : Ref sig .tc := ⟨.hbm, 400, rfl⟩
abbrev main_cst_67 : Ref sig .tc := ⟨.hbm, 401, rfl⟩
abbrev main_v265 : Ref sig .tc := ⟨.hbm, 402, rfl⟩
abbrev main_v266 : Ref sig .tc := ⟨.hbm, 403, rfl⟩
abbrev main_v267 : Ref sig .tc := ⟨.hbm, 404, rfl⟩
abbrev main_cst_68 : Ref sig .tc := ⟨.hbm, 405, rfl⟩
abbrev main_v268 : Ref sig .tc := ⟨.hbm, 406, rfl⟩
abbrev main_v269 : Ref sig .tc := ⟨.hbm, 407, rfl⟩
abbrev main_v270 : Ref sig .tc := ⟨.hbm, 408, rfl⟩
abbrev main_v271 : Ref sig .tc := ⟨.hbm, 409, rfl⟩
abbrev main_cst_69 : Ref sig .tc := ⟨.hbm, 410, rfl⟩
abbrev main_v272 : Ref sig .tc := ⟨.hbm, 411, rfl⟩
abbrev main_v273 : Ref sig .tc := ⟨.hbm, 412, rfl⟩
abbrev main_v274 : Ref sig .tc := ⟨.hbm, 413, rfl⟩
abbrev main_cst_70 : Ref sig .tc := ⟨.hbm, 414, rfl⟩
abbrev main_v275 : Ref sig .tc := ⟨.hbm, 415, rfl⟩
abbrev main_cst_71 : Ref sig .tc := ⟨.hbm, 416, rfl⟩
abbrev main_v276 : Ref sig .tc := ⟨.hbm, 417, rfl⟩
abbrev main_v277 : Ref sig .tc := ⟨.hbm, 418, rfl⟩
abbrev main_v278 : Ref sig .tc := ⟨.hbm, 419, rfl⟩
abbrev main_cst_72 : Ref sig .tc := ⟨.hbm, 420, rfl⟩
abbrev main_v279 : Ref sig .tc := ⟨.hbm, 421, rfl⟩
abbrev main_v280 : Ref sig .tc := ⟨.hbm, 422, rfl⟩
abbrev main_v281 : Ref sig .tc := ⟨.hbm, 423, rfl⟩
abbrev main_v282 : Ref sig .tc := ⟨.hbm, 424, rfl⟩
abbrev main_cst_73 : Ref sig .tc := ⟨.hbm, 425, rfl⟩
abbrev main_v283 : Ref sig .tc := ⟨.hbm, 426, rfl⟩
abbrev main_v284 : Ref sig .tc := ⟨.hbm, 427, rfl⟩
abbrev main_v285 : Ref sig .tc := ⟨.hbm, 428, rfl⟩
abbrev main_cst_74 : Ref sig .tc := ⟨.hbm, 429, rfl⟩
abbrev main_v286 : Ref sig .tc := ⟨.hbm, 430, rfl⟩
abbrev main_cst_75 : Ref sig .tc := ⟨.hbm, 431, rfl⟩
abbrev main_v287 : Ref sig .tc := ⟨.hbm, 432, rfl⟩
abbrev main_v288 : Ref sig .tc := ⟨.hbm, 433, rfl⟩
abbrev main_v289 : Ref sig .tc := ⟨.hbm, 434, rfl⟩
abbrev main_cst_76 : Ref sig .tc := ⟨.hbm, 435, rfl⟩
abbrev main_v290 : Ref sig .tc := ⟨.hbm, 436, rfl⟩
abbrev main_v291 : Ref sig .tc := ⟨.hbm, 437, rfl⟩
abbrev main_v292 : Ref sig .tc := ⟨.hbm, 438, rfl⟩
abbrev main_v293 : Ref sig .tc := ⟨.hbm, 439, rfl⟩
abbrev main_cst_77 : Ref sig .tc := ⟨.hbm, 440, rfl⟩
abbrev main_v294 : Ref sig .tc := ⟨.hbm, 441, rfl⟩
abbrev main_v295 : Ref sig .tc := ⟨.hbm, 442, rfl⟩
abbrev main_v296 : Ref sig .tc := ⟨.hbm, 443, rfl⟩
abbrev main_cst_78 : Ref sig .tc := ⟨.hbm, 444, rfl⟩
abbrev main_v297 : Ref sig .tc := ⟨.hbm, 445, rfl⟩
abbrev main_cst_79 : Ref sig .tc := ⟨.hbm, 446, rfl⟩
abbrev main_v298 : Ref sig .tc := ⟨.hbm, 447, rfl⟩
abbrev main_v299 : Ref sig .tc := ⟨.hbm, 448, rfl⟩
abbrev main_v300 : Ref sig .tc := ⟨.hbm, 449, rfl⟩
abbrev main_cst_80 : Ref sig .tc := ⟨.hbm, 450, rfl⟩
abbrev main_v301 : Ref sig .tc := ⟨.hbm, 451, rfl⟩
abbrev main_v302 : Ref sig .tc := ⟨.hbm, 452, rfl⟩
abbrev main_v303 : Ref sig .tc := ⟨.hbm, 453, rfl⟩
abbrev main_v304 : Ref sig .tc := ⟨.hbm, 454, rfl⟩
abbrev main_v305 : Ref sig .tc := ⟨.hbm, 455, rfl⟩
abbrev main_v306 : Ref sig .tc := ⟨.hbm, 456, rfl⟩
abbrev main_v307 : Ref sig .tc := ⟨.hbm, 457, rfl⟩
abbrev main_cst_81 : Ref sig .tc := ⟨.hbm, 458, rfl⟩
abbrev main_v308 : Ref sig .tc := ⟨.hbm, 459, rfl⟩
abbrev main_v309 : Ref sig .tc := ⟨.hbm, 460, rfl⟩
abbrev main_cst_82 : Ref sig .tc := ⟨.hbm, 461, rfl⟩
abbrev main_v310 : Ref sig .tc := ⟨.hbm, 462, rfl⟩
abbrev main_v311 : Ref sig .tc := ⟨.hbm, 463, rfl⟩
abbrev main_v312 : Ref sig .tc := ⟨.hbm, 464, rfl⟩
abbrev main_cst_83 : Ref sig .tc := ⟨.hbm, 465, rfl⟩
abbrev main_v313 : Ref sig .tc := ⟨.hbm, 466, rfl⟩
abbrev main_v314 : Ref sig .tc := ⟨.hbm, 467, rfl⟩
abbrev main_v315 : Ref sig .tc := ⟨.hbm, 468, rfl⟩
abbrev main_cst_84 : Ref sig .tc := ⟨.hbm, 469, rfl⟩
abbrev main_v316 : Ref sig .tc := ⟨.hbm, 470, rfl⟩
abbrev main_v317 : Ref sig .tc := ⟨.hbm, 471, rfl⟩
abbrev main_cst_85 : Ref sig .tc := ⟨.hbm, 472, rfl⟩
abbrev main_v318 : Ref sig .tc := ⟨.hbm, 473, rfl⟩
abbrev main_v319 : Ref sig .tc := ⟨.hbm, 474, rfl⟩
abbrev main_v320 : Ref sig .tc := ⟨.hbm, 475, rfl⟩
abbrev main_cst_86 : Ref sig .tc := ⟨.hbm, 476, rfl⟩
abbrev main_v321 : Ref sig .tc := ⟨.hbm, 477, rfl⟩
abbrev main_v322 : Ref sig .tc := ⟨.hbm, 478, rfl⟩
abbrev main_cst_87 : Ref sig .tc := ⟨.hbm, 479, rfl⟩
abbrev main_v323 : Ref sig .tc := ⟨.hbm, 480, rfl⟩
abbrev main_v324 : Ref sig .tc := ⟨.hbm, 481, rfl⟩
abbrev main_v325 : Ref sig .tc := ⟨.hbm, 482, rfl⟩
abbrev main_v326 : Ref sig .tc := ⟨.hbm, 483, rfl⟩
abbrev main_v327 : Ref sig .tc := ⟨.hbm, 484, rfl⟩
abbrev main_v328 : Ref sig .tc := ⟨.hbm, 485, rfl⟩
abbrev main_v329 : Ref sig .tc := ⟨.hbm, 486, rfl⟩
abbrev main_v330 : Ref sig .tc := ⟨.hbm, 487, rfl⟩
abbrev main_cst_88 : Ref sig .tc := ⟨.hbm, 488, rfl⟩
abbrev main_v331 : Ref sig .tc := ⟨.hbm, 489, rfl⟩
abbrev main_v332 : Ref sig .tc := ⟨.hbm, 490, rfl⟩
abbrev main_v333 : Ref sig .tc := ⟨.hbm, 491, rfl⟩
abbrev main_cst_89 : Ref sig .tc := ⟨.hbm, 492, rfl⟩
abbrev main_v334 : Ref sig .tc := ⟨.hbm, 493, rfl⟩
abbrev main_v335 : Ref sig .tc := ⟨.hbm, 494, rfl⟩
abbrev main_v336 : Ref sig .tc := ⟨.hbm, 495, rfl⟩
abbrev main_cst_90 : Ref sig .tc := ⟨.hbm, 496, rfl⟩
abbrev main_v337 : Ref sig .tc := ⟨.hbm, 497, rfl⟩
abbrev main_v338 : Ref sig .tc := ⟨.hbm, 498, rfl⟩
abbrev main_v339 : Ref sig .tc := ⟨.hbm, 499, rfl⟩
abbrev main_v340 : Ref sig .tc := ⟨.hbm, 500, rfl⟩
abbrev main_v341 : Ref sig .tc := ⟨.hbm, 501, rfl⟩
abbrev main_v342 : Ref sig .tc := ⟨.hbm, 502, rfl⟩
abbrev main_v343 : Ref sig .tc := ⟨.hbm, 503, rfl⟩
abbrev main_v344 : Ref sig .tc := ⟨.hbm, 504, rfl⟩
abbrev main_cst_91 : Ref sig .tc := ⟨.hbm, 505, rfl⟩
abbrev main_v345 : Ref sig .tc := ⟨.hbm, 506, rfl⟩
abbrev main_v346 : Ref sig .tc := ⟨.hbm, 507, rfl⟩
abbrev main_v347 : Ref sig .tc := ⟨.hbm, 508, rfl⟩
abbrev main_v348 : Ref sig .tc := ⟨.hbm, 509, rfl⟩
abbrev main_v349 : Ref sig .tc := ⟨.hbm, 510, rfl⟩
abbrev main_v350 : Ref sig .tc := ⟨.hbm, 511, rfl⟩
abbrev main_v351 : Ref sig .tc := ⟨.hbm, 512, rfl⟩
abbrev main_v352 : Ref sig .tc := ⟨.hbm, 513, rfl⟩
abbrev main_v353 : Ref sig .tc := ⟨.hbm, 514, rfl⟩
abbrev main_cst_92 : Ref sig .tc := ⟨.hbm, 515, rfl⟩
abbrev main_v354 : Ref sig .tc := ⟨.hbm, 516, rfl⟩
abbrev main_v355 : Ref sig .tc := ⟨.hbm, 517, rfl⟩
abbrev main_v356 : Ref sig .tc := ⟨.hbm, 518, rfl⟩
abbrev main_v357 : Ref sig .tc := ⟨.hbm, 519, rfl⟩
abbrev main_cst_93 : Ref sig .tc := ⟨.hbm, 520, rfl⟩
abbrev main_v358 : Ref sig .tc := ⟨.hbm, 521, rfl⟩
abbrev main_v359 : Ref sig .tc := ⟨.hbm, 522, rfl⟩
abbrev main_v360 : Ref sig .tc := ⟨.hbm, 523, rfl⟩
abbrev main_v361 : Ref sig .tc := ⟨.hbm, 524, rfl⟩
abbrev main_v362 : Ref sig .tc := ⟨.hbm, 525, rfl⟩
abbrev main_v363 : Ref sig .tc := ⟨.hbm, 526, rfl⟩
abbrev main_v364 : Ref sig .tc := ⟨.hbm, 527, rfl⟩
abbrev main_v365 : Ref sig .tc := ⟨.hbm, 528, rfl⟩
abbrev main_v366 : Ref sig .tc := ⟨.hbm, 529, rfl⟩
abbrev main_cst_94 : Ref sig .tc := ⟨.hbm, 530, rfl⟩
abbrev main_v367 : Ref sig .tc := ⟨.hbm, 531, rfl⟩
abbrev main_v368 : Ref sig .tc := ⟨.hbm, 532, rfl⟩
abbrev main_v369 : Ref sig .tc := ⟨.hbm, 533, rfl⟩
abbrev main_v370 : Ref sig .tc := ⟨.hbm, 534, rfl⟩
abbrev main_cst_95 : Ref sig .tc := ⟨.hbm, 535, rfl⟩
abbrev main_v371 : Ref sig .tc := ⟨.hbm, 536, rfl⟩
abbrev main_v372 : Ref sig .tc := ⟨.hbm, 537, rfl⟩
abbrev main_v373 : Ref sig .tc := ⟨.hbm, 538, rfl⟩
abbrev main_v374 : Ref sig .tc := ⟨.hbm, 539, rfl⟩
abbrev main_v375 : Ref sig .tc := ⟨.hbm, 540, rfl⟩
abbrev main_v376 : Ref sig .tc := ⟨.hbm, 541, rfl⟩
abbrev main_v377 : Ref sig .tc := ⟨.hbm, 542, rfl⟩
abbrev main_v378 : Ref sig .tc := ⟨.hbm, 543, rfl⟩
abbrev main_v379 : Ref sig .tc := ⟨.hbm, 544, rfl⟩
abbrev main_cst_96 : Ref sig .tc := ⟨.hbm, 545, rfl⟩
abbrev main_v380 : Ref sig .tc := ⟨.hbm, 546, rfl⟩
abbrev main_v381 : Ref sig .tc := ⟨.hbm, 547, rfl⟩
abbrev main_v382 : Ref sig .tc := ⟨.hbm, 548, rfl⟩
abbrev main_v383 : Ref sig .tc := ⟨.hbm, 549, rfl⟩
abbrev main_cst_97 : Ref sig .tc := ⟨.hbm, 550, rfl⟩
abbrev main_v384 : Ref sig .tc := ⟨.hbm, 551, rfl⟩
abbrev main_v385 : Ref sig .tc := ⟨.hbm, 552, rfl⟩
abbrev main_v386 : Ref sig .tc := ⟨.hbm, 553, rfl⟩
abbrev main_v387 : Ref sig .tc := ⟨.hbm, 554, rfl⟩
abbrev main_v388 : Ref sig .tc := ⟨.hbm, 555, rfl⟩
abbrev main_v389 : Ref sig .tc := ⟨.hbm, 556, rfl⟩
abbrev main_v390 : Ref sig .tc := ⟨.hbm, 557, rfl⟩
abbrev main_v391 : Ref sig .tc := ⟨.hbm, 558, rfl⟩
abbrev main_v392 : Ref sig .tc := ⟨.hbm, 559, rfl⟩
abbrev main_cst_98 : Ref sig .tc := ⟨.hbm, 560, rfl⟩
abbrev main_v393 : Ref sig .tc := ⟨.hbm, 561, rfl⟩
abbrev main_v394 : Ref sig .tc := ⟨.hbm, 562, rfl⟩
abbrev main_v395 : Ref sig .tc := ⟨.hbm, 563, rfl⟩
abbrev main_v396 : Ref sig .tc := ⟨.hbm, 564, rfl⟩
abbrev main_cst_99 : Ref sig .tc := ⟨.hbm, 565, rfl⟩
abbrev main_v397 : Ref sig .tc := ⟨.hbm, 566, rfl⟩
abbrev main_v398 : Ref sig .tc := ⟨.hbm, 567, rfl⟩
abbrev main_v399 : Ref sig .tc := ⟨.hbm, 568, rfl⟩
abbrev main_v400 : Ref sig .tc := ⟨.hbm, 569, rfl⟩
abbrev main_v401 : Ref sig .tc := ⟨.hbm, 570, rfl⟩
abbrev main_v402 : Ref sig .tc := ⟨.hbm, 571, rfl⟩
abbrev main_v403 : Ref sig .tc := ⟨.hbm, 572, rfl⟩
abbrev main_v404 : Ref sig .tc := ⟨.hbm, 573, rfl⟩
abbrev main_v405 : Ref sig .tc := ⟨.hbm, 574, rfl⟩
abbrev main_cst_100 : Ref sig .tc := ⟨.hbm, 575, rfl⟩
abbrev main_v406 : Ref sig .tc := ⟨.hbm, 576, rfl⟩
abbrev main_v407 : Ref sig .tc := ⟨.hbm, 577, rfl⟩
abbrev main_v408 : Ref sig .tc := ⟨.hbm, 578, rfl⟩
abbrev main_v409 : Ref sig .tc := ⟨.hbm, 579, rfl⟩
abbrev main_cst_101 : Ref sig .tc := ⟨.hbm, 580, rfl⟩
abbrev main_v410 : Ref sig .tc := ⟨.hbm, 581, rfl⟩
abbrev main_v411 : Ref sig .tc := ⟨.hbm, 582, rfl⟩
abbrev main_v412 : Ref sig .tc := ⟨.hbm, 583, rfl⟩
abbrev main_v413 : Ref sig .tc := ⟨.hbm, 584, rfl⟩
abbrev main_v414 : Ref sig .tc := ⟨.hbm, 585, rfl⟩
abbrev main_v415 : Ref sig .tc := ⟨.hbm, 586, rfl⟩
abbrev main_v416 : Ref sig .tc := ⟨.hbm, 587, rfl⟩
abbrev main_v417 : Ref sig .tc := ⟨.hbm, 588, rfl⟩
abbrev main_v418 : Ref sig .tc := ⟨.hbm, 589, rfl⟩
abbrev main_cst_102 : Ref sig .tc := ⟨.hbm, 590, rfl⟩
abbrev main_v419 : Ref sig .tc := ⟨.hbm, 591, rfl⟩
abbrev main_v420 : Ref sig .tc := ⟨.hbm, 592, rfl⟩
abbrev main_v421 : Ref sig .tc := ⟨.hbm, 593, rfl⟩
abbrev main_v422 : Ref sig .tc := ⟨.hbm, 594, rfl⟩
abbrev main_cst_103 : Ref sig .tc := ⟨.hbm, 595, rfl⟩
abbrev main_v423 : Ref sig .tc := ⟨.hbm, 596, rfl⟩
abbrev main_v424 : Ref sig .tc := ⟨.hbm, 597, rfl⟩
abbrev main_v425 : Ref sig .tc := ⟨.hbm, 598, rfl⟩
abbrev main_v426 : Ref sig .tc := ⟨.hbm, 599, rfl⟩
abbrev main_v427 : Ref sig .tc := ⟨.hbm, 600, rfl⟩
abbrev main_v428 : Ref sig .tc := ⟨.hbm, 601, rfl⟩
abbrev main_v429 : Ref sig .tc := ⟨.hbm, 602, rfl⟩
abbrev main_v430 : Ref sig .tc := ⟨.hbm, 603, rfl⟩
abbrev main_v431 : Ref sig .tc := ⟨.hbm, 604, rfl⟩
abbrev main_cst_104 : Ref sig .tc := ⟨.hbm, 605, rfl⟩
abbrev main_v432 : Ref sig .tc := ⟨.hbm, 606, rfl⟩
abbrev main_v433 : Ref sig .tc := ⟨.hbm, 607, rfl⟩
abbrev main_v434 : Ref sig .tc := ⟨.hbm, 608, rfl⟩
abbrev main_v435 : Ref sig .tc := ⟨.hbm, 609, rfl⟩
abbrev main_cst_105 : Ref sig .tc := ⟨.hbm, 610, rfl⟩
abbrev main_v436 : Ref sig .tc := ⟨.hbm, 611, rfl⟩
abbrev main_v437 : Ref sig .tc := ⟨.hbm, 612, rfl⟩
abbrev main_v438 : Ref sig .tc := ⟨.hbm, 613, rfl⟩
abbrev main_v439 : Ref sig .tc := ⟨.hbm, 614, rfl⟩
abbrev main_v440 : Ref sig .tc := ⟨.hbm, 615, rfl⟩
abbrev main_v441 : Ref sig .tc := ⟨.hbm, 616, rfl⟩
abbrev main_v442 : Ref sig .tc := ⟨.hbm, 617, rfl⟩
abbrev main_v443 : Ref sig .tc := ⟨.hbm, 618, rfl⟩
abbrev main_v444 : Ref sig .tc := ⟨.hbm, 619, rfl⟩
abbrev main_cst_106 : Ref sig .tc := ⟨.hbm, 620, rfl⟩
abbrev main_v445 : Ref sig .tc := ⟨.hbm, 621, rfl⟩
abbrev main_v446 : Ref sig .tc := ⟨.hbm, 622, rfl⟩
abbrev main_v447 : Ref sig .tc := ⟨.hbm, 623, rfl⟩
abbrev main_v448 : Ref sig .tc := ⟨.hbm, 624, rfl⟩
abbrev main_cst_107 : Ref sig .tc := ⟨.hbm, 625, rfl⟩
abbrev main_v449 : Ref sig .tc := ⟨.hbm, 626, rfl⟩
abbrev main_v450 : Ref sig .tc := ⟨.hbm, 627, rfl⟩
abbrev main_v451 : Ref sig .tc := ⟨.hbm, 628, rfl⟩
abbrev main_v452 : Ref sig .tc := ⟨.hbm, 629, rfl⟩
abbrev main_v453 : Ref sig .tc := ⟨.hbm, 630, rfl⟩
abbrev main_v454 : Ref sig .tc := ⟨.hbm, 631, rfl⟩
abbrev main_v455 : Ref sig .tc := ⟨.hbm, 632, rfl⟩
abbrev main_v456 : Ref sig .tc := ⟨.hbm, 633, rfl⟩
abbrev main_v457 : Ref sig .tc := ⟨.hbm, 634, rfl⟩
abbrev main_cst_108 : Ref sig .tc := ⟨.hbm, 635, rfl⟩
abbrev main_v458 : Ref sig .tc := ⟨.hbm, 636, rfl⟩
abbrev main_v459 : Ref sig .tc := ⟨.hbm, 637, rfl⟩
abbrev main_v460 : Ref sig .tc := ⟨.hbm, 638, rfl⟩
abbrev main_v461 : Ref sig .tc := ⟨.hbm, 639, rfl⟩
abbrev main_cst_109 : Ref sig .tc := ⟨.hbm, 640, rfl⟩
abbrev main_v462 : Ref sig .tc := ⟨.hbm, 641, rfl⟩
abbrev main_v463 : Ref sig .tc := ⟨.hbm, 642, rfl⟩
abbrev main_v464 : Ref sig .tc := ⟨.hbm, 643, rfl⟩
abbrev main_v465 : Ref sig .tc := ⟨.hbm, 644, rfl⟩
abbrev main_v466 : Ref sig .tc := ⟨.hbm, 645, rfl⟩
abbrev main_v467 : Ref sig .tc := ⟨.hbm, 646, rfl⟩
abbrev main_v468 : Ref sig .tc := ⟨.hbm, 647, rfl⟩
abbrev main_v469 : Ref sig .tc := ⟨.hbm, 648, rfl⟩
abbrev main_v470 : Ref sig .tc := ⟨.hbm, 649, rfl⟩
abbrev main_cst_110 : Ref sig .tc := ⟨.hbm, 650, rfl⟩
abbrev main_v471 : Ref sig .tc := ⟨.hbm, 651, rfl⟩
abbrev main_v472 : Ref sig .tc := ⟨.hbm, 652, rfl⟩
abbrev main_v473 : Ref sig .tc := ⟨.hbm, 653, rfl⟩
abbrev main_v474 : Ref sig .tc := ⟨.hbm, 654, rfl⟩
abbrev main_cst_111 : Ref sig .tc := ⟨.hbm, 655, rfl⟩
abbrev main_v475 : Ref sig .tc := ⟨.hbm, 656, rfl⟩
abbrev main_v476 : Ref sig .tc := ⟨.hbm, 657, rfl⟩
abbrev main_v477 : Ref sig .tc := ⟨.hbm, 658, rfl⟩
abbrev main_v478 : Ref sig .tc := ⟨.hbm, 659, rfl⟩
abbrev main_v479 : Ref sig .tc := ⟨.hbm, 660, rfl⟩
abbrev main_v480 : Ref sig .tc := ⟨.hbm, 661, rfl⟩
abbrev main_v481 : Ref sig .tc := ⟨.hbm, 662, rfl⟩
abbrev main_v482 : Ref sig .tc := ⟨.hbm, 663, rfl⟩
abbrev main_v483 : Ref sig .tc := ⟨.hbm, 664, rfl⟩
abbrev main_cst_112 : Ref sig .tc := ⟨.hbm, 665, rfl⟩
abbrev main_v484 : Ref sig .tc := ⟨.hbm, 666, rfl⟩
abbrev main_v485 : Ref sig .tc := ⟨.hbm, 667, rfl⟩
abbrev main_v486 : Ref sig .tc := ⟨.hbm, 668, rfl⟩
abbrev main_v487 : Ref sig .tc := ⟨.hbm, 669, rfl⟩
abbrev main_cst_113 : Ref sig .tc := ⟨.hbm, 670, rfl⟩
abbrev main_v488 : Ref sig .tc := ⟨.hbm, 671, rfl⟩
abbrev main_v489 : Ref sig .tc := ⟨.hbm, 672, rfl⟩
abbrev main_v490 : Ref sig .tc := ⟨.hbm, 673, rfl⟩
abbrev main_v491 : Ref sig .tc := ⟨.hbm, 674, rfl⟩
abbrev main_v492 : Ref sig .tc := ⟨.hbm, 675, rfl⟩
abbrev main_v493 : Ref sig .tc := ⟨.hbm, 676, rfl⟩
abbrev main_v494 : Ref sig .tc := ⟨.hbm, 677, rfl⟩
abbrev main_v495 : Ref sig .tc := ⟨.hbm, 678, rfl⟩
abbrev main_v496 : Ref sig .tc := ⟨.hbm, 679, rfl⟩
abbrev main_v497 : Ref sig .tc := ⟨.hbm, 680, rfl⟩
abbrev main_cst_114 : Ref sig .tc := ⟨.hbm, 681, rfl⟩
abbrev main_v498 : Ref sig .tc := ⟨.hbm, 682, rfl⟩
abbrev main_v499 : Ref sig .tc := ⟨.hbm, 683, rfl⟩
abbrev main_v500 : Ref sig .tc := ⟨.hbm, 684, rfl⟩
abbrev main_v501 : Ref sig .tc := ⟨.hbm, 685, rfl⟩
abbrev main_v502 : Ref sig .tc := ⟨.hbm, 686, rfl⟩
abbrev main_cst_115 : Ref sig .tc := ⟨.hbm, 687, rfl⟩
abbrev main_v503 : Ref sig .tc := ⟨.hbm, 688, rfl⟩
abbrev main_v504 : Ref sig .tc := ⟨.hbm, 689, rfl⟩
abbrev main_v505 : Ref sig .tc := ⟨.hbm, 690, rfl⟩
abbrev main_v506 : Ref sig .tc := ⟨.hbm, 691, rfl⟩
abbrev main_cst_116 : Ref sig .tc := ⟨.hbm, 692, rfl⟩
abbrev main_v507 : Ref sig .tc := ⟨.hbm, 693, rfl⟩
abbrev main_v508 : Ref sig .tc := ⟨.hbm, 694, rfl⟩
abbrev main_v509 : Ref sig .tc := ⟨.hbm, 695, rfl⟩
abbrev main_cst_117 : Ref sig .tc := ⟨.hbm, 696, rfl⟩
abbrev main_v510 : Ref sig .tc := ⟨.hbm, 697, rfl⟩
abbrev main_v511 : Ref sig .tc := ⟨.hbm, 698, rfl⟩
abbrev main_v512 : Ref sig .tc := ⟨.hbm, 699, rfl⟩
abbrev main_cst_118 : Ref sig .tc := ⟨.hbm, 700, rfl⟩
abbrev main_v513 : Ref sig .tc := ⟨.hbm, 701, rfl⟩
abbrev main_v514 : Ref sig .tc := ⟨.hbm, 702, rfl⟩
abbrev main_cst_119 : Ref sig .tc := ⟨.hbm, 703, rfl⟩
abbrev main_v515 : Ref sig .tc := ⟨.hbm, 704, rfl⟩
abbrev main_v516 : Ref sig .tc := ⟨.hbm, 705, rfl⟩
abbrev main_v517 : Ref sig .tc := ⟨.hbm, 706, rfl⟩
abbrev main_v518 : Ref sig .tc := ⟨.hbm, 707, rfl⟩
abbrev main_v519 : Ref sig .tc := ⟨.hbm, 708, rfl⟩
abbrev main_v520 : Ref sig .tc := ⟨.hbm, 709, rfl⟩
abbrev main_v521 : Ref sig .tc := ⟨.hbm, 710, rfl⟩
abbrev main_v522 : Ref sig .tc := ⟨.hbm, 711, rfl⟩
abbrev main_cst_120 : Ref sig .tc := ⟨.hbm, 712, rfl⟩
abbrev main_v523 : Ref sig .tc := ⟨.hbm, 713, rfl⟩
abbrev main_v524 : Ref sig .tc := ⟨.hbm, 714, rfl⟩
abbrev main_cst_121 : Ref sig .tc := ⟨.hbm, 715, rfl⟩
abbrev main_v525 : Ref sig .tc := ⟨.hbm, 716, rfl⟩
abbrev main_v526 : Ref sig .tc := ⟨.hbm, 717, rfl⟩
abbrev main_v527 : Ref sig .tc := ⟨.hbm, 718, rfl⟩
abbrev main_v528 : Ref sig .tc := ⟨.hbm, 719, rfl⟩
abbrev main_v529 : Ref sig .tc := ⟨.hbm, 720, rfl⟩
abbrev main_v530 : Ref sig .tc := ⟨.hbm, 721, rfl⟩
abbrev main_v531 : Ref sig .tc := ⟨.hbm, 722, rfl⟩
abbrev main_v532 : Ref sig .tc := ⟨.hbm, 723, rfl⟩
abbrev main_v533 : Ref sig .tc := ⟨.hbm, 724, rfl⟩
abbrev main_v534 : Ref sig .tc := ⟨.hbm, 725, rfl⟩
abbrev main_v535 : Ref sig .tc := ⟨.hbm, 726, rfl⟩
abbrev main_v536 : Ref sig .tc := ⟨.hbm, 727, rfl⟩
abbrev main_v537 : Ref sig .tc := ⟨.hbm, 728, rfl⟩
abbrev main_v538 : Ref sig .tc := ⟨.hbm, 729, rfl⟩
abbrev main_v539 : Ref sig .tc := ⟨.hbm, 730, rfl⟩
abbrev main_cst_122 : Ref sig .tc := ⟨.hbm, 731, rfl⟩
abbrev main_v540 : Ref sig .tc := ⟨.hbm, 732, rfl⟩
abbrev main_v541 : Ref sig .tc := ⟨.hbm, 733, rfl⟩
abbrev main_cst_123 : Ref sig .tc := ⟨.hbm, 734, rfl⟩
abbrev main_v542 : Ref sig .tc := ⟨.hbm, 735, rfl⟩
abbrev main_v543 : Ref sig .tc := ⟨.hbm, 736, rfl⟩
abbrev main_v544 : Ref sig .tc := ⟨.hbm, 737, rfl⟩
abbrev main_v545 : Ref sig .tc := ⟨.hbm, 738, rfl⟩
abbrev main_cst_124 : Ref sig .tc := ⟨.hbm, 739, rfl⟩
abbrev main_v546 : Ref sig .tc := ⟨.hbm, 740, rfl⟩
abbrev main_v547 : Ref sig .tc := ⟨.hbm, 741, rfl⟩
abbrev main_cst_125 : Ref sig .tc := ⟨.hbm, 742, rfl⟩
abbrev main_v548 : Ref sig .tc := ⟨.hbm, 743, rfl⟩
abbrev main_v549 : Ref sig .tc := ⟨.hbm, 744, rfl⟩
abbrev main_cst_126 : Ref sig .tc := ⟨.hbm, 745, rfl⟩
abbrev main_v550 : Ref sig .tc := ⟨.hbm, 746, rfl⟩
abbrev main_v551 : Ref sig .tc := ⟨.hbm, 747, rfl⟩
abbrev main_v552 : Ref sig .tc := ⟨.hbm, 748, rfl⟩
abbrev main_v553 : Ref sig .tc := ⟨.hbm, 749, rfl⟩
abbrev main_cst_127 : Ref sig .tc := ⟨.hbm, 750, rfl⟩
abbrev main_v554 : Ref sig .tc := ⟨.hbm, 751, rfl⟩
abbrev main_v555 : Ref sig .tc := ⟨.hbm, 752, rfl⟩
abbrev main_cst_128 : Ref sig .tc := ⟨.hbm, 753, rfl⟩
abbrev main_v556 : Ref sig .tc := ⟨.hbm, 754, rfl⟩
abbrev main_v557 : Ref sig .tc := ⟨.hbm, 755, rfl⟩
abbrev main_v558 : Ref sig .tc := ⟨.hbm, 756, rfl⟩
abbrev main_cst_129 : Ref sig .tc := ⟨.hbm, 757, rfl⟩
abbrev main_v559 : Ref sig .tc := ⟨.hbm, 758, rfl⟩
abbrev main_v560 : Ref sig .tc := ⟨.hbm, 759, rfl⟩
abbrev main_v561 : Ref sig .tc := ⟨.hbm, 760, rfl⟩
abbrev main_cst_130 : Ref sig .tc := ⟨.hbm, 761, rfl⟩
abbrev main_v562 : Ref sig .tc := ⟨.hbm, 762, rfl⟩
abbrev main_v563 : Ref sig .tc := ⟨.hbm, 763, rfl⟩
abbrev main_v564 : Ref sig .tc := ⟨.hbm, 764, rfl⟩
abbrev main_v565 : Ref sig .tc := ⟨.hbm, 765, rfl⟩
abbrev main_v566 : Ref sig .tc := ⟨.hbm, 766, rfl⟩
abbrev main_cst_131 : Ref sig .tc := ⟨.hbm, 767, rfl⟩
abbrev main_v567 : Ref sig .tc := ⟨.hbm, 768, rfl⟩
abbrev main_v568 : Ref sig .tc := ⟨.hbm, 769, rfl⟩
abbrev main_cst_132 : Ref sig .tc := ⟨.hbm, 770, rfl⟩
abbrev main_v569 : Ref sig .tc := ⟨.hbm, 771, rfl⟩
abbrev main_v570 : Ref sig .tc := ⟨.hbm, 772, rfl⟩
abbrev main_v571 : Ref sig .tc := ⟨.hbm, 773, rfl⟩
abbrev main_cst_133 : Ref sig .tc := ⟨.hbm, 774, rfl⟩
abbrev main_v572 : Ref sig .tc := ⟨.hbm, 775, rfl⟩
abbrev main_v573 : Ref sig .tc := ⟨.hbm, 776, rfl⟩
abbrev main_v574 : Ref sig .tc := ⟨.hbm, 777, rfl⟩
abbrev main_cst_134 : Ref sig .tc := ⟨.hbm, 778, rfl⟩
abbrev main_v575 : Ref sig .tc := ⟨.hbm, 779, rfl⟩
abbrev main_v576 : Ref sig .tc := ⟨.hbm, 780, rfl⟩
abbrev main_v577 : Ref sig .tc := ⟨.hbm, 781, rfl⟩
abbrev main_v578 : Ref sig .tc := ⟨.hbm, 782, rfl⟩
abbrev main_v579 : Ref sig .tc := ⟨.hbm, 783, rfl⟩
abbrev main_cst_135 : Ref sig .tc := ⟨.hbm, 784, rfl⟩
abbrev main_v580 : Ref sig .tc := ⟨.hbm, 785, rfl⟩
abbrev main_v581 : Ref sig .tc := ⟨.hbm, 786, rfl⟩
abbrev main_cst_136 : Ref sig .tc := ⟨.hbm, 787, rfl⟩
abbrev main_v582 : Ref sig .tc := ⟨.hbm, 788, rfl⟩
abbrev main_v583 : Ref sig .tc := ⟨.hbm, 789, rfl⟩
abbrev main_v584 : Ref sig .tc := ⟨.hbm, 790, rfl⟩
abbrev main_cst_137 : Ref sig .tc := ⟨.hbm, 791, rfl⟩
abbrev main_v585 : Ref sig .tc := ⟨.hbm, 792, rfl⟩
abbrev main_v586 : Ref sig .tc := ⟨.hbm, 793, rfl⟩
abbrev main_v587 : Ref sig .tc := ⟨.hbm, 794, rfl⟩
abbrev main_cst_138 : Ref sig .tc := ⟨.hbm, 795, rfl⟩
abbrev main_v588 : Ref sig .tc := ⟨.hbm, 796, rfl⟩
abbrev main_v589 : Ref sig .tc := ⟨.hbm, 797, rfl⟩
abbrev main_v590 : Ref sig .tc := ⟨.hbm, 798, rfl⟩
abbrev main_v591 : Ref sig .tc := ⟨.hbm, 799, rfl⟩
abbrev main_v592 : Ref sig .tc := ⟨.hbm, 800, rfl⟩
abbrev main_cst_139 : Ref sig .tc := ⟨.hbm, 801, rfl⟩
abbrev main_v593 : Ref sig .tc := ⟨.hbm, 802, rfl⟩
abbrev main_v594 : Ref sig .tc := ⟨.hbm, 803, rfl⟩
abbrev main_v595 : Ref sig .tc := ⟨.hbm, 804, rfl⟩
abbrev main_v596 : Ref sig .tc := ⟨.hbm, 805, rfl⟩
abbrev main_cst_140 : Ref sig .tc := ⟨.hbm, 806, rfl⟩
abbrev main_v597 : Ref sig .tc := ⟨.hbm, 807, rfl⟩
abbrev main_v598 : Ref sig .tc := ⟨.hbm, 808, rfl⟩
abbrev main_v599 : Ref sig .tc := ⟨.hbm, 809, rfl⟩
abbrev main_v600 : Ref sig .tc := ⟨.hbm, 810, rfl⟩
abbrev main_v601 : Ref sig .tc := ⟨.hbm, 811, rfl⟩
abbrev main_v602 : Ref sig .tc := ⟨.hbm, 812, rfl⟩
abbrev main_v603 : Ref sig .tc := ⟨.hbm, 813, rfl⟩
abbrev main_v604 : Ref sig .tc := ⟨.hbm, 814, rfl⟩
abbrev main_v605 : Ref sig .tc := ⟨.hbm, 815, rfl⟩
abbrev main_v606 : Ref sig .tc := ⟨.hbm, 816, rfl⟩
abbrev main_v607 : Ref sig .tc := ⟨.hbm, 817, rfl⟩
abbrev main_v608 : Ref sig .tc := ⟨.hbm, 818, rfl⟩
abbrev main_v609 : Ref sig .tc := ⟨.hbm, 819, rfl⟩
abbrev main_v610 : Ref sig .tc := ⟨.hbm, 820, rfl⟩
abbrev main_v611 : Ref sig .tc := ⟨.hbm, 821, rfl⟩
abbrev main_v612 : Ref sig .tc := ⟨.hbm, 822, rfl⟩
abbrev main_v613 : Ref sig .tc := ⟨.hbm, 823, rfl⟩
abbrev main_v614 : Ref sig .tc := ⟨.hbm, 824, rfl⟩
abbrev main_v615 : Ref sig .tc := ⟨.hbm, 825, rfl⟩
abbrev main_v616 : Ref sig .tc := ⟨.hbm, 826, rfl⟩
abbrev main_v617 : Ref sig .tc := ⟨.hbm, 827, rfl⟩
abbrev main_cst_141 : Ref sig .tc := ⟨.hbm, 828, rfl⟩
abbrev main_v618 : Ref sig .tc := ⟨.hbm, 829, rfl⟩
abbrev main_v619 : Ref sig .tc := ⟨.hbm, 830, rfl⟩
abbrev main_call6_call0_cst : Ref sig .tc := ⟨.hbm, 831, rfl⟩
abbrev main_call6_call0_v0 : Ref sig .tc := ⟨.hbm, 832, rfl⟩
abbrev main_v620 : Ref sig .tc := ⟨.hbm, 833, rfl⟩
abbrev main_v621 : Ref sig .tc := ⟨.hbm, 834, rfl⟩
abbrev main_cst_142 : Ref sig .tc := ⟨.hbm, 835, rfl⟩
abbrev main_v622 : Ref sig .tc := ⟨.hbm, 836, rfl⟩
abbrev main_v623 : Ref sig .tc := ⟨.hbm, 837, rfl⟩
abbrev main_v624 : Ref sig .tc := ⟨.hbm, 838, rfl⟩
abbrev main_v625 : Ref sig .tc := ⟨.hbm, 839, rfl⟩
abbrev main_v626 : Ref sig .tc := ⟨.hbm, 840, rfl⟩
abbrev main_v627 : Ref sig .tc := ⟨.hbm, 841, rfl⟩
abbrev main_v628 : Ref sig .tc := ⟨.hbm, 842, rfl⟩
abbrev main_cst_143 : Ref sig .tc := ⟨.hbm, 843, rfl⟩
abbrev main_v629 : Ref sig .tc := ⟨.hbm, 844, rfl⟩
abbrev main_v630 : Ref sig .tc := ⟨.hbm, 845, rfl⟩
abbrev main_call7_call0_cst : Ref sig .tc := ⟨.hbm, 846, rfl⟩
abbrev main_call7_call0_v0 : Ref sig .tc := ⟨.hbm, 847, rfl⟩
abbrev main_v631 : Ref sig .tc := ⟨.hbm, 848, rfl⟩
abbrev main_v632 : Ref sig .tc := ⟨.hbm, 849, rfl⟩
abbrev main_cst_144 : Ref sig .tc := ⟨.hbm, 850, rfl⟩
abbrev main_v633 : Ref sig .tc := ⟨.hbm, 851, rfl⟩
abbrev main_v634 : Ref sig .tc := ⟨.hbm, 852, rfl⟩
abbrev main_v635 : Ref sig .tc := ⟨.hbm, 853, rfl⟩
abbrev main_v636 : Ref sig .tc := ⟨.hbm, 854, rfl⟩
abbrev main_v637 : Ref sig .tc := ⟨.hbm, 855, rfl⟩
abbrev main_v638 : Ref sig .tc := ⟨.hbm, 856, rfl⟩
abbrev main_v639 : Ref sig .tc := ⟨.hbm, 857, rfl⟩
abbrev main_v640 : Ref sig .tc := ⟨.hbm, 858, rfl⟩
abbrev main_cst_145 : Ref sig .tc := ⟨.hbm, 859, rfl⟩
abbrev main_v641 : Ref sig .tc := ⟨.hbm, 860, rfl⟩
abbrev main_v642 : Ref sig .tc := ⟨.hbm, 861, rfl⟩
abbrev main_call8_call0_cst : Ref sig .tc := ⟨.hbm, 862, rfl⟩
abbrev main_call8_call0_v0 : Ref sig .tc := ⟨.hbm, 863, rfl⟩
abbrev main_v643 : Ref sig .tc := ⟨.hbm, 864, rfl⟩
abbrev main_v644 : Ref sig .tc := ⟨.hbm, 865, rfl⟩
abbrev main_cst_146 : Ref sig .tc := ⟨.hbm, 866, rfl⟩
abbrev main_v645 : Ref sig .tc := ⟨.hbm, 867, rfl⟩
abbrev main_v646 : Ref sig .tc := ⟨.hbm, 868, rfl⟩
abbrev main_v647 : Ref sig .tc := ⟨.hbm, 869, rfl⟩
abbrev main_v648 : Ref sig .tc := ⟨.hbm, 870, rfl⟩
abbrev main_v649 : Ref sig .tc := ⟨.hbm, 871, rfl⟩
abbrev main_v650 : Ref sig .tc := ⟨.hbm, 872, rfl⟩
abbrev main_v651 : Ref sig .tc := ⟨.hbm, 873, rfl⟩
abbrev main_v652 : Ref sig .tc := ⟨.hbm, 874, rfl⟩
abbrev main_cst_147 : Ref sig .tc := ⟨.hbm, 875, rfl⟩
abbrev main_v653 : Ref sig .tc := ⟨.hbm, 876, rfl⟩
abbrev main_v654 : Ref sig .tc := ⟨.hbm, 877, rfl⟩
abbrev main_call9_call0_cst : Ref sig .tc := ⟨.hbm, 878, rfl⟩
abbrev main_call9_call0_v0 : Ref sig .tc := ⟨.hbm, 879, rfl⟩
abbrev main_v655 : Ref sig .tc := ⟨.hbm, 880, rfl⟩
abbrev main_v656 : Ref sig .tc := ⟨.hbm, 881, rfl⟩
abbrev main_cst_148 : Ref sig .tc := ⟨.hbm, 882, rfl⟩
abbrev main_v657 : Ref sig .tc := ⟨.hbm, 883, rfl⟩
abbrev main_v658 : Ref sig .tc := ⟨.hbm, 884, rfl⟩
abbrev main_v659 : Ref sig .tc := ⟨.hbm, 885, rfl⟩
abbrev main_v660 : Ref sig .tc := ⟨.hbm, 886, rfl⟩
abbrev main_v661 : Ref sig .tc := ⟨.hbm, 887, rfl⟩
abbrev main_v662 : Ref sig .tc := ⟨.hbm, 888, rfl⟩
abbrev main_v663 : Ref sig .tc := ⟨.hbm, 889, rfl⟩
abbrev main_v664 : Ref sig .tc := ⟨.hbm, 890, rfl⟩
abbrev main_v665 : Ref sig .tc := ⟨.hbm, 891, rfl⟩
abbrev main_v666 : Ref sig .tc := ⟨.hbm, 892, rfl⟩
abbrev main_v667 : Ref sig .tc := ⟨.hbm, 893, rfl⟩
abbrev main_v668 : Ref sig .tc := ⟨.hbm, 894, rfl⟩
abbrev main_v669 : Ref sig .tc := ⟨.hbm, 895, rfl⟩
abbrev main_v670 : Ref sig .tc := ⟨.hbm, 896, rfl⟩
abbrev main_v671 : Ref sig .tc := ⟨.hbm, 897, rfl⟩
abbrev main_v672 : Ref sig .tc := ⟨.hbm, 898, rfl⟩
abbrev main_v673 : Ref sig .tc := ⟨.hbm, 899, rfl⟩
abbrev main_v674 : Ref sig .tc := ⟨.hbm, 900, rfl⟩
abbrev main_v675 : Ref sig .tc := ⟨.hbm, 901, rfl⟩
abbrev main_v676 : Ref sig .tc := ⟨.hbm, 902, rfl⟩

abbrev nD : Nat := 1
abbrev τ : Topo := Topo.v7x

variable {F : FTy → Type} [FloatOps F]
-- ==== FfnFwd.lean ====
abbrev S1x4096x1024 : Shape := ⟨3, ![1, 4096, 1024]⟩
abbrev S1024 : Shape := ⟨1, ![1024]⟩
abbrev S1x1024x2816 : Shape := ⟨3, ![1, 1024, 2816]⟩
abbrev S1x2816x1024 : Shape := ⟨3, ![1, 2816, 1024]⟩
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S4096x2816 : Shape := ⟨2, ![4096, 2816]⟩
abbrev S512x1024 : Shape := ⟨2, ![512, 1024]⟩
abbrev S512x2816 : Shape := ⟨2, ![512, 2816]⟩
abbrev S3 : Shape := ⟨1, ![3]⟩
abbrev S1 : Shape := ⟨1, ![1]⟩
abbrev S_ : Shape := ⟨0, ![]⟩
abbrev S256x1024 : Shape := ⟨2, ![256, 1024]⟩
abbrev S512x256 : Shape := ⟨2, ![512, 256]⟩
abbrev S256 : Shape := ⟨1, ![256]⟩
abbrev S256x1 : Shape := ⟨2, ![256, 1]⟩

abbrev nBuf : Space → Nat
  | .hbm => 26
  | .vmem => 20
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x4096x1024, .f32⟩
  | .hbm, ⟨3, _⟩ => ⟨S1024, .f32⟩
  | .hbm, ⟨4, _⟩ => ⟨S1x1024x2816, .f32⟩
  | .hbm, ⟨5, _⟩ => ⟨S1x1024x2816, .f32⟩
  | .hbm, ⟨6, _⟩ => ⟨S1x2816x1024, .f32⟩
  | .hbm, ⟨7, _⟩ => ⟨S4096x1024, .f32⟩
  | .hbm, ⟨8, _⟩ => ⟨S4096x1024, .f32⟩
  | .hbm, ⟨9, _⟩ => ⟨S4096x1024, .bf16⟩
  | .hbm, ⟨10, _⟩ => ⟨S4096x1024, .f32⟩
  | .hbm, ⟨11, _⟩ => ⟨S1x1024, .f32⟩
  | .hbm, ⟨12, _⟩ => ⟨S1024x2816, .f32⟩
  | .hbm, ⟨13, _⟩ => ⟨S2816x1024, .f32⟩
  | .hbm, ⟨14, _⟩ => ⟨S2816x1024, .bf16⟩
  | .hbm, ⟨15, _⟩ => ⟨S1024x2816, .f32⟩
  | .hbm, ⟨16, _⟩ => ⟨S2816x1024, .f32⟩
  | .hbm, ⟨17, _⟩ => ⟨S2816x1024, .bf16⟩
  | .hbm, ⟨18, _⟩ => ⟨S2816x1024, .f32⟩
  | .hbm, ⟨19, _⟩ => ⟨S2816x1024, .bf16⟩
  | .hbm, ⟨20, _⟩ => ⟨S4096x2816, .bf16⟩
  | .hbm, ⟨21, _⟩ => ⟨S4096x2816, .bf16⟩
  | .hbm, ⟨22, _⟩ => ⟨S4096x1024, .f32⟩
  | .hbm, ⟨23, _⟩ => ⟨S4096x1024, .bf16⟩
  | .hbm, ⟨24, _⟩ => ⟨S1x1024, .f32⟩
  | .hbm, ⟨25, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S1x1024, .f32⟩
  | .local _ .vmem, ⟨17, _⟩ => ⟨S2816x1024, .bf16⟩
  | .local _ .vmem, ⟨18, _⟩ => ⟨S2816x1024, .bf16⟩
  | .local _ .vmem, ⟨19, _⟩ => ⟨S2816x1024, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v13_2 : Ref sig .tc := ⟨.hbm, 22, rfl⟩
abbrev main_v13_3 : Ref sig .tc := ⟨.hbm, 23, rfl⟩
abbrev main_v13_4 : Ref sig .tc := ⟨.hbm, 24, rfl⟩
abbrev main_v13_5 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FfnFwdRefIdeal.lean ====
abbrev S1x4096x1024 : Shape := ⟨3, ![1, 4096, 1024]⟩
abbrev S1024 : Shape := ⟨1, ![1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S1x4096x2816 : Shape := ⟨3, ![1, 4096, 2816]⟩
abbrev S_ : Shape := ⟨0, ![]⟩
abbrev S2816x1024 : Shape := ⟨2, ![2816, 1024]⟩
abbrev S1x4096 : Shape := ⟨2, ![1, 4096]⟩
abbrev S1x4096x1 : Shape := ⟨3, ![1, 4096, 1]⟩
abbrev S1x1x1024 : Shape := ⟨3, ![1, 1, 1024]⟩
abbrev S1x1024 : Shape := ⟨2, ![1, 1024]⟩
abbrev S4096 : Shape := ⟨1, ![4096]⟩
abbrev S4096x2816 : Shape := ⟨2, ![4096, 2816]⟩
abbrev S4096x1024 : Shape := ⟨2, ![4096, 1024]⟩

abbrev nBuf : Space → Nat
  | .hbm => 123
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x4096x1024, .f32⟩
  | .hbm, ⟨3, _⟩ => ⟨S1024, .f32⟩
  | .hbm, ⟨4, _⟩ => ⟨S1x1024x2816, .f32⟩
  | .hbm, ⟨5, _⟩ => ⟨S1x1024x2816, .f32⟩
  | .hbm, ⟨6, _⟩ => ⟨S1x2816x1024, .f32⟩
  | .hbm, ⟨7, _⟩ => ⟨S1024x2816, .f32⟩
  | .hbm, ⟨8, _⟩ => ⟨S1x4096x2816, .f32⟩
  | .hbm, ⟨9, _⟩ => ⟨S1024x2816, .f32⟩
  | .hbm, ⟨10, _⟩ => ⟨S1x4096x2816, .f32⟩
  | .hbm, ⟨11, _⟩ => ⟨S1x4096x2816, .f32⟩
  | .hbm, ⟨12, _⟩ => ⟨S1x4096x2816, .f32⟩
  | .hbm, ⟨13, _⟩ => ⟨S_, .f32⟩
  | .hbm, ⟨14, _⟩ => ⟨S1x4096x2816, .f32⟩
  | .hbm, ⟨15, _⟩ => ⟨S1x4096x2816, .f32⟩
  | .hbm, ⟨16, _⟩ => ⟨S_, .f32⟩
  | .hbm, ⟨17, _⟩ => ⟨S1x4096x2816, .f32⟩
  | .hbm, ⟨18, _⟩ => ⟨S1x4096x2816, .f32⟩
  | .hbm, ⟨19, _⟩ => ⟨S1x4096x2816, .f32⟩
  | .hbm, ⟨20, _⟩ => ⟨S1x4096x2816, .f32⟩
  | .hbm, ⟨21, _⟩ => ⟨S2816x1024, .f32⟩
  | .hbm, ⟨22, _⟩ => ⟨S1x4096x1024, .f32⟩
  | .hbm, ⟨23, _⟩ => ⟨S1x4096x1024, .f32⟩
  | .hbm, ⟨24, _⟩ => ⟨S1x4096x1024, .f32⟩
  | .hbm, ⟨25, _⟩ => ⟨S_, .f32⟩
  | .hbm, ⟨26, _⟩ => ⟨S1x4096, .f32⟩
  | .hbm, ⟨27, _⟩ => ⟨S1x4096x1, .f32⟩
  | .hbm, ⟨28, _⟩ => ⟨S_, .f32⟩
  | .hbm, ⟨29, _⟩ => ⟨S1x4096x1, .f32⟩
  | .hbm, ⟨30, _⟩ => ⟨S1x4096x1, .f32⟩
  | .hbm, ⟨31, _⟩ => ⟨S_, .f32⟩
  | .hbm, ⟨32, _⟩ => ⟨S1x4096x1, .f32⟩
  | .hbm, ⟨33, _⟩ => ⟨S1x4096x1, .f32⟩
  | .hbm, ⟨34, _⟩ => ⟨S1x4096x1, .f32⟩
  | .hbm, ⟨35, _⟩ => ⟨S1x4096x1, .f32⟩
  | .hbm, ⟨36, _⟩ => ⟨S_, .f32⟩
  | .hbm, ⟨37, _⟩ => ⟨S1x4096x1, .f32⟩
  | .hbm, ⟨38, _⟩ => ⟨S1x4096x1, .f32⟩
  | .hbm, ⟨39, _⟩ => ⟨S1x4096x1024, .f32⟩
  | .hbm, ⟨40, _⟩ => ⟨S1x4096x1024, .f32⟩
  | .hbm, ⟨41, _⟩ => ⟨S1x1x1024, .f32⟩
  | .hbm, ⟨42, _⟩ => ⟨S1x4096x1024, .f32⟩
  | .hbm, ⟨43, _⟩ => ⟨S1x4096x1024, .f32⟩
  | .hbm, ⟨44, _⟩ => ⟨S1x4096x1024, .f32⟩
  | .hbm, ⟨45, _⟩ => ⟨S1x4096x1024, .f32⟩
  | .hbm, ⟨46, _⟩ => ⟨S_, .f32⟩
  | .hbm, ⟨47, _⟩ => ⟨S1x4096x1024, .f32⟩
  | .hbm, ⟨48, _⟩ => ⟨S1x4096x1024, .f32⟩
  | .hbm, ⟨49, _⟩ => ⟨S_, .f32⟩
  | .hbm, ⟨50, _⟩ => ⟨S1x4096, .f32⟩
  | .hbm, ⟨51, _⟩ => ⟨S_, .f32⟩
  | .hbm, ⟨52, _⟩ => ⟨S1x4096, .f32⟩
  | .hbm, ⟨53, _⟩ => ⟨S1x4096, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S1x4096, .f32⟩
  | .hbm, ⟨62, _⟩ => ⟨S_, .f32⟩
  | .hbm, ⟨63, _⟩ => ⟨S1x4096, .f32⟩
  | .hbm, ⟨64, _⟩ => ⟨S1x4096, .f32⟩
  | .hbm, ⟨65, _⟩ => ⟨S1x4096x1024, .f32⟩
  | .hbm, ⟨66, _⟩ => ⟨S1x4096x1024, .f32⟩
  | .hbm, ⟨67, _⟩ => ⟨S1x4096x1024, .f32⟩
  | .hbm, ⟨68, _⟩ => ⟨S_, .f32⟩
  | .hbm, ⟨69, _⟩ => ⟨S1x1024, .f32⟩
  | .hbm, ⟨70, _⟩ => ⟨S1x1x1024, .f32⟩
  | .hbm, ⟨71, _⟩ => ⟨S1x4096x1024, .f32⟩
  | .hbm, ⟨72, _⟩ => ⟨S1x4096x1024, .f32⟩
  | .hbm, ⟨73, _⟩ => ⟨S_, .f32⟩
  | .hbm, ⟨74, _⟩ => ⟨S1024, .f32⟩
  | .hbm, ⟨75, _⟩ => ⟨S1x4096x1024, .f32⟩
  | .hbm, ⟨76, _⟩ => ⟨S_, .f32⟩
  | .hbm, ⟨77, _⟩ => ⟨S1x4096, .f32⟩
  | .hbm, ⟨78, _⟩ => ⟨S1x4096x1, .f32⟩
  | .hbm, ⟨79, _⟩ => ⟨S1x4096x1024, .f32⟩
  | .hbm, ⟨80, _⟩ => ⟨S1x4096x1024, .f32⟩
  | .hbm, ⟨81, _⟩ => ⟨S1x4096x1, .f32⟩
  | .hbm, ⟨82, _⟩ => ⟨S_, .f32⟩
  | .hbm, ⟨83, _⟩ => ⟨S1x4096x1, .f32⟩
  | .hbm, ⟨84, _⟩ => ⟨S1x4096x1, .f32⟩
  | .hbm, ⟨85, _⟩ => ⟨S_, .f32⟩
  | .hbm, ⟨86, _⟩ => ⟨S4096, .f32⟩
  | .hbm, ⟨87, _⟩ => ⟨S1x4096, .f32⟩
  | .hbm, ⟨88, _⟩ => ⟨S1x4096x1024, .f32⟩
  | .hbm, ⟨89, _⟩ => ⟨S1x4096x1024, .f32⟩
  | .hbm, ⟨90, _⟩ => ⟨S1x4096x1024, .f32⟩
  | .hbm, ⟨91, _⟩ => ⟨S1x4096x1024, .f32⟩
  | .hbm, ⟨92, _⟩ => ⟨S1x4096x1024, .f32⟩
  | .hbm, ⟨93, _⟩ => ⟨S1x4096x1024, .f32⟩
  | .hbm, ⟨94, _⟩ => ⟨S1x4096x1024, .f32⟩
  | .hbm, ⟨95, _⟩ => ⟨S_, .f32⟩
  | .hbm, ⟨96, _⟩ => ⟨S1x4096, .f32⟩
  | .hbm, ⟨97, _⟩ => ⟨S1x4096x1, .f32⟩
  | .hbm, ⟨98, _⟩ => ⟨S_, .f32⟩
  | .hbm, ⟨99, _⟩ => ⟨S1x4096x1, .f32⟩
  | .hbm, ⟨100, _⟩ => ⟨S1x4096x1, .f32⟩
  | .hbm, ⟨101, _⟩ => ⟨S_, .f32⟩
  | .hbm, ⟨102, _⟩ => ⟨S1x4096x1, .f32⟩
  | .hbm, ⟨103, _⟩ => ⟨S1x4096x1, .f32⟩
  | .hbm, ⟨104, _⟩ => ⟨S1x4096x1, .f32⟩
  | .hbm, ⟨105, _⟩ => ⟨S1x4096x1024, .f32⟩
  | .hbm, ⟨106, _⟩ => ⟨S1x4096x1024, .f32⟩
  | .hbm, ⟨107, _⟩ => ⟨S1x1x1024, .f32⟩
  | .hbm, ⟨108, _⟩ => ⟨S1x4096x1024, .f32⟩
  | .hbm, ⟨109, _⟩ => ⟨S1x4096x1024, .f32⟩
  | .hbm, ⟨110, _⟩ => ⟨S1x4096x1024, .f32⟩
  | .hbm, ⟨111, _⟩ => ⟨S1x4096x1024, .f32⟩
  | .hbm, ⟨112, _⟩ => ⟨S_, .f32⟩
  | .hbm, ⟨113, _⟩ => ⟨S1024, .f32⟩
  | .hbm, ⟨114, _⟩ => ⟨S4096x2816, .f32⟩
  | .hbm, ⟨115, _⟩ => ⟨S4096x2816, .bf16⟩
  | .hbm, ⟨116, _⟩ => ⟨S4096x2816, .f32⟩
  | .hbm, ⟨117, _⟩ => ⟨S4096x2816, .bf16⟩
  | .hbm, ⟨118, _⟩ => ⟨S4096x1024, .f32⟩
  | .hbm, ⟨119, _⟩ => ⟨S4096x1024, .f32⟩
  | .hbm, ⟨120, _⟩ => ⟨S4096x1024, .bf16⟩
  | .hbm, ⟨121, _⟩ => ⟨S1x1024, .f32⟩
  | .hbm, ⟨122, _⟩ => ⟨S1x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_cst_5 : Ref sig .tc := ⟨.hbm, 51, rfl⟩
abbrev main_v30 : Ref sig .tc := ⟨.hbm, 52, rfl⟩
abbrev main_v31 : Ref sig .tc := ⟨.hbm, 53, rfl⟩
abbrev main_cst_6 : Ref sig .tc := ⟨.hbm, 54, rfl⟩
abbrev main_v32 : Ref sig .tc := ⟨.hbm, 55, rfl⟩
abbrev main_cst_7 : Ref sig .tc := ⟨.hbm, 56, rfl⟩
abbrev main_v33 : Ref sig .tc := ⟨.hbm, 57, rfl⟩
abbrev main_cst_8 : Ref sig .tc := ⟨.hbm, 58, rfl⟩
abbrev main_cst_9 : Ref sig .tc := ⟨.hbm, 59, rfl⟩
abbrev main_v34 : Ref sig .tc := ⟨.hbm, 60, rfl⟩
abbrev main_v35 : Ref sig .tc := ⟨.hbm, 61, rfl⟩
abbrev main_cst_10 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_11 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_12 : Ref sig .tc := ⟨.hbm, 73, rfl⟩
abbrev main_v45 : Ref sig .tc := ⟨.hbm, 74, rfl⟩
abbrev main_v46 : Ref sig .tc := ⟨.hbm, 75, rfl⟩
abbrev main_cst_13 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_14 : Ref sig .tc := ⟨.hbm, 82, rfl⟩
abbrev main_v52 : Ref sig .tc := ⟨.hbm, 83, rfl⟩
abbrev main_v53 : Ref sig .tc := ⟨.hbm, 84, rfl⟩
abbrev main_cst_15 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_16 : Ref sig .tc := ⟨.hbm, 95, rfl⟩
abbrev main_v63 : Ref sig .tc := ⟨.hbm, 96, rfl⟩
abbrev main_v64 : Ref sig .tc := ⟨.hbm, 97, rfl⟩
abbrev main_cst_17 : Ref sig .tc := ⟨.hbm, 98, rfl⟩
abbrev main_v65 : Ref sig .tc := ⟨.hbm, 99, rfl⟩
abbrev main_v66 : Ref sig .tc := ⟨.hbm, 100, rfl⟩
abbrev main_cst_18 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_19 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩

abbrev nD : Nat := 1
abbrev τ : Topo := Topo.v7x

variable {F : FTy → Type} [FloatOps F]
-- ==== FfnBwd.lean ====
abbrev S1x4096x1024 : Shape := ⟨3, ![1, 4096, 1024]⟩
abbrev S1x1024x2816 : Shape := ⟨3, ![1, 1024, 2816]⟩
abbrev S1x2816x1024 : Shape := ⟨3, ![1, 2816, 1024]⟩
abbrev S4096x1024 : Shape := ⟨2, ![4096, 1024]⟩
abbrev S1024x2816 : Shape := ⟨2, ![1024, 2816]⟩
abbrev S4096x2816 : Shape := ⟨2, ![4096, 2816]⟩
abbrev S2816x1024 : Shape := ⟨2, ![2816, 1024]⟩
abbrev S1024x1024 : Shape := ⟨2, ![1024, 1024]⟩
abbrev S1024x256 : Shape := ⟨2, ![1024, 256]⟩
abbrev S256x1024 : Shape := ⟨2, ![256, 1024]⟩
abbrev S1024x512 : Shape := ⟨2, ![1024, 512]⟩
abbrev S512x1024 : Shape := ⟨2, ![512, 1024]⟩

abbrev nBuf : Space → Nat
  | .hbm => 27
  | .vmem => 26
  | .smem => 0
  | _ => 0

abbrev bufTy : (tb : Table) → Fin (tcTables nBuf tb) → BufTy
  | .hbm, ⟨0, _⟩ => ⟨S1x4096x1024, .f32⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S1x4096x1024, .f32⟩
  | .hbm, ⟨5, _⟩ => ⟨S4096x1024, .f32⟩
  | .hbm, ⟨6, _⟩ => ⟨S1024x2816, .f32⟩
  | .hbm, ⟨7, _⟩ => ⟨S4096x2816, .f32⟩
  | .hbm, ⟨8, _⟩ => ⟨S4096x2816, .bf16⟩
  | .hbm, ⟨9, _⟩ => ⟨S1024x2816, .f32⟩
  | .hbm, ⟨10, _⟩ => ⟨S4096x2816, .f32⟩
  | .hbm, ⟨11, _⟩ => ⟨S4096x2816, .bf16⟩
  | .hbm, ⟨12, _⟩ => ⟨S4096x1024, .bf16⟩
  | .hbm, ⟨13, _⟩ => ⟨S4096x1024, .f32⟩
  | .hbm, ⟨14, _⟩ => ⟨S4096x1024, .bf16⟩
  | .hbm, ⟨15, _⟩ => ⟨S1024x2816, .f32⟩
  | .hbm, ⟨16, _⟩ => ⟨S2816x1024, .f32⟩
  | .hbm, ⟨17, _⟩ => ⟨S2816x1024, .bf16⟩
  | .hbm, ⟨18, _⟩ => ⟨S1024x2816, .f32⟩
  | .hbm, ⟨19, _⟩ => ⟨S2816x1024, .f32⟩
  | .hbm, ⟨20, _⟩ => ⟨S2816x1024, .bf16⟩
  | .hbm, ⟨21, _⟩ => ⟨S2816x1024, .f32⟩
  | .hbm, ⟨22, _⟩ => ⟨S2816x1024, .bf16⟩
  | .hbm, ⟨23, _⟩ => ⟨S2816x1024, .bf16⟩
  | .hbm, ⟨24, _⟩ => ⟨S2816x1024, .bf16⟩
  | .hbm, ⟨25, _⟩ => ⟨S2816x1024, .bf16⟩
  | .hbm, ⟨26, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S1024x1024, .f32⟩
  | .local _ .vmem, ⟨21, _⟩ => ⟨S1024x1024, .f32⟩
  | .local _ .vmem, ⟨22, _⟩ => ⟨S4096x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18_0 : Ref sig .tc := ⟨.hbm, 23, rfl⟩
abbrev main_v18_1 : Ref sig .tc := ⟨.hbm, 24, rfl⟩
abbrev main_v18_2 : Ref sig .tc := ⟨.hbm, 25, rfl⟩
abbrev main_v18_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![11, 4], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_cond2 (i : grid0.Coords) : BitVec 1 :=
  let arg0 : BitVec 32 := BitVec.ofNat 32 (i 0).val
  let c0_i32_1 : BitVec 32 := 0#32
  let v5 : BitVec 1 := Scalar.cmpi .eq arg0 c0_i32_1
  let v6 : BitVec 32 := Scalar.extui v5
  let c0_i32_2 : BitVec 32 := 0#32
  let v7 : BitVec 1 := Scalar.cmpi .ne v6 c0_i32_2
  v7

def k0_off1 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v75 : Index := Scalar.indexCast v1
  let c0_39 : Index := 0#32
  ![v75.toNat, 0]
def k0_off2 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v54 : Index := Scalar.indexCast v1
  let c0_29 : Index := 0#32
  ![v54.toNat, 0]
def k0_cond4 (i : grid0.Coords) : BitVec 1 :=
  let arg0 : BitVec 32 := BitVec.ofNat 32 (i 0).val
  let c10_i32 : BitVec 32 := 10#32
  let v71 : BitVec 1 := Scalar.cmpi .eq arg0 c10_i32
  let v72 : BitVec 32 := Scalar.extui v71
  let c0_i32_37 : BitVec 32 := 0#32
  let v73 : BitVec 1 := Scalar.cmpi .ne v72 c0_i32_37
  v73

def k0_off3 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v74 : Index := Scalar.indexCast v1
  let c0_38 : Index := 0#32
  ![v74.toNat, 0]
def k0_cond3 (i : grid0.Coords) : BitVec 1 :=
  let arg1 : BitVec 32 := BitVec.ofNat 32 (i 1).val
  let c3_i32 : BitVec 32 := 3#32
  let v68 : BitVec 1 := Scalar.cmpi .eq arg1 c3_i32
  let v69 : BitVec 32 := Scalar.extui v68
  let c0_i32_36 : BitVec 32 := 0#32
  let v70 : BitVec 1 := Scalar.cmpi .ne v69 c0_i32_36
  v70

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 1 := Scalar.cmpi .eq arg0 c10_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== FfnBwdRefIdeal.lean ====
abbrev S1x4096x1024 : Shape := ⟨3, ![1, 4096, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S1x4096x2816 : Shape := ⟨3, ![1, 4096, 2816]⟩
abbrev S_ : Shape := ⟨0, ![]⟩
abbrev S2816x1024 : Shape := ⟨2, ![2816, 1024]⟩
abbrev S4096x1024 : Shape := ⟨2, ![4096, 1024]⟩

abbrev nBuf : Space → Nat
  | .hbm => 53
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S1x4096x1024, .f32⟩
  | .hbm, ⟨5, _⟩ => ⟨S1024x2816, .f32⟩
  | .hbm, ⟨6, _⟩ => ⟨S1x4096x2816, .f32⟩
  | .hbm, ⟨7, _⟩ => ⟨S1x4096x2816, .f32⟩
  | .hbm, ⟨8, _⟩ => ⟨S1x4096x2816, .f32⟩
  | .hbm, ⟨9, _⟩ => ⟨S_, .f32⟩
  | .hbm, ⟨10, _⟩ => ⟨S1x4096x2816, .f32⟩
  | .hbm, ⟨11, _⟩ => ⟨S1x4096x2816, .f32⟩
  | .hbm, ⟨12, _⟩ => ⟨S_, .f32⟩
  | .hbm, ⟨13, _⟩ => ⟨S1x4096x2816, .f32⟩
  | .hbm, ⟨14, _⟩ => ⟨S1x4096x2816, .f32⟩
  | .hbm, ⟨15, _⟩ => ⟨S_, .f32⟩
  | .hbm, ⟨16, _⟩ => ⟨S1x4096x2816, .f32⟩
  | .hbm, ⟨17, _⟩ => ⟨S1x4096x2816, .f32⟩
  | .hbm, ⟨18, _⟩ => ⟨S1x4096x2816, .f32⟩
  | .hbm, ⟨19, _⟩ => ⟨S1x4096x2816, .f32⟩
  | .hbm, ⟨20, _⟩ => ⟨S1024x2816, .f32⟩
  | .hbm, ⟨21, _⟩ => ⟨S1x4096x2816, .f32⟩
  | .hbm, ⟨22, _⟩ => ⟨S1x4096x2816, .f32⟩
  | .hbm, ⟨23, _⟩ => ⟨S2816x1024, .f32⟩
  | .hbm, ⟨24, _⟩ => ⟨S1x4096x1024, .f32⟩
  | .hbm, ⟨25, _⟩ => ⟨S1024x2816, .f32⟩
  | .hbm, ⟨26, _⟩ => ⟨S2816x1024, .f32⟩
  | .hbm, ⟨27, _⟩ => ⟨S1x4096x2816, .f32⟩
  | .hbm, ⟨28, _⟩ => ⟨S1x2816x1024, .f32⟩
  | .hbm, ⟨29, _⟩ => ⟨S1x4096x2816, .f32⟩
  | .hbm, ⟨30, _⟩ => ⟨S1x4096x2816, .f32⟩
  | .hbm, ⟨31, _⟩ => ⟨S2816x1024, .f32⟩
  | .hbm, ⟨32, _⟩ => ⟨S1024x2816, .f32⟩
  | .hbm, ⟨33, _⟩ => ⟨S1x4096x1024, .f32⟩
  | .hbm, ⟨34, _⟩ => ⟨S1x1024x2816, .f32⟩
  | .hbm, ⟨35, _⟩ => ⟨S1x4096x2816, .f32⟩
  | .hbm, ⟨36, _⟩ => ⟨S1x4096x2816, .f32⟩
  | .hbm, ⟨37, _⟩ => ⟨S1x4096x2816, .f32⟩
  | .hbm, ⟨38, _⟩ => ⟨S1x4096x2816, .f32⟩
  | .hbm, ⟨39, _⟩ => ⟨S2816x1024, .f32⟩
  | .hbm, ⟨40, _⟩ => ⟨S1024x2816, .f32⟩
  | .hbm, ⟨41, _⟩ => ⟨S1x4096x1024, .f32⟩
  | .hbm, ⟨42, _⟩ => ⟨S1x4096x1024, .f32⟩
  | .hbm, ⟨43, _⟩ => ⟨S1x1024x2816, .f32⟩
  | .hbm, ⟨44, _⟩ => ⟨S1024x2816, .f32⟩
  | .hbm, ⟨45, _⟩ => ⟨S2816x1024, .f32⟩
  | .hbm, ⟨46, _⟩ => ⟨S2816x1024, .bf16⟩
  | .hbm, ⟨47, _⟩ => ⟨S1024x2816, .f32⟩
  | .hbm, ⟨48, _⟩ => ⟨S2816x1024, .f32⟩
  | .hbm, ⟨49, _⟩ => ⟨S2816x1024, .bf16⟩
  | .hbm, ⟨50, _⟩ => ⟨S2816x1024, .f32⟩
  | .hbm, ⟨51, _⟩ => ⟨S2816x1024, .bf16⟩
  | .hbm, ⟨52, _⟩ => ⟨S4096x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== BwdOut.lean ====
abbrev S1x4096x1024 : Shape := ⟨3, ![1, 4096, 1024]⟩
abbrev S1x4096x512 : Shape := ⟨3, ![1, 4096, 512]⟩
abbrev S1x512 : Shape := ⟨2, ![1, 512]⟩
abbrev S1x1024x1024 : Shape := ⟨3, ![1, 1024, 1024]⟩
abbrev S1x1024 : Shape := ⟨2, ![1, 1024]⟩
abbrev S512 : Shape := ⟨1, ![512]⟩
abbrev S_ : Shape := ⟨0, ![]⟩
abbrev S1x4096 : Shape := ⟨2, ![1, 4096]⟩
abbrev S1x4096x1 : Shape := ⟨3, ![1, 4096, 1]⟩
abbrev S1x1x512 : Shape := ⟨3, ![1, 1, 512]⟩
abbrev S1024x1024 : Shape := ⟨2, ![1024, 1024]⟩
abbrev S1024 : Shape := ⟨1, ![1024]⟩
abbrev S1x1x1024 : Shape := ⟨3, ![1, 1, 1024]⟩
abbrev S4096x1024 : Shape := ⟨2, ![4096, 1024]⟩
abbrev S4096x512 : Shape := ⟨2, ![4096, 512]⟩
abbrev S4096x4x128 : Shape := ⟨3, ![4096, 4, 128]⟩
abbrev S4x4096x128 : Shape := ⟨3, ![4, 4096, 128]⟩
abbrev S8x128 : Shape := ⟨2, ![8, 128]⟩
abbrev S4x512x128 : Shape := ⟨3, ![4, 512, 128]⟩
abbrev S512x1024 : Shape := ⟨2, ![512, 1024]⟩
abbrev S3x512x1024 : Shape := ⟨3, ![3, 512, 1024]⟩
abbrev S9 : Shape := ⟨1, ![9]⟩
abbrev S1 : Shape := ⟨1, ![1]⟩
abbrev S1x512x1024 : Shape := ⟨3, ![1, 512, 1024]⟩
abbrev S512x1 : Shape := ⟨2, ![512, 1]⟩
abbrev S1x512x128 : Shape := ⟨3, ![1, 512, 128]⟩
abbrev S512x128 : Shape := ⟨2, ![512, 128]⟩
abbrev S512x512 : Shape := ⟨2, ![512, 512]⟩

abbrev nBuf : Space → Nat
  | .hbm => 84
  | .vmem => 22
  | .smem => 0
  | _ => 0

abbrev bufTy : (tb : Table) → Fin (tcTables nBuf tb) → BufTy
  | .hbm, ⟨0, _⟩ => ⟨S1x4096x1024, .f32⟩
  | .hbm, ⟨1, _⟩ => ⟨S1x4096x512, .f32⟩
  | .hbm, ⟨2, _⟩ => ⟨S1x4096x512, .f32⟩
  | .hbm, ⟨3, _⟩ => ⟨S1x512, .f32⟩
  | .hbm, ⟨4, _⟩ => ⟨S1x512, .f32⟩
  | .hbm, ⟨5, _⟩ => ⟨S1x1024x1024, .f32⟩
  | .hbm, ⟨6, _⟩ => ⟨S1x1024, .f32⟩
  | .hbm, ⟨7, _⟩ => ⟨S1x4096x1024, .f32⟩
  | .hbm, ⟨8, _⟩ => ⟨S1x4096x1024, .f32⟩
  | .hbm, ⟨9, _⟩ => ⟨S512, .f32⟩
  | .hbm, ⟨10, _⟩ => ⟨S1x4096x512, .f32⟩
  | .hbm, ⟨11, _⟩ => ⟨S_, .f32⟩
  | .hbm, ⟨12, _⟩ => ⟨S1x4096, .f32⟩
  | .hbm, ⟨13, _⟩ => ⟨S1x4096x1, .f32⟩
  | .hbm, ⟨14, _⟩ => ⟨S_, .f32⟩
  | .hbm, ⟨15, _⟩ => ⟨S1x4096x1, .f32⟩
  | .hbm, ⟨16, _⟩ => ⟨S1x4096x1, .f32⟩
  | .hbm, ⟨17, _⟩ => ⟨S_, .f32⟩
  | .hbm, ⟨18, _⟩ => ⟨S1x4096x1, .f32⟩
  | .hbm, ⟨19, _⟩ => ⟨S1x4096x1, .f32⟩
  | .hbm, ⟨20, _⟩ => ⟨S1x4096x1, .f32⟩
  | .hbm, ⟨21, _⟩ => ⟨S1x4096x512, .f32⟩
  | .hbm, ⟨22, _⟩ => ⟨S1x4096x512, .f32⟩
  | .hbm, ⟨23, _⟩ => ⟨S1x1x512, .f32⟩
  | .hbm, ⟨24, _⟩ => ⟨S1x4096x512, .f32⟩
  | .hbm, ⟨25, _⟩ => ⟨S1x4096x512, .f32⟩
  | .hbm, ⟨26, _⟩ => ⟨S512, .f32⟩
  | .hbm, ⟨27, _⟩ => ⟨S1x4096x512, .f32⟩
  | .hbm, ⟨28, _⟩ => ⟨S_, .f32⟩
  | .hbm, ⟨29, _⟩ => ⟨S1x4096, .f32⟩
  | .hbm, ⟨30, _⟩ => ⟨S1x4096x1, .f32⟩
  | .hbm, ⟨31, _⟩ => ⟨S_, .f32⟩
  | .hbm, ⟨32, _⟩ => ⟨S1x4096x1, .f32⟩
  | .hbm, ⟨33, _⟩ => ⟨S1x4096x1, .f32⟩
  | .hbm, ⟨34, _⟩ => ⟨S_, .f32⟩
  | .hbm, ⟨35, _⟩ => ⟨S1x4096x1, .f32⟩
  | .hbm, ⟨36, _⟩ => ⟨S1x4096x1, .f32⟩
  | .hbm, ⟨37, _⟩ => ⟨S1x4096x1, .f32⟩
  | .hbm, ⟨38, _⟩ => ⟨S1x4096x512, .f32⟩
  | .hbm, ⟨39, _⟩ => ⟨S1x4096x512, .f32⟩
  | .hbm, ⟨40, _⟩ => ⟨S1x1x512, .f32⟩
  | .hbm, ⟨41, _⟩ => ⟨S1x4096x512, .f32⟩
  | .hbm, ⟨42, _⟩ => ⟨S1x4096x512, .f32⟩
  | .hbm, ⟨43, _⟩ => ⟨S1x4096x1024, .f32⟩
  | .hbm, ⟨44, _⟩ => ⟨S1024x1024, .f32⟩
  | .hbm, ⟨45, _⟩ => ⟨S1x4096x1024, .f32⟩
  | .hbm, ⟨46, _⟩ => ⟨S1x4096x1024, .f32⟩
  | .hbm, ⟨47, _⟩ => ⟨S1024, .f32⟩
  | .hbm, ⟨48, _⟩ => ⟨S1x4096x1024, .f32⟩
  | .hbm, ⟨49, _⟩ => ⟨S_, .f32⟩
  | .hbm, ⟨50, _⟩ => ⟨S1x4096, .f32⟩
  | .hbm, ⟨51, _⟩ => ⟨S1x4096x1, .f32⟩
  | .hbm, ⟨52, _⟩ => ⟨S_, .f32⟩
  | .hbm, ⟨53, _⟩ => ⟨S1x4096x1, .f32⟩
  | .hbm, ⟨54, _⟩ => ⟨S1x4096x1, .f32⟩
  | .hbm, ⟨55, _⟩ => ⟨S_, .f32⟩
  | .hbm, ⟨56, _⟩ => ⟨S1x4096x1, .f32⟩
  | .hbm, ⟨57, _⟩ => ⟨S1x4096x1, .f32⟩
  | .hbm, ⟨58, _⟩ => ⟨S1x4096x1, .f32⟩
  | .hbm, ⟨59, _⟩ => ⟨S1x4096x1024, .f32⟩
  | .hbm, ⟨60, _⟩ => ⟨S1x4096x1024, .f32⟩
  | .hbm, ⟨61, _⟩ => ⟨S1x1x1024, .f32⟩
  | .hbm, ⟨62, _⟩ => ⟨S1x4096x1024, .f32⟩
  | .hbm, ⟨63, _⟩ => ⟨S1x4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x512, .f32⟩
  | .hbm, ⟨68, _⟩ => ⟨S4096x4x128, .f32⟩
  | .hbm, ⟨69, _⟩ => ⟨S4x4096x128, .f32⟩
  | .hbm, ⟨70, _⟩ => ⟨S4096x512, .f32⟩
  | .hbm, ⟨71, _⟩ => ⟨S4096x4x128, .f32⟩
  | .hbm, ⟨72, _⟩ => ⟨S4x4096x128, .f32⟩
  | .hbm, ⟨73, _⟩ => ⟨S1024x1024, .f32⟩
  | .hbm, ⟨74, _⟩ => ⟨S1024x1024, .bf16⟩
  | .hbm, ⟨75, _⟩ => ⟨S_, .f32⟩
  | .hbm, ⟨76, _⟩ => ⟨S8x128, .f32⟩
  | .hbm, ⟨77, _⟩ => ⟨S4096x1024, .f32⟩
  | .hbm, ⟨78, _⟩ => ⟨S4x4096x128, .f32⟩
  | .hbm, ⟨79, _⟩ => ⟨S4x4096x128, .f32⟩
  | .hbm, ⟨80, _⟩ => ⟨S1024x1024, .bf16⟩
  | .hbm, ⟨81, _⟩ => ⟨S1x1024, .f32⟩
  | .hbm, ⟨82, _⟩ => ⟨S1x512, .f32⟩
  | .hbm, ⟨83, _⟩ => ⟨S1x512, .f32⟩
  | .local _ .vmem, ⟨0, _⟩ => ⟨S4x512x128, .f32⟩
  | .local _ .vmem, ⟨1, _⟩ => ⟨S4x512x128, .f32⟩
  | .local _ .vmem, ⟨2, _⟩ => ⟨S4x512x128, .f32⟩
  | .local _ .vmem, ⟨3, _⟩ => ⟨S4x512x128, .f32⟩
  | .local _ .vmem, ⟨4, _⟩ => ⟨S1x512, .f32⟩
  | .local _ .vmem, ⟨5, _⟩ => ⟨S1x512, .f32⟩
  | .local _ .vmem, ⟨6, _⟩ => ⟨S1024x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S4x512x128, .f32⟩
  | .local _ .vmem, ⟨11, _⟩ => ⟨S4x512x128, .f32⟩
  | .local _ .vmem, ⟨12, _⟩ => ⟨S4x512x128, .f32⟩
  | .local _ .vmem, ⟨13, _⟩ => ⟨S4x512x128, .f32⟩
  | .local _ .vmem, ⟨14, _⟩ => ⟨S1024x1024, .bf16⟩
  | .local _ .vmem, ⟨15, _⟩ => ⟨S1x1024, .f32⟩
  | .local _ .vmem, ⟨16, _⟩ => ⟨S1x512, .f32⟩
  | .local _ .vmem, ⟨17, _⟩ => ⟨S1x512, .f32⟩
  | .local _ .vmem, ⟨18, _⟩ => ⟨S1024x1024, .f32⟩
  | .local _ .vmem, ⟨19, _⟩ => ⟨S3x512x1024, .f32⟩
  | .local _ .vmem, ⟨20, _⟩ => ⟨S3x512x1024, .f32⟩
  | .local _ .vmem, ⟨21, _⟩ => ⟨S3x512x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_8 : Ref sig .tc := ⟨.hbm, 75, rfl⟩
abbrev main_v57 : Ref sig .tc := ⟨.hbm, 76, rfl⟩
abbrev main_v58_0 : Ref sig .tc := ⟨.hbm, 77, rfl⟩
abbrev main_v58_1 : Ref sig .tc := ⟨.hbm, 78, rfl⟩
abbrev main_v58_2 : Ref sig .tc := ⟨.hbm, 79, rfl⟩
abbrev main_v58_3 : Ref sig .tc := ⟨.hbm, 80, rfl⟩
abbrev main_v58_4 : Ref sig .tc := ⟨.hbm, 81, rfl⟩
abbrev main_v58_5 : Ref sig .tc := ⟨.hbm, 82, rfl⟩
abbrev main_v58_6 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let c0_i32_133 : BitVec 32 := 0#32
  c0_i32_133
def k0_mult2 : BitVec 32 :=
  let c512_i32_149 : BitVec 32 := 512#32
  c512_i32_149
def k0_cond2 (i : grid0.Coords) : BitVec 1 :=
  let arg0 : BitVec 32 := BitVec.ofNat 32 (i 0).val
  let c3_i32 : BitVec 32 := 3#32
  let v3 : BitVec 32 := Scalar.addi arg0 c3_i32
  let c1_i32 : BitVec 32 := 1#32
  let v4 : BitVec 32 := Scalar.subi v3 c1_i32
  let c8_i32 : BitVec 32 := 8#32
  let v5 : BitVec 1 := Scalar.cmpi .slt v4 c8_i32
  let v6 : BitVec 32 := Scalar.extui v5
  let c0_i32_1 : BitVec 32 := 0#32
  let v7 : BitVec 1 := Scalar.cmpi .ne v6 c0_i32_1
  v7

def k0_mult3 (i : grid0.Coords) : BitVec 32 :=
  let arg0 : BitVec 32 := BitVec.ofNat 32 (i 0).val
  let c3_i32_133 : BitVec 32 := 3#32
  let v235 : BitVec 32 := Scalar.addi arg0 c3_i32_133
  let c1_i32_134 : BitVec 32 := 1#32
  let v236 : BitVec 32 := Scalar.subi v235 c1_i32_134
  let c512_i32_141 : BitVec 32 := 512#32
  let v247 : BitVec 32 := Scalar.muli v236 c512_i32_141
  v247
def k0_off1 (i : grid0.Coords) (c0_i32_143 : BitVec 32) : Fin 1 → Nat :=
  let c3_i32_142 : BitVec 32 := 3#32
  let arg0 : BitVec 32 := BitVec.ofNat 32 (i 0).val
  let c3_i32_133 : BitVec 32 := 3#32
  let v235 : BitVec 32 := Scalar.addi arg0 c3_i32_133
  let c1_i32_134 : BitVec 32 := 1#32
  let v236 : BitVec 32 := Scalar.subi v235 c1_i32_134
  let c3_i32_135 : BitVec 32 := 3#32
  let c0_i32_136 : BitVec 32 := 0#32
  let v237 : BitVec 1 := Scalar.cmpi .eq c3_i32_135 c0_i32_136
  let c1_i32_137 : BitVec 32 := 1#32
  let v238 : BitVec 32 := Scalar.select v237 c1_i32_137 c3_i32_135
  let v239 : BitVec 32 := Scalar.remsi v236 v238
  let c0_i32_139 : BitVec 32 := 0#32
  let v241 : BitVec 1 := Scalar.cmpi .slt v239 c0_i32_139
  let c0_i32_140 : BitVec 32 := 0#32
  let v242 : BitVec 1 := Scalar.cmpi .slt v238 c0_i32_140
  let v243 : BitVec 1 := Scalar.xori v241 v242
  let c0_i32_138 : BitVec 32 := 0#32
  let v240 : BitVec 1 := Scalar.cmpi .ne v239 c0_i32_138
  let v244 : BitVec 1 := Scalar.andi v243 v240
  let v245 : BitVec 32 := Scalar.addi v239 v238
  let v246 : BitVec 32 := Scalar.select v244 v245 v239
  let v249 : BitVec 32 := Scalar.muli c3_i32_142 v246
  let v250 : BitVec 32 := Scalar.addi v249 c0_i32_143
  ![v250.toNat]
def k0_off2 (i : grid0.Coords) : Fin 3 → Nat :=
  let arg0 : BitVec 32 := BitVec.ofNat 32 (i 0).val
  let c3_i32_133 : BitVec 32 := 3#32
  let v235 : BitVec 32 := Scalar.addi arg0 c3_i32_133
  let c1_i32_134 : BitVec 32 := 1#32
  let v236 : BitVec 32 := Scalar.subi v235 c1_i32_134
  let c3_i32_135 : BitVec 32 := 3#32
  let c0_i32_136 : BitVec 32 := 0#32
  let v237 : BitVec 1 := Scalar.cmpi .eq c3_i32_135 c0_i32_136
  let c1_i32_137 : BitVec 32 := 1#32
  let v238 : BitVec 32 := Scalar.select v237 c1_i32_137 c3_i32_135
  let v239 : BitVec 32 := Scalar.remsi v236 v238
  let c0_i32_139 : BitVec 32 := 0#32
  let v241 : BitVec 1 := Scalar.cmpi .slt v239 c0_i32_139
  let c0_i32_140 : BitVec 32 := 0#32
  let v242 : BitVec 1 := Scalar.cmpi .slt v238 c0_i32_140
  let v243 : BitVec 1 := Scalar.xori v241 v242
  let c0_i32_138 : BitVec 32 := 0#32
  let v240 : BitVec 1 := Scalar.cmpi .ne v239 c0_i32_138
  let v244 : BitVec 1 := Scalar.andi v243 v240
  let v245 : BitVec 32 := Scalar.addi v239 v238
  let v246 : BitVec 32 := Scalar.select v244 v245 v239
  let c0_i32_148 : BitVec 32 := 0#32
  let c0_i32_149 : BitVec 32 := 0#32
  ![v246.toNat, 0, 0]
def k0_off3 (i : grid0.Coords) : Fin 2 → Nat :=
  let arg0 : BitVec 32 := BitVec.ofNat 32 (i 0).val
  let c3_i32_133 : BitVec 32 := 3#32
  let v235 : BitVec 32 := Scalar.addi arg0 c3_i32_133
  let c1_i32_134 : BitVec 32 := 1#32
  let v236 : BitVec 32 := Scalar.subi v235 c1_i32_134
  let c512_i32_141 : BitVec 32 := 512#32
  let v247 : BitVec 32 := Scalar.muli v236 c512_i32_141
  let v248 : BitVec 32 := v247
  let c0_i32_150 : BitVec 32 := 0#32
  ![v248.toNat, 0]
def k0_mult4 (i : grid0.Coords) : BitVec 32 :=
  let arg0 : BitVec 32 := BitVec.ofNat 32 (i 0).val
  let c512_i32 : BitVec 32 := 512#32
  let v18 : BitVec 32 := Scalar.muli arg0 c512_i32
  v18
def k0_off4 (i : grid0.Coords) (c0_i32_9 : BitVec 32) : Fin 1 → Nat :=
  let c3_i32_8 : BitVec 32 := 3#32
  let arg0 : BitVec 32 := BitVec.ofNat 32 (i 0).val
  let c3_i32_2 : BitVec 32 := 3#32
  let c0_i32_3 : BitVec 32 := 0#32
  let v8 : BitVec 1 := Scalar.cmpi .eq c3_i32_2 c0_i32_3
  let c1_i32_4 : BitVec 32 := 1#32
  let v9 : BitVec 32 := Scalar.select v8 c1_i32_4 c3_i32_2
  let v10 : BitVec 32 := Scalar.remsi arg0 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let v20 : BitVec 32 := Scalar.muli c3_i32_8 v17
  let v21 : BitVec 32 := Scalar.addi v20 c0_i32_9
  ![v21.toNat]
def k0_off5 (i : grid0.Coords) : Fin 3 → Nat :=
  let arg0 : BitVec 32 := BitVec.ofNat 32 (i 0).val
  let c3_i32_2 : BitVec 32 := 3#32
  let c0_i32_3 : BitVec 32 := 0#32
  let v8 : BitVec 1 := Scalar.cmpi .eq c3_i32_2 c0_i32_3
  let c1_i32_4 : BitVec 32 := 1#32
  let v9 : BitVec 32 := Scalar.select v8 c1_i32_4 c3_i32_2
  let v10 : BitVec 32 := Scalar.remsi arg0 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c0_i32_13 : BitVec 32 := 0#32
  let c0_i32_14 : BitVec 32 := 0#32
  ![v17.toNat, 0, 0]
def k0_off6 (i : grid0.Coords) : Fin 2 → Nat :=
  let arg0 : BitVec 32 := BitVec.ofNat 32 (i 0).val
  let c512_i32 : BitVec 32 := 512#32
  let v18 : BitVec 32 := Scalar.muli arg0 c512_i32
  let v19 : BitVec 32 := v18
  let c0_i32_15 : BitVec 32 := 0#32
  ![v19.toNat, 0]
def k0_off7 (i : grid0.Coords) : Fin 3 → Nat :=
  let arg0 : BitVec 32 := BitVec.ofNat 32 (i 0).val
  let c3_i32_22 : BitVec 32 := 3#32
  let c0_i32_23 : BitVec 32 := 0#32
  let v41 : BitVec 1 := Scalar.cmpi .eq c3_i32_22 c0_i32_23
  let c1_i32_24 : BitVec 32 := 1#32
  let v42 : BitVec 32 := Scalar.select v41 c1_i32_24 c3_i32_22
  let v43 : BitVec 32 := Scalar.remsi arg0 v42
  let c0_i32_26 : BitVec 32 := 0#32
  let v45 : BitVec 1 := Scalar.cmpi .slt v43 c0_i32_26
  let c0_i32_27 : BitVec 32 := 0#32
  let v46 : BitVec 1 := Scalar.cmpi .slt v42 c0_i32_27
  let v47 : BitVec 1 := Scalar.xori v45 v46
  let c0_i32_25 : BitVec 32 := 0#32
  let v44 : BitVec 1 := Scalar.cmpi .ne v43 c0_i32_25
  let v48 : BitVec 1 := Scalar.andi v47 v44
  let v49 : BitVec 32 := Scalar.addi v43 v42
  let v50 : BitVec 32 := Scalar.select v48 v49 v43
  let v55 : Index := Scalar.indexCast v50
  let c0_31 : Index := 0#32
  let c0_32 : Index := 0#32
  ![v55.toNat, 0, 0]
def k0_cond4 (i : grid0.Coords) : BitVec 1 :=
  let arg0 : BitVec 32 := BitVec.ofNat 32 (i 0).val
  let c7_i32 : BitVec 32 := 7#32
  let v232 : BitVec 1 := Scalar.cmpi .eq arg0 c7_i32
  let v233 : BitVec 32 := Scalar.extui v232
  let c0_i32_132 : BitVec 32 := 0#32
  let v234 : BitVec 1 := Scalar.cmpi .ne v233 c0_i32_132
  v234

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== BwdOutRefIdeal.lean ====
abbrev S1x4096x1024 : Shape := ⟨3, ![1, 4096, 1024]⟩
abbrev S1x4096x512 : Shape := ⟨3, ![1, 4096, 512]⟩
abbrev S1x512 : Shape := ⟨2, ![1, 512]⟩
abbrev S1x1024x1024 : Shape := ⟨3, ![1, 1024, 1024]⟩
abbrev S1x1024 : Shape := ⟨2, ![1, 1024]⟩
abbrev S512 : Shape := ⟨1, ![512]⟩
abbrev S_ : Shape := ⟨0, ![]⟩
abbrev S1x4096 : Shape := ⟨2, ![1, 4096]⟩
abbrev S1x4096x1 : Shape := ⟨3, ![1, 4096, 1]⟩
abbrev S1x1x512 : Shape := ⟨3, ![1, 1, 512]⟩
abbrev S1024x1024 : Shape := ⟨2, ![1024, 1024]⟩
abbrev S1024 : Shape := ⟨1, ![1024]⟩
abbrev S1x1x1024 : Shape := ⟨3, ![1, 1, 1024]⟩
abbrev S4096 : Shape := ⟨1, ![4096]⟩
abbrev S4096x512 : Shape := ⟨2, ![4096, 512]⟩
abbrev S4096x4x128 : Shape := ⟨3, ![4096, 4, 128]⟩
abbrev S4x4096x128 : Shape := ⟨3, ![4, 4096, 128]⟩
abbrev S4096x1024 : Shape := ⟨2, ![4096, 1024]⟩

abbrev nBuf : Space → Nat
  | .hbm => 174
  | .vmem => 0
  | .smem => 0
  | _ => 0

abbrev hbmTy0_0 (i : Nat) : BufTy := match i % 128 with
  | 0 => ⟨S1x4096x1024, .f32⟩
  | 1 => ⟨S1x4096x512, .f32⟩
  | 2 => ⟨S1x4096x512, .f32⟩
  | 3 => ⟨S1x512, .f32⟩
  | 4 => ⟨S1x512, .f32⟩
  | 5 => ⟨S1x1024x1024, .f32⟩
  | 6 => ⟨S1x1024, .f32⟩
  | 7 => ⟨S1x4096x1024, .f32⟩
  | 8 => ⟨S1x4096x1024, .f32⟩
  | 9 => ⟨S512, .f32⟩
  | 10 => ⟨S1x4096x512, .f32⟩
  | 11 => ⟨S_, .f32⟩
  | 12 => ⟨S1x4096, .f32⟩
  | 13 => ⟨S1x4096x1, .f32⟩
  | 14 => ⟨S_, .f32⟩
  | 15 => ⟨S1x4096x1, .f32⟩
  | 16 => ⟨S1x4096x1, .f32⟩
  | 17 => ⟨S_, .f32⟩
  | 18 => ⟨S1x4096x1, .f32⟩
  | 19 => ⟨S1x4096x1, .f32⟩
  | 20 => ⟨S1x4096x1, .f32⟩
  | 21 => ⟨S1x4096x1, .f32⟩
  | 22 => ⟨S_, .f32⟩
  | 23 => ⟨S1x4096x1, .f32⟩
  | 24 => ⟨S1x4096x1, .f32⟩
  | 25 => ⟨S1x4096x512, .f32⟩
  | 26 => ⟨S1x4096x512, .f32⟩
  | 27 => ⟨S1x1x512, .f32⟩
  | 28 => ⟨S1x4096x512, .f32⟩
  | 29 => ⟨S1x4096x512, .f32⟩
  | 30 => ⟨S512, .f32⟩
  | 31 => ⟨S1x4096x512, .f32⟩
  | 32 => ⟨S_, .f32⟩
  | 33 => ⟨S1x4096, .f32⟩
  | 34 => ⟨S1x4096x1, .f32⟩
  | 35 => ⟨S_, .f32⟩
  | 36 => ⟨S1x4096x1, .f32⟩
  | 37 => ⟨S1x4096x1, .f32⟩
  | 38 => ⟨S_, .f32⟩
  | 39 => ⟨S1x4096x1, .f32⟩
  | 40 => ⟨S1x4096x1, .f32⟩
  | 41 => ⟨S1x4096x1, .f32⟩
  | 42 => ⟨S1x4096x1, .f32⟩
  | 43 => ⟨S_, .f32⟩
  | 44 => ⟨S1x4096x1, .f32⟩
  | 45 => ⟨S1x4096x1, .f32⟩
  | 46 => ⟨S1x4096x512, .f32⟩
  | 47 => ⟨S1x4096x512, .f32⟩
  | 48 => ⟨S1x1x512, .f32⟩
  | 49 => ⟨S1x4096x512, .f32⟩
  | 50 => ⟨S1x4096x512, .f32⟩
  | 51 => ⟨S1x4096x1024, .f32⟩
  | 52 => ⟨S1024x1024, .f32⟩
  | 53 => ⟨S1x4096x1024, .f32⟩
  | 54 => ⟨S1x4096x1024, .f32⟩
  | 55 => ⟨S1024, .f32⟩
  | 56 => ⟨S1x4096x1024, .f32⟩
  | 57 => ⟨S_, .f32⟩
  | 58 => ⟨S1x4096, .f32⟩
  | 59 => ⟨S1x4096x1, .f32⟩
  | 60 => ⟨S_, .f32⟩
  | 61 => ⟨S1x4096x1, .f32⟩
  | 62 => ⟨S1x4096x1, .f32⟩
  | 63 => ⟨S_, .f32⟩
  | 64 => ⟨S1x4096x1, .f32⟩
  | 65 => ⟨S1x4096x1, .f32⟩
  | 66 => ⟨S1x4096x1, .f32⟩
  | 67 => ⟨S1x4096x1, .f32⟩
  | 68 => ⟨S_, .f32⟩
  | 69 => ⟨S1x4096x1, .f32⟩
  | 70 => ⟨S1x4096x1, .f32⟩
  | 71 => ⟨S1x4096x1024, .f32⟩
  | 72 => ⟨S1x4096x1024, .f32⟩
  | 73 => ⟨S1x1x1024, .f32⟩
  | 74 => ⟨S1x4096x1024, .f32⟩
  | 75 => ⟨S1x4096x1024, .f32⟩
  | 76 => ⟨S1x4096x1024, .f32⟩
  | 77 => ⟨S_, .f32⟩
  | 78 => ⟨S1x1024, .f32⟩
  | 79 => ⟨S1x1x1024, .f32⟩
  | 80 => ⟨S1x4096x1024, .f32⟩
  | 81 => ⟨S1x4096x1024, .f32⟩
  | 82 => ⟨S_, .f32⟩
  | 83 => ⟨S1024, .f32⟩
  | 84 => ⟨S1x4096x1024, .f32⟩
  | 85 => ⟨S_, .f32⟩
  | 86 => ⟨S1x4096, .f32⟩
  | 87 => ⟨S1x4096x1, .f32⟩
  | 88 => ⟨S1x4096x1024, .f32⟩
  | 89 => ⟨S1x4096x1024, .f32⟩
  | 90 => ⟨S1x4096x1024, .f32⟩
  | 91 => ⟨S1x4096x1, .f32⟩
  | 92 => ⟨S_, .f32⟩
  | 93 => ⟨S1x4096x1, .f32⟩
  | 94 => ⟨S1x4096x1, .f32⟩
  | 95 => ⟨S_, .f32⟩
  | 96 => ⟨S4096, .f32⟩
  | 97 => ⟨S1x4096, .f32⟩
  | 98 => ⟨S1x4096x1024, .f32⟩
  | 99 => ⟨S1x4096x1024, .f32⟩
  | 100 => ⟨S1x4096x1024, .f32⟩
  | 101 => ⟨S1x4096x1024, .f32⟩
  | 102 => ⟨S1x4096x1024, .f32⟩
  | 103 => ⟨S1x1024, .f32⟩
  | 104 => ⟨S1x4096x1024, .f32⟩
  | 105 => ⟨S1024x1024, .f32⟩
  | 106 => ⟨S1024x1024, .f32⟩
  | 107 => ⟨S1x4096x1024, .f32⟩
  | 108 => ⟨S1x1024x1024, .f32⟩
  | 109 => ⟨S1x4096x512, .f32⟩
  | 110 => ⟨S1x4096x512, .f32⟩
  | 111 => ⟨S1x4096x512, .f32⟩
  | 112 => ⟨S_, .f32⟩
  | 113 => ⟨S1x512, .f32⟩
  | 114 => ⟨S1x1x512, .f32⟩
  | 115 => ⟨S1x4096x512, .f32⟩
  | 116 => ⟨S1x4096x512, .f32⟩
  | 117 => ⟨S_, .f32⟩
  | 118 => ⟨S512, .f32⟩
  | 119 => ⟨S1x4096x512, .f32⟩
  | 120 => ⟨S_, .f32⟩
  | 121 => ⟨S1x4096, .f32⟩
  | 122 => ⟨S1x4096x1, .f32⟩
  | 123 => ⟨S1x4096x512, .f32⟩
  | 124 => ⟨S1x4096x512, .f32⟩
  | 125 => ⟨S1x4096x1, .f32⟩
  | 126 => ⟨S_, .f32⟩
  | 127 => ⟨S1x4096x1, .f32⟩
  | _ => ⟨S1x4096x1024, .f32⟩

abbrev hbmTy0_1 (i : Nat) : BufTy := match i % 128 with
  | 0 => ⟨S1x4096x1, .f32⟩
  | 1 => ⟨S_, .f32⟩
  | 2 => ⟨S4096, .f32⟩
  | 3 => ⟨S1x4096, .f32⟩
  | 4 => ⟨S1x4096x512, .f32⟩
  | 5 => ⟨S1x4096x512, .f32⟩
  | 6 => ⟨S1x4096x512, .f32⟩
  | 7 => ⟨S1x4096x512, .f32⟩
  | 8 => ⟨S1x4096x512, .f32⟩
  | 9 => ⟨S1x512, .f32⟩
  | 10 => ⟨S1x4096x512, .f32⟩
  | 11 => ⟨S_, .f32⟩
  | 12 => ⟨S1x512, .f32⟩
  | 13 => ⟨S1x1x512, .f32⟩
  | 14 => ⟨S1x4096x512, .f32⟩
  | 15 => ⟨S1x4096x512, .f32⟩
  | 16 => ⟨S_, .f32⟩
  | 17 => ⟨S512, .f32⟩
  | 18 => ⟨S1x4096x512, .f32⟩
  | 19 => ⟨S_, .f32⟩
  | 20 => ⟨S1x4096, .f32⟩
  | 21 => ⟨S1x4096x1, .f32⟩
  | 22 => ⟨S1x4096x512, .f32⟩
  | 23 => ⟨S1x4096x512, .f32⟩
  | 24 => ⟨S1x4096x1, .f32⟩
  | 25 => ⟨S_, .f32⟩
  | 26 => ⟨S1x4096x1, .f32⟩
  | 27 => ⟨S1x4096x1, .f32⟩
  | 28 => ⟨S_, .f32⟩
  | 29 => ⟨S4096, .f32⟩
  | 30 => ⟨S1x4096, .f32⟩
  | 31 => ⟨S1x4096x512, .f32⟩
  | 32 => ⟨S1x4096x512, .f32⟩
  | 33 => ⟨S1x4096x512, .f32⟩
  | 34 => ⟨S1x4096x512, .f32⟩
  | 35 => ⟨S1x4096x512, .f32⟩
  | 36 => ⟨S1x512, .f32⟩
  | 37 => ⟨S4096x512, .f32⟩
  | 38 => ⟨S4096x4x128, .f32⟩
  | 39 => ⟨S4x4096x128, .f32⟩
  | 40 => ⟨S4096x512, .f32⟩
  | 41 => ⟨S4096x4x128, .f32⟩
  | 42 => ⟨S4x4096x128, .f32⟩
  | 43 => ⟨S4096x1024, .f32⟩
  | 44 => ⟨S1024x1024, .f32⟩
  | 45 => ⟨S1024x1024, .bf16⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_12 : Ref sig .tc := ⟨.hbm, 82, rfl⟩
abbrev main_v60 : Ref sig .tc := ⟨.hbm, 83, rfl⟩
abbrev main_v61 : Ref sig .tc := ⟨.hbm, 84, rfl⟩
abbrev main_cst_13 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_14 : Ref sig .tc := ⟨.hbm, 92, rfl⟩
abbrev main_v68 : Ref sig .tc := ⟨.hbm, 93, rfl⟩
abbrev main_v69 : Ref sig .tc := ⟨.hbm, 94, rfl⟩
abbrev main_cst_15 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_cst_16 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_cst_17 : Ref sig .tc := ⟨.hbm, 117, rfl⟩
abbrev main_v90 : Ref sig .tc := ⟨.hbm, 118, rfl⟩
abbrev main_v91 : Ref sig .tc := ⟨.hbm, 119, rfl⟩
abbrev main_cst_18 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_cst_19 : Ref sig .tc := ⟨.hbm, 126, rfl⟩
abbrev main_v97 : Ref sig .tc := ⟨.hbm, 127, rfl⟩
abbrev main_v98 : Ref sig .tc := ⟨.hbm, 128, rfl⟩
abbrev main_cst_20 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_cst_21 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_cst_22 : Ref sig .tc := ⟨.hbm, 144, rfl⟩
abbrev main_v112 : Ref sig .tc := ⟨.hbm, 145, rfl⟩
abbrev main_v113 : Ref sig .tc := ⟨.hbm, 146, rfl⟩
abbrev main_cst_23 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_cst_24 : Ref sig .tc := ⟨.hbm, 153, rfl⟩
abbrev main_v119 : Ref sig .tc := ⟨.hbm, 154, rfl⟩
abbrev main_v120 : Ref sig .tc := ⟨.hbm, 155, rfl⟩
abbrev main_cst_25 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩

abbrev nD : Nat := 1
abbrev τ : Topo := Topo.v7x

variable {F : FTy → Type} [FloatOps F]
-- ==== FwdIn.lean ====
abbrev S1x4096x1024 : Shape := ⟨3, ![1, 4096, 1024]⟩
abbrev S1x1024 : Shape := ⟨2, ![1, 1024]⟩
abbrev S1x1024x1536 : Shape := ⟨3, ![1, 1024, 1536]⟩
abbrev S4096x1024 : Shape := ⟨2, ![4096, 1024]⟩
abbrev S1024x1536 : Shape := ⟨2, ![1024, 1536]⟩
abbrev S1536x1024 : Shape := ⟨2, ![1536, 1024]⟩
abbrev S4x4096x128 : Shape := ⟨3, ![4, 4096, 128]⟩
abbrev S1024x1024 : Shape := ⟨2, ![1024, 1024]⟩
abbrev S4x1024x128 : Shape := ⟨3, ![4, 1024, 128]⟩
abbrev S1024 : Shape := ⟨1, ![1024]⟩
abbrev S1024x1 : Shape := ⟨2, ![1024, 1]⟩
abbrev S1024x512 : Shape := ⟨2, ![1024, 512]⟩
abbrev S1024x128 : Shape := ⟨2, ![1024, 128]⟩
abbrev S1x1024x128 : Shape := ⟨3, ![1, 1024, 128]⟩

abbrev nBuf : Space → Nat
  | .hbm => 10
  | .vmem => 10
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x1536, .f32⟩
  | .hbm, ⟨3, _⟩ => ⟨S4096x1024, .f32⟩
  | .hbm, ⟨4, _⟩ => ⟨S1024x1536, .f32⟩
  | .hbm, ⟨5, _⟩ => ⟨S1024x1536, .bf16⟩
  | .hbm, ⟨6, _⟩ => ⟨S1536x1024, .bf16⟩
  | .hbm, ⟨7, _⟩ => ⟨S4x4096x128, .f32⟩
  | .hbm, ⟨8, _⟩ => ⟨S4x4096x128, .f32⟩
  | .hbm, ⟨9, _⟩ => ⟨S4x4096x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1536x1024, .bf16⟩
  | .local _ .vmem, ⟨4, _⟩ => ⟨S4x1024x128, .f32⟩
  | .local _ .vmem, ⟨5, _⟩ => ⟨S4x1024x128, .f32⟩
  | .local _ .vmem, ⟨6, _⟩ => ⟨S4x1024x128, .f32⟩
  | .local _ .vmem, ⟨7, _⟩ => ⟨S4x1024x128, .f32⟩
  | .local _ .vmem, ⟨8, _⟩ => ⟨S4x1024x128, .f32⟩
  | .local _ .vmem, ⟨9, _⟩ => ⟨S4x1024x128, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FwdInRefIdeal.lean ====
abbrev S1x4096x1024 : Shape := ⟨3, ![1, 4096, 1024]⟩
abbrev S1x1024 : Shape := ⟨2, ![1, 1024]⟩
abbrev S1x1024x1536 : Shape := ⟨3, ![1, 1024, 1536]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1024x1536 : Shape := ⟨2, ![1024, 1536]⟩
abbrev S1x4096x1536 : Shape := ⟨3, ![1, 4096, 1536]⟩
abbrev S1x4096x512 : Shape := ⟨3, ![1, 4096, 512]⟩
abbrev S4096x512 : Shape := ⟨2, ![4096, 512]⟩
abbrev S4096x4x128 : Shape := ⟨3, ![4096, 4, 128]⟩
abbrev S4x4096x128 : Shape := ⟨3, ![4, 4096, 128]⟩

abbrev nBuf : Space → Nat
  | .hbm => 34
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x1536, .f32⟩
  | .hbm, ⟨3, _⟩ => ⟨S1024, .f32⟩
  | .hbm, ⟨4, _⟩ => ⟨S1x4096x1024, .f32⟩
  | .hbm, ⟨5, _⟩ => ⟨S_, .f32⟩
  | .hbm, ⟨6, _⟩ => ⟨S1x4096, .f32⟩
  | .hbm, ⟨7, _⟩ => ⟨S1x4096x1, .f32⟩
  | .hbm, ⟨8, _⟩ => ⟨S_, .f32⟩
  | .hbm, ⟨9, _⟩ => ⟨S1x4096x1, .f32⟩
  | .hbm, ⟨10, _⟩ => ⟨S1x4096x1, .f32⟩
  | .hbm, ⟨11, _⟩ => ⟨S_, .f32⟩
  | .hbm, ⟨12, _⟩ => ⟨S1x4096x1, .f32⟩
  | .hbm, ⟨13, _⟩ => ⟨S1x4096x1, .f32⟩
  | .hbm, ⟨14, _⟩ => ⟨S1x4096x1, .f32⟩
  | .hbm, ⟨15, _⟩ => ⟨S1x4096x1024, .f32⟩
  | .hbm, ⟨16, _⟩ => ⟨S1x4096x1024, .f32⟩
  | .hbm, ⟨17, _⟩ => ⟨S1x1x1024, .f32⟩
  | .hbm, ⟨18, _⟩ => ⟨S1x4096x1024, .f32⟩
  | .hbm, ⟨19, _⟩ => ⟨S1x4096x1024, .f32⟩
  | .hbm, ⟨20, _⟩ => ⟨S1024x1536, .f32⟩
  | .hbm, ⟨21, _⟩ => ⟨S1x4096x1536, .f32⟩
  | .hbm, ⟨22, _⟩ => ⟨S1x4096x512, .f32⟩
  | .hbm, ⟨23, _⟩ => ⟨S1x4096x512, .f32⟩
  | .hbm, ⟨24, _⟩ => ⟨S1x4096x512, .f32⟩
  | .hbm, ⟨25, _⟩ => ⟨S4096x512, .f32⟩
  | .hbm, ⟨26, _⟩ => ⟨S4096x4x128, .f32⟩
  | .hbm, ⟨27, _⟩ => ⟨S4x4096x128, .f32⟩
  | .hbm, ⟨28, _⟩ => ⟨S4096x512, .f32⟩
  | .hbm, ⟨29, _⟩ => ⟨S4096x4x128, .f32⟩
  | .hbm, ⟨30, _⟩ => ⟨S4x4096x128, .f32⟩
  | .hbm, ⟨31, _⟩ => ⟨S4096x512, .f32⟩
  | .hbm, ⟨32, _⟩ => ⟨S4096x4x128, .f32⟩
  | .hbm, ⟨33, _⟩ => ⟨S4x4096x128, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩

abbrev nD : Nat := 1
abbrev τ : Topo := Topo.v7x

variable {F : FTy → Type} [FloatOps F]
-- ==== FwdOut.lean ====
abbrev S1x4096x1024 : Shape := ⟨3, ![1, 4096, 1024]⟩
abbrev S1x4096x512 : Shape := ⟨3, ![1, 4096, 512]⟩
abbrev S1x512 : Shape := ⟨2, ![1, 512]⟩
abbrev S1x1024x1024 : Shape := ⟨3, ![1, 1024, 1024]⟩
abbrev S1x1024 : Shape := ⟨2, ![1, 1024]⟩
abbrev S4096x1024 : Shape := ⟨2, ![4096, 1024]⟩
abbrev S4096x512 : Shape := ⟨2, ![4096, 512]⟩
abbrev S4096x4x128 : Shape := ⟨3, ![4096, 4, 128]⟩
abbrev S4x4096x128 : Shape := ⟨3, ![4, 4096, 128]⟩
abbrev S1024x1024 : Shape := ⟨2, ![1024, 1024]⟩
abbrev S4x1024x128 : Shape := ⟨3, ![4, 1024, 128]⟩
abbrev S1x1024x128 : Shape := ⟨3, ![1, 1024, 128]⟩
abbrev S1024x128 : Shape := ⟨2, ![1024, 128]⟩
abbrev S1024x512 : Shape := ⟨2, ![1024, 512]⟩
abbrev S1024 : Shape := ⟨1, ![1024]⟩
abbrev S1024x1 : Shape := ⟨2, ![1024, 1]⟩
abbrev S512x1024 : Shape := ⟨2, ![512, 1024]⟩

abbrev nBuf : Space → Nat
  | .hbm => 18
  | .vmem => 14
  | .smem => 0
  | _ => 0

abbrev bufTy : (tb : Table) → Fin (tcTables nBuf tb) → BufTy
  | .hbm, ⟨0, _⟩ => ⟨S1x4096x1024, .f32⟩
  | .hbm, ⟨1, _⟩ => ⟨S1x4096x512, .f32⟩
  | .hbm, ⟨2, _⟩ => ⟨S1x4096x512, .f32⟩
  | .hbm, ⟨3, _⟩ => ⟨S1x512, .f32⟩
  | .hbm, ⟨4, _⟩ => ⟨S1x512, .f32⟩
  | .hbm, ⟨5, _⟩ => ⟨S1x1024x1024, .f32⟩
  | .hbm, ⟨6, _⟩ => ⟨S1x1024, .f32⟩
  | .hbm, ⟨7, _⟩ => ⟨S4096x1024, .f32⟩
  | .hbm, ⟨8, _⟩ => ⟨S4096x512, .f32⟩
  | .hbm, ⟨9, _⟩ => ⟨S4096x4x128, .f32⟩
  | .hbm, ⟨10, _⟩ => ⟨S4x4096x128, .f32⟩
  | .hbm, ⟨11, _⟩ => ⟨S4096x512, .f32⟩
  | .hbm, ⟨12, _⟩ => ⟨S4096x4x128, .f32⟩
  | .hbm, ⟨13, _⟩ => ⟨S4x4096x128, .f32⟩
  | .hbm, ⟨14, _⟩ => ⟨S1024x1024, .f32⟩
  | .hbm, ⟨15, _⟩ => ⟨S1024x1024, .bf16⟩
  | .hbm, ⟨16, _⟩ => ⟨S4096x1024, .f32⟩
  | .hbm, ⟨17, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S4x1024x128, .f32⟩
  | .local _ .vmem, ⟨3, _⟩ => ⟨S4x1024x128, .f32⟩
  | .local _ .vmem, ⟨4, _⟩ => ⟨S4x1024x128, .f32⟩
  | .local _ .vmem, ⟨5, _⟩ => ⟨S4x1024x128, .f32⟩
  | .local _ .vmem, ⟨6, _⟩ => ⟨S1x512, .f32⟩
  | .local _ .vmem, ⟨7, _⟩ => ⟨S1x512, .f32⟩
  | .local _ .vmem, ⟨8, _⟩ => ⟨S1024x1024, .bf16⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FwdOutRefIdeal.lean ====
abbrev S1x4096x1024 : Shape := ⟨3, ![1, 4096, 1024]⟩
abbrev S1x4096x512 : Shape := ⟨3, ![1, 4096, 512]⟩
abbrev S1x512 : Shape := ⟨2, ![1, 512]⟩
abbrev S1x1024x1024 : Shape := ⟨3, ![1, 1024, 1024]⟩
abbrev S1x1024 : Shape := ⟨2, ![1, 1024]⟩
abbrev S512 : Shape := ⟨1, ![512]⟩
abbrev S_ : Shape := ⟨0, ![]⟩
abbrev S1x4096 : Shape := ⟨2, ![1, 4096]⟩
abbrev S1x4096x1 : Shape := ⟨3, ![1, 4096, 1]⟩
abbrev S1x1x512 : Shape := ⟨3, ![1, 1, 512]⟩
abbrev S1024x1024 : Shape := ⟨2, ![1024, 1024]⟩
abbrev S1024 : Shape := ⟨1, ![1024]⟩
abbrev S1x1x1024 : Shape := ⟨3, ![1, 1, 1024]⟩
abbrev S4096x1024 : Shape := ⟨2, ![4096, 1024]⟩

abbrev nBuf : Space → Nat
  | .hbm => 65
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x512, .f32⟩
  | .hbm, ⟨2, _⟩ => ⟨S1x4096x512, .f32⟩
  | .hbm, ⟨3, _⟩ => ⟨S1x512, .f32⟩
  | .hbm, ⟨4, _⟩ => ⟨S1x512, .f32⟩
  | .hbm, ⟨5, _⟩ => ⟨S1x1024x1024, .f32⟩
  | .hbm, ⟨6, _⟩ => ⟨S1x1024, .f32⟩
  | .hbm, ⟨7, _⟩ => ⟨S512, .f32⟩
  | .hbm, ⟨8, _⟩ => ⟨S1x4096x512, .f32⟩
  | .hbm, ⟨9, _⟩ => ⟨S_, .f32⟩
  | .hbm, ⟨10, _⟩ => ⟨S1x4096, .f32⟩
  | .hbm, ⟨11, _⟩ => ⟨S1x4096x1, .f32⟩
  | .hbm, ⟨12, _⟩ => ⟨S_, .f32⟩
  | .hbm, ⟨13, _⟩ => ⟨S1x4096x1, .f32⟩
  | .hbm, ⟨14, _⟩ => ⟨S1x4096x1, .f32⟩
  | .hbm, ⟨15, _⟩ => ⟨S_, .f32⟩
  | .hbm, ⟨16, _⟩ => ⟨S1x4096x1, .f32⟩
  | .hbm, ⟨17, _⟩ => ⟨S1x4096x1, .f32⟩
  | .hbm, ⟨18, _⟩ => ⟨S1x4096x1, .f32⟩
  | .hbm, ⟨19, _⟩ => ⟨S1x4096x512, .f32⟩
  | .hbm, ⟨20, _⟩ => ⟨S1x4096x512, .f32⟩
  | .hbm, ⟨21, _⟩ => ⟨S1x1x512, .f32⟩
  | .hbm, ⟨22, _⟩ => ⟨S1x4096x512, .f32⟩
  | .hbm, ⟨23, _⟩ => ⟨S1x4096x512, .f32⟩
  | .hbm, ⟨24, _⟩ => ⟨S512, .f32⟩
  | .hbm, ⟨25, _⟩ => ⟨S1x4096x512, .f32⟩
  | .hbm, ⟨26, _⟩ => ⟨S_, .f32⟩
  | .hbm, ⟨27, _⟩ => ⟨S1x4096, .f32⟩
  | .hbm, ⟨28, _⟩ => ⟨S1x4096x1, .f32⟩
  | .hbm, ⟨29, _⟩ => ⟨S_, .f32⟩
  | .hbm, ⟨30, _⟩ => ⟨S1x4096x1, .f32⟩
  | .hbm, ⟨31, _⟩ => ⟨S1x4096x1, .f32⟩
  | .hbm, ⟨32, _⟩ => ⟨S_, .f32⟩
  | .hbm, ⟨33, _⟩ => ⟨S1x4096x1, .f32⟩
  | .hbm, ⟨34, _⟩ => ⟨S1x4096x1, .f32⟩
  | .hbm, ⟨35, _⟩ => ⟨S1x4096x1, .f32⟩
  | .hbm, ⟨36, _⟩ => ⟨S1x4096x512, .f32⟩
  | .hbm, ⟨37, _⟩ => ⟨S1x4096x512, .f32⟩
  | .hbm, ⟨38, _⟩ => ⟨S1x1x512, .f32⟩
  | .hbm, ⟨39, _⟩ => ⟨S1x4096x512, .f32⟩
  | .hbm, ⟨40, _⟩ => ⟨S1x4096x512, .f32⟩
  | .hbm, ⟨41, _⟩ => ⟨S1x4096x1024, .f32⟩
  | .hbm, ⟨42, _⟩ => ⟨S1024x1024, .f32⟩
  | .hbm, ⟨43, _⟩ => ⟨S1x4096x1024, .f32⟩
  | .hbm, ⟨44, _⟩ => ⟨S1x4096x1024, .f32⟩
  | .hbm, ⟨45, _⟩ => ⟨S1024, .f32⟩
  | .hbm, ⟨46, _⟩ => ⟨S1x4096x1024, .f32⟩
  | .hbm, ⟨47, _⟩ => ⟨S_, .f32⟩
  | .hbm, ⟨48, _⟩ => ⟨S1x4096, .f32⟩
  | .hbm, ⟨49, _⟩ => ⟨S1x4096x1, .f32⟩
  | .hbm, ⟨50, _⟩ => ⟨S_, .f32⟩
  | .hbm, ⟨51, _⟩ => ⟨S1x4096x1, .f32⟩
  | .hbm, ⟨52, _⟩ => ⟨S1x4096x1, .f32⟩
  | .hbm, ⟨53, _⟩ => ⟨S_, .f32⟩
  | .hbm, ⟨54, _⟩ => ⟨S1x4096x1, .f32⟩
  | .hbm, ⟨55, _⟩ => ⟨S1x4096x1, .f32⟩
  | .hbm, ⟨56, _⟩ => ⟨S1x4096x1, .f32⟩
  | .hbm, ⟨57, _⟩ => ⟨S1x4096x1024, .f32⟩
  | .hbm, ⟨58, _⟩ => ⟨S1x4096x1024, .f32⟩
  | .hbm, ⟨59, _⟩ => ⟨S1x1x1024, .f32⟩
  | .hbm, ⟨60, _⟩ => ⟨S1x4096x1024, .f32⟩
  | .hbm, ⟨61, _⟩ => ⟨S1x4096x1024, .f32⟩
  | .hbm, ⟨62, _⟩ => ⟨S4096x1024, .f32⟩
  | .hbm, ⟨63, _⟩ => ⟨S4096x1024, .f32⟩
  | .hbm, ⟨64, _⟩ => ⟨S4096x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩

abbrev nD : Nat := 1
abbrev τ : Topo := Topo.v7x

variable {F : FTy → Type} [FloatOps F]
-- ==== AdamUp.lean ====
abbrev S4x352x1024 : Shape := ⟨3, ![4, 352, 1024]⟩
abbrev S1x1024x352 : Shape := ⟨3, ![1, 1024, 352]⟩
abbrev S1024x352 : Shape := ⟨2, ![1024, 352]⟩
abbrev S352x1024 : Shape := ⟨2, ![352, 1024]⟩
abbrev S4x176x1024 : Shape := ⟨3, ![4, 176, 1024]⟩
abbrev S176x1024 : Shape := ⟨2, ![176, 1024]⟩
abbrev S1x176x1024 : Shape := ⟨3, ![1, 176, 1024]⟩

abbrev nBuf : Space → Nat
  | .hbm => 14
  | .vmem => 16
  | .smem => 0
  | _ => 0

abbrev bufTy : (tb : Table) → Fin (tcTables nBuf tb) → BufTy
  | .hbm, ⟨0, _⟩ => ⟨S4x352x1024, .bf16⟩
  | .hbm, ⟨1, _⟩ => ⟨S1x1024x352, .f32⟩
  | .hbm, ⟨2, _⟩ => ⟨S1x1024x352, .f32⟩
  | .hbm, ⟨3, _⟩ => ⟨S1x1024x352, .f32⟩
  | .hbm, ⟨4, _⟩ => ⟨S1024x352, .f32⟩
  | .hbm, ⟨5, _⟩ => ⟨S352x1024, .f32⟩
  | .hbm, ⟨6, _⟩ => ⟨S1024x352, .f32⟩
  | .hbm, ⟨7, _⟩ => ⟨S352x1024, .f32⟩
  | .hbm, ⟨8, _⟩ => ⟨S1024x352, .f32⟩
  | .hbm, ⟨9, _⟩ => ⟨S352x1024, .f32⟩
  | .hbm, ⟨10, _⟩ => ⟨S352x1024, .f32⟩
  | .hbm, ⟨11, _⟩ => ⟨S352x1024, .f32⟩
  | .hbm, ⟨12, _⟩ => ⟨S352x1024, .f32⟩
  | .hbm, ⟨13, _⟩ => ⟨S352x1024, .f32⟩
  | .local _ .vmem, ⟨0, _⟩ => ⟨S4x176x1024, .bf16⟩
  | .local _ .vmem, ⟨1, _⟩ => ⟨S4x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S4x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUpRefIdeal.lean ====
abbrev S4x352x1024 : Shape := ⟨3, ![4, 352, 1024]⟩
abbrev S1x1024x352 : Shape := ⟨3, ![1, 1024, 352]⟩
abbrev S_ : Shape := ⟨0, ![]⟩
abbrev S352x1024 : Shape := ⟨2, ![352, 1024]⟩
abbrev S1024x352 : Shape := ⟨2, ![1024, 352]⟩

abbrev nBuf : Space → Nat
  | .hbm => 50
  | .vmem => 0
  | .smem => 0
  | _ => 0

abbrev bufTy : (tb : Table) → Fin (tcTables nBuf tb) → BufTy
  | .hbm, ⟨0, _⟩ => ⟨S4x352x1024, .bf16⟩
  | .hbm, ⟨1, _⟩ => ⟨S1x1024x352, .f32⟩
  | .hbm, ⟨2, _⟩ => ⟨S1x1024x352, .f32⟩
  | .hbm, ⟨3, _⟩ => ⟨S1x1024x352, .f32⟩
  | .hbm, ⟨4, _⟩ => ⟨S4x352x1024, .f32⟩
  | .hbm, ⟨5, _⟩ => ⟨S_, .f32⟩
  | .hbm, ⟨6, _⟩ => ⟨S352x1024, .f32⟩
  | .hbm, ⟨7, _⟩ => ⟨S1024x352, .f32⟩
  | .hbm, ⟨8, _⟩ => ⟨S1x1024x352, .f32⟩
  | .hbm, ⟨9, _⟩ => ⟨S_, .f32⟩
  | .hbm, ⟨10, _⟩ => ⟨S1x1024x352, .f32⟩
  | .hbm, ⟨11, _⟩ => ⟨S1x1024x352, .f32⟩
  | .hbm, ⟨12, _⟩ => ⟨S_, .f32⟩
  | .hbm, ⟨13, _⟩ => ⟨S1x1024x352, .f32⟩
  | .hbm, ⟨14, _⟩ => ⟨S1x1024x352, .f32⟩
  | .hbm, ⟨15, _⟩ => ⟨S1x1024x352, .f32⟩
  | .hbm, ⟨16, _⟩ => ⟨S_, .f32⟩
  | .hbm, ⟨17, _⟩ => ⟨S1x1024x352, .f32⟩
  | .hbm, ⟨18, _⟩ => ⟨S1x1024x352, .f32⟩
  | .hbm, ⟨19, _⟩ => ⟨S1x1024x352, .f32⟩
  | .hbm, ⟨20, _⟩ => ⟨S_, .f32⟩
  | .hbm, ⟨21, _⟩ => ⟨S1x1024x352, .f32⟩
  | .hbm, ⟨22, _⟩ => ⟨S1x1024x352, .f32⟩
  | .hbm, ⟨23, _⟩ => ⟨S1x1024x352, .f32⟩
  | .hbm, ⟨24, _⟩ => ⟨S_, .f32⟩
  | .hbm, ⟨25, _⟩ => ⟨S1x1024x352, .f32⟩
  | .hbm, ⟨26, _⟩ => ⟨S1x1024x352, .f32⟩
  | .hbm, ⟨27, _⟩ => ⟨S_, .f32⟩
  | .hbm, ⟨28, _⟩ => ⟨S1x1024x352, .f32⟩
  | .hbm, ⟨29, _⟩ => ⟨S1x1024x352, .f32⟩
  | .hbm, ⟨30, _⟩ => ⟨S1x1024x352, .f32⟩
  | .hbm, ⟨31, _⟩ => ⟨S_, .f32⟩
  | .hbm, ⟨32, _⟩ => ⟨S1x1024x352, .f32⟩
  | .hbm, ⟨33, _⟩ => ⟨S1x1024x352, .f32⟩
  | .hbm, ⟨34, _⟩ => ⟨S1x1024x352, .f32⟩
  | .hbm, ⟨35, _⟩ => ⟨S_, .f32⟩
  | .hbm, ⟨36, _⟩ => ⟨S1x1024x352, .f32⟩
  | .hbm, ⟨37, _⟩ => ⟨S1x1024x352, .f32⟩
  | .hbm, ⟨38, _⟩ => ⟨S1x1024x352, .f32⟩
  | .hbm, ⟨39, _⟩ => ⟨S_, .f32⟩
  | .hbm, ⟨40, _⟩ => ⟨S1x1024x352, .f32⟩
  | .hbm, ⟨41, _⟩ => ⟨S1x1024x352, .f32⟩
  | .hbm, ⟨42, _⟩ => ⟨S1024x352, .f32⟩
  | .hbm, ⟨43, _⟩ => ⟨S352x1024, .f32⟩
  | .hbm, ⟨44, _⟩ => ⟨S1024x352, .f32⟩
  | .hbm, ⟨45, _⟩ => ⟨S352x1024, .f32⟩
  | .hbm, ⟨46, _⟩ => ⟨S1024x352, .f32⟩
  | .hbm, ⟨47, _⟩ => ⟨S352x1024, .f32⟩
  | .hbm, ⟨48, _⟩ => ⟨S1024x352, .f32⟩
  | .hbm, ⟨49, _⟩ => ⟨S352x1024, .f32⟩
  | _, _ => ⟨S4x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== AdamDown.lean ====
abbrev S8x352x1024 : Shape := ⟨3, ![8, 352, 1024]⟩
abbrev S1x352x1024 : Shape := ⟨3, ![1, 352, 1024]⟩
abbrev S352x1024 : Shape := ⟨2, ![352, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 11
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S1x352x1024, .f32⟩
  | .hbm, ⟨2, _⟩ => ⟨S1x352x1024, .f32⟩
  | .hbm, ⟨3, _⟩ => ⟨S1x352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S352x1024, .f32⟩
  | .hbm, ⟨9, _⟩ => ⟨S352x1024, .f32⟩
  | .hbm, ⟨10, _⟩ => ⟨S352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownRefIdeal.lean ====
abbrev S8x352x1024 : Shape := ⟨3, ![8, 352, 1024]⟩
abbrev S1x352x1024 : Shape := ⟨3, ![1, 352, 1024]⟩
abbrev S_ : Shape := ⟨0, ![]⟩
abbrev S352x1024 : Shape := ⟨2, ![352, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S1x352x1024, .f32⟩
  | .hbm, ⟨2, _⟩ => ⟨S1x352x1024, .f32⟩
  | .hbm, ⟨3, _⟩ => ⟨S1x352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S1x352x1024, .f32⟩
  | .hbm, ⟨8, _⟩ => ⟨S_, .f32⟩
  | .hbm, ⟨9, _⟩ => ⟨S1x352x1024, .f32⟩
  | .hbm, ⟨10, _⟩ => ⟨S1x352x1024, .f32⟩
  | .hbm, ⟨11, _⟩ => ⟨S_, .f32⟩
  | .hbm, ⟨12, _⟩ => ⟨S1x352x1024, .f32⟩
  | .hbm, ⟨13, _⟩ => ⟨S1x352x1024, .f32⟩
  | .hbm, ⟨14, _⟩ => ⟨S1x352x1024, .f32⟩
  | .hbm, ⟨15, _⟩ => ⟨S_, .f32⟩
  | .hbm, ⟨16, _⟩ => ⟨S1x352x1024, .f32⟩
  | .hbm, ⟨17, _⟩ => ⟨S1x352x1024, .f32⟩
  | .hbm, ⟨18, _⟩ => ⟨S1x352x1024, .f32⟩
  | .hbm, ⟨19, _⟩ => ⟨S_, .f32⟩
  | .hbm, ⟨20, _⟩ => ⟨S1x352x1024, .f32⟩
  | .hbm, ⟨21, _⟩ => ⟨S1x352x1024, .f32⟩
  | .hbm, ⟨22, _⟩ => ⟨S1x352x1024, .f32⟩
  | .hbm, ⟨23, _⟩ => ⟨S_, .f32⟩
  | .hbm, ⟨24, _⟩ => ⟨S1x352x1024, .f32⟩
  | .hbm, ⟨25, _⟩ => ⟨S1x352x1024, .f32⟩
  | .hbm, ⟨26, _⟩ => ⟨S_, .f32⟩
  | .hbm, ⟨27, _⟩ => ⟨S1x352x1024, .f32⟩
  | .hbm, ⟨28, _⟩ => ⟨S1x352x1024, .f32⟩
  | .hbm, ⟨29, _⟩ => ⟨S1x352x1024, .f32⟩
  | .hbm, ⟨30, _⟩ => ⟨S_, .f32⟩
  | .hbm, ⟨31, _⟩ => ⟨S1x352x1024, .f32⟩
  | .hbm, ⟨32, _⟩ => ⟨S1x352x1024, .f32⟩
  | .hbm, ⟨33, _⟩ => ⟨S1x352x1024, .f32⟩
  | .hbm, ⟨34, _⟩ => ⟨S_, .f32⟩
  | .hbm, ⟨35, _⟩ => ⟨S1x352x1024, .f32⟩
  | .hbm, ⟨36, _⟩ => ⟨S1x352x1024, .f32⟩
  | .hbm, ⟨37, _⟩ => ⟨S1x352x1024, .f32⟩
  | .hbm, ⟨38, _⟩ => ⟨S_, .f32⟩
  | .hbm, ⟨39, _⟩ => ⟨S1x352x1024, .f32⟩
  | .hbm, ⟨40, _⟩ => ⟨S1x352x1024, .f32⟩
  | .hbm, ⟨41, _⟩ => ⟨S352x1024, .f32⟩
  | .hbm, ⟨42, _⟩ => ⟨S352x1024, .f32⟩
  | .hbm, ⟨43, _⟩ => ⟨S352x1024, .f32⟩
  | .hbm, ⟨44, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== AdamIn.lean ====
abbrev S4x192x1024 : Shape := ⟨3, ![4, 192, 1024]⟩
abbrev S1x1024x192 : Shape := ⟨3, ![1, 1024, 192]⟩
abbrev S1024x192 : Shape := ⟨2, ![1024, 192]⟩
abbrev S192x1024 : Shape := ⟨2, ![192, 1024]⟩
abbrev S1x192x1024 : Shape := ⟨3, ![1, 192, 1024]⟩

abbrev nBuf : Space → Nat
  | .hbm => 14
  | .vmem => 8
  | .smem => 0
  | _ => 0

abbrev bufTy : (tb : Table) → Fin (tcTables nBuf tb) → BufTy
  | .hbm, ⟨0, _⟩ => ⟨S4x192x1024, .bf16⟩
  | .hbm, ⟨1, _⟩ => ⟨S1x1024x192, .f32⟩
  | .hbm, ⟨2, _⟩ => ⟨S1x1024x192, .f32⟩
  | .hbm, ⟨3, _⟩ => ⟨S1x1024x192, .f32⟩
  | .hbm, ⟨4, _⟩ => ⟨S1024x192, .f32⟩
  | .hbm, ⟨5, _⟩ => ⟨S192x1024, .f32⟩
  | .hbm, ⟨6, _⟩ => ⟨S1024x192, .f32⟩
  | .hbm, ⟨7, _⟩ => ⟨S192x1024, .f32⟩
  | .hbm, ⟨8, _⟩ => ⟨S1024x192, .f32⟩
  | .hbm, ⟨9, _⟩ => ⟨S192x1024, .f32⟩
  | .hbm, ⟨10, _⟩ => ⟨S192x1024, .f32⟩
  | .hbm, ⟨11, _⟩ => ⟨S192x1024, .f32⟩
  | .hbm, ⟨12, _⟩ => ⟨S192x1024, .f32⟩
  | .hbm, ⟨13, _⟩ => ⟨S192x1024, .f32⟩
  | .local _ .vmem, ⟨0, _⟩ => ⟨S4x192x1024, .bf16⟩
  | .local _ .vmem, ⟨1, _⟩ => ⟨S192x1024, .f32⟩
  | .local _ .vmem, ⟨2, _⟩ => ⟨S192x1024, .f32⟩
  | .local _ .vmem, ⟨3, _⟩ => ⟨S192x1024, .f32⟩
  | .local _ .vmem, ⟨4, _⟩ => ⟨S192x1024, .f32⟩
  | .local _ .vmem, ⟨5, _⟩ => ⟨S192x1024, .f32⟩
  | .local _ .vmem, ⟨6, _⟩ => ⟨S192x1024, .f32⟩
  | .local _ .vmem, ⟨7, _⟩ => ⟨S192x1024, .f32⟩
  | _, _ => ⟨S4x192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x192x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S192x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S192x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S192x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S192x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S192x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S192x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S192x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamInRefIdeal.lean ====
abbrev S4x192x1024 : Shape := ⟨3, ![4, 192, 1024]⟩
abbrev S1x1024x192 : Shape := ⟨3, ![1, 1024, 192]⟩
abbrev S_ : Shape := ⟨0, ![]⟩
abbrev S192x1024 : Shape := ⟨2, ![192, 1024]⟩
abbrev S1024x192 : Shape := ⟨2, ![1024, 192]⟩

abbrev nBuf : Space → Nat
  | .hbm => 50
  | .vmem => 0
  | .smem => 0
  | _ => 0

abbrev bufTy : (tb : Table) → Fin (tcTables nBuf tb) → BufTy
  | .hbm, ⟨0, _⟩ => ⟨S4x192x1024, .bf16⟩
  | .hbm, ⟨1, _⟩ => ⟨S1x1024x192, .f32⟩
  | .hbm, ⟨2, _⟩ => ⟨S1x1024x192, .f32⟩
  | .hbm, ⟨3, _⟩ => ⟨S1x1024x192, .f32⟩
  | .hbm, ⟨4, _⟩ => ⟨S4x192x1024, .f32⟩
  | .hbm, ⟨5, _⟩ => ⟨S_, .f32⟩
  | .hbm, ⟨6, _⟩ => ⟨S192x1024, .f32⟩
  | .hbm, ⟨7, _⟩ => ⟨S1024x192, .f32⟩
  | .hbm, ⟨8, _⟩ => ⟨S1x1024x192, .f32⟩
  | .hbm, ⟨9, _⟩ => ⟨S_, .f32⟩
  | .hbm, ⟨10, _⟩ => ⟨S1x1024x192, .f32⟩
  | .hbm, ⟨11, _⟩ => ⟨S1x1024x192, .f32⟩
  | .hbm, ⟨12, _⟩ => ⟨S_, .f32⟩
  | .hbm, ⟨13, _⟩ => ⟨S1x1024x192, .f32⟩
  | .hbm, ⟨14, _⟩ => ⟨S1x1024x192, .f32⟩
  | .hbm, ⟨15, _⟩ => ⟨S1x1024x192, .f32⟩
  | .hbm, ⟨16, _⟩ => ⟨S_, .f32⟩
  | .hbm, ⟨17, _⟩ => ⟨S1x1024x192, .f32⟩
  | .hbm, ⟨18, _⟩ => ⟨S1x1024x192, .f32⟩
  | .hbm, ⟨19, _⟩ => ⟨S1x1024x192, .f32⟩
  | .hbm, ⟨20, _⟩ => ⟨S_, .f32⟩
  | .hbm, ⟨21, _⟩ => ⟨S1x1024x192, .f32⟩
  | .hbm, ⟨22, _⟩ => ⟨S1x1024x192, .f32⟩
  | .hbm, ⟨23, _⟩ => ⟨S1x1024x192, .f32⟩
  | .hbm, ⟨24, _⟩ => ⟨S_, .f32⟩
  | .hbm, ⟨25, _⟩ => ⟨S1x1024x192, .f32⟩
  | .hbm, ⟨26, _⟩ => ⟨S1x1024x192, .f32⟩
  | .hbm, ⟨27, _⟩ => ⟨S_, .f32⟩
  | .hbm, ⟨28, _⟩ => ⟨S1x1024x192, .f32⟩
  | .hbm, ⟨29, _⟩ => ⟨S1x1024x192, .f32⟩
  | .hbm, ⟨30, _⟩ => ⟨S1x1024x192, .f32⟩
  | .hbm, ⟨31, _⟩ => ⟨S_, .f32⟩
  | .hbm, ⟨32, _⟩ => ⟨S1x1024x192, .f32⟩
  | .hbm, ⟨33, _⟩ => ⟨S1x1024x192, .f32⟩
  | .hbm, ⟨34, _⟩ => ⟨S1x1024x192, .f32⟩
  | .hbm, ⟨35, _⟩ => ⟨S_, .f32⟩
  | .hbm, ⟨36, _⟩ => ⟨S1x1024x192, .f32⟩
  | .hbm, ⟨37, _⟩ => ⟨S1x1024x192, .f32⟩
  | .hbm, ⟨38, _⟩ => ⟨S1x1024x192, .f32⟩
  | .hbm, ⟨39, _⟩ => ⟨S_, .f32⟩
  | .hbm, ⟨40, _⟩ => ⟨S1x1024x192, .f32⟩
  | .hbm, ⟨41, _⟩ => ⟨S1x1024x192, .f32⟩
  | .hbm, ⟨42, _⟩ => ⟨S1024x192, .f32⟩
  | .hbm, ⟨43, _⟩ => ⟨S192x1024, .f32⟩
  | .hbm, ⟨44, _⟩ => ⟨S1024x192, .f32⟩
  | .hbm, ⟨45, _⟩ => ⟨S192x1024, .f32⟩
  | .hbm, ⟨46, _⟩ => ⟨S1024x192, .f32⟩
  | .hbm, ⟨47, _⟩ => ⟨S192x1024, .f32⟩
  | .hbm, ⟨48, _⟩ => ⟨S1024x192, .f32⟩
  | .hbm, ⟨49, _⟩ => ⟨S192x1024, .f32⟩
  | _, _ => ⟨S4x192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== AdamOut.lean ====
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 11
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamOutRefIdeal.lean ====
abbrev S8x128x1024 : Shape := ⟨3, ![8, 128, 1024]⟩
abbrev S1x128x1024 : Shape := ⟨3, ![1, 128, 1024]⟩
abbrev S_ : Shape := ⟨0, ![]⟩
abbrev S128x1024 : Shape := ⟨2, ![128, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S1x128x1024, .f32⟩
  | .hbm, ⟨8, _⟩ => ⟨S_, .f32⟩
  | .hbm, ⟨9, _⟩ => ⟨S1x128x1024, .f32⟩
  | .hbm, ⟨10, _⟩ => ⟨S1x128x1024, .f32⟩
  | .hbm, ⟨11, _⟩ => ⟨S_, .f32⟩
  | .hbm, ⟨12, _⟩ => ⟨S1x128x1024, .f32⟩
  | .hbm, ⟨13, _⟩ => ⟨S1x128x1024, .f32⟩
  | .hbm, ⟨14, _⟩ => ⟨S1x128x1024, .f32⟩
  | .hbm, ⟨15, _⟩ => ⟨S_, .f32⟩
  | .hbm, ⟨16, _⟩ => ⟨S1x128x1024, .f32⟩
  | .hbm, ⟨17, _⟩ => ⟨S1x128x1024, .f32⟩
  | .hbm, ⟨18, _⟩ => ⟨S1x128x1024, .f32⟩
  | .hbm, ⟨19, _⟩ => ⟨S_, .f32⟩
  | .hbm, ⟨20, _⟩ => ⟨S1x128x1024, .f32⟩
  | .hbm, ⟨21, _⟩ => ⟨S1x128x1024, .f32⟩
  | .hbm, ⟨22, _⟩ => ⟨S1x128x1024, .f32⟩
  | .hbm, ⟨23, _⟩ => ⟨S_, .f32⟩
  | .hbm, ⟨24, _⟩ => ⟨S1x128x1024, .f32⟩
  | .hbm, ⟨25, _⟩ => ⟨S1x128x1024, .f32⟩
  | .hbm, ⟨26, _⟩ => ⟨S_, .f32⟩
  | .hbm, ⟨27, _⟩ => ⟨S1x128x1024, .f32⟩
  | .hbm, ⟨28, _⟩ => ⟨S1x128x1024, .f32⟩
  | .hbm, ⟨29, _⟩ => ⟨S1x128x1024, .f32⟩
  | .hbm, ⟨30, _⟩ => ⟨S_, .f32⟩
  | .hbm, ⟨31, _⟩ => ⟨S1x128x1024, .f32⟩
  | .hbm, ⟨32, _⟩ => ⟨S1x128x1024, .f32⟩
  | .hbm, ⟨33, _⟩ => ⟨S1x128x1024, .f32⟩
  | .hbm, ⟨34, _⟩ => ⟨S_, .f32⟩
  | .hbm, ⟨35, _⟩ => ⟨S1x128x1024, .f32⟩
  | .hbm, ⟨36, _⟩ => ⟨S1x128x1024, .f32⟩
  | .hbm, ⟨37, _⟩ => ⟨S1x128x1024, .f32⟩
  | .hbm, ⟨38, _⟩ => ⟨S_, .f32⟩
  | .hbm, ⟨39, _⟩ => ⟨S1x128x1024, .f32⟩
  | .hbm, ⟨40, _⟩ => ⟨S1x128x1024, .f32⟩
  | .hbm, ⟨41, _⟩ => ⟨S128x1024, .f32⟩
  | .hbm, ⟨42, _⟩ => ⟨S128x1024, .f32⟩
  | .hbm, ⟨43, _⟩ => ⟨S128x1024, .f32⟩
  | .hbm, ⟨44, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== AdamGain.lean ====
abbrev S8x1x1024 : Shape := ⟨3, ![8, 1, 1024]⟩
abbrev S1x1024 : Shape := ⟨2, ![1, 1024]⟩
abbrev S1x1x1024 : Shape := ⟨3, ![1, 1, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .local _ .vmem, ⟨0, _⟩ => ⟨S8x1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | _, _ => ⟨S8x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamGainRefIdeal.lean ====
abbrev S8x1x1024 : Shape := ⟨3, ![8, 1, 1024]⟩
abbrev S1x1024 : Shape := ⟨2, ![1, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S_, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S_, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S_, .f32⟩
  | .hbm, ⟨37, _⟩ => ⟨S1x1024, .f32⟩
  | .hbm, ⟨38, _⟩ => ⟨S1x1024, .f32⟩
  | _, _ => ⟨S8x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Pack.lean ====
abbrev S1x1024 : Shape := ⟨2, ![1, 1024]⟩
abbrev S1x512 : Shape := ⟨2, ![1, 512]⟩
abbrev S4x128x128 : Shape := ⟨3, ![4, 128, 128]⟩
abbrev S4x512 : Shape := ⟨2, ![4, 512]⟩
abbrev S72x128 : Shape := ⟨2, ![72, 128]⟩
abbrev S1024x128 : Shape := ⟨2, ![1024, 128]⟩
abbrev S1x128 : Shape := ⟨2, ![1, 128]⟩
abbrev S64x128 : Shape := ⟨2, ![64, 128]⟩
abbrev S1x128x128 : Shape := ⟨3, ![1, 128, 128]⟩
abbrev S128x128 : Shape := ⟨2, ![128, 128]⟩
abbrev S1x64x128 : Shape := ⟨3, ![1, 64, 128]⟩

abbrev nBuf : Space → Nat
  | .hbm => 16
  | .vmem => 16
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S1x512, .f32⟩
  | .hbm, ⟨9, _⟩ => ⟨S4x128x128, .f32⟩
  | .hbm, ⟨10, _⟩ => ⟨S4x128x128, .f32⟩
  | .hbm, ⟨11, _⟩ => ⟨S4x128x128, .f32⟩
  | .hbm, ⟨12, _⟩ => ⟨S4x512, .f32⟩
  | .hbm, ⟨13, _⟩ => ⟨S1x1024, .f32⟩
  | .hbm, ⟨14, _⟩ => ⟨S72x128, .f32⟩
  | .hbm, ⟨15, _⟩ => ⟨S1024x128, .bf16⟩
  | .local _ .vmem, ⟨0, _⟩ => ⟨S1x1024, .f32⟩
  | .local _ .vmem, ⟨1, _⟩ => ⟨S1x1024, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S4x128x128, .f32⟩
  | .local _ .vmem, ⟨10, _⟩ => ⟨S4x128x128, .f32⟩
  | .local _ .vmem, ⟨11, _⟩ => ⟨S4x128x128, .f32⟩
  | .local _ .vmem, ⟨12, _⟩ => ⟨S4x512, .f32⟩
  | .local _ .vmem, ⟨13, _⟩ => ⟨S1x1024, .f32⟩
  | .local _ .vmem, ⟨14, _⟩ => ⟨S72x128, .f32⟩
  | .local _ .vmem, ⟨15, _⟩ => ⟨S1024x128, .bf16⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S72x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1024x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== PackRefIdeal.lean ====
abbrev S1x1024 : Shape := ⟨2, ![1, 1024]⟩
abbrev S1x512 : Shape := ⟨2, ![1, 512]⟩
abbrev S4x128x128 : Shape := ⟨3, ![4, 128, 128]⟩
abbrev S4x512 : Shape := ⟨2, ![4, 512]⟩
abbrev S8x128 : Shape := ⟨2, ![8, 128]⟩
abbrev S4x128 : Shape := ⟨2, ![4, 128]⟩
abbrev S44x128 : Shape := ⟨2, ![44, 128]⟩
abbrev S_ : Shape := ⟨0, ![]⟩
abbrev S48x128 : Shape := ⟨2, ![48, 128]⟩
abbrev S128 : Shape := ⟨1, ![128]⟩
abbrev S1x128 : Shape := ⟨2, ![1, 128]⟩
abbrev S16x128 : Shape := ⟨2, ![16, 128]⟩
abbrev S512x128 : Shape := ⟨2, ![512, 128]⟩
abbrev S4x64x64 : Shape := ⟨3, ![4, 64, 64]⟩
abbrev S4x64x1x64 : Shape := ⟨4, ![4, 64, 1, 64]⟩
abbrev S4x64x2x64 : Shape := ⟨4, ![4, 64, 2, 64]⟩
abbrev S256x128 : Shape := ⟨2, ![256, 128]⟩
abbrev S72x128 : Shape := ⟨2, ![72, 128]⟩
abbrev S1024x128 : Shape := ⟨2, ![1024, 128]⟩

abbrev nBuf : Space → Nat
  | .hbm => 51
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S1x512, .f32⟩
  | .hbm, ⟨9, _⟩ => ⟨S4x128x128, .f32⟩
  | .hbm, ⟨10, _⟩ => ⟨S4x128x128, .f32⟩
  | .hbm, ⟨11, _⟩ => ⟨S4x128x128, .f32⟩
  | .hbm, ⟨12, _⟩ => ⟨S4x512, .f32⟩
  | .hbm, ⟨13, _⟩ => ⟨S1x1024, .f32⟩
  | .hbm, ⟨14, _⟩ => ⟨S8x128, .f32⟩
  | .hbm, ⟨15, _⟩ => ⟨S8x128, .f32⟩
  | .hbm, ⟨16, _⟩ => ⟨S4x128, .f32⟩
  | .hbm, ⟨17, _⟩ => ⟨S4x128, .f32⟩
  | .hbm, ⟨18, _⟩ => ⟨S4x128, .f32⟩
  | .hbm, ⟨19, _⟩ => ⟨S4x128, .f32⟩
  | .hbm, ⟨20, _⟩ => ⟨S4x128, .f32⟩
  | .hbm, ⟨21, _⟩ => ⟨S4x128, .f32⟩
  | .hbm, ⟨22, _⟩ => ⟨S4x128, .f32⟩
  | .hbm, ⟨23, _⟩ => ⟨S44x128, .f32⟩
  | .hbm, ⟨24, _⟩ => ⟨S_, .i32⟩
  | .hbm, ⟨25, _⟩ => ⟨S_, .f32⟩
  | .hbm, ⟨26, _⟩ => ⟨S48x128, .f32⟩
  | .hbm, ⟨27, _⟩ => ⟨S8x128, .f32⟩
  | .hbm, ⟨28, _⟩ => ⟨S_, .f32⟩
  | .hbm, ⟨29, _⟩ => ⟨S128, .f32⟩
  | .hbm, ⟨30, _⟩ => ⟨S1x128, .f32⟩
  | .hbm, ⟨31, _⟩ => ⟨S_, .i32⟩
  | .hbm, ⟨32, _⟩ => ⟨S_, .f32⟩
  | .hbm, ⟨33, _⟩ => ⟨S8x128, .f32⟩
  | .hbm, ⟨34, _⟩ => ⟨S16x128, .f32⟩
  | .hbm, ⟨35, _⟩ => ⟨S512x128, .f32⟩
  | .hbm, ⟨36, _⟩ => ⟨S4x64x64, .f32⟩
  | .hbm, ⟨37, _⟩ => ⟨S4x64x64, .f32⟩
  | .hbm, ⟨38, _⟩ => ⟨S4x64x1x64, .f32⟩
  | .hbm, ⟨39, _⟩ => ⟨S4x64x1x64, .f32⟩
  | .hbm, ⟨40, _⟩ => ⟨S4x64x2x64, .f32⟩
  | .hbm, ⟨41, _⟩ => ⟨S256x128, .f32⟩
  | .hbm, ⟨42, _⟩ => ⟨S4x64x64, .f32⟩
  | .hbm, ⟨43, _⟩ => ⟨S4x64x64, .f32⟩
  | .hbm, ⟨44, _⟩ => ⟨S4x64x1x64, .f32⟩
  | .hbm, ⟨45, _⟩ => ⟨S4x64x1x64, .f32⟩
  | .hbm, ⟨46, _⟩ => ⟨S4x64x2x64, .f32⟩
  | .hbm, ⟨47, _⟩ => ⟨S256x128, .f32⟩
  | .hbm, ⟨48, _⟩ => ⟨S72x128, .f32⟩
  | .hbm, ⟨49, _⟩ => ⟨S1024x128, .f32⟩
  | .hbm, ⟨50, _⟩ => ⟨S1024x128, .bf16⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c : Ref sig .tc := ⟨.hbm, 24, rfl⟩
abbrev main_call0_v0 : Ref sig .tc := ⟨.hbm, 25, rfl⟩
abbrev main_v10 : Ref sig .tc := ⟨.hbm, 26, rfl⟩
abbrev main_v11 : Ref sig .tc := ⟨.hbm, 27, rfl⟩
abbrev main_cst : Ref sig .tc := ⟨.hbm, 28, rfl⟩
abbrev main_v12 : Ref sig .tc := ⟨.hbm, 29, rfl⟩
abbrev main_v13 : Ref sig .tc := ⟨.hbm, 30, rfl⟩
abbrev main_c_0 : Ref sig .tc := ⟨.hbm, 31, rfl⟩
abbrev main_call1_v0 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩

abbrev nD : Nat := 1
abbrev τ : Topo := Topo.v7x

variable {F : FTy → Type} [FloatOps F]
-- ==== Proof.RmsBackward.lean ====
module

public import Idealize.ShloMosaic.Lib.Pipeline.ValueKit
public import Idealize.ShloMosaic.Lib.Pointwise

/-! Extended reals that are real numbers, and the gradient of a root-mean-square normalisation with respect to its argument: the form
with one mean per row against the form that the chain rule gives. -/

@[expose] public section

noncomputable section

open Idealize.ShloMosaic

namespace Cert.Layer

/-- The extended real is a real number. -/
def IsReal (x : EReal) : Prop := ∃ r : ℝ, x = (r : EReal)

namespace IsReal

theorem coe (r : ℝ) : IsReal (r : EReal) := ⟨r, rfl⟩

theorem zero : IsReal 0 := ⟨0, EReal.coe_zero.symm⟩

theorem add {x y : EReal} (hx : IsReal x) (hy : IsReal y) : IsReal (x + y) := by
  obtain ⟨a, rfl⟩ := hx; obtain ⟨b, rfl⟩ := hy
  exact ⟨a + b, (EReal.coe_add a b).symm⟩

theorem mul {x y : EReal} (hx : IsReal x) (hy : IsReal y) : IsReal (x * y) := by
  obtain ⟨a, rfl⟩ := hx; obtain ⟨b, rfl⟩ := hy
  exact ⟨a * b, (EReal.coe_mul a b).symm⟩

end IsReal

/-- The sum of real numbers, taken among the extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem IsReal.sum {ι : Type} (s : Finset ι) {f : ι → EReal} (h : ∀ i, IsReal (f i)) : IsReal (∑ i ∈ s, f i) := by
  choose g hg using h
  exact ⟨∑ i ∈ s, g i, by simp only [hg, coe_sum]⟩

/-- The number of columns, 1024. -/
theorem bits_1024 : Ideal.ofBits .f32 1149239296#32 = ((1024 : ℝ) : EReal) := by
  simp [Ideal.ofBits, Ideal.ieee]; rw [← EReal.coe_mul]; norm_num

/-- The number of columns of a group, 512. -/
theorem bits_512 : Ideal.ofBits .f32 1140850688#32 = ((512 : ℝ) : EReal) := by
  simp [Ideal.ofBits, Ideal.ieee]; rw [← EReal.coe_mul]; norm_num

/-- The constant that the normalisation adds to the mean of the squares is a positive real number. -/
theorem bits_eps : ∃ e : ℝ, 0 < e ∧ Ideal.ofBits .f32 897988541#32 = (e : EReal) := by
  refine ⟨_, ?_, by simp [Ideal.ofBits, Ideal.ieee]; rfl⟩
  norm_num

theorem bits_neg_half : Ideal.ofBits .f32 3204448256#32 = ((-(1 / 2) : ℝ) : EReal) := by
  simp [Ideal.ofBits, Ideal.ieee]; rw [← EReal.coe_mul]; norm_num

theorem div_coe_coe {a b : ℝ} (hb : b ≠ 0) : Ideal.div (a : EReal) (b : EReal) = ((a / b : ℝ) : EReal) := by
  rw [Ideal.div, if_neg (by exact_mod_cast hb), ← EReal.coe_inv, ← EReal.coe_mul, div_eq_mul_inv]

theorem rsqrt_coe {v : ℝ} (hv : 0 < v) : Ideal.rsqrt (v : EReal) = (((Real.sqrt v)⁻¹ : ℝ) : EReal) := by
  show (if v < 0 then ⊥ else if v = 0 then ⊤ else (((Real.sqrt v)⁻¹ : ℝ) : EReal)) = _
  rw [if_neg (not_lt.mpr hv.le), if_neg hv.ne']

section Width

variable (b : BitVec 32) {n : ℕ} (x u : Fin n → EReal)

/-- The mean square of a row, plus the constant; `b` holds the number of columns. -/
def msOf : EReal := Ideal.div (∑ k, x k * x k) (Ideal.ofBits .f32 b) + Ideal.ofBits .f32 897988541#32

/-- The gradient with respect to entry `j` of a normalised row `x`, where `u` is the gradient with respect to the normalised row. -/
def rmsGradOf (j : Fin n) : EReal :=
  Ideal.rsqrt (msOf b x) * (u j - x j * Ideal.rsqrt (msOf b x) *
    Ideal.div (∑ k, u k * (x k * Ideal.rsqrt (msOf b x))) (Ideal.ofBits .f32 b))

/-- The factor of `x j` in what the chain rule gives through the mean square. -/
def rmsViaOf : EReal :=
  Ideal.div ((∑ k, x k * u k) * (Ideal.ofBits .f32 3204448256#32 * Ideal.div (Ideal.rsqrt (msOf b x)) (msOf b x))) (Ideal.ofBits .f32 b)

variable {b x u} {d : ℝ} (hb : Ideal.ofBits .f32 b = (d : EReal)) (hd : 0 < d)

include hb hd

theorem msOf_real (hx : ∀ k, IsReal (x k)) : ∃ v : ℝ, 0 < v ∧ msOf b x = (v : EReal) := by
  choose y hy using hx
  obtain ⟨e, he, hc⟩ := bits_eps
  refine ⟨(∑ k, y k * y k) / d + e, ?_, ?_⟩
  · have : 0 ≤ ∑ k, y k * y k := Finset.sum_nonneg fun k _ => mul_self_nonneg (y k)
    positivity
  · unfold msOf
    simp only [hy, ← EReal.coe_mul, coe_sum, hb, hc]
    rw [div_coe_coe hd.ne', ← EReal.coe_add]

/-- The reciprocal root mean square of a row of real numbers is a real number. -/
theorem rsqrt_msOf_real (hx : ∀ k, IsReal (x k)) : IsReal (Ideal.rsqrt (msOf b x)) := by
  obtain ⟨v, hv, h⟩ := msOf_real hb hd hx
  rw [h, rsqrt_coe hv]
  exact .coe _

/-- The two forms of the gradient agree on real numbers. -/
theorem rmsGradOf_eq (hx : ∀ k, IsReal (x k)) (hu : ∀ k, IsReal (u k)) (j : Fin n) :
    rmsGradOf b x u j = u j * Ideal.rsqrt (msOf b x) + x j * rmsViaOf b x u + rmsViaOf b x u * x j := by
  obtain ⟨v, hv, hms⟩ := msOf_real hb hd hx
  choose y hy using hx
  choose w hw using hu
  have hs : Real.sqrt v ≠ 0 := (Real.sqrt_pos.mpr hv).ne'
  have hv2 : Real.sqrt v * Real.sqrt v = v := Real.mul_self_sqrt hv.le
  unfold rmsGradOf rmsViaOf
  simp only [hms, rsqrt_coe hv, hy, hw, ← EReal.coe_mul, coe_sum, hb, bits_neg_half, div_coe_coe hv.ne', div_coe_coe hd.ne',
    ← EReal.coe_add, ← EReal.coe_sub]
  congr 1
  have h1 : ∑ k, w k * (y k * (Real.sqrt v)⁻¹) = (∑ k, y k * w k) * (Real.sqrt v)⁻¹ := by
    rw [Finset.sum_mul]; exact Finset.sum_congr rfl fun k _ => by ring
  rw [h1]
  generalize (∑ k, y k * w k) = T
  generalize hσ : Real.sqrt v = σ at *
  subst hv2
  have hd' := hd.ne'
  field_simp
  ring

/-- The gradient of a normalised row of real numbers consists of real numbers. -/
theorem rmsGradOf_real (hx : ∀ k, IsReal (x k)) (hu : ∀ k, IsReal (u k)) (j : Fin n) : IsReal (rmsGradOf b x u j) := by
  obtain ⟨v, hv, hms⟩ := msOf_real hb hd hx
  choose y hy using hx
  choose w hw using hu
  unfold rmsGradOf
  simp only [hms, rsqrt_coe hv, hy, hw, ← EReal.coe_mul, coe_sum, hb, div_coe_coe hd.ne', ← EReal.coe_sub]
  exact .coe _

end Width

/-! ### Rows of 1024 columns -/

/-- The mean square of a row, plus the constant. -/
def ms (x : Fin 1024 → EReal) : EReal :=
  Ideal.div (∑ k, x k * x k) (Ideal.ofBits .f32 1149239296#32) + Ideal.ofBits .f32 897988541#32

theorem ms_real {x : Fin 1024 → EReal} (hx : ∀ k, IsReal (x k)) : ∃ v : ℝ, 0 < v ∧ ms x = (v : EReal) :=
  msOf_real bits_1024 (by norm_num) hx

/-- The gradient with respect to entry `j` of a normalised row `x`, where `u` is the gradient with respect to the normalised row. -/
def rmsGrad (x u : Fin 1024 → EReal) (j : Fin 1024) : EReal :=
  Ideal.rsqrt (ms x) * (u j - x j * Ideal.rsqrt (ms x) *
    Ideal.div (∑ k, u k * (x k * Ideal.rsqrt (ms x))) (Ideal.ofBits .f32 1149239296#32))

/-- The factor of `x j` in what the chain rule gives through the mean square. -/
def rmsVia (x u : Fin 1024 → EReal) : EReal :=
  Ideal.div ((∑ k, x k * u k) * (Ideal.ofBits .f32 3204448256#32 * Ideal.div (Ideal.rsqrt (ms x)) (ms x)))
    (Ideal.ofBits .f32 1149239296#32)

/-- The two forms of the gradient agree on real numbers. -/
theorem rmsGrad_eq {x u : Fin 1024 → EReal} (hx : ∀ k, IsReal (x k)) (hu : ∀ k, IsReal (u k)) (j : Fin 1024) :
    rmsGrad x u j = u j * Ideal.rsqrt (ms x) + x j * rmsVia x u + rmsVia x u * x j :=
  rmsGradOf_eq bits_1024 (by norm_num) hx hu j

/-- The gradient of a normalised row of real numbers consists of real numbers. -/
theorem rmsGrad_real {x u : Fin 1024 → EReal} (hx : ∀ k, IsReal (x k)) (hu : ∀ k, IsReal (u k)) (j : Fin 1024) : IsReal (rmsGrad x u j) :=
  rmsGradOf_real bits_1024 (by norm_num) hx hu j

end Cert.Layer

end
-- ==== Proof.InSpec.lean ====
module

public import proofs.«01_k».proof.Proof.RmsBackward

/-! The three results of the input projection's backward pass, as functions of its arrays. -/

@[expose] public section

noncomputable section

open Idealize.ShloMosaic

namespace Cert.Layer.In

abbrev Tokens : Type := (⟨3, ![1, 4096, 1024]⟩ : Shape).Idx → EReal
abbrev Proj : Type := (⟨3, ![1, 4096, 1536]⟩ : Shape).Idx → EReal
abbrev Weight : Type := (⟨3, ![1, 1024, 1536]⟩ : Shape).Idx → EReal
abbrev Gain : Type := (⟨2, ![1, 1024]⟩ : Shape).Idx → EReal

/-- Token `r` of the activations. -/
def row (x : Tokens) (r : Fin 4096) (j : Fin 1024) : EReal := x (ix3 0 r j)

/-- The reciprocal root mean square of token `r`. -/
def rstd (x : Tokens) (r : Fin 4096) : EReal := Ideal.rsqrt (ms (row x r))

/-- The gradient with respect to the normalised activations, gain included. -/
def dn (d : Proj) (w : Weight) (r : Fin 4096) (j : Fin 1024) : EReal := ∑ k : Fin 1536, d (ix3 0 r k) * w (ix3 0 j k)

/-- The gradient with respect to the normalised activations before the gain. -/
def du (d : Proj) (w : Weight) (g : Gain) (r : Fin 4096) (j : Fin 1024) : EReal := dn d w r j * g (ix2 0 j)

/-- The normalised activations. -/
def normed (x : Tokens) (g : Gain) (r : Fin 4096) (j : Fin 1024) : EReal := row x r j * rstd x r * g (ix2 0 j)

def dw (x : Tokens) (g : Gain) (d : Proj) (i : Fin 1536) (j : Fin 1024) : EReal :=
  ∑ r : Fin 4096, d (ix3 0 r i) * normed x g r j

def dg (x : Tokens) (w : Weight) (d : Proj) (j : Fin 1024) : EReal :=
  ∑ r : Fin 4096, dn d w r j * (row x r j * rstd x r)

end Cert.Layer.In

end
-- ==== Proof.TrivialSums.lean ====
module

public import Idealize.ShloMosaic.Lib.Pipeline.ValueKit
public import Idealize.ShloMosaic.Lib.Pointwise

/-! Host sums over two axes of which one or both have size one, and a sum over rows taken block by block. -/

@[expose] public section

noncomputable section

open Idealize.ShloMosaic

namespace Cert.Layer

theorem reduceAdd_first_last {n : ℕ} (h : (⟨3, ![1, n, 1]⟩ : Shape).ReducesTo [0, 2] ⟨1, ![n]⟩)
    (v : (⟨3, ![1, n, 1]⟩ : Shape).Idx → EReal) (init : EReal) (r : Fin n) :
    Ideal.hostReduceAdd h v init (ix1 r) = init + v (ix3 0 r 0) := by
  unfold Ideal.hostReduceAdd
  rw [Finset.sum_filter_eq_sum_of_fiber _ (fun _ : Unit => ix3 0 r 0) (fun _ _ _ => rfl)]
  · simp
  · intro i
    constructor
    · intro e
      refine ⟨(), funext fun a => Fin.ext ?_⟩
      match a with
      | ⟨0, _⟩ => exact (Nat.lt_one_iff.mp (i 0).isLt).symm
      | ⟨1, _⟩ => exact (congrArg Fin.val (congrFun e 0)).symm
      | ⟨2, _⟩ => exact (Nat.lt_one_iff.mp (i 2).isLt).symm
    · rintro ⟨_, rfl⟩
      funext b
      match b with
      | ⟨0, _⟩ => rfl

theorem reduceAdd_first_two {n : ℕ} (h : (⟨3, ![1, 1, n]⟩ : Shape).ReducesTo [0, 1] ⟨1, ![n]⟩)
    (v : (⟨3, ![1, 1, n]⟩ : Shape).Idx → EReal) (init : EReal) (r : Fin n) :
    Ideal.hostReduceAdd h v init (ix1 r) = init + v (ix3 0 0 r) := by
  unfold Ideal.hostReduceAdd
  rw [Finset.sum_filter_eq_sum_of_fiber _ (fun _ : Unit => ix3 0 0 r) (fun _ _ _ => rfl)]
  · simp
  · intro i
    constructor
    · intro e
      refine ⟨(), funext fun a => Fin.ext ?_⟩
      match a with
      | ⟨0, _⟩ => exact (Nat.lt_one_iff.mp (i 0).isLt).symm
      | ⟨1, _⟩ => exact (Nat.lt_one_iff.mp (i 1).isLt).symm
      | ⟨2, _⟩ => exact (congrArg Fin.val (congrFun e 0)).symm
    · rintro ⟨_, rfl⟩
      funext b
      match b with
      | ⟨0, _⟩ => rfl

theorem reduceAdd_rows {n k : ℕ} (h : (⟨3, ![1, n, k]⟩ : Shape).ReducesTo [0, 1] ⟨1, ![k]⟩)
    (v : (⟨3, ![1, n, k]⟩ : Shape).Idx → EReal) (init : EReal) (j : Fin k) :
    Ideal.hostReduceAdd h v init (ix1 j) = init + ∑ r : Fin n, v (ix3 0 r j) := by
  unfold Ideal.hostReduceAdd
  rw [Finset.sum_filter_eq_sum_of_fiber _ (fun r : Fin n => ix3 0 r j) (fun a b e => Fin.ext (congrArg Fin.val (congrFun e (1 : Fin 3))))]
  intro i
  constructor
  · intro e
    refine ⟨i 1, funext fun a => Fin.ext ?_⟩
    match a with
    | ⟨0, _⟩ => exact (Nat.lt_one_iff.mp (i 0).isLt).symm
    | ⟨1, _⟩ => rfl
    | ⟨2, _⟩ => exact (congrArg Fin.val (congrFun e 0)).symm
  · rintro ⟨_, rfl⟩
    funext b
    match b with
    | ⟨0, _⟩ => rfl

/-- A sum over `T` rows, taken in `N` blocks of `n` rows. -/
theorem sum_blocks {M : Type} [AddCommMonoid M] {N n T : ℕ} (hT : T = N * n) (g : Fin T → M)
    (h : ∀ (t : Fin N) (k : Fin n), n * t.val + k.val < T) :
    ∑ t : Fin N, ∑ k : Fin n, g ⟨n * t.val + k.val, h t k⟩ = ∑ r, g r := by
  subst hT
  rw [← finProdFinEquiv.sum_comp, Fintype.sum_prod_type]
  refine Finset.sum_congr rfl fun t _ => Finset.sum_congr rfl fun k _ => congrArg g (Fin.ext ?_)
  simp only [finProdFinEquiv_apply_val]
  omega

end Cert.Layer

end
-- ==== Proof.InKernel.lean ====
module

public import proofs.«01_k».proof.Proof.Gen.BwdInIdeal.Value
public import proofs.«01_k».proof.Proof.InSpec
public import proofs.«01_k».proof.Proof.TrivialSums
public import Idealize.ShloMosaic.Lib.Pipeline.ValueKit
public import Idealize.ShloMosaic.Lib.Pointwise

/-! The kernel of the input projection's backward pass: what its three results hold. -/

@[expose] public section

set_option maxRecDepth 16384

noncomputable section

open Idealize.ShloMosaic Idealize.ShloMosaic.TcCoe Idealize.SL.Sem
open Idealize.ShloMosaic.Pipeline (Dat)

namespace Cert.BwdInIdeal.Value

open Cert.BwdInIdeal Cert.BwdInIdeal.Gen

open Cert.Layer Cert.Layer.In

/-! ### The body's values over blocks -/

/-- A payload at the twelve slabs of three blocks. -/
def slabs {α : Type} (f : FVec Ideal S512x512 .bf16 → FVec Ideal S512x128 .bf16 → Vec Ideal S1x512x128 .bf16 →
      Vec Ideal S1x512x128 .bf16 → Vec Ideal S1x512x128 .bf16 → Vec Ideal S1x512x128 .bf16 → Vec Ideal S1x512x128 .bf16 →
      Vec Ideal S1x512x128 .bf16 → Vec Ideal S1x512x128 .bf16 → α) (a b c : Vec Ideal S4x512x128 .bf16) : α :=
  f (k0_pay10 (View.ld a (Rect.unit ![0, 0, 0] ![1, 512, 128] inb_S4x512x128_S1x512x128_0_0_0))
      (View.ld a (Rect.unit ![1, 0, 0] ![1, 512, 128] inb_S4x512x128_S1x512x128_1_0_0))
      (View.ld a (Rect.unit ![2, 0, 0] ![1, 512, 128] inb_S4x512x128_S1x512x128_2_0_0))
      (View.ld a (Rect.unit ![3, 0, 0] ![1, 512, 128] inb_S4x512x128_S1x512x128_3_0_0)))
    (k0_pay11 (View.ld b (Rect.unit ![0, 0, 0] ![1, 512, 128] inb_S4x512x128_S1x512x128_0_0_0)))
    (View.ld b (Rect.unit ![1, 0, 0] ![1, 512, 128] inb_S4x512x128_S1x512x128_1_0_0))
    (View.ld b (Rect.unit ![2, 0, 0] ![1, 512, 128] inb_S4x512x128_S1x512x128_2_0_0))
    (View.ld b (Rect.unit ![3, 0, 0] ![1, 512, 128] inb_S4x512x128_S1x512x128_3_0_0))
    (View.ld c (Rect.unit ![0, 0, 0] ![1, 512, 128] inb_S4x512x128_S1x512x128_0_0_0))
    (View.ld c (Rect.unit ![1, 0, 0] ![1, 512, 128] inb_S4x512x128_S1x512x128_1_0_0))
    (View.ld c (Rect.unit ![2, 0, 0] ![1, 512, 128] inb_S4x512x128_S1x512x128_2_0_0))
    (View.ld c (Rect.unit ![3, 0, 0] ![1, 512, 128] inb_S4x512x128_S1x512x128_3_0_0))

theorem db_at {a b c : Vec Ideal S4x512x128 .bf16} {r : Fin 512} {f : Fin 1536 → EReal}
    (ha : ∀ (s : Fin 4) (j : Fin 128), a (ix3 s r j) = f ⟨128 * s.val + j.val, by omega⟩)
    (hb : ∀ (s : Fin 4) (j : Fin 128), b (ix3 s r j) = f ⟨512 + 128 * s.val + j.val, by omega⟩)
    (hc : ∀ (s : Fin 4) (j : Fin 128), c (ix3 s r j) = f ⟨1024 + 128 * s.val + j.val, by omega⟩) (k : Fin 1536) :
    slabs k0_pay12 a b c (ix2 r k) = f k := by
  unfold slabs
  pointwise [k0_pay12, k0_pay10, k0_pay11]
  split_ifs <;> (simp only [ha, hb, hc]; refine congrArg f (Fin.ext ?_); dsimp only; first | omega | (simp; omega) | simp)

variable (m : (ℓ : Loc nD τ sig) → Buf (Elt Ideal) ℓ)

theorem index : ∀ t : Fin cfg0.N, win0_0.index t = ![(grid0.coords t 0).val, 0] ∧ win0_1.index t = ![(grid0.coords t 0).val, 0]
    ∧ win0_2.index t = ![0, (grid0.coords t 0).val, 0] ∧ win0_3.index t = ![0, (grid0.coords t 0).val, 0]
    ∧ win0_4.index t = ![0, (grid0.coords t 0).val, 0] ∧ win0_5.index t = ![0, 0] ∧ win0_6.index t = ![0, 0]
    ∧ win0_7.index t = ![(grid0.coords t 0).val, 0] ∧ (grid0.coords t 0).val = t.val :=
  (by decide +kernel : ∀ t : Fin grid0.N, _)

theorem entry_x (c : Dev nD) (t : Fin cfg0.N) (r : Fin 512) (j : Fin 1024) (h : 512 * t.val + r.val < 4096) :
    iblk m c 0 t (ix2 r j) = m ((c : Thread nD τ).loc main_arg0) (ix3 0 ⟨512 * t.val + r.val, h⟩ j) := by
  blk_simp [iblk]
  entry_read
  pointwise
  blk_ext [index t]
theorem entry_dh (c : Dev nD) (t : Fin cfg0.N) (r : Fin 512) (j : Fin 1024) (h : 512 * t.val + r.val < 4096) :
    iblk m c 1 t (ix2 r j) = m ((c : Thread nD τ).loc main_arg3) (ix3 0 ⟨512 * t.val + r.val, h⟩ j) := by
  blk_simp [iblk]
  entry_read
  pointwise
  blk_ext [index t]

theorem entry_pool (c : Dev nD) (t : Fin cfg0.N) (s : Fin 4) (r : Fin 512) (j : Fin 128) (h : 512 * t.val + r.val < 4096) :
    iblk m c 2 t (ix3 s r j)
      = m ((c : Thread nD τ).loc main_arg4) (ix3 0 ⟨512 * t.val + r.val, h⟩ ⟨128 * s.val + j.val, by omega⟩) := by
  blk_simp [iblk]
  entry_read
  pointwise
  blk_ext [index t]

theorem entry_lru (c : Dev nD) (t : Fin cfg0.N) (s : Fin 4) (r : Fin 512) (j : Fin 128) (h : 512 * t.val + r.val < 4096) :
    iblk m c 3 t (ix3 s r j)
      = m ((c : Thread nD τ).loc main_arg4) (ix3 0 ⟨512 * t.val + r.val, h⟩ ⟨512 + 128 * s.val + j.val, by omega⟩) := by
  blk_simp [iblk]
  entry_read
  pointwise
  blk_ext [index t]

theorem entry_gate (c : Dev nD) (t : Fin cfg0.N) (s : Fin 4) (r : Fin 512) (j : Fin 128) (h : 512 * t.val + r.val < 4096) :
    iblk m c 4 t (ix3 s r j)
      = m ((c : Thread nD τ).loc main_arg4) (ix3 0 ⟨512 * t.val + r.val, h⟩ ⟨1024 + 128 * s.val + j.val, by omega⟩) := by
  blk_simp [iblk]
  entry_read
  pointwise
  blk_ext [index t]

theorem entry_g (c : Dev nD) (t : Fin cfg0.N) (j : Fin 1024) :
    iblk m c 5 t (ix2 0 j) = m ((c : Thread nD τ).loc main_arg1) (ix2 0 j) := by
  blk_simp [iblk]
  entry_read
  pointwise
  blk_ext [index t]

theorem entry_w (c : Dev nD) (t : Fin cfg0.N) (k : Fin 1536) (j : Fin 1024) :
    iblk m c 6 t (ix2 k j) = m ((c : Thread nD τ).loc main_arg2) (ix3 0 j k) := by
  blk_simp [iblk]
  entry_read
  pointwise
  blk_ext [index t]

/-! ### One grid point -/

theorem in_range (t : Fin cfg0.N) (r : Fin 512) : 512 * t.val + r.val < 4096 := by
  have h : t.val < 8 := t.isLt
  omega

/-- The token that row `r` of point `t`'s blocks holds. -/
def tok (t : Fin cfg0.N) (r : Fin 512) : Fin 4096 := ⟨512 * t.val + r.val, in_range t r⟩

variable (c : Dev nD) (t : Fin cfg0.N)

abbrev argX : Tokens := m ((c : Thread nD τ).loc main_arg0)
abbrev argG : Gain := m ((c : Thread nD τ).loc main_arg1)
abbrev argW : Weight := m ((c : Thread nD τ).loc main_arg2)
abbrev argH : Tokens := m ((c : Thread nD τ).loc main_arg3)
abbrev argD : Proj := m ((c : Thread nD τ).loc main_arg4)

theorem db_entry (r : Fin 512) (k : Fin 1536) :
    slabs k0_pay12 (iblk m c 2 t) (iblk m c 3 t) (iblk m c 4 t) (ix2 r k) = argD m c (ix3 0 (tok t r) k) :=
  db_at (f := fun k => argD m c (ix3 0 (tok t r) k)) (fun s j => entry_pool m c t s r j (in_range t r))
    (fun s j => entry_lru m c t s r j (in_range t r)) (fun s j => entry_gate m c t s r j (in_range t r)) k

theorem rstd_at (r : Fin 512) : k0_pay7 (iblk m c 0 t) (ix2 r 0) = rstd (argX m c) (tok t r) := by
  unfold rstd ms row
  have h := fun j => entry_x m c t r j (in_range t r)
  pointwise [k0_pay7, k0_pay6, tok, h]

theorem xhat_at (r : Fin 512) (j : Fin 1024) :
    k0_pay8 (iblk m c 0 t) (ix2 r j) = row (argX m c) (tok t r) j * rstd (argX m c) (tok t r) := by
  rw [← rstd_at]
  have h := entry_x m c t r j (in_range t r)
  unfold row
  pointwise [k0_pay8, k0_pay6, tok, h]

theorem dn_at (r : Fin 512) (j : Fin 1024) :
    slabs k0_pay14 (iblk m c 2 t) (iblk m c 3 t) (iblk m c 4 t) (iblk m c 6 t) (ix2 r j)
      = dn (argD m c) (argW m c) (tok t r) j := by
  have h : slabs k0_pay14 (iblk m c 2 t) (iblk m c 3 t) (iblk m c 4 t) (iblk m c 6 t) (ix2 r j)
      = ∑ k, slabs k0_pay12 (iblk m c 2 t) (iblk m c 3 t) (iblk m c 4 t) (ix2 r k) * iblk m c 6 t (ix2 k j) := by
    unfold slabs
    pointwise [k0_pay14]
  rw [h]
  simp only [db_entry, entry_w]
  rfl

theorem du_at (r : Fin 512) (j : Fin 1024) :
    slabs (k0_pay15 (iblk m c 5 t)) (iblk m c 2 t) (iblk m c 3 t) (iblk m c 4 t) (iblk m c 6 t) (ix2 r j)
      = du (argD m c) (argW m c) (argG m c) (tok t r) j := by
  have h : slabs (k0_pay15 (iblk m c 5 t)) (iblk m c 2 t) (iblk m c 3 t) (iblk m c 4 t) (iblk m c 6 t) (ix2 r j)
      = slabs k0_pay14 (iblk m c 2 t) (iblk m c 3 t) (iblk m c 4 t) (iblk m c 6 t) (ix2 r j) * iblk m c 5 t (ix2 0 j) := by
    unfold slabs
    pointwise [k0_pay15]
  rw [h, dn_at, entry_g]
  rfl

theorem mean_at (r : Fin 512) :
    slabs (k0_pay16 (iblk m c 5 t) (k0_pay8 (iblk m c 0 t))) (iblk m c 2 t) (iblk m c 3 t) (iblk m c 4 t) (iblk m c 6 t) (ix2 r 0)
      = ∑ k, du (argD m c) (argW m c) (argG m c) (tok t r) k * (row (argX m c) (tok t r) k * rstd (argX m c) (tok t r)) := by
  have h : slabs (k0_pay16 (iblk m c 5 t) (k0_pay8 (iblk m c 0 t))) (iblk m c 2 t) (iblk m c 3 t) (iblk m c 4 t) (iblk m c 6 t) (ix2 r 0)
      = ∑ k, slabs (k0_pay15 (iblk m c 5 t)) (iblk m c 2 t) (iblk m c 3 t) (iblk m c 4 t) (iblk m c 6 t) (ix2 r k)
          * k0_pay8 (iblk m c 0 t) (ix2 r k) := by
    unfold slabs
    pointwise [k0_pay16]
  rw [h]
  simp only [du_at, xhat_at]

/-- What every point leaves in its block of the first result. -/
def dxBlock : FVec Ideal S512x1024 .f32 :=
  k0_pay1 (k0_pay7 (iblk m c 0 t)) (k0_pay8 (iblk m c 0 t))
    (slabs (k0_pay15 (iblk m c 5 t)) (iblk m c 2 t) (iblk m c 3 t) (iblk m c 4 t) (iblk m c 6 t))
    (slabs (k0_pay16 (iblk m c 5 t) (k0_pay8 (iblk m c 0 t))) (iblk m c 2 t) (iblk m c 3 t) (iblk m c 4 t) (iblk m c 6 t))
    k0_pay17 (iblk m c 1 t)

theorem dxBlock_at (r : Fin 512) (j : Fin 1024) :
    dxBlock m c t (ix2 r j)
      = argH m c (ix3 0 (tok t r) j) + rmsGrad (row (argX m c) (tok t r)) (du (argD m c) (argW m c) (argG m c) (tok t r)) j := by
  unfold dxBlock rmsGrad
  have h := entry_dh m c t r j (in_range t r)
  have h1 := rstd_at m c t r
  have h2 := xhat_at m c t r j
  unfold rstd at h1 h2
  pointwise [k0_pay1, k0_pay17, h, du_at, mean_at, h1, h2, tok]
  rfl

theorem point_dx : (outsAt0 m c t.val t.isLt).1 = dxBlock m c t := by
  by_cases h0 : t.val % 8 = 0
  · rw [outsAt0_A m c t h0 (by omega)]
    frame_out
    rfl
  · by_cases h1 : t.val % 8 = 7
    · rw [outsAt0_C m c t h0 h1]
      frame_out
      rfl
    · rw [outsAt0_B m c t h0 h1]
      frame_out
      rfl

/-- What a point adds to the scratch array that holds the gradient of the weights. -/
def dwStep (acc : FVec Ideal S1536x1024 .f32) : FVec Ideal S1536x1024 .f32 :=
  slabs (k0_pay13 (k0_pay9 (iblk m c 5 t) (iblk m c 0 t))) (iblk m c 2 t) (iblk m c 3 t) (iblk m c 4 t) acc

def dgStep (acc : FVec Ideal S1x1024 .f32) : FVec Ideal S1x1024 .f32 :=
  k0_pay2 (k0_pay8 (iblk m c 0 t)) (slabs k0_pay14 (iblk m c 2 t) (iblk m c 3 t) (iblk m c 4 t) (iblk m c 6 t)) acc

theorem point_dw_first (h0 : t.val % 8 = 0) : (outsAt0 m c t.val t.isLt).2.2.2 = dwStep m c t k0_pay4 := by
  rw [outsAt0_A m c t h0 (by omega)]
  frame_out
  rfl

theorem point_dw_next (h0 : ¬t.val % 8 = 0) : (outsAt0 m c t.val t.isLt).2.2.2
    = dwStep m c t (outsAt0 m c (t.val - 1) (Nat.lt_of_le_of_lt (Nat.sub_le _ _) t.isLt)).2.2.2 := by
  by_cases h1 : t.val % 8 = 7
  · rw [outsAt0_C m c t h0 h1]
    frame_out
    rw [(Memref.isWhole_whole _).read_unread]
    rfl
  · rw [outsAt0_B m c t h0 h1]
    frame_out
    rw [(Memref.isWhole_whole _).read_unread]
    rfl

theorem point_dg_first (h0 : t.val % 8 = 0) : (outsAt0 m c t.val t.isLt).2.2.1 = dgStep m c t k0_pay5 := by
  rw [outsAt0_A m c t h0 (by omega)]
  frame_out
  rfl

theorem point_dg_next (h0 : ¬t.val % 8 = 0) : (outsAt0 m c t.val t.isLt).2.2.1
    = dgStep m c t (outsAt0 m c (t.val - 1) (Nat.lt_of_le_of_lt (Nat.sub_le _ _) t.isLt)).2.2.1 := by
  by_cases h1 : t.val % 8 = 7
  · rw [outsAt0_C m c t h0 h1]
    frame_out
    rfl
  · rw [outsAt0_B m c t h0 h1]
    frame_out
    rfl

theorem point_dwb (h1 : t.val % 8 = 7) :
    (outsAt0 m c t.val t.isLt).2.1 = k0_pay3 (outsAt0 m c t.val t.isLt).2.2.2 := by
  rw [point_dw_next m c t (by omega), outsAt0_C m c t (by omega) h1]
  frame_out
  rw [(Memref.isWhole_whole _).read_unread]
  rfl

theorem dwStep_at (acc : FVec Ideal S1536x1024 .f32) (i : Fin 1536) (j : Fin 1024) :
    dwStep m c t acc (ix2 i j)
      = acc (ix2 i j) + ∑ r : Fin 512, argD m c (ix3 0 (tok t r) i) * normed (argX m c) (argG m c) (tok t r) j := by
  have h : dwStep m c t acc (ix2 i j) = acc (ix2 i j)
      + ∑ r, slabs k0_pay12 (iblk m c 2 t) (iblk m c 3 t) (iblk m c 4 t) (ix2 r i)
          * (k0_pay8 (iblk m c 0 t) (ix2 r j) * iblk m c 5 t (ix2 0 j)) := by
    unfold dwStep slabs
    pointwise [k0_pay13, k0_pay9]
  rw [h]
  simp only [db_entry, xhat_at, entry_g]
  rfl

theorem dgStep_at (acc : FVec Ideal S1x1024 .f32) (j : Fin 1024) :
    dgStep m c t acc (ix2 0 j)
      = acc (ix2 0 j) + ∑ r : Fin 512, dn (argD m c) (argW m c) (tok t r) j
          * (row (argX m c) (tok t r) j * rstd (argX m c) (tok t r)) := by
  unfold dgStep
  pointwise [k0_pay2, dn_at, xhat_at]

end Cert.BwdInIdeal.Value
-- ==== Proof.InFinal.lean ====
module

public import proofs.«01_k».proof.Proof.InKernel

/-! The three arrays that the kernel of the input projection's backward pass leaves. -/

@[expose] public section

set_option maxRecDepth 16384

noncomputable section

open Idealize.ShloMosaic Idealize.ShloMosaic.TcCoe Idealize.SL.Sem
open Idealize.ShloMosaic.Pipeline (Dat)

namespace Cert.BwdInIdeal.Value

open Cert.BwdInIdeal Cert.BwdInIdeal.Gen Cert.Layer Cert.Layer.In

variable (m : (ℓ : Loc nD τ sig) → Buf (Elt Ideal) ℓ) (c : Dev nD)

theorem final_dx : (dats m 0 c).arrAt 7 cfg0.N = fun i : S4096x1024.Idx =>
    argH m c (ix3 0 (i 0) (i 1)) + rmsGrad (row (argX m c) (i 0)) (du (argD m c) (argW m c) (argG m c) (i 0)) (i 1) := by
  refine (dats m 0 c).arrAt_eq_of_covers 7 _ (by decide +kernel) fun t hf y => ?_
  blk_simp
  rw [after0_7, point_dx]
  obtain ⟨r, j, rfl⟩ : ∃ (r : Fin 512) (j : Fin 1024), y = ix2 r j := ⟨y 0, y 1, eq_ix2 y⟩
  have e : (win0_7.blk t).view.emb (ix2 r j) = ix2 (tok t r) j := by
    blk_ext [index t, tok]
  rw [e]
  exact dxBlock_at m c t r j

theorem sum_dw (i : Fin 1536) (j : Fin 1024) (t : Fin cfg0.N) (ht : t.val + 1 = cfg0.N) :
    (outsAt0 m c t.val t.isLt).2.2.2 (ix2 i j) = dw (argX m c) (argG m c) (argD m c) i j := by
  refine (Pipeline.eq_sum_fin_of_reset_step_apply_last (fun n h (p : Fin 1536 × Fin 1024) => (outsAt0 m c n h).2.2.2 (ix2 p.1 p.2)) 8
    (fun _ => 0) (fun t p => ∑ r : Fin 512, argD m c (ix3 0 (tok t r) p.1) * normed (argX m c) (argG m c) (tok t r) p.2)
    (fun t h0 p => ?_) (fun t h0 p => ?_) (le_refl 8) t ht (i, j)).trans ?_
  · rw [point_dw_first m c t h0, dwStep_at]
    pointwise [k0_pay4]
  · show (outsAt0 m c t.val t.isLt).2.2.2 (ix2 p.1 p.2) = _
    rw [point_dw_next m c t h0, dwStep_at]
  · rw [zero_add]
    exact sum_blocks rfl (fun r => argD m c (ix3 0 r i) * normed (argX m c) (argG m c) r j) in_range

theorem sum_dg (j : Fin 1024) (t : Fin cfg0.N) (ht : t.val + 1 = cfg0.N) :
    (outsAt0 m c t.val t.isLt).2.2.1 (ix2 0 j) = dg (argX m c) (argW m c) (argD m c) j := by
  refine (Pipeline.eq_sum_fin_of_reset_step_apply_last (fun n h (j : Fin 1024) => (outsAt0 m c n h).2.2.1 (ix2 0 j)) 8
    (fun _ => 0) (fun t j => ∑ r : Fin 512, dn (argD m c) (argW m c) (tok t r) j * (row (argX m c) (tok t r) j * rstd (argX m c) (tok t r)))
    (fun t h0 p => ?_) (fun t h0 p => ?_) (le_refl 8) t ht j).trans ?_
  · rw [point_dg_first m c t h0, dgStep_at]
    pointwise [k0_pay5]
  · show (outsAt0 m c t.val t.isLt).2.2.1 (ix2 0 p) = _
    rw [point_dg_next m c t h0, dgStep_at]
  · rw [zero_add]
    have h := sum_blocks (N := 8) (n := 512) (T := 4096) rfl
      (fun r : Fin 4096 => dn (argD m c) (argW m c) r j * (row (argX m c) r j * rstd (argX m c) r)) in_range
    unfold dg
    exact h

/-- The last grid point. -/
def last : Fin cfg0.N := ⟨7, by decide⟩

theorem final_dw : (dats m 0 c).arrAt 8 cfg0.N = fun i : S1536x1024.Idx => dw (argX m c) (argG m c) (argD m c) (i 0) (i 1) := by
  refine (dats m 0 c).arrAt_eq_of_after_last 8 last (by decide +kernel) _ fun y => ?_
  blk_simp
  rw [after0_8, point_dwb m c last rfl]
  obtain ⟨i, j, rfl⟩ : ∃ (i : Fin 1536) (j : Fin 1024), y = ix2 i j := ⟨y 0, y 1, eq_ix2 y⟩
  refine Eq.trans ?_ (sum_dw m c i j last rfl)
  pointwise [k0_pay3]

theorem final_dg : (dats m 0 c).arrAt 9 cfg0.N = fun i : S1x1024.Idx => dg (argX m c) (argW m c) (argD m c) (i 1) := by
  refine (dats m 0 c).arrAt_eq_of_after_last 9 last (by decide +kernel) _ fun y => ?_
  blk_simp
  rw [after0_9]
  obtain ⟨i, j, rfl⟩ : ∃ (i : Fin 1) (j : Fin 1024), y = ix2 i j := ⟨y 0, y 1, eq_ix2 y⟩
  obtain rfl : i = 0 := Subsingleton.elim _ _
  exact sum_dg m c j last rfl

end Cert.BwdInIdeal.Value

end
-- ==== Proof.InReference.lean ====
module

public import proofs.«01_k».proof.Proof.Gen.BwdInRefIdeal.Run
public import proofs.«01_k».proof.Proof.Gen.BwdInRefIdeal.Read
public import proofs.«01_k».proof.Proof.InSpec
public import proofs.«01_k».proof.Proof.TrivialSums
public import Idealize.ShloMosaic.Lib.Pipeline.ValueKit
public import Idealize.ShloMosaic.Lib.Pointwise

/-! The reference of the input projection's backward pass, read entry by entry. -/

@[expose] public section

set_option maxRecDepth 16384

noncomputable section

open Idealize.ShloMosaic Idealize.ShloMosaic.TcCoe Idealize.SL.Sem
open Idealize.ShloMosaic.Pipeline (Dat)

namespace Cert.BwdInRefIdeal.Read

open Cert.BwdInRefIdeal Cert.BwdInRefIdeal.Gen

open Cert.Layer Cert.Layer.In

theorem v8_at (x0 : Tokens) (r : Fin 4096) : val_main_v8 (F := Ideal) x0 (ix3 0 r 0) = rstd x0 r := by
  unfold rstd ms row
  pointwise [val_main_v8, val_main_v7, val_main_v6, val_main_v5, val_main_v4, val_main_v3, val_main_v2, val_main_v1, val_main_cst,
    val_main_cst_0, val_main_cst_1]

theorem v21_at (x2 : Weight) (x4 : Proj) (r : Fin 4096) (j : Fin 1024) :
    val_main_v21 (F := Ideal) x2 x4 (ix3 0 r j) = dn x4 x2 r j := by
  unfold dn
  pointwise [val_main_v21, val_main_v17]

theorem v27_at (x1 : Gain) (x2 : Weight) (x4 : Proj) (r : Fin 4096) (j : Fin 1024) :
    val_main_v27 (F := Ideal) x1 x2 x4 (ix3 0 r j) = du x4 x2 x1 r j := by
  unfold du
  rw [← v21_at]
  pointwise [val_main_v27, val_main_v26, val_main_v15, val_main_v14, val_main_v0]

theorem v9_at (x0 : Tokens) (r : Fin 4096) :
    val_main_v9 (F := Ideal) x0 (ix3 0 r 0) = Ideal.div (Ideal.rsqrt (ms (row x0 r))) (ms (row x0 r)) := by
  unfold ms row
  pointwise [val_main_v9, val_main_v8, val_main_v7, val_main_v6, val_main_v5, val_main_v4, val_main_v3, val_main_v2, val_main_v1,
    val_main_cst, val_main_cst_0, val_main_cst_1]

theorem v30_at (x0 : Tokens) (x1 : Gain) (x2 : Weight) (x4 : Proj) (r : Fin 4096) :
    val_main_v30 (F := Ideal) x0 x1 x2 x4 (ix2 0 r) = ∑ k, row x0 r k * du x4 x2 x1 r k := by
  simp only [← v27_at]
  unfold row
  pointwise [val_main_v30, val_main_v29, val_main_cst_5]

theorem v38_at (x0 : Tokens) (x1 : Gain) (x2 : Weight) (x4 : Proj) (r : Fin 4096) :
    val_main_v38 (F := Ideal) x0 x1 x2 x4 (ix1 r) = rmsVia (row x0 r) (du x4 x2 x1 r) := by
  refine (reduceAdd_first_last reducesTo_S1x4096x1_S4096_d0_2 (val_main_v37 (F := Ideal) x0 x1 x2 x4)
    (val_main_cst_7 (F := Ideal) (Shape.Idx.first h_S_)) r).trans ?_
  unfold rmsVia
  rw [← v30_at, ← v9_at]
  pointwise [val_main_v37, val_main_v36, val_main_v35, val_main_v31, val_main_v11, val_main_v10, val_main_cst_7, val_main_cst_6, val_main_cst_2]

theorem v49_at (x0 : Tokens) (x1 : Gain) (x4 : Proj) (i : Fin 1536) (j : Fin 1024) :
    val_main_v49 (F := Ideal) x0 x1 x4 (ix2 i j) = dw x0 x1 x4 i j := by
  unfold dw normed
  simp only [← v8_at]
  unfold row
  pointwise [val_main_v49, val_main_v48, val_main_v47, val_main_v22, val_main_v20, val_main_v19, val_main_v16, val_main_v13, val_main_v12, val_main_v15, val_main_v14, val_main_v0]
  exact Fin.sum_univ_one _

theorem v45_at (x0 : Tokens) (x2 : Weight) (x4 : Proj) (j : Fin 1024) :
    val_main_v45 (F := Ideal) x0 x2 x4 (ix2 0 j) = dg x0 x2 x4 j := by
  have h : val_main_v45 (F := Ideal) x0 x2 x4 (ix2 0 j) = val_main_v28 (F := Ideal) x0 x2 x4 (ix1 j) := by
    pointwise [val_main_v45]
  refine (h.trans (reduceAdd_first_two reducesTo_S1x1x1024_S1024_d0_1 (val_main_v25 (F := Ideal) x0 x2 x4)
    (val_main_cst_4 (F := Ideal) (Shape.Idx.first h_S_)) j)).trans ?_
  unfold dg
  simp only [← v21_at, ← v8_at]
  unfold row
  pointwise [val_main_v25, val_main_v24, val_main_v23, val_main_v13, val_main_v12, val_main_cst_3, val_main_cst_4]
  exact Finset.sum_congr rfl fun _ _ => mul_comm _ _

theorem v46_at (x0 : Tokens) (x1 : Gain) (x2 : Weight) (x3 : Tokens) (x4 : Proj) (r : Fin 4096) (j : Fin 1024) :
    val_main_v46 (F := Ideal) x0 x1 x2 x3 x4 (ix2 r j)
      = x3 (ix3 0 r j) + du x4 x2 x1 r j * rstd x0 r + row x0 r j * rmsVia (row x0 r) (du x4 x2 x1 r)
        + rmsVia (row x0 r) (du x4 x2 x1 r) * row x0 r j := by
  rw [← v38_at, ← v27_at, ← v8_at]
  unfold row
  pointwise [val_main_v46, val_main_v44, val_main_v42, val_main_v43, val_main_v41, val_main_v34, val_main_v40, val_main_v39, val_main_v33, val_main_v32]

end Cert.BwdInRefIdeal.Read

end
-- ==== Proof.Bounded.lean ====
module

public import Idealize.ShloMosaic.Lib.ReduceAll
public import Idealize.ShloMosaic.Lib.Pointwise
public import proofs.«01_k».proof.Proof.RmsBackward

/-! A comparison of the absolute values with infinity, and what it says of the elements. -/

@[expose] public section

noncomputable section

open Idealize.ShloMosaic

namespace Cert.Layer

theorem bits_inf : Ideal.ofBits .f32 2139095040#32 = ⊤ := by
  simp [Ideal.ofBits, Ideal.ieee]

theorem isReal_of_abs_lt {x : EReal} (h : max x (-x) < ⊤) : IsReal x := by
  induction x using EReal.rec with
  | bot => simp at h
  | top => simp at h
  | coe r => exact ⟨r, rfl⟩

/-- Every element of an array is a real number, when the reduction of the comparisons is one. -/
theorem real_of_all {s t u : Shape} {axes : List (Fin s.rank)} [Subsingleton t.Idx] (a : FVec Ideal s .f32)
    (hb : (⟨0, ![]⟩ : Shape).BroadcastsInDim s (![] : Fin 0 → Fin s.rank)) (init : u.Idx → BitVec 1) (h : s.ReducesTo axes t) (hu : 0 < u.numel) (j : t.Idx)
    (e : Host.reduce IntOp.andi (cmpf .olt (Host.absf a) (broadcastInDim s ![] hb (constant (⟨0, ![]⟩ : Shape) .f32 0x7F800000#32))) init h hu j = 1#1)
    (i : s.Idx) : IsReal (a i) := by
  have hi := Host.reduce_andi_all _ init h hu j e i
  have hl : max (a i) (-a i) < Ideal.ofBits .f32 2139095040#32 := by
    by_contra hn
    revert hi
    pointwise
    rw [show FloatOps.absf (a i) = max (a i) (-a i) from rfl, decide_eq_false hn]
    decide
  exact isReal_of_abs_lt (bits_inf ▸ hl)

theorem both_one : ∀ a b : BitVec 1, IntOp.andi a b = 1#1 → a = 1#1 ∧ b = 1#1 := by decide

theorem andi_one {s : Shape} {x y : IVec s 1} {j : s.Idx} (h : andi x y j = 1#1) : x j = 1#1 ∧ y j = 1#1 := both_one _ _ h

end Cert.Layer

end
-- ==== Proof.InClaim.lean ====
module

public import proofs.«01_k».proof.Defs
public import proofs.«01_k».proof.Proof.InFinal
public import proofs.«01_k».proof.Proof.InReference
public import proofs.«01_k».proof.Proof.Bounded
public import proofs.«01_k».proof.Proof.Gen.Pre_in_finite
public import Idealize.ShloMosaic.Lib.Claim

/-! The claims about the input projection's backward pass. -/

@[expose] public section

set_option maxRecDepth 16384

noncomputable section

open Idealize.ShloMosaic Idealize.ShloMosaic.TcCoe Idealize.SL.Sem

namespace Cert.Layer.In

instance : Subsingleton (⟨0, ![]⟩ : Shape).Idx := ⟨fun a b => funext fun i => i.elim0⟩

/-- The precondition: the arrays that the gradient of the activations is computed from hold real numbers. -/
theorem reals {x : Tokens} {g : Gain} {w : Weight} {h : Tokens} {d : Proj}
    (e : Cert.Pre_in_finite.fn (F := Ideal) x g w h d = fun _ => 1#1) :
    (∀ i, IsReal (x i)) ∧ (∀ i, IsReal (g i)) ∧ (∀ i, IsReal (w i)) ∧ ∀ i, IsReal (d i) := by
  have e0 := congrFun e ix0
  unfold Cert.Pre_in_finite.fn Cert.Pre_in_finite.fn_part1 at e0
  obtain ⟨e1, hd⟩ := andi_one e0
  obtain ⟨e2, hw⟩ := andi_one e1
  obtain ⟨hx, hg⟩ := andi_one e2
  exact ⟨real_of_all _ _ _ _ _ _ hx, real_of_all _ _ _ _ _ _ hg, real_of_all _ _ _ _ _ _ hw, real_of_all _ _ _ _ _ _ hd⟩

/-- The kernel's gradient of the activations is the chain rule's. -/
theorem dx_eq {x : Tokens} {g : Gain} {w : Weight} {d : Proj} (hx : ∀ i, IsReal (x i)) (hg : ∀ i, IsReal (g i))
    (hw : ∀ i, IsReal (w i)) (hd : ∀ i, IsReal (d i)) (h : EReal) (r : Fin 4096) (j : Fin 1024) :
    h + rmsGrad (row x r) (du d w g r) j
      = h + du d w g r j * rstd x r + row x r j * rmsVia (row x r) (du d w g r) + rmsVia (row x r) (du d w g r) * row x r j := by
  rw [rmsGrad_eq (x := row x r) (u := du d w g r) (fun k => hx _) (fun k => IsReal.mul (IsReal.sum _ fun q => IsReal.mul (hd _) (hw _)) (hg _)) j, ← add_assoc,
    ← add_assoc]
  rfl

end Cert.Layer.In

namespace Cert.Proof.In

open Cert.Layer Cert.Layer.In

theorem algebraic : Cert.algebraic_BwdInIdeal_BwdInRefIdeal_pre_in_finite := by
  pair_intro
  · run_from (Cert.BwdInIdeal.Value.run_blocks m g)
  · obtain ⟨hx, hg, hw, hd⟩ := reals (hpre 0)
    run_from (Cert.BwdInRefIdeal.Value.run m' g')
    · rw [Cert.BwdInRefIdeal.Read.val_main_v46_eq, (hagree c).1, (hagree c).2.1, (hagree c).2.2.1, (hagree c).2.2.2.1, (hagree c).2.2.2.2,
        Cert.BwdInIdeal.Value.final_dx]
      funext i
      obtain rfl : c = 0 := Subsingleton.elim _ _
      obtain ⟨r, j, rfl⟩ : ∃ (r : Fin 4096) (j : Fin 1024), i = ix2 r j := ⟨i 0, i 1, eq_ix2 i⟩
      exact (Cert.BwdInRefIdeal.Read.v46_at _ _ _ _ _ r j).trans (dx_eq hx hg hw hd _ r j).symm
    · refine Eq.trans (Cert.BwdInRefIdeal.Read.val_main_v49_eq _ _ _) ?_
      rw [Cert.BwdInIdeal.Value.final_dw]
      funext i
      obtain ⟨r, j, rfl⟩ : ∃ (r : Fin 1536) (j : Fin 1024), i = ix2 r j := ⟨i 0, i 1, eq_ix2 i⟩
      exact Cert.BwdInRefIdeal.Read.v49_at _ _ _ r j
    · refine Eq.trans (Cert.BwdInRefIdeal.Read.val_main_v45_eq _ _ _) ?_
      rw [Cert.BwdInIdeal.Value.final_dg]
      funext i
      obtain ⟨r, j, rfl⟩ : ∃ (r : Fin 1) (j : Fin 1024), i = ix2 r j := ⟨i 0, i 1, eq_ix2 i⟩
      obtain rfl : r = 0 := Subsingleton.elim _ _
      exact Cert.BwdInRefIdeal.Read.v45_at _ _ _ j

theorem frame_ref : Cert.quiescent_BwdInRefIdeal := fun m g _ =>
  (θ_run Cert.BwdInRefIdeal.defs _ _).mono (fun r h => ⟨fun c => (h c).2.2.2, sem_eq_zero_of_no_sems (by decide) r.2⟩)
    (Cert.BwdInRefIdeal.Value.run (F := Ideal) m g)

theorem frame_ref_pre : Cert.quiescent_BwdInRefIdeal_pre_in_finite := fun m g _ => frame_ref m g trivial

end Cert.Proof.In

end
-- ==== Proof.MixFrame.lean ====
/-
  The frame of the mixers' backward call. At each of its four points the kernel runs seven trips of a counted loop and one more
  block of time after it; every trip reads its staged blocks and adds to its results and to six scratch buffers. Nothing said here
  depends on what it writes, so every memref is held at some contents: before a trip, after it, and at the point's ends.
-/
module

public import proofs.«01_k».proof.Proof.Gen.MixerBwdIdeal.Frame
public import proofs.«01_k».proof.Proof.Gen.MixerBwdIdeal.Skeleton
public import proofs.«01_k».proof.Proof.Gen.MixerBwdIdeal.Loops
public import Idealize.ShloMosaic.Lib.Pipeline.Frame
public import Idealize.ShloMosaic.Lib.Tactic

@[expose] public section

set_option maxRecDepth 65536
set_option maxHeartbeats 4000000

noncomputable section

namespace Cert.MixerFrame

open Cert.MixerBwdIdeal Cert.MixerBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-! ## One point -/

section Point

variable (c : Dev nD) (i : grid0.Coords) (arg1 : Memref sig .tc .vmem S1x4096x128 .f32) (harg1 : arg1.IsWhole) (arg2 : Memref sig .tc .vmem S1x4096x128 .f32) (harg2 : arg2.IsWhole) (arg3 : Memref sig .tc .vmem S1x4096x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x128x128 .f32) (harg9 : arg9.IsWhole) (arg10 : Memref sig .tc .vmem S1x128 .f32) (harg10 : arg10.IsWhole) (arg11 : Memref sig .tc .vmem S4x128 .f32) (harg11 : arg11.IsWhole) (arg12 : Memref sig .tc .vmem S1x128 .f32) (harg12 : arg12.IsWhole) (arg13 : Memref sig .tc .vmem S1x128x128 .f32) (harg13 : arg13.IsWhole) (arg14 : Memref sig .tc .vmem S1x128 .f32) (harg14 : arg14.IsWhole) (arg15 : Memref sig .tc .vmem S1x128x128 .f32) (harg15 : arg15.IsWhole) (arg16 : Memref sig .tc .vmem S1x128 .f32) (harg16 : arg16.IsWhole) (arg17 : Memref sig .tc .vmem S1x128 .f32) (harg17 : arg17.IsWhole) (arg18 : Memref sig .tc .hbm S8x128 .f32) (harg18 : arg18.IsWhole) (arg19 : Memref sig .tc .vmem S1x4096x128 .bf16) (harg19 : arg19.IsWhole) (arg20 : Memref sig .tc .vmem S1x4096x128 .bf16) (harg20 : arg20.IsWhole) (arg21 : Memref sig .tc .vmem S1x4096x128 .bf16) (harg21 : arg21.IsWhole) (arg22 : Memref sig .tc .vmem S1x128x128 .f32) (harg22 : arg22.IsWhole) (arg23 : Memref sig .tc .vmem S1x128 .f32) (harg23 : arg23.IsWhole) (arg24 : Memref sig .tc .vmem S4x128 .f32) (harg24 : arg24.IsWhole) (arg25 : Memref sig .tc .vmem S1x128 .f32) (harg25 : arg25.IsWhole) (arg26 : Memref sig .tc .vmem S1x128x128 .f32) (harg26 : arg26.IsWhole) (arg27 : Memref sig .tc .vmem S1x128 .f32) (harg27 : arg27.IsWhole) (arg28 : Memref sig .tc .vmem S1x128x128 .f32) (harg28 : arg28.IsWhole) (arg29 : Memref sig .tc .vmem S1x128 .f32) (harg29 : arg29.IsWhole) (arg30 : Memref sig .tc .vmem S1x128 .f32) (harg30 : arg30.IsWhole) (arg31 : Memref sig .tc .vmem S520x128 .f32) (harg31 : arg31.IsWhole) (arg32 : Memref sig .tc .vmem S520x128 .f32) (harg32 : arg32.IsWhole) (arg33 : Memref sig .tc .vmem S528x128 .f32) (harg33 : arg33.IsWhole) (arg34 : Memref sig .tc .vmem S528x128 .f32) (harg34 : arg34.IsWhole) (arg35 : Memref sig .tc .vmem S520x128 .f32) (harg35 : arg35.IsWhole) (arg36 : Memref sig .tc .vmem S520x128 .f32) (harg36 : arg36.IsWhole)

/-- Every memref the kernel is given, each at some contents. -/
def Held : sProp 𝕄 :=
  iprop((∃ f, arg1.view.loc (c : Thread nD τ) ↦[arg1.view.set]{fullShare} f)
    ∗ (∃ f, arg2.view.loc (c : Thread nD τ) ↦[arg2.view.set]{fullShare} f)
    ∗ (∃ f, arg3.view.loc (c : Thread nD τ) ↦[arg3.view.set]{fullShare} f)
    ∗ (∃ f, arg4.view.loc (c : Thread nD τ) ↦[arg4.view.set]{fullShare} f)
    ∗ (∃ f, arg5.view.loc (c : Thread nD τ) ↦[arg5.view.set]{fullShare} f)
    ∗ (∃ f, arg6.view.loc (c : Thread nD τ) ↦[arg6.view.set]{fullShare} f)
    ∗ (∃ f, arg7.view.loc (c : Thread nD τ) ↦[arg7.view.set]{fullShare} f)
    ∗ (∃ f, arg8.view.loc (c : Thread nD τ) ↦[arg8.view.set]{fullShare} f)
    ∗ (∃ f, arg9.view.loc (c : Thread nD τ) ↦[arg9.view.set]{fullShare} f)
    ∗ (∃ f, arg10.view.loc (c : Thread nD τ) ↦[arg10.view.set]{fullShare} f)
    ∗ (∃ f, arg11.view.loc (c : Thread nD τ) ↦[arg11.view.set]{fullShare} f)
    ∗ (∃ f, arg12.view.loc (c : Thread nD τ) ↦[arg12.view.set]{fullShare} f)
    ∗ (∃ f, arg13.view.loc (c : Thread nD τ) ↦[arg13.view.set]{fullShare} f)
    ∗ (∃ f, arg14.view.loc (c : Thread nD τ) ↦[arg14.view.set]{fullShare} f)
    ∗ (∃ f, arg15.view.loc (c : Thread nD τ) ↦[arg15.view.set]{fullShare} f)
    ∗ (∃ f, arg16.view.loc (c : Thread nD τ) ↦[arg16.view.set]{fullShare} f)
    ∗ (∃ f, arg17.view.loc (c : Thread nD τ) ↦[arg17.view.set]{fullShare} f)
    ∗ (∃ f, arg19.view.loc (c : Thread nD τ) ↦[arg19.view.set]{fullShare} f)
    ∗ (∃ f, arg20.view.loc (c : Thread nD τ) ↦[arg20.view.set]{fullShare} f)
    ∗ (∃ f, arg21.view.loc (c : Thread nD τ) ↦[arg21.view.set]{fullShare} f)
    ∗ (∃ f, arg22.view.loc (c : Thread nD τ) ↦[arg22.view.set]{fullShare} f)
    ∗ (∃ f, arg23.view.loc (c : Thread nD τ) ↦[arg23.view.set]{fullShare} f)
    ∗ (∃ f, arg24.view.loc (c : Thread nD τ) ↦[arg24.view.set]{fullShare} f)
    ∗ (∃ f, arg25.view.loc (c : Thread nD τ) ↦[arg25.view.set]{fullShare} f)
    ∗ (∃ f, arg26.view.loc (c : Thread nD τ) ↦[arg26.view.set]{fullShare} f)
    ∗ (∃ f, arg27.view.loc (c : Thread nD τ) ↦[arg27.view.set]{fullShare} f)
    ∗ (∃ f, arg28.view.loc (c : Thread nD τ) ↦[arg28.view.set]{fullShare} f)
    ∗ (∃ f, arg29.view.loc (c : Thread nD τ) ↦[arg29.view.set]{fullShare} f)
    ∗ (∃ f, arg30.view.loc (c : Thread nD τ) ↦[arg30.view.set]{fullShare} f)
    ∗ (∃ f, arg31.view.loc (c : Thread nD τ) ↦[arg31.view.set]{fullShare} f)
    ∗ (∃ f, arg32.view.loc (c : Thread nD τ) ↦[arg32.view.set]{fullShare} f)
    ∗ (∃ f, arg33.view.loc (c : Thread nD τ) ↦[arg33.view.set]{fullShare} f)
    ∗ (∃ f, arg34.view.loc (c : Thread nD τ) ↦[arg34.view.set]{fullShare} f)
    ∗ (∃ f, arg35.view.loc (c : Thread nD τ) ↦[arg35.view.set]{fullShare} f)
    ∗ (∃ f, arg36.view.loc (c : Thread nD τ) ↦[arg36.view.set]{fullShare} f))

variable (v9 : F .f32) (v11 : F .f32) (v13 : F .f32) (v21 : F .f32) (v24 : FVec F S128x128 .bf16) (v27 : FVec F S128x128 .bf16) (v30 : FVec F S128x128 .bf16) (v31 : Vec F S1x128 .f32) (v32 : Vec F S1x128 .f32) (v33 : Vec F S1x128 .f32) (v34 : Vec F S1x128 .f32) (v36 : FVec F S1x128 .f32) (v38 : FVec F S1x128 .f32) (v40 : FVec F S1x128 .f32) (v42 : FVec F S1x128 .f32) (v62 : FVec F S1x128 .f32)
  (init : FVec F S1x128 .f32 × FVec F S1x128 .f32 × FVec F S8x128 .f32 × FVec F S16x128 .f32)

set_option warn.classDefReducibility false in
/-- The loop over the blocks of time: a trip takes every memref at some contents and gives it back at some contents. -/
@[sl_loop] def loop :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v9 v11 v13 v21 v24 v27 v30 v31 v32 v33 v34 v36 v38 v40 v42 v62 init where
  inv _ _ := Held (F := F) c arg1 arg2 arg3 arg4 arg5 arg6 arg7 arg8 arg9 arg10 arg11 arg12 arg13 arg14 arg15 arg16 arg17 arg19 arg20 arg21 arg22 arg23 arg24 arg25 arg26 arg27 arg28 arg29 arg30 arg31 arg32 arg33 arg34 arg35 arg36
  step k acc := by
    obtain ⟨a38, a39, a40, a41⟩ := acc
    unfold Held
    iintro ⟨⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30⟩, ⟨%f31, H31⟩, ⟨%f32, H32⟩, ⟨%f33, H33⟩, ⟨%f34, H34⟩, ⟨%f35, H35⟩, ⟨%f36, H36⟩⟩
    sl_unfold [k0_t1_body]
    sl_exec_parts
    sl_step
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [H30]; · iexists _; iexact H30
    isplitl [H31]; · iexists _; iexact H31
    isplitl [H32]; · iexists _; iexact H32
    isplitl [H33]; · iexists _; iexact H33
    isplitl [H34]; · iexists _; iexact H34
    isplitl [H35]; · iexists _; iexact H35
    iexists _; iexact H36

end Point

section Run

variable (c : Dev nD) (i : grid0.Coords) (arg1 : Memref sig .tc .vmem S1x4096x128 .f32) (harg1 : arg1.IsWhole) (arg2 : Memref sig .tc .vmem S1x4096x128 .f32) (harg2 : arg2.IsWhole) (arg3 : Memref sig .tc .vmem S1x4096x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x128x128 .f32) (harg9 : arg9.IsWhole) (arg10 : Memref sig .tc .vmem S1x128 .f32) (harg10 : arg10.IsWhole) (arg11 : Memref sig .tc .vmem S4x128 .f32) (harg11 : arg11.IsWhole) (arg12 : Memref sig .tc .vmem S1x128 .f32) (harg12 : arg12.IsWhole) (arg13 : Memref sig .tc .vmem S1x128x128 .f32) (harg13 : arg13.IsWhole) (arg14 : Memref sig .tc .vmem S1x128 .f32) (harg14 : arg14.IsWhole) (arg15 : Memref sig .tc .vmem S1x128x128 .f32) (harg15 : arg15.IsWhole) (arg16 : Memref sig .tc .vmem S1x128 .f32) (harg16 : arg16.IsWhole) (arg17 : Memref sig .tc .vmem S1x128 .f32) (harg17 : arg17.IsWhole) (arg18 : Memref sig .tc .hbm S8x128 .f32) (harg18 : arg18.IsWhole) (arg19 : Memref sig .tc .vmem S1x4096x128 .bf16) (harg19 : arg19.IsWhole) (arg20 : Memref sig .tc .vmem S1x4096x128 .bf16) (harg20 : arg20.IsWhole) (arg21 : Memref sig .tc .vmem S1x4096x128 .bf16) (harg21 : arg21.IsWhole) (arg22 : Memref sig .tc .vmem S1x128x128 .f32) (harg22 : arg22.IsWhole) (arg23 : Memref sig .tc .vmem S1x128 .f32) (harg23 : arg23.IsWhole) (arg24 : Memref sig .tc .vmem S4x128 .f32) (harg24 : arg24.IsWhole) (arg25 : Memref sig .tc .vmem S1x128 .f32) (harg25 : arg25.IsWhole) (arg26 : Memref sig .tc .vmem S1x128x128 .f32) (harg26 : arg26.IsWhole) (arg27 : Memref sig .tc .vmem S1x128 .f32) (harg27 : arg27.IsWhole) (arg28 : Memref sig .tc .vmem S1x128x128 .f32) (harg28 : arg28.IsWhole) (arg29 : Memref sig .tc .vmem S1x128 .f32) (harg29 : arg29.IsWhole) (arg30 : Memref sig .tc .vmem S1x128 .f32) (harg30 : arg30.IsWhole) (arg31 : Memref sig .tc .vmem S520x128 .f32) (harg31 : arg31.IsWhole) (arg32 : Memref sig .tc .vmem S520x128 .f32) (harg32 : arg32.IsWhole) (arg33 : Memref sig .tc .vmem S528x128 .f32) (harg33 : arg33.IsWhole) (arg34 : Memref sig .tc .vmem S528x128 .f32) (harg34 : arg34.IsWhole) (arg35 : Memref sig .tc .vmem S520x128 .f32) (harg35 : arg35.IsWhole) (arg36 : Memref sig .tc .vmem S520x128 .f32) (harg36 : arg36.IsWhole)

/-- The kernel's run at one point. -/
theorem kernelRun (K : PUnit → sProp 𝕄) :
    iprop(Held (F := F) c arg1 arg2 arg3 arg4 arg5 arg6 arg7 arg8 arg9 arg10 arg11 arg12 arg13 arg14 arg15 arg16 arg17 arg19 arg20 arg21 arg22 arg23 arg24 arg25 arg26 arg27 arg28 arg29 arg30 arg31 arg32 arg33 arg34 arg35 arg36 ∗ (Held (F := F) c arg1 arg2 arg3 arg4 arg5 arg6 arg7 arg8 arg9 arg10 arg11 arg12 arg13 arg14 arg15 arg16 arg17 arg19 arg20 arg21 arg22 arg23 arg24 arg25 arg26 arg27 arg28 arg29 arg30 arg31 arg32 arg33 arg34 arg35 arg36 -∗ K ⟨⟩))
      ⊢ wp frame (wpE (defs₀ (F := F)) Variants.none c none) Set.univ
          (cc0_mixer_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36) K := by
  simp only [cc0_mixer_bwd_eq_skeleton]; unfold cc0_mixer_bwd_skel
  unfold Held
  iintro ⟨⟨⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30⟩, ⟨%f31, H31⟩, ⟨%f32, H32⟩, ⟨%f33, H33⟩, ⟨%f34, H34⟩, ⟨%f35, H35⟩, ⟨%f36, H36⟩⟩, Hk⟩
  sl_exec_parts
  sl_step
  iapply Hk
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  isplitl [H34]; · iexists _; iexact H34
  isplitl [H35]; · iexists _; iexact H35
  iexists _; iexact H36

end Run

/-! ## The proof data and the body obligation -/

variable (m : (ℓ : Loc nD τ sig) → Buf (Elt F) ℓ) (ρ : Dev nD → PrngReg)

/-- No window's contents are named. -/
def forgets0 : Fin cfg0.W → Bool := fun _ => true

/-- The proof data on core `c`: the arrays as the region finds them, what the body leaves unnamed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by dsimp only [dats]

/-- The scratch buffers and the generator register, conjunct by conjunct. -/
theorem rest_eq (c : Dev nD) :
    (Pipeline.ΦA spec0 c : sProp 𝕄)
      = iprop(iprop((∃ f, (Memref.whole cc0_scratch0).view.loc (c : Thread nD τ) ↦[(Memref.whole cc0_scratch0).view.set]{fullShare} f) ∗ (∃ f, (Memref.whole cc0_scratch1).view.loc (c : Thread nD τ) ↦[(Memref.whole cc0_scratch1).view.set]{fullShare} f) ∗ (∃ f, (Memref.whole cc0_scratch2).view.loc (c : Thread nD τ) ↦[(Memref.whole cc0_scratch2).view.set]{fullShare} f) ∗ (∃ f, (Memref.whole cc0_scratch3).view.loc (c : Thread nD τ) ↦[(Memref.whole cc0_scratch3).view.set]{fullShare} f) ∗ (∃ f, (Memref.whole cc0_scratch4).view.loc (c : Thread nD τ) ↦[(Memref.whole cc0_scratch4).view.set]{fullShare} f) ∗ (∃ f, (Memref.whole cc0_scratch5).view.loc (c : Thread nD τ) ↦[(Memref.whole cc0_scratch5).view.set]{fullShare} f))
          ∗ (∃ r, prngReg c r)) := by
  unfold Pipeline.ΦA; rw [scopedRest0_eq]; simp only [Memref.view_whole, View.set_whole]

/-- What the body is called with at point `t`, and what it returns: the two are one. -/
def bodyAtoms (c : Dev nD) (t : Fin cfg0.N) (t' : Fin (cfg0.N + 1)) : sProp 𝕄 :=
  iprop((dats m 0 c).Φ t' ∗ (dats m 0 c).owesAt () t'
    ∗ (∃ d, owns (c : Thread nD τ) (win0_0.stage (cfg0.slots t 0)) fullShare d)
    ∗ (∃ d, owns (c : Thread nD τ) (win0_1.stage (cfg0.slots t 1)) fullShare d)
    ∗ (∃ d, owns (c : Thread nD τ) (win0_2.stage (cfg0.slots t 2)) fullShare d)
    ∗ (∃ d, owns (c : Thread nD τ) (win0_3.stage (cfg0.slots t 3)) fullShare d)
    ∗ (∃ d, owns (c : Thread nD τ) (win0_4.stage (cfg0.slots t 4)) fullShare d)
    ∗ (∃ d, owns (c : Thread nD τ) (win0_5.stage (cfg0.slots t 5)) fullShare d)
    ∗ (∃ d, owns (c : Thread nD τ) (win0_6.stage (cfg0.slots t 6)) fullShare d)
    ∗ (∃ d, owns (c : Thread nD τ) (win0_7.stage (cfg0.slots t 7)) fullShare d)
    ∗ (∃ d, owns (c : Thread nD τ) (win0_8.stage (cfg0.slots t 8)) fullShare d)
    ∗ (∃ d, owns (c : Thread nD τ) (win0_9.stage (cfg0.slots t 9)) fullShare d)
    ∗ (∃ d, owns (c : Thread nD τ) (win0_10.stage (cfg0.slots t 10)) fullShare d)
    ∗ (∃ d, owns (c : Thread nD τ) (win0_11.stage (cfg0.slots t 11)) fullShare d)
    ∗ (∃ d, owns (c : Thread nD τ) (win0_12.stage (cfg0.slots t 12)) fullShare d)
    ∗ (∃ d, owns (c : Thread nD τ) (win0_13.stage (cfg0.slots t 13)) fullShare d)
    ∗ (∃ d, owns (c : Thread nD τ) (win0_14.stage (cfg0.slots t 14)) fullShare d)
    ∗ (∃ d, owns (c : Thread nD τ) (win0_15.stage (cfg0.slots t 15)) fullShare d)
    ∗ (∃ d, owns (c : Thread nD τ) (win0_16.stage (cfg0.slots t 16)) fullShare d)
    ∗ (∃ d, owns (c : Thread nD τ) (win0_17.stage (cfg0.slots t 17)) fullShare d)
    ∗ (∃ d, owns (c : Thread nD τ) (win0_18.stage (cfg0.slots t 18)) fullShare d)
    ∗ (∃ d, owns (c : Thread nD τ) (win0_19.stage (cfg0.slots t 19)) fullShare d)
    ∗ (∃ d, owns (c : Thread nD τ) (win0_20.stage (cfg0.slots t 20)) fullShare d)
    ∗ (∃ d, owns (c : Thread nD τ) (win0_21.stage (cfg0.slots t 21)) fullShare d)
    ∗ (∃ d, owns (c : Thread nD τ) (win0_22.stage (cfg0.slots t 22)) fullShare d)
    ∗ (∃ d, owns (c : Thread nD τ) (win0_23.stage (cfg0.slots t 23)) fullShare d)
    ∗ (∃ d, owns (c : Thread nD τ) (win0_24.stage (cfg0.slots t 24)) fullShare d)
    ∗ (∃ d, owns (c : Thread nD τ) (win0_25.stage (cfg0.slots t 25)) fullShare d)
    ∗ (∃ d, owns (c : Thread nD τ) (win0_26.stage (cfg0.slots t 26)) fullShare d)
    ∗ (∃ d, owns (c : Thread nD τ) (win0_27.stage (cfg0.slots t 27)) fullShare d)
    ∗ (∃ d, owns (c : Thread nD τ) (win0_28.stage (cfg0.slots t 28)) fullShare d))

theorem sound_body (c : Dev nD) (t : Fin cfg0.N) :
    bodyAtoms m c t t.castSucc
      ⊢ wp frame (wpE (defs₀ (F := F)) Variants.none c none) Set.univ (bodyAt0 t) (fun _ => bodyAtoms m c t t.succ) := by
  unfold bodyAtoms bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, rest_eq]
  unfold owns
  iintro ⟨⟨⟨S0, S1, S2, S3, S4, S5⟩, Hg⟩, HO, ⟨%d0, %f0, -, W0⟩, ⟨%d1, %f1, -, W1⟩, ⟨%d2, %f2, -, W2⟩, ⟨%d3, %f3, -, W3⟩, ⟨%d4, %f4, -, W4⟩, ⟨%d5, %f5, -, W5⟩, ⟨%d6, %f6, -, W6⟩, ⟨%d7, %f7, -, W7⟩, ⟨%d8, %f8, -, W8⟩, ⟨%d9, %f9, -, W9⟩, ⟨%d10, %f10, -, W10⟩, ⟨%d11, %f11, -, W11⟩, ⟨%d12, %f12, -, W12⟩, ⟨%d13, %f13, -, W13⟩, ⟨%d14, %f14, -, W14⟩, ⟨%d15, %f15, -, W15⟩, ⟨%d16, %f16, -, W16⟩, ⟨%d17, %f17, -, W17⟩, ⟨%d18, %f18, -, W18⟩, ⟨%d19, %f19, -, W19⟩, ⟨%d20, %f20, -, W20⟩, ⟨%d21, %f21, -, W21⟩, ⟨%d22, %f22, -, W22⟩, ⟨%d23, %f23, -, W23⟩, ⟨%d24, %f24, -, W24⟩, ⟨%d25, %f25, -, W25⟩, ⟨%d26, %f26, -, W26⟩, ⟨%d27, %f27, -, W27⟩, ⟨%d28, %f28, -, W28⟩⟩
  iapply kernelRun
  isplitl [W0 W1 W2 W3 W4 W5 W6 W7 W8 W9 W10 W11 W12 W13 W14 W15 W16 W17 W18 W19 W20 W21 W22 W23 W24 W25 W26 W27 W28 S0 S1 S2 S3 S4 S5]
  · unfold Held
    isplitl [W0]; · iexists _; iexact W0
    isplitl [W1]; · iexists _; iexact W1
    isplitl [W2]; · iexists _; iexact W2
    isplitl [W3]; · iexists _; iexact W3
    isplitl [W4]; · iexists _; iexact W4
    isplitl [W5]; · iexists _; iexact W5
    isplitl [W6]; · iexists _; iexact W6
    isplitl [W7]; · iexists _; iexact W7
    isplitl [W8]; · iexists _; iexact W8
    isplitl [W9]; · iexists _; iexact W9
    isplitl [W10]; · iexists _; iexact W10
    isplitl [W11]; · iexists _; iexact W11
    isplitl [W12]; · iexists _; iexact W12
    isplitl [W13]; · iexists _; iexact W13
    isplitl [W14]; · iexists _; iexact W14
    isplitl [W15]; · iexists _; iexact W15
    isplitl [W16]; · iexists _; iexact W16
    isplitl [W17]; · iexists _; iexact W17
    isplitl [W18]; · iexists _; iexact W18
    isplitl [W19]; · iexists _; iexact W19
    isplitl [W20]; · iexists _; iexact W20
    isplitl [W21]; · iexists _; iexact W21
    isplitl [W22]; · iexists _; iexact W22
    isplitl [W23]; · iexists _; iexact W23
    isplitl [W24]; · iexists _; iexact W24
    isplitl [W25]; · iexists _; iexact W25
    isplitl [W26]; · iexists _; iexact W26
    isplitl [W27]; · iexists _; iexact W27
    isplitl [W28]; · iexists _; iexact W28
    isplitl [S0]; · iexact S0
    isplitl [S1]; · iexact S1
    isplitl [S2]; · iexact S2
    isplitl [S3]; · iexact S3
    isplitl [S4]; · iexact S4
    iexact S5
  unfold Held
  iintro ⟨⟨%g0, W0⟩, ⟨%g1, W1⟩, ⟨%g2, W2⟩, ⟨%g3, W3⟩, ⟨%g4, W4⟩, ⟨%g5, W5⟩, ⟨%g6, W6⟩, ⟨%g7, W7⟩, ⟨%g8, W8⟩, ⟨%g9, W9⟩, ⟨%g10, W10⟩, ⟨%g11, W11⟩, ⟨%g12, W12⟩, ⟨%g13, W13⟩, ⟨%g14, W14⟩, ⟨%g15, W15⟩, ⟨%g16, W16⟩, ⟨%g17, W17⟩, ⟨%g18, W18⟩, ⟨%g19, W19⟩, ⟨%g20, W20⟩, ⟨%g21, W21⟩, ⟨%g22, W22⟩, ⟨%g23, W23⟩, ⟨%g24, W24⟩, ⟨%g25, W25⟩, ⟨%g26, W26⟩, ⟨%g27, W27⟩, ⟨%g28, W28⟩, S0, S1, S2, S3, S4, S5⟩
  isplitl [S0 S1 S2 S3 S4 S5 Hg]
  · isplitl [S0 S1 S2 S3 S4 S5]
    · isplitl [S0]; · iexact S0
      isplitl [S1]; · iexact S1
      isplitl [S2]; · iexact S2
      isplitl [S3]; · iexact S3
      isplitl [S4]; · iexact S4
      iexact S5
    iexact Hg
  isplitl [HO]; · iexact HO
  isplitl [W0]
  · iexists _, _; isplitr; swap; · iexact W0
    ipureintro; rfl
  isplitl [W1]
  · iexists _, _; isplitr; swap; · iexact W1
    ipureintro; rfl
  isplitl [W2]
  · iexists _, _; isplitr; swap; · iexact W2
    ipureintro; rfl
  isplitl [W3]
  · iexists _, _; isplitr; swap; · iexact W3
    ipureintro; rfl
  isplitl [W4]
  · iexists _, _; isplitr; swap; · iexact W4
    ipureintro; rfl
  isplitl [W5]
  · iexists _, _; isplitr; swap; · iexact W5
    ipureintro; rfl
  isplitl [W6]
  · iexists _, _; isplitr; swap; · iexact W6
    ipureintro; rfl
  isplitl [W7]
  · iexists _, _; isplitr; swap; · iexact W7
    ipureintro; rfl
  isplitl [W8]
  · iexists _, _; isplitr; swap; · iexact W8
    ipureintro; rfl
  isplitl [W9]
  · iexists _, _; isplitr; swap; · iexact W9
    ipureintro; rfl
  isplitl [W10]
  · iexists _, _; isplitr; swap; · iexact W10
    ipureintro; rfl
  isplitl [W11]
  · iexists _, _; isplitr; swap; · iexact W11
    ipureintro; rfl
  isplitl [W12]
  · iexists _, _; isplitr; swap; · iexact W12
    ipureintro; rfl
  isplitl [W13]
  · iexists _, _; isplitr; swap; · iexact W13
    ipureintro; rfl
  isplitl [W14]
  · iexists _, _; isplitr; swap; · iexact W14
    ipureintro; rfl
  isplitl [W15]
  · iexists _, _; isplitr; swap; · iexact W15
    ipureintro; rfl
  isplitl [W16]
  · iexists _, _; isplitr; swap; · iexact W16
    ipureintro; rfl
  isplitl [W17]
  · iexists _, _; isplitr; swap; · iexact W17
    ipureintro; rfl
  isplitl [W18]
  · iexists _, _; isplitr; swap; · iexact W18
    ipureintro; rfl
  isplitl [W19]
  · iexists _, _; isplitr; swap; · iexact W19
    ipureintro; rfl
  isplitl [W20]
  · iexists _, _; isplitr; swap; · iexact W20
    ipureintro; rfl
  isplitl [W21]
  · iexists _, _; isplitr; swap; · iexact W21
    ipureintro; rfl
  isplitl [W22]
  · iexists _, _; isplitr; swap; · iexact W22
    ipureintro; rfl
  isplitl [W23]
  · iexists _, _; isplitr; swap; · iexact W23
    ipureintro; rfl
  isplitl [W24]
  · iexists _, _; isplitr; swap; · iexact W24
    ipureintro; rfl
  isplitl [W25]
  · iexists _, _; isplitr; swap; · iexact W25
    ipureintro; rfl
  isplitl [W26]
  · iexists _, _; isplitr; swap; · iexact W26
    ipureintro; rfl
  isplitl [W27]
  · iexists _, _; isplitr; swap; · iexact W27
    ipureintro; rfl
  iexists _, _; isplitr; swap; · iexact W28
  ipureintro; rfl

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

set_option backward.isDefEq.respectTransparency.types false in
/-- Every run ends with the inputs as they were and every counter at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hΦ := fun _ _ => rfl)

variable {m ρ}

/-- A staged input's array is as the region found it. -/
theorem staged {r : PUnit × MemSt nD τ sig (Elt F)}
    (h : Pipeline.RDat.FramePost (cfgs 0) (fun c => (dats (F := F) m 0 c).toRForget forgets0) (V m) r) (c : Dev nD)
    (w : Fin cfg0.W) (hw : (cfg0.win w).isOut = false) :
    r.2.mem ((cfg0.win w).arr.view.loc (c.tc : Thread nD τ)) = V m c (Pipeline.arrRef spec0 w) := by
  have e := (h c).1 w
  rw [Pipeline.RDat.ArrAt_in _ w hw] at e
  exact e

/-- What the run leaves: every argument as it was launched, every counter at zero. -/
theorem arguments {r : PUnit × MemSt nD τ sig (Elt F)}
    (h : Pipeline.RDat.FramePost (cfgs 0) (fun c => (dats (F := F) m 0 c).toRForget forgets0) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    (staged h c 9 rfl).trans (V_main_arg4 m c),
    ((h c).2 main_arg5 (Pipeline.mem_restRefs_of main_arg5 (by decide) (by decide))).trans (V_main_arg5 m c),
    (staged h c 11 rfl).trans (V_main_arg6 m c),
    ((h c).2 main_arg7 (Pipeline.mem_restRefs_of main_arg7 (by decide) (by decide))).trans (V_main_arg7 m c),
    (staged h c 13 rfl).trans (V_main_arg8 m c),
    ((h c).2 main_arg9 (Pipeline.mem_restRefs_of main_arg9 (by decide) (by decide))).trans (V_main_arg9 m c),
    (staged h c 15 rfl).trans (V_main_arg10 m c),
    (staged h c 16 rfl).trans (V_main_arg11 m c),
    ((h c).2 main_arg12 (Pipeline.mem_restRefs_of main_arg12 (by decide) (by decide))).trans (V_main_arg12 m c),
    ((h c).2 main_arg13 (Pipeline.mem_restRefs_of main_arg13 (by decide) (by decide))).trans (V_main_arg13 m c)⟩

end Cert.MixerFrame

end
-- ==== Proof.MixClaim.lean ====
module

public import proofs.«01_k».proof.Defs
public import proofs.«01_k».proof.Proof.Gen.MixerBwd
public import proofs.«01_k».proof.Proof.Gen.MixerBwdRefIdeal.Run
public import proofs.«01_k».proof.Proof.MixFrame

/-! The frames of the mixer's backward pass and of its reference. -/

@[expose] public section

set_option maxRecDepth 16384

noncomputable section

open Idealize.ShloMosaic Idealize.ShloMosaic.TcCoe Idealize.SL.Sem

namespace Cert.Proof.Mixer

/-- Every run of the kernel's program, at either number type: the arguments as they were launched, every counter at zero. -/
def Kept (F : FTy → Type) [FloatOps F] : Prop :=
  ∀ (m : (ℓ : Loc Cert.MixerBwdIdeal.nD Cert.MixerBwdIdeal.τ Cert.MixerBwdIdeal.sig) → Buf (Elt F) ℓ) (g : Dev Cert.MixerBwdIdeal.nD → PrngReg), True →
    θ_run (Cert.MixerBwdIdeal.defs (F := F)) (onTc (τ := Cert.MixerBwdIdeal.τ) (Cert.MixerBwdIdeal.main (F := F))) ⟨m, fun _ => 0, g⟩
      (fun r => (∀ c : Dev Cert.MixerBwdIdeal.nD, r.2.mem ((c.tc : Thread Cert.MixerBwdIdeal.nD Cert.MixerBwdIdeal.τ).loc Cert.MixerBwdIdeal.main_arg0) = m ((c.tc : Thread Cert.MixerBwdIdeal.nD Cert.MixerBwdIdeal.τ).loc Cert.MixerBwdIdeal.main_arg0)
        ∧ r.2.mem ((c.tc : Thread Cert.MixerBwdIdeal.nD Cert.MixerBwdIdeal.τ).loc Cert.MixerBwdIdeal.main_arg1) = m ((c.tc : Thread Cert.MixerBwdIdeal.nD Cert.MixerBwdIdeal.τ).loc Cert.MixerBwdIdeal.main_arg1)
        ∧ r.2.mem ((c.tc : Thread Cert.MixerBwdIdeal.nD Cert.MixerBwdIdeal.τ).loc Cert.MixerBwdIdeal.main_arg2) = m ((c.tc : Thread Cert.MixerBwdIdeal.nD Cert.MixerBwdIdeal.τ).loc Cert.MixerBwdIdeal.main_arg2)
        ∧ r.2.mem ((c.tc : Thread Cert.MixerBwdIdeal.nD Cert.MixerBwdIdeal.τ).loc Cert.MixerBwdIdeal.main_arg3) = m ((c.tc : Thread Cert.MixerBwdIdeal.nD Cert.MixerBwdIdeal.τ).loc Cert.MixerBwdIdeal.main_arg3)
        ∧ r.2.mem ((c.tc : Thread Cert.MixerBwdIdeal.nD Cert.MixerBwdIdeal.τ).loc Cert.MixerBwdIdeal.main_arg4) = m ((c.tc : Thread Cert.MixerBwdIdeal.nD Cert.MixerBwdIdeal.τ).loc Cert.MixerBwdIdeal.main_arg4)
        ∧ r.2.mem ((c.tc : Thread Cert.MixerBwdIdeal.nD Cert.MixerBwdIdeal.τ).loc Cert.MixerBwdIdeal.main_arg5) = m ((c.tc : Thread Cert.MixerBwdIdeal.nD Cert.MixerBwdIdeal.τ).loc Cert.MixerBwdIdeal.main_arg5)
        ∧ r.2.mem ((c.tc : Thread Cert.MixerBwdIdeal.nD Cert.MixerBwdIdeal.τ).loc Cert.MixerBwdIdeal.main_arg6) = m ((c.tc : Thread Cert.MixerBwdIdeal.nD Cert.MixerBwdIdeal.τ).loc Cert.MixerBwdIdeal.main_arg6)
        ∧ r.2.mem ((c.tc : Thread Cert.MixerBwdIdeal.nD Cert.MixerBwdIdeal.τ).loc Cert.MixerBwdIdeal.main_arg7) = m ((c.tc : Thread Cert.MixerBwdIdeal.nD Cert.MixerBwdIdeal.τ).loc Cert.MixerBwdIdeal.main_arg7)
        ∧ r.2.mem ((c.tc : Thread Cert.MixerBwdIdeal.nD Cert.MixerBwdIdeal.τ).loc Cert.MixerBwdIdeal.main_arg8) = m ((c.tc : Thread Cert.MixerBwdIdeal.nD Cert.MixerBwdIdeal.τ).loc Cert.MixerBwdIdeal.main_arg8)
        ∧ r.2.mem ((c.tc : Thread Cert.MixerBwdIdeal.nD Cert.MixerBwdIdeal.τ).loc Cert.MixerBwdIdeal.main_arg9) = m ((c.tc : Thread Cert.MixerBwdIdeal.nD Cert.MixerBwdIdeal.τ).loc Cert.MixerBwdIdeal.main_arg9)
        ∧ r.2.mem ((c.tc : Thread Cert.MixerBwdIdeal.nD Cert.MixerBwdIdeal.τ).loc Cert.MixerBwdIdeal.main_arg10) = m ((c.tc : Thread Cert.MixerBwdIdeal.nD Cert.MixerBwdIdeal.τ).loc Cert.MixerBwdIdeal.main_arg10)
        ∧ r.2.mem ((c.tc : Thread Cert.MixerBwdIdeal.nD Cert.MixerBwdIdeal.τ).loc Cert.MixerBwdIdeal.main_arg11) = m ((c.tc : Thread Cert.MixerBwdIdeal.nD Cert.MixerBwdIdeal.τ).loc Cert.MixerBwdIdeal.main_arg11)
        ∧ r.2.mem ((c.tc : Thread Cert.MixerBwdIdeal.nD Cert.MixerBwdIdeal.τ).loc Cert.MixerBwdIdeal.main_arg12) = m ((c.tc : Thread Cert.MixerBwdIdeal.nD Cert.MixerBwdIdeal.τ).loc Cert.MixerBwdIdeal.main_arg12)
        ∧ r.2.mem ((c.tc : Thread Cert.MixerBwdIdeal.nD Cert.MixerBwdIdeal.τ).loc Cert.MixerBwdIdeal.main_arg13) = m ((c.tc : Thread Cert.MixerBwdIdeal.nD Cert.MixerBwdIdeal.τ).loc Cert.MixerBwdIdeal.main_arg13)) ∧ r.2.sem = fun _ => 0)

theorem kept (F : FTy → Type) [FloatOps F] : Kept F := fun m g _ =>
  (θ_run Cert.MixerBwdIdeal.defs _ _).mono (fun _ h => ⟨fun c => Cert.MixerFrame.arguments h.1 c, h.2⟩)
    (Cert.MixerFrame.run_main (F := F) m g)

theorem frame_kernel_ideal : Cert.quiescent_MixerBwdIdeal := kept Ideal

theorem same : Cert.quiescent_MixerBwd = Kept Bits := by sl_kernel_rfl

theorem frame_kernel : Cert.quiescent_MixerBwd := same.mpr (kept Bits)

theorem frame_ref : Cert.quiescent_MixerBwdRefIdeal := fun m g _ =>
  (θ_run Cert.MixerBwdRefIdeal.defs _ _).mono
    (fun r h => ⟨fun c => (h c).2.2.2.2.2.2.2.2.2.2.2.2, sem_eq_zero_of_no_sems (by decide) r.2⟩)
    (Cert.MixerBwdRefIdeal.Value.run (F := Ideal) m g)

end Cert.Proof.Mixer

end
-- ==== Proof.FfnSpec.lean ====
module

public import proofs.«01_k».proof.Proof.RmsBackward

/-! The results of the feed-forward block taken through the loss, as functions of its arrays. -/

@[expose] public section

set_option maxRecDepth 16384

noncomputable section

open Idealize.ShloMosaic

namespace Cert.Layer.Ffn

abbrev Tokens : Type := (⟨3, ![1, 4096, 1024]⟩ : Shape).Idx → EReal
abbrev Up : Type := (⟨3, ![1, 1024, 2816]⟩ : Shape).Idx → EReal
abbrev Down : Type := (⟨3, ![1, 2816, 1024]⟩ : Shape).Idx → EReal
abbrev Gain : Type := (⟨1, ![1024]⟩ : Shape).Idx → EReal
abbrev Rows : Type := Fin 4096 → Fin 1024 → EReal

/-- Token `r` under the gate's or the up projection. -/
def proj (n : Tokens) (w : Up) (r : Fin 4096) (k : Fin 2816) : EReal := ∑ i : Fin 1024, n (ix3 0 r i) * w (ix3 0 i k)

/-- The gated activation. -/
def act (n : Tokens) (wg wu : Up) (r : Fin 4096) (k : Fin 2816) : EReal :=
  proj n wg r k * Ideal.logistic (proj n wg r k) * proj n wu r k

/-- The residual stream after the block. -/
def hid (h n : Tokens) (wg wu : Up) (wd : Down) : Rows := fun r j => h (ix3 0 r j) + ∑ k : Fin 2816, act n wg wu r k * wd (ix3 0 k j)

/-- The normalised stream before its gain. -/
def normed (x : Rows) (r : Fin 4096) (j : Fin 1024) : EReal := x r j * Ideal.rsqrt (ms (x r))

/-- Prediction less target. -/
def err (x : Rows) (g : Gain) (t : Tokens) (r : Fin 4096) (j : Fin 1024) : EReal := normed x r j * g (ix1 j) - t (ix3 0 r j)

/-- The gradient of the loss with respect to the prediction. -/
def dl (x : Rows) (g : Gain) (t : Tokens) (r : Fin 4096) (j : Fin 1024) : EReal := err x g t r j * Ideal.ofBits .f32 0x3A800000#32

/-- The same before the gain. -/
def du (x : Rows) (g : Gain) (t : Tokens) (r : Fin 4096) (j : Fin 1024) : EReal := dl x g t r j * g (ix1 j)

def dgain (x : Rows) (g : Gain) (t : Tokens) (j : Fin 1024) : EReal := ∑ r : Fin 4096, dl x g t r j * normed x r j

def sqErr (x : Rows) (g : Gain) (t : Tokens) (j : Fin 1024) : EReal := ∑ r : Fin 4096, err x g t r j * err x g t r j

theorem bits_one : Ideal.ofBits .f32 0x3F800000#32 = 1 := by
  simp [Ideal.ofBits, Ideal.ieee]; rw [← EReal.coe_mul]; norm_num

theorem bits_two : Ideal.ofBits .f32 0x40000000#32 = ((2 : ℝ) : EReal) := by
  simp [Ideal.ofBits, Ideal.ieee]; rw [← EReal.coe_mul]; norm_num

theorem bits_half : Ideal.ofBits .f32 0x3F000000#32 = ((1 / 2 : ℝ) : EReal) := by
  simp [Ideal.ofBits, Ideal.ieee]; rw [← EReal.coe_mul]; norm_num

theorem bits_inv_1024 : Ideal.ofBits .f32 0x3A800000#32 = ((1 / 1024 : ℝ) : EReal) := by
  simp [Ideal.ofBits, Ideal.ieee]; rw [← EReal.coe_mul]; norm_num

/-- The chain rule's scale of the gradient of half a mean of squares is the reciprocal of the number of columns. -/
theorem scale_eq (e : EReal) :
    Ideal.div (Ideal.ofBits .f32 0x3F000000#32 * Ideal.ofBits .f32 0x3F800000#32) (Ideal.ofBits .f32 0x44800000#32)
      * (Ideal.ofBits .f32 0x40000000#32 * e) = e * Ideal.ofBits .f32 0x3A800000#32 := by
  rw [← mul_assoc, mul_comm e, bits_one, bits_two, bits_half, bits_inv_1024, bits_1024, mul_one, div_coe_coe (by norm_num), ← EReal.coe_mul]
  norm_num

theorem logistic_real {x : EReal} (hx : IsReal x) : IsReal (Ideal.logistic x) := by
  obtain ⟨a, rfl⟩ := hx
  refine ⟨1 / (1 + Real.exp (-a)), ?_⟩
  have h : (1 + Real.exp (-a) : ℝ) ≠ 0 := by positivity
  rw [← div_coe_coe h, EReal.coe_add]
  rfl

section Real

variable {h n t : Tokens} {wg wu : Up} {wd : Down} {g : Gain} {x : Rows}

theorem proj_real {w : Up} (hn : ∀ i, IsReal (n i)) (hw : ∀ i, IsReal (w i)) (r : Fin 4096) (k : Fin 2816) : IsReal (proj n w r k) :=
  IsReal.sum _ fun _ => IsReal.mul (hn _) (hw _)

theorem hid_real (hh : ∀ i, IsReal (h i)) (hn : ∀ i, IsReal (n i)) (hg : ∀ i, IsReal (wg i)) (hu : ∀ i, IsReal (wu i))
    (hd : ∀ i, IsReal (wd i)) (r : Fin 4096) (j : Fin 1024) : IsReal (hid h n wg wu wd r j) :=
  IsReal.add (hh _) (IsReal.sum _ fun _ => IsReal.mul
    (IsReal.mul (IsReal.mul (proj_real hn hg _ _) (logistic_real (proj_real hn hg _ _))) (proj_real hn hu _ _)) (hd _))

theorem du_real (hx : ∀ r j, IsReal (x r j)) (hg : ∀ i, IsReal (g i)) (ht : ∀ i, IsReal (t i)) (r : Fin 4096) (j : Fin 1024) :
    IsReal (du x g t r j) := by
  obtain ⟨v, hv, hms⟩ := ms_real (hx r)
  have hr : IsReal (Ideal.rsqrt (ms (x r))) := by rw [hms, rsqrt_coe hv]; exact IsReal.coe _
  refine IsReal.mul (IsReal.mul ?_ (by rw [bits_inv_1024]; exact IsReal.coe _)) (hg _)
  obtain ⟨a, ha⟩ := IsReal.mul (IsReal.mul (hx r j) hr) (hg (ix1 j))
  obtain ⟨b, hb⟩ := ht (ix3 0 r j)
  refine ⟨a - b, ?_⟩
  unfold err normed
  rw [ha, hb, EReal.coe_sub]

end Real

end Cert.Layer.Ffn

end
-- ==== Proof.FfnKernel.lean ====
module

public import proofs.«01_k».proof.Proof.Gen.FfnFwdIdeal.Value
public import proofs.«01_k».proof.Proof.FfnSpec
public import proofs.«01_k».proof.Proof.TrivialSums
public import Idealize.ShloMosaic.Lib.Pipeline.ValueKit
public import Idealize.ShloMosaic.Lib.Pointwise
public import Idealize.ShloMosaic.Lib.Pipeline.ReadBack

/-! The kernel of the feed-forward block taken through the loss: what its results hold. -/

@[expose] public section

set_option maxRecDepth 16384

noncomputable section

open Idealize.ShloMosaic Idealize.ShloMosaic.TcCoe Idealize.SL.Sem
open Idealize.ShloMosaic.Pipeline (Dat)

namespace Cert.FfnFwdIdeal.Value

open Cert.FfnFwdIdeal Cert.FfnFwdIdeal.Gen Cert.Layer Cert.Layer.Ffn

/-- A load of a rectangle from a scratch array that holds one array whole. -/
theorem readCov_whole {Val : EltTy → Type} [∀ e, Nonempty (Val e)] {s : Shape} {e : EltTy} {κ : Kind} {sp : Space} (v : View sig κ sp s e)
    (Z : s.Idx → Val e) (r : Rect s) : v.readCov [⟨Rect.whole s, Z⟩] r.toLoadRect = View.ld Z r :=
  View.readCov_fill v (off := fun _ => 0) (fun a => (Nat.zero_add _).le) Z [] r fun _ => rfl

variable (m : (ℓ : Loc nD τ sig) → Buf (Elt Ideal) ℓ) (c : Dev nD)

abbrev argH : Tokens := m ((c : Thread nD τ).loc main_arg0)
abbrev argN : Tokens := m ((c : Thread nD τ).loc main_arg1)
abbrev argT : Tokens := m ((c : Thread nD τ).loc main_arg2)
abbrev argL : Gain := m ((c : Thread nD τ).loc main_arg3)
abbrev argG : Up := m ((c : Thread nD τ).loc main_arg4)
abbrev argU : Up := m ((c : Thread nD τ).loc main_arg5)
abbrev argD : Down := m ((c : Thread nD τ).loc main_arg6)

/-- The three weights as the kernel loads them, the first two transposed. -/
def gateW : Vec Ideal S2816x1024 .bf16 := V m c main_v7
def upW : Vec Ideal S2816x1024 .bf16 := V m c main_v10
def downW : Vec Ideal S2816x1024 .bf16 := V m c main_v12

theorem index : ∀ t : Fin cfg0.N, win0_0.index t = ![(grid0.coords t 0).val, 0] ∧ win0_1.index t = ![(grid0.coords t 0).val, 0]
    ∧ win0_2.index t = ![(grid0.coords t 0).val, 0] ∧ win0_3.index t = ![0, 0] ∧ win0_4.index t = ![(grid0.coords t 0).val, 0]
    ∧ win0_5.index t = ![(grid0.coords t 0).val, 0] ∧ win0_6.index t = ![(grid0.coords t 0).val, 0]
    ∧ win0_7.index t = ![(grid0.coords t 0).val, 0] ∧ (grid0.coords t 0).val = t.val :=
  (by decide +kernel : ∀ t : Fin grid0.N, _)

theorem entry_gate (k : Fin 2816) (i : Fin 1024) : gateW m c (ix2 k i) = argG m c (ix3 0 i k) := by
  unfold gateW
  entry_read
  pointwise

theorem entry_up (k : Fin 2816) (i : Fin 1024) : upW m c (ix2 k i) = argU m c (ix3 0 i k) := by
  unfold upW
  entry_read
  pointwise

theorem entry_down (k : Fin 2816) (j : Fin 1024) : downW m c (ix2 k j) = argD m c (ix3 0 k j) := by
  unfold downW
  entry_read
  pointwise

theorem in_range (t : Fin cfg0.N) (r : Fin 512) : 512 * t.val + r.val < 4096 := by
  have h : t.val < 8 := t.isLt
  omega

/-- The token that row `r` of point `t`'s blocks holds. -/
def tok (t : Fin cfg0.N) (r : Fin 512) : Fin 4096 := ⟨512 * t.val + r.val, in_range t r⟩

variable (t : Fin cfg0.N)

theorem entry_h (r : Fin 512) (j : Fin 1024) : iblk m c 0 t (ix2 r j) = argH m c (ix3 0 (tok t r) j) := by
  blk_simp [iblk]
  entry_read
  pointwise
  blk_ext [index t, tok]

theorem entry_n (r : Fin 512) (j : Fin 1024) : iblk m c 1 t (ix2 r j) = argN m c (ix3 0 (tok t r) j) := by
  blk_simp [iblk]
  entry_read
  pointwise
  blk_ext [index t, tok]

theorem entry_t (r : Fin 512) (j : Fin 1024) : iblk m c 2 t (ix2 r j) = argT m c (ix3 0 (tok t r) j) := by
  blk_simp [iblk]
  entry_read
  pointwise
  blk_ext [index t, tok]

theorem entry_gain (j : Fin 1024) : iblk m c 3 t (ix2 0 j) = argL m c (ix1 j) := by
  blk_simp [iblk]
  entry_read
  pointwise
  blk_ext [index t]

/-- The scratch arrays hold the three weights after every point. -/
theorem scratch (n : ℕ) (hn : n < cfg0.N) : (outsAt0 m c n hn).2.2.2.2.2.2.1 = gateW m c
    ∧ (outsAt0 m c n hn).2.2.2.2.2.2.2.1 = upW m c ∧ (outsAt0 m c n hn).2.2.2.2.2.2.2.2 = downW m c := by
  induction n with
  | zero =>
    have e := outsAt0_A m c ⟨0, hn⟩ rfl
    dsimp only at e
    rw [e]
    refine ⟨?_, ?_, ?_⟩ <;>
    · frame_out
      exact View.canon_cons_unit_lit (off := fun _ => 0) (fun a => (Nat.zero_add _).le) _ [] fun _ => rfl
  | succ n ih =>
    have h8 : n + 1 < 8 := hn
    have e := outsAt0_B m c ⟨n + 1, hn⟩ (by dsimp only; omega)
    dsimp only [Nat.add_sub_cancel] at e
    rw [e]
    refine ⟨?_, ?_, ?_⟩ <;>
    · frame_out
      first
        | exact (ih _).1
        | exact (ih _).2.1
        | exact (ih _).2.2

end Cert.FfnFwdIdeal.Value

end
-- ==== Proof.FfnPoint.lean ====
module

public import proofs.«01_k».proof.Proof.FfnKernel

/-! What a grid point of the feed-forward kernel stores: the two projections and the residual stream after the block. -/

@[expose] public section

set_option maxRecDepth 16384

noncomputable section

open Idealize.ShloMosaic Idealize.ShloMosaic.TcCoe Idealize.SL.Sem
open Idealize.ShloMosaic.Pipeline (Dat)

namespace Cert.FfnFwdIdeal.Value

open Cert.FfnFwdIdeal Cert.FfnFwdIdeal.Gen Cert.Layer Cert.Layer.Ffn

variable (m : (ℓ : Loc nD τ sig) → Buf (Elt Ideal) ℓ) (c : Dev nD) (t : Fin cfg0.N)

/-! ### The projections, stored in eleven column tiles -/

/-- Row `r` of `n` against row `k` of `w`. -/
def dotRows (n : Vec Ideal S512x1024 .bf16) (w : Vec Ideal S2816x1024 .bf16) (r : Fin 512) (k : Fin 2816) : EReal :=
  ∑ i : Fin 1024, n (ix2 r i) * w (ix2 k i)

theorem dotRows_gate (r : Fin 512) (k : Fin 2816) :
    dotRows (iblk m c 1 t) (gateW m c) r k = proj (argN m c) (argG m c) (tok t r) k := by
  unfold dotRows proj
  simp only [entry_n, entry_gate]

theorem dotRows_up (r : Fin 512) (k : Fin 2816) :
    dotRows (iblk m c 1 t) (upW m c) r k = proj (argN m c) (argU m c) (tok t r) k := by
  unfold dotRows proj
  simp only [entry_n, entry_up]

/-- The same as a block. -/
def dotBlock (n : Vec Ideal S512x1024 .bf16) (w : Vec Ideal S2816x1024 .bf16) : Vec Ideal S512x2816 .bf16 := fun y => dotRows n w (y 0) (y 1)

theorem emb_tile {o : ℕ} (h : ∀ a, (![0, o] : Fin 2 → ℕ) a + (![512, 256] : Fin 2 → ℕ) a ≤ S512x2816.size a) (r : Fin 512) (j : Fin 256)
    (hj : o + j.val < 2816) : (Rect.unit (s := S512x2816) ![0, o] ![512, 256] h).emb (ix2 r j) = ix2 r ⟨o + j.val, hj⟩ := by
  funext a
  refine Fin.ext ?_
  rw [Rect.emb_apply]
  match a with
  | ⟨0, _⟩ => exact (Nat.zero_add _).trans (Nat.one_mul _)
  | ⟨1, _⟩ => exact congrArg (o + ·) (Nat.one_mul _)

theorem point_gate (r : Fin 512) (k : Fin 2816) : (outsAt0 m c t.val t.isLt).1 (ix2 r k) = proj (argN m c) (argG m c) (tok t r) k := by
  rw [← dotRows_gate]
  refine (?_ : _ = dotBlock (iblk m c 1 t) (gateW m c) (ix2 r k))
  by_cases h0 : t.val % 8 = 0
  rw [outsAt0_A m c t h0]
  rotate_left
  rw [outsAt0_B m c t h0]
  all_goals
    frame_out
    simp only [readCov_whole, (Memref.isWhole_whole _).read_unread, (scratch m c _ _).1]
    refine View.canon_apply_of_pieces (dotBlock (iblk m c 1 t) (gateW m c)) _ (View.PiecesOf.mem ?_) _ ?_
    rotate_left
    · exact View.cover_of_tiled_head _ _ _ rfl _
    refine ⟨?_, ?_, ?_, ?_, ?_, ?_, ?_, ?_, ?_, ?_, ?_, trivial⟩ <;>
    · intro x
      obtain ⟨i, j, rfl⟩ : ∃ (i : Fin 512) (j : Fin 256), x = ix2 i j := ⟨x 0, x 1, eq_ix2 x⟩
      rw [emb_tile _ i j (by omega)]
      unfold dotBlock dotRows
      pointwise [k0_pay5, k0_pay6, k0_pay8, k0_pay11, k0_pay13, k0_pay14, k0_pay16, k0_pay18, k0_pay21, k0_pay23, k0_pay26, k0_pay28, k0_pay31, k0_pay33, k0_pay36, k0_pay38, k0_pay40, k0_pay42, k0_pay47, k0_pay45, k0_pay48, k0_pay50, k0_pay52, k0_pay55, k0_pay57]
      all_goals first
        | rfl
        | exact Finset.sum_congr rfl fun _ _ => congrArg₂ _ rfl (congrArg _ (congrArg (ix2 · _) (Fin.ext (Nat.zero_add _).symm)))

theorem point_up (r : Fin 512) (k : Fin 2816) : (outsAt0 m c t.val t.isLt).2.1 (ix2 r k) = proj (argN m c) (argU m c) (tok t r) k := by
  rw [← dotRows_up]
  refine (?_ : _ = dotBlock (iblk m c 1 t) (upW m c) (ix2 r k))
  by_cases h0 : t.val % 8 = 0
  rw [outsAt0_A m c t h0]
  rotate_left
  rw [outsAt0_B m c t h0]
  all_goals
    frame_out
    simp only [readCov_whole, (Memref.isWhole_whole _).read_unread, (scratch m c _ _).2.1]
    refine View.canon_apply_of_pieces (dotBlock (iblk m c 1 t) (upW m c)) _ (View.PiecesOf.mem ?_) _ ?_
    rotate_left
    · exact View.cover_of_tiled_head _ _ _ rfl _
    refine ⟨?_, ?_, ?_, ?_, ?_, ?_, ?_, ?_, ?_, ?_, ?_, trivial⟩ <;>
    · intro x
      obtain ⟨i, j, rfl⟩ : ∃ (i : Fin 512) (j : Fin 256), x = ix2 i j := ⟨x 0, x 1, eq_ix2 x⟩
      rw [emb_tile _ i j (by omega)]
      unfold dotBlock dotRows
      pointwise [k0_pay5, k0_pay7, k0_pay9, k0_pay12, k0_pay15, k0_pay17, k0_pay19, k0_pay22, k0_pay24, k0_pay27, k0_pay29, k0_pay32, k0_pay34, k0_pay37, k0_pay39, k0_pay41, k0_pay43, k0_pay46, k0_pay49, k0_pay51, k0_pay53, k0_pay56, k0_pay58]
      all_goals first
        | rfl
        | exact Finset.sum_congr rfl fun _ _ => congrArg₂ _ rfl (congrArg _ (congrArg (ix2 · _) (Fin.ext (Nat.zero_add _).symm)))

end Cert.FfnFwdIdeal.Value

end
-- ==== Proof.FfnSum.lean ====
module

public import proofs.«01_k».proof.Proof.FfnKernel
public import proofs.«01_k».proof.Proof.TrivialSums

/-! The feed-forward kernel's block product, accumulated over eleven tiles of the hidden columns. -/

@[expose] public section

set_option maxRecDepth 16384

noncomputable section

open Idealize.ShloMosaic Idealize.ShloMosaic.TcCoe Idealize.SL.Sem
open Idealize.ShloMosaic.Pipeline (Dat)

namespace Cert.FfnFwdIdeal.Value

open Cert.FfnFwdIdeal Cert.FfnFwdIdeal.Gen Cert.Layer Cert.Layer.Ffn

/-- Rows `o` to `o + 255` of a weight. -/
def rows (w : Vec Ideal S2816x1024 .bf16) (o : ℕ) (h : ∀ a, (![o, 0] : Fin 2 → ℕ) a + (![256, 1024] : Fin 2 → ℕ) a ≤ S2816x1024.size a) :
    Vec Ideal S256x1024 .bf16 := View.ld w (Rect.unit (s := S2816x1024) ![o, 0] ![256, 1024] h)

section
variable (n : Vec Ideal S512x1024 .bf16) (wg wu wd : Vec Ideal S2816x1024 .bf16)

def acc256 : FVec Ideal S512x1024 .f32 :=
  k0_pay10 n (rows wg 0 inb_S2816x1024_S256x1024_0_0) (rows wu 0 inb_S2816x1024_S256x1024_0_0) (rows wd 0 inb_S2816x1024_S256x1024_0_0)
def acc768 : FVec Ideal S512x1024 .f32 :=
  k0_pay20 (k0_pay5 n) (acc256 n wg wu wd) (k0_pay11 n (rows wg 256 inb_S2816x1024_S256x1024_256_0))
    (k0_pay12 n (rows wu 256 inb_S2816x1024_S256x1024_256_0)) (rows wd 256 inb_S2816x1024_S256x1024_256_0)
    (rows wg 512 inb_S2816x1024_S256x1024_512_0) (rows wu 512 inb_S2816x1024_S256x1024_512_0) (rows wd 512 inb_S2816x1024_S256x1024_512_0)
def acc1024 : FVec Ideal S512x1024 .f32 :=
  k0_pay25 (k0_pay5 n) (acc768 n wg wu wd) (k0_pay21 (k0_pay5 n) (rows wg 768 inb_S2816x1024_S256x1024_768_0))
    (rows wu 768 inb_S2816x1024_S256x1024_768_0) (rows wd 768 inb_S2816x1024_S256x1024_768_0)
def acc1536 : FVec Ideal S512x1024 .f32 :=
  k0_pay35 (k0_pay5 n) (acc1024 n wg wu wd) (k0_pay30 (k0_pay5 n) (rows wg 1024 inb_S2816x1024_S256x1024_1024_0)
    (rows wu 1024 inb_S2816x1024_S256x1024_1024_0)) (rows wd 1024 inb_S2816x1024_S256x1024_1024_0)
    (rows wg 1280 inb_S2816x1024_S256x1024_1280_0) (rows wu 1280 inb_S2816x1024_S256x1024_1280_0) (rows wd 1280 inb_S2816x1024_S256x1024_1280_0)
def acc2048 : FVec Ideal S512x1024 .f32 :=
  k0_pay44 (k0_pay5 n) (acc1536 n wg wu wd) (k0_pay36 (k0_pay5 n) (rows wg 1536 inb_S2816x1024_S256x1024_1536_0))
    (k0_pay37 (k0_pay5 n) (rows wu 1536 inb_S2816x1024_S256x1024_1536_0)) (rows wd 1536 inb_S2816x1024_S256x1024_1536_0)
    (rows wg 1792 inb_S2816x1024_S256x1024_1792_0) (rows wu 1792 inb_S2816x1024_S256x1024_1792_0) (rows wd 1792 inb_S2816x1024_S256x1024_1792_0)
def acc2560 : FVec Ideal S512x1024 .f32 :=
  k0_pay54 (k0_pay5 n) (acc2048 n wg wu wd) (k0_pay45 (k0_pay5 n) (rows wg 2048 inb_S2816x1024_S256x1024_2048_0))
    (k0_pay46 (k0_pay5 n) (rows wu 2048 inb_S2816x1024_S256x1024_2048_0)) (rows wd 2048 inb_S2816x1024_S256x1024_2048_0)
    (rows wg 2304 inb_S2816x1024_S256x1024_2304_0) (rows wu 2304 inb_S2816x1024_S256x1024_2304_0) (rows wd 2304 inb_S2816x1024_S256x1024_2304_0)

/-- The last step of the product, or whatever else is computed from its operands. -/
def atEnd {α : Type} (f : FVec Ideal S512x1024 .bf16 → FVec Ideal S512x1024 .f32 → FVec Ideal S512x256 .f32 → Vec Ideal S256x1024 .bf16 →
      Vec Ideal S256x1024 .bf16 → α) : α :=
  f (k0_pay5 n) (acc2560 n wg wu wd) (k0_pay55 (k0_pay5 n) (rows wg 2560 inb_S2816x1024_S256x1024_2560_0))
    (rows wu 2560 inb_S2816x1024_S256x1024_2560_0) (rows wd 2560 inb_S2816x1024_S256x1024_2560_0)

/-- The gated activation of row `r`, column `k`. -/
def actOf (r : Fin 512) (k : Fin 2816) : EReal :=
  (∑ i, n (ix2 r i) * wg (ix2 k i)) * Ideal.logistic (∑ i, n (ix2 r i) * wg (ix2 k i)) * ∑ i, n (ix2 r i) * wu (ix2 k i)

/-- What tile `o` of the hidden columns adds. -/
def tile (o : ℕ) (h : o + 256 ≤ 2816) (r : Fin 512) (j : Fin 1024) : EReal :=
  ∑ k : Fin 256, actOf n wg wu r ⟨o + k.val, by omega⟩ * wd (ix2 ⟨o + k.val, by omega⟩ j)

variable (r : Fin 512) (j : Fin 1024)

theorem acc256_at : acc256 n wg wu wd (ix2 r j)
    = tile n wg wu wd 0 (by omega) r j := by
  unfold acc256 tile actOf
  pointwise [k0_pay5, k0_pay6, k0_pay7, k0_pay10, rows]

theorem acc768_at : acc768 n wg wu wd (ix2 r j)
    = acc256 n wg wu wd (ix2 r j) + tile n wg wu wd 256 (by omega) r j + tile n wg wu wd 512 (by omega) r j := by
  unfold acc768 tile actOf
  pointwise [k0_pay5, k0_pay11, k0_pay12, k0_pay16, k0_pay17, k0_pay20, rows]

theorem acc1024_at : acc1024 n wg wu wd (ix2 r j)
    = acc768 n wg wu wd (ix2 r j) + tile n wg wu wd 768 (by omega) r j := by
  unfold acc1024 tile actOf
  pointwise [k0_pay5, k0_pay21, k0_pay22, k0_pay25, rows]

theorem acc1536_at : acc1536 n wg wu wd (ix2 r j)
    = acc1024 n wg wu wd (ix2 r j) + tile n wg wu wd 1024 (by omega) r j + tile n wg wu wd 1280 (by omega) r j := by
  unfold acc1536 tile actOf
  pointwise [k0_pay5, k0_pay26, k0_pay27, k0_pay30, k0_pay31, k0_pay32, k0_pay35, rows]

theorem acc2048_at : acc2048 n wg wu wd (ix2 r j)
    = acc1536 n wg wu wd (ix2 r j) + tile n wg wu wd 1536 (by omega) r j + tile n wg wu wd 1792 (by omega) r j := by
  unfold acc2048 tile actOf
  pointwise [k0_pay5, k0_pay36, k0_pay37, k0_pay40, k0_pay41, k0_pay44, rows]

theorem acc2560_at : acc2560 n wg wu wd (ix2 r j)
    = acc2048 n wg wu wd (ix2 r j) + tile n wg wu wd 2048 (by omega) r j + tile n wg wu wd 2304 (by omega) r j := by
  unfold acc2560 tile actOf
  pointwise [k0_pay5, k0_pay45, k0_pay46, k0_pay50, k0_pay51, k0_pay54, rows]

theorem sum_eleven (f : Fin 11 → EReal) : ∑ t, f t = f 0 + f 1 + f 2 + f 3 + f 4 + f 5 + f 6 + f 7 + f 8 + f 9 + f 10 := by
  simp only [Fin.sum_univ_castSucc, Fin.sum_univ_zero, zero_add]
  rfl

/-- The whole product, over all hidden columns. -/
theorem sum_at : atEnd n wg wu wd k0_pay59 (ix2 r j) = ∑ k : Fin 2816, actOf n wg wu r k * wd (ix2 k j) := by
  have h : atEnd n wg wu wd k0_pay59 (ix2 r j) = acc2560 n wg wu wd (ix2 r j) + tile n wg wu wd 2560 (by omega) r j := by
    unfold atEnd tile actOf
    pointwise [k0_pay5, k0_pay55, k0_pay56, k0_pay59, rows]
  have e := sum_blocks (N := 11) (n := 256) (T := 2816) rfl (fun k : Fin 2816 => actOf n wg wu r k * wd (ix2 k j)) fun t k => by omega
  rw [h, acc2560_at, acc2048_at, acc1536_at, acc1024_at, acc768_at, acc256_at, ← e, sum_eleven]
  rfl

end

end Cert.FfnFwdIdeal.Value

end
-- ==== Proof.FfnStep.lean ====
module

public import proofs.«01_k».proof.Proof.FfnSum

/-! What a grid point of the feed-forward kernel computes after the block: the loss and its gradient, over two halves of its rows. -/

@[expose] public section

set_option maxRecDepth 16384

noncomputable section

open Idealize.ShloMosaic Idealize.ShloMosaic.TcCoe Idealize.SL.Sem
open Idealize.ShloMosaic.Pipeline (Dat)

namespace Cert.FfnFwdIdeal.Value

open Cert.FfnFwdIdeal Cert.FfnFwdIdeal.Gen Cert.Layer Cert.Layer.Ffn

variable (m : (ℓ : Loc nD τ sig) → Buf (Elt Ideal) ℓ) (c : Dev nD) (t : Fin cfg0.N)

/-- The residual stream after the block. -/
abbrev X : Rows := hid (argH m c) (argN m c) (argG m c) (argU m c) (argD m c)

/-- The tokens of the two halves of a point's rows. -/
def low (r : Fin 256) : Fin 4096 := tok t ⟨r.val, by omega⟩
def high (r : Fin 256) : Fin 4096 := tok t ⟨256 + r.val, by omega⟩

def lowRows (b : Vec Ideal S512x1024 .f32) : Vec Ideal S256x1024 .f32 := View.ld b (Rect.unit ![0, 0] ![256, 1024] inb_S512x1024_S256x1024_0_0)
def highRows (b : Vec Ideal S512x1024 .f32) : Vec Ideal S256x1024 .f32 := View.ld b (Rect.unit ![256, 0] ![256, 1024] inb_S512x1024_S256x1024_256_0)

/-- Whatever the point computes from the operands of the product's last step. -/
def fromEnd {α : Type} (f : FVec Ideal S512x1024 .bf16 → FVec Ideal S512x1024 .f32 → FVec Ideal S512x256 .f32 → Vec Ideal S256x1024 .bf16 →
      Vec Ideal S256x1024 .bf16 → α) : α :=
  atEnd (iblk m c 1 t) (gateW m c) (upW m c) (downW m c) f

theorem product_at (r : Fin 512) (j : Fin 1024) : fromEnd m c t k0_pay59 (ix2 r j)
    = ∑ k, act (argN m c) (argG m c) (argU m c) (tok t r) k * argD m c (ix3 0 k j) := by
  refine (sum_at _ _ _ _ r j).trans ?_
  unfold actOf
  simp only [entry_n, entry_gate, entry_up, entry_down]
  rfl

/-! ### The first half of the rows -/

def hidLow : FVec Ideal S256x1024 .f32 := fromEnd m c t k0_pay61 (lowRows (iblk m c 0 t))
def rstdLow : FVec Ideal S256x1 .f32 := fromEnd m c t k0_pay62 (lowRows (iblk m c 0 t))
def normLow : FVec Ideal S256x1024 .f32 := fromEnd m c t k0_pay63 (lowRows (iblk m c 0 t))
def errLow : FVec Ideal S256x1024 .f32 := fromEnd m c t k0_pay64 (iblk m c 3 t) (lowRows (iblk m c 0 t)) (lowRows (iblk m c 2 t))
def dhLow : FVec Ideal S256x1024 .f32 := k0_pay67 (k0_pay60 (iblk m c 3 t)) (rstdLow m c t) (normLow m c t) (errLow m c t)

variable (r : Fin 256) (j : Fin 1024)

theorem hidLow_at : hidLow m c t (ix2 r j) = X m c (low t r) j := by
  have h : hidLow m c t (ix2 r j) = fromEnd m c t k0_pay59 (ix2 ⟨r.val, by omega⟩ j) + iblk m c 0 t (ix2 ⟨r.val, by omega⟩ j) := by
    unfold hidLow fromEnd atEnd lowRows
    pointwise [k0_pay61]
    exact add_comm _ _
  rw [h, product_at, entry_h, add_comm]
  rfl

theorem rstdLow_at : rstdLow m c t (ix2 r 0) = Ideal.rsqrt (ms (X m c (low t r))) := by
  have h : rstdLow m c t (ix2 r 0) = Ideal.rsqrt (ms fun k => hidLow m c t (ix2 r k)) := by
    unfold rstdLow hidLow fromEnd atEnd ms
    pointwise [k0_pay62]
  rw [h]
  simp only [hidLow_at]

theorem normLow_at : normLow m c t (ix2 r j) = normed (X m c) (low t r) j := by
  have h : normLow m c t (ix2 r j) = hidLow m c t (ix2 r j) * rstdLow m c t (ix2 r 0) := by
    unfold normLow hidLow rstdLow fromEnd atEnd
    pointwise [k0_pay63]
  rw [h, hidLow_at, rstdLow_at]
  rfl

theorem errLow_at : errLow m c t (ix2 r j) = err (X m c) (argL m c) (argT m c) (low t r) j := by
  have h : errLow m c t (ix2 r j) = normLow m c t (ix2 r j) * iblk m c 3 t (ix2 0 j) - iblk m c 2 t (ix2 ⟨r.val, by omega⟩ j) := by
    unfold errLow normLow fromEnd atEnd lowRows
    pointwise [k0_pay64, k0_pay60]
  rw [h, normLow_at, entry_gain, entry_t]
  rfl

theorem dhLow_at : dhLow m c t (ix2 r j)
    = rmsGrad (X m c (low t r)) (du (X m c) (argL m c) (argT m c) (low t r)) j := by
  unfold dhLow rmsGrad du dl
  have h1 := rstdLow_at m c t r
  have h2 := fun k => normLow_at m c t r k
  have h3 := fun k => errLow_at m c t r k
  have h4 := fun k => entry_gain m c t k
  unfold normed at h2
  pointwise [k0_pay67, k0_pay66, k0_pay60, h1, h2, h3, h4]

/-! ### The second half -/

def hidHigh : FVec Ideal S256x1024 .f32 := k0_pay71 (fromEnd m c t k0_pay59) (highRows (iblk m c 0 t))
def sqHigh : FVec Ideal S256x1024 .f32 := k0_pay72 (fromEnd m c t k0_pay59) (highRows (iblk m c 0 t))
def errHigh : FVec Ideal S256x1024 .f32 := k0_pay75 (k0_pay60 (iblk m c 3 t)) (hidHigh m c t) (sqHigh m c t) (highRows (iblk m c 2 t))
def dhHigh : FVec Ideal S256x1024 .f32 := k0_pay78 (k0_pay60 (iblk m c 3 t)) (hidHigh m c t) (sqHigh m c t) (highRows (iblk m c 2 t))

theorem hidHigh_at : hidHigh m c t (ix2 r j) = X m c (high t r) j := by
  have h : hidHigh m c t (ix2 r j) = fromEnd m c t k0_pay59 (ix2 ⟨256 + r.val, by omega⟩ j) + iblk m c 0 t (ix2 ⟨256 + r.val, by omega⟩ j) := by
    unfold hidHigh highRows
    pointwise [k0_pay71]
    exact add_comm _ _
  rw [h, product_at, entry_h, add_comm]
  rfl

theorem sqHigh_at : sqHigh m c t (ix2 r j) = X m c (high t r) j * X m c (high t r) j := by
  rw [← hidHigh_at]
  rfl

theorem rstdHigh_at : k0_pay73 (sqHigh m c t) (ix2 r 0) = Ideal.rsqrt (ms (X m c (high t r))) := by
  unfold ms
  have h := fun k => sqHigh_at m c t r k
  pointwise [k0_pay73, h]

theorem normHigh_at : k0_pay74 (hidHigh m c t) (sqHigh m c t) (ix2 r j) = normed (X m c) (high t r) j := by
  unfold normed
  rw [← rstdHigh_at, ← hidHigh_at]
  pointwise [k0_pay74]

theorem errHigh_at : errHigh m c t (ix2 r j) = err (X m c) (argL m c) (argT m c) (high t r) j := by
  have h : errHigh m c t (ix2 r j) = k0_pay74 (hidHigh m c t) (sqHigh m c t) (ix2 r j) * iblk m c 3 t (ix2 0 j)
      - iblk m c 2 t (ix2 ⟨256 + r.val, by omega⟩ j) := by
    unfold errHigh highRows
    pointwise [k0_pay75, k0_pay60]
  rw [h, normHigh_at, entry_gain, entry_t]
  rfl

theorem dlHigh_at : k0_pay77 (k0_pay60 (iblk m c 3 t)) (hidHigh m c t) (sqHigh m c t) (highRows (iblk m c 2 t)) (ix2 r j)
    = dl (X m c) (argL m c) (argT m c) (high t r) j := by
  unfold dl
  rw [← errHigh_at]
  unfold errHigh
  pointwise [k0_pay77]

theorem dhHigh_at : dhHigh m c t (ix2 r j)
    = rmsGrad (X m c (high t r)) (du (X m c) (argL m c) (argT m c) (high t r)) j := by
  unfold dhHigh rmsGrad du
  have h1 := rstdHigh_at m c t r
  have h2 := fun k => normHigh_at m c t r k
  have h3 := fun k => dlHigh_at m c t r k
  have h4 : ∀ k, k0_pay60 (iblk m c 3 t) (ix2 0 k) = argL m c (ix1 k) := fun k => by
    rw [← entry_gain m c t]
    pointwise [k0_pay60]
  unfold normed at h2
  pointwise [k0_pay78, h1, h2, h3, h4]

/-! ### The two sums over tokens -/

/-- What a point adds to the sum of squared errors. -/
def sqStep (acc : Vec Ideal S1x1024 .f32) : FVec Ideal S1x1024 .f32 :=
  k0_pay76 (k0_pay60 (iblk m c 3 t)) (hidHigh m c t) (sqHigh m c t) (highRows (iblk m c 2 t)) (k0_pay65 (errLow m c t) acc)

/-- What a point adds to the gain's gradient. -/
def gainStep (acc : Vec Ideal S1x1024 .f32) : FVec Ideal S1x1024 .f32 :=
  k0_pay79 (k0_pay60 (iblk m c 3 t)) (hidHigh m c t) (sqHigh m c t) (highRows (iblk m c 2 t)) (k0_pay68 (normLow m c t) (errLow m c t) acc)

theorem two_halves (f : Fin 4096 → EReal) (a : EReal) : a + ∑ r, f (low t r) + ∑ r, f (high t r) = a + ∑ r : Fin 512, f (tok t r) := by
  have e := sum_blocks (N := 2) (n := 256) (T := 512) rfl (fun r : Fin 512 => f (tok t r)) fun h k => by omega
  rw [← e, add_assoc]
  refine congrArg (a + ·) ((Fin.sum_univ_two _).trans ?_).symm
  refine congrArg₂ _ (Finset.sum_congr rfl fun r _ => ?_) rfl
  exact congrArg f (congrArg (tok t) (Fin.ext (Nat.zero_add _)))

theorem sqStep_at (acc : Vec Ideal S1x1024 .f32) : sqStep m c t acc (ix2 0 j) = acc (ix2 0 j)
    + ∑ r : Fin 512, err (X m c) (argL m c) (argT m c) (tok t r) j * err (X m c) (argL m c) (argT m c) (tok t r) j := by
  rw [← two_halves t (fun q => err (X m c) (argL m c) (argT m c) q j * err (X m c) (argL m c) (argT m c) q j)]
  simp only [← errLow_at, ← errHigh_at]
  unfold sqStep errHigh
  pointwise [k0_pay76, k0_pay65]

theorem gainStep_at (acc : Vec Ideal S1x1024 .f32) : gainStep m c t acc (ix2 0 j) = acc (ix2 0 j)
    + ∑ r : Fin 512, dl (X m c) (argL m c) (argT m c) (tok t r) j * normed (X m c) (tok t r) j := by
  rw [← two_halves t (fun q => dl (X m c) (argL m c) (argT m c) q j * normed (X m c) q j)]
  simp only [← dlHigh_at, ← normHigh_at, ← normLow_at]
  unfold gainStep dl
  simp only [← errLow_at]
  pointwise [k0_pay79, k0_pay68, k0_pay66]

end Cert.FfnFwdIdeal.Value

end
-- ==== Proof.FfnFinal.lean ====
module

public import proofs.«01_k».proof.Proof.FfnPoint
public import proofs.«01_k».proof.Proof.FfnStep

/-! The six arrays that the feed-forward kernel leaves. -/

@[expose] public section

set_option maxRecDepth 16384

noncomputable section

open Idealize.ShloMosaic Idealize.ShloMosaic.TcCoe Idealize.SL.Sem
open Idealize.ShloMosaic.Pipeline (Dat)

namespace Cert.FfnFwdIdeal.Value

open Cert.FfnFwdIdeal Cert.FfnFwdIdeal.Gen Cert.Layer Cert.Layer.Ffn

variable (m : (ℓ : Loc nD τ sig) → Buf (Elt Ideal) ℓ) (c : Dev nD) (t : Fin cfg0.N)

theorem emb_rows {o : ℕ} (h : ∀ a, (![o, 0] : Fin 2 → ℕ) a + (![256, 1024] : Fin 2 → ℕ) a ≤ S512x1024.size a) (r : Fin 256) (j : Fin 1024)
    (hr : o + r.val < 512) : (Rect.unit (s := S512x1024) ![o, 0] ![256, 1024] h).emb (ix2 r j) = ix2 ⟨o + r.val, hr⟩ j := by
  funext a
  refine Fin.ext ?_
  rw [Rect.emb_apply]
  match a with
  | ⟨0, _⟩ => exact congrArg (o + ·) (Nat.one_mul _)
  | ⟨1, _⟩ => exact (Nat.zero_add _).trans (Nat.one_mul _)

/-- The gradient with respect to the residual stream, at a point's rows. -/
def gradBlock : Vec Ideal S512x1024 .f32 := fun y =>
  rmsGrad (X m c (tok t (y 0))) (du (X m c) (argL m c) (argT m c) (tok t (y 0))) (y 1)

/-- The same as the narrower format's values. -/
def gradNarrow : Vec Ideal S512x1024 .bf16 := gradBlock m c t

theorem low_eq (r : Fin 256) : tok t ⟨0 + r.val, by omega⟩ = low t r := congrArg (tok t) (Fin.ext (Nat.zero_add _))

set_option maxHeartbeats 4000000 in
theorem point_dh (r : Fin 512) (j : Fin 1024) : (outsAt0 m c t.val t.isLt).2.2.1 (ix2 r j) = gradBlock m c t (ix2 r j) := by
  by_cases h0 : t.val % 8 = 0
  rw [outsAt0_A m c t h0]
  rotate_left
  rw [outsAt0_B m c t h0]
  all_goals
    frame_out
    simp only [readCov_whole, (Memref.isWhole_whole _).read_unread, (scratch m c _ _).1, (scratch m c _ _).2.1, (scratch m c _ _).2.2]
    refine View.canon_apply_of_pieces (gradBlock m c t) _ (View.PiecesOf.mem ?_) _ ?_
    rotate_left
    · exact View.cover_of_tiled_head _ _ _ rfl _
    refine ⟨fun x => ?_, fun x => ?_, trivial⟩
    all_goals
      obtain ⟨i, k, rfl⟩ : ∃ (i : Fin 256) (k : Fin 1024), x = ix2 i k := ⟨x 0, x 1, eq_ix2 x⟩
      rw [emb_rows _ i k (by omega)]
      unfold gradBlock
    · refine Eq.trans ?_ (dhHigh_at m c t i k)
      pointwise [k0_pay1]
      rfl
    · refine Eq.trans ?_ ((dhLow_at m c t i k).trans ?_)
      · pointwise [k0_pay69]
        rfl
      · rw [← low_eq]
        rfl

set_option maxHeartbeats 4000000 in
theorem point_dhb (r : Fin 512) (j : Fin 1024) : (outsAt0 m c t.val t.isLt).2.2.2.1 (ix2 r j) = gradNarrow m c t (ix2 r j) := by
  by_cases h0 : t.val % 8 = 0
  rw [outsAt0_A m c t h0]
  rotate_left
  rw [outsAt0_B m c t h0]
  all_goals
    frame_out
    simp only [readCov_whole, (Memref.isWhole_whole _).read_unread, (scratch m c _ _).1, (scratch m c _ _).2.1, (scratch m c _ _).2.2]
    refine View.canon_apply_of_pieces (gradNarrow m c t) _ (View.PiecesOf.mem ?_) _ ?_
    rotate_left
    · exact View.cover_of_tiled_head _ _ _ rfl _
    refine ⟨fun x => ?_, fun x => ?_, trivial⟩
    all_goals
      obtain ⟨i, k, rfl⟩ : ∃ (i : Fin 256) (k : Fin 1024), x = ix2 i k := ⟨x 0, x 1, eq_ix2 x⟩
      rw [emb_rows _ i k (by omega)]
      unfold gradNarrow gradBlock
    · refine Eq.trans ?_ (dhHigh_at m c t i k)
      pointwise [k0_pay2]
      rfl
    · refine Eq.trans ?_ ((dhLow_at m c t i k).trans ?_)
      · pointwise [k0_pay70]
        rfl
      · rw [← low_eq]
        rfl

set_option maxHeartbeats 4000000 in
theorem point_sq_first (h0 : t.val % 8 = 0) : (outsAt0 m c t.val t.isLt).2.2.2.2.2.1 = sqStep m c t (k0_pay4 (F := Ideal)) := by
  rw [outsAt0_A m c t h0]
  frame_out
  simp only [readCov_whole]
  rfl

set_option maxHeartbeats 4000000 in
theorem point_sq_next (h0 : ¬t.val % 8 = 0) : (outsAt0 m c t.val t.isLt).2.2.2.2.2.1
    = sqStep m c t (outsAt0 m c (t.val - 1) (Nat.lt_of_le_of_lt (Nat.sub_le _ _) t.isLt)).2.2.2.2.2.1 := by
  rw [outsAt0_B m c t h0]
  frame_out
  simp only [(Memref.isWhole_whole _).read_unread, (scratch m c _ _).1, (scratch m c _ _).2.1, (scratch m c _ _).2.2]
  rfl

set_option maxHeartbeats 4000000 in
theorem point_gain_first (h0 : t.val % 8 = 0) : (outsAt0 m c t.val t.isLt).2.2.2.2.1 = gainStep m c t (k0_pay3 (F := Ideal)) := by
  rw [outsAt0_A m c t h0]
  frame_out
  simp only [readCov_whole]
  rfl

set_option maxHeartbeats 4000000 in
theorem point_gain_next (h0 : ¬t.val % 8 = 0) : (outsAt0 m c t.val t.isLt).2.2.2.2.1
    = gainStep m c t (outsAt0 m c (t.val - 1) (Nat.lt_of_le_of_lt (Nat.sub_le _ _) t.isLt)).2.2.2.2.1 := by
  rw [outsAt0_B m c t h0]
  frame_out
  simp only [(Memref.isWhole_whole _).read_unread, (scratch m c _ _).1, (scratch m c _ _).2.1, (scratch m c _ _).2.2]
  rfl

/-! ### The final arrays -/

/-- The last grid point. -/
def last : Fin cfg0.N := ⟨7, by decide⟩

theorem final_gate : (dats m 0 c).arrAt 4 cfg0.N = fun i : S4096x2816.Idx => proj (argN m c) (argG m c) (i 0) (i 1) := by
  refine (dats m 0 c).arrAt_eq_of_covers 4 _ (by decide +kernel) fun t hf y => ?_
  blk_simp
  rw [after0_4]
  obtain ⟨r, k, rfl⟩ : ∃ (r : Fin 512) (k : Fin 2816), y = ix2 r k := ⟨y 0, y 1, eq_ix2 y⟩
  have e : (win0_4.blk t).view.emb (ix2 r k) = ix2 (tok t r) k := by
    blk_ext [index t, tok]
  rw [e]
  exact point_gate m c t r k

theorem final_up : (dats m 0 c).arrAt 5 cfg0.N = fun i : S4096x2816.Idx => proj (argN m c) (argU m c) (i 0) (i 1) := by
  refine (dats m 0 c).arrAt_eq_of_covers 5 _ (by decide +kernel) fun t hf y => ?_
  blk_simp
  rw [after0_5]
  obtain ⟨r, k, rfl⟩ : ∃ (r : Fin 512) (k : Fin 2816), y = ix2 r k := ⟨y 0, y 1, eq_ix2 y⟩
  have e : (win0_5.blk t).view.emb (ix2 r k) = ix2 (tok t r) k := by
    blk_ext [index t, tok]
  rw [e]
  exact point_up m c t r k

/-- The gradient with respect to the residual stream, at all tokens. -/
def grad : S4096x1024.Idx → EReal := fun i => rmsGrad (X m c (i 0)) (du (X m c) (argL m c) (argT m c) (i 0)) (i 1)

theorem final_dh : (dats m 0 c).arrAt 6 cfg0.N = grad m c := by
  refine (dats m 0 c).arrAt_eq_of_covers 6 _ (by decide +kernel) fun t hf y => ?_
  blk_simp
  rw [after0_6]
  obtain ⟨r, j, rfl⟩ : ∃ (r : Fin 512) (j : Fin 1024), y = ix2 r j := ⟨y 0, y 1, eq_ix2 y⟩
  have e : (win0_6.blk t).view.emb (ix2 r j) = ix2 (tok t r) j := by
    blk_ext [index t, tok]
  rw [e]
  exact point_dh m c t r j

theorem final_dhb : (dats m 0 c).arrAt 7 cfg0.N = grad m c := by
  refine (dats m 0 c).arrAt_eq_of_covers 7 _ (by decide +kernel) fun t hf y => ?_
  blk_simp
  rw [after0_7]
  obtain ⟨r, j, rfl⟩ : ∃ (r : Fin 512) (j : Fin 1024), y = ix2 r j := ⟨y 0, y 1, eq_ix2 y⟩
  have e : (win0_7.blk t).view.emb (ix2 r j) = ix2 (tok t r) j := by
    blk_ext [index t, tok]
  rw [e]
  exact point_dhb m c t r j

theorem sum_gain (j : Fin 1024) (t : Fin cfg0.N) (ht : t.val + 1 = cfg0.N) :
    (outsAt0 m c t.val t.isLt).2.2.2.2.1 (ix2 0 j) = dgain (X m c) (argL m c) (argT m c) j := by
  refine (Pipeline.eq_sum_fin_of_reset_step_apply_last (fun n h (j : Fin 1024) => (outsAt0 m c n h).2.2.2.2.1 (ix2 0 j)) 8
    (fun _ => 0) (fun t j => ∑ r : Fin 512, dl (X m c) (argL m c) (argT m c) (tok t r) j * normed (X m c) (tok t r) j)
    (fun t h0 p => ?_) (fun t h0 p => ?_) (le_refl 8) t ht j).trans ?_
  · rw [point_gain_first m c t h0, gainStep_at]
    pointwise [k0_pay3]
  · show (outsAt0 m c t.val t.isLt).2.2.2.2.1 (ix2 0 p) = _
    rw [point_gain_next m c t h0, gainStep_at]
  · rw [zero_add]
    have h := sum_blocks (N := 8) (n := 512) (T := 4096) rfl
      (fun r : Fin 4096 => dl (X m c) (argL m c) (argT m c) r j * normed (X m c) r j) in_range
    unfold dgain
    exact h

theorem sum_sq (j : Fin 1024) (t : Fin cfg0.N) (ht : t.val + 1 = cfg0.N) :
    (outsAt0 m c t.val t.isLt).2.2.2.2.2.1 (ix2 0 j) = sqErr (X m c) (argL m c) (argT m c) j := by
  refine (Pipeline.eq_sum_fin_of_reset_step_apply_last (fun n h (j : Fin 1024) => (outsAt0 m c n h).2.2.2.2.2.1 (ix2 0 j)) 8
    (fun _ => 0)
    (fun t j => ∑ r : Fin 512, err (X m c) (argL m c) (argT m c) (tok t r) j * err (X m c) (argL m c) (argT m c) (tok t r) j)
    (fun t h0 p => ?_) (fun t h0 p => ?_) (le_refl 8) t ht j).trans ?_
  · rw [point_sq_first m c t h0, sqStep_at]
    pointwise [k0_pay4]
  · show (outsAt0 m c t.val t.isLt).2.2.2.2.2.1 (ix2 0 p) = _
    rw [point_sq_next m c t h0, sqStep_at]
  · rw [zero_add]
    have h := sum_blocks (N := 8) (n := 512) (T := 4096) rfl
      (fun r : Fin 4096 => err (X m c) (argL m c) (argT m c) r j * err (X m c) (argL m c) (argT m c) r j) in_range
    unfold sqErr
    exact h

theorem final_gain : (dats m 0 c).arrAt 8 cfg0.N = fun i : S1x1024.Idx => dgain (X m c) (argL m c) (argT m c) (i 1) := by
  refine (dats m 0 c).arrAt_eq_of_after_last 8 last (by decide +kernel) _ fun y => ?_
  blk_simp
  rw [after0_8]
  obtain ⟨i, j, rfl⟩ : ∃ (i : Fin 1) (j : Fin 1024), y = ix2 i j := ⟨y 0, y 1, eq_ix2 y⟩
  obtain rfl : i = 0 := Subsingleton.elim _ _
  exact sum_gain m c j last rfl

theorem final_sq : (dats m 0 c).arrAt 9 cfg0.N = fun i : S1x1024.Idx => sqErr (X m c) (argL m c) (argT m c) (i 1) := by
  refine (dats m 0 c).arrAt_eq_of_after_last 9 last (by decide +kernel) _ fun y => ?_
  blk_simp
  rw [after0_9]
  obtain ⟨i, j, rfl⟩ : ∃ (i : Fin 1) (j : Fin 1024), y = ix2 i j := ⟨y 0, y 1, eq_ix2 y⟩
  obtain rfl : i = 0 := Subsingleton.elim _ _
  exact sum_sq m c j last rfl

end Cert.FfnFwdIdeal.Value

end
-- ==== Proof.FfnReference.lean ====
module

public import proofs.«01_k».proof.Proof.Gen.FfnFwdRefIdeal.Run
public import proofs.«01_k».proof.Proof.Gen.FfnFwdRefIdeal.Read
public import proofs.«01_k».proof.Proof.FfnSpec
public import proofs.«01_k».proof.Proof.TrivialSums
public import Idealize.ShloMosaic.Lib.Pipeline.ValueKit
public import Idealize.ShloMosaic.Lib.Pointwise

/-! The reference of the feed-forward block taken through the loss, read entry by entry. -/

@[expose] public section

set_option maxRecDepth 16384

noncomputable section

open Idealize.ShloMosaic Idealize.ShloMosaic.TcCoe Idealize.SL.Sem
open Idealize.ShloMosaic.Pipeline (Dat)

namespace Cert.FfnFwdRefIdeal.Read

open Cert.FfnFwdRefIdeal Cert.FfnFwdRefIdeal.Gen

open Cert.Layer Cert.Layer.Ffn

theorem v1_at (x1 : Tokens) (x4 : Up) (r : Fin 4096) (k : Fin 2816) : val_main_v1 (F := Ideal) x1 x4 (ix3 0 r k) = proj x1 x4 r k := by
  unfold proj
  pointwise [val_main_v1, val_main_v0]

theorem v3_at (x1 : Tokens) (x5 : Up) (r : Fin 4096) (k : Fin 2816) : val_main_v3 (F := Ideal) x1 x5 (ix3 0 r k) = proj x1 x5 r k := by
  unfold proj
  pointwise [val_main_v3, val_main_v2]

theorem v5_at (x1 : Tokens) (x4 x5 : Up) (r : Fin 4096) (k : Fin 2816) :
    val_main_v5 (F := Ideal) x1 x4 x5 (ix3 0 r k) = act x1 x4 x5 r k := by
  unfold act Ideal.logistic
  rw [← v1_at, ← v3_at, ← bits_one]
  pointwise [val_main_v5, val_main_v4, val_main_call0_v5, val_main_call0_v4, val_main_call0_v3, val_main_call0_v2, val_main_call0_v1,
    val_main_call0_v0, val_main_call0_cst, val_main_call0_cst_0]

theorem v8_at (x0 x1 : Tokens) (x4 x5 : Up) (x6 : Down) (r : Fin 4096) (j : Fin 1024) :
    val_main_v8 (F := Ideal) x0 x1 x4 x5 x6 (ix3 0 r j) = hid x0 x1 x4 x5 x6 r j := by
  unfold hid
  simp only [← v5_at]
  pointwise [val_main_v8, val_main_v7, val_main_v6]

theorem v15_at (x0 x1 : Tokens) (x4 x5 : Up) (x6 : Down) (r : Fin 4096) :
    val_main_v15 (F := Ideal) x0 x1 x4 x5 x6 (ix3 0 r 0) = ms (hid x0 x1 x4 x5 x6 r) := by
  unfold ms
  simp only [← v8_at]
  pointwise [val_main_v15, val_main_v14, val_main_v13, val_main_v12, val_main_v11, val_main_v10, val_main_v9, val_main_cst,
    val_main_cst_0, val_main_cst_1]

theorem v16_at (x0 x1 : Tokens) (x4 x5 : Up) (x6 : Down) (r : Fin 4096) :
    val_main_v16 (F := Ideal) x0 x1 x4 x5 x6 (ix3 0 r 0) = Ideal.rsqrt (ms (hid x0 x1 x4 x5 x6 r)) := by
  rw [← v15_at]
  pointwise [val_main_v16]

theorem v21_at (x0 x1 : Tokens) (x4 x5 : Up) (x6 : Down) (r : Fin 4096) (j : Fin 1024) :
    val_main_v21 (F := Ideal) x0 x1 x4 x5 x6 (ix3 0 r j) = normed (hid x0 x1 x4 x5 x6) r j := by
  unfold normed
  rw [← v16_at, ← v8_at]
  pointwise [val_main_v21, val_main_v20]

theorem v25_at (x0 x1 x2 : Tokens) (x3 : Gain) (x4 x5 : Up) (x6 : Down) (r : Fin 4096) (j : Fin 1024) :
    val_main_v25 (F := Ideal) x0 x1 x2 x3 x4 x5 x6 (ix3 0 r j) = err (hid x0 x1 x4 x5 x6) x3 x2 r j := by
  unfold err
  rw [← v21_at]
  pointwise [val_main_v25, val_main_v24, val_main_v23, val_main_v22]

theorem v39_at (x0 x1 x2 : Tokens) (x3 : Gain) (x4 x5 : Up) (x6 : Down) (r : Fin 4096) (j : Fin 1024) :
    val_main_v39 (F := Ideal) x0 x1 x2 x3 x4 x5 x6 (ix3 0 r j) = dl (hid x0 x1 x4 x5 x6) x3 x2 r j := by
  unfold dl
  rw [← scale_eq, ← v25_at]
  pointwise [val_main_v39, val_main_v38, val_main_v37, val_main_v36, val_main_v35, val_main_v34, val_main_v28, val_main_v27, val_main_cst_3,
    val_main_cst_8, val_main_cst_9, val_main_cst_10]

theorem v44_at (x0 x1 x2 : Tokens) (x3 : Gain) (x4 x5 : Up) (x6 : Down) (r : Fin 4096) (j : Fin 1024) :
    val_main_v44 (F := Ideal) x0 x1 x2 x3 x4 x5 x6 (ix3 0 r j) = du (hid x0 x1 x4 x5 x6) x3 x2 r j := by
  unfold du
  rw [← v39_at]
  pointwise [val_main_v44, val_main_v43, val_main_v22]

theorem v47_at (x0 x1 x2 : Tokens) (x3 : Gain) (x4 x5 : Up) (x6 : Down) (r : Fin 4096) :
    val_main_v47 (F := Ideal) x0 x1 x2 x3 x4 x5 x6 (ix2 0 r)
      = ∑ k, hid x0 x1 x4 x5 x6 r k * du (hid x0 x1 x4 x5 x6) x3 x2 r k := by
  simp only [← v44_at, ← v8_at]
  pointwise [val_main_v47, val_main_v46, val_main_cst_13]

theorem v54_at (x0 x1 x2 : Tokens) (x3 : Gain) (x4 x5 : Up) (x6 : Down) (r : Fin 4096) :
    val_main_v54 (F := Ideal) x0 x1 x2 x3 x4 x5 x6 (ix1 r) = rmsVia (hid x0 x1 x4 x5 x6 r) (du (hid x0 x1 x4 x5 x6) x3 x2 r) := by
  refine (reduceAdd_first_last reducesTo_S1x4096x1_S4096_d0_2 (val_main_v53 (F := Ideal) x0 x1 x2 x3 x4 x5 x6)
    (val_main_cst_15 (F := Ideal) (Shape.Idx.first h_S_)) r).trans ?_
  unfold rmsVia
  rw [← v47_at, ← v16_at, ← v15_at]
  pointwise [val_main_v53, val_main_v52, val_main_v51, val_main_v48, val_main_v19, val_main_v18, val_main_v17, val_main_cst_15,
    val_main_cst_14, val_main_cst_2]

theorem v60_at (x0 x1 x2 : Tokens) (x3 : Gain) (x4 x5 : Up) (x6 : Down) (r : Fin 4096) (j : Fin 1024) :
    val_main_v60 (F := Ideal) x0 x1 x2 x3 x4 x5 x6 (ix3 0 r j)
      = du (hid x0 x1 x4 x5 x6) x3 x2 r j * Ideal.rsqrt (ms (hid x0 x1 x4 x5 x6 r))
        + hid x0 x1 x4 x5 x6 r j * rmsVia (hid x0 x1 x4 x5 x6 r) (du (hid x0 x1 x4 x5 x6) x3 x2 r)
        + rmsVia (hid x0 x1 x4 x5 x6 r) (du (hid x0 x1 x4 x5 x6) x3 x2 r) * hid x0 x1 x4 x5 x6 r j := by
  rw [← v54_at, ← v44_at, ← v16_at, ← v8_at]
  pointwise [val_main_v60, val_main_v59, val_main_v58, val_main_v57, val_main_v56, val_main_v55, val_main_v50, val_main_v49]

theorem v45_at (x0 x1 x2 : Tokens) (x3 : Gain) (x4 x5 : Up) (x6 : Down) (j : Fin 1024) :
    val_main_v45 (F := Ideal) x0 x1 x2 x3 x4 x5 x6 (ix1 j) = dgain (hid x0 x1 x4 x5 x6) x3 x2 j := by
  refine (reduceAdd_first_two reducesTo_S1x1x1024_S1024_d0_1 (val_main_v42 (F := Ideal) x0 x1 x2 x3 x4 x5 x6)
    (val_main_cst_12 (F := Ideal) (Shape.Idx.first h_S_)) j).trans ?_
  unfold dgain
  simp only [← v39_at, ← v21_at]
  pointwise [val_main_v42, val_main_v41, val_main_v40, val_main_cst_12, val_main_cst_11]
  exact Finset.sum_congr rfl fun _ _ => mul_comm _ _

theorem v76_at (x0 x1 x2 : Tokens) (x3 : Gain) (x4 x5 : Up) (x6 : Down) (r : Fin 4096) (j : Fin 1024) :
    val_main_v76 (F := Ideal) x0 x1 x2 x3 x4 x5 x6 (ix3 0 r j)
      = err (hid x0 x1 x4 x5 x6) x3 x2 r j * err (hid x0 x1 x4 x5 x6) x3 x2 r j := by
  rw [← v25_at]
  rfl

theorem v77_at (x0 x1 x2 : Tokens) (x3 : Gain) (x4 x5 : Up) (x6 : Down) (j : Fin 1024) :
    val_main_v77 (F := Ideal) x0 x1 x2 x3 x4 x5 x6 (ix1 j) = sqErr (hid x0 x1 x4 x5 x6) x3 x2 j := by
  refine (reduceAdd_rows reducesTo_S1x4096x1024_S1024_d0_1 (val_main_v76 (F := Ideal) x0 x1 x2 x3 x4 x5 x6)
    (val_main_cst_19 (F := Ideal) (Shape.Idx.first h_S_)) j).trans ?_
  unfold sqErr
  simp only [v76_at]
  pointwise [val_main_cst_19]

/-! ### The results -/

theorem v79_at (x1 : Tokens) (x4 : Up) (r : Fin 4096) (k : Fin 2816) : val_main_v79 (F := Ideal) x1 x4 (ix2 r k) = proj x1 x4 r k := by
  rw [← v1_at]
  pointwise [val_main_v79, val_main_v78]

theorem v81_at (x1 : Tokens) (x5 : Up) (r : Fin 4096) (k : Fin 2816) : val_main_v81 (F := Ideal) x1 x5 (ix2 r k) = proj x1 x5 r k := by
  rw [← v3_at]
  pointwise [val_main_v81, val_main_v80]

theorem v82_at (x0 x1 x2 : Tokens) (x3 : Gain) (x4 x5 : Up) (x6 : Down) (r : Fin 4096) (j : Fin 1024) :
    val_main_v82 (F := Ideal) x0 x1 x2 x3 x4 x5 x6 (ix2 r j) = val_main_v60 (F := Ideal) x0 x1 x2 x3 x4 x5 x6 (ix3 0 r j) := by
  pointwise [val_main_v82]

theorem v84_at (x0 x1 x2 : Tokens) (x3 : Gain) (x4 x5 : Up) (x6 : Down) (r : Fin 4096) (j : Fin 1024) :
    val_main_v84 (F := Ideal) x0 x1 x2 x3 x4 x5 x6 (ix2 r j) = val_main_v60 (F := Ideal) x0 x1 x2 x3 x4 x5 x6 (ix3 0 r j) := by
  pointwise [val_main_v84, val_main_v83]

theorem v85_at (x0 x1 x2 : Tokens) (x3 : Gain) (x4 x5 : Up) (x6 : Down) (j : Fin 1024) :
    val_main_v85 (F := Ideal) x0 x1 x2 x3 x4 x5 x6 (ix2 0 j) = dgain (hid x0 x1 x4 x5 x6) x3 x2 j := by
  rw [← v45_at]
  pointwise [val_main_v85]

theorem v86_at (x0 x1 x2 : Tokens) (x3 : Gain) (x4 x5 : Up) (x6 : Down) (j : Fin 1024) :
    val_main_v86 (F := Ideal) x0 x1 x2 x3 x4 x5 x6 (ix2 0 j) = sqErr (hid x0 x1 x4 x5 x6) x3 x2 j := by
  rw [← v77_at]
  pointwise [val_main_v86]

end Cert.FfnFwdRefIdeal.Read

end
-- ==== Proof.FfnClaim.lean ====
module

public import proofs.«01_k».proof.Defs
public import proofs.«01_k».proof.Proof.FfnFinal
public import proofs.«01_k».proof.Proof.FfnReference
public import proofs.«01_k».proof.Proof.InClaim
public import proofs.«01_k».proof.Proof.Gen.Pre_ffn_finite
public import Idealize.ShloMosaic.Lib.Claim

/-! The claims about the feed-forward call. -/

@[expose] public section

set_option maxRecDepth 16384

noncomputable section

open Idealize.ShloMosaic Idealize.ShloMosaic.TcCoe Idealize.SL.Sem

namespace Cert.Layer.Ffn

open Cert.Layer.In

/-- The precondition: the arrays hold real numbers. -/
theorem reals {h n t : Tokens} {g : Gain} {wg wu : Up} {wd : Down}
    (e : Cert.Pre_ffn_finite.fn (F := Ideal) h n t g wg wu wd = fun _ => 1#1) :
    (∀ i, IsReal (h i)) ∧ (∀ i, IsReal (n i)) ∧ (∀ i, IsReal (t i)) ∧ (∀ i, IsReal (g i)) ∧ (∀ i, IsReal (wg i)) ∧ (∀ i, IsReal (wu i))
      ∧ ∀ i, IsReal (wd i) := by
  have e0 := congrFun e ix0
  unfold Cert.Pre_ffn_finite.fn Cert.Pre_ffn_finite.fn_part1 at e0
  obtain ⟨e1, hd⟩ := andi_one e0
  obtain ⟨e2, hu⟩ := andi_one e1
  obtain ⟨e3, hwg⟩ := andi_one e2
  obtain ⟨e4, hg⟩ := andi_one e3
  obtain ⟨e5, ht⟩ := andi_one e4
  obtain ⟨hh, hn⟩ := andi_one e5
  exact ⟨real_of_all _ _ _ _ _ _ hh, real_of_all _ _ _ _ _ _ hn, real_of_all _ _ _ _ _ _ ht, real_of_all _ _ _ _ _ _ hg,
    real_of_all _ _ _ _ _ _ hwg, real_of_all _ _ _ _ _ _ hu, real_of_all _ _ _ _ _ _ hd⟩

end Cert.Layer.Ffn

namespace Cert.Proof.Ffn

open Cert.Layer Cert.Layer.Ffn Cert.FfnFwdRefIdeal.Read Cert.FfnFwdIdeal.Value

/-- The kernel's gradient of the residual stream is the chain rule's. -/
theorem dh_eq {h n t : Tokens} {g : Gain} {wg wu : Up} {wd : Down} (hx : ∀ r j, IsReal (hid h n wg wu wd r j))
    (hg : ∀ i, IsReal (g i)) (ht : ∀ i, IsReal (t i)) (r : Fin 4096) (j : Fin 1024) :
    Cert.FfnFwdRefIdeal.Read.val_main_v60 (F := Ideal) h n t g wg wu wd (ix3 0 r j)
      = rmsGrad (hid h n wg wu wd r) (du (hid h n wg wu wd) g t r) j := by
  rw [v60_at, rmsGrad_eq (x := hid h n wg wu wd r) (u := du (hid h n wg wu wd) g t r) (hx r) (du_real hx hg ht r) j]

theorem algebraic : Cert.algebraic_FfnFwdIdeal_FfnFwdRefIdeal_pre_ffn_finite := by
  pair_intro
  · run_from (Cert.FfnFwdIdeal.Value.run_blocks m g)
  · obtain ⟨hh, hn, ht, hl, hg, hu, hd⟩ := reals (hpre 0)
    have hx := hid_real hh hn hg hu hd
    refine Idealize.ShloMosaic.θ_run_mono (Cert.FfnFwdRefIdeal.Value.run m' g') ?_
    intro r hr c
    obtain ⟨h0, h1, h2, h3, h4, h5, hargs⟩ := hr c
    obtain ⟨a0, a1, a2, a3, a4, a5, a6⟩ := hagree c
    obtain rfl : c = 0 := Subsingleton.elim _ _
    refine ⟨h0.trans ?_, h1.trans ?_, h2.trans ?_, h3.trans ?_, h4.trans ?_, h5.trans ?_, hargs⟩
    · refine Eq.trans (val_main_v79_eq _ _) ?_
      rw [a1, a4, final_gate]
      funext i
      obtain ⟨r, j, rfl⟩ : ∃ (r : Fin 4096) (j : Fin 2816), i = ix2 r j := ⟨i 0, i 1, eq_ix2 i⟩
      exact v79_at _ _ r j
    · refine Eq.trans (val_main_v81_eq _ _) ?_
      rw [a1, a5, final_up]
      funext i
      obtain ⟨r, j, rfl⟩ : ∃ (r : Fin 4096) (j : Fin 2816), i = ix2 r j := ⟨i 0, i 1, eq_ix2 i⟩
      exact v81_at _ _ r j
    · refine Eq.trans (val_main_v82_eq _ _) ?_
      rw [a0, a1, a2, a3, a4, a5, a6, final_dh]
      funext i
      obtain ⟨r, j, rfl⟩ : ∃ (r : Fin 4096) (j : Fin 1024), i = ix2 r j := ⟨i 0, i 1, eq_ix2 i⟩
      exact (v82_at _ _ _ _ _ _ _ r j).trans (dh_eq hx hl ht r j)
    · refine Eq.trans (val_main_v84_eq _ _) ?_
      rw [a0, a1, a2, a3, a4, a5, a6, final_dhb]
      funext i
      obtain ⟨r, j, rfl⟩ : ∃ (r : Fin 4096) (j : Fin 1024), i = ix2 r j := ⟨i 0, i 1, eq_ix2 i⟩
      exact (v84_at _ _ _ _ _ _ _ r j).trans (dh_eq hx hl ht r j)
    · refine Eq.trans (val_main_v85_eq _ _) ?_
      rw [a0, a1, a2, a3, a4, a5, a6, final_gain]
      funext i
      obtain ⟨r, j, rfl⟩ : ∃ (r : Fin 1) (j : Fin 1024), i = ix2 r j := ⟨i 0, i 1, eq_ix2 i⟩
      obtain rfl : r = 0 := Subsingleton.elim _ _
      exact v85_at _ _ _ _ _ _ _ j
    · refine Eq.trans (val_main_v86_eq _ _) ?_
      rw [a0, a1, a2, a3, a4, a5, a6, final_sq]
      funext i
      obtain ⟨r, j, rfl⟩ : ∃ (r : Fin 1) (j : Fin 1024), i = ix2 r j := ⟨i 0, i 1, eq_ix2 i⟩
      obtain rfl : r = 0 := Subsingleton.elim _ _
      exact v86_at _ _ _ _ _ _ _ j

theorem frame_ref : Cert.quiescent_FfnFwdRefIdeal := fun m g _ =>
  (θ_run Cert.FfnFwdRefIdeal.defs _ _).mono (fun r h => ⟨fun c => (h c).2.2.2.2.2.2, sem_eq_zero_of_no_sems (by decide) r.2⟩)
    (Cert.FfnFwdRefIdeal.Value.run (F := Ideal) m g)

theorem frame_ref_pre : Cert.quiescent_FfnFwdRefIdeal_pre_ffn_finite := fun m g _ => frame_ref m g trivial

end Cert.Proof.Ffn

end
-- ==== Proof.FfbSpec.lean ====
module

public import proofs.«01_k».proof.Proof.FfnSpec

/-! The gradients of the feed-forward block, as functions of its arrays. -/

@[expose] public section

set_option maxRecDepth 16384

noncomputable section

open Idealize.ShloMosaic

namespace Cert.Layer.Ffb

open Cert.Layer Cert.Layer.Ffn

/-- The gradient of the gated activation. -/
def dact (wd : Down) (d : Tokens) (r : Fin 4096) (k : Fin 2816) : EReal := ∑ i : Fin 1024, d (ix3 0 r i) * wd (ix3 0 k i)

/-- The gradient of the up projection. -/
def dup (n : Tokens) (wg : Up) (wd : Down) (d : Tokens) (r : Fin 4096) (k : Fin 2816) : EReal :=
  proj n wg r k * Ideal.logistic (proj n wg r k) * dact wd d r k

/-- The gradient of the gate's projection by the chain rule. -/
def dgate (n : Tokens) (wg wu : Up) (wd : Down) (d : Tokens) (r : Fin 4096) (k : Fin 2816) : EReal :=
  dact wd d r k * proj n wu r k * Ideal.logistic (proj n wg r k)
    + proj n wg r k * (dact wd d r k * proj n wu r k) * (Ideal.logistic (proj n wg r k) * (1 - Ideal.logistic (proj n wg r k)))

/-- The same with the derivative of the activation as one factor. -/
def dgateVia (n : Tokens) (wg wu : Up) (wd : Down) (d : Tokens) (r : Fin 4096) (k : Fin 2816) : EReal :=
  dact wd d r k * proj n wu r k
    * (Ideal.logistic (proj n wg r k) * (1 + proj n wg r k * (1 - Ideal.logistic (proj n wg r k))))

/-- The gradient of a weight: a sum over the tokens. -/
def dweight (e : Fin 4096 → Fin 2816 → EReal) (n : Tokens) (k : Fin 2816) (j : Fin 1024) : EReal := ∑ r : Fin 4096, e r k * n (ix3 0 r j)

/-- The gradient of the block's input. -/
def dinput (eg eu : Fin 4096 → Fin 2816 → EReal) (wg wu : Up) (r : Fin 4096) (j : Fin 1024) : EReal :=
  ∑ k : Fin 2816, eu r k * wu (ix3 0 j k) + ∑ k : Fin 2816, eg r k * wg (ix3 0 j k)

theorem sub_real {x y : EReal} (hx : IsReal x) (hy : IsReal y) : IsReal (x - y) := by
  obtain ⟨a, rfl⟩ := hx
  obtain ⟨b, rfl⟩ := hy
  exact ⟨a - b, EReal.coe_sub a b⟩

theorem dgate_eq {n d : Tokens} {wg wu : Up} {wd : Down} (hn : ∀ i, IsReal (n i)) (hg : ∀ i, IsReal (wg i)) (hu : ∀ i, IsReal (wu i))
    (hw : ∀ i, IsReal (wd i)) (hd : ∀ i, IsReal (d i)) (r : Fin 4096) (k : Fin 2816) : dgateVia n wg wu wd d r k = dgate n wg wu wd d r k := by
  unfold dgateVia dgate
  obtain ⟨a, ha⟩ : IsReal (dact wd d r k) := IsReal.sum _ fun _ => IsReal.mul (hd _) (hw _)
  obtain ⟨p, hp⟩ := proj_real hn hg r k
  obtain ⟨u, hu⟩ := proj_real hn hu r k
  obtain ⟨s, hs⟩ := logistic_real (proj_real hn hg r k)
  rw [ha, hs, hp, hu, ← EReal.coe_one]
  simp only [← EReal.coe_sub, ← EReal.coe_mul, ← EReal.coe_add]
  congr 1
  ring

end Cert.Layer.Ffb

end
-- ==== Proof.FfbReference.lean ====
module

public import proofs.«01_k».proof.Proof.Gen.FfnBwdRefIdeal.Run
public import proofs.«01_k».proof.Proof.Gen.FfnBwdRefIdeal.Read
public import proofs.«01_k».proof.Proof.FfbSpec
public import proofs.«01_k».proof.Proof.TrivialSums
public import Idealize.ShloMosaic.Lib.Pipeline.ValueKit
public import Idealize.ShloMosaic.Lib.Pointwise

/-! The reference of the feed-forward block's gradients, read entry by entry. -/

@[expose] public section

set_option maxRecDepth 16384

noncomputable section

open Idealize.ShloMosaic Idealize.ShloMosaic.TcCoe Idealize.SL.Sem
open Idealize.ShloMosaic.Pipeline (Dat)

namespace Cert.FfnBwdRefIdeal.Read

open Cert.FfnBwdRefIdeal Cert.FfnBwdRefIdeal.Gen

open Cert.Layer Cert.Layer.Ffn Cert.Layer.Ffb

theorem v1_at (x0 : Tokens) (x1 : Up) (r : Fin 4096) (k : Fin 2816) : val_main_v1 (F := Ideal) x0 x1 (ix3 0 r k) = proj x0 x1 r k := by
  unfold proj
  pointwise [val_main_v1, val_main_v0]

theorem v4_at (x0 : Tokens) (x2 : Up) (r : Fin 4096) (k : Fin 2816) : val_main_v4 (F := Ideal) x0 x2 (ix3 0 r k) = proj x0 x2 r k := by
  unfold proj
  pointwise [val_main_v4, val_main_v3]

theorem v10_at (x3 : Down) (x4 : Tokens) (r : Fin 4096) (k : Fin 2816) : val_main_v10 (F := Ideal) x3 x4 (ix3 0 r k) = dact x3 x4 r k := by
  unfold dact
  pointwise [val_main_v10, val_main_v6]

theorem v2_2_at (x0 : Tokens) (x1 : Up) (r : Fin 4096) (k : Fin 2816) :
    val_main_v2_2 (F := Ideal) x0 x1 (ix3 0 r k) = Ideal.logistic (proj x0 x1 r k) := by
  unfold Ideal.logistic
  rw [← v1_at, ← bits_one]
  pointwise [val_main_v2_2, val_main_call0_v4, val_main_call0_v3, val_main_call0_v2, val_main_call0_v1, val_main_call0_v0, val_main_call0_cst,
    val_main_call0_cst_0]

theorem v5_at (x0 : Tokens) (x1 x2 : Up) (r : Fin 4096) (k : Fin 2816) :
    val_main_v5 (F := Ideal) x0 x1 x2 (ix3 0 r k) = act x0 x1 x2 r k := by
  unfold act
  rw [← v2_2_at, ← v1_at x0 x1, ← v4_at x0 x2]
  pointwise [val_main_v5, val_main_v2_0]

theorem v12_at (x0 : Tokens) (x1 : Up) (x3 : Down) (x4 : Tokens) (r : Fin 4096) (k : Fin 2816) :
    val_main_v12 (F := Ideal) x0 x1 x3 x4 (ix3 0 r k) = dup x0 x1 x3 x4 r k := by
  unfold dup
  rw [← v2_2_at, ← v1_at, ← v10_at]
  pointwise [val_main_v12, val_main_v2_0]

theorem v18_at (x0 : Tokens) (x1 x2 : Up) (x3 : Down) (x4 : Tokens) (r : Fin 4096) (k : Fin 2816) :
    val_main_v18 (F := Ideal) x0 x1 x2 x3 x4 (ix3 0 r k) = dgate x0 x1 x2 x3 x4 r k := by
  unfold dgate
  rw [← v2_2_at, ← v1_at x0 x1, ← v10_at, ← v4_at x0 x2, ← bits_one]
  pointwise [val_main_v18, val_main_call1_v2, val_main_call1_v1, val_main_call1_v0, val_main_v13, val_main_v2_1, val_main_call0_v7,
    val_main_call0_v6, val_main_call0_cst_1]

theorem v26_at (x0 : Tokens) (x1 x2 : Up) (x3 : Down) (x4 : Tokens) (k : Fin 2816) (j : Fin 1024) :
    val_main_v26 (F := Ideal) x0 x1 x2 x3 x4 (ix2 k j) = dweight (dgate x0 x1 x2 x3 x4) x0 k j := by
  unfold dweight
  simp only [← v18_at]
  pointwise [val_main_v26, val_main_v25, val_main_v24, val_main_v23, val_main_v20, val_main_v19]
  exact Fin.sum_univ_one _

theorem v29_at (x0 : Tokens) (x1 : Up) (x3 : Down) (x4 : Tokens) (k : Fin 2816) (j : Fin 1024) :
    val_main_v29 (F := Ideal) x0 x1 x3 x4 (ix2 k j) = dweight (dup x0 x1 x3 x4) x0 k j := by
  unfold dweight
  simp only [← v12_at]
  pointwise [val_main_v29, val_main_v28, val_main_v27, val_main_v17, val_main_v15, val_main_v14]
  exact Fin.sum_univ_one _

theorem v31_at (x0 : Tokens) (x1 x2 : Up) (x4 : Tokens) (k : Fin 2816) (j : Fin 1024) :
    val_main_v31 (F := Ideal) x0 x1 x2 x4 (ix2 k j) = dweight (act x0 x1 x2) x4 k j := by
  unfold dweight
  simp only [← v5_at]
  pointwise [val_main_v31, val_main_v30, val_main_v11, val_main_v9, val_main_v8]
  exact (Fin.sum_univ_one _).trans (Finset.sum_congr rfl fun _ _ => mul_comm _ _)

theorem v32_at (x0 : Tokens) (x1 x2 : Up) (x3 : Down) (x4 : Tokens) (r : Fin 4096) (j : Fin 1024) :
    val_main_v32 (F := Ideal) x0 x1 x2 x3 x4 (ix2 r j) = dinput (dgate x0 x1 x2 x3 x4) (dup x0 x1 x3 x4) x1 x2 r j := by
  unfold dinput
  simp only [← v18_at, ← v12_at]
  pointwise [val_main_v32, val_main_v22, val_main_v16, val_main_v21, val_main_v3, val_main_v0]

end Cert.FfnBwdRefIdeal.Read

end
-- ==== Proof.FfbRun.lean ====
/-
  The run of the feed-forward network's backward kernel at one grid point: four conditional blocks around one pass over the staged
  blocks, with four scratch buffers that carry sums from point to point. What each buffer holds after the point is written as a function of
  what it held before.
-/
module

public import proofs.«01_k».proof.Proof.Gen.FfnBwdIdeal.Frame
public import proofs.«01_k».proof.Proof.Gen.FfnBwdIdeal.Skeleton
public import Idealize.ShloMosaic.Lib.Pipeline.Frame
public import Idealize.ShloMosaic.Lib.Tactic
public import Idealize.ShloMosaic.Lib.VecWindow

@[expose] public section

set_option maxRecDepth 65536
set_option maxHeartbeats 4000000

noncomputable section

namespace Cert.FfbFrame

open Cert.FfnBwdIdeal Cert.FfnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-! ## Whole-buffer loads and stores -/

section Whole

variable {Val : EltTy → Type} [∀ e, Nonempty (Val e)] {S : Shape} {e : EltTy} {κ : Kind} {sp : Space} (v : View sig κ sp S e)
  (f : v.ty.Contents Val) {off off' : Fin S.rank → ℕ} (inb : ∀ a, off a + S.size a ≤ S.size a) (inb' : ∀ a, off' a + S.size a ≤ S.size a)
  (w : S.Idx → Val e) (L : List (View.Piece Val S e))

theorem read_stored : v.read Val (v.writes Val f ((⟨Rect.unit off (no_index S.size) inb, w⟩ : View.Piece Val S e) :: L)) = w :=
  View.read_writes_full v f inb w L

theorem load_stored :
    v.readCov ((⟨Rect.unit off (no_index S.size) inb, w⟩ : View.Piece Val S e) :: L) (Rect.unit off' (no_index S.size) inb').toLoadRect = w :=
  View.readCov_full v inb' inb w L

theorem load_all : v.readAt Val (Rect.unit off (no_index S.size) inb).toLoadRect f = v.read Val f :=
  View.readAt_full v f inb

theorem load_part {size off₁ off₂ : Fin S.rank → ℕ} (inb₁ : ∀ a, off₁ a + size a ≤ S.size a) (inb₂ : ∀ a, off₂ a + size a ≤ S.size a)
    (h : off₁ = off₂) (w : (Rect.unit off₁ size inb₁).shape.Idx → Val e) :
    v.readCov ((⟨Rect.unit off₁ size inb₁, w⟩ : View.Piece Val S e) :: L) (Rect.unit off₂ (no_index size) inb₂).toLoadRect = w := by
  subst h
  show v.readAt Val _ (v.writes Val v.junk _) = w
  rw [View.readAt_unit v _ inb₂ rfl inb₂, View.read_writes_cons_put v _ inb₁ w L rfl, VecWindow.window_put_same]

theorem stored_part {size off₁ : Fin S.rank → ℕ} (inb₁ : ∀ a, off₁ a + size a ≤ S.size a)
    (w : (Rect.unit off₁ size inb₁).shape.Idx → Val e) :
    v.read Val (v.writes Val f ((⟨Rect.unit off₁ size inb₁, w⟩ : View.Piece Val S e) :: L)) = VecWindow.put (v.read Val (v.writes Val f L)) off₁ size w :=
  View.read_writes_cons_put v f inb₁ w L rfl

end Whole

theorem off1_eq (i : grid0.Coords) : k0_off1 i = k0_off2 i := rfl

theorem off3_eq (i : grid0.Coords) : k0_off3 i = k0_off2 i := rfl

theorem load_rows {κ : Kind} {sp : Space} (v : View sig κ sp S4096x1024 .f32) (f : v.ty.Contents (Elt F)) (i : grid0.Coords)
    (inb : ∀ a, k0_off2 i a + S1024x1024.size a ≤ S4096x1024.size a) :
    v.readAt (Elt F) (Rect.unit (s := S4096x1024) (k0_off2 i) (no_index S1024x1024.size) inb).toLoadRect f
      = VecWindow.window (s := S4096x1024) (v.read (Elt F) f) (k0_off2 i) S1024x1024.size inb :=
  View.readAt_unit v f inb rfl inb

theorem reload_rows {κ : Kind} {sp : Space} (v : View sig κ sp S4096x1024 .f32) (i : grid0.Coords)
    (inb inb' : ∀ a, k0_off2 i a + S1024x1024.size a ≤ S4096x1024.size a) (w : Vec F S1024x1024 .f32)
    (L : List (View.Piece (Elt F) S4096x1024 .f32)) :
    v.readCov ((⟨Rect.unit (s := S4096x1024) (k0_off2 i) (no_index S1024x1024.size) inb, w⟩ : View.Piece (Elt F) S4096x1024 .f32) :: L)
      (Rect.unit (s := S4096x1024) (k0_off2 i) (no_index S1024x1024.size) inb').toLoadRect = w :=
  load_part v L inb inb' rfl w

theorem stored_rows {κ : Kind} {sp : Space} (v : View sig κ sp S4096x1024 .f32) (f : v.ty.Contents (Elt F)) (i : grid0.Coords)
    (inb : ∀ a, k0_off2 i a + S1024x1024.size a ≤ S4096x1024.size a) (w : Vec F S1024x1024 .f32) {D : Vec F S4096x1024 .f32}
    (h : v.read (Elt F) f = D) :
    v.read (Elt F) (v.writes (Elt F) f [(⟨Rect.unit (s := S4096x1024) (k0_off2 i) (no_index S1024x1024.size) inb, w⟩ :
      View.Piece (Elt F) S4096x1024 .f32)]) = VecWindow.put (s := S4096x1024) D (k0_off2 i) S1024x1024.size w := by
  subst h
  exact (stored_part v f [] inb w).trans (by rw [View.writes_nil])

/-! ## What a point makes of the carried buffers -/

/-- The four buffers carried from point to point: the input gradient's rows, and the three weights' sums over the blocks of tokens. -/
@[ext] structure Carried (F : FTy → Type) where
  rows : Vec F S4096x1024 .f32
  gate : Vec F S256x1024 .f32
  up : Vec F S256x1024 .f32
  down : Vec F S256x1024 .f32

/-- The point is the first of its weight block. -/
def First (i : grid0.Coords) : Prop := Scalar.cmpi .ne (Scalar.extui (Scalar.cmpi .eq (BitVec.ofNat 32 (i 1).val) 0#32) : BitVec 32) 0#32 = 1#1

instance (i : grid0.Coords) : Decidable (First i) := by unfold First; infer_instance

/-- The rows of the current block of tokens. -/
def rowsAt (i : grid0.Coords) (D : Vec F S4096x1024 .f32) : Vec F S1024x1024 .f32 :=
  VecWindow.window D (k0_off2 i) S1024x1024.size (k0_off2_inb i)

/-- The carried buffers after the point's two resets. -/
def start (i : grid0.Coords) (s : Carried F) : Carried F where
  rows := if k0_cond2 i = 1#1 then VecWindow.put s.rows (k0_off2 i) S1024x1024.size (k0_pay8 (F := F)) else s.rows
  gate := if First i then k0_pay5 else s.gate
  up := if First i then k0_pay6 else s.up
  down := if First i then k0_pay7 else s.down

/-- The carried buffers after the point. -/
def step (x0 : Vec F S1024x1024 .bf16) (x1 : Vec F S1024x1024 .bf16) (x2 : Vec F S1024x256 .bf16) (x3 : Vec F S1024x256 .bf16) (x4 : Vec F S256x1024 .bf16) (x5 : Vec F S256x1024 .bf16) (x6 : Vec F S256x1024 .bf16) (i : grid0.Coords) (s : Carried F) : Carried F where
  rows := VecWindow.put (start i s).rows (k0_off2 i) S1024x1024.size
    (k0_pay22 (k0_pay16 x1 x2 x6) (k0_pay17 x1 x2 x3 x6) (rowsAt i (start i s).rows) x4 x5)
  gate := k0_pay20 (k0_pay9 x0) (k0_pay17 x1 x2 x3 x6) (start i s).gate
  up := k0_pay21 (k0_pay9 x0) (k0_pay16 x1 x2 x6) (start i s).up
  down := k0_pay19 (k0_pay10 x1) (start i s).down (k0_pay18 x2 x3)

/-! ## The run -/

variable (x0 : Vec F S1024x1024 .bf16) (x1 : Vec F S1024x1024 .bf16) (x2 : Vec F S1024x256 .bf16) (x3 : Vec F S1024x256 .bf16) (x4 : Vec F S256x1024 .bf16) (x5 : Vec F S256x1024 .bf16) (x6 : Vec F S256x1024 .bf16) (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S1024x1024 .f32) (harg12 : arg12.IsWhole) (arg13 : Memref sig .tc .vmem S4096x1024 .f32) (harg13 : arg13.IsWhole) (arg14 : Memref sig .tc .vmem S256x1024 .f32) (harg14 : arg14.IsWhole) (arg15 : Memref sig .tc .vmem S256x1024 .f32) (harg15 : arg15.IsWhole) (arg16 : Memref sig .tc .vmem S256x1024 .f32) (harg16 : arg16.IsWhole)
  (x7 : Vec F S256x1024 .bf16) (x8 : Vec F S256x1024 .bf16) (x9 : Vec F S256x1024 .bf16) (x10 : Vec F S1024x1024 .f32) (s : Carried F)

/-- The kernel's run at one point. -/
theorem kernelRun (K : PUnit → sProp 𝕄) :
    iprop((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare s.rows ∗ owns (c : Thread nD τ) arg14 fullShare s.gate ∗ owns (c : Thread nD τ) arg15 fullShare s.up ∗ owns (c : Thread nD τ) arg16 fullShare s.down)
        ∗ ((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (if k0_cond3 i = 1#1 then k0_pay1 (step x0 x1 x2 x3 x4 x5 x6 i s).gate else x7) ∗ owns (c : Thread nD τ) arg10 fullShare (if k0_cond3 i = 1#1 then k0_pay2 (step x0 x1 x2 x3 x4 x5 x6 i s).up else x8) ∗ owns (c : Thread nD τ) arg11 fullShare (if k0_cond3 i = 1#1 then k0_pay3 (step x0 x1 x2 x3 x4 x5 x6 i s).down else x9) ∗ owns (c : Thread nD τ) arg12 fullShare (if k0_cond4 i = 1#1 then k0_pay4 (rowsAt i (step x0 x1 x2 x3 x4 x5 x6 i s).rows) else x10) ∗ owns (c : Thread nD τ) arg13 fullShare (step x0 x1 x2 x3 x4 x5 x6 i s).rows ∗ owns (c : Thread nD τ) arg14 fullShare (step x0 x1 x2 x3 x4 x5 x6 i s).gate ∗ owns (c : Thread nD τ) arg15 fullShare (step x0 x1 x2 x3 x4 x5 x6 i s).up ∗ owns (c : Thread nD τ) arg16 fullShare (step x0 x1 x2 x3 x4 x5 x6 i s).down) -∗ K ⟨⟩))
      ⊢ wp frame (wpE (defs₀ (F := F)) Variants.none c none) Set.univ
          (cc0_ffn_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_ffn_bwd_eq_skeleton]; unfold cc0_ffn_bwd_skel
  simp only [k0_part1_eq_skeleton, k0_part2_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
  by_cases hc1 : Scalar.cmpi .ne (Scalar.extui (Scalar.cmpi .eq (BitVec.ofNat 32 (i 1).val) 0#32) : BitVec 32) 0#32 = 1#1 <;> by_cases hc2 : k0_cond2 i = 1#1 <;> by_cases hc3 : k0_cond3 i = 1#1 <;> by_cases hc4 : k0_cond4 i = 1#1
  all_goals
    sl_exec (disch := first | sl_exact hc1 | sl_exact hc2 | sl_exact hc3 | sl_exact hc4)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; swap; · iexact H7
      ipureintro
      sl_unfold_run_names
      simp only [off1_eq, off3_eq, read_stored, load_stored, load_all, hf0, hf1, hf2, hf3, hf4, hf5, hf6, hf7, hf8, hf9, hf10, hf11, hf12, hf13, hf14, step, start, rowsAt, VecWindow.window_put_same, First, hc1, hc2, hc3, hc4, if_true, if_false]
    isplitl [H8]
    · iexists _; isplitr; swap; · iexact H8
      ipureintro
      sl_unfold_run_names
      simp only [off1_eq, off3_eq, read_stored, load_stored, load_all, hf0, hf1, hf2, hf3, hf4, hf5, hf6, hf7, hf8, hf9, hf10, hf11, hf12, hf13, hf14, step, start, rowsAt, VecWindow.window_put_same, First, hc1, hc2, hc3, hc4, if_true, if_false]
    isplitl [H9]
    · iexists _; isplitr; swap; · iexact H9
      ipureintro
      sl_unfold_run_names
      simp only [off1_eq, off3_eq, read_stored, load_stored, load_all, hf0, hf1, hf2, hf3, hf4, hf5, hf6, hf7, hf8, hf9, hf10, hf11, hf12, hf13, hf14, step, start, rowsAt, VecWindow.window_put_same, First, hc1, hc2, hc3, hc4, if_true, if_false]
    isplitl [H10]
    · iexists _; isplitr; swap; · iexact H10
      ipureintro
      sl_unfold_run_names
      simp only [off1_eq, off3_eq, read_stored, reload_rows, load_rows, load_all, hf0, hf1, hf2, hf3, hf4, hf5, hf6, hf7, hf8, hf9, hf10, hf11, hf12, hf13, hf14, step, start, rowsAt, VecWindow.window_put_same, First, hc1, hc2, hc3, hc4, if_true, if_false]
      all_goals first
        | done
        | exact congrArg k0_pay4 (reload_rows arg13.view i _ _ _ _)
        | exact congrArg k0_pay4 ((reload_rows arg13.view i _ _ _ _).trans
            (congrArg (fun D => k0_pay22 (k0_pay16 x1 x2 x6) (k0_pay17 x1 x2 x3 x6) D x4 x5) (reload_rows arg13.view i _ _ _ _)))
    isplitl [H11]
    · iexists _; isplitr; swap; · iexact H11
      ipureintro
      sl_unfold_run_names
      simp only [off1_eq, off3_eq, stored_part, View.writes_nil, reload_rows, load_rows, load_all, hf0, hf1, hf2, hf3, hf4, hf5, hf6, hf7, hf8, hf9, hf10, hf11, hf12, hf13, hf14, step, start, rowsAt, VecWindow.window_put_same, First, hc1, hc2, hc3, hc4, if_true, if_false]
      all_goals
        exact congrArg₂ (fun D W => VecWindow.put (s := S4096x1024) D (k0_off2 i) S1024x1024.size W) (stored_rows arg13.view _ i _ _ hf11)
          (congrArg (fun D => k0_pay22 (k0_pay16 x1 x2 x6) (k0_pay17 x1 x2 x3 x6) D x4 x5) (reload_rows arg13.view i _ _ _ _))
    isplitl [H12]
    · iexists _; isplitr; swap; · iexact H12
      ipureintro
      sl_unfold_run_names
      simp only [off1_eq, off3_eq, read_stored, load_stored, load_all, hf0, hf1, hf2, hf3, hf4, hf5, hf6, hf7, hf8, hf9, hf10, hf11, hf12, hf13, hf14, step, start, rowsAt, VecWindow.window_put_same, First, hc1, hc2, hc3, hc4, if_true, if_false]
    isplitl [H13]
    · iexists _; isplitr; swap; · iexact H13
      ipureintro
      sl_unfold_run_names
      simp only [off1_eq, off3_eq, read_stored, load_stored, load_all, hf0, hf1, hf2, hf3, hf4, hf5, hf6, hf7, hf8, hf9, hf10, hf11, hf12, hf13, hf14, step, start, rowsAt, VecWindow.window_put_same, First, hc1, hc2, hc3, hc4, if_true, if_false]
    iexists _; isplitr; swap; · iexact H14
    ipureintro
    sl_unfold_run_names
    simp only [off1_eq, off3_eq, read_stored, load_stored, load_all, hf0, hf1, hf2, hf3, hf4, hf5, hf6, hf7, hf8, hf9, hf10, hf11, hf12, hf13, hf14, step, start, rowsAt, VecWindow.window_put_same, First, hc1, hc2, hc3, hc4, if_true, if_false]

end Cert.FfbFrame

end
-- ==== Proof.FfbFrame.lean ====
/-
  The frame of the feed-forward network's backward call, with what its results hold: at each of the 44 grid points the carried buffers
  become `step` of what they were, so after `n` points they are `after n` of whatever they held at the start, and every result block is
  written from them.
-/
module

public import proofs.«01_k».proof.Proof.FfbRun
public import Idealize.ShloMosaic.Lib.Pipeline.DatRel
public import Idealize.ShloMosaic.Lib.Pipeline.ArrRel

@[expose] public section

set_option maxRecDepth 65536
set_option maxHeartbeats 4000000

noncomputable section

namespace Cert.FfbFrame

open Cert.FfnBwdIdeal Cert.FfnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationRel)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-! ## The carried buffers from point to point -/

/-- The point's step at its staged blocks. -/
def stepAt (t : Fin cfg0.N) (s : Carried F) : Carried F :=
  step (iblk m c 0 t) (iblk m c 1 t) (iblk m c 2 t) (iblk m c 3 t) (iblk m c 4 t) (iblk m c 5 t) (iblk m c 6 t) (grid0.coords t) s

/-- The carried buffers before point `n`, from what they held before the first. -/
def before (s : Carried F) : ℕ → Carried F
  | 0 => s
  | n + 1 => if h : n < cfg0.N then stepAt m c ⟨n, h⟩ (before s n) else before s n

theorem before_succ (s : Carried F) (t : Fin cfg0.N) : before m c s (t.val + 1) = stepAt m c t (before m c s t.val) := by
  show (if h : t.val < cfg0.N then _ else _) = _
  rw [dif_pos t.isLt]

/-- The carried buffers held at `s`. -/
def held (s : Carried F) : sProp 𝕄 :=
  iprop(owns (c : Thread nD τ) (Memref.whole cc0_scratch0) fullShare s.rows ∗ owns (c : Thread nD τ) (Memref.whole cc0_scratch1) fullShare s.gate
    ∗ owns (c : Thread nD τ) (Memref.whole cc0_scratch2) fullShare s.up ∗ owns (c : Thread nD τ) (Memref.whole cc0_scratch3) fullShare s.down)

/-! ## The proof data -/

/-- The results' windows are held to a predicate. -/
def marked : Fin cfg0.W → Bool := fun w => decide (7 ≤ w.val)

/-- What the body leaves in a result's window where it writes it. -/
def Leaves (w : Fin cfg0.W) (t : Fin cfg0.N) (X : (cfg0.win w).block.Idx → Elt F (cfg0.win w).elt) : Prop :=
  match w, X with
  | ⟨7, _⟩, X => k0_cond3 (grid0.coords t) = 1#1 → ∃ s, X = k0_pay1 (stepAt m c t (before m c s t.val)).gate
  | ⟨8, _⟩, X => k0_cond3 (grid0.coords t) = 1#1 → ∃ s, X = k0_pay2 (stepAt m c t (before m c s t.val)).up
  | ⟨9, _⟩, X => k0_cond3 (grid0.coords t) = 1#1 → ∃ s, X = k0_pay3 (stepAt m c t (before m c s t.val)).down
  | ⟨10, _⟩, X => k0_cond4 (grid0.coords t) = 1#1 →
      ∃ s, X = k0_pay4 (rowsAt (grid0.coords t) (stepAt m c t (before m c s t.val)).rows)
  | _, _ => True

/-- The proof data on core `c`: the inputs' blocks stay as fetched. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | w => Pipeline.Dat.unnamed (cfg := cfg0) w t
  Φ t := iprop((∃ s, held c (before m c s t.val)) ∗ (∃ r, prngReg c r))
  q _ := fullShare
  owed _ := 0

theorem A_eq (w : Fin cfg0.W) : (dats m 0 c).A w = V m c (Pipeline.arrRef spec0 w) := by dsimp only [dats]

/-- The scratch buffers and the generator register, conjunct by conjunct. -/
theorem rest_eq :
    (Pipeline.ΦA spec0 c : sProp 𝕄)
      = iprop(iprop((∃ f, (Memref.whole cc0_scratch0).view.loc (c : Thread nD τ) ↦[(Memref.whole cc0_scratch0).view.set]{fullShare} f)
          ∗ (∃ f, (Memref.whole cc0_scratch1).view.loc (c : Thread nD τ) ↦[(Memref.whole cc0_scratch1).view.set]{fullShare} f)
          ∗ (∃ f, (Memref.whole cc0_scratch2).view.loc (c : Thread nD τ) ↦[(Memref.whole cc0_scratch2).view.set]{fullShare} f)
          ∗ (∃ f, (Memref.whole cc0_scratch3).view.loc (c : Thread nD τ) ↦[(Memref.whole cc0_scratch3).view.set]{fullShare} f))
          ∗ (∃ r, prngReg c r)) := by
  unfold Pipeline.ΦA; rw [scopedRest0_eq]; simp only [Memref.view_whole, View.set_whole]

theorem carried_in : (Pipeline.ΦA spec0 c : sProp 𝕄) ⊢ (dats m 0 c).Φ 0 := by
  rw [rest_eq]
  show _ ⊢ iprop((∃ s, held c (before m c s 0)) ∗ (∃ r, prngReg c r))
  unfold held owns
  iintro ⟨⟨⟨%f0, S0⟩, ⟨%f1, S1⟩, ⟨%f2, S2⟩, ⟨%f3, S3⟩⟩, Hg⟩
  isplitl [S0 S1 S2 S3]
  · iexists (⟨(Memref.whole cc0_scratch0).view.read (Elt F) f0, (Memref.whole cc0_scratch1).view.read (Elt F) f1,
      (Memref.whole cc0_scratch2).view.read (Elt F) f2, (Memref.whole cc0_scratch3).view.read (Elt F) f3⟩ : Carried F)
    isplitl [S0]
    · iexists f0; isplitr; · ipureintro; rfl
      iexact S0
    isplitl [S1]
    · iexists f1; isplitr; · ipureintro; rfl
      iexact S1
    isplitl [S2]
    · iexists f2; isplitr; · ipureintro; rfl
      iexact S2
    iexists f3; isplitr; · ipureintro; rfl
    iexact S3
  iexact Hg

theorem carried_out : (dats m 0 c).Φ (Fin.last cfg0.N) ⊢ (Pipeline.ΦA spec0 c : sProp 𝕄) := by
  rw [rest_eq]
  show iprop((∃ s, held c (before m c s cfg0.N)) ∗ (∃ r, prngReg c r)) ⊢ _
  unfold held owns
  iintro ⟨⟨%s, ⟨%f0, -, S0⟩, ⟨%f1, -, S1⟩, ⟨%f2, -, S2⟩, ⟨%f3, -, S3⟩⟩, Hg⟩
  isplitl [S0 S1 S2 S3]
  · isplitl [S0]; · iexists f0; iexact S0
    isplitl [S1]; · iexists f1; iexact S1
    isplitl [S2]; · iexists f2; iexact S2
    iexists f3; iexact S3
  iexact Hg

/-! ## The body obligation -/

variable (t : Fin cfg0.N)

/-- What the body is called with at point `t`. -/
def given : sProp 𝕄 :=
  iprop((dats m 0 c).Φ t.castSucc
    ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ Y, ⌜((dats m 0 c).toRRel marked (Leaves m c)).Finds 7 t Y⌝ ∗ owns (c : Thread nD τ) (win0_7.stage (cfg0.slots t 7)) fullShare Y)
    ∗ (∃ Y, ⌜((dats m 0 c).toRRel marked (Leaves m c)).Finds 8 t Y⌝ ∗ owns (c : Thread nD τ) (win0_8.stage (cfg0.slots t 8)) fullShare Y)
    ∗ (∃ Y, ⌜((dats m 0 c).toRRel marked (Leaves m c)).Finds 9 t Y⌝ ∗ owns (c : Thread nD τ) (win0_9.stage (cfg0.slots t 9)) fullShare Y)
    ∗ (∃ Y, ⌜((dats m 0 c).toRRel marked (Leaves m c)).Finds 10 t Y⌝ ∗ owns (c : Thread nD τ) (win0_10.stage (cfg0.slots t 10)) fullShare Y))

/-- What it returns. -/
def returned : sProp 𝕄 :=
  iprop((dats m 0 c).Φ t.succ
    ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ (∃ X, ⌜Leaves m c 7 t X⌝ ∗ owns (c : Thread nD τ) (win0_7.stage (cfg0.slots t 7)) fullShare X)
    ∗ (∃ X, ⌜Leaves m c 8 t X⌝ ∗ owns (c : Thread nD τ) (win0_8.stage (cfg0.slots t 8)) fullShare X)
    ∗ (∃ X, ⌜Leaves m c 9 t X⌝ ∗ owns (c : Thread nD τ) (win0_9.stage (cfg0.slots t 9)) fullShare X)
    ∗ (∃ X, ⌜Leaves m c 10 t X⌝ ∗ owns (c : Thread nD τ) (win0_10.stage (cfg0.slots t 10)) fullShare X))

theorem found_0 (d) : (dats m 0 c).before 0 t d = iblk m c 0 t := before0_0_of m (dats m 0 c) (A_eq m c 0) (fun _ => rfl) t d
theorem found_1 (d) : (dats m 0 c).before 1 t d = iblk m c 1 t := before0_1_of m (dats m 0 c) (A_eq m c 1) (fun _ => rfl) t d
theorem found_2 (d) : (dats m 0 c).before 2 t d = iblk m c 2 t := before0_2_of m (dats m 0 c) (A_eq m c 2) (fun _ => rfl) t d
theorem found_3 (d) : (dats m 0 c).before 3 t d = iblk m c 3 t := before0_3_of m (dats m 0 c) (A_eq m c 3) (fun _ => rfl) t d
theorem found_4 (d) : (dats m 0 c).before 4 t d = iblk m c 4 t := before0_4_of m (dats m 0 c) (A_eq m c 4) (fun _ => rfl) t d
theorem found_5 (d) : (dats m 0 c).before 5 t d = iblk m c 5 t := before0_5_of m (dats m 0 c) (A_eq m c 5) (fun _ => rfl) t d
theorem found_6 (d) : (dats m 0 c).before 6 t d = iblk m c 6 t := before0_6_of m (dats m 0 c) (A_eq m c 6) (fun _ => rfl) t d

theorem sound_body :
    given m c t ⊢ wp frame (wpE (defs₀ (F := F)) Variants.none c none) Set.univ (bodyAt0 t) (fun _ => returned m c t) := by
  unfold given returned bodyAt0
  simp only [found_0 m c t, found_1 m c t, found_2 m c t, found_3 m c t, found_4 m c t, found_5 m c t, found_6 m c t]
  rw [show (dats m 0 c).owesAt () t.succ = (dats m 0 c).owesAt () t.castSucc from rfl,
    show (dats m 0 c).Φ t.castSucc = iprop((∃ s, held c (before m c s t.val)) ∗ (∃ r, prngReg c r)) from rfl,
    show (dats m 0 c).Φ t.succ = iprop((∃ s, held c (before m c s (t.val + 1))) ∗ (∃ r, prngReg c r)) from rfl]
  unfold held
  iintro ⟨⟨⟨%s, S0, S1, S2, S3⟩, Hg⟩, HO, ⟨%d0, W0⟩, ⟨%d1, W1⟩, ⟨%d2, W2⟩, ⟨%d3, W3⟩, ⟨%d4, W4⟩, ⟨%d5, W5⟩, ⟨%d6, W6⟩, ⟨%d7, -, W7⟩, ⟨%d8, -, W8⟩, ⟨%d9, -, W9⟩, ⟨%d10, -, W10⟩⟩
  iapply (kernelRun (s := before m c s t.val))
  isplitl [W0 W1 W2 W3 W4 W5 W6 W7 W8 W9 W10 S0 S1 S2 S3]
  · isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexact W9
    isplitl [W10]; · iexact W10
    isplitl [S0]; · iexact S0
    isplitl [S1]; · iexact S1
    isplitl [S2]; · iexact S2
    iexact S3
  iintro ⟨W0, W1, W2, W3, W4, W5, W6, W7, W8, W9, W10, S0, S1, S2, S3⟩
  isplitl [S0 S1 S2 S3 Hg]
  · isplitl [S0 S1 S2 S3]
    · iexists s
      rw [before_succ]
      isplitl [S0]; · iexact S0
      isplitl [S1]; · iexact S1
      isplitl [S2]; · iexact S2
      iexact S3
    iexact Hg
  isplitl [HO]; · iexact HO
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]
  · iexists _; isplitr; swap; · iexact W7
    ipureintro; intro h; exact ⟨s, if_pos h⟩
  isplitl [W8]
  · iexists _; isplitr; swap; · iexact W8
    ipureintro; intro h; exact ⟨s, if_pos h⟩
  isplitl [W9]
  · iexists _; isplitr; swap; · iexact W9
    ipureintro; intro h; exact ⟨s, if_pos h⟩
  iexists _; isplitr; swap; · iexact W10
  ipureintro; intro h; exact ⟨s, if_pos h⟩

theorem defs₀_row : defs₀ (F := F) .tc cfg0.body (cfg0.bodyArgs t (cfg0.slots t)) = bodyAt0 t := by
  unfold defs₀; rw [Defs.onTc_tc]

theorem body_obligation :
    BodyObligationRel (dats (F := F) m 0 c) (defs₀ (F := F)) Variants.none () Set.univ marked (Leaves m c) := fun t => by
  rw [bigSep_W0, bigSep_W0, defs₀_row]
  exact triple_restated (sound_body m c t) rfl .rfl fun _ => .rfl

/-! ## The launch -/

/-- What every run ends with. -/
def Ends (r : PUnit × MemSt nD τ sig (Elt F)) : Prop :=
  Pipeline.RDat.FramePost (cfgs 0) (fun c => (dats m 0 c).toRRel marked (Leaves m c)) (V m) r

set_option backward.isDefEq.respectTransparency.types false in
/-- Every run ends with the arrays at what the points left, the inputs as they were and every counter at zero. -/
theorem run_main :
    θ_run defs (onTc (τ := τ) (main (F := F))) (s₀ m ρ) (fun r => Ends m r ∧ r.2.sem = fun _ => 0) :=
  Pipeline.RDat.θ_run_frame_track (Q' := _) cfgs (0 : Fin 1) launch0 defs₀ Variants.none
    (fun c => (dats m 0 c).toRRel marked (Leaves m c)) m ρ main
    (hbody := fun c => Pipeline.BodyObligationRel.toRRel _ (body_obligation m c)) (hshare := fun c => (dats m 0 c).share_full fun _ => rfl)
    (howed := fun _ _ => rfl) (V := V m) (hmain := hmain m Variants.none) (hA := A_eq m)
    (hin := carried_in m) (hout := carried_out m)

variable {m ρ}

/-- What the run leaves: every argument as it was launched. -/
theorem arguments {r : PUnit × MemSt nD τ sig (Elt F)} (h : Ends m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

/-- What the results hold at the end: the arrays of some exact data whose blocks are as the points leave them where they are written back. -/
theorem results {r : PUnit × MemSt nD τ sig (Elt F)} (h : Ends m r) (c : Dev nD) :
    ∃ after : (w : Fin cfg0.W) → Fin cfg0.N → (cfg0.win w).block.Idx → Elt F (cfg0.win w).elt,
      (∀ (w : Fin cfg0.W) (u : Fin cfg0.N), marked w = true → (cfg0.win w).flush u = true → Leaves m c w u (after w u))
        ∧ ∀ w, r.2.mem ((spec0 w).arr.view.loc (c.tc : Thread nD τ))
          = (((dats m 0 c).toRRel marked (Leaves m c)).withAfter after).arrAt w cfg0.N := by
  obtain ⟨after, hL, hA⟩ := Pipeline.RDat.FramePost.exists_exact h c
  exact ⟨after, fun w u hw hf => (dats m 0 c).toRRel_leaves hw (hL w u hf), hA⟩

end Cert.FfbFrame

end
-- ==== Proof.FfbBlock.lean ====
module

public import proofs.«01_k».proof.Proof.Gen.FfnBwdIdeal.Frame
public import proofs.«01_k».proof.Proof.Gen.FfnBwdIdeal.Skeleton
public import proofs.«01_k».proof.Proof.FfbSpec
public import proofs.«01_k».proof.Proof.TrivialSums
public import Idealize.ShloMosaic.Lib.Pipeline.ValueKit
public import Idealize.ShloMosaic.Lib.Pointwise

/-! What the kernel's arithmetic makes of one point's blocks, entry by entry, and what those blocks hold of the program's arrays. -/

@[expose] public section

set_option maxRecDepth 16384

noncomputable section

open Idealize.ShloMosaic Idealize.ShloMosaic.TcCoe Idealize.SL.Sem
open Idealize.ShloMosaic.Pipeline (Dat)

namespace Cert.FfnBwdIdeal.Value

open Cert.FfnBwdIdeal Cert.FfnBwdIdeal.Gen

open Cert.Layer Cert.Layer.Ffn Cert.Layer.Ffb

/-! ### The arithmetic over blocks -/

section Arithmetic

variable (n d : Vec Ideal S1024x1024 .bf16) (g u : Vec Ideal S1024x256 .bf16) (wg wu wd : Vec Ideal S256x1024 .bf16)
  (r e : Fin 1024) (k : Fin 256)

theorem pay15_at : k0_pay15 d wd (ix2 r k) = ∑ i : Fin 1024, d (ix2 r i) * wd (ix2 k i) := by
  pointwise [k0_pay15, k0_pay10]

theorem pay16_at : k0_pay16 d g wd (ix2 r k) = k0_pay15 d wd (ix2 r k) * (g (ix2 r k) * Ideal.logistic (g (ix2 r k))) := by
  pointwise [k0_pay16, k0_pay14, k0_pay13, k0_pay11]

theorem pay17_at : k0_pay17 d g u wd (ix2 r k) = k0_pay15 d wd (ix2 r k) * u (ix2 r k)
    * (Ideal.logistic (g (ix2 r k)) * (1 + g (ix2 r k) * (1 - Ideal.logistic (g (ix2 r k))))) := by
  rw [← bits_one]
  pointwise [k0_pay17, k0_pay13, k0_pay12, k0_pay11]

theorem pay18_at : k0_pay18 g u (ix2 r k) = g (ix2 r k) * Ideal.logistic (g (ix2 r k)) * u (ix2 r k) := by
  pointwise [k0_pay18, k0_pay14, k0_pay13, k0_pay12, k0_pay11]

theorem pay19_at (acc : Vec Ideal S256x1024 .f32) (v : FVec Ideal S1024x256 .f32) :
    k0_pay19 (k0_pay10 d) acc v (ix2 k e) = acc (ix2 k e) + ∑ r : Fin 1024, v (ix2 r k) * d (ix2 r e) := by
  pointwise [k0_pay19, k0_pay10]

theorem pay20_at (acc : Vec Ideal S256x1024 .f32) (v : FVec Ideal S1024x256 .bf16) :
    k0_pay20 (k0_pay9 n) v acc (ix2 k e) = acc (ix2 k e) + ∑ r : Fin 1024, v (ix2 r k) * n (ix2 r e) := by
  pointwise [k0_pay20, k0_pay9]

theorem pay21_at (acc : Vec Ideal S256x1024 .f32) (v : FVec Ideal S1024x256 .bf16) :
    k0_pay21 (k0_pay9 n) v acc (ix2 k e) = acc (ix2 k e) + ∑ r : Fin 1024, v (ix2 r k) * n (ix2 r e) := by
  pointwise [k0_pay21, k0_pay9]

theorem pay22_at (acc : Vec Ideal S1024x1024 .f32) (eu eg : FVec Ideal S1024x256 .bf16) :
    k0_pay22 eu eg acc wg wu (ix2 r e)
      = acc (ix2 r e) + (∑ k : Fin 256, eg (ix2 r k) * wg (ix2 k e) + ∑ k : Fin 256, eu (ix2 r k) * wu (ix2 k e)) := by
  pointwise [k0_pay22]

theorem pay1_at (acc : Vec Ideal S256x1024 .f32) : k0_pay1 acc (ix2 k e) = acc (ix2 k e) := by
  pointwise [k0_pay1]

theorem pay2_at (acc : Vec Ideal S256x1024 .f32) : k0_pay2 acc (ix2 k e) = acc (ix2 k e) := by
  pointwise [k0_pay2]

theorem pay3_at (acc : Vec Ideal S256x1024 .f32) : k0_pay3 acc (ix2 k e) = acc (ix2 k e) := by
  pointwise [k0_pay3]

theorem pay4_at (acc : Vec Ideal S1024x1024 .f32) : k0_pay4 acc (ix2 r e) = acc (ix2 r e) := by
  pointwise [k0_pay4]

theorem pay5_at : k0_pay5 (F := Ideal) (ix2 k e) = 0 := by
  pointwise [k0_pay5]

theorem pay6_at : k0_pay6 (F := Ideal) (ix2 k e) = 0 := by
  pointwise [k0_pay6]

theorem pay7_at : k0_pay7 (F := Ideal) (ix2 k e) = 0 := by
  pointwise [k0_pay7]

theorem pay8_at : k0_pay8 (F := Ideal) (ix2 r e) = 0 := by
  pointwise [k0_pay8]

end Arithmetic

/-! ### The blocks -/

variable (m : (ℓ : Loc nD τ sig) → Buf (Elt Ideal) ℓ) (c : Dev nD)

abbrev argN : Tokens := m ((c : Thread nD τ).loc main_arg0)
abbrev argG : Up := m ((c : Thread nD τ).loc main_arg1)
abbrev argU : Up := m ((c : Thread nD τ).loc main_arg2)
abbrev argW : Down := m ((c : Thread nD τ).loc main_arg3)
abbrev argD : Tokens := m ((c : Thread nD τ).loc main_arg4)

theorem index : ∀ t : Fin cfg0.N, win0_0.index t = ![(grid0.coords t 1).val, 0] ∧ win0_1.index t = ![(grid0.coords t 1).val, 0]
    ∧ win0_2.index t = ![(grid0.coords t 1).val, (grid0.coords t 0).val] ∧ win0_3.index t = ![(grid0.coords t 1).val, (grid0.coords t 0).val]
    ∧ win0_4.index t = ![(grid0.coords t 0).val, 0] ∧ win0_5.index t = ![(grid0.coords t 0).val, 0]
    ∧ win0_6.index t = ![(grid0.coords t 0).val, 0] ∧ win0_7.index t = ![(grid0.coords t 0).val, 0]
    ∧ win0_8.index t = ![(grid0.coords t 0).val, 0] ∧ win0_9.index t = ![(grid0.coords t 0).val, 0]
    ∧ (grid0.coords t 0).val = t.val / 4 ∧ (grid0.coords t 1).val = t.val % 4 :=
  (by decide +kernel : ∀ t : Fin grid0.N, _)

theorem count (t : Fin cfg0.N) : t.val < 44 := t.isLt

theorem tok_lt (t : Fin cfg0.N) (r : Fin 1024) : 1024 * (t.val % 4) + r.val < 4096 := by omega

theorem col_lt (t : Fin cfg0.N) (k : Fin 256) : 256 * (t.val / 4) + k.val < 2816 := by have := count t; omega

/-- The token that row `r` of point `t`'s blocks holds. -/
def tok (t : Fin cfg0.N) (r : Fin 1024) : Fin 4096 := ⟨1024 * (t.val % 4) + r.val, tok_lt t r⟩

/-- The hidden column that column `k` of point `t`'s blocks holds. -/
def col (t : Fin cfg0.N) (k : Fin 256) : Fin 2816 := ⟨256 * (t.val / 4) + k.val, col_lt t k⟩

variable (t : Fin cfg0.N) (r e : Fin 1024) (k : Fin 256)

theorem entry_n : iblk m c 0 t (ix2 r e) = argN m c (ix3 0 (tok t r) e) := by
  blk_simp [iblk]
  entry_read
  pointwise
  blk_ext [index t, tok]

theorem entry_d : iblk m c 1 t (ix2 r e) = argD m c (ix3 0 (tok t r) e) := by
  blk_simp [iblk]
  entry_read
  pointwise
  blk_ext [index t, tok]

theorem emb_2 : (win0_2.blk t).view.emb (ix2 r k) = ix2 (tok t r) (col t k) := by
  blk_ext [index t, tok, col]

theorem entry_g : iblk m c 2 t (ix2 r k) = proj (argN m c) (argG m c) (tok t r) (col t k) := by
  unfold proj
  blk_simp [iblk]
  rw [emb_2]
  entry_read
  pointwise

theorem emb_3 : (win0_3.blk t).view.emb (ix2 r k) = ix2 (tok t r) (col t k) := by
  blk_ext [index t, tok, col]

theorem entry_u : iblk m c 3 t (ix2 r k) = proj (argN m c) (argU m c) (tok t r) (col t k) := by
  unfold proj
  blk_simp [iblk]
  rw [emb_3]
  entry_read
  pointwise

theorem entry_wg : iblk m c 4 t (ix2 k e) = argG m c (ix3 0 e (col t k)) := by
  blk_simp [iblk]
  entry_read
  pointwise
  blk_ext [index t, col]

theorem entry_wu : iblk m c 5 t (ix2 k e) = argU m c (ix3 0 e (col t k)) := by
  blk_simp [iblk]
  entry_read
  pointwise
  blk_ext [index t, col]

theorem entry_wd : iblk m c 6 t (ix2 k e) = argW m c (ix3 0 (col t k) e) := by
  blk_simp [iblk]
  entry_read
  pointwise
  blk_ext [index t, col]

/-! ### The point's gradients -/

theorem dact_block : k0_pay15 (iblk m c 1 t) (iblk m c 6 t) (ix2 r k) = dact (argW m c) (argD m c) (tok t r) (col t k) := by
  unfold dact
  rw [pay15_at]
  exact Finset.sum_congr rfl fun i _ => by rw [entry_d, entry_wd]

theorem dup_block : k0_pay16 (iblk m c 1 t) (iblk m c 2 t) (iblk m c 6 t) (ix2 r k)
    = dup (argN m c) (argG m c) (argW m c) (argD m c) (tok t r) (col t k) := by
  rw [pay16_at, dact_block, entry_g]
  exact mul_comm _ _

theorem dgate_block : k0_pay17 (iblk m c 1 t) (iblk m c 2 t) (iblk m c 3 t) (iblk m c 6 t) (ix2 r k)
    = dgateVia (argN m c) (argG m c) (argU m c) (argW m c) (argD m c) (tok t r) (col t k) := by
  rw [pay17_at, dact_block, entry_g, entry_u]
  rfl

theorem act_block : k0_pay18 (iblk m c 2 t) (iblk m c 3 t) (ix2 r k) = act (argN m c) (argG m c) (argU m c) (tok t r) (col t k) := by
  rw [pay18_at, entry_g, entry_u]
  rfl

end Cert.FfnBwdIdeal.Value

end
-- ==== Proof.FfbSum.lean ====
module

public import proofs.«01_k».proof.Proof.FfbFrame
public import proofs.«01_k».proof.Proof.FfbBlock

/-! The carried buffers over the grid, entry by entry: sums over the points since the last reset. -/

@[expose] public section

set_option maxRecDepth 16384

noncomputable section

open Idealize.ShloMosaic Idealize.ShloMosaic.TcCoe Idealize.SL.Sem

namespace Cert.FfnBwdIdeal.Value

open Cert.FfnBwdIdeal Cert.FfnBwdIdeal.Gen Cert.FfbFrame

open Cert.Layer Cert.Layer.Ffn Cert.Layer.Ffb

/-! ### Sums with resets -/

theorem point_lt (j : Fin 11) (i : Fin 4) : 4 * j.val + i.val < cfg0.N := by
  have h : cfg0.N = 44 := rfl
  omega

/-- The point of weight block `j` and token block `i`. -/
def point (j : Fin 11) (i : Fin 4) : Fin cfg0.N := ⟨4 * j.val + i.val, point_lt j i⟩

theorem point_val (j : Fin 11) (i : Fin 4) : (point j i).val = 4 * j.val + i.val := rfl

/-- A value that is reset at the first point of each weight block and has a term added at every point is, after the block's last, the sum of
    the block's four terms. -/
theorem sum_of_block (a : ℕ → EReal) (T : Fin cfg0.N → EReal)
    (h : ∀ t : Fin cfg0.N, a (t.val + 1) = (if t.val % 4 = 0 then 0 else a t.val) + T t) (j : Fin 11) :
    a (4 * j.val + 4) = ∑ i, T (point j i) := by
  have h0 := h (point j 0)
  have h1 := h (point j 1)
  have h2 := h (point j 2)
  have h3 := h (point j 3)
  rw [point_val] at h0 h1 h2 h3
  simp only [Fin.val_zero, Fin.val_one, Fin.val_two, show ((3 : Fin 4) : ℕ) = 3 from rfl] at h0 h1 h2 h3
  rw [if_pos (by omega), zero_add] at h0
  rw [if_neg (by omega), h0] at h1
  rw [if_neg (by omega), h1] at h2
  rw [if_neg (by omega), h2] at h3
  rw [h3, Fin.sum_univ_four]

/-- A value that is reset in the first weight block and has a term added at each point of one token block, and stays at the others, is, after
    the last weight block's point, the sum of those terms. -/
theorem sum_of_rows (a : ℕ → EReal) (T : Fin cfg0.N → EReal) (i : Fin 4)
    (h : ∀ t : Fin cfg0.N, t.val % 4 = i.val → a (t.val + 1) = (if t.val / 4 = 0 then 0 else a t.val) + T t)
    (h' : ∀ t : Fin cfg0.N, t.val % 4 ≠ i.val → a (t.val + 1) = a t.val) : a (40 + i.val + 1) = ∑ j, T (point j i) := by
  have key : ∀ (n : ℕ) (hn : n < 11), a (4 * n + i.val + 1) = ∑ j : Fin (n + 1), T (point ⟨j.val, by omega⟩ i) := by
    intro n
    induction n with
    | zero =>
      intro hn
      have e := h (point 0 i) (by rw [point_val, Fin.val_zero]; omega)
      rw [point_val, Fin.val_zero, if_pos (by omega), zero_add] at e
      rw [e, Fin.sum_univ_one]
      rfl
    | succ n ih =>
      intro hn
      have hN : cfg0.N = 44 := rfl
      have e := h (point ⟨n + 1, hn⟩ i) (by rw [point_val]; omega)
      have e1 := h' ⟨4 * n + i.val + 1, by omega⟩ (by dsimp only; omega)
      have e2 := h' ⟨4 * n + i.val + 1 + 1, by omega⟩ (by dsimp only; omega)
      have e3 := h' ⟨4 * n + i.val + 1 + 1 + 1, by omega⟩ (by dsimp only; omega)
      dsimp only at e1 e2 e3
      rw [point_val] at e
      dsimp only at e
      rw [if_neg (by omega), show 4 * (n + 1) + i.val = 4 * n + i.val + 1 + 1 + 1 + 1 by omega, e3, e2, e1, ih (by omega)] at e
      rw [show 4 * (n + 1) + i.val + 1 = 4 * n + i.val + 1 + 1 + 1 + 1 + 1 by omega, e]
      exact (Fin.sum_univ_castSucc fun j : Fin (n + 1 + 1) => T (point ⟨j.val, by omega⟩ i)).symm
  have e := key 10 (by omega)
  rw [show 40 + i.val + 1 = 4 * 10 + i.val + 1 by omega, e]

/-! ### The steps, entry by entry -/

variable (m : (ℓ : Loc nD τ sig) → Buf (Elt Ideal) ℓ) (c : Dev nD) (t : Fin cfg0.N) (s : Carried Ideal) (r e : Fin 1024) (k : Fin 256)

theorem first_iff : ∀ t : Fin cfg0.N, First (grid0.coords t) ↔ t.val % 4 = 0 := (by decide +kernel : ∀ t : Fin grid0.N, _)

theorem cond2_iff : ∀ t : Fin cfg0.N, k0_cond2 (grid0.coords t) = 1#1 ↔ t.val / 4 = 0 := (by decide +kernel : ∀ t : Fin grid0.N, _)

theorem cond3_of : ∀ t : Fin cfg0.N, t.val % 4 = 3 → k0_cond3 (grid0.coords t) = 1#1 := (by decide +kernel : ∀ t : Fin grid0.N, _)

theorem cond4_of : ∀ t : Fin cfg0.N, t.val / 4 = 10 → k0_cond4 (grid0.coords t) = 1#1 := (by decide +kernel : ∀ t : Fin grid0.N, _)

theorem rows_off : ∀ t : Fin cfg0.N, k0_off2 (grid0.coords t) = ![1024 * (t.val % 4), 0] := (by decide +kernel : ∀ t : Fin grid0.N, _)

theorem gate_step : (stepAt m c t s).gate (ix2 k e) = (if t.val % 4 = 0 then 0 else s.gate (ix2 k e))
    + ∑ r, dgateVia (argN m c) (argG m c) (argU m c) (argW m c) (argD m c) (tok t r) (col t k) * argN m c (ix3 0 (tok t r) e) := by
  unfold stepAt step start
  dsimp only
  rw [pay20_at]
  refine congrArg₂ (· + ·) ?_ (Finset.sum_congr rfl fun r _ => by rw [dgate_block, entry_n])
  by_cases h : t.val % 4 = 0
  · rw [if_pos h, if_pos ((first_iff t).mpr h), pay5_at]
  · rw [if_neg h, if_neg (mt (first_iff t).mp h)]

theorem up_step : (stepAt m c t s).up (ix2 k e) = (if t.val % 4 = 0 then 0 else s.up (ix2 k e))
    + ∑ r, dup (argN m c) (argG m c) (argW m c) (argD m c) (tok t r) (col t k) * argN m c (ix3 0 (tok t r) e) := by
  unfold stepAt step start
  dsimp only
  rw [pay21_at]
  refine congrArg₂ (· + ·) ?_ (Finset.sum_congr rfl fun r _ => by rw [dup_block, entry_n])
  by_cases h : t.val % 4 = 0
  · rw [if_pos h, if_pos ((first_iff t).mpr h), pay6_at]
  · rw [if_neg h, if_neg (mt (first_iff t).mp h)]

theorem down_step : (stepAt m c t s).down (ix2 k e) = (if t.val % 4 = 0 then 0 else s.down (ix2 k e))
    + ∑ r, act (argN m c) (argG m c) (argU m c) (tok t r) (col t k) * argD m c (ix3 0 (tok t r) e) := by
  unfold stepAt step start
  dsimp only
  rw [pay19_at]
  refine congrArg₂ (· + ·) ?_ (Finset.sum_congr rfl fun r _ => by rw [act_block, entry_d])
  by_cases h : t.val % 4 = 0
  · rw [if_pos h, if_pos ((first_iff t).mpr h), pay7_at]
  · rw [if_neg h, if_neg (mt (first_iff t).mp h)]

theorem rows_inb (i : Fin 4) : ∀ a, (![1024 * i.val, 0] : Fin 2 → ℕ) a + S1024x1024.size a ≤ S4096x1024.size a := by
  intro a
  match a with
  | ⟨0, _⟩ => show 1024 * i.val + 1024 ≤ 4096; omega
  | ⟨1, _⟩ => exact le_refl 1024

/-- The rows of token block `i`. -/
def rowsOf (i : Fin 4) (D : Vec Ideal S4096x1024 .f32) : Vec Ideal S1024x1024 .f32 :=
  VecWindow.window D ![1024 * i.val, 0] S1024x1024.size (rows_inb i)

theorem rowsOf_put_same (i : Fin 4) {off : Fin 2 → ℕ} (h : off = ![1024 * i.val, 0]) (D : Vec Ideal S4096x1024 .f32) (w : Vec Ideal S1024x1024 .f32) :
    rowsOf i (VecWindow.put (s := S4096x1024) D off S1024x1024.size w) = w := by
  subst h
  exact VecWindow.window_put_same (s := S4096x1024) D ![1024 * i.val, 0] S1024x1024.size (rows_inb i) w

theorem rowsOf_put_other (i i' : Fin 4) (hi : i' ≠ i) {off : Fin 2 → ℕ} (h : off = ![1024 * i'.val, 0]) (D : Vec Ideal S4096x1024 .f32)
    (w : Vec Ideal S1024x1024 .f32) : rowsOf i (VecWindow.put (s := S4096x1024) D off S1024x1024.size w) = rowsOf i D := by
  subst h
  refine VecWindow.window_put_of_disjoint (s := S4096x1024) D ![1024 * i'.val, 0] S1024x1024.size ![1024 * i.val, 0] S1024x1024.size (rows_inb i) w 0 ?_
  have hv : i'.val ≠ i.val := fun e => hi (Fin.ext e)
  show 1024 * i.val + 1024 ≤ 1024 * i'.val ∨ 1024 * i'.val + 1024 ≤ 1024 * i.val
  omega

/-- The token block of a point. -/
def blockOf (t : Fin cfg0.N) : Fin 4 := ⟨t.val % 4, by omega⟩

theorem rowsAt_eq (D : Vec Ideal S4096x1024 .f32) : rowsAt (grid0.coords t) D = rowsOf (blockOf t) D := by
  have h := rows_off t
  unfold rowsAt rowsOf
  generalize hp : k0_off2_inb (grid0.coords t) = p
  clear hp
  revert p
  rw [h]
  intro p
  rfl

theorem start_other (i : Fin 4) (h : t.val % 4 ≠ i.val) : rowsOf i (start (grid0.coords t) s).rows = rowsOf i s.rows := by
  unfold start
  dsimp only
  by_cases hc : k0_cond2 (grid0.coords t) = 1#1
  · rw [if_pos hc]
    exact rowsOf_put_other i (blockOf t) (fun e => h (congrArg Fin.val e)) (rows_off t) _ _
  · rw [if_neg hc]

theorem start_same : rowsOf (blockOf t) (start (grid0.coords t) s).rows (ix2 r e) = if t.val / 4 = 0 then 0 else rowsOf (blockOf t) s.rows (ix2 r e) := by
  unfold start
  dsimp only
  by_cases h : t.val / 4 = 0
  · rw [if_pos h, if_pos ((cond2_iff t).mpr h), rowsOf_put_same (blockOf t) (rows_off t), pay8_at]
  · rw [if_neg h, if_neg (mt (cond2_iff t).mp h)]

theorem rows_step_other (i : Fin 4) (h : t.val % 4 ≠ i.val) : rowsOf i (stepAt m c t s).rows = rowsOf i s.rows := by
  refine Eq.trans ?_ (start_other t s i h)
  unfold stepAt step
  exact rowsOf_put_other i (blockOf t) (fun e => h (congrArg Fin.val e)) (rows_off t) _ _

theorem rows_step_same : rowsOf (blockOf t) (stepAt m c t s).rows (ix2 r e) = (if t.val / 4 = 0 then 0 else rowsOf (blockOf t) s.rows (ix2 r e))
    + (∑ k, dgateVia (argN m c) (argG m c) (argU m c) (argW m c) (argD m c) (tok t r) (col t k) * argG m c (ix3 0 e (col t k))
      + ∑ k, dup (argN m c) (argG m c) (argW m c) (argD m c) (tok t r) (col t k) * argU m c (ix3 0 e (col t k))) := by
  rw [← start_same]
  unfold stepAt step
  dsimp only
  rw [rowsOf_put_same (blockOf t) (rows_off t), pay22_at, rowsAt_eq]
  exact congrArg₂ (· + ·) rfl (congrArg₂ (· + ·) (Finset.sum_congr rfl fun k _ => by rw [dgate_block, entry_wg])
    (Finset.sum_congr rfl fun k _ => by rw [dup_block, entry_wu]))

end Cert.FfnBwdIdeal.Value

end
-- ==== Proof.FfbFinal.lean ====
module

public import proofs.«01_k».proof.Proof.FfbSum

/-! The four arrays that the kernel of the feed-forward block's backward pass leaves. -/

@[expose] public section

set_option maxRecDepth 16384

noncomputable section

open Idealize.ShloMosaic Idealize.ShloMosaic.TcCoe Idealize.SL.Sem
open Idealize.ShloMosaic.Pipeline (Dat)

namespace Cert.FfnBwdIdeal.Value

open Cert.FfnBwdIdeal Cert.FfnBwdIdeal.Gen Cert.FfbFrame

open Cert.Layer Cert.Layer.Ffn Cert.Layer.Ffb

theorem row_lt (i : Fin 4) (r : Fin 1024) : 1024 * i.val + r.val < 4096 := by omega

theorem hid_lt (j : Fin 11) (k : Fin 256) : 256 * j.val + k.val < 2816 := by omega

theorem tok_point (j : Fin 11) (i : Fin 4) (r : Fin 1024) : tok (point j i) r = ⟨1024 * i.val + r.val, row_lt i r⟩ := by
  refine Fin.ext ?_
  show 1024 * ((4 * j.val + i.val) % 4) + r.val = _
  have := i.isLt
  rw [show (4 * j.val + i.val) % 4 = i.val by omega]

theorem col_point (j : Fin 11) (i : Fin 4) (k : Fin 256) : col (point j i) k = ⟨256 * j.val + k.val, hid_lt j k⟩ := by
  refine Fin.ext ?_
  show 256 * ((4 * j.val + i.val) / 4) + k.val = _
  have := i.isLt
  rw [show (4 * j.val + i.val) / 4 = j.val by omega]

/-- A point is the point of its weight block and its token block. -/
theorem eq_point (t : Fin cfg0.N) : ∃ (j : Fin 11) (i : Fin 4), t = point j i := by
  have h := count t
  refine ⟨⟨t.val / 4, by omega⟩, ⟨t.val % 4, by omega⟩, Fin.ext ?_⟩
  show t.val = 4 * (t.val / 4) + t.val % 4
  omega

variable (m : (ℓ : Loc nD τ sig) → Buf (Elt Ideal) ℓ) (c : Dev nD) (s : Carried Ideal) (e r : Fin 1024) (k : Fin 256)

/-- The four sums over the tokens' blocks make the sum over the tokens. -/
theorem sum_tokens (f : Fin 4096 → Fin 2816 → EReal) (n : Tokens) (j : Fin 11) :
    ∑ i, ∑ r, f (tok (point j i) r) (col (point j i) k) * n (ix3 0 (tok (point j i) r) e) = dweight f n (col (point j 3) k) e := by
  simp only [tok_point, col_point]
  exact sum_blocks (N := 4) (n := 1024) (T := 4096) rfl (fun r => f r ⟨256 * j.val + k.val, hid_lt j k⟩ * n (ix3 0 r e)) row_lt

theorem sum_gate (j : Fin 11) : (stepAt m c (point j 3) (before m c s (point j 3).val)).gate (ix2 k e)
    = dweight (dgateVia (argN m c) (argG m c) (argU m c) (argW m c) (argD m c)) (argN m c) (col (point j 3) k) e := by
  rw [← before_succ, ← sum_tokens]
  refine sum_of_block (fun n => (before m c s n).gate (ix2 k e)) (fun t => ∑ r, dgateVia (argN m c) (argG m c) (argU m c) (argW m c) (argD m c)
    (tok t r) (col t k) * argN m c (ix3 0 (tok t r) e)) (fun t => ?_) j
  rw [before_succ]
  exact gate_step m c t _ e k

theorem sum_up (j : Fin 11) : (stepAt m c (point j 3) (before m c s (point j 3).val)).up (ix2 k e)
    = dweight (dup (argN m c) (argG m c) (argW m c) (argD m c)) (argN m c) (col (point j 3) k) e := by
  rw [← before_succ, ← sum_tokens]
  refine sum_of_block (fun n => (before m c s n).up (ix2 k e)) (fun t => ∑ r, dup (argN m c) (argG m c) (argW m c) (argD m c)
    (tok t r) (col t k) * argN m c (ix3 0 (tok t r) e)) (fun t => ?_) j
  rw [before_succ]
  exact up_step m c t _ e k

theorem sum_down (j : Fin 11) : (stepAt m c (point j 3) (before m c s (point j 3).val)).down (ix2 k e)
    = dweight (act (argN m c) (argG m c) (argU m c)) (argD m c) (col (point j 3) k) e := by
  rw [← before_succ, ← sum_tokens]
  refine sum_of_block (fun n => (before m c s n).down (ix2 k e)) (fun t => ∑ r, act (argN m c) (argG m c) (argU m c)
    (tok t r) (col t k) * argD m c (ix3 0 (tok t r) e)) (fun t => ?_) j
  rw [before_succ]
  exact down_step m c t _ e k

/-- The eleven sums over the hidden units' blocks make the sum over the hidden units. -/
theorem sum_hidden (f g : Fin 4096 → Fin 2816 → EReal) (u v : Up) (i : Fin 4) :
    ∑ j, (∑ k, f (tok (point j i) r) (col (point j i) k) * u (ix3 0 e (col (point j i) k))
        + ∑ k, g (tok (point j i) r) (col (point j i) k) * v (ix3 0 e (col (point j i) k)))
      = dinput f g u v (tok (point 10 i) r) e := by
  simp only [tok_point, col_point]
  rw [Finset.sum_add_distrib, add_comm]
  unfold dinput
  exact congrArg₂ (· + ·)
    (sum_blocks (N := 11) (n := 256) (T := 2816) rfl (fun k => g ⟨1024 * i.val + r.val, row_lt i r⟩ k * v (ix3 0 e k)) hid_lt)
    (sum_blocks (N := 11) (n := 256) (T := 2816) rfl (fun k => f ⟨1024 * i.val + r.val, row_lt i r⟩ k * u (ix3 0 e k)) hid_lt)

theorem blockOf_point (j : Fin 11) (i : Fin 4) : blockOf (point j i) = i := by
  refine Fin.ext ?_
  show (4 * j.val + i.val) % 4 = i.val
  omega

theorem sum_rows (i : Fin 4) :
    rowsAt (grid0.coords (point 10 i)) (stepAt m c (point 10 i) (before m c s (point 10 i).val)).rows (ix2 r e)
      = dinput (dgateVia (argN m c) (argG m c) (argU m c) (argW m c) (argD m c)) (dup (argN m c) (argG m c) (argW m c) (argD m c)) (argG m c) (argU m c) (tok (point 10 i) r) e := by
  rw [← before_succ, rowsAt_eq, blockOf_point, ← sum_hidden]
  refine sum_of_rows (fun n => rowsOf i (before m c s n).rows (ix2 r e)) (fun t =>
    ∑ k, dgateVia (argN m c) (argG m c) (argU m c) (argW m c) (argD m c) (tok t r) (col t k) * argG m c (ix3 0 e (col t k))
      + ∑ k, dup (argN m c) (argG m c) (argW m c) (argD m c) (tok t r) (col t k) * argU m c (ix3 0 e (col t k))) i (fun t h => ?_) fun t h => ?_
  · obtain rfl : blockOf t = i := Fin.ext h
    rw [before_succ]
    exact rows_step_same m c t _ r e
  · rw [before_succ, rows_step_other m c t _ i h]

/-! ### The arrays -/

/-- The gate weight's gradient. -/
def gateResult : Vec Ideal S2816x1024 .f32 := fun i : S2816x1024.Idx => dweight (dgateVia (argN m c) (argG m c) (argU m c) (argW m c) (argD m c)) (argN m c) (i 0) (i 1)

/-- The up weight's gradient. -/
def upResult : Vec Ideal S2816x1024 .f32 := fun i : S2816x1024.Idx => dweight (dup (argN m c) (argG m c) (argW m c) (argD m c)) (argN m c) (i 0) (i 1)

/-- The down weight's gradient. -/
def downResult : Vec Ideal S2816x1024 .f32 := fun i : S2816x1024.Idx => dweight (act (argN m c) (argG m c) (argU m c)) (argD m c) (i 0) (i 1)

/-- The input's gradient. -/
def rowsResult : Vec Ideal S4096x1024 .f32 := fun i : S4096x1024.Idx => dinput (dgateVia (argN m c) (argG m c) (argU m c) (argW m c) (argD m c)) (dup (argN m c) (argG m c) (argW m c) (argD m c)) (argG m c) (argU m c) (i 0) (i 1)

variable (after : (w : Fin cfg0.W) → Fin cfg0.N → (cfg0.win w).block.Idx → Elt Ideal (cfg0.win w).elt)

/-- The data whose blocks are `after`'s. -/
abbrev left := ((dats m 0 c).toRRel marked (Leaves m c)).withAfter after

variable (hL : ∀ (w : Fin cfg0.W) (u : Fin cfg0.N), marked w = true → (cfg0.win w).flush u = true → Leaves m c w u (after w u))

include hL in
theorem final_gate : (left m c after).arrAt 7 cfg0.N = gateResult m c := by
  refine (left m c after).arrAt_eq_of_covers 7 _ (by decide +kernel) fun t hf y => ?_
  blk_simp
  obtain ⟨k, e, rfl⟩ : ∃ (k : Fin 256) (e : Fin 1024), y = ix2 k e := ⟨y 0, y 1, eq_ix2 y⟩
  have he : (win0_7.blk t).view.emb (ix2 k e) = ix2 (col t k) e := by
    blk_ext [index t, col]
  have h3 := (flush0_7 t).mp hf
  obtain ⟨s, hs⟩ := hL 7 t rfl hf (cond3_of t h3)
  rw [he]
  refine (congrFun hs (ix2 k e)).trans ?_
  obtain ⟨j, i, rfl⟩ := eq_point t
  obtain rfl : i = 3 := by
    refine Fin.ext ?_
    rw [point_val] at h3
    have := i.isLt
    show i.val = 3
    omega
  exact (pay1_at e k _).trans (sum_gate m c s e k j)

include hL in
theorem final_up : (left m c after).arrAt 8 cfg0.N = upResult m c := by
  refine (left m c after).arrAt_eq_of_covers 8 _ (by decide +kernel) fun t hf y => ?_
  blk_simp
  obtain ⟨k, e, rfl⟩ : ∃ (k : Fin 256) (e : Fin 1024), y = ix2 k e := ⟨y 0, y 1, eq_ix2 y⟩
  have he : (win0_8.blk t).view.emb (ix2 k e) = ix2 (col t k) e := by
    blk_ext [index t, col]
  have h3 := (flush0_8 t).mp hf
  obtain ⟨s, hs⟩ := hL 8 t rfl hf (cond3_of t h3)
  rw [he]
  refine (congrFun hs (ix2 k e)).trans ?_
  obtain ⟨j, i, rfl⟩ := eq_point t
  obtain rfl : i = 3 := by
    refine Fin.ext ?_
    rw [point_val] at h3
    have := i.isLt
    show i.val = 3
    omega
  exact (pay2_at e k _).trans (sum_up m c s e k j)

include hL in
theorem final_down : (left m c after).arrAt 9 cfg0.N = downResult m c := by
  refine (left m c after).arrAt_eq_of_covers 9 _ (by decide +kernel) fun t hf y => ?_
  blk_simp
  obtain ⟨k, e, rfl⟩ : ∃ (k : Fin 256) (e : Fin 1024), y = ix2 k e := ⟨y 0, y 1, eq_ix2 y⟩
  have he : (win0_9.blk t).view.emb (ix2 k e) = ix2 (col t k) e := by
    blk_ext [index t, col]
  have h3 := (flush0_9 t).mp hf
  obtain ⟨s, hs⟩ := hL 9 t rfl hf (cond3_of t h3)
  rw [he]
  refine (congrFun hs (ix2 k e)).trans ?_
  obtain ⟨j, i, rfl⟩ := eq_point t
  obtain rfl : i = 3 := by
    refine Fin.ext ?_
    rw [point_val] at h3
    have := i.isLt
    show i.val = 3
    omega
  exact (pay3_at e k _).trans (sum_down m c s e k j)

theorem flush_rows : ∀ t : Fin cfg0.N, (cfg0.win 10).flush t = true → t.val / 4 = 10 := (by decide +kernel : ∀ t : Fin grid0.N, _)

theorem index_10 : ∀ t : Fin cfg0.N, t.val / 4 = 10 → win0_10.index t = ![t.val % 4, 0] := (by decide +kernel : ∀ t : Fin grid0.N, _)

theorem emb_10 : ∀ t : Fin cfg0.N, t.val / 4 = 10 → (win0_10.blk t).view.emb (ix2 r e) = ix2 (tok t r) e := by
  intro t h
  have hi := index_10 t h
  blk_ext [hi, tok]

include hL in
theorem final_rows : (left m c after).arrAt 10 cfg0.N = rowsResult m c := by
  refine (left m c after).arrAt_eq_of_covers 10 _ (by decide +kernel) fun t hf y => ?_
  blk_simp
  obtain ⟨r, e, rfl⟩ : ∃ (r : Fin 1024) (e : Fin 1024), y = ix2 r e := ⟨y 0, y 1, eq_ix2 y⟩
  have h3 := flush_rows t hf
  obtain ⟨s, hs⟩ := hL 10 t rfl hf (cond4_of t h3)
  rw [emb_10 e r t h3]
  refine (congrFun hs (ix2 r e)).trans ?_
  obtain ⟨j, i, rfl⟩ := eq_point t
  obtain rfl : j = 10 := by
    refine Fin.ext ?_
    rw [point_val] at h3
    have := i.isLt
    show j.val = 10
    omega
  exact (pay4_at r e _).trans (sum_rows m c s e r i)

end Cert.FfnBwdIdeal.Value

end
-- ==== Proof.FfbClaim.lean ====
module

public import proofs.«01_k».proof.Defs
public import proofs.«01_k».proof.Proof.Gen.FfnBwd
public import proofs.«01_k».proof.Proof.FfbReference
public import proofs.«01_k».proof.Proof.FfbFinal
public import proofs.«01_k».proof.Proof.Gen.Pre_ffb_finite
public import proofs.«01_k».proof.Proof.InClaim

/-! The feed-forward block's backward pass: the frames of its kernel and of its reference, and the four results' values. -/

@[expose] public section

set_option maxRecDepth 16384

noncomputable section

open Idealize.ShloMosaic Idealize.ShloMosaic.TcCoe Idealize.SL.Sem

namespace Cert.Layer.Ffb

open Cert.Layer Cert.Layer.Ffn

/-- The precondition: the arrays hold real numbers. -/
theorem reals {n d : Tokens} {wg wu : Up} {wd : Down}
    (e : Cert.Pre_ffb_finite.fn (F := Ideal) n wg wu wd d = fun _ => 1#1) :
    (∀ i, IsReal (n i)) ∧ (∀ i, IsReal (wg i)) ∧ (∀ i, IsReal (wu i)) ∧ (∀ i, IsReal (wd i)) ∧ ∀ i, IsReal (d i) := by
  have e0 := congrFun e ix0
  unfold Cert.Pre_ffb_finite.fn Cert.Pre_ffb_finite.fn_part1 at e0
  obtain ⟨e1, hd⟩ := andi_one e0
  obtain ⟨e2, hw⟩ := andi_one e1
  obtain ⟨e3, hu⟩ := andi_one e2
  obtain ⟨hn, hg⟩ := andi_one e3
  exact ⟨real_of_all _ _ _ _ _ _ hn, real_of_all _ _ _ _ _ _ hg, real_of_all _ _ _ _ _ _ hu, real_of_all _ _ _ _ _ _ hw,
    real_of_all _ _ _ _ _ _ hd⟩

end Cert.Layer.Ffb

namespace Cert.Proof.Ffb

open Cert.Layer Cert.Layer.Ffn Cert.Layer.Ffb Cert.FfnBwdRefIdeal.Read Cert.FfnBwdIdeal.Value

/-- Every run of the kernel's program, at either number type: the arguments as they were launched, every counter at zero. -/
def Kept (F : FTy → Type) [FloatOps F] : Prop :=
  ∀ (m : (ℓ : Loc Cert.FfnBwdIdeal.nD Cert.FfnBwdIdeal.τ Cert.FfnBwdIdeal.sig) → Buf (Elt F) ℓ) (g : Dev Cert.FfnBwdIdeal.nD → PrngReg), True →
    θ_run (Cert.FfnBwdIdeal.defs (F := F)) (onTc (τ := Cert.FfnBwdIdeal.τ) (Cert.FfnBwdIdeal.main (F := F))) ⟨m, fun _ => 0, g⟩
      (fun r => (∀ c : Dev Cert.FfnBwdIdeal.nD, r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
        ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
        ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
        ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
        ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)) ∧ r.2.sem = fun _ => 0)

theorem kept (F : FTy → Type) [FloatOps F] : Kept F := fun m g _ =>
  (θ_run Cert.FfnBwdIdeal.defs _ _).mono (fun _ h => ⟨fun c => Cert.FfbFrame.arguments h.1 c, h.2⟩)
    (Cert.FfbFrame.run_main (F := F) m g)

theorem frame_kernel_ideal : Cert.quiescent_FfnBwdIdeal := kept Ideal

theorem frame_kernel_pre : Cert.quiescent_FfnBwdIdeal_pre_ffb_finite := fun m g _ => frame_kernel_ideal m g trivial

theorem same : Cert.quiescent_FfnBwd = Kept Bits := by sl_kernel_rfl

theorem frame_kernel : Cert.quiescent_FfnBwd := same.mpr (kept Bits)

theorem frame_ref : Cert.quiescent_FfnBwdRefIdeal := fun m g _ =>
  (θ_run Cert.FfnBwdRefIdeal.defs _ _).mono (fun r h => ⟨fun c => (h c).2.2.2.2, sem_eq_zero_of_no_sems (by decide) r.2⟩)
    (Cert.FfnBwdRefIdeal.Value.run (F := Ideal) m g)

theorem frame_ref_pre : Cert.quiescent_FfnBwdRefIdeal_pre_ffb_finite := fun m g _ => frame_ref m g trivial

theorem algebraic : Cert.algebraic_FfnBwdIdeal_FfnBwdRefIdeal_pre_ffb_finite := by
  intro m g m' g' hpre hagree
  refine ⟨gateResult m, upResult m, downResult m, rowsResult m, ?_, ?_⟩
  · refine (θ_run Cert.FfnBwdIdeal.defs _ _).mono (fun r h => ?_) (Cert.FfbFrame.run_main (F := Ideal) m g)
    intro c
    obtain ⟨after, hL, hA⟩ := Cert.FfbFrame.results h.1 c
    exact ⟨(hA 7).trans (final_gate m c after hL), (hA 8).trans (final_up m c after hL), (hA 9).trans (final_down m c after hL),
      (hA 10).trans (final_rows m c after hL), Cert.FfbFrame.arguments h.1 c⟩
  · obtain ⟨hn, hg, hu, hw, hd⟩ := reals (hpre 0)
    refine Idealize.ShloMosaic.θ_run_mono (Cert.FfnBwdRefIdeal.Value.run m' g') ?_
    intro r hr c
    obtain ⟨h0, h1, h2, h3, hargs⟩ := hr c
    obtain ⟨a0, a1, a2, a3, a4⟩ := hagree c
    obtain rfl : c = 0 := Subsingleton.elim _ _
    have heq := funext fun r => funext fun k => dgate_eq hn hg hu hw hd r k
    refine ⟨h0.trans ?_, h1.trans ?_, h2.trans ?_, h3.trans ?_, hargs⟩
    · refine Eq.trans (val_main_v26_eq _ _ _ _ _) ?_
      rw [a0, a1, a2, a3, a4]
      funext i
      obtain ⟨k, e, rfl⟩ : ∃ (k : Fin 2816) (e : Fin 1024), i = ix2 k e := ⟨i 0, i 1, eq_ix2 i⟩
      refine (v26_at _ _ _ _ _ k e).trans ?_
      rw [← heq]
      rfl
    · refine Eq.trans (val_main_v29_eq _ _ _ _) ?_
      rw [a0, a1, a3, a4]
      funext i
      obtain ⟨k, e, rfl⟩ : ∃ (k : Fin 2816) (e : Fin 1024), i = ix2 k e := ⟨i 0, i 1, eq_ix2 i⟩
      exact (v29_at _ _ _ _ k e)
    · refine Eq.trans (val_main_v31_eq _ _ _ _) ?_
      rw [a0, a1, a2, a4]
      funext i
      obtain ⟨k, e, rfl⟩ : ∃ (k : Fin 2816) (e : Fin 1024), i = ix2 k e := ⟨i 0, i 1, eq_ix2 i⟩
      exact (v31_at _ _ _ _ k e)
    · refine Eq.trans (val_main_v32_eq _ _ _ _ _) ?_
      rw [a0, a1, a2, a3, a4]
      funext i
      obtain ⟨r, e, rfl⟩ : ∃ (r : Fin 4096) (e : Fin 1024), i = ix2 r e := ⟨i 0, i 1, eq_ix2 i⟩
      refine (v32_at _ _ _ _ _ r e).trans ?_
      rw [← heq]
      rfl

end Cert.Proof.Ffb

end
-- ==== Proof.OutSpec.lean ====
module

public import proofs.«01_k».proof.Proof.RmsBackward

/-! The seven results of the mixer output's backward pass, as functions of its arrays. -/

@[expose] public section

noncomputable section

open Idealize.ShloMosaic

namespace Cert.Layer.Out

abbrev Tokens : Type := (⟨3, ![1, 4096, 1024]⟩ : Shape).Idx → EReal
abbrev Group : Type := (⟨3, ![1, 4096, 512]⟩ : Shape).Idx → EReal
abbrev Gain : Type := (⟨2, ![1, 512]⟩ : Shape).Idx → EReal
abbrev Weight : Type := (⟨3, ![1, 1024, 1024]⟩ : Shape).Idx → EReal
abbrev Gain2 : Type := (⟨2, ![1, 1024]⟩ : Shape).Idx → EReal

/-! ### One group's normalisation -/

section Groups

variable (y : Group) (g : Gain) (r : Fin 4096) (k : Fin 512)

/-- Token `r` of a group. -/
def row : Fin 512 → EReal := fun k => y (ix3 0 r k)

/-- The reciprocal root mean square of a group's token `r`. -/
def rstd : EReal := Ideal.rsqrt (msOf 1140850688#32 (row y r))

def normed : EReal := row y r k * rstd y r

def scaled : EReal := normed y r k * g (ix2 0 k)

variable (d : Fin 4096 → Fin 512 → EReal)

/-- The gradient with respect to the normalised group, from the gradient `d` with respect to the scaled one. -/
def du : Fin 512 → EReal := fun k => d r k * g (ix2 0 k)

/-- The gradient with respect to the group, as the kernel takes it. -/
def dgroup : EReal := rmsGradOf 1140850688#32 (row y r) (du g r d) k

/-- The gradient with respect to the group, as the chain rule gives it. -/
def dgroupVia : EReal :=
  du g r d k * rstd y r + row y r k * rmsViaOf 1140850688#32 (row y r) (du g r d)
    + rmsViaOf 1140850688#32 (row y r) (du g r d) * row y r k

/-- The gradient with respect to the group's gain. -/
def dgain : EReal := ∑ r, d r k * normed y r k

end Groups

/-! ### The whole call -/

variable (x : Tokens) (yp yl : Group) (gp gl : Gain) (w : Weight) (g2 : Gain2) (dh dn : Tokens)

theorem sub_lt {i : Fin 1024} (h : ¬i.val < 512) : i.val - 512 < 512 := by omega

/-- The two groups, normalised and scaled, side by side. -/
def mix (r : Fin 4096) (i : Fin 1024) : EReal :=
  if h : i.val < 512 then scaled yp gp r ⟨i.val, h⟩ else scaled yl gl r ⟨i.val - 512, sub_lt h⟩

/-- The residual stream after the mixer. -/
def hid (r : Fin 4096) : Fin 1024 → EReal := fun j => x (ix3 0 r j) + ∑ i, mix yp yl gp gl r i * w (ix3 0 i j)

/-- The gradient with respect to the normalised stream. -/
def du2 (r : Fin 4096) : Fin 1024 → EReal := fun j => dn (ix3 0 r j) * g2 (ix2 0 j)

/-- The gradient with respect to the stream, as the kernel takes it, from the stream `h`. -/
def dhid (h : Fin 4096 → Fin 1024 → EReal) (r : Fin 4096) (j : Fin 1024) : EReal := dh (ix3 0 r j) + rmsGrad (h r) (du2 g2 dn r) j

/-- The gradient with respect to the stream, as the chain rule gives it. -/
def dhidVia (h : Fin 4096 → Fin 1024 → EReal) (r : Fin 4096) (j : Fin 1024) : EReal :=
  dh (ix3 0 r j) + du2 g2 dn r j * Ideal.rsqrt (ms (h r)) + h r j * rmsVia (h r) (du2 g2 dn r) + rmsVia (h r) (du2 g2 dn r) * h r j

/-- The gradient with respect to the second gain. -/
def dg2 (h : Fin 4096 → Fin 1024 → EReal) (j : Fin 1024) : EReal := ∑ r, dn (ix3 0 r j) * (h r j * Ideal.rsqrt (ms (h r)))

variable (e : Fin 4096 → Fin 1024 → EReal)

/-- The gradient with respect to the weights, from the gradient `e` with respect to the stream. -/
def dw (i j : Fin 1024) : EReal := ∑ r, mix yp yl gp gl r i * e r j

/-- The gradient with respect to the mixer's column `i`. -/
def dmix (r : Fin 4096) (i : Fin 1024) : EReal := ∑ j, e r j * w (ix3 0 i j)

/-- The first group's columns. -/
def pooled (r : Fin 4096) (k : Fin 512) : EReal := dmix w e r ⟨k.val, by omega⟩

/-- The second group's columns. -/
def lru (r : Fin 4096) (k : Fin 512) : EReal := dmix w e r ⟨512 + k.val, by omega⟩

/-! ### Real numbers -/

variable {x yp yl gp gl w g2 dh dn e} (hx : ∀ i, IsReal (x i)) (hyp : ∀ i, IsReal (yp i)) (hyl : ∀ i, IsReal (yl i))
  (hgp : ∀ i, IsReal (gp i)) (hgl : ∀ i, IsReal (gl i)) (hw : ∀ i, IsReal (w i)) (hg2 : ∀ i, IsReal (g2 i)) (hdh : ∀ i, IsReal (dh i))
  (hdn : ∀ i, IsReal (dn i))

theorem scaled_real {y : Group} {g : Gain} (hy : ∀ i, IsReal (y i)) (hg : ∀ i, IsReal (g i)) (r : Fin 4096) (k : Fin 512) :
    IsReal (scaled y g r k) := by
  unfold scaled normed rstd
  exact (IsReal.mul (hy _) (rsqrt_msOf_real bits_512 (by norm_num) fun k => hy _)).mul (hg _)

include hyp hyl hgp hgl in
theorem mix_real (r : Fin 4096) (i : Fin 1024) : IsReal (mix yp yl gp gl r i) := by
  unfold mix
  split_ifs
  · exact scaled_real hyp hgp _ _
  · exact scaled_real hyl hgl _ _

include hx hyp hyl hgp hgl hw in
theorem hid_real (r : Fin 4096) (j : Fin 1024) : IsReal (hid x yp yl gp gl w r j) := by
  unfold hid
  exact (hx _).add (IsReal.sum _ fun i => (mix_real hyp hyl hgp hgl r i).mul (hw _))

include hg2 hdn in
theorem du2_real (r : Fin 4096) (j : Fin 1024) : IsReal (du2 g2 dn r j) := (hdn _).mul (hg2 _)

variable {h : Fin 4096 → Fin 1024 → EReal} (hh : ∀ r j, IsReal (h r j))

include hg2 hdn hh in
theorem dhid_eq (r : Fin 4096) (j : Fin 1024) : dhid g2 dh dn h r j = dhidVia g2 dh dn h r j := by
  unfold dhid dhidVia
  rw [rmsGrad_eq (hh r) (du2_real hg2 hdn r) j, add_assoc, add_assoc, add_assoc]

include hg2 hdh hdn hh in
theorem dhid_real (r : Fin 4096) (j : Fin 1024) : IsReal (dhid g2 dh dn h r j) :=
  (hdh _).add (rmsGrad_real (hh r) (du2_real hg2 hdn r) j)

include hw in
theorem dmix_real (he : ∀ r j, IsReal (e r j)) (r : Fin 4096) (i : Fin 1024) : IsReal (dmix w e r i) :=
  IsReal.sum _ fun j => (he _ _).mul (hw _)

theorem dgroup_eq {y : Group} {g : Gain} {d : Fin 4096 → Fin 512 → EReal} (hy : ∀ i, IsReal (y i)) (hg : ∀ i, IsReal (g i))
    (hd : ∀ r k, IsReal (d r k)) (r : Fin 4096) (k : Fin 512) : dgroup y g r k d = dgroupVia y g r k d :=
  rmsGradOf_eq bits_512 (by norm_num) (fun k => hy _) (fun k => (hd _ _).mul (hg _)) k

end Cert.Layer.Out

end
-- ==== Proof.OutReference.lean ====
module

public import proofs.«01_k».proof.Proof.Gen.BwdOutRefIdeal.Run
public import proofs.«01_k».proof.Proof.Gen.BwdOutRefIdeal.Read
public import proofs.«01_k».proof.Proof.OutSpec
public import proofs.«01_k».proof.Proof.TrivialSums
public import Idealize.ShloMosaic.Lib.Pipeline.ValueKit
public import Idealize.ShloMosaic.Lib.Pointwise

/-! The reference of the mixer output's backward pass, read entry by entry. -/

@[expose] public section

set_option maxRecDepth 16384

noncomputable section

open Idealize.ShloMosaic Idealize.ShloMosaic.TcCoe Idealize.SL.Sem
open Idealize.ShloMosaic.Pipeline (Dat)

namespace Cert.BwdOutRefIdeal.Read

open Cert.BwdOutRefIdeal Cert.BwdOutRefIdeal.Gen

open Cert.Layer Cert.Layer.Out

variable (x0 : Tokens) (x1 x2 : Group) (x3 x4 : Gain) (x5 : Weight) (x6 : Gain2) (x7 x8 : Tokens)
variable (r : Fin 4096) (k : Fin 512) (j i : Fin 1024)

/-! ### The forward values -/

theorem v8_at : val_main_v8 (F := Ideal) x1 (ix3 0 r 0) = rstd x1 r := by
  unfold rstd msOf row
  pointwise [val_main_v8, val_main_v7, val_main_v6, val_main_v5, val_main_v4, val_main_v3, val_main_v2, val_main_v1, val_main_cst,
    val_main_cst_0, val_main_cst_1]

theorem v25_at : val_main_v25 (F := Ideal) x2 (ix3 0 r 0) = rstd x2 r := by
  unfold rstd msOf row
  pointwise [val_main_v25, val_main_v24, val_main_v23, val_main_v22, val_main_v21, val_main_v20, val_main_v19, val_main_v18, val_main_cst_3,
    val_main_cst_4, val_main_cst_5]

theorem v13_at : val_main_v13 (F := Ideal) x1 (ix3 0 r k) = normed x1 r k := by
  unfold normed
  rw [← v8_at]
  unfold row
  pointwise [val_main_v13, val_main_v12]

theorem v30_at : val_main_v30 (F := Ideal) x2 (ix3 0 r k) = normed x2 r k := by
  unfold normed
  rw [← v25_at]
  unfold row
  pointwise [val_main_v30, val_main_v29]

theorem v9_at : val_main_v9 (F := Ideal) x1 (ix3 0 r 0)
    = Ideal.div (Ideal.rsqrt (msOf 1140850688#32 (row x1 r))) (msOf 1140850688#32 (row x1 r)) := by
  unfold msOf row
  pointwise [val_main_v9, val_main_v8, val_main_v7, val_main_v6, val_main_v5, val_main_v4, val_main_v3, val_main_v2, val_main_v1,
    val_main_cst, val_main_cst_0, val_main_cst_1]

theorem v26_at : val_main_v26 (F := Ideal) x2 (ix3 0 r 0)
    = Ideal.div (Ideal.rsqrt (msOf 1140850688#32 (row x2 r))) (msOf 1140850688#32 (row x2 r)) := by
  unfold msOf row
  pointwise [val_main_v26, val_main_v25, val_main_v24, val_main_v23, val_main_v22, val_main_v21, val_main_v20, val_main_v19, val_main_v18,
    val_main_cst_3, val_main_cst_4, val_main_cst_5]

theorem v34_at : val_main_v34 (F := Ideal) x1 x2 x3 x4 (ix3 0 r i) = mix x1 x2 x3 x4 r i := by
  unfold mix scaled
  simp only [← v13_at x1, ← v30_at x2]
  pointwise [val_main_v34, val_main_v16, val_main_v15, val_main_v14, val_main_v0, val_main_v33, val_main_v32, val_main_v31, val_main_v17]

theorem v37_at : val_main_v37 (F := Ideal) x0 x1 x2 x3 x4 x5 (ix3 0 r j) = hid x0 x1 x2 x3 x4 x5 r j := by
  unfold hid
  simp only [← v34_at]
  pointwise [val_main_v37, val_main_v36, val_main_v35]

theorem v46_at : val_main_v46 (F := Ideal) x0 x1 x2 x3 x4 x5 (ix3 0 r 0) = Ideal.rsqrt (ms (hid x0 x1 x2 x3 x4 x5 r)) := by
  unfold ms
  simp only [← v37_at]
  pointwise [val_main_v46, val_main_v45, val_main_v44, val_main_v43, val_main_v42, val_main_v41, val_main_v40, val_main_v39, val_main_cst_7,
    val_main_cst_8, val_main_cst_9]

theorem v47_at : val_main_v47 (F := Ideal) x0 x1 x2 x3 x4 x5 (ix3 0 r 0)
    = Ideal.div (Ideal.rsqrt (ms (hid x0 x1 x2 x3 x4 x5 r))) (ms (hid x0 x1 x2 x3 x4 x5 r)) := by
  unfold ms
  simp only [← v37_at]
  pointwise [val_main_v47, val_main_v46, val_main_v45, val_main_v44, val_main_v43, val_main_v42, val_main_v41, val_main_v40, val_main_v39,
    val_main_cst_7, val_main_cst_8, val_main_cst_9]

/-! ### The gradient of the residual stream -/

theorem v59_at : val_main_v59 (F := Ideal) x6 x8 (ix3 0 r j) = du2 x6 x8 r j := by
  unfold du2
  pointwise [val_main_v59, val_main_v58, val_main_v52, val_main_v38]

theorem v62_at : val_main_v62 (F := Ideal) x0 x1 x2 x3 x4 x5 x6 x8 (ix2 0 r) = ∑ k, hid x0 x1 x2 x3 x4 x5 r k * du2 x6 x8 r k := by
  simp only [← v59_at, ← v37_at]
  pointwise [val_main_v62, val_main_v61, val_main_cst_13]

theorem v70_at : val_main_v70 (F := Ideal) x0 x1 x2 x3 x4 x5 x6 x8 (ix1 r) = rmsVia (hid x0 x1 x2 x3 x4 x5 r) (du2 x6 x8 r) := by
  refine (reduceAdd_first_last reducesTo_S1x4096x1_S4096_d0_2 (val_main_v69 (F := Ideal) x0 x1 x2 x3 x4 x5 x6 x8)
    (val_main_cst_15 (F := Ideal) (Shape.Idx.first h_S_)) r).trans ?_
  unfold rmsVia
  rw [← v62_at, ← v47_at]
  pointwise [val_main_v69, val_main_v68, val_main_v67, val_main_v63, val_main_v49, val_main_v48, val_main_cst_15, val_main_cst_14, val_main_cst_10]

theorem v76_at : val_main_v76 (F := Ideal) x0 x1 x2 x3 x4 x5 x6 x7 x8 (ix3 0 r j) = dhidVia x6 x7 x8 (hid x0 x1 x2 x3 x4 x5) r j := by
  unfold dhidVia
  rw [← v70_at, ← v59_at, ← v46_at, ← v37_at]
  pointwise [val_main_v76, val_main_v75, val_main_v74, val_main_v73, val_main_v72, val_main_v71, val_main_v66, val_main_v65, val_main_v64]

theorem v135_at : val_main_v135 (F := Ideal) x0 x1 x2 x3 x4 x5 x6 x7 x8 (ix2 r j) = dhidVia x6 x7 x8 (hid x0 x1 x2 x3 x4 x5) r j := by
  rw [← v76_at]
  pointwise [val_main_v135]

theorem v77_at : val_main_v77 (F := Ideal) x0 x1 x2 x3 x4 x5 x8 (ix2 0 j) = dg2 x8 (hid x0 x1 x2 x3 x4 x5) j := by
  have h : val_main_v77 (F := Ideal) x0 x1 x2 x3 x4 x5 x8 (ix2 0 j) = val_main_v60 (F := Ideal) x0 x1 x2 x3 x4 x5 x8 (ix1 j) := by
    pointwise [val_main_v77]
  refine (h.trans (reduceAdd_first_two reducesTo_S1x1x1024_S1024_d0_1 (val_main_v57 (F := Ideal) x0 x1 x2 x3 x4 x5 x8)
    (val_main_cst_12 (F := Ideal) (Shape.Idx.first h_S_)) j)).trans ?_
  unfold dg2
  simp only [← v37_at, ← v46_at]
  pointwise [val_main_v57, val_main_v56, val_main_v55, val_main_v51, val_main_v50, val_main_cst_11, val_main_cst_12]
  exact Finset.sum_congr rfl fun _ _ => mul_comm _ _

/-! ### The gradient of the mixer's output and of the weights -/

theorem v78_at : val_main_v78 (F := Ideal) x0 x1 x2 x3 x4 x5 x6 x7 x8 (ix3 0 r j) = dhidVia x6 x7 x8 (hid x0 x1 x2 x3 x4 x5) r j := by
  rw [← v76_at]
  pointwise [val_main_v78]

theorem v137_at : val_main_v137 (F := Ideal) x0 x1 x2 x3 x4 x5 x6 x7 x8 (ix2 i j)
    = dw x1 x2 x3 x4 (dhidVia x6 x7 x8 (hid x0 x1 x2 x3 x4 x5)) i j := by
  unfold dw
  simp only [← v78_at, ← v34_at]
  pointwise [val_main_v137, val_main_v136, val_main_v82, val_main_v80, val_main_v79]
  exact (Fin.sum_univ_one _).trans (Finset.sum_congr rfl fun _ _ => mul_comm _ _)

theorem v81_at : val_main_v81 (F := Ideal) x0 x1 x2 x3 x4 x5 x6 x7 x8 (ix3 0 r i)
    = dmix x5 (dhidVia x6 x7 x8 (hid x0 x1 x2 x3 x4 x5)) r i := by
  unfold dmix
  simp only [← v78_at]
  pointwise [val_main_v81, val_main_v35]

/-! ### The first group -/

theorem v83_at : val_main_v83 (F := Ideal) x0 x1 x2 x3 x4 x5 x6 x7 x8 (ix3 0 r k)
    = pooled x5 (dhidVia x6 x7 x8 (hid x0 x1 x2 x3 x4 x5)) r k := by
  unfold pooled
  rw [← v81_at]
  pointwise [val_main_v83]

theorem v111_at : val_main_v111 (F := Ideal) x0 x1 x2 x3 x4 x5 x6 x7 x8 (ix3 0 r k)
    = du x3 r (pooled x5 (dhidVia x6 x7 x8 (hid x0 x1 x2 x3 x4 x5))) k := by
  unfold du
  rw [← v83_at]
  pointwise [val_main_v111, val_main_v110, val_main_v14, val_main_v0]

theorem v114_at : val_main_v114 (F := Ideal) x0 x1 x2 x3 x4 x5 x6 x7 x8 (ix2 0 r)
    = ∑ k, row x1 r k * du x3 r (pooled x5 (dhidVia x6 x7 x8 (hid x0 x1 x2 x3 x4 x5))) k := by
  simp only [← v111_at]
  unfold row
  pointwise [val_main_v114, val_main_v113, val_main_cst_23]

theorem v121_at : val_main_v121 (F := Ideal) x0 x1 x2 x3 x4 x5 x6 x7 x8 (ix1 r)
    = rmsViaOf 1140850688#32 (row x1 r) (du x3 r (pooled x5 (dhidVia x6 x7 x8 (hid x0 x1 x2 x3 x4 x5)))) := by
  refine (reduceAdd_first_last reducesTo_S1x4096x1_S4096_d0_2 (val_main_v120 (F := Ideal) x0 x1 x2 x3 x4 x5 x6 x7 x8)
    (val_main_cst_25 (F := Ideal) (Shape.Idx.first h_S_)) r).trans ?_
  unfold rmsViaOf
  rw [← v114_at, ← v9_at]
  pointwise [val_main_v120, val_main_v119, val_main_v118, val_main_v115, val_main_v11, val_main_v10, val_main_cst_25,
    val_main_cst_24, val_main_cst_2]

theorem v127_at : val_main_v127 (F := Ideal) x0 x1 x2 x3 x4 x5 x6 x7 x8 (ix3 0 r k)
    = dgroupVia x1 x3 r k (pooled x5 (dhidVia x6 x7 x8 (hid x0 x1 x2 x3 x4 x5))) := by
  unfold dgroupVia
  rw [← v121_at, ← v111_at, ← v8_at]
  unfold row
  pointwise [val_main_v127, val_main_v126, val_main_v125, val_main_v124, val_main_v123, val_main_v122, val_main_v117,
    val_main_v116]

theorem v131_at (s : Fin 4) (l : Fin 128) : val_main_v131 (F := Ideal) x0 x1 x2 x3 x4 x5 x6 x7 x8 (ix3 s r l)
    = dgroupVia x1 x3 r ⟨s.val * 128 + l.val, by omega⟩ (pooled x5 (dhidVia x6 x7 x8 (hid x0 x1 x2 x3 x4 x5))) := by
  rw [← v127_at]
  pointwise [val_main_v131, val_main_v130, val_main_v129]

theorem v128_at : val_main_v128 (F := Ideal) x0 x1 x2 x3 x4 x5 x6 x7 x8 (ix2 0 k)
    = dgain x1 k (pooled x5 (dhidVia x6 x7 x8 (hid x0 x1 x2 x3 x4 x5))) := by
  have h : val_main_v128 (F := Ideal) x0 x1 x2 x3 x4 x5 x6 x7 x8 (ix2 0 k)
      = val_main_v112 (F := Ideal) x0 x1 x2 x3 x4 x5 x6 x7 x8 (ix1 k) := by
    pointwise [val_main_v128]
  refine (h.trans (reduceAdd_first_two reducesTo_S1x1x512_S512_d0_1 (val_main_v109 (F := Ideal) x0 x1 x2 x3 x4 x5 x6 x7 x8)
    (val_main_cst_22 (F := Ideal) (Shape.Idx.first h_S_)) k)).trans ?_
  unfold dgain
  simp only [← v83_at, ← v13_at x1]
  pointwise [val_main_v109, val_main_v108, val_main_v107, val_main_cst_21, val_main_cst_22]
  exact Finset.sum_congr rfl fun _ _ => mul_comm _ _

/-! ### The second group -/

theorem v84_at : val_main_v84 (F := Ideal) x0 x1 x2 x3 x4 x5 x6 x7 x8 (ix3 0 r k)
    = lru x5 (dhidVia x6 x7 x8 (hid x0 x1 x2 x3 x4 x5)) r k := by
  unfold lru
  rw [← v81_at]
  pointwise [val_main_v84]

theorem v89_at : val_main_v89 (F := Ideal) x0 x1 x2 x3 x4 x5 x6 x7 x8 (ix3 0 r k)
    = du x4 r (lru x5 (dhidVia x6 x7 x8 (hid x0 x1 x2 x3 x4 x5))) k := by
  unfold du
  rw [← v84_at]
  pointwise [val_main_v89, val_main_v88, val_main_v31, val_main_v17]

theorem v92_at : val_main_v92 (F := Ideal) x0 x1 x2 x3 x4 x5 x6 x7 x8 (ix2 0 r)
    = ∑ k, row x2 r k * du x4 r (lru x5 (dhidVia x6 x7 x8 (hid x0 x1 x2 x3 x4 x5))) k := by
  simp only [← v89_at]
  unfold row
  pointwise [val_main_v92, val_main_v91, val_main_cst_18]

theorem v99_at : val_main_v99 (F := Ideal) x0 x1 x2 x3 x4 x5 x6 x7 x8 (ix1 r)
    = rmsViaOf 1140850688#32 (row x2 r) (du x4 r (lru x5 (dhidVia x6 x7 x8 (hid x0 x1 x2 x3 x4 x5)))) := by
  refine (reduceAdd_first_last reducesTo_S1x4096x1_S4096_d0_2 (val_main_v98 (F := Ideal) x0 x1 x2 x3 x4 x5 x6 x7 x8)
    (val_main_cst_20 (F := Ideal) (Shape.Idx.first h_S_)) r).trans ?_
  unfold rmsViaOf
  rw [← v92_at, ← v26_at]
  pointwise [val_main_v98, val_main_v97, val_main_v96, val_main_v93, val_main_v28, val_main_v27, val_main_cst_20,
    val_main_cst_19, val_main_cst_6]

theorem v105_at : val_main_v105 (F := Ideal) x0 x1 x2 x3 x4 x5 x6 x7 x8 (ix3 0 r k)
    = dgroupVia x2 x4 r k (lru x5 (dhidVia x6 x7 x8 (hid x0 x1 x2 x3 x4 x5))) := by
  unfold dgroupVia
  rw [← v99_at, ← v89_at, ← v25_at]
  unfold row
  pointwise [val_main_v105, val_main_v104, val_main_v103, val_main_v102, val_main_v101, val_main_v100, val_main_v95,
    val_main_v94]

theorem v134_at (s : Fin 4) (l : Fin 128) : val_main_v134 (F := Ideal) x0 x1 x2 x3 x4 x5 x6 x7 x8 (ix3 s r l)
    = dgroupVia x2 x4 r ⟨s.val * 128 + l.val, by omega⟩ (lru x5 (dhidVia x6 x7 x8 (hid x0 x1 x2 x3 x4 x5))) := by
  rw [← v105_at]
  pointwise [val_main_v134, val_main_v133, val_main_v132]

theorem v106_at : val_main_v106 (F := Ideal) x0 x1 x2 x3 x4 x5 x6 x7 x8 (ix2 0 k)
    = dgain x2 k (lru x5 (dhidVia x6 x7 x8 (hid x0 x1 x2 x3 x4 x5))) := by
  have h : val_main_v106 (F := Ideal) x0 x1 x2 x3 x4 x5 x6 x7 x8 (ix2 0 k)
      = val_main_v90 (F := Ideal) x0 x1 x2 x3 x4 x5 x6 x7 x8 (ix1 k) := by
    pointwise [val_main_v106]
  refine (h.trans (reduceAdd_first_two reducesTo_S1x1x512_S512_d0_1 (val_main_v87 (F := Ideal) x0 x1 x2 x3 x4 x5 x6 x7 x8)
    (val_main_cst_17 (F := Ideal) (Shape.Idx.first h_S_)) k)).trans ?_
  unfold dgain
  simp only [← v84_at, ← v30_at x2]
  pointwise [val_main_v87, val_main_v86, val_main_v85, val_main_cst_16, val_main_cst_17]
  exact Finset.sum_congr rfl fun _ _ => mul_comm _ _

end Cert.BwdOutRefIdeal.Read

end
-- ==== Proof.OutRing.lean ====
/-
  The three streamed operands of the mixer output's backward call. Each is read block by block through three slots of a scratch buffer
  of its own, two blocks ahead of the point that uses it; slot `s` of stream `k` is counted on cell `3 s + k` of the call's nine counters.
  Here: the slots, blocks and cells; what is held of a stream before a point; and how a stream is set up and taken down.
-/
module

public import proofs.«01_k».proof.Proof.Gen.BwdOutIdeal.Frame
public import proofs.«01_k».proof.Proof.Gen.BwdOutIdeal.Skeleton
public import Idealize.ShloMosaic.Lib.Pipeline.FrameBody
public import Idealize.ShloMosaic.Lib.Pipeline.Frame
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.OutFrame

open Cert.BwdOutIdeal Cert.BwdOutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## Slots, blocks and cells -/

theorem slot_inb (s : Fin 3) : ∀ a, (![s.val, 0, 0] : Fin 3 → Nat) a + S1x512x1024.size a ≤ S3x512x1024.size a := by
  have := s.isLt; intro a; fin_cases a <;> simp <;> omega
theorem block_inb (b : Fin 8) : ∀ a, (![512 * b.val, 0] : Fin 2 → Nat) a + S512x1024.size a ≤ S4096x1024.size a := by
  have := b.isLt; intro a; fin_cases a <;> simp <;> omega
theorem cell_inb (k s : Fin 3) : ∀ a, (![3 * s.val + k.val] : Fin 1 → Nat) a + S1.size a ≤ S9.size a := by
  have := s.isLt; have := k.isLt; intro a; fin_cases a; simp; omega

/-- Slot `s` of a stream's scratch buffer. -/
def slotOf (M : Memref sig .tc .vmem S3x512x1024 .f32) (s : Fin 3) : Memref sig .tc .vmem S512x1024 .f32 :=
  (M.slice (Rect.unit (s := S3x512x1024) ![s.val, 0, 0] S1x512x1024.size (slot_inb s)) (fun _ => rfl)).squeeze S512x1024 squeezes_S1x512x1024_S512x1024
/-- Block `b` of a stream's operand. -/
def blockOf (H : Memref sig .tc .hbm S4096x1024 .f32) (b : Fin 8) : Memref sig .tc .hbm S512x1024 .f32 :=
  H.slice (Rect.unit (s := S4096x1024) ![512 * b.val, 0] S512x1024.size (block_inb b)) (fun _ => rfl)
/-- The counter of slot `s` of stream `k`. -/
def cellOf (k s : Fin 3) : DmaSems sig S_ :=
  (cc0_scratch4.slice (Rect.unit (s := S9) ![3 * s.val + k.val] S1.size (cell_inb k s))).squeeze S_ squeezes_S1_S_
abbrev counter (k s : Fin 3) : SemLoc sig := SemLoc.dma (cellOf k s).sem

theorem counter_eq : ∀ k s : Fin 3, counter k s = ![![SemLoc.dma 18, SemLoc.dma 21, SemLoc.dma 24], ![SemLoc.dma 19, SemLoc.dma 22, SemLoc.dma 25],
    ![SemLoc.dma 20, SemLoc.dma 23, SemLoc.dma 26]] k s := by decide

/-! ## What is held of a stream -/

/-- What memref `M`'s buffer holds on core `c`. -/
abbrev Held (c : Dev nD) {sp : Space} {S : Shape} {e : EltTy} (M : Memref sig .tc sp S e) : Type := Buf (Elt F) (M.view.loc (c : Thread nD τ))

section Stream

variable (c : Dev nD) (M : Memref sig .tc .vmem S3x512x1024 .f32) (H : Memref sig .tc .hbm S4096x1024 .f32) (k : Fin 3) (W : Held (F := F) c H)

/-- Each slot reads the operand through a share of its own. -/
abbrev shareOf (s : Fin 3) : PosShare TreeShare :=
  if s.val = 0 then fullShare.left else if s.val = 1 then fullShare.right.left else fullShare.right.right
abbrev slotAt (s : Fin 3) (f : Held (F := F) c (slotOf M s)) : sProp 𝕄 := (slotOf M s).view.loc (c : Thread nD τ) ↦[(slotOf M s).view.set]{fullShare} f
abbrev cellAt (s : Fin 3) : sProp 𝕄 := semVal ((c : Thread nD τ), counter k s) 0
abbrev lentAt (s : Fin 3) (b : Fin 8) : sProp 𝕄 := (blockOf H b).view.loc (c : Thread nD τ) ↦[(blockOf H b).view.set]{shareOf s} W
def keptAt (s : Fin 3) (b : Fin 8) : sProp 𝕄 := H.view.loc (c : Thread nD τ) ↦[Finset.univ \ (blockOf H b).view.set]{shareOf s} W
abbrev copyAt (s : Fin 3) : sProp 𝕄 := H.view.loc (c : Thread nD τ) ↦[Finset.univ]{shareOf s} W
/-- A slot's contents once block `b` is in it. -/
abbrev landed (s : Fin 3) (b : Fin 8) (f : Held (F := F) c (slotOf M s)) : Held (F := F) c (slotOf M s) :=
  (slotOf M s).view.writes (Elt F) f [⟨Rect.whole S512x1024, ReadAs.same.apply ((blockOf H b).view.read (Elt F) W)⟩]
abbrev underway (s : Fin 3) (b : Fin 8) (f : Held (F := F) c (slotOf M s)) : sProp 𝕄 :=
  Transfers.Flight countersEmb (c : Thread nD τ) (counter k s) default ((slotOf M s).view.amount (counter k s))
    iprop(slotAt c M s (landed c M H W s b f) ∗ lentAt c H W s b)
abbrev idle (s : Fin 3) (f : Held (F := F) c (slotOf M s)) : sProp 𝕄 := iprop(slotAt c M s f ∗ copyAt c H W s)
abbrev busy (s : Fin 3) (b : Fin 8) (f : Held (F := F) c (slotOf M s)) : sProp 𝕄 := iprop(underway c M H k W s b f ∗ keptAt c H W s b)
abbrev nothing (b : Fin 8) : sProp 𝕄 := iprop(emp)

/-- What is held of the stream before point `n`. -/
def streamAt (n : ℕ) : sProp 𝕄 :=
  if n = 0 then Ring.At₀ (cellAt c k) (idle c M H W) nothing else Ring.At 2 (cellAt c k) (idle c M H W) nothing (busy c M H k W) n

theorem copy_split (s : Fin 3) (b : Fin 8) : copyAt (F := F) c H W s ⊣⊢ iprop(lentAt c H W s b ∗ keptAt c H W s b) := by
  unfold keptAt; exact pointsTo_split_subset (Finset.subset_univ _)

/-- The operand whole is its three shares. -/
theorem operand_split :
    (H.view.loc (c : Thread nD τ) ↦{fullShare} W : sProp 𝕄) ⊣⊢ iprop(copyAt c H W 0 ∗ copyAt c H W 1 ∗ copyAt c H W 2) := by
  refine ⟨?_, ?_⟩
  · iintro A
    ihave A := (pointsTo_share (PosShare.mem_left_op_right fullShare)).1 $$ A
    icases A with ⟨A0, A12⟩
    ihave A12 := (pointsTo_share (PosShare.mem_left_op_right fullShare.right)).1 $$ A12
    icases A12 with ⟨A1, A2⟩
    isplitl [A0]; · iexact A0
    isplitl [A1]; · iexact A1
    iexact A2
  · iintro ⟨A0, A1, A2⟩
    iapply (pointsTo_share (PosShare.mem_left_op_right fullShare)).2
    isplitl [A0]; · iexact A0
    iapply (pointsTo_share (PosShare.mem_left_op_right fullShare.right)).2
    isplitl [A1]; · iexact A1
    iexact A2

end Stream

section InOut

/-- A stream's scratch buffer, counters and operand are the stream before the first point. -/
theorem stream_in (c : Dev nD) (M : Memref sig .tc .vmem S3x512x1024 .f32) (H : Memref sig .tc .hbm S4096x1024 .f32) (k : Fin 3) (W : Held (F := F) c H) (S : sProp 𝕄)
    (hS : S ⊢ iprop((∃ f, slotAt (F := F) c M 0 f) ∗ (∃ f, slotAt c M 1 f) ∗ ∃ f, slotAt c M 2 f)) :
    iprop(S ∗ (cellAt c k 0 ∗ cellAt c k 1 ∗ cellAt c k 2) ∗ H.view.loc (c : Thread nD τ) ↦{fullShare} W) ⊢ streamAt c M H k W 0 := by
  unfold streamAt; rw [if_pos rfl]; unfold Ring.At₀
  rw [Ring.bigSep_fin3]
  iintro ⟨A, ⟨C0, C1, C2⟩, O⟩
  iapply Ring.with_homes₀
  ihave A := hS $$ A
  icases A with ⟨⟨%f0, A0⟩, ⟨%f1, A1⟩, ⟨%f2, A2⟩⟩
  have split := (operand_split (F := F) c H W).1
  ihave O := split $$ O
  icases O with ⟨O0, O1, O2⟩
  isplitl [C0 A0 O0]
  · isplitl [C0]; · iexact C0
    iexists f0; isplitl [A0]; · iexact A0
    iexact O0
  isplitl [C1 A1 O1]
  · isplitl [C1]; · iexact C1
    iexists f1; isplitl [A1]; · iexact A1
    iexact O1
  · isplitl [C2]; · iexact C2
    iexists f2; isplitl [A2]; · iexact A2
    iexact O2

/-- After the last point they are those again. -/
theorem stream_out (c : Dev nD) (M : Memref sig .tc .vmem S3x512x1024 .f32) (H : Memref sig .tc .hbm S4096x1024 .f32) (k : Fin 3) (W : Held (F := F) c H) (S : sProp 𝕄)
    (hS : iprop((∃ f, slotAt (F := F) c M 0 f) ∗ (∃ f, slotAt c M 1 f) ∗ ∃ f, slotAt c M 2 f) ⊢ S) :
    streamAt c M H k W 8 ⊢ iprop(S ∗ (cellAt c k 0 ∗ cellAt c k 1 ∗ cellAt c k 2) ∗ H.view.loc (c : Thread nD τ) ↦{fullShare} W) := by
  unfold streamAt; rw [if_neg (by decide)]
  iintro A
  ihave A := (Ring.free3_of_At_last (NB := 8) nothing (cellAt c k) (idle c M H W) (busy c M H k W)) $$ A
  icases A with ⟨-, ⟨C0, ⟨%f0, A0, O0⟩⟩, ⟨C1, ⟨%f1, A1, O1⟩⟩, ⟨C2, ⟨%f2, A2, O2⟩⟩⟩
  isplitl [A0 A1 A2]
  · iapply hS; isplitl [A0]; · iexists f0; iexact A0
    isplitl [A1]; · iexists f1; iexact A1
    iexists f2; iexact A2
  isplitl [C0 C1 C2]
  · isplitl [C0]; · iexact C0
    isplitl [C1]; · iexact C1
    iexact C2
  iapply (operand_split (F := F) c H W).2; isplitl [O0]; · iexact O0
  isplitl [O1]; · iexact O1
  iexact O2

end InOut

/-! ## One point of a stream -/

section Steps

variable (c : Dev nD) (M : Memref sig .tc .vmem S3x512x1024 .f32) (H : Memref sig .tc .hbm S4096x1024 .f32) (k : Fin 3) (W : Held (F := F) c H)

abbrev busyAt (n : ℕ) : sProp 𝕄 := Ring.inflight (busy c M H k W) (Ring.sl 3 n) (Ring.bk 8 n)
abbrev freeAt (n : ℕ) : sProp 𝕄 := Ring.free (cellAt c k) (idle c M H W) (Ring.sl 3 n)

/-- Before the first point every slot is free. -/
theorem stream_first {t : ℕ} (h : t = 0) : streamAt c M H k W t ⊢ iprop(freeAt c M H k W t ∗ freeAt c M H k W (t + 1) ∗ freeAt c M H k W (t + 2)) := by
  unfold streamAt; rw [if_pos h, Ring.At₀_eq3' nothing (cellAt c k) (idle c M H W) t h (by decide : 3 ≤ 8)]
  iintro ⟨-, A⟩; iexact A
/-- While blocks are left to start, a point finds two in flight. -/
theorem stream_next {t : ℕ} (h0 : t ≠ 0) (h : t < 6) :
    streamAt c M H k W t ⊢ iprop(busyAt c M H k W t ∗ busyAt c M H k W (t + 1) ∗ freeAt c M H k W (t + 2)) := by
  unfold streamAt; rw [if_neg h0, Ring.At3_here nothing (cellAt c k) (idle c M H W) (busy c M H k W) t (by omega)]
  iintro ⟨-, A⟩; iexact A
/-- The point but one before the end finds the last two. -/
theorem stream_seventh {t : ℕ} (h : t = 6) :
    streamAt c M H k W t ⊢ iprop(busyAt c M H k W t ∗ busyAt c M H k W (t + 1) ∗ freeAt c M H k W (t + 2)) := by
  unfold streamAt; rw [if_neg (by omega), Ring.At3_here_tail nothing (cellAt c k) (idle c M H W) (busy c M H k W) t (by omega),
    Ring.slotAt3_here1 (cellAt c k) (idle c M H W) (busy c M H k W) t (by omega)]
  iintro ⟨-, A⟩; iexact A
/-- The last point finds one. -/
theorem stream_last {t : ℕ} (h : t = 7) :
    streamAt c M H k W t ⊢ iprop(busyAt c M H k W t ∗ freeAt c M H k W (t + 1) ∗ freeAt c M H k W (t + 2)) := by
  unfold streamAt; rw [if_neg (by omega), Ring.At3_here_tail nothing (cellAt c k) (idle c M H W) (busy c M H k W) t (by omega),
    Ring.slotAt3_here1_free (cellAt c k) (idle c M H W) (busy c M H k W) t (by omega)]
  iintro ⟨-, A⟩; iexact A

/-- A point before the seventh leaves the next two blocks in flight, -/
theorem next_stream {t : ℕ} (h : t < 6) :
    iprop(busyAt c M H k W (t + 1) ∗ busyAt c M H k W (t + 2) ∗ freeAt c M H k W t) ⊢ streamAt c M H k W (t + 1) := by
  unfold streamAt; rw [if_neg (by omega), Ring.At3_next nothing (cellAt c k) (idle c M H W) (busy c M H k W) t (by omega),
    Ring.slotAt3_next0 (cellAt c k) (idle c M H W) (busy c M H k W) t (by omega), Ring.slotAt3_next1 (cellAt c k) (idle c M H W) (busy c M H k W) t (by omega)]
  exact Ring.with_homes (Idealize.SL.BI.Entails.refl _)
/-- the seventh one, -/
theorem seventh_stream {t : ℕ} (h : t = 6) :
    iprop(busyAt c M H k W (t + 1) ∗ freeAt c M H k W (t + 2) ∗ freeAt c M H k W t) ⊢ streamAt c M H k W (t + 1) := by
  unfold streamAt; rw [if_neg (by omega), Ring.At3_next_tail nothing (cellAt c k) (idle c M H W) (busy c M H k W) t (by omega) (by omega),
    Ring.slotAt3_next0 (cellAt c k) (idle c M H W) (busy c M H k W) t (by omega)]
  exact Ring.with_homes (Idealize.SL.BI.Entails.refl _)
/-- the last none. -/
theorem last_stream {t : ℕ} (h : t = 7) :
    iprop(freeAt c M H k W (t + 1) ∗ freeAt c M H k W (t + 2) ∗ freeAt c M H k W t) ⊢ streamAt c M H k W (t + 1) := by
  unfold streamAt; rw [if_neg (by omega), Ring.At3_next_tail nothing (cellAt c k) (idle c M H W) (busy c M H k W) t (by omega) (by omega),
    Ring.slotAt3_next0_free (cellAt c k) (idle c M H W) (busy c M H k W) t (by omega)]
  exact Ring.with_homes (Idealize.SL.BI.Entails.refl _)

/-- A slot read after its block came in holds the block. -/
theorem free_of_landed (s : Fin 3) (b : Fin 8) (f) :
    iprop(cellAt (F := F) c k s ∗ slotAt c M s f ∗ lentAt c H W s b ∗ keptAt c H W s b) ⊢ Ring.free (cellAt c k) (idle c M H W) s := by
  unfold Ring.free
  iintro ⟨C, A, L, K⟩
  isplitl [C]; · iexact C
  iexists f; isplitl [A]; · iexact A
  iapply (copy_split (F := F) c H W s b).2; isplitl [L]; · iexact L
  iexact K

end Steps

/-! ## The slots are the scratch buffer -/

abbrev slotSet (s : Fin 3) : Finset S3x512x1024.Idx := (Rect.unit (s := S3x512x1024) ![s.val, 0, 0] S1x512x1024.size (slot_inb s)).set
theorem slots_disjoint (s s' : Fin 3) (h : s ≠ s') : Disjoint (slotSet s) (slotSet s') :=
  Ring.lead_disjoint (s := S3x512x1024) (0 : Fin 3) 1 (fun s : Fin 3 => (![s.val, 0, 0] : Fin 3 → Nat)) S1x512x1024.size slot_inb (fun s => by simp) rfl s s' h
theorem slots_cover : Finset.univ.biUnion slotSet = Finset.univ :=
  Ring.lead_cover (s := S3x512x1024) (0 : Fin 3) 1 (fun s : Fin 3 => (![s.val, 0, 0] : Fin 3 → Nat)) S1x512x1024.size slot_inb (fun s => by simp)
    (fun s a ha => by fin_cases a <;> first | exact absurd rfl ha | rfl) rfl (fun a ha => by fin_cases a <;> first | exact absurd rfl ha | rfl) rfl

theorem slot_set_1 (s : Fin 3) : (slotOf (Memref.whole cc0_scratch1) s).view.set = slotSet s := by
  simp only [slotOf, Memref.view_squeeze, View.set_reshape]; exact View.set_slice_whole _ _
theorem slot_set_2 (s : Fin 3) : (slotOf (Memref.whole cc0_scratch2) s).view.set = slotSet s := by
  simp only [slotOf, Memref.view_squeeze, View.set_reshape]; exact View.set_slice_whole _ _
theorem slot_set_3 (s : Fin 3) : (slotOf (Memref.whole cc0_scratch3) s).view.set = slotSet s := by
  simp only [slotOf, Memref.view_squeeze, View.set_reshape]; exact View.set_slice_whole _ _

variable (c : Dev nD)

theorem slot_eq_1 (s : Fin 3) (f) :
    slotAt (F := F) c (Memref.whole cc0_scratch1) s f = (((c : Thread nD τ).loc cc0_scratch1) ↦[slotSet s]{fullShare} f : sProp 𝕄) := by
  unfold slotAt; rw [slot_set_1]; rfl
theorem slot_eq_2 (s : Fin 3) (f) :
    slotAt (F := F) c (Memref.whole cc0_scratch2) s f = (((c : Thread nD τ).loc cc0_scratch2) ↦[slotSet s]{fullShare} f : sProp 𝕄) := by
  unfold slotAt; rw [slot_set_2]; rfl
theorem slot_eq_3 (s : Fin 3) (f) :
    slotAt (F := F) c (Memref.whole cc0_scratch3) s f = (((c : Thread nD τ).loc cc0_scratch3) ↦[slotSet s]{fullShare} f : sProp 𝕄) := by
  unfold slotAt; rw [slot_set_3]; rfl

set_option maxHeartbeats 1000000 in
theorem slots_in_1 : iprop(∃ d, owns (c : Thread nD τ) (Memref.whole cc0_scratch1) fullShare d)
    ⊢ (iprop((∃ f, slotAt (F := F) c (Memref.whole cc0_scratch1) 0 f) ∗ (∃ f, slotAt c (Memref.whole cc0_scratch1) 1 f) ∗ ∃ f, slotAt c (Memref.whole cc0_scratch1) 2 f) : sProp 𝕄) := by
  simp only [owns_whole]
  exact Ring.slots3_split (U := Pipeline.UD sig nD τ) (ℓ := (c : Thread nD τ).loc cc0_scratch1) (q := fullShare) slotSet slots_disjoint slots_cover
    _ _ _ (slot_eq_1 c 0) (slot_eq_1 c 1) (slot_eq_1 c 2)
set_option maxHeartbeats 1000000 in
theorem slots_in_2 : iprop(∃ d, owns (c : Thread nD τ) (Memref.whole cc0_scratch2) fullShare d)
    ⊢ (iprop((∃ f, slotAt (F := F) c (Memref.whole cc0_scratch2) 0 f) ∗ (∃ f, slotAt c (Memref.whole cc0_scratch2) 1 f) ∗ ∃ f, slotAt c (Memref.whole cc0_scratch2) 2 f) : sProp 𝕄) := by
  simp only [owns_whole]
  exact Ring.slots3_split (U := Pipeline.UD sig nD τ) (ℓ := (c : Thread nD τ).loc cc0_scratch2) (q := fullShare) slotSet slots_disjoint slots_cover
    _ _ _ (slot_eq_2 c 0) (slot_eq_2 c 1) (slot_eq_2 c 2)
set_option maxHeartbeats 1000000 in
theorem slots_in_3 : iprop(∃ d, owns (c : Thread nD τ) (Memref.whole cc0_scratch3) fullShare d)
    ⊢ (iprop((∃ f, slotAt (F := F) c (Memref.whole cc0_scratch3) 0 f) ∗ (∃ f, slotAt c (Memref.whole cc0_scratch3) 1 f) ∗ ∃ f, slotAt c (Memref.whole cc0_scratch3) 2 f) : sProp 𝕄) := by
  simp only [owns_whole]
  exact Ring.slots3_split (U := Pipeline.UD sig nD τ) (ℓ := (c : Thread nD τ).loc cc0_scratch3) (q := fullShare) slotSet slots_disjoint slots_cover
    _ _ _ (slot_eq_3 c 0) (slot_eq_3 c 1) (slot_eq_3 c 2)
set_option maxHeartbeats 1000000 in
theorem slots_out_1 : (iprop((∃ f, slotAt (F := F) c (Memref.whole cc0_scratch1) 0 f) ∗ (∃ f, slotAt c (Memref.whole cc0_scratch1) 1 f) ∗ ∃ f, slotAt c (Memref.whole cc0_scratch1) 2 f) : sProp 𝕄)
    ⊢ iprop(∃ d, owns (c : Thread nD τ) (Memref.whole cc0_scratch1) fullShare d) := by
  simp only [owns_whole]
  exact Ring.slots3_join (U := Pipeline.UD sig nD τ) (ℓ := (c : Thread nD τ).loc cc0_scratch1) (q := fullShare) slotSet slots_disjoint slots_cover
    _ _ _ (slot_eq_1 c 0) (slot_eq_1 c 1) (slot_eq_1 c 2)
set_option maxHeartbeats 1000000 in
theorem slots_out_2 : (iprop((∃ f, slotAt (F := F) c (Memref.whole cc0_scratch2) 0 f) ∗ (∃ f, slotAt c (Memref.whole cc0_scratch2) 1 f) ∗ ∃ f, slotAt c (Memref.whole cc0_scratch2) 2 f) : sProp 𝕄)
    ⊢ iprop(∃ d, owns (c : Thread nD τ) (Memref.whole cc0_scratch2) fullShare d) := by
  simp only [owns_whole]
  exact Ring.slots3_join (U := Pipeline.UD sig nD τ) (ℓ := (c : Thread nD τ).loc cc0_scratch2) (q := fullShare) slotSet slots_disjoint slots_cover
    _ _ _ (slot_eq_2 c 0) (slot_eq_2 c 1) (slot_eq_2 c 2)
set_option maxHeartbeats 1000000 in
theorem slots_out_3 : (iprop((∃ f, slotAt (F := F) c (Memref.whole cc0_scratch3) 0 f) ∗ (∃ f, slotAt c (Memref.whole cc0_scratch3) 1 f) ∗ ∃ f, slotAt c (Memref.whole cc0_scratch3) 2 f) : sProp 𝕄)
    ⊢ iprop(∃ d, owns (c : Thread nD τ) (Memref.whole cc0_scratch3) fullShare d) := by
  simp only [owns_whole]
  exact Ring.slots3_join (U := Pipeline.UD sig nD τ) (ℓ := (c : Thread nD τ).loc cc0_scratch3) (q := fullShare) slotSet slots_disjoint slots_cover
    _ _ _ (slot_eq_3 c 0) (slot_eq_3 c 1) (slot_eq_3 c 2)

/-! ## How the body writes slots, blocks and cells at a point -/

section Names

omit [FloatOps F]

instance : NeZero grid0.N := ⟨by rw [N_0]; decide⟩

/-- The body's four tests. -/
abbrev Begins (i : grid0.Coords) : Prop := k0_cond1 i = 1#1
theorem begins_iff : ∀ t : Fin cfg0.N, Begins (grid0.coords t) ↔ t.val = 0 := (by decide +kernel : ∀ t : Fin grid0.N, Begins (grid0.coords t) ↔ t.val = 0)
abbrev Starts (i : grid0.Coords) : Prop := k0_cond2 i = 1#1
theorem starts_iff : ∀ t : Fin cfg0.N, Starts (grid0.coords t) ↔ t.val < 6 := (by decide +kernel : ∀ t : Fin grid0.N, Starts (grid0.coords t) ↔ t.val < 6)
abbrev Clears (i : grid0.Coords) : Prop := (Scalar.cmpi .ne (Scalar.extui (Scalar.cmpi .eq (BitVec.ofNat 32 (i 0).val) 0#32)) 0#32) = 1#1
theorem clears_iff : ∀ t : Fin cfg0.N, Clears (grid0.coords t) ↔ t.val = 0 := (by decide +kernel : ∀ t : Fin grid0.N, Clears (grid0.coords t) ↔ t.val = 0)
abbrev Ends (i : grid0.Coords) : Prop := k0_cond4 i = 1#1
theorem ends_iff : ∀ t : Fin cfg0.N, Ends (grid0.coords t) ↔ t.val = 7 := (by decide +kernel : ∀ t : Fin grid0.N, Ends (grid0.coords t) ↔ t.val = 7)

theorem same_slot (M : Memref sig .tc .vmem S3x512x1024 .f32) {off : Fin 3 → Nat} {s : Fin 3} (e : off = ![s.val, 0, 0])
    (h : ∀ a, off a + S1x512x1024.size a ≤ S3x512x1024.size a) :
    (M.slice (Rect.unit (s := S3x512x1024) off S1x512x1024.size h) (fun _ => rfl)).squeeze S512x1024 squeezes_S1x512x1024_S512x1024 = slotOf M s :=
  congrArg (fun M : Memref sig .tc .vmem S1x512x1024 .f32 => M.squeeze S512x1024 squeezes_S1x512x1024_S512x1024)
    (Memref.slice_unit_congr _ e _ _ (fun _ => rfl) (fun _ => rfl))
theorem same_block (H : Memref sig .tc .hbm S4096x1024 .f32) {off : Fin 2 → Nat} {b : Fin 8} (e : off = ![512 * b.val, 0])
    (h : ∀ a, off a + S512x1024.size a ≤ S4096x1024.size a) :
    H.slice (Rect.unit (s := S4096x1024) off S512x1024.size h) (fun _ => rfl) = blockOf H b :=
  Memref.slice_unit_congr _ e _ _ (fun _ => rfl) (fun _ => rfl)
theorem same_cell {off : Fin 1 → Nat} {k s : Fin 3} (e : off = ![3 * s.val + k.val]) (h : ∀ a, off a + S1.size a ≤ S9.size a) :
    (cc0_scratch4.slice (Rect.unit (s := S9) off S1.size h)).squeeze S_ squeezes_S1_S_ = cellOf k s :=
  congrArg (fun A : DmaSems sig S1 => A.squeeze S_ squeezes_S1_S_) (SemArray.slice_unit_congr _ e _ _)

variable (t : Fin grid0.N)

set_option synthInstance.maxSize 4096

theorem first_slot_off : ∀ t : Fin grid0.N, Begins (grid0.coords t) → ![0, 0, 0] = (![(Ring.sl 3 t.val).val, 0, 0] : Fin 3 → Nat) := by decide +kernel
@[sl_canon] theorem first_slot (h0 : Begins (grid0.coords t)) (M : Memref sig .tc .vmem S3x512x1024 .f32) :
    (M.slice (Rect.unit (s := S3x512x1024) (![0, 0, 0]) S1x512x1024.size (inb_S3x512x1024_S1x512x1024_0_0_0)) (fun _ => rfl)).squeeze S512x1024 squeezes_S1x512x1024_S512x1024 = slotOf M (Ring.sl 3 t.val) :=
  same_slot M (first_slot_off t h0) _
theorem second_slot_off : ∀ t : Fin grid0.N, Begins (grid0.coords t) → ![1, 0, 0] = (![(Ring.sl 3 (t.val + 1)).val, 0, 0] : Fin 3 → Nat) := by decide +kernel
@[sl_canon] theorem second_slot (h0 : Begins (grid0.coords t)) (M : Memref sig .tc .vmem S3x512x1024 .f32) :
    (M.slice (Rect.unit (s := S3x512x1024) (![1, 0, 0]) S1x512x1024.size (inb_S3x512x1024_S1x512x1024_1_0_0)) (fun _ => rfl)).squeeze S512x1024 squeezes_S1x512x1024_S512x1024 = slotOf M (Ring.sl 3 (t.val + 1)) :=
  same_slot M (second_slot_off t h0) _
theorem ahead_slot_off : ∀ t : Fin grid0.N, Starts (grid0.coords t) → k0_off2 (grid0.coords t) = (![(Ring.sl 3 (t.val + 2)).val, 0, 0] : Fin 3 → Nat) := by decide +kernel
@[sl_canon] theorem ahead_slot (h0 : Starts (grid0.coords t)) (M : Memref sig .tc .vmem S3x512x1024 .f32) :
    (M.slice (Rect.unit (s := S3x512x1024) (k0_off2 (grid0.coords t)) S1x512x1024.size (k0_off2_inb (grid0.coords t) h0)) (fun _ => rfl)).squeeze S512x1024 squeezes_S1x512x1024_S512x1024 = slotOf M (Ring.sl 3 (t.val + 2)) :=
  same_slot M (ahead_slot_off t h0) _
theorem waited_slot_off : ∀ t : Fin grid0.N, k0_off5 (grid0.coords t) = (![(Ring.sl 3 t.val).val, 0, 0] : Fin 3 → Nat) := by decide +kernel
@[sl_canon] theorem waited_slot  (M : Memref sig .tc .vmem S3x512x1024 .f32) :
    (M.slice (Rect.unit (s := S3x512x1024) (k0_off5 (grid0.coords t)) S1x512x1024.size (k0_off5_inb (grid0.coords t))) (fun _ => rfl)).squeeze S512x1024 squeezes_S1x512x1024_S512x1024 = slotOf M (Ring.sl 3 t.val) :=
  same_slot M (waited_slot_off t) _
theorem read_slot_off : ∀ t : Fin grid0.N, k0_off7 (grid0.coords t) = (![(Ring.sl 3 t.val).val, 0, 0] : Fin 3 → Nat) := by decide +kernel
@[sl_canon] theorem read_slot  (M : Memref sig .tc .vmem S3x512x1024 .f32) :
    (M.slice (Rect.unit (s := S3x512x1024) (k0_off7 (grid0.coords t)) S1x512x1024.size (k0_off7_inb (grid0.coords t))) (fun _ => rfl)).squeeze S512x1024 squeezes_S1x512x1024_S512x1024 = slotOf M (Ring.sl 3 t.val) :=
  same_slot M (read_slot_off t) _
theorem first_block_off : ∀ t : Fin grid0.N, Begins (grid0.coords t) → ![0, 0] = (![512 * (Ring.bk 8 t.val).val, 0] : Fin 2 → Nat) := by decide +kernel
@[sl_canon] theorem first_block (h0 : Begins (grid0.coords t)) (H : Memref sig .tc .hbm S4096x1024 .f32) :
    H.slice (Rect.unit (s := S4096x1024) (![0, 0]) S512x1024.size (inb_S4096x1024_S512x1024_0_0)) (fun _ => rfl) = blockOf H (Ring.bk 8 t.val) :=
  same_block H (first_block_off t h0) _
theorem second_block_off : ∀ t : Fin grid0.N, Begins (grid0.coords t) → ![512, 0] = (![512 * (Ring.bk 8 (t.val + 1)).val, 0] : Fin 2 → Nat) := by decide +kernel
@[sl_canon] theorem second_block (h0 : Begins (grid0.coords t)) (H : Memref sig .tc .hbm S4096x1024 .f32) :
    H.slice (Rect.unit (s := S4096x1024) (![512, 0]) S512x1024.size (inb_S4096x1024_S512x1024_512_0)) (fun _ => rfl) = blockOf H (Ring.bk 8 (t.val + 1)) :=
  same_block H (second_block_off t h0) _
theorem ahead_block_off : ∀ t : Fin grid0.N, Starts (grid0.coords t) → k0_off3 (grid0.coords t) = (![512 * (Ring.bk 8 (t.val + 2)).val, 0] : Fin 2 → Nat) := by decide +kernel
@[sl_canon] theorem ahead_block (h0 : Starts (grid0.coords t)) (H : Memref sig .tc .hbm S4096x1024 .f32) :
    H.slice (Rect.unit (s := S4096x1024) (k0_off3 (grid0.coords t)) S512x1024.size (k0_off3_inb (grid0.coords t) h0)) (fun _ => rfl) = blockOf H (Ring.bk 8 (t.val + 2)) :=
  same_block H (ahead_block_off t h0) _
theorem first_cell_0_off : ∀ t : Fin grid0.N, Begins (grid0.coords t) → ![0] = (![3 * (Ring.sl 3 t.val).val + (0 : Fin 3).val] : Fin 1 → Nat) := by decide +kernel
@[sl_canon] theorem first_cell_0 (h0 : Begins (grid0.coords t)) :
    (cc0_scratch4.slice (Rect.unit (s := S9) (![0]) S1.size (inb_S9_S1_0))).squeeze S_ squeezes_S1_S_ = cellOf 0 (Ring.sl 3 t.val) :=
  same_cell (first_cell_0_off t h0) _
theorem second_cell_0_off : ∀ t : Fin grid0.N, Begins (grid0.coords t) → ![3] = (![3 * (Ring.sl 3 (t.val + 1)).val + (0 : Fin 3).val] : Fin 1 → Nat) := by decide +kernel
@[sl_canon] theorem second_cell_0 (h0 : Begins (grid0.coords t)) :
    (cc0_scratch4.slice (Rect.unit (s := S9) (![3]) S1.size (inb_S9_S1_3))).squeeze S_ squeezes_S1_S_ = cellOf 0 (Ring.sl 3 (t.val + 1)) :=
  same_cell (second_cell_0_off t h0) _
theorem ahead_cell_0_off : ∀ t : Fin grid0.N, Starts (grid0.coords t) → k0_off1 (grid0.coords t) 0#32 = (![3 * (Ring.sl 3 (t.val + 2)).val + (0 : Fin 3).val] : Fin 1 → Nat) := by decide +kernel
@[sl_canon] theorem ahead_cell_0 (h0 : Starts (grid0.coords t)) :
    (cc0_scratch4.slice (Rect.unit (s := S9) (k0_off1 (grid0.coords t) 0#32) S1.size (k0_off1_inb (grid0.coords t) h0 0))).squeeze S_ squeezes_S1_S_ = cellOf 0 (Ring.sl 3 (t.val + 2)) :=
  same_cell (ahead_cell_0_off t h0) _
theorem waited_cell_0_off : ∀ t : Fin grid0.N, k0_off4 (grid0.coords t) 0#32 = (![3 * (Ring.sl 3 t.val).val + (0 : Fin 3).val] : Fin 1 → Nat) := by decide +kernel
@[sl_canon] theorem waited_cell_0  :
    (cc0_scratch4.slice (Rect.unit (s := S9) (k0_off4 (grid0.coords t) 0#32) S1.size (k0_off4_inb (grid0.coords t) 0))).squeeze S_ squeezes_S1_S_ = cellOf 0 (Ring.sl 3 t.val) :=
  same_cell (waited_cell_0_off t) _
theorem first_cell_1_off : ∀ t : Fin grid0.N, Begins (grid0.coords t) → ![1] = (![3 * (Ring.sl 3 t.val).val + (1 : Fin 3).val] : Fin 1 → Nat) := by decide +kernel
@[sl_canon] theorem first_cell_1 (h0 : Begins (grid0.coords t)) :
    (cc0_scratch4.slice (Rect.unit (s := S9) (![1]) S1.size (inb_S9_S1_1))).squeeze S_ squeezes_S1_S_ = cellOf 1 (Ring.sl 3 t.val) :=
  same_cell (first_cell_1_off t h0) _
theorem second_cell_1_off : ∀ t : Fin grid0.N, Begins (grid0.coords t) → ![4] = (![3 * (Ring.sl 3 (t.val + 1)).val + (1 : Fin 3).val] : Fin 1 → Nat) := by decide +kernel
@[sl_canon] theorem second_cell_1 (h0 : Begins (grid0.coords t)) :
    (cc0_scratch4.slice (Rect.unit (s := S9) (![4]) S1.size (inb_S9_S1_4))).squeeze S_ squeezes_S1_S_ = cellOf 1 (Ring.sl 3 (t.val + 1)) :=
  same_cell (second_cell_1_off t h0) _
theorem ahead_cell_1_off : ∀ t : Fin grid0.N, Starts (grid0.coords t) → k0_off1 (grid0.coords t) 1#32 = (![3 * (Ring.sl 3 (t.val + 2)).val + (1 : Fin 3).val] : Fin 1 → Nat) := by decide +kernel
@[sl_canon] theorem ahead_cell_1 (h0 : Starts (grid0.coords t)) :
    (cc0_scratch4.slice (Rect.unit (s := S9) (k0_off1 (grid0.coords t) 1#32) S1.size (k0_off1_inb (grid0.coords t) h0 1))).squeeze S_ squeezes_S1_S_ = cellOf 1 (Ring.sl 3 (t.val + 2)) :=
  same_cell (ahead_cell_1_off t h0) _
theorem waited_cell_1_off : ∀ t : Fin grid0.N, k0_off4 (grid0.coords t) 1#32 = (![3 * (Ring.sl 3 t.val).val + (1 : Fin 3).val] : Fin 1 → Nat) := by decide +kernel
@[sl_canon] theorem waited_cell_1  :
    (cc0_scratch4.slice (Rect.unit (s := S9) (k0_off4 (grid0.coords t) 1#32) S1.size (k0_off4_inb (grid0.coords t) 1))).squeeze S_ squeezes_S1_S_ = cellOf 1 (Ring.sl 3 t.val) :=
  same_cell (waited_cell_1_off t) _
theorem first_cell_2_off : ∀ t : Fin grid0.N, Begins (grid0.coords t) → ![2] = (![3 * (Ring.sl 3 t.val).val + (2 : Fin 3).val] : Fin 1 → Nat) := by decide +kernel
@[sl_canon] theorem first_cell_2 (h0 : Begins (grid0.coords t)) :
    (cc0_scratch4.slice (Rect.unit (s := S9) (![2]) S1.size (inb_S9_S1_2))).squeeze S_ squeezes_S1_S_ = cellOf 2 (Ring.sl 3 t.val) :=
  same_cell (first_cell_2_off t h0) _
theorem second_cell_2_off : ∀ t : Fin grid0.N, Begins (grid0.coords t) → ![5] = (![3 * (Ring.sl 3 (t.val + 1)).val + (2 : Fin 3).val] : Fin 1 → Nat) := by decide +kernel
@[sl_canon] theorem second_cell_2 (h0 : Begins (grid0.coords t)) :
    (cc0_scratch4.slice (Rect.unit (s := S9) (![5]) S1.size (inb_S9_S1_5))).squeeze S_ squeezes_S1_S_ = cellOf 2 (Ring.sl 3 (t.val + 1)) :=
  same_cell (second_cell_2_off t h0) _
theorem ahead_cell_2_off : ∀ t : Fin grid0.N, Starts (grid0.coords t) → k0_off1 (grid0.coords t) 2#32 = (![3 * (Ring.sl 3 (t.val + 2)).val + (2 : Fin 3).val] : Fin 1 → Nat) := by decide +kernel
@[sl_canon] theorem ahead_cell_2 (h0 : Starts (grid0.coords t)) :
    (cc0_scratch4.slice (Rect.unit (s := S9) (k0_off1 (grid0.coords t) 2#32) S1.size (k0_off1_inb (grid0.coords t) h0 2))).squeeze S_ squeezes_S1_S_ = cellOf 2 (Ring.sl 3 (t.val + 2)) :=
  same_cell (ahead_cell_2_off t h0) _
theorem waited_cell_2_off : ∀ t : Fin grid0.N, k0_off4 (grid0.coords t) 2#32 = (![3 * (Ring.sl 3 t.val).val + (2 : Fin 3).val] : Fin 1 → Nat) := by decide +kernel
@[sl_canon] theorem waited_cell_2  :
    (cc0_scratch4.slice (Rect.unit (s := S9) (k0_off4 (grid0.coords t) 2#32) S1.size (k0_off4_inb (grid0.coords t) 2))).squeeze S_ squeezes_S1_S_ = cellOf 2 (Ring.sl 3 t.val) :=
  same_cell (waited_cell_2_off t) _

/-- A load from the scratch buffer lies in the slot waited for. -/
instance (priority := high) read_closed (t : Fin grid0.N) : ClosedOff (k0_off7 (grid0.coords t)) := ⟨![(Ring.sl 3 t.val).val, 0, 0], read_slot_off t⟩

end Names

end Cert.OutFrame

end
-- ==== Proof.OutParts.lean ====
/-
  Loads and stores of parts of a buffer, as the mixer output's backward kernel makes them: slabs of a stack of four, halves of the weight's
  sum, and the one slab a streamed block has come into. And what the kernel makes of its blocks at one grid point.
-/
module

public import proofs.«01_k».proof.Proof.OutRing
public import Idealize.ShloMosaic.Lib.Pointwise

@[expose] public section

set_option maxRecDepth 65536
set_option maxHeartbeats 40000000

noncomputable section

namespace Cert.OutFrame

open Cert.BwdOutIdeal Cert.BwdOutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## Loads and stores of parts of a buffer -/

section Parts

variable {Val : EltTy → Type} [∀ e, Nonempty (Val e)] {e : EltTy} {κ : Kind} {sp : Space}

section

variable {S : Shape} (v : View sig κ sp S e) (f : v.ty.Contents Val) {off off' : Fin S.rank → ℕ} (inb : ∀ a, off a + S.size a ≤ S.size a)
  (inb' : ∀ a, off' a + S.size a ≤ S.size a) (w : S.Idx → Val e) (L : List (View.Piece Val S e))

theorem whole_stored : v.read Val (v.writes Val f ((⟨Rect.unit off (no_index S.size) inb, w⟩ : View.Piece Val S e) :: L)) = w :=
  View.read_writes_full v f inb w L
theorem whole_loaded : v.readAt Val (Rect.unit off (no_index S.size) inb).toLoadRect f = v.read Val f := View.readAt_full v f inb
theorem whole_reloaded :
    v.readCov ((⟨Rect.unit off (no_index S.size) inb, w⟩ : View.Piece Val S e) :: L) (Rect.unit off' (no_index S.size) inb').toLoadRect = w :=
  View.readCov_full v inb' inb w L

end

theorem unit_emb_val {S : Shape} {off size : Fin S.rank → ℕ} (inb : ∀ a, off a + size a ≤ S.size a) (i : (Rect.unit off size inb).shape.Idx) (a : Fin S.rank) :
    ((Rect.unit off size inb).emb i a).val = off a + 1 * (i a).val := rfl

/-- Four slabs side by side. -/
def stack {α : Type} (w0 w1 w2 w3 : S1x512x128.Idx → α) : S4x512x128.Idx → α := fun i =>
  ((![w0, w1, w2, w3] : Fin 4 → S1x512x128.Idx → α) (i 0)) (ix3 (0 : Fin 1) (i 1) (i 2))
/-- Two halves, one above the other. -/
def halves {α : Type} (w0 w1 : S512x1024.Idx → α) : S1024x1024.Idx → α := fun i =>
  if h : (i 0).val < 512 then w0 (ix2 ⟨(i 0).val, h⟩ (i 1)) else w1 (ix2 ⟨(i 0).val - 512, by have := (i 0).isLt; simp at this; omega⟩ (i 1))
/-- Slab `k`. -/
def slab {α : Type} (k : Fin 4) (x : S4x512x128.Idx → α) : S1x512x128.Idx → α := fun i => x (ix3 k (i 1) (i 2))
def lower {α : Type} (x : S1024x1024.Idx → α) : S512x1024.Idx → α := fun i => x (ix2 (⟨(i 0).val, by have := (i 0).isLt; simp at this; omega⟩ : Fin 1024) (i 1))
def upper {α : Type} (x : S1024x1024.Idx → α) : S512x1024.Idx → α := fun i => x (ix2 (⟨512 + (i 0).val, by have := (i 0).isLt; simp at this; omega⟩ : Fin 1024) (i 1))

theorem slab_loaded (v : View sig κ sp S4x512x128 e) (f : v.ty.Contents Val) (k : Fin 4)
    (inb : ∀ a, (![k.val, 0, 0] : Fin 3 → ℕ) a + S1x512x128.size a ≤ S4x512x128.size a) :
    v.readAt Val (Rect.unit (s := S4x512x128) ![k.val, 0, 0] (no_index S1x512x128.size) inb).toLoadRect f = slab k (v.read Val f) := by
  rw [View.readAt_unit v f inb rfl inb]
  funext i
  show v.read Val f _ = v.read Val f _
  congr 1
  funext a; apply Fin.ext
  rw [unit_emb_val]
  fin_cases a <;> simp [ix3] <;> have := (i 0).isLt <;> simp at this <;> omega
theorem slab0_loaded (v : View sig κ sp S4x512x128 e) (f : v.ty.Contents Val) (inb : ∀ a, (![0, 0, 0] : Fin 3 → ℕ) a + S1x512x128.size a ≤ S4x512x128.size a) :
    v.readAt Val (Rect.unit (s := S4x512x128) ![0, 0, 0] (no_index S1x512x128.size) inb).toLoadRect f = slab 0 (v.read Val f) := slab_loaded v f 0 inb
theorem slab1_loaded (v : View sig κ sp S4x512x128 e) (f : v.ty.Contents Val) (inb : ∀ a, (![1, 0, 0] : Fin 3 → ℕ) a + S1x512x128.size a ≤ S4x512x128.size a) :
    v.readAt Val (Rect.unit (s := S4x512x128) ![1, 0, 0] (no_index S1x512x128.size) inb).toLoadRect f = slab 1 (v.read Val f) := slab_loaded v f 1 inb
theorem slab2_loaded (v : View sig κ sp S4x512x128 e) (f : v.ty.Contents Val) (inb : ∀ a, (![2, 0, 0] : Fin 3 → ℕ) a + S1x512x128.size a ≤ S4x512x128.size a) :
    v.readAt Val (Rect.unit (s := S4x512x128) ![2, 0, 0] (no_index S1x512x128.size) inb).toLoadRect f = slab 2 (v.read Val f) := slab_loaded v f 2 inb
theorem slab3_loaded (v : View sig κ sp S4x512x128 e) (f : v.ty.Contents Val) (inb : ∀ a, (![3, 0, 0] : Fin 3 → ℕ) a + S1x512x128.size a ≤ S4x512x128.size a) :
    v.readAt Val (Rect.unit (s := S4x512x128) ![3, 0, 0] (no_index S1x512x128.size) inb).toLoadRect f = slab 3 (v.read Val f) := slab_loaded v f 3 inb
theorem lower_loaded (v : View sig κ sp S1024x1024 e) (f : v.ty.Contents Val)
    (inb : ∀ a, (![0, 0] : Fin 2 → ℕ) a + S512x1024.size a ≤ S1024x1024.size a) :
    v.readAt Val (Rect.unit (s := S1024x1024) ![0, 0] (no_index S512x1024.size) inb).toLoadRect f = lower (v.read Val f) := by
  rw [View.readAt_unit v f inb rfl inb]
  funext i
  show v.read Val f _ = v.read Val f _
  congr 1
  funext a; apply Fin.ext
  rw [unit_emb_val]
  fin_cases a <;> simp [ix2]
theorem upper_loaded (v : View sig κ sp S1024x1024 e) (f : v.ty.Contents Val)
    (inb : ∀ a, (![512, 0] : Fin 2 → ℕ) a + S512x1024.size a ≤ S1024x1024.size a) :
    v.readAt Val (Rect.unit (s := S1024x1024) ![512, 0] (no_index S512x1024.size) inb).toLoadRect f = upper (v.read Val f) := by
  rw [View.readAt_unit v f inb rfl inb]
  funext i
  show v.read Val f _ = v.read Val f _
  congr 1
  funext a; apply Fin.ext
  rw [unit_emb_val]
  fin_cases a <;> simp [ix2]

theorem halves_stored (v : View sig κ sp S1024x1024 e) (f : v.ty.Contents Val) (L : List (View.Piece Val S1024x1024 e))
    (inb : ∀ a, (![0, 0] : Fin 2 → ℕ) a + S512x1024.size a ≤ S1024x1024.size a)
    (inb' : ∀ a, (![512, 0] : Fin 2 → ℕ) a + S512x1024.size a ≤ S1024x1024.size a) (w0 w1 : S512x1024.Idx → Val e) :
    v.read Val (v.writes Val f ((⟨Rect.unit (s := S1024x1024) ![512, 0] (no_index S512x1024.size) inb', w1⟩ : View.Piece Val S1024x1024 e)
      :: (⟨Rect.unit (s := S1024x1024) ![0, 0] (no_index S512x1024.size) inb, w0⟩ : View.Piece Val S1024x1024 e) :: L)) = halves w0 w1 := by
  rw [View.read_writes_cons_put v f inb' w1 _ rfl, View.read_writes_cons_put v f inb w0 _ rfl]
  funext i
  have h0 := (i 0).isLt; have h1 := (i 1).isLt
  simp at h0 h1
  unfold VecWindow.put halves
  by_cases h : (i 0).val < 512
  · rw [dif_pos h, dif_neg (by intro q; have := (q 0).1; simp at this; omega), dif_pos (by intro a; fin_cases a <;> simp <;> omega)]
    congr 1; funext a; apply Fin.ext; fin_cases a <;> simp [Rect.unitLocal, ix2]
  · rw [dif_neg h, dif_pos (by intro a; fin_cases a <;> simp <;> omega)]
    congr 1; funext a; apply Fin.ext; fin_cases a <;> simp [Rect.unitLocal, ix2]

theorem halves_reloaded (v : View sig κ sp S1024x1024 e) {off : Fin 2 → ℕ} (L : List (View.Piece Val S1024x1024 e))
    (inb : ∀ a, (![0, 0] : Fin 2 → ℕ) a + S512x1024.size a ≤ S1024x1024.size a)
    (inb' : ∀ a, (![512, 0] : Fin 2 → ℕ) a + S512x1024.size a ≤ S1024x1024.size a) (inb'' : ∀ a, off a + S1024x1024.size a ≤ S1024x1024.size a)
    (w0 w1 : S512x1024.Idx → Val e) :
    v.readCov ((⟨Rect.unit (s := S1024x1024) ![512, 0] (no_index S512x1024.size) inb', w1⟩ : View.Piece Val S1024x1024 e)
      :: (⟨Rect.unit (s := S1024x1024) ![0, 0] (no_index S512x1024.size) inb, w0⟩ : View.Piece Val S1024x1024 e) :: L)
      (Rect.unit (s := S1024x1024) off (no_index S1024x1024.size) inb'').toLoadRect = halves w0 w1 := by
  show v.readAt Val _ (v.writes Val v.junk _) = _
  rw [whole_loaded, halves_stored]
theorem lower_reloaded (v : View sig κ sp S1024x1024 e) {off : Fin 2 → ℕ} (w : S1024x1024.Idx → Val e)
    (inb : ∀ a, (![0, 0] : Fin 2 → ℕ) a + S512x1024.size a ≤ S1024x1024.size a) (inb' : ∀ a, off a + S1024x1024.size a ≤ S1024x1024.size a) :
    v.readCov [(⟨Rect.unit (s := S1024x1024) off (no_index S1024x1024.size) inb', w⟩ : View.Piece Val S1024x1024 e)]
      (Rect.unit (s := S1024x1024) ![0, 0] (no_index S512x1024.size) inb).toLoadRect = lower w := by
  show v.readAt Val _ (v.writes Val v.junk _) = _
  rw [lower_loaded, whole_stored]
theorem upper_reloaded (v : View sig κ sp S1024x1024 e) {off : Fin 2 → ℕ} (w : S1024x1024.Idx → Val e) (w0 : S512x1024.Idx → Val e)
    (inb0 : ∀ a, (![0, 0] : Fin 2 → ℕ) a + S512x1024.size a ≤ S1024x1024.size a)
    (inb : ∀ a, (![512, 0] : Fin 2 → ℕ) a + S512x1024.size a ≤ S1024x1024.size a) (inb' : ∀ a, off a + S1024x1024.size a ≤ S1024x1024.size a) :
    v.readCov [(⟨Rect.unit (s := S1024x1024) ![0, 0] (no_index S512x1024.size) inb0, w0⟩ : View.Piece Val S1024x1024 e),
      (⟨Rect.unit (s := S1024x1024) off (no_index S1024x1024.size) inb', w⟩ : View.Piece Val S1024x1024 e)]
      (Rect.unit (s := S1024x1024) ![512, 0] (no_index S512x1024.size) inb).toLoadRect = upper w := by
  show v.readAt Val _ (v.writes Val v.junk _) = _
  rw [upper_loaded, View.read_writes_cons_put v _ inb0 w0 _ rfl, whole_stored]
  funext i
  unfold upper VecWindow.put
  rw [dif_neg (by intro q; have := (q 0).2; simp at this)]

theorem stack_stored (v : View sig κ sp S4x512x128 e) (f : v.ty.Contents Val)
    (i0 : ∀ a, (![0, 0, 0] : Fin 3 → ℕ) a + S1x512x128.size a ≤ S4x512x128.size a) (i1 : ∀ a, (![1, 0, 0] : Fin 3 → ℕ) a + S1x512x128.size a ≤ S4x512x128.size a)
    (i2 : ∀ a, (![2, 0, 0] : Fin 3 → ℕ) a + S1x512x128.size a ≤ S4x512x128.size a) (i3 : ∀ a, (![3, 0, 0] : Fin 3 → ℕ) a + S1x512x128.size a ≤ S4x512x128.size a)
    (w0 w1 w2 w3 : S1x512x128.Idx → Val e) :
    v.read Val (v.writes Val f [(⟨Rect.unit (s := S4x512x128) ![3, 0, 0] (no_index S1x512x128.size) i3, w3⟩ : View.Piece Val S4x512x128 e),
      (⟨Rect.unit (s := S4x512x128) ![2, 0, 0] (no_index S1x512x128.size) i2, w2⟩ : View.Piece Val S4x512x128 e),
      (⟨Rect.unit (s := S4x512x128) ![1, 0, 0] (no_index S1x512x128.size) i1, w1⟩ : View.Piece Val S4x512x128 e),
      (⟨Rect.unit (s := S4x512x128) ![0, 0, 0] (no_index S1x512x128.size) i0, w0⟩ : View.Piece Val S4x512x128 e)]) = stack w0 w1 w2 w3 := by
  rw [View.read_writes_cons_put v f i3 w3 _ rfl, View.read_writes_cons_put v f i2 w2 _ rfl, View.read_writes_cons_put v f i1 w1 _ rfl,
    View.read_writes_cons_put v f i0 w0 _ rfl]
  funext i
  have h0 := (i 0).isLt; have h1 := (i 1).isLt; have h2 := (i 2).isLt
  simp at h0 h1 h2
  unfold VecWindow.put stack
  have hk : ∀ k : ℕ, (∀ a, (![k, 0, 0] : Fin 3 → ℕ) a ≤ (i a).val ∧ (i a).val < (![k, 0, 0] : Fin 3 → ℕ) a + S1x512x128.size a) ↔ (i 0).val = k := fun k => by
    refine ⟨fun q => ?_, fun q a => ?_⟩
    · have := q 0; simp at this; omega
    · fin_cases a <;> simp <;> omega
  have at_k : ∀ k : ℕ, ∀ q : (∀ a, (![k, 0, 0] : Fin 3 → ℕ) a ≤ (i a).val ∧ (i a).val < (![k, 0, 0] : Fin 3 → ℕ) a + S1x512x128.size a),
      Rect.unitLocal i q = (ix3 (0 : Fin 1) (i 1) (i 2) : S1x512x128.Idx) := fun k q => by
    funext a; apply Fin.ext
    have := (hk k).1 q
    fin_cases a <;> simp [Rect.unitLocal, ix3]
  obtain ⟨k, hik⟩ : ∃ k : Fin 4, i 0 = k := ⟨_, rfl⟩
  rw [hik]
  have hv : (i 0).val = k.val := by rw [hik]
  fin_cases k
  · rw [dif_neg (by rw [hk]; simp at hv; omega), dif_neg (by rw [hk]; simp at hv; omega), dif_neg (by rw [hk]; simp at hv; omega), dif_pos ((hk 0).2 hv), at_k]; rfl
  · rw [dif_neg (by rw [hk]; simp at hv; omega), dif_neg (by rw [hk]; simp at hv; omega), dif_pos ((hk 1).2 hv), at_k]; rfl
  · rw [dif_neg (by rw [hk]; simp at hv; omega), dif_pos ((hk 2).2 hv), at_k]; rfl
  · rw [dif_pos ((hk 3).2 hv), at_k]; rfl

/-- A block as the one slab of its own. -/
def up {α : Type} (b : S512x1024.Idx → α) : S1x512x1024.Idx → α := shapeCast S1x512x1024 b (by decide)

end Parts

theorem landed_loaded (M : Memref sig .tc .vmem S3x512x1024 .f32) (t : Fin cfg0.N)
    (inb : ∀ a, k0_off7 (grid0.coords t) a + S1x512x1024.size a ≤ S3x512x1024.size a) (f : (slotOf M (Ring.sl 3 t.val)).view.ty.Contents (Elt F)) (w : Vec F S512x1024 .f32) :
    M.view.readAt (Elt F) (Rect.unit (s := S3x512x1024) (k0_off7 (grid0.coords t)) (no_index S1x512x1024.size) inb).toLoadRect
      ((slotOf M (Ring.sl 3 t.val)).view.writes (Elt F) f [(⟨Rect.whole S512x1024, w⟩ : View.Piece (Elt F) S512x1024 .f32)]) = up w := by
  have e := read_slot_off t
  generalize k0_off7 (grid0.coords t) = off at inb e
  subst e
  funext x
  let y : S512x1024.Idx := Shape.reshapeEquiv (show S1x512x1024.numel = S512x1024.numel by decide) x
  have hy : (slotOf M (Ring.sl 3 t.val)).view.read (Elt F) ((slotOf M (Ring.sl 3 t.val)).view.writes (Elt F) f [(⟨Rect.whole S512x1024, w⟩ : View.Piece (Elt F) S512x1024 .f32)]) y = w y := by
    have := View.read_writes_cons_emb (v := (slotOf M (Ring.sl 3 t.val)).view) f (Rect.whole S512x1024) w [] y
    rwa [Rect.emb_whole_apply] at this
  refine Eq.trans ?_ hy
  show M.view.read (Elt F) _ _ = M.view.read (Elt F) _ ((Rect.unit (s := S3x512x1024) _ _ _).emb (Shape.reshapeEquiv _ y))
  rw [Shape.reshapeEquiv_reshapeEquiv, Shape.reshapeEquiv_self]
  rfl

theorem landed1_loaded (t : Fin cfg0.N) (inb : ∀ a, k0_off7 (grid0.coords t) a + S1x512x1024.size a ≤ S3x512x1024.size a)
    (f : (slotOf (Memref.whole cc0_scratch1) (Ring.sl 3 t.val)).view.ty.Contents (Elt F)) (w : Vec F S512x1024 .f32) :
    View.readAt (Elt F) (View.whole cc0_scratch1) (Rect.unit (s := S3x512x1024) (k0_off7 (grid0.coords t)) (no_index S1x512x1024.size) inb).toLoadRect
      ((slotOf (Memref.whole cc0_scratch1) (Ring.sl 3 t.val)).view.writes (Elt F) f [(⟨Rect.whole S512x1024, w⟩ : View.Piece (Elt F) S512x1024 .f32)]) = up w :=
  landed_loaded (Memref.whole cc0_scratch1) t inb f w
theorem landed2_loaded (t : Fin cfg0.N) (inb : ∀ a, k0_off7 (grid0.coords t) a + S1x512x1024.size a ≤ S3x512x1024.size a)
    (f : (slotOf (Memref.whole cc0_scratch2) (Ring.sl 3 t.val)).view.ty.Contents (Elt F)) (w : Vec F S512x1024 .f32) :
    View.readAt (Elt F) (View.whole cc0_scratch2) (Rect.unit (s := S3x512x1024) (k0_off7 (grid0.coords t)) (no_index S1x512x1024.size) inb).toLoadRect
      ((slotOf (Memref.whole cc0_scratch2) (Ring.sl 3 t.val)).view.writes (Elt F) f [(⟨Rect.whole S512x1024, w⟩ : View.Piece (Elt F) S512x1024 .f32)]) = up w :=
  landed_loaded (Memref.whole cc0_scratch2) t inb f w
theorem landed3_loaded (t : Fin cfg0.N) (inb : ∀ a, k0_off7 (grid0.coords t) a + S1x512x1024.size a ≤ S3x512x1024.size a)
    (f : (slotOf (Memref.whole cc0_scratch3) (Ring.sl 3 t.val)).view.ty.Contents (Elt F)) (w : Vec F S512x1024 .f32) :
    View.readAt (Elt F) (View.whole cc0_scratch3) (Rect.unit (s := S3x512x1024) (k0_off7 (grid0.coords t)) (no_index S1x512x1024.size) inb).toLoadRect
      ((slotOf (Memref.whole cc0_scratch3) (Ring.sl 3 t.val)).view.writes (Elt F) f [(⟨Rect.whole S512x1024, w⟩ : View.Piece (Elt F) S512x1024 .f32)]) = up w :=
  landed_loaded (Memref.whole cc0_scratch3) t inb f w

/-! ## What a point makes of its blocks -/

/-- The blocks a point works on: the two groups of heads' outputs, their scales, the output weight, the second norm's scale, and the three
    streamed blocks — the gradient of that norm's output, the gradient that goes past it, and the norm's input. -/
structure Blocks (F : FTy → Type) where
  yp : Vec F S4x512x128 .f32
  yl : Vec F S4x512x128 .f32
  gp : Vec F S1x512 .f32
  gl : Vec F S1x512 .f32
  w : Vec F S1024x1024 .bf16
  g2 : Vec F S1x1024 .f32
  dn : Vec F S512x1024 .f32
  dh : Vec F S512x1024 .f32
  h1 : Vec F S512x1024 .f32

namespace Blocks

variable (p : Blocks F)

/-- The gradient at the mixer's output, and the same rounded. -/
def dh1 : FVec F S512x1024 .f32 := k0_pay17 p.g2 (k0_pay12 (up p.h1)) (k0_pay13 (up p.h1)) (up p.dn) (up p.dh)
def db : FVec F S512x1024 .bf16 := k0_pay18 p.g2 (k0_pay12 (up p.h1)) (k0_pay13 (up p.h1)) (up p.dn) (up p.dh)
/-- The first group's inverse root mean square, normalised rows, and these scaled. -/
def rp : FVec F S512x1 .f32 := k0_pay22 (k0_pay19 (slab 0 p.yp)) (k0_pay20 (slab 1 p.yp)) (slab 2 p.yp) (slab 3 p.yp)
def np : FVec F S512x512 .f32 := k0_pay23 (k0_pay19 (slab 0 p.yp)) (k0_pay20 (slab 1 p.yp)) (slab 2 p.yp) (slab 3 p.yp)
def sp : FVec F S512x512 .f32 := k0_pay24 p.gp (k0_pay19 (slab 0 p.yp)) (k0_pay20 (slab 1 p.yp)) (slab 2 p.yp) (slab 3 p.yp)
/-- The second group's. -/
def rl : FVec F S512x1 .f32 := k0_pay26 (slab 0 p.yl) (slab 1 p.yl) (slab 2 p.yl) (slab 3 p.yl)
def nl : FVec F S512x512 .f32 := k0_pay27 (slab 0 p.yl) (slab 1 p.yl) (slab 2 p.yl) (slab 3 p.yl)
/-- The first group's gradient before and after its stacking by heads. -/
def gradP : FVec F S512x512 .f32 := k0_pay32 p.db p.gp p.rp p.np (lower p.w)
def dyp : Vec F S4x512x128 .f32 := stack (k0_pay39 p.gradP) (k0_pay40 p.gradP) (k0_pay41 p.gradP) (k0_pay42 p.gradP)
/-- The second group's. -/
def inL : FVec F S512x512 .f32 := k0_pay35 p.db p.gl (upper p.w)
def alongL : FVec F S512x512 .f32 := k0_pay36 p.db p.gl p.nl (upper p.w)
def dyl : Vec F S4x512x128 .f32 :=
  stack (k0_pay43 p.rl p.nl p.inL p.alongL) (k0_pay1 (k0_pay44 p.rl p.nl p.inL p.alongL)) (k0_pay2 (k0_pay37 p.rl p.nl p.inL p.alongL))
    (k0_pay3 (k0_pay37 p.rl p.nl p.inL p.alongL))

end Blocks

/-- The sums carried from point to point: the output weight's and the three scales'. -/
@[ext] structure Sums (F : FTy → Type) where
  dw : Vec F S1024x1024 .f32
  dg2 : Vec F S1x1024 .f32
  dgp : Vec F S1x512 .f32
  dgl : Vec F S1x512 .f32

/-- The sums before anything is added. -/
def zeros : Sums F := ⟨k0_pay7, k0_pay8, k0_pay9, k0_pay10⟩

/-- A block's contribution added to the sums. -/
def Sums.add (s : Sums F) (p : Blocks F) : Sums F where
  dw := halves (k0_pay29 p.db p.sp (lower s.dw)) (k0_pay30 p.db p.nl (k0_pay28 p.gl) (upper s.dw))
  dg2 := k0_pay15 (k0_pay13 (up p.h1)) (up p.dn) s.dg2
  dgp := k0_pay4 (k0_pay33 p.db p.np (lower p.w)) s.dgp
  dgl := k0_pay5 (k0_pay38 p.nl (k0_pay34 p.db (upper p.w))) s.dgl

/-- The sums after point `t`. -/
def Sums.after (s : Sums F) (t : ℕ) (p : Blocks F) : Sums F := (if t = 0 then zeros else s).add p

end Cert.OutFrame

end
-- ==== Proof.OutRun.lean ====
/-
  The run of the mixer output's backward kernel at one grid point. The first point starts the three streams' first blocks and clears the
  sums; every point but the last two starts the block two ahead; every point waits for its own blocks, works on them, and adds to the sums;
  the last point hands out the weight's sum.
-/
module

public import proofs.«01_k».proof.Proof.OutParts

@[expose] public section

set_option maxRecDepth 65536
set_option maxHeartbeats 40000000

noncomputable section

namespace Cert.OutFrame

open Cert.BwdOutIdeal Cert.BwdOutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- A buffer of the call's, held whole at some contents. -/
abbrev atAnything (c : Dev nD) {S : Shape} {e : EltTy} (M : Memref sig .tc .vmem S e) : sProp 𝕄 := iprop(∃ d, owns (c : Thread nD τ) M fullShare d)

variable (c : Dev nD) (t : Fin cfg0.N)
  (a4 : Memref sig .tc .vmem S4x512x128 .f32) (h4 : a4.IsWhole) (a5 : Memref sig .tc .vmem S4x512x128 .f32) (h5 : a5.IsWhole)
  (a6 : Memref sig .tc .vmem S1x512 .f32) (h6 : a6.IsWhole) (a7 : Memref sig .tc .vmem S1x512 .f32) (h7 : a7.IsWhole)
  (a8 : Memref sig .tc .vmem S1024x1024 .bf16) (h8 : a8.IsWhole) (a9 : Memref sig .tc .vmem S1x1024 .f32) (h9 : a9.IsWhole)
  (a11 : Memref sig .tc .vmem S512x1024 .f32) (h11 : a11.IsWhole) (a12 : Memref sig .tc .vmem S4x512x128 .f32) (h12 : a12.IsWhole)
  (a13 : Memref sig .tc .vmem S4x512x128 .f32) (h13 : a13.IsWhole) (a14 : Memref sig .tc .vmem S1024x1024 .bf16) (h14 : a14.IsWhole)
  (a15 : Memref sig .tc .vmem S1x1024 .f32) (h15 : a15.IsWhole) (a16 : Memref sig .tc .vmem S1x512 .f32) (h16 : a16.IsWhole)
  (a17 : Memref sig .tc .vmem S1x512 .f32) (h17 : a17.IsWhole) (a18 : Memref sig .tc .vmem S1024x1024 .f32) (h18 : a18.IsWhole)

/-- The call's body on these buffers. -/
abbrev body : Prog (TpuEff nD τ sig (Elt F) Λ₀ .tc) PUnit :=
  cc0_bwd_out (grid0.coords t) (Memref.whole main_v46) (Memref.isWhole_whole _) (Memref.whole main_v47) (Memref.isWhole_whole _)
    (Memref.whole main_v48) (Memref.isWhole_whole _) a4 h4 a5 h5 a6 h6 a7 h7 a8 h8 a9 h9 (Memref.whole main_v57) (Memref.isWhole_whole _)
    a11 h11 a12 h12 a13 h13 a14 h14 a15 h15 a16 h16 a17 h17 a18 h18 (Memref.whole cc0_scratch1) (Memref.isWhole_whole _)
    (Memref.whole cc0_scratch2) (Memref.isWhole_whole _) (Memref.whole cc0_scratch3) (Memref.isWhole_whole _) cc0_scratch4

/-- The three streams before point `n`. -/
abbrev streams (W1 : Held (F := F) c (Memref.whole main_v46)) (W2 : Held (F := F) c (Memref.whole main_v47)) (W3 : Held (F := F) c (Memref.whole main_v48))
    (n : ℕ) : sProp 𝕄 :=
  iprop(streamAt c (Memref.whole cc0_scratch1) (Memref.whole main_v46) 0 W1 n ∗ streamAt c (Memref.whole cc0_scratch2) (Memref.whole main_v47) 1 W2 n
    ∗ streamAt c (Memref.whole cc0_scratch3) (Memref.whole main_v48) 2 W3 n)

/-- What the body is given at a point, beside the streams, -/
abbrev before (p : Blocks F) (x14 : Vec F S1024x1024 .bf16) (s : Sums F) : sProp 𝕄 :=
  iprop(owns (c : Thread nD τ) a4 fullShare p.yp ∗ owns (c : Thread nD τ) a5 fullShare p.yl ∗ owns (c : Thread nD τ) a6 fullShare p.gp ∗ owns (c : Thread nD τ) a7 fullShare p.gl
    ∗ owns (c : Thread nD τ) a8 fullShare p.w ∗ owns (c : Thread nD τ) a9 fullShare p.g2 ∗ atAnything c a11 ∗ atAnything c a12 ∗ atAnything c a13
    ∗ owns (c : Thread nD τ) a14 fullShare x14 ∗ owns (c : Thread nD τ) a15 fullShare s.dg2 ∗ owns (c : Thread nD τ) a16 fullShare s.dgp
    ∗ owns (c : Thread nD τ) a17 fullShare s.dgl ∗ owns (c : Thread nD τ) a18 fullShare s.dw)
/-- and what it leaves. -/
abbrev behind (p : Blocks F) (x14 : Vec F S1024x1024 .bf16) (s : Sums F) : sProp 𝕄 :=
  iprop(owns (c : Thread nD τ) a4 fullShare p.yp ∗ owns (c : Thread nD τ) a5 fullShare p.yl ∗ owns (c : Thread nD τ) a6 fullShare p.gp ∗ owns (c : Thread nD τ) a7 fullShare p.gl
    ∗ owns (c : Thread nD τ) a8 fullShare p.w ∗ owns (c : Thread nD τ) a9 fullShare p.g2 ∗ owns (c : Thread nD τ) a11 fullShare p.dh1
    ∗ owns (c : Thread nD τ) a12 fullShare p.dyp ∗ owns (c : Thread nD τ) a13 fullShare p.dyl
    ∗ owns (c : Thread nD τ) a14 fullShare (if t.val = 7 then k0_pay6 (s.after t p).dw else x14)
    ∗ owns (c : Thread nD τ) a15 fullShare (s.after t p).dg2 ∗ owns (c : Thread nD τ) a16 fullShare (s.after t p).dgp
    ∗ owns (c : Thread nD τ) a17 fullShare (s.after t p).dgl ∗ owns (c : Thread nD τ) a18 fullShare (s.after t p).dw)

variable (p : Blocks F) (x14 : Vec F S1024x1024 .bf16) (s : Sums F)
  (W1 : Held (F := F) c (Memref.whole main_v46)) (W2 : Held (F := F) c (Memref.whole main_v47)) (W3 : Held (F := F) c (Memref.whole main_v48))
  (e1 : (blockOf (Memref.whole main_v46) (Ring.bk 8 t.val)).view.read (Elt F) W1 = p.dn)
  (e2 : (blockOf (Memref.whole main_v47) (Ring.bk 8 t.val)).view.read (Elt F) W2 = p.dh)
  (e3 : (blockOf (Memref.whole main_v48) (Ring.bk 8 t.val)).view.read (Elt F) W3 = p.h1)

include e1 e2 e3 in
theorem run (W : Waits sig Unit) (K : PUnit → sProp 𝕄) :
    iprop(before c a4 a5 a6 a7 a8 a9 a11 a12 a13 a14 a15 a16 a17 a18 p x14 s ∗ streams c W1 W2 W3 t.val ∗ owes (c : Thread nD τ) 0 W
        ∗ ((behind c t a4 a5 a6 a7 a8 a9 a11 a12 a13 a14 a15 a16 a17 a18 p x14 s ∗ streams c W1 W2 W3 (t.val + 1) ∗ (∃ W', owes (c : Thread nD τ) 0 W')) -∗ K ⟨⟩))
      ⊢ wp frame (wpE (defs₀ (F := F)) Variants.none c none) Set.univ (body t a4 h4 a5 h5 a6 h6 a7 h7 a8 h8 a9 h9 a11 h11 a12 h12 a13 h13 a14 h14 a15 h15 a16 h16 a17 h17 a18 h18) K := by
  have b0 := begins_iff t; have b1 := starts_iff t; have b2 := clears_iff t; have b3 := ends_iff t
  have ht : t.val < 8 := t.isLt
  unfold body before behind streams
  simp only [cc0_bwd_out_eq_skeleton]; unfold cc0_bwd_out_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold atAnything owns
  iintro ⟨⟨⟨%f4, %r4, A4⟩, ⟨%f5, %r5, A5⟩, ⟨%f6, %r6, A6⟩, ⟨%f7, %r7, A7⟩, ⟨%f8, %r8, A8⟩, ⟨%f9, %r9, A9⟩, ⟨%d11, %f11, -, A11⟩, ⟨%d12, %f12, -, A12⟩, ⟨%d13, %f13, -, A13⟩,
    ⟨%f14, %r14, A14⟩, ⟨%f15, %r15, A15⟩, ⟨%f16, %r16, A16⟩, ⟨%f17, %r17, A17⟩, ⟨%f18, %r18, A18⟩⟩, ⟨P, Q, R⟩, HW, Hk⟩
  obtain rfl := h4.eq_unread r4; obtain rfl := h5.eq_unread r5; obtain rfl := h6.eq_unread r6; obtain rfl := h7.eq_unread r7; obtain rfl := h8.eq_unread r8
  obtain rfl := h9.eq_unread r9; obtain rfl := h14.eq_unread r14; obtain rfl := h15.eq_unread r15; obtain rfl := h16.eq_unread r16; obtain rfl := h17.eq_unread r17; obtain rfl := h18.eq_unread r18
  rcases (show t.val = 0 ∨ (t.val ≠ 0 ∧ t.val < 6) ∨ t.val = 6 ∨ t.val = 7 by omega) with h | ⟨h, h'⟩ | h | h
  on_goal 1 =>
    have hs : s.after t.val p = zeros.add p := by unfold Sums.after; rw [if_pos h]
    have hw : (if t.val = 7 then k0_pay6 (s.after t.val p).dw else x14) = x14 := if_neg (by omega)
    have n0 : Begins (grid0.coords t) := b0.2 (by omega)
    haveI : Fact (Begins (grid0.coords t)) := ⟨n0⟩
    have n1 : Starts (grid0.coords t) := b1.2 (by omega)
    haveI : Fact (Starts (grid0.coords t)) := ⟨n1⟩
    have n2 : Clears (grid0.coords t) := b2.2 (by omega)
    haveI : Fact (Clears (grid0.coords t)) := ⟨n2⟩
    have n3 : ¬Ends (grid0.coords t) := fun q => by have := b3.1 q; omega
    haveI : Fact (¬Ends (grid0.coords t)) := ⟨n3⟩
    ihave P := (stream_first (F := F) c (Memref.whole cc0_scratch1) (Memref.whole main_v46) 0 W1 h) $$ P
    try unfold busyAt
    try unfold freeAt
    try unfold Ring.inflight
    try unfold Ring.free
    icases P with ⟨⟨P0, ⟨%gP0, Ps0, Pc0⟩⟩, ⟨P1, ⟨%gP1, Ps1, Pc1⟩⟩, ⟨P2, ⟨%gP2, Ps2, Pc2⟩⟩⟩
    ihave Pc0 := (copy_split (F := F) c (Memref.whole main_v46) W1 (Ring.sl 3 t.val) (Ring.bk 8 t.val)).1 $$ Pc0
    icases Pc0 with ⟨Pl0, Pk0⟩
    ihave Pc1 := (copy_split (F := F) c (Memref.whole main_v46) W1 (Ring.sl 3 (t.val + 1)) (Ring.bk 8 (t.val + 1))).1 $$ Pc1
    icases Pc1 with ⟨Pl1, Pk1⟩
    ihave Pc2 := (copy_split (F := F) c (Memref.whole main_v46) W1 (Ring.sl 3 (t.val + 2)) (Ring.bk 8 (t.val + 2))).1 $$ Pc2
    icases Pc2 with ⟨Pl2, Pk2⟩
    ihave Q := (stream_first (F := F) c (Memref.whole cc0_scratch2) (Memref.whole main_v47) 1 W2 h) $$ Q
    try unfold busyAt
    try unfold freeAt
    try unfold Ring.inflight
    try unfold Ring.free
    icases Q with ⟨⟨Q0, ⟨%gQ0, Qs0, Qc0⟩⟩, ⟨Q1, ⟨%gQ1, Qs1, Qc1⟩⟩, ⟨Q2, ⟨%gQ2, Qs2, Qc2⟩⟩⟩
    ihave Qc0 := (copy_split (F := F) c (Memref.whole main_v47) W2 (Ring.sl 3 t.val) (Ring.bk 8 t.val)).1 $$ Qc0
    icases Qc0 with ⟨Ql0, Qk0⟩
    ihave Qc1 := (copy_split (F := F) c (Memref.whole main_v47) W2 (Ring.sl 3 (t.val + 1)) (Ring.bk 8 (t.val + 1))).1 $$ Qc1
    icases Qc1 with ⟨Ql1, Qk1⟩
    ihave Qc2 := (copy_split (F := F) c (Memref.whole main_v47) W2 (Ring.sl 3 (t.val + 2)) (Ring.bk 8 (t.val + 2))).1 $$ Qc2
    icases Qc2 with ⟨Ql2, Qk2⟩
    ihave R := (stream_first (F := F) c (Memref.whole cc0_scratch3) (Memref.whole main_v48) 2 W3 h) $$ R
    try unfold busyAt
    try unfold freeAt
    try unfold Ring.inflight
    try unfold Ring.free
    icases R with ⟨⟨R0, ⟨%gR0, Rs0, Rc0⟩⟩, ⟨R1, ⟨%gR1, Rs1, Rc1⟩⟩, ⟨R2, ⟨%gR2, Rs2, Rc2⟩⟩⟩
    ihave Rc0 := (copy_split (F := F) c (Memref.whole main_v48) W3 (Ring.sl 3 t.val) (Ring.bk 8 t.val)).1 $$ Rc0
    icases Rc0 with ⟨Rl0, Rk0⟩
    ihave Rc1 := (copy_split (F := F) c (Memref.whole main_v48) W3 (Ring.sl 3 (t.val + 1)) (Ring.bk 8 (t.val + 1))).1 $$ Rc1
    icases Rc1 with ⟨Rl1, Rk1⟩
    ihave Rc2 := (copy_split (F := F) c (Memref.whole main_v48) W3 (Ring.sl 3 (t.val + 2)) (Ring.bk 8 (t.val + 2))).1 $$ Rc2
    icases Rc2 with ⟨Rl2, Rk2⟩
    sl_exec (disch := first | sl_exact n0 | sl_exact n1 | sl_exact n2 | sl_exact n3)
    sl_step
  on_goal 2 =>
    have hs : s.after t.val p = s.add p := by unfold Sums.after; rw [if_neg (by omega)]
    have hw : (if t.val = 7 then k0_pay6 (s.after t.val p).dw else x14) = x14 := if_neg (by omega)
    have n0 : ¬Begins (grid0.coords t) := fun q => by have := b0.1 q; omega
    haveI : Fact (¬Begins (grid0.coords t)) := ⟨n0⟩
    have n1 : Starts (grid0.coords t) := b1.2 (by omega)
    haveI : Fact (Starts (grid0.coords t)) := ⟨n1⟩
    have n2 : ¬Clears (grid0.coords t) := fun q => by have := b2.1 q; omega
    haveI : Fact (¬Clears (grid0.coords t)) := ⟨n2⟩
    have n3 : ¬Ends (grid0.coords t) := fun q => by have := b3.1 q; omega
    haveI : Fact (¬Ends (grid0.coords t)) := ⟨n3⟩
    ihave P := (stream_next (F := F) c (Memref.whole cc0_scratch1) (Memref.whole main_v46) 0 W1 h h') $$ P
    try unfold busyAt
    try unfold freeAt
    try unfold Ring.inflight
    try unfold Ring.free
    icases P with ⟨⟨%gP0, P0, Pk0⟩, ⟨%gP1, P1, Pk1⟩, ⟨P2, ⟨%gP2, Ps2, Pc2⟩⟩⟩
    ihave Pc2 := (copy_split (F := F) c (Memref.whole main_v46) W1 (Ring.sl 3 (t.val + 2)) (Ring.bk 8 (t.val + 2))).1 $$ Pc2
    icases Pc2 with ⟨Pl2, Pk2⟩
    ihave Q := (stream_next (F := F) c (Memref.whole cc0_scratch2) (Memref.whole main_v47) 1 W2 h h') $$ Q
    try unfold busyAt
    try unfold freeAt
    try unfold Ring.inflight
    try unfold Ring.free
    icases Q with ⟨⟨%gQ0, Q0, Qk0⟩, ⟨%gQ1, Q1, Qk1⟩, ⟨Q2, ⟨%gQ2, Qs2, Qc2⟩⟩⟩
    ihave Qc2 := (copy_split (F := F) c (Memref.whole main_v47) W2 (Ring.sl 3 (t.val + 2)) (Ring.bk 8 (t.val + 2))).1 $$ Qc2
    icases Qc2 with ⟨Ql2, Qk2⟩
    ihave R := (stream_next (F := F) c (Memref.whole cc0_scratch3) (Memref.whole main_v48) 2 W3 h h') $$ R
    try unfold busyAt
    try unfold freeAt
    try unfold Ring.inflight
    try unfold Ring.free
    icases R with ⟨⟨%gR0, R0, Rk0⟩, ⟨%gR1, R1, Rk1⟩, ⟨R2, ⟨%gR2, Rs2, Rc2⟩⟩⟩
    ihave Rc2 := (copy_split (F := F) c (Memref.whole main_v48) W3 (Ring.sl 3 (t.val + 2)) (Ring.bk 8 (t.val + 2))).1 $$ Rc2
    icases Rc2 with ⟨Rl2, Rk2⟩
    sl_exec (disch := first | sl_exact n0 | sl_exact n1 | sl_exact n2 | sl_exact n3)
    sl_step
  on_goal 3 =>
    have hs : s.after t.val p = s.add p := by unfold Sums.after; rw [if_neg (by omega)]
    have hw : (if t.val = 7 then k0_pay6 (s.after t.val p).dw else x14) = x14 := if_neg (by omega)
    have n0 : ¬Begins (grid0.coords t) := fun q => by have := b0.1 q; omega
    haveI : Fact (¬Begins (grid0.coords t)) := ⟨n0⟩
    have n1 : ¬Starts (grid0.coords t) := fun q => by have := b1.1 q; omega
    haveI : Fact (¬Starts (grid0.coords t)) := ⟨n1⟩
    have n2 : ¬Clears (grid0.coords t) := fun q => by have := b2.1 q; omega
    haveI : Fact (¬Clears (grid0.coords t)) := ⟨n2⟩
    have n3 : ¬Ends (grid0.coords t) := fun q => by have := b3.1 q; omega
    haveI : Fact (¬Ends (grid0.coords t)) := ⟨n3⟩
    ihave P := (stream_seventh (F := F) c (Memref.whole cc0_scratch1) (Memref.whole main_v46) 0 W1 h) $$ P
    try unfold busyAt
    try unfold freeAt
    try unfold Ring.inflight
    try unfold Ring.free
    icases P with ⟨⟨%gP0, P0, Pk0⟩, P1, P2⟩
    ihave Q := (stream_seventh (F := F) c (Memref.whole cc0_scratch2) (Memref.whole main_v47) 1 W2 h) $$ Q
    try unfold busyAt
    try unfold freeAt
    try unfold Ring.inflight
    try unfold Ring.free
    icases Q with ⟨⟨%gQ0, Q0, Qk0⟩, Q1, Q2⟩
    ihave R := (stream_seventh (F := F) c (Memref.whole cc0_scratch3) (Memref.whole main_v48) 2 W3 h) $$ R
    try unfold busyAt
    try unfold freeAt
    try unfold Ring.inflight
    try unfold Ring.free
    icases R with ⟨⟨%gR0, R0, Rk0⟩, R1, R2⟩
    sl_exec (disch := first | sl_exact n0 | sl_exact n1 | sl_exact n2 | sl_exact n3)
    sl_step
  on_goal 4 =>
    have hs : s.after t.val p = s.add p := by unfold Sums.after; rw [if_neg (by omega)]
    have hw : (if t.val = 7 then k0_pay6 (s.after t.val p).dw else x14) = k0_pay6 (s.after t.val p).dw := if_pos h
    have n0 : ¬Begins (grid0.coords t) := fun q => by have := b0.1 q; omega
    haveI : Fact (¬Begins (grid0.coords t)) := ⟨n0⟩
    have n1 : ¬Starts (grid0.coords t) := fun q => by have := b1.1 q; omega
    haveI : Fact (¬Starts (grid0.coords t)) := ⟨n1⟩
    have n2 : ¬Clears (grid0.coords t) := fun q => by have := b2.1 q; omega
    haveI : Fact (¬Clears (grid0.coords t)) := ⟨n2⟩
    have n3 : Ends (grid0.coords t) := b3.2 (by omega)
    haveI : Fact (Ends (grid0.coords t)) := ⟨n3⟩
    ihave P := (stream_last (F := F) c (Memref.whole cc0_scratch1) (Memref.whole main_v46) 0 W1 h) $$ P
    try unfold busyAt
    try unfold freeAt
    try unfold Ring.inflight
    try unfold Ring.free
    icases P with ⟨⟨%gP0, P0, Pk0⟩, P1, P2⟩
    ihave Q := (stream_last (F := F) c (Memref.whole cc0_scratch2) (Memref.whole main_v47) 1 W2 h) $$ Q
    try unfold busyAt
    try unfold freeAt
    try unfold Ring.inflight
    try unfold Ring.free
    icases Q with ⟨⟨%gQ0, Q0, Qk0⟩, Q1, Q2⟩
    ihave R := (stream_last (F := F) c (Memref.whole cc0_scratch3) (Memref.whole main_v48) 2 W3 h) $$ R
    try unfold busyAt
    try unfold freeAt
    try unfold Ring.inflight
    try unfold Ring.free
    icases R with ⟨⟨%gR0, R0, Rk0⟩, R1, R2⟩
    sl_exec (disch := first | sl_exact n0 | sl_exact n1 | sl_exact n2 | sl_exact n3)
    sl_step
  all_goals
    iapply Hk
    isplitl [A4 A5 A6 A7 A8 A9 A11 A12 A13 A14 A15 A16 A17 A18]
    · isplitl [A4]
      · iexists _; isplitr; swap; · iexact A4
        ipureintro; exact r4
      isplitl [A5]
      · iexists _; isplitr; swap; · iexact A5
        ipureintro; exact r5
      isplitl [A6]
      · iexists _; isplitr; swap; · iexact A6
        ipureintro; exact r6
      isplitl [A7]
      · iexists _; isplitr; swap; · iexact A7
        ipureintro; exact r7
      isplitl [A8]
      · iexists _; isplitr; swap; · iexact A8
        ipureintro; exact r8
      isplitl [A9]
      · iexists _; isplitr; swap; · iexact A9
        ipureintro; exact r9
      isplitl [A11]
      · iexists _; isplitr; swap; · iexact A11
        ipureintro; sl_unfold_run_names
        simp only [hs, hw, Blocks.dh1, Blocks.db, Blocks.rp, Blocks.np, Blocks.sp, Blocks.rl, Blocks.nl, Blocks.gradP, Blocks.dyp, Blocks.inL, Blocks.alongL, Blocks.dyl, Sums.add, zeros, whole_stored, stack_stored, halves_stored, halves_reloaded, lower_reloaded, upper_reloaded, whole_reloaded, whole_loaded, ReadAs.apply, landed1_loaded, landed2_loaded, landed3_loaded, slab0_loaded, slab1_loaded, slab2_loaded, slab3_loaded, lower_loaded, upper_loaded, r4, r5, r6, r7, r8, r9, r14, r15, r16, r17, r18, e1, e2, e3]
      isplitl [A12]
      · iexists _; isplitr; swap; · iexact A12
        ipureintro; sl_unfold_run_names
        simp only [hs, hw, Blocks.dh1, Blocks.db, Blocks.rp, Blocks.np, Blocks.sp, Blocks.rl, Blocks.nl, Blocks.gradP, Blocks.dyp, Blocks.inL, Blocks.alongL, Blocks.dyl, Sums.add, zeros, whole_stored, stack_stored, halves_stored, halves_reloaded, lower_reloaded, upper_reloaded, whole_reloaded, whole_loaded, ReadAs.apply, landed1_loaded, landed2_loaded, landed3_loaded, slab0_loaded, slab1_loaded, slab2_loaded, slab3_loaded, lower_loaded, upper_loaded, r4, r5, r6, r7, r8, r9, r14, r15, r16, r17, r18, e1, e2, e3]
      isplitl [A13]
      · iexists _; isplitr; swap; · iexact A13
        ipureintro; sl_unfold_run_names
        simp only [hs, hw, Blocks.dh1, Blocks.db, Blocks.rp, Blocks.np, Blocks.sp, Blocks.rl, Blocks.nl, Blocks.gradP, Blocks.dyp, Blocks.inL, Blocks.alongL, Blocks.dyl, Sums.add, zeros, whole_stored, stack_stored, halves_stored, halves_reloaded, lower_reloaded, upper_reloaded, whole_reloaded, whole_loaded, ReadAs.apply, landed1_loaded, landed2_loaded, landed3_loaded, slab0_loaded, slab1_loaded, slab2_loaded, slab3_loaded, lower_loaded, upper_loaded, r4, r5, r6, r7, r8, r9, r14, r15, r16, r17, r18, e1, e2, e3]
      isplitl [A14]
      · iexists _; isplitr; swap; · iexact A14
        ipureintro; sl_unfold_run_names
        rw [hw]
        simp only [hs, hw, Blocks.dh1, Blocks.db, Blocks.rp, Blocks.np, Blocks.sp, Blocks.rl, Blocks.nl, Blocks.gradP, Blocks.dyp, Blocks.inL, Blocks.alongL, Blocks.dyl, Sums.add, zeros, whole_stored, stack_stored, halves_stored, halves_reloaded, lower_reloaded, upper_reloaded, whole_reloaded, whole_loaded, ReadAs.apply, landed1_loaded, landed2_loaded, landed3_loaded, slab0_loaded, slab1_loaded, slab2_loaded, slab3_loaded, lower_loaded, upper_loaded, r4, r5, r6, r7, r8, r9, r14, r15, r16, r17, r18, e1, e2, e3]
      isplitl [A15]
      · iexists _; isplitr; swap; · iexact A15
        ipureintro; sl_unfold_run_names
        simp only [hs, hw, Blocks.dh1, Blocks.db, Blocks.rp, Blocks.np, Blocks.sp, Blocks.rl, Blocks.nl, Blocks.gradP, Blocks.dyp, Blocks.inL, Blocks.alongL, Blocks.dyl, Sums.add, zeros, whole_stored, stack_stored, halves_stored, halves_reloaded, lower_reloaded, upper_reloaded, whole_reloaded, whole_loaded, ReadAs.apply, landed1_loaded, landed2_loaded, landed3_loaded, slab0_loaded, slab1_loaded, slab2_loaded, slab3_loaded, lower_loaded, upper_loaded, r4, r5, r6, r7, r8, r9, r14, r15, r16, r17, r18, e1, e2, e3]
      isplitl [A16]
      · iexists _; isplitr; swap; · iexact A16
        ipureintro; sl_unfold_run_names
        simp only [hs, hw, Blocks.dh1, Blocks.db, Blocks.rp, Blocks.np, Blocks.sp, Blocks.rl, Blocks.nl, Blocks.gradP, Blocks.dyp, Blocks.inL, Blocks.alongL, Blocks.dyl, Sums.add, zeros, whole_stored, stack_stored, halves_stored, halves_reloaded, lower_reloaded, upper_reloaded, whole_reloaded, whole_loaded, ReadAs.apply, landed1_loaded, landed2_loaded, landed3_loaded, slab0_loaded, slab1_loaded, slab2_loaded, slab3_loaded, lower_loaded, upper_loaded, r4, r5, r6, r7, r8, r9, r14, r15, r16, r17, r18, e1, e2, e3]
      isplitl [A17]
      · iexists _; isplitr; swap; · iexact A17
        ipureintro; sl_unfold_run_names
        simp only [hs, hw, Blocks.dh1, Blocks.db, Blocks.rp, Blocks.np, Blocks.sp, Blocks.rl, Blocks.nl, Blocks.gradP, Blocks.dyp, Blocks.inL, Blocks.alongL, Blocks.dyl, Sums.add, zeros, whole_stored, stack_stored, halves_stored, halves_reloaded, lower_reloaded, upper_reloaded, whole_reloaded, whole_loaded, ReadAs.apply, landed1_loaded, landed2_loaded, landed3_loaded, slab0_loaded, slab1_loaded, slab2_loaded, slab3_loaded, lower_loaded, upper_loaded, r4, r5, r6, r7, r8, r9, r14, r15, r16, r17, r18, e1, e2, e3]
      iexists _; isplitr; swap; · iexact A18
      ipureintro; sl_unfold_run_names
      simp only [hs, hw, Blocks.dh1, Blocks.db, Blocks.rp, Blocks.np, Blocks.sp, Blocks.rl, Blocks.nl, Blocks.gradP, Blocks.dyp, Blocks.inL, Blocks.alongL, Blocks.dyl, Sums.add, zeros, whole_stored, stack_stored, halves_stored, halves_reloaded, lower_reloaded, upper_reloaded, whole_reloaded, whole_loaded, ReadAs.apply, landed1_loaded, landed2_loaded, landed3_loaded, slab0_loaded, slab1_loaded, slab2_loaded, slab3_loaded, lower_loaded, upper_loaded, r4, r5, r6, r7, r8, r9, r14, r15, r16, r17, r18, e1, e2, e3]
    isplitr [HW]; swap; · iexists _; iexact HW
  on_goal 1 =>
    isplitl [P0 Ps0 Pl0 Pk0 P1 Pk1 P2 Pk2]
    · iapply (next_stream (F := F) c (Memref.whole cc0_scratch1) (Memref.whole main_v46) 0 W1 (by omega))
      isplitl [P1 Pk1]
      · iexists _; isplitl [P1]; · iexact P1
        iexact Pk1
      isplitl [P2 Pk2]
      · iexists _; isplitl [P2]; · iexact P2
        iexact Pk2
      iapply (free_of_landed (F := F) c (Memref.whole cc0_scratch1) (Memref.whole main_v46) 0 W1 (Ring.sl 3 t.val) (Ring.bk 8 t.val) _)
      isplitl [P0]; · iexact P0
      isplitl [Ps0]; · iexact Ps0
      isplitl [Pl0]; · iexact Pl0
      iexact Pk0
    isplitl [Q0 Qs0 Ql0 Qk0 Q1 Qk1 Q2 Qk2]
    · iapply (next_stream (F := F) c (Memref.whole cc0_scratch2) (Memref.whole main_v47) 1 W2 (by omega))
      isplitl [Q1 Qk1]
      · iexists _; isplitl [Q1]; · iexact Q1
        iexact Qk1
      isplitl [Q2 Qk2]
      · iexists _; isplitl [Q2]; · iexact Q2
        iexact Qk2
      iapply (free_of_landed (F := F) c (Memref.whole cc0_scratch2) (Memref.whole main_v47) 1 W2 (Ring.sl 3 t.val) (Ring.bk 8 t.val) _)
      isplitl [Q0]; · iexact Q0
      isplitl [Qs0]; · iexact Qs0
      isplitl [Ql0]; · iexact Ql0
      iexact Qk0
    iapply (next_stream (F := F) c (Memref.whole cc0_scratch3) (Memref.whole main_v48) 2 W3 (by omega))
    isplitl [R1 Rk1]
    · iexists _; isplitl [R1]; · iexact R1
      iexact Rk1
    isplitl [R2 Rk2]
    · iexists _; isplitl [R2]; · iexact R2
      iexact Rk2
    iapply (free_of_landed (F := F) c (Memref.whole cc0_scratch3) (Memref.whole main_v48) 2 W3 (Ring.sl 3 t.val) (Ring.bk 8 t.val) _)
    isplitl [R0]; · iexact R0
    isplitl [Rs0]; · iexact Rs0
    isplitl [Rl0]; · iexact Rl0
    iexact Rk0
  on_goal 1 =>
    isplitl [P0 P0_dst P0_src Pk0 P1 Pk1 P2 Pk2]
    · iapply (next_stream (F := F) c (Memref.whole cc0_scratch1) (Memref.whole main_v46) 0 W1 (by omega))
      isplitl [P1 Pk1]
      · iexists _; isplitl [P1]; · iexact P1
        iexact Pk1
      isplitl [P2 Pk2]
      · iexists _; isplitl [P2]; · iexact P2
        iexact Pk2
      iapply (free_of_landed (F := F) c (Memref.whole cc0_scratch1) (Memref.whole main_v46) 0 W1 (Ring.sl 3 t.val) (Ring.bk 8 t.val) _)
      isplitl [P0]; · iexact P0
      isplitl [P0_dst]; · iexact P0_dst
      isplitl [P0_src]; · iexact P0_src
      iexact Pk0
    isplitl [Q0 Q0_dst Q0_src Qk0 Q1 Qk1 Q2 Qk2]
    · iapply (next_stream (F := F) c (Memref.whole cc0_scratch2) (Memref.whole main_v47) 1 W2 (by omega))
      isplitl [Q1 Qk1]
      · iexists _; isplitl [Q1]; · iexact Q1
        iexact Qk1
      isplitl [Q2 Qk2]
      · iexists _; isplitl [Q2]; · iexact Q2
        iexact Qk2
      iapply (free_of_landed (F := F) c (Memref.whole cc0_scratch2) (Memref.whole main_v47) 1 W2 (Ring.sl 3 t.val) (Ring.bk 8 t.val) _)
      isplitl [Q0]; · iexact Q0
      isplitl [Q0_dst]; · iexact Q0_dst
      isplitl [Q0_src]; · iexact Q0_src
      iexact Qk0
    iapply (next_stream (F := F) c (Memref.whole cc0_scratch3) (Memref.whole main_v48) 2 W3 (by omega))
    isplitl [R1 Rk1]
    · iexists _; isplitl [R1]; · iexact R1
      iexact Rk1
    isplitl [R2 Rk2]
    · iexists _; isplitl [R2]; · iexact R2
      iexact Rk2
    iapply (free_of_landed (F := F) c (Memref.whole cc0_scratch3) (Memref.whole main_v48) 2 W3 (Ring.sl 3 t.val) (Ring.bk 8 t.val) _)
    isplitl [R0]; · iexact R0
    isplitl [R0_dst]; · iexact R0_dst
    isplitl [R0_src]; · iexact R0_src
    iexact Rk0
  on_goal 1 =>
    isplitl [P0 P0_dst P0_src Pk0 P1 P2]
    · iapply (seventh_stream (F := F) c (Memref.whole cc0_scratch1) (Memref.whole main_v46) 0 W1 h)
      isplitl [P1]; · iexact P1
      isplitl [P2]; · iexact P2
      iapply (free_of_landed (F := F) c (Memref.whole cc0_scratch1) (Memref.whole main_v46) 0 W1 (Ring.sl 3 t.val) (Ring.bk 8 t.val) _)
      isplitl [P0]; · iexact P0
      isplitl [P0_dst]; · iexact P0_dst
      isplitl [P0_src]; · iexact P0_src
      iexact Pk0
    isplitl [Q0 Q0_dst Q0_src Qk0 Q1 Q2]
    · iapply (seventh_stream (F := F) c (Memref.whole cc0_scratch2) (Memref.whole main_v47) 1 W2 h)
      isplitl [Q1]; · iexact Q1
      isplitl [Q2]; · iexact Q2
      iapply (free_of_landed (F := F) c (Memref.whole cc0_scratch2) (Memref.whole main_v47) 1 W2 (Ring.sl 3 t.val) (Ring.bk 8 t.val) _)
      isplitl [Q0]; · iexact Q0
      isplitl [Q0_dst]; · iexact Q0_dst
      isplitl [Q0_src]; · iexact Q0_src
      iexact Qk0
    iapply (seventh_stream (F := F) c (Memref.whole cc0_scratch3) (Memref.whole main_v48) 2 W3 h)
    isplitl [R1]; · iexact R1
    isplitl [R2]; · iexact R2
    iapply (free_of_landed (F := F) c (Memref.whole cc0_scratch3) (Memref.whole main_v48) 2 W3 (Ring.sl 3 t.val) (Ring.bk 8 t.val) _)
    isplitl [R0]; · iexact R0
    isplitl [R0_dst]; · iexact R0_dst
    isplitl [R0_src]; · iexact R0_src
    iexact Rk0
  on_goal 1 =>
    isplitl [P0 P0_dst P0_src Pk0 P1 P2]
    · iapply (last_stream (F := F) c (Memref.whole cc0_scratch1) (Memref.whole main_v46) 0 W1 h)
      isplitl [P1]; · iexact P1
      isplitl [P2]; · iexact P2
      iapply (free_of_landed (F := F) c (Memref.whole cc0_scratch1) (Memref.whole main_v46) 0 W1 (Ring.sl 3 t.val) (Ring.bk 8 t.val) _)
      isplitl [P0]; · iexact P0
      isplitl [P0_dst]; · iexact P0_dst
      isplitl [P0_src]; · iexact P0_src
      iexact Pk0
    isplitl [Q0 Q0_dst Q0_src Qk0 Q1 Q2]
    · iapply (last_stream (F := F) c (Memref.whole cc0_scratch2) (Memref.whole main_v47) 1 W2 h)
      isplitl [Q1]; · iexact Q1
      isplitl [Q2]; · iexact Q2
      iapply (free_of_landed (F := F) c (Memref.whole cc0_scratch2) (Memref.whole main_v47) 1 W2 (Ring.sl 3 t.val) (Ring.bk 8 t.val) _)
      isplitl [Q0]; · iexact Q0
      isplitl [Q0_dst]; · iexact Q0_dst
      isplitl [Q0_src]; · iexact Q0_src
      iexact Qk0
    iapply (last_stream (F := F) c (Memref.whole cc0_scratch3) (Memref.whole main_v48) 2 W3 h)
    isplitl [R1]; · iexact R1
    isplitl [R2]; · iexact R2
    iapply (free_of_landed (F := F) c (Memref.whole cc0_scratch3) (Memref.whole main_v48) 2 W3 (Ring.sl 3 t.val) (Ring.bk 8 t.val) _)
    isplitl [R0]; · iexact R0
    isplitl [R0_dst]; · iexact R0_dst
    isplitl [R0_src]; · iexact R0_src
    iexact Rk0

end Cert.OutFrame

end
-- ==== Proof.OutFrame.lean ====
/-
  The frame of the mixer output's backward call, with what its results hold: the four sums after `n` points are `carried n`, and every
  result block is written from the point's blocks or from the sums.
-/
module

public import proofs.«01_k».proof.Proof.OutRun
public import Idealize.ShloMosaic.Lib.Pipeline.DatRel
public import Idealize.ShloMosaic.Lib.Pipeline.ArrRel

@[expose] public section

set_option maxRecDepth 65536
set_option maxHeartbeats 4000000

noncomputable section

namespace Cert.OutFrame

open Cert.BwdOutIdeal Cert.BwdOutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation BodyObligationRel)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (c : Dev nD)

/-! ## The sums from point to point -/

/-- What point `t` works on: the staged blocks and the streams' blocks. -/
def blocksAt (t : Fin cfg0.N) : Blocks F where
  yp := iblk m c 0 t
  yl := iblk m c 1 t
  gp := iblk m c 2 t
  gl := iblk m c 3 t
  w := iblk m c 4 t
  g2 := iblk m c 5 t
  dn := (blockOf (Memref.whole main_v46) (Ring.bk 8 t.val)).view.read (Elt F) (V m c main_v46)
  dh := (blockOf (Memref.whole main_v47) (Ring.bk 8 t.val)).view.read (Elt F) (V m c main_v47)
  h1 := (blockOf (Memref.whole main_v48) (Ring.bk 8 t.val)).view.read (Elt F) (V m c main_v48)

/-- The sums before point `n`. -/
def carried : ℕ → Sums F
  | 0 => zeros
  | n + 1 => if h : n < cfg0.N then (carried n).after n (blocksAt m c ⟨n, h⟩) else carried n

theorem carried_succ (t : Fin cfg0.N) : carried m c (t.val + 1) = (carried m c t.val).after t.val (blocksAt m c t) := by
  show (if h : t.val < cfg0.N then _ else _) = _
  rw [dif_pos t.isLt]

/-- The first point clears the sums, whatever they were. -/
theorem after_carried (t : Fin cfg0.N) (s : Sums F) (h : t.val ≠ 0 → s = carried m c t.val) :
    s.after t.val (blocksAt m c t) = carried m c (t.val + 1) := by
  rw [carried_succ]
  by_cases h0 : t.val = 0
  · unfold Sums.after; rw [if_pos h0, if_pos h0]
  · rw [h h0]

/-! ## The proof data -/

/-- The results' windows are held to a predicate. -/
def marked : Fin cfg0.W → Bool := fun w => decide (6 ≤ w.val)

/-- What the body leaves in a result's window. -/
def Leaves (w : Fin cfg0.W) (t : Fin cfg0.N) (X : (cfg0.win w).block.Idx → Elt F (cfg0.win w).elt) : Prop :=
  match w, X with
  | ⟨6, _⟩, X => X = (blocksAt m c t).dh1
  | ⟨7, _⟩, X => X = (blocksAt m c t).dyp
  | ⟨8, _⟩, X => X = (blocksAt m c t).dyl
  | ⟨9, _⟩, X => t.val = 7 → X = k0_pay6 (carried m c (t.val + 1)).dw
  | ⟨10, _⟩, X => X = (carried m c (t.val + 1)).dg2
  | ⟨11, _⟩, X => X = (carried m c (t.val + 1)).dgp
  | ⟨12, _⟩, X => X = (carried m c (t.val + 1)).dgl
  | _, _ => True

/-- What is held between the points: the weight's sum, the generator's register, the operand no point reads, and the streams. -/
def between (n : ℕ) : sProp 𝕄 :=
  iprop((∃ d, ⌜n ≠ 0 → d = (carried m c n).dw⌝ ∗ owns (c : Thread nD τ) (Memref.whole cc0_scratch0) fullShare d) ∗ (∃ r, prngReg c r)
    ∗ (((c : Thread nD τ).loc main_v57) ↦{fullShare} V m c main_v57) ∗ streams c (V m c main_v46) (V m c main_v47) (V m c main_v48) n)

/-- The proof data on core `c`: the inputs' blocks stay as fetched. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | w => Pipeline.Dat.unnamed (cfg := cfg0) w t
  Φ t := between m c t.val
  q _ := fullShare
  owed _ := 0

theorem A_eq (w : Fin cfg0.W) : (dats m 0 c).A w = V m c (Pipeline.arrRef spec0 w) := by dsimp only [dats]

/-! ## What the launch hands over -/

/-- The call's own counters. -/
def cells : Fin 9 → SemLoc sig :=
  ![SemLoc.dma 18, SemLoc.dma 19, SemLoc.dma 20, SemLoc.dma 21, SemLoc.dma 22, SemLoc.dma 23, SemLoc.dma 24, SemLoc.dma 25, SemLoc.dma 26]
theorem cells_own : Pipeline.OwnSemFacts spec0 cells := by decide
/-- The operands left where they lie. -/
def streamed : Finset (Ref sig .tc) := {main_v46, main_v47, main_v48, main_v57}
theorem streamed_sub : streamed ⊆ Pipeline.restRefs sig spec0 := by decide

theorem cells_eq :
    (Pipeline.ownSems0 (Ix := Unit) (Name := ℕ) (U := Pipeline.UD sig nD τ) (Lvl := ℕ) (Val := Elt F) (τ := τ) cells c : sProp 𝕄)
      = iprop(cellAt c 0 0 ∗ cellAt c 1 0 ∗ cellAt c 2 0 ∗ cellAt c 0 1 ∗ cellAt c 1 1 ∗ cellAt c 2 1 ∗ cellAt c 0 2 ∗ cellAt c 1 2 ∗ cellAt c 2 2) := by
  rw [Pipeline.ownSems0_eq_of_list c cells [0, 1, 2, 3, 4, 5, 6, 7, 8] (by decide) (by decide)]
  unfold cellAt
  simp only [counter_eq]
  rfl

theorem streamed_eq :
    (bigSep streamed (fun b => ((c : Thread nD τ).loc b) ↦{fullShare} V m c b) : sProp 𝕄)
      = iprop((((c : Thread nD τ).loc main_v46) ↦{fullShare} V m c main_v46) ∗ (((c : Thread nD τ).loc main_v47) ↦{fullShare} V m c main_v47)
          ∗ (((c : Thread nD τ).loc main_v48) ↦{fullShare} V m c main_v48) ∗ (((c : Thread nD τ).loc main_v57) ↦{fullShare} V m c main_v57)) := by
  rw [BI.bigSep_eq_bigSepL_of_eq [main_v46, main_v47, main_v48, main_v57] (by decide) (by decide)]; rfl

theorem handed_eq :
    (Pipeline.ΦD cells spec0 streamed (V m) c : sProp 𝕄)
      = iprop((atAnything c (Memref.whole cc0_scratch0) ∗ atAnything c (Memref.whole cc0_scratch1) ∗ atAnything c (Memref.whole cc0_scratch2) ∗ atAnything c (Memref.whole cc0_scratch3))
          ∗ (∃ r, prngReg c r)
          ∗ iprop(cellAt c 0 0 ∗ cellAt c 1 0 ∗ cellAt c 2 0 ∗ cellAt c 0 1 ∗ cellAt c 1 1 ∗ cellAt c 2 1 ∗ cellAt c 0 2 ∗ cellAt c 1 2 ∗ cellAt c 2 2)
          ∗ iprop((((c : Thread nD τ).loc main_v46) ↦{fullShare} V m c main_v46) ∗ (((c : Thread nD τ).loc main_v47) ↦{fullShare} V m c main_v47)
            ∗ (((c : Thread nD τ).loc main_v48) ↦{fullShare} V m c main_v48) ∗ (((c : Thread nD τ).loc main_v57) ↦{fullShare} V m c main_v57))) := by
  rw [Pipeline.ΦD_eq, scopedRest0_eq, cells_eq, streamed_eq]; simp only [atAnything, owns_whole]; try rfl

theorem enter : (Pipeline.ΦD cells spec0 streamed (V m) c : sProp 𝕄) ⊢ (dats m 0 c).Φ 0 := by
  rw [handed_eq, show (dats m 0 c).Φ 0 = between m c 0 from rfl]
  unfold between streams
  iintro ⟨⟨⟨%d, S0⟩, S1, S2, S3⟩, Hg, ⟨C0, C1, C2, C3, C4, C5, C6, C7, C8⟩, ⟨O1, O2, O3, O4⟩⟩
  isplitl [S0]
  · iexists d; isplitr; · ipureintro; exact fun h => absurd rfl h
    iexact S0
  isplitl [Hg]; · iexact Hg
  isplitl [O4]; · iexact O4
  isplitl [S1 C0 C3 C6 O1]
  · iapply (stream_in c (Memref.whole cc0_scratch1) (Memref.whole main_v46) 0 (V m c main_v46) _ (slots_in_1 (F := F) c))
    isplitl [S1]; · iexact S1
    isplitl [C0 C3 C6]
    · isplitl [C0]; · iexact C0
      isplitl [C3]; · iexact C3
      iexact C6
    iexact O1
  isplitl [S2 C1 C4 C7 O2]
  · iapply (stream_in c (Memref.whole cc0_scratch2) (Memref.whole main_v47) 1 (V m c main_v47) _ (slots_in_2 (F := F) c))
    isplitl [S2]; · iexact S2
    isplitl [C1 C4 C7]
    · isplitl [C1]; · iexact C1
      isplitl [C4]; · iexact C4
      iexact C7
    iexact O2
  iapply (stream_in c (Memref.whole cc0_scratch3) (Memref.whole main_v48) 2 (V m c main_v48) _ (slots_in_3 (F := F) c))
  isplitl [S3]; · iexact S3
  isplitl [C2 C5 C8]
  · isplitl [C2]; · iexact C2
    isplitl [C5]; · iexact C5
    iexact C8
  iexact O3

theorem leave : (dats m 0 c).Φ (Fin.last cfg0.N) ⊢ (Pipeline.ΦD cells spec0 streamed (V m) c : sProp 𝕄) := by
  rw [handed_eq, show (dats m 0 c).Φ (Fin.last cfg0.N) = between m c 8 from rfl]
  unfold between streams
  iintro ⟨⟨%d, -, S0⟩, Hg, O4, P, Q, R⟩
  ihave P := (stream_out c (Memref.whole cc0_scratch1) (Memref.whole main_v46) 0 (V m c main_v46) _ (slots_out_1 (F := F) c)) $$ P
  icases P with ⟨S1, ⟨C0, C3, C6⟩, O1⟩
  ihave Q := (stream_out c (Memref.whole cc0_scratch2) (Memref.whole main_v47) 1 (V m c main_v47) _ (slots_out_2 (F := F) c)) $$ Q
  icases Q with ⟨S2, ⟨C1, C4, C7⟩, O2⟩
  ihave R := (stream_out c (Memref.whole cc0_scratch3) (Memref.whole main_v48) 2 (V m c main_v48) _ (slots_out_3 (F := F) c)) $$ R
  icases R with ⟨S3, ⟨C2, C5, C8⟩, O3⟩
  isplitl [S0 S1 S2 S3]
  · isplitl [S0]; · iexists d; iexact S0
    isplitl [S1]; · iexact S1
    isplitl [S2]; · iexact S2
    iexact S3
  isplitl [Hg]; · iexact Hg
  isplitl [C0 C1 C2 C3 C4 C5 C6 C7 C8]
  · isplitl [C0]; · iexact C0
    isplitl [C1]; · iexact C1
    isplitl [C2]; · iexact C2
    isplitl [C3]; · iexact C3
    isplitl [C4]; · iexact C4
    isplitl [C5]; · iexact C5
    isplitl [C6]; · iexact C6
    isplitl [C7]; · iexact C7
    iexact C8
  isplitl [O1]; · iexact O1
  isplitl [O2]; · iexact O2
  isplitl [O3]; · iexact O3
  iexact O4

/-! ## The body obligation -/

variable (t : Fin cfg0.N)

/-- The buffers of the windows at point `t`. -/
abbrev given : sProp 𝕄 :=
  iprop((dats m 0 c).Φ t.castSucc
    ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ Y, ⌜((dats m 0 c).toRRel marked (Leaves m c)).Finds 6 t Y⌝ ∗ owns (c : Thread nD τ) (win0_6.stage (cfg0.slots t 6)) fullShare Y)
    ∗ (∃ Y, ⌜((dats m 0 c).toRRel marked (Leaves m c)).Finds 7 t Y⌝ ∗ owns (c : Thread nD τ) (win0_7.stage (cfg0.slots t 7)) fullShare Y)
    ∗ (∃ Y, ⌜((dats m 0 c).toRRel marked (Leaves m c)).Finds 8 t Y⌝ ∗ owns (c : Thread nD τ) (win0_8.stage (cfg0.slots t 8)) fullShare Y)
    ∗ (∃ Y, ⌜((dats m 0 c).toRRel marked (Leaves m c)).Finds 9 t Y⌝ ∗ owns (c : Thread nD τ) (win0_9.stage (cfg0.slots t 9)) fullShare Y)
    ∗ (∃ Y, ⌜((dats m 0 c).toRRel marked (Leaves m c)).Finds 10 t Y⌝ ∗ owns (c : Thread nD τ) (win0_10.stage (cfg0.slots t 10)) fullShare Y)
    ∗ (∃ Y, ⌜((dats m 0 c).toRRel marked (Leaves m c)).Finds 11 t Y⌝ ∗ owns (c : Thread nD τ) (win0_11.stage (cfg0.slots t 11)) fullShare Y)
    ∗ (∃ Y, ⌜((dats m 0 c).toRRel marked (Leaves m c)).Finds 12 t Y⌝ ∗ owns (c : Thread nD τ) (win0_12.stage (cfg0.slots t 12)) fullShare Y))

/-- What it returns. -/
abbrev returned : sProp 𝕄 :=
  iprop((dats m 0 c).Φ t.succ
    ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ (∃ X, ⌜Leaves m c 6 t X⌝ ∗ owns (c : Thread nD τ) (win0_6.stage (cfg0.slots t 6)) fullShare X)
    ∗ (∃ X, ⌜Leaves m c 7 t X⌝ ∗ owns (c : Thread nD τ) (win0_7.stage (cfg0.slots t 7)) fullShare X)
    ∗ (∃ X, ⌜Leaves m c 8 t X⌝ ∗ owns (c : Thread nD τ) (win0_8.stage (cfg0.slots t 8)) fullShare X)
    ∗ (∃ X, ⌜Leaves m c 9 t X⌝ ∗ owns (c : Thread nD τ) (win0_9.stage (cfg0.slots t 9)) fullShare X)
    ∗ (∃ X, ⌜Leaves m c 10 t X⌝ ∗ owns (c : Thread nD τ) (win0_10.stage (cfg0.slots t 10)) fullShare X)
    ∗ (∃ X, ⌜Leaves m c 11 t X⌝ ∗ owns (c : Thread nD τ) (win0_11.stage (cfg0.slots t 11)) fullShare X)
    ∗ (∃ X, ⌜Leaves m c 12 t X⌝ ∗ owns (c : Thread nD τ) (win0_12.stage (cfg0.slots t 12)) fullShare X))

theorem found_0 (d) : (dats m 0 c).before 0 t d = iblk m c 0 t :=
  ((dats m 0 c).before_in_eq_fetched 0 rfl (fun _ => rfl) (fun _ _ _ => rfl) (fun t => by
    rw [show (dats m 0 c).after 0 t = iblk m c 0 t from rfl]; unfold Dat.blockOf iblk; rw [A_eq]; try rfl) t d).trans
    (by unfold Dat.fetched Dat.blockOf iblk; rw [A_eq]; try rfl)
theorem found_1 (d) : (dats m 0 c).before 1 t d = iblk m c 1 t :=
  ((dats m 0 c).before_in_eq_fetched 1 rfl (fun _ => rfl) (fun _ _ _ => rfl) (fun t => by
    rw [show (dats m 0 c).after 1 t = iblk m c 1 t from rfl]; unfold Dat.blockOf iblk; rw [A_eq]; try rfl) t d).trans
    (by unfold Dat.fetched Dat.blockOf iblk; rw [A_eq]; try rfl)
theorem found_2 (d) : (dats m 0 c).before 2 t d = iblk m c 2 t :=
  ((dats m 0 c).before_in_eq_fetched 2 rfl (fun _ => rfl) (fun _ _ _ => rfl) (fun t => by
    rw [show (dats m 0 c).after 2 t = iblk m c 2 t from rfl]; unfold Dat.blockOf iblk; rw [A_eq]; try rfl) t d).trans
    (by unfold Dat.fetched Dat.blockOf iblk; rw [A_eq]; try rfl)
theorem found_3 (d) : (dats m 0 c).before 3 t d = iblk m c 3 t :=
  ((dats m 0 c).before_in_eq_fetched 3 rfl (fun _ => rfl) (fun _ _ _ => rfl) (fun t => by
    rw [show (dats m 0 c).after 3 t = iblk m c 3 t from rfl]; unfold Dat.blockOf iblk; rw [A_eq]; try rfl) t d).trans
    (by unfold Dat.fetched Dat.blockOf iblk; rw [A_eq]; try rfl)
theorem found_4 (d) : (dats m 0 c).before 4 t d = iblk m c 4 t :=
  ((dats m 0 c).before_in_eq_fetched 4 rfl (fun _ => rfl) (fun _ _ _ => rfl) (fun t => by
    rw [show (dats m 0 c).after 4 t = iblk m c 4 t from rfl]; unfold Dat.blockOf iblk; rw [A_eq]; try rfl) t d).trans
    (by unfold Dat.fetched Dat.blockOf iblk; rw [A_eq]; try rfl)
theorem found_5 (d) : (dats m 0 c).before 5 t d = iblk m c 5 t :=
  ((dats m 0 c).before_in_eq_fetched 5 rfl (fun _ => rfl) (fun _ _ _ => rfl) (fun t => by
    rw [show (dats m 0 c).after 5 t = iblk m c 5 t from rfl]; unfold Dat.blockOf iblk; rw [A_eq]; try rfl) t d).trans
    (by unfold Dat.fetched Dat.blockOf iblk; rw [A_eq]; try rfl)

/-- What an accumulating result's window holds at a later point is what the point before left. -/
theorem found_sum (w : Fin cfg0.W) (hw : marked w = true) (hfetch : (cfg0.win w).fetch t = false) (h0 : t.val ≠ 0)
    (hflush : (cfg0.win w).flush ⟨t.val - 1, Nat.lt_of_le_of_lt (Nat.sub_le _ _) t.isLt⟩ = false) (Y : (cfg0.win w).block.Idx → Elt F (cfg0.win w).elt)
    (h : ((dats m 0 c).toRRel marked (Leaves m c)).Finds w t Y) : Leaves m c w ⟨t.val - 1, Nat.lt_of_le_of_lt (Nat.sub_le _ _) t.isLt⟩ Y := by
  rw [Pipeline.RDat.finds_of_pos _ hfetch h0, hflush] at h
  exact (dats m 0 c).toRRel_leaves hw (h.resolve_left Bool.false_ne_true)

theorem later_flush_10 : ∀ t : Fin cfg0.N, t.val ≠ 7 → (cfg0.win 10).flush t = false := by decide +kernel
theorem later_flush_11 : ∀ t : Fin cfg0.N, t.val ≠ 7 → (cfg0.win 11).flush t = false := by decide +kernel
theorem later_flush_12 : ∀ t : Fin cfg0.N, t.val ≠ 7 → (cfg0.win 12).flush t = false := by decide +kernel
theorem no_fetch_10 : ∀ t : Fin cfg0.N, (cfg0.win 10).fetch t = false := by decide +kernel
theorem no_fetch_11 : ∀ t : Fin cfg0.N, (cfg0.win 11).fetch t = false := by decide +kernel
theorem no_fetch_12 : ∀ t : Fin cfg0.N, (cfg0.win 12).fetch t = false := by decide +kernel

theorem found_10 (h0 : t.val ≠ 0) (Y) (h : ((dats m 0 c).toRRel marked (Leaves m c)).Finds 10 t Y) : Y = (carried m c t.val).dg2 := by
  have hN : t.val < 8 := t.isLt
  have e : t.val - 1 + 1 = t.val := by omega
  have := found_sum m c t 10 rfl (no_fetch_10 t) h0 (later_flush_10 _ (show t.val - 1 ≠ 7 by omega)) Y h
  exact (show Y = (carried m c (t.val - 1 + 1)).dg2 from this).trans (by rw [e])
theorem found_11 (h0 : t.val ≠ 0) (Y) (h : ((dats m 0 c).toRRel marked (Leaves m c)).Finds 11 t Y) : Y = (carried m c t.val).dgp := by
  have hN : t.val < 8 := t.isLt
  have e : t.val - 1 + 1 = t.val := by omega
  have := found_sum m c t 11 rfl (no_fetch_11 t) h0 (later_flush_11 _ (show t.val - 1 ≠ 7 by omega)) Y h
  exact (show Y = (carried m c (t.val - 1 + 1)).dgp from this).trans (by rw [e])
theorem found_12 (h0 : t.val ≠ 0) (Y) (h : ((dats m 0 c).toRRel marked (Leaves m c)).Finds 12 t Y) : Y = (carried m c t.val).dgl := by
  have hN : t.val < 8 := t.isLt
  have e : t.val - 1 + 1 = t.val := by omega
  have := found_sum m c t 12 rfl (no_fetch_12 t) h0 (later_flush_12 _ (show t.val - 1 ≠ 7 by omega)) Y h
  exact (show Y = (carried m c (t.val - 1 + 1)).dgl from this).trans (by rw [e])

theorem sound_body :
    given m c t ⊢ wp frame (wpE (defs₀ (F := F)) Variants.none c none) Set.univ (bodyAt0 t) (fun _ => returned m c t) := by
  unfold given returned
  simp only [found_0 m c t, found_1 m c t, found_2 m c t, found_3 m c t, found_4 m c t, found_5 m c t]
  unfold Dat.owesAt Pipeline.owesWithin
  rw [show (dats m 0 c).owed t.castSucc = 0 from rfl, show (dats m 0 c).owed t.succ = 0 from rfl,
    show (dats m 0 c).Φ t.castSucc = between m c t.val from rfl, show (dats m 0 c).Φ t.succ = between m c (t.val + 1) from rfl]
  unfold between
  iintro ⟨⟨⟨%d, %hd, S0⟩, Hg, O4, HS⟩, ⟨%W, -, HW⟩, ⟨%d0, W0⟩, ⟨%d1, W1⟩, ⟨%d2, W2⟩, ⟨%d3, W3⟩, ⟨%d4, W4⟩, ⟨%d5, W5⟩, ⟨%d6, -, W6⟩, ⟨%d7, -, W7⟩, ⟨%d8, -, W8⟩, ⟨%d9, -, W9⟩, ⟨%d10, %h10, W10⟩, ⟨%d11, %h11, W11⟩, ⟨%d12, %h12, W12⟩⟩
  have hs : (⟨d, d10, d11, d12⟩ : Sums F).after t.val (blocksAt m c t) = carried m c (t.val + 1) :=
    after_carried m c t _ fun h0 => Sums.ext (hd h0) (found_10 m c t h0 d10 h10) (found_11 m c t h0 d11 h11) (found_12 m c t h0 d12 h12)
  iapply (run c t _ _ _ _ _ _ _ _ _ _ _ _ _ _ _ _ _ _ _ _ _ _ _ _ _ _ _ _ (blocksAt m c t) d9 ⟨d, d10, d11, d12⟩
    (V m c main_v46) (V m c main_v47) (V m c main_v48) rfl rfl rfl W _)
  unfold before behind
  rw [hs]
  isplitl [W0 W1 W2 W3 W4 W5 W6 W7 W8 W9 W10 W11 W12 S0]
  · isplitl [W0]; · iexact W0
    isplitl [W1]; · iexact W1
    isplitl [W2]; · iexact W2
    isplitl [W3]; · iexact W3
    isplitl [W4]; · iexact W4
    isplitl [W5]; · iexact W5
    isplitl [W6]; · iexists d6; iexact W6
    isplitl [W7]; · iexists d7; iexact W7
    isplitl [W8]; · iexists d8; iexact W8
    isplitl [W9]; · iexact W9
    isplitl [W10]; · iexact W10
    isplitl [W11]; · iexact W11
    isplitl [W12]; · iexact W12
    iexact S0
  isplitl [HS]; · iexact HS
  isplitl [HW]; · iexact HW
  iintro ⟨⟨W0, W1, W2, W3, W4, W5, W6, W7, W8, W9, W10, W11, W12, S0⟩, HS, ⟨%W', HW⟩⟩
  isplitl [S0 Hg O4 HS]
  · isplitl [S0]
    · iexists _; isplitr; swap; · iexact S0
      ipureintro; exact fun _ => rfl
    isplitl [Hg]; · iexact Hg
    isplitl [O4]; · iexact O4
    iexact HS
  isplitl [HW]
  · iexists W'; isplitr; swap; · iexact HW
    ipureintro; exact fun _ _ => Or.inl trivial
  isplitl [W0]; · iexact W0
  isplitl [W1]; · iexact W1
  isplitl [W2]; · iexact W2
  isplitl [W3]; · iexact W3
  isplitl [W4]; · iexact W4
  isplitl [W5]; · iexact W5
  isplitl [W6]; · iexists _; isplitr; swap; · iexact W6
                  ipureintro; rfl
  isplitl [W7]; · iexists _; isplitr; swap; · iexact W7
                  ipureintro; rfl
  isplitl [W8]; · iexists _; isplitr; swap; · iexact W8
                  ipureintro; rfl
  isplitl [W9]; · iexists _; isplitr; swap; · iexact W9
                  ipureintro; exact fun h => if_pos h
  isplitl [W10]; · iexists _; isplitr; swap; · iexact W10
                   ipureintro; rfl
  isplitl [W11]; · iexists _; isplitr; swap; · iexact W11
                   ipureintro; rfl
  iexists _; isplitr; swap; · iexact W12
  ipureintro; rfl

theorem defs₀_row : defs₀ (F := F) .tc cfg0.body (cfg0.bodyArgs t (cfg0.slots t)) = bodyAt0 t := by
  unfold defs₀; rw [Defs.onTc_tc]

theorem body_obligation :
    BodyObligationRel (dats (F := F) m 0 c) (defs₀ (F := F)) Variants.none () Set.univ marked (Leaves m c) := fun t => by
  rw [bigSep_W0, bigSep_W0, defs₀_row]
  exact triple_restated (sound_body m c t) rfl .rfl fun _ => .rfl

/-! ## The launch -/

/-- The call's program up to its region. -/
theorem reach : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

/-- What every run ends with. -/
def Ended (r : PUnit × MemSt nD τ sig (Elt F)) : Prop :=
  Pipeline.RDat.FramePost (cfgs 0) (fun c => (dats m 0 c).toRRel marked (Leaves m c)) (V m) r

set_option backward.isDefEq.respectTransparency.types false in
/-- Every run ends with the arrays at what the points left, the inputs as they were and every counter at zero. -/
theorem run_main :
    θ_run defs (onTc (τ := τ) (main (F := F))) (s₀ m ρ) (fun r => Ended m r ∧ r.2.sem = fun _ => 0) :=
  Pipeline.RDat.θ_run_frame_dma (Q' := _) cfgs (0 : Fin 1) launch0 cells defs₀ Variants.none
    (fun c => (dats m 0 c).toRRel marked (Leaves m c)) cells_own streamed streamed_sub m ρ main
    (hbody := fun c => Pipeline.BodyObligationRel.toRRel _ (body_obligation m c)) (hshare := fun c => (dats m 0 c).share_full fun _ => rfl)
    (howed := fun _ _ => rfl) (V := V m) (hmain := reach m) (hA := A_eq m)
    (hin := enter m) (hout := leave m)

variable {m ρ}

/-- What the results hold at the end: the arrays of some exact data whose blocks are as the points leave them where they are written back. -/
theorem results {r : PUnit × MemSt nD τ sig (Elt F)} (h : Ended m r) (c : Dev nD) :
    ∃ after : (w : Fin cfg0.W) → Fin cfg0.N → (cfg0.win w).block.Idx → Elt F (cfg0.win w).elt,
      (∀ (w : Fin cfg0.W) (u : Fin cfg0.N), marked w = true → (cfg0.win w).flush u = true → Leaves m c w u (after w u))
        ∧ ∀ w, r.2.mem ((spec0 w).arr.view.loc (c.tc : Thread nD τ))
          = (((dats m 0 c).toRRel marked (Leaves m c)).withAfter after).arrAt w cfg0.N := by
  obtain ⟨after, hL, hA⟩ := Pipeline.RDat.FramePost.exists_exact h c
  exact ⟨after, fun w u hw hf => (dats m 0 c).toRRel_leaves hw (hL w u hf), hA⟩

/-- What the run leaves: every argument as it was launched. -/
theorem arguments {r : PUnit × MemSt nD τ sig (Elt F)} (h : Ended m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((Pipeline.RDat.FramePost.arr_in h c 2 rfl).trans (A_eq m c 2)).trans (V_main_arg3 m c),
    ((Pipeline.RDat.FramePost.arr_in h c 3 rfl).trans (A_eq m c 3)).trans (V_main_arg4 m c),
    ((h c).2 main_arg5 (Pipeline.mem_restRefs_of main_arg5 (by decide) (by decide))).trans (V_main_arg5 m c),
    ((Pipeline.RDat.FramePost.arr_in h c 5 rfl).trans (A_eq m c 5)).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c)⟩

end Cert.OutFrame

end
-- ==== Proof.OutArith.lean ====
module

public import proofs.«01_k».proof.Proof.OutParts
public import proofs.«01_k».proof.Proof.OutSpec
public import Idealize.ShloMosaic.Lib.Pipeline.ValueKit
public import Idealize.ShloMosaic.Lib.Pointwise

/-! What the mixer output's backward kernel makes of its blocks at one grid point, entry by entry. -/

@[expose] public section

set_option maxRecDepth 16384

noncomputable section

open Idealize.ShloMosaic Idealize.ShloMosaic.TcCoe Idealize.SL.Sem

namespace Cert.BwdOutIdeal.Value

open Cert.BwdOutIdeal Cert.BwdOutIdeal.Gen Cert.OutFrame

open Cert.Layer Cert.Layer.Out

/-- Row `r` of a stack of four slabs, end to end. -/
def flat (y : S4x512x128.Idx → EReal) (r : Fin 512) (k : Fin 512) : EReal :=
  y (ix3 (⟨k.val / 128, by omega⟩ : Fin 4) r (⟨k.val % 128, by omega⟩ : Fin 128))

theorem low_lt (k : Fin 512) : k.val < 1024 := by omega

theorem high_lt (k : Fin 512) : 512 + k.val < 1024 := by omega

variable (p : Blocks Ideal) (r k : Fin 512) (j i : Fin 1024)

/-! ### The residual stream -/

/-- Row `r` of the stream's block. -/
def hrow : Fin 1024 → EReal := fun j => p.h1 (ix2 r j)

/-- Row `r` of the gradient with respect to the normalised stream. -/
def urow : Fin 1024 → EReal := fun j => p.dn (ix2 r j) * p.g2 (ix2 0 j)

theorem pay12_at : k0_pay12 (up p.h1) (ix2 r 0) = Ideal.rsqrt (ms (hrow p r)) := by
  unfold ms hrow
  pointwise [k0_pay12, k0_pay11, up]

theorem pay13_at : k0_pay13 (up p.h1) (ix2 r j) = hrow p r j * Ideal.rsqrt (ms (hrow p r)) := by
  rw [← pay12_at]
  unfold hrow
  pointwise [k0_pay13, k0_pay11, up]

theorem pay16_form (g : Vec Ideal S1x1024 .f32) (a : FVec Ideal S512x1 .f32) (n : FVec Ideal S512x1024 .f32) (u h : Vec Ideal S512x1024 .f32) :
    k0_pay16 g a n (up u) (up h) (ix2 r j) = h (ix2 r j) + a (ix2 r 0) * (u (ix2 r j) * g (ix2 0 j)
      - n (ix2 r j) * Ideal.div (∑ k, u (ix2 r k) * g (ix2 0 k) * n (ix2 r k)) (Ideal.ofBits .f32 1149239296#32)) := by
  pointwise [k0_pay16, k0_pay14, up]

theorem pay16_at : k0_pay16 p.g2 (k0_pay12 (up p.h1)) (k0_pay13 (up p.h1)) (up p.dn) (up p.dh) (ix2 r j)
    = p.dh (ix2 r j) + rmsGrad (hrow p r) (urow p r) j := by
  have e : k0_pay13 (up p.h1) = fun i => hrow p (i 0) (i 1) * Ideal.rsqrt (ms (hrow p (i 0))) := funext fun i => by
    rw [eq_ix2 i]
    exact pay13_at p _ _
  rw [pay16_form, pay12_at, e]
  rfl

theorem dh1_at : p.dh1 (ix2 r j) = p.dh (ix2 r j) + rmsGrad (hrow p r) (urow p r) j := by
  rw [← pay16_at]
  unfold Blocks.dh1
  pointwise [k0_pay17]

theorem db_at : p.db (ix2 r j) = p.dh (ix2 r j) + rmsGrad (hrow p r) (urow p r) j := by
  rw [← pay16_at]
  unfold Blocks.db
  pointwise [k0_pay18]

/-! ### The groups -/

theorem cat_first (y : Vec Ideal S4x512x128 .f32) :
    k0_pay21 (k0_pay19 (slab 0 y)) (k0_pay20 (slab 1 y)) (slab 2 y) (slab 3 y) (ix2 r k) = flat y r k := by
  unfold flat
  pointwise [k0_pay21, k0_pay19, k0_pay20, slab]
  split_ifs <;> (refine congrArg y (funext fun a => Fin.ext ?_); fin_cases a <;> simp <;> omega)

theorem cat_second (y : Vec Ideal S4x512x128 .f32) :
    k0_pay25 (slab 0 y) (slab 1 y) (slab 2 y) (slab 3 y) (ix2 r k) = flat y r k := by
  rw [← cat_first]
  pointwise [k0_pay25, k0_pay21, k0_pay19, k0_pay20]

theorem rp_at : p.rp (ix2 r 0) = Ideal.rsqrt (msOf 1140850688#32 (flat p.yp r)) := by
  unfold msOf Blocks.rp
  simp only [← cat_first]
  pointwise [k0_pay22]

theorem np_at : p.np (ix2 r k) = flat p.yp r k * Ideal.rsqrt (msOf 1140850688#32 (flat p.yp r)) := by
  rw [← rp_at, ← cat_first]
  unfold Blocks.np Blocks.rp
  pointwise [k0_pay23]

theorem sp_at : p.sp (ix2 r k) = p.np (ix2 r k) * p.gp (ix2 0 k) := by
  unfold Blocks.sp Blocks.np
  pointwise [k0_pay24]

theorem rl_at : p.rl (ix2 r 0) = Ideal.rsqrt (msOf 1140850688#32 (flat p.yl r)) := by
  unfold msOf Blocks.rl
  simp only [← cat_second]
  pointwise [k0_pay26]

theorem nl_at : p.nl (ix2 r k) = flat p.yl r k * Ideal.rsqrt (msOf 1140850688#32 (flat p.yl r)) := by
  rw [← rl_at, ← cat_second]
  unfold Blocks.nl Blocks.rl
  pointwise [k0_pay27]

/-- The gradient with respect to the mixer's column `i`. -/
def dcol (i : Fin 1024) : EReal := ∑ j, p.db (ix2 r j) * p.w (ix2 i j)

theorem pay31_at : k0_pay31 p.db (lower p.w) (ix2 r k) = dcol p r ⟨k.val, low_lt k⟩ := by
  unfold dcol
  pointwise [k0_pay31, lower]

theorem pay34_at : k0_pay34 p.db (upper p.w) (ix2 r k) = dcol p r ⟨512 + k.val, high_lt k⟩ := by
  unfold dcol
  pointwise [k0_pay34, upper]

theorem pay32_form (d : FVec Ideal S512x1024 .bf16) (g : Vec Ideal S1x512 .f32) (a : FVec Ideal S512x1 .f32) (n : FVec Ideal S512x512 .f32)
    (w : Vec Ideal S512x1024 .bf16) : k0_pay32 d g a n w (ix2 r k) = a (ix2 r 0) * (k0_pay31 d w (ix2 r k) * g (ix2 0 k)
      - n (ix2 r k) * Ideal.div (∑ k, k0_pay31 d w (ix2 r k) * g (ix2 0 k) * n (ix2 r k)) (Ideal.ofBits .f32 1140850688#32)) := by
  pointwise [k0_pay32]

theorem gradP_at : p.gradP (ix2 r k)
    = rmsGradOf 1140850688#32 (flat p.yp r) (fun k => dcol p r ⟨k.val, low_lt k⟩ * p.gp (ix2 0 k)) k := by
  unfold Blocks.gradP
  have e : k0_pay31 p.db (lower p.w) = fun i => dcol p (i 0) ⟨(i 1).val, low_lt (i 1)⟩ := funext fun i => by
    rw [eq_ix2 i]
    exact pay31_at p _ _
  rw [pay32_form, e]
  simp only [np_at, rp_at]
  rfl

theorem inL_at : p.inL (ix2 r k) = dcol p r ⟨512 + k.val, high_lt k⟩ * p.gl (ix2 0 k) := by
  rw [← pay34_at]
  unfold Blocks.inL
  pointwise [k0_pay35]

theorem alongL_at : p.alongL (ix2 r k) = p.inL (ix2 r k) * p.nl (ix2 r k) := by
  unfold Blocks.alongL Blocks.inL
  pointwise [k0_pay36]

theorem gradL_at : k0_pay37 p.rl p.nl p.inL p.alongL (ix2 r k)
    = rmsGradOf 1140850688#32 (flat p.yl r) (fun k => dcol p r ⟨512 + k.val, high_lt k⟩ * p.gl (ix2 0 k)) k := by
  pointwise [k0_pay37, alongL_at, nl_at, rl_at, inL_at]
  rfl

variable (s : Fin 4) (l : Fin 128)

theorem dyp_at : p.dyp (ix3 s r l) = p.gradP (ix2 r ⟨s.val * 128 + l.val, by omega⟩) := by
  unfold Blocks.dyp stack
  fin_cases s <;> pointwise [k0_pay39, k0_pay40, k0_pay41, k0_pay42] <;> (first | done | (congr 2))

theorem dyl_at : p.dyl (ix3 s r l) = k0_pay37 p.rl p.nl p.inL p.alongL (ix2 r ⟨s.val * 128 + l.val, by omega⟩) := by
  unfold Blocks.dyl stack
  fin_cases s <;> pointwise [k0_pay43, k0_pay1, k0_pay44, k0_pay2, k0_pay3] <;> (first | done | (congr 2))

/-! ### The sums -/

variable (S : Sums Ideal)

/-- Column `i` of the mixer's output. -/
def mcol (i : Fin 1024) : EReal :=
  if h : i.val < 512 then p.np (ix2 r ⟨i.val, h⟩) * p.gp (ix2 0 ⟨i.val, h⟩)
  else p.nl (ix2 r ⟨i.val - 512, sub_lt h⟩) * p.gl (ix2 0 ⟨i.val - 512, sub_lt h⟩)

theorem halves_low (a b : S512x1024.Idx → EReal) (h : i.val < 512) : halves a b (ix2 i j) = a (ix2 ⟨i.val, h⟩ j) := dif_pos h

theorem halves_high (a b : S512x1024.Idx → EReal) (h : ¬i.val < 512) : halves a b (ix2 i j) = b (ix2 ⟨i.val - 512, sub_lt h⟩ j) := dif_neg h

theorem add_dw : (S.add p).dw (ix2 i j) = S.dw (ix2 i j) + ∑ r, mcol p r i * p.db (ix2 r j) := by
  unfold mcol Sums.add
  by_cases h : i.val < 512
  · simp only [dif_pos h]
    refine (halves_low j i _ _ h).trans ?_
    pointwise [k0_pay29, lower, sp_at]
  · simp only [dif_neg h]
    refine (halves_high j i _ _ h).trans ?_
    pointwise [k0_pay30, k0_pay28, upper]
    rw [show (⟨512 + (i.val - 512), high_lt ⟨i.val - 512, sub_lt h⟩⟩ : Fin 1024) = i from Fin.ext (by dsimp only; omega)]

theorem add_dg2 : (S.add p).dg2 (ix2 0 j)
    = S.dg2 (ix2 0 j) + ∑ r, p.dn (ix2 r j) * (hrow p r j * Ideal.rsqrt (ms (hrow p r))) := by
  simp only [← pay13_at]
  unfold Sums.add
  pointwise [k0_pay15, k0_pay14, up]

theorem add_dgp : (S.add p).dgp (ix2 0 k) = S.dgp (ix2 0 k) + ∑ r, dcol p r ⟨k.val, low_lt k⟩ * p.np (ix2 r k) := by
  simp only [← pay31_at]
  unfold Sums.add
  pointwise [k0_pay4, k0_pay33]

theorem add_dgl : (S.add p).dgl (ix2 0 k) = S.dgl (ix2 0 k) + ∑ r, dcol p r ⟨512 + k.val, high_lt k⟩ * p.nl (ix2 r k) := by
  simp only [← pay34_at]
  unfold Sums.add
  pointwise [k0_pay5, k0_pay38]

end Cert.BwdOutIdeal.Value

end
-- ==== Proof.OutBlock.lean ====
module

public import proofs.«01_k».proof.Proof.OutFrame
public import proofs.«01_k».proof.Proof.OutArith
public import proofs.«01_k».proof.Proof.TrivialSums

/-! The blocks of the mixer output's backward kernel, entry by entry, and what one grid point makes of the call's arrays. -/

@[expose] public section

set_option maxRecDepth 16384

noncomputable section

open Idealize.ShloMosaic Idealize.ShloMosaic.TcCoe Idealize.SL.Sem

namespace Cert.BwdOutIdeal.Value

open Cert.BwdOutIdeal Cert.BwdOutIdeal.Gen Cert.OutFrame

open Cert.Layer Cert.Layer.Out

variable (m : (ℓ : Loc nD τ sig) → Buf (Elt Ideal) ℓ) (c : Dev nD)

abbrev argX : Tokens := m ((c : Thread nD τ).loc main_arg0)
abbrev argP : Group := m ((c : Thread nD τ).loc main_arg1)
abbrev argL : Group := m ((c : Thread nD τ).loc main_arg2)
abbrev argGP : Gain := m ((c : Thread nD τ).loc main_arg3)
abbrev argGL : Gain := m ((c : Thread nD τ).loc main_arg4)
abbrev argW : Weight := m ((c : Thread nD τ).loc main_arg5)
abbrev argG : Gain2 := m ((c : Thread nD τ).loc main_arg6)
abbrev argH : Tokens := m ((c : Thread nD τ).loc main_arg7)
abbrev argN : Tokens := m ((c : Thread nD τ).loc main_arg8)

theorem index : ∀ t : Fin cfg0.N, win0_0.index t = ![0, (grid0.coords t 0).val, 0] ∧ win0_1.index t = ![0, (grid0.coords t 0).val, 0]
    ∧ win0_2.index t = ![0, 0] ∧ win0_3.index t = ![0, 0] ∧ win0_4.index t = ![0, 0] ∧ win0_5.index t = ![0, 0]
    ∧ win0_6.index t = ![(grid0.coords t 0).val, 0] ∧ win0_7.index t = ![0, (grid0.coords t 0).val, 0]
    ∧ win0_8.index t = ![0, (grid0.coords t 0).val, 0] ∧ (grid0.coords t 0).val = t.val ∧ (Ring.bk 8 t.val).val = t.val :=
  (by decide +kernel : ∀ t : Fin grid0.N, _)

theorem in_range (t : Fin cfg0.N) (r : Fin 512) : 512 * t.val + r.val < 4096 := by
  have h : t.val < 8 := t.isLt
  omega

/-- The token that row `r` of point `t`'s blocks holds. -/
def tok (t : Fin cfg0.N) (r : Fin 512) : Fin 4096 := ⟨512 * t.val + r.val, in_range t r⟩

variable (t : Fin cfg0.N) (r k : Fin 512) (j i : Fin 1024)

/-! ### The staged blocks -/

theorem emb_0 (s : Fin 4) (l : Fin 128) : (win0_0.blk t).view.emb (ix3 s r l) = ix3 s (tok t r) l := by
  blk_ext [index t, tok]

theorem entry_yp (s : Fin 4) (l : Fin 128) : iblk m c 0 t (ix3 s r l) = argP m c (ix3 0 (tok t r) ⟨s.val * 128 + l.val, by omega⟩) := by
  blk_simp [iblk]
  rw [emb_0]
  entry_read
  pointwise

theorem emb_1 (s : Fin 4) (l : Fin 128) : (win0_1.blk t).view.emb (ix3 s r l) = ix3 s (tok t r) l := by
  blk_ext [index t, tok]

theorem entry_yl (s : Fin 4) (l : Fin 128) : iblk m c 1 t (ix3 s r l) = argL m c (ix3 0 (tok t r) ⟨s.val * 128 + l.val, by omega⟩) := by
  blk_simp [iblk]
  rw [emb_1]
  entry_read
  pointwise

theorem entry_gp : iblk m c 2 t (ix2 0 k) = argGP m c (ix2 0 k) := by
  blk_simp [iblk]
  entry_read
  pointwise
  blk_ext [index t]

theorem entry_gl : iblk m c 3 t (ix2 0 k) = argGL m c (ix2 0 k) := by
  blk_simp [iblk]
  entry_read
  pointwise
  blk_ext [index t]

theorem entry_w : iblk m c 4 t (ix2 i j) = argW m c (ix3 0 i j) := by
  blk_simp [iblk]
  entry_read
  pointwise
  blk_ext [index t]

theorem entry_g : iblk m c 5 t (ix2 0 j) = argG m c (ix2 0 j) := by
  blk_simp [iblk]
  entry_read
  pointwise
  blk_ext [index t]

/-! ### The streams' blocks -/

theorem block_emb (M : Memref sig .tc .hbm S4096x1024 .f32) : (blockOf M (Ring.bk 8 t.val)).view.emb (ix2 r j) = M.view.emb (ix2 (tok t r) j) := by
  refine congrArg M.view.emb (funext fun a => Fin.ext ?_)
  match a with
  | ⟨0, _⟩ =>
    show 512 * (Ring.bk 8 t.val).val + 1 * r.val = 512 * t.val + r.val
    rw [(index t).2.2.2.2.2.2.2.2.2.2]
    omega
  | ⟨1, _⟩ =>
    show 0 + 1 * j.val = j.val
    omega

theorem entry_dn : (blocksAt m c t).dn (ix2 r j) = argN m c (ix3 0 (tok t r) j) := by
  refine (show _ = V m c main_v46 (ix2 (tok t r) j) from congrArg (V m c main_v46) (block_emb t r j (Memref.whole main_v46))).trans ?_
  entry_read
  pointwise

theorem entry_dh : (blocksAt m c t).dh (ix2 r j) = argH m c (ix3 0 (tok t r) j) := by
  refine (show _ = V m c main_v47 (ix2 (tok t r) j) from congrArg (V m c main_v47) (block_emb t r j (Memref.whole main_v47))).trans ?_
  entry_read
  pointwise

theorem entry_h1 : (blocksAt m c t).h1 (ix2 r j)
    = hid (argX m c) (argP m c) (argL m c) (argGP m c) (argGL m c) (argW m c) (tok t r) j := by
  refine (show _ = V m c main_v48 (ix2 (tok t r) j) from congrArg (V m c main_v48) (block_emb t r j (Memref.whole main_v48))).trans ?_
  unfold hid mix scaled normed rstd msOf row
  entry_read
  pointwise

end Cert.BwdOutIdeal.Value

end
-- ==== Proof.OutFinal.lean ====
module

public import proofs.«01_k».proof.Proof.OutBlock
public import Idealize.ShloMosaic.Lib.Pipeline.ValueKit

/-! The seven arrays that the mixer output's backward kernel leaves. -/

@[expose] public section

set_option maxRecDepth 16384

noncomputable section

open Idealize.ShloMosaic Idealize.ShloMosaic.TcCoe Idealize.SL.Sem
open Idealize.ShloMosaic.Pipeline (Dat)

namespace Cert.BwdOutIdeal.Value

open Cert.BwdOutIdeal Cert.BwdOutIdeal.Gen Cert.OutFrame

open Cert.Layer Cert.Layer.Out

variable (m : (ℓ : Loc nD τ sig) → Buf (Elt Ideal) ℓ) (c : Dev nD)

/-- The residual stream after the mixer. -/
def stream : Fin 4096 → Fin 1024 → EReal := hid (argX m c) (argP m c) (argL m c) (argGP m c) (argGL m c) (argW m c)

/-- The gradient with respect to that stream. -/
def grad : Fin 4096 → Fin 1024 → EReal := dhid (argG m c) (argH m c) (argN m c) (stream m c)

variable (t : Fin cfg0.N) (r k : Fin 512) (j i : Fin 1024)

/-! ### One point's blocks -/

theorem hrow_block : hrow (blocksAt m c t) r = stream m c (tok t r) := funext fun j => entry_h1 m c t r j

theorem urow_block : urow (blocksAt m c t) r = du2 (argG m c) (argN m c) (tok t r) := funext fun j =>
  congrArg₂ (· * ·) (entry_dn m c t r j) (entry_g m c t j)

theorem dh1_block : (blocksAt m c t).dh1 (ix2 r j) = grad m c (tok t r) j := by
  rw [dh1_at, hrow_block, urow_block, entry_dh]
  rfl

theorem db_block : (blocksAt m c t).db (ix2 r j) = grad m c (tok t r) j := by
  rw [db_at, hrow_block, urow_block, entry_dh]
  rfl

theorem join (k : Fin 512) (h : k.val / 128 * 128 + k.val % 128 < 512) : (⟨k.val / 128 * 128 + k.val % 128, h⟩ : Fin 512) = k :=
  Fin.ext (by dsimp only; omega)

theorem flat_yp : flat (blocksAt m c t).yp r = row (argP m c) (tok t r) := funext fun k =>
  (entry_yp m c t r ⟨k.val / 128, by omega⟩ ⟨k.val % 128, by omega⟩).trans (congrArg (fun k => argP m c (ix3 0 (tok t r) k)) (join k _))

theorem flat_yl : flat (blocksAt m c t).yl r = row (argL m c) (tok t r) := funext fun k =>
  (entry_yl m c t r ⟨k.val / 128, by omega⟩ ⟨k.val % 128, by omega⟩).trans (congrArg (fun k => argL m c (ix3 0 (tok t r) k)) (join k _))

theorem np_block : (blocksAt m c t).np (ix2 r k) = normed (argP m c) (tok t r) k := by
  rw [np_at, flat_yp]
  rfl

theorem nl_block : (blocksAt m c t).nl (ix2 r k) = normed (argL m c) (tok t r) k := by
  rw [nl_at, flat_yl]
  rfl

theorem mcol_block : mcol (blocksAt m c t) r i = mix (argP m c) (argL m c) (argGP m c) (argGL m c) (tok t r) i := by
  unfold mcol mix
  split_ifs with h
  · rw [np_block]
    exact congrArg _ (entry_gp m c t _)
  · rw [nl_block]
    exact congrArg _ (entry_gl m c t _)

theorem dcol_block : dcol (blocksAt m c t) r i = dmix (argW m c) (grad m c) (tok t r) i :=
  Finset.sum_congr rfl fun j _ => congrArg₂ (· * ·) (db_block m c t r j) (entry_w m c t j i)

theorem gradP_block : (blocksAt m c t).gradP (ix2 r k) = dgroup (argP m c) (argGP m c) (tok t r) k (pooled (argW m c) (grad m c)) := by
  rw [gradP_at, flat_yp]
  refine congrArg (fun u => rmsGradOf 1140850688#32 (row (argP m c) (tok t r)) u k) (funext fun k => ?_)
  rw [dcol_block]
  exact congrArg _ (entry_gp m c t k)

theorem gradL_block : k0_pay37 (blocksAt m c t).rl (blocksAt m c t).nl (blocksAt m c t).inL (blocksAt m c t).alongL (ix2 r k)
    = dgroup (argL m c) (argGL m c) (tok t r) k (lru (argW m c) (grad m c)) := by
  rw [gradL_at, flat_yl]
  refine congrArg (fun u => rmsGradOf 1140850688#32 (row (argL m c) (tok t r)) u k) (funext fun k => ?_)
  rw [dcol_block]
  exact congrArg _ (entry_gl m c t k)

/-! ### The sums over the points -/

/-- A value that the first point clears and every point adds to is, after the last, the sum of what they add. -/
theorem sum_points (a : ℕ → EReal) (T : Fin cfg0.N → EReal)
    (h : ∀ t : Fin cfg0.N, a (t.val + 1) = (if t.val = 0 then 0 else a t.val) + T t) : a 8 = ∑ t : Fin 8, T t := by
  have key : ∀ (n : ℕ) (hn : n < 8), a (n + 1) = ∑ t : Fin (n + 1), T ⟨t.val, by show t.val < 8; omega⟩ := by
    intro n
    induction n with
    | zero =>
      intro hn
      rw [Fin.sum_univ_one]
      exact (h ⟨0, hn⟩).trans ((congrArg (· + _) (if_pos rfl)).trans (zero_add _))
    | succ n ih =>
      intro hn
      rw [Fin.sum_univ_castSucc, h ⟨n + 1, hn⟩, if_neg (Nat.succ_ne_zero n)]
      exact congrArg (· + _) (ih (by omega))
  exact key 7 (by decide)

theorem carried_step (f : Sums Ideal → EReal) (h0 : f zeros = 0) (T : EReal) (hT : ∀ S, f (S.add (blocksAt m c t)) = f S + T) :
    f (carried m c (t.val + 1)) = (if t.val = 0 then 0 else f (carried m c t.val)) + T := by
  rw [carried_succ]
  unfold Sums.after
  rw [hT]
  split_ifs
  · rw [h0]
  · rfl

theorem sum_dw : (carried m c 8).dw (ix2 i j) = dw (argP m c) (argL m c) (argGP m c) (argGL m c) (grad m c) i j := by
  refine (sum_points (fun n => (carried m c n).dw (ix2 i j))
    (fun t => ∑ r, mix (argP m c) (argL m c) (argGP m c) (argGL m c) (tok t r) i * grad m c (tok t r) j)
    fun t => carried_step m c t (fun S => S.dw (ix2 i j)) ?_ _ fun S => ?_).trans ?_
  · show zeros.dw (ix2 i j) = 0
    unfold zeros
    pointwise [k0_pay7]
  · rw [add_dw]
    exact congrArg _ (Finset.sum_congr rfl fun r _ => by rw [mcol_block, db_block])
  · exact sum_blocks (N := 8) (n := 512) (T := 4096) rfl
      (fun r => mix (argP m c) (argL m c) (argGP m c) (argGL m c) r i * grad m c r j) in_range

theorem sum_dg2 : (carried m c 8).dg2 (ix2 0 j) = dg2 (argN m c) (stream m c) j := by
  refine (sum_points (fun n => (carried m c n).dg2 (ix2 0 j))
    (fun t => ∑ r, argN m c (ix3 0 (tok t r) j) * (stream m c (tok t r) j * Ideal.rsqrt (ms (stream m c (tok t r)))))
    fun t => carried_step m c t (fun S => S.dg2 (ix2 0 j)) ?_ _ fun S => ?_).trans ?_
  · show zeros.dg2 (ix2 0 j) = 0
    unfold zeros
    pointwise [k0_pay8]
  · rw [add_dg2]
    exact congrArg _ (Finset.sum_congr rfl fun r _ => by rw [hrow_block, entry_dn])
  · exact sum_blocks (N := 8) (n := 512) (T := 4096) rfl
      (fun r => argN m c (ix3 0 r j) * (stream m c r j * Ideal.rsqrt (ms (stream m c r)))) in_range

theorem sum_dgp : (carried m c 8).dgp (ix2 0 k) = dgain (argP m c) k (pooled (argW m c) (grad m c)) := by
  refine (sum_points (fun n => (carried m c n).dgp (ix2 0 k))
    (fun t => ∑ r, pooled (argW m c) (grad m c) (tok t r) k * normed (argP m c) (tok t r) k)
    fun t => carried_step m c t (fun S => S.dgp (ix2 0 k)) ?_ _ fun S => ?_).trans ?_
  · show zeros.dgp (ix2 0 k) = 0
    unfold zeros
    pointwise [k0_pay9]
  · rw [add_dgp]
    exact congrArg _ (Finset.sum_congr rfl fun r _ => by rw [dcol_block, np_block]; rfl)
  · exact sum_blocks (N := 8) (n := 512) (T := 4096) rfl
      (fun r => pooled (argW m c) (grad m c) r k * normed (argP m c) r k) in_range

theorem sum_dgl : (carried m c 8).dgl (ix2 0 k) = dgain (argL m c) k (lru (argW m c) (grad m c)) := by
  refine (sum_points (fun n => (carried m c n).dgl (ix2 0 k))
    (fun t => ∑ r, lru (argW m c) (grad m c) (tok t r) k * normed (argL m c) (tok t r) k)
    fun t => carried_step m c t (fun S => S.dgl (ix2 0 k)) ?_ _ fun S => ?_).trans ?_
  · show zeros.dgl (ix2 0 k) = 0
    unfold zeros
    pointwise [k0_pay10]
  · rw [add_dgl]
    exact congrArg _ (Finset.sum_congr rfl fun r _ => by rw [dcol_block, nl_block]; rfl)
  · exact sum_blocks (N := 8) (n := 512) (T := 4096) rfl
      (fun r => lru (argW m c) (grad m c) r k * normed (argL m c) r k) in_range

/-! ### The arrays -/

def streamResult : Vec Ideal S4096x1024 .f32 := fun i : S4096x1024.Idx => grad m c (i 0) (i 1)

def pooledResult : Vec Ideal S4x4096x128 .f32 := fun i : S4x4096x128.Idx =>
  dgroup (argP m c) (argGP m c) (i 1) ⟨(i 0).val * 128 + (i 2).val, by have h0 : (i 0).val < 4 := (i 0).isLt; have h2 : (i 2).val < 128 := (i 2).isLt; omega⟩
    (pooled (argW m c) (grad m c))

def lruResult : Vec Ideal S4x4096x128 .f32 := fun i : S4x4096x128.Idx =>
  dgroup (argL m c) (argGL m c) (i 1) ⟨(i 0).val * 128 + (i 2).val, by have h0 : (i 0).val < 4 := (i 0).isLt; have h2 : (i 2).val < 128 := (i 2).isLt; omega⟩
    (lru (argW m c) (grad m c))

def weightResult : Vec Ideal S1024x1024 .bf16 := fun i : S1024x1024.Idx => dw (argP m c) (argL m c) (argGP m c) (argGL m c) (grad m c) (i 0) (i 1)

def gain2Result : Vec Ideal S1x1024 .f32 := fun i : S1x1024.Idx => dg2 (argN m c) (stream m c) (i 1)

def gainPResult : Vec Ideal S1x512 .f32 := fun i : S1x512.Idx => dgain (argP m c) (i 1) (pooled (argW m c) (grad m c))

def gainLResult : Vec Ideal S1x512 .f32 := fun i : S1x512.Idx => dgain (argL m c) (i 1) (lru (argW m c) (grad m c))

variable (after : (w : Fin cfg0.W) → Fin cfg0.N → (cfg0.win w).block.Idx → Elt Ideal (cfg0.win w).elt)

/-- The data whose blocks are `after`'s. -/
abbrev left := ((dats m 0 c).toRRel marked (Leaves m c)).withAfter after

variable (hL : ∀ (w : Fin cfg0.W) (u : Fin cfg0.N), marked w = true → (cfg0.win w).flush u = true → Leaves m c w u (after w u))

include hL

theorem final_stream : (left m c after).arrAt 6 cfg0.N = streamResult m c := by
  refine (left m c after).arrAt_eq_of_covers 6 _ (by decide +kernel) fun t hf y => ?_
  blk_simp
  obtain ⟨r, j, rfl⟩ : ∃ (r : Fin 512) (j : Fin 1024), y = ix2 r j := ⟨y 0, y 1, eq_ix2 y⟩
  have he : (win0_6.blk t).view.emb (ix2 r j) = ix2 (tok t r) j := by
    blk_ext [index t, tok]
  have hs : after 6 t = (blocksAt m c t).dh1 := hL 6 t rfl hf
  rw [he]
  exact (congrFun hs (ix2 r j)).trans (dh1_block m c t r j)

theorem final_pooled : (left m c after).arrAt 7 cfg0.N = pooledResult m c := by
  refine (left m c after).arrAt_eq_of_covers 7 _ (by decide +kernel) fun t hf y => ?_
  blk_simp
  obtain ⟨s, r, l, rfl⟩ : ∃ (s : Fin 4) (r : Fin 512) (l : Fin 128), y = ix3 s r l := ⟨y 0, y 1, y 2, eq_ix3 y⟩
  have he : (win0_7.blk t).view.emb (ix3 s r l) = ix3 s (tok t r) l := by
    blk_ext [index t, tok]
  have hs : after 7 t = (blocksAt m c t).dyp := hL 7 t rfl hf
  rw [he]
  exact ((congrFun hs (ix3 s r l)).trans (dyp_at _ r s l)).trans (gradP_block m c t r _)

theorem final_lru : (left m c after).arrAt 8 cfg0.N = lruResult m c := by
  refine (left m c after).arrAt_eq_of_covers 8 _ (by decide +kernel) fun t hf y => ?_
  blk_simp
  obtain ⟨s, r, l, rfl⟩ : ∃ (s : Fin 4) (r : Fin 512) (l : Fin 128), y = ix3 s r l := ⟨y 0, y 1, y 2, eq_ix3 y⟩
  have he : (win0_8.blk t).view.emb (ix3 s r l) = ix3 s (tok t r) l := by
    blk_ext [index t, tok]
  have hs : after 8 t = (blocksAt m c t).dyl := hL 8 t rfl hf
  rw [he]
  exact ((congrFun hs (ix3 s r l)).trans (dyl_at _ r s l)).trans (gradL_block m c t r _)

omit hL

/-- The last grid point. -/
def last : Fin cfg0.N := ⟨7, by decide⟩

include hL

theorem final_weight : (left m c after).arrAt 9 cfg0.N = weightResult m c := by
  refine (left m c after).arrAt_eq_of_after_last 9 last (by decide +kernel) _ fun y => ?_
  blk_simp
  obtain ⟨i, j, rfl⟩ : ∃ (i : Fin 1024) (j : Fin 1024), y = ix2 i j := ⟨y 0, y 1, eq_ix2 y⟩
  have hs : after 9 last = k0_pay6 (carried m c 8).dw := hL 9 last rfl (by decide +kernel) rfl
  refine (congrFun hs (ix2 i j)).trans (Eq.trans ?_ (sum_dw m c j i))
  pointwise [k0_pay6]

theorem final_gain2 : (left m c after).arrAt 10 cfg0.N = gain2Result m c := by
  refine (left m c after).arrAt_eq_of_after_last 10 last (by decide +kernel) _ fun y => ?_
  blk_simp
  obtain ⟨i, j, rfl⟩ : ∃ (i : Fin 1) (j : Fin 1024), y = ix2 i j := ⟨y 0, y 1, eq_ix2 y⟩
  obtain rfl : i = 0 := Subsingleton.elim _ _
  have hs : after 10 last = (carried m c 8).dg2 := hL 10 last rfl (by decide +kernel)
  exact (congrFun hs (ix2 0 j)).trans (sum_dg2 m c j)

theorem final_gainP : (left m c after).arrAt 11 cfg0.N = gainPResult m c := by
  refine (left m c after).arrAt_eq_of_after_last 11 last (by decide +kernel) _ fun y => ?_
  blk_simp
  obtain ⟨i, k, rfl⟩ : ∃ (i : Fin 1) (k : Fin 512), y = ix2 i k := ⟨y 0, y 1, eq_ix2 y⟩
  obtain rfl : i = 0 := Subsingleton.elim _ _
  have hs : after 11 last = (carried m c 8).dgp := hL 11 last rfl (by decide +kernel)
  exact (congrFun hs (ix2 0 k)).trans (sum_dgp m c k)

theorem final_gainL : (left m c after).arrAt 12 cfg0.N = gainLResult m c := by
  refine (left m c after).arrAt_eq_of_after_last 12 last (by decide +kernel) _ fun y => ?_
  blk_simp
  obtain ⟨i, k, rfl⟩ : ∃ (i : Fin 1) (k : Fin 512), y = ix2 i k := ⟨y 0, y 1, eq_ix2 y⟩
  obtain rfl : i = 0 := Subsingleton.elim _ _
  have hs : after 12 last = (carried m c 8).dgl := hL 12 last rfl (by decide +kernel)
  exact (congrFun hs (ix2 0 k)).trans (sum_dgl m c k)

end Cert.BwdOutIdeal.Value

end
-- ==== Proof.OutClaim.lean ====
module

public import proofs.«01_k».proof.Defs
public import proofs.«01_k».proof.Proof.Gen.BwdOut
public import proofs.«01_k».proof.Proof.OutReference
public import proofs.«01_k».proof.Proof.OutFinal
public import proofs.«01_k».proof.Proof.Gen.Pre_out_finite
public import proofs.«01_k».proof.Proof.InClaim

/-! The mixer output's backward pass: the frames of its kernel and of its reference, and the seven results' values. -/

@[expose] public section

set_option maxRecDepth 16384

noncomputable section

open Idealize.ShloMosaic Idealize.ShloMosaic.TcCoe Idealize.SL.Sem

namespace Cert.Layer.Out

open Cert.Layer

/-- The precondition: the arrays hold real numbers. -/
theorem reals {x : Tokens} {yp yl : Group} {gp gl : Gain} {w : Weight} {g2 : Gain2} {dh dn : Tokens}
    (e : Cert.Pre_out_finite.fn (F := Ideal) x yp yl gp gl w g2 dh dn = fun _ => 1#1) :
    (∀ i, IsReal (x i)) ∧ (∀ i, IsReal (yp i)) ∧ (∀ i, IsReal (yl i)) ∧ (∀ i, IsReal (gp i)) ∧ (∀ i, IsReal (gl i))
      ∧ (∀ i, IsReal (w i)) ∧ (∀ i, IsReal (g2 i)) ∧ (∀ i, IsReal (dh i)) ∧ ∀ i, IsReal (dn i) := by
  have e0 := congrFun e ix0
  unfold Cert.Pre_out_finite.fn Cert.Pre_out_finite.fn_part1 Cert.Pre_out_finite.fn_part2 at e0
  obtain ⟨e1, hn⟩ := andi_one e0
  obtain ⟨e2, hh⟩ := andi_one e1
  obtain ⟨e3, hg⟩ := andi_one e2
  obtain ⟨e4, hw⟩ := andi_one e3
  obtain ⟨e5, hgl⟩ := andi_one e4
  obtain ⟨e6, hgp⟩ := andi_one e5
  obtain ⟨e7, hyl⟩ := andi_one e6
  obtain ⟨hx, hyp⟩ := andi_one e7
  exact ⟨real_of_all _ _ _ _ _ _ hx, real_of_all _ _ _ _ _ _ hyp, real_of_all _ _ _ _ _ _ hyl, real_of_all _ _ _ _ _ _ hgp,
    real_of_all _ _ _ _ _ _ hgl, real_of_all _ _ _ _ _ _ hw, real_of_all _ _ _ _ _ _ hg, real_of_all _ _ _ _ _ _ hh,
    real_of_all _ _ _ _ _ _ hn⟩

end Cert.Layer.Out

namespace Cert.Proof.Out

open Cert.Layer Cert.Layer.Out Cert.BwdOutRefIdeal.Read Cert.BwdOutIdeal.Value

/-- Every run of the kernel's program, at either number type: the arguments as they were launched, every counter at zero. -/
def Kept (F : FTy → Type) [FloatOps F] : Prop :=
  ∀ (m : (ℓ : Loc Cert.BwdOutIdeal.nD Cert.BwdOutIdeal.τ Cert.BwdOutIdeal.sig) → Buf (Elt F) ℓ) (g : Dev Cert.BwdOutIdeal.nD → PrngReg), True →
    θ_run (Cert.BwdOutIdeal.defs (F := F)) (onTc (τ := Cert.BwdOutIdeal.τ) (Cert.BwdOutIdeal.main (F := F))) ⟨m, fun _ => 0, g⟩
      (fun r => (∀ c : Dev Cert.BwdOutIdeal.nD, r.2.mem ((c.tc : Thread Cert.BwdOutIdeal.nD Cert.BwdOutIdeal.τ).loc Cert.BwdOutIdeal.main_arg0) = m ((c.tc : Thread Cert.BwdOutIdeal.nD Cert.BwdOutIdeal.τ).loc Cert.BwdOutIdeal.main_arg0)
        ∧ r.2.mem ((c.tc : Thread Cert.BwdOutIdeal.nD Cert.BwdOutIdeal.τ).loc Cert.BwdOutIdeal.main_arg1) = m ((c.tc : Thread Cert.BwdOutIdeal.nD Cert.BwdOutIdeal.τ).loc Cert.BwdOutIdeal.main_arg1)
        ∧ r.2.mem ((c.tc : Thread Cert.BwdOutIdeal.nD Cert.BwdOutIdeal.τ).loc Cert.BwdOutIdeal.main_arg2) = m ((c.tc : Thread Cert.BwdOutIdeal.nD Cert.BwdOutIdeal.τ).loc Cert.BwdOutIdeal.main_arg2)
        ∧ r.2.mem ((c.tc : Thread Cert.BwdOutIdeal.nD Cert.BwdOutIdeal.τ).loc Cert.BwdOutIdeal.main_arg3) = m ((c.tc : Thread Cert.BwdOutIdeal.nD Cert.BwdOutIdeal.τ).loc Cert.BwdOutIdeal.main_arg3)
        ∧ r.2.mem ((c.tc : Thread Cert.BwdOutIdeal.nD Cert.BwdOutIdeal.τ).loc Cert.BwdOutIdeal.main_arg4) = m ((c.tc : Thread Cert.BwdOutIdeal.nD Cert.BwdOutIdeal.τ).loc Cert.BwdOutIdeal.main_arg4)
        ∧ r.2.mem ((c.tc : Thread Cert.BwdOutIdeal.nD Cert.BwdOutIdeal.τ).loc Cert.BwdOutIdeal.main_arg5) = m ((c.tc : Thread Cert.BwdOutIdeal.nD Cert.BwdOutIdeal.τ).loc Cert.BwdOutIdeal.main_arg5)
        ∧ r.2.mem ((c.tc : Thread Cert.BwdOutIdeal.nD Cert.BwdOutIdeal.τ).loc Cert.BwdOutIdeal.main_arg6) = m ((c.tc : Thread Cert.BwdOutIdeal.nD Cert.BwdOutIdeal.τ).loc Cert.BwdOutIdeal.main_arg6)
        ∧ r.2.mem ((c.tc : Thread Cert.BwdOutIdeal.nD Cert.BwdOutIdeal.τ).loc Cert.BwdOutIdeal.main_arg7) = m ((c.tc : Thread Cert.BwdOutIdeal.nD Cert.BwdOutIdeal.τ).loc Cert.BwdOutIdeal.main_arg7)
        ∧ r.2.mem ((c.tc : Thread Cert.BwdOutIdeal.nD Cert.BwdOutIdeal.τ).loc Cert.BwdOutIdeal.main_arg8) = m ((c.tc : Thread Cert.BwdOutIdeal.nD Cert.BwdOutIdeal.τ).loc Cert.BwdOutIdeal.main_arg8)) ∧ r.2.sem = fun _ => 0)

theorem kept (F : FTy → Type) [FloatOps F] : Kept F := fun m g _ =>
  (θ_run Cert.BwdOutIdeal.defs _ _).mono (fun _ h => ⟨fun c => Cert.OutFrame.arguments h.1 c, h.2⟩)
    (Cert.OutFrame.run_main (F := F) m g)

theorem frame_ideal : Cert.quiescent_BwdOutIdeal := kept Ideal

theorem frame_ideal_pre : Cert.quiescent_BwdOutIdeal_pre_out_finite := fun m g _ => frame_ideal m g trivial

theorem same : Cert.quiescent_BwdOut = Kept Bits := by sl_kernel_rfl

theorem frame : Cert.quiescent_BwdOut := same.mpr (kept Bits)

theorem frame_ref : Cert.quiescent_BwdOutRefIdeal := fun m g _ =>
  (θ_run Cert.BwdOutRefIdeal.defs _ _).mono (fun r h => ⟨fun c => (h c).2.2.2.2.2.2.2, sem_eq_zero_of_no_sems (by decide) r.2⟩)
    (Cert.BwdOutRefIdeal.Value.run (F := Ideal) m g)

theorem frame_ref_pre : Cert.quiescent_BwdOutRefIdeal_pre_out_finite := fun m g _ => frame_ref m g trivial

set_option maxHeartbeats 2000000 in
theorem algebraic : Cert.algebraic_BwdOutIdeal_BwdOutRefIdeal_pre_out_finite := by
  intro m g m' g' hpre hagree
  refine ⟨streamResult m, pooledResult m, lruResult m, weightResult m, gain2Result m, gainPResult m, gainLResult m, ?_, ?_⟩
  · refine (θ_run Cert.BwdOutIdeal.defs _ _).mono (fun r h => ?_) (Cert.OutFrame.run_main (F := Ideal) m g)
    intro c
    obtain ⟨after, hL, hA⟩ := Cert.OutFrame.results h.1 c
    have r0 : r.2.mem ((c.tc : Thread Cert.BwdOutIdeal.nD Cert.BwdOutIdeal.τ).loc Cert.BwdOutIdeal.main_v58_0) = streamResult m c :=
      (hA 6).trans (final_stream m c after hL)
    have r1 : r.2.mem ((c.tc : Thread Cert.BwdOutIdeal.nD Cert.BwdOutIdeal.τ).loc Cert.BwdOutIdeal.main_v58_1) = pooledResult m c :=
      (hA 7).trans (final_pooled m c after hL)
    have r2 : r.2.mem ((c.tc : Thread Cert.BwdOutIdeal.nD Cert.BwdOutIdeal.τ).loc Cert.BwdOutIdeal.main_v58_2) = lruResult m c :=
      (hA 8).trans (final_lru m c after hL)
    have r3 : r.2.mem ((c.tc : Thread Cert.BwdOutIdeal.nD Cert.BwdOutIdeal.τ).loc Cert.BwdOutIdeal.main_v58_3) = weightResult m c :=
      (hA 9).trans (final_weight m c after hL)
    have r4 : r.2.mem ((c.tc : Thread Cert.BwdOutIdeal.nD Cert.BwdOutIdeal.τ).loc Cert.BwdOutIdeal.main_v58_4) = gain2Result m c :=
      (hA 10).trans (final_gain2 m c after hL)
    have r5 : r.2.mem ((c.tc : Thread Cert.BwdOutIdeal.nD Cert.BwdOutIdeal.τ).loc Cert.BwdOutIdeal.main_v58_5) = gainPResult m c :=
      (hA 11).trans (final_gainP m c after hL)
    have r6 : r.2.mem ((c.tc : Thread Cert.BwdOutIdeal.nD Cert.BwdOutIdeal.τ).loc Cert.BwdOutIdeal.main_v58_6) = gainLResult m c :=
      (hA 12).trans (final_gainL m c after hL)
    exact ⟨r0, r1, r2, r3, r4, r5, r6, Cert.OutFrame.arguments h.1 c⟩
  · obtain ⟨hx, hyp, hyl, hgp, hgl, hw, hg, hh, hn⟩ := reals (hpre 0)
    refine Idealize.ShloMosaic.θ_run_mono (Cert.BwdOutRefIdeal.Value.run m' g') ?_
    intro r hr c
    obtain ⟨h0, h1, h2, h3, h4, h5, h6, hargs⟩ := hr c
    obtain ⟨a0, a1, a2, a3, a4, a5, a6, a7, a8⟩ := hagree c
    obtain rfl : c = 0 := Subsingleton.elim _ _
    have hs : ∀ r j, IsReal (stream m 0 r j) := hid_real hx hyp hyl hgp hgl hw
    have hd : ∀ r j, IsReal (grad m 0 r j) := dhid_real hg hh hn hs
    have heq : grad m 0 = dhidVia (argG m 0) (argH m 0) (argN m 0) (stream m 0) := funext fun r => funext fun j => dhid_eq hg hn hs r j
    have hm : ∀ r i, IsReal (dmix (argW m 0) (grad m 0) r i) := dmix_real hw hd
    refine ⟨h0.trans ?_, h1.trans ?_, h2.trans ?_, h3.trans ?_, h4.trans ?_, h5.trans ?_, h6.trans ?_, hargs⟩
    · refine Eq.trans (val_main_v135_eq _ _) ?_
      rw [a0, a1, a2, a3, a4, a5, a6, a7, a8]
      funext i
      obtain ⟨r, j, rfl⟩ : ∃ (r : Fin 4096) (j : Fin 1024), i = ix2 r j := ⟨i 0, i 1, eq_ix2 i⟩
      refine (v135_at _ _ _ _ _ _ _ _ _ r j).trans ?_
      unfold streamResult
      rw [heq]
      rfl
    · refine Eq.trans (val_main_v131_eq _ _) ?_
      rw [a0, a1, a2, a3, a4, a5, a6, a7, a8]
      funext i
      obtain ⟨s, r, l, rfl⟩ : ∃ (s : Fin 4) (r : Fin 4096) (l : Fin 128), i = ix3 s r l := ⟨i 0, i 1, i 2, eq_ix3 i⟩
      refine (v131_at _ _ _ _ _ _ _ _ _ r s l).trans ?_
      refine Eq.trans ?_ (dgroup_eq hyp hgp (fun r k => hm r _) r _).symm
      rw [heq]
      rfl
    · refine Eq.trans (val_main_v134_eq _ _) ?_
      rw [a0, a1, a2, a3, a4, a5, a6, a7, a8]
      funext i
      obtain ⟨s, r, l, rfl⟩ : ∃ (s : Fin 4) (r : Fin 4096) (l : Fin 128), i = ix3 s r l := ⟨i 0, i 1, i 2, eq_ix3 i⟩
      refine (v134_at _ _ _ _ _ _ _ _ _ r s l).trans ?_
      refine Eq.trans ?_ (dgroup_eq hyl hgl (fun r k => hm r _) r _).symm
      rw [heq]
      rfl
    · refine Eq.trans (val_main_v137_eq _ _) ?_
      rw [a0, a1, a2, a3, a4, a5, a6, a7, a8]
      funext i
      obtain ⟨k, j, rfl⟩ : ∃ (k : Fin 1024) (j : Fin 1024), i = ix2 k j := ⟨i 0, i 1, eq_ix2 i⟩
      refine (v137_at _ _ _ _ _ _ _ _ _ j k).trans ?_
      unfold weightResult
      rw [heq]
      rfl
    · refine Eq.trans (val_main_v77_eq _ _) ?_
      rw [a0, a1, a2, a3, a4, a5, a8]
      funext i
      obtain ⟨z, j, rfl⟩ : ∃ (z : Fin 1) (j : Fin 1024), i = ix2 z j := ⟨i 0, i 1, eq_ix2 i⟩
      obtain rfl : z = 0 := Subsingleton.elim _ _
      exact v77_at _ _ _ _ _ _ _ j
    · refine Eq.trans (val_main_v128_eq _ _) ?_
      rw [a0, a1, a2, a3, a4, a5, a6, a7, a8]
      funext i
      obtain ⟨z, k, rfl⟩ : ∃ (z : Fin 1) (k : Fin 512), i = ix2 z k := ⟨i 0, i 1, eq_ix2 i⟩
      obtain rfl : z = 0 := Subsingleton.elim _ _
      refine (v128_at _ _ _ _ _ _ _ _ _ k).trans ?_
      unfold gainPResult
      rw [heq]
      rfl
    · refine Eq.trans (val_main_v106_eq _ _) ?_
      rw [a0, a1, a2, a3, a4, a5, a6, a7, a8]
      funext i
      obtain ⟨z, k, rfl⟩ : ∃ (z : Fin 1) (k : Fin 512), i = ix2 z k := ⟨i 0, i 1, eq_ix2 i⟩
      obtain rfl : z = 0 := Subsingleton.elim _ _
      refine (v106_at _ _ _ _ _ _ _ _ _ k).trans ?_
      unfold gainLResult
      rw [heq]
      rfl

end Cert.Proof.Out

end
-- ==== Proof.ProjSpec.lean ====
module

public import proofs.«01_k».proof.Proof.InSpec

/-! The input projection of the normalised activations, as a function of its arrays. -/

@[expose] public section

noncomputable section

open Idealize.ShloMosaic

namespace Cert.Layer.In

/-- Column `i` of token `r`'s projection. -/
def proj (x : Tokens) (g : Gain) (w : Weight) (r : Fin 4096) (i : Fin 1536) : EReal :=
  ∑ j : Fin 1024, normed x g r j * w (ix3 0 j i)

/-- Entry `k` of slab `s` of the 512 columns from `o` on, in four slabs of 128. -/
def slabAt (o : Nat) (ho : o ≤ 1024) (x : Tokens) (g : Gain) (w : Weight) (s : Fin 4) (r : Fin 4096) (k : Fin 128) : EReal :=
  proj x g w r ⟨o + (s.val * 128 + k.val), by omega⟩

/-- The 512 columns of the projection from `o` on, in four slabs of 128. -/
def slab (o : Nat) (ho : o ≤ 1024) (x : Tokens) (g : Gain) (w : Weight) (i : (⟨3, ![4, 4096, 128]⟩ : Shape).Idx) : EReal :=
  slabAt o ho x g w (i 0) (i 1) (i 2)

end Cert.Layer.In

end
-- ==== Proof.ProjKernel.lean ====
module

public import proofs.«01_k».proof.Proof.Gen.FwdInIdeal.Value
public import proofs.«01_k».proof.Proof.ProjSpec
public import Idealize.ShloMosaic.Lib.Pipeline.ValueKit
public import Idealize.ShloMosaic.Lib.Pointwise

/-! The kernel of the input projection: what its three results hold. -/

@[expose] public section

set_option maxRecDepth 16384

noncomputable section

open Idealize.ShloMosaic Idealize.ShloMosaic.TcCoe Idealize.SL.Sem
open Idealize.ShloMosaic.Pipeline (Dat)

namespace Cert.FwdInIdeal.Value

open Cert.FwdInIdeal Cert.FwdInIdeal.Gen

open Cert.Layer Cert.Layer.In

variable (m : (ℓ : Loc nD τ sig) → Buf (Elt Ideal) ℓ)

theorem index : ∀ t : Fin cfg0.N, win0_0.index t = ![t.val, 0] ∧ win0_1.index t = ![0, 0] ∧ win0_2.index t = ![0, 0]
    ∧ win0_3.index t = ![0, t.val, 0] ∧ win0_4.index t = ![0, t.val, 0] ∧ win0_5.index t = ![0, t.val, 0] :=
  (by decide +kernel : ∀ t : Fin grid0.N, _)

theorem in_range (t : Fin cfg0.N) (r : Fin 1024) : 1024 * t.val + r.val < 4096 := by
  have h : t.val < 4 := t.isLt
  omega

/-- The token that row `r` of point `t`'s blocks holds. -/
def tok (t : Fin cfg0.N) (r : Fin 1024) : Fin 4096 := ⟨1024 * t.val + r.val, in_range t r⟩

variable (c : Dev nD) (t : Fin cfg0.N)

abbrev argX : Tokens := m ((c : Thread nD τ).loc main_arg0)
abbrev argG : Gain := m ((c : Thread nD τ).loc main_arg1)
abbrev argW : Weight := m ((c : Thread nD τ).loc main_arg2)

theorem entry_x (r j : Fin 1024) : iblk m c 0 t (ix2 r j) = argX m c (ix3 0 (tok t r) j) := by
  blk_simp [iblk]
  entry_read
  pointwise
  blk_ext [index t, tok]

theorem entry_g (j : Fin 1024) : iblk m c 1 t (ix2 0 j) = argG m c (ix2 0 j) := by
  blk_simp [iblk]
  entry_read
  pointwise
  blk_ext [index t]

theorem entry_w (k : Fin 1536) (j : Fin 1024) : iblk m c 2 t (ix2 k j) = argW m c (ix3 0 j k) := by
  blk_simp [iblk]
  entry_read
  pointwise
  blk_ext [index t]

/-- The body's projection of a block of tokens. -/
theorem proj_at {a : Vec Ideal S1024x1024 .f32} {b : Vec Ideal S1x1024 .f32} {d : Vec Ideal S1536x1024 .bf16} {x : Tokens} {g : Gain}
    {w : Weight} {r : Fin 1024} {q : Fin 4096} (ha : ∀ j, a (ix2 r j) = x (ix3 0 q j)) (hb : ∀ j, b (ix2 0 j) = g (ix2 0 j))
    (hd : ∀ k j, d (ix2 k j) = w (ix3 0 j k)) (i : Fin 1536) : k0_pay2 a b d (ix2 r i) = proj x g w q i := by
  unfold proj normed rstd ms row
  simp only [← ha, ← hb, ← hd]
  pointwise [k0_pay2]

theorem point (r : Fin 1024) (i : Fin 1536) :
    k0_pay2 (iblk m c 0 t) (iblk m c 1 t) (iblk m c 2 t) (ix2 r i) = proj (argX m c) (argG m c) (argW m c) (tok t r) i :=
  proj_at (entry_x m c t r) (entry_g m c t) (entry_w m c t) i

theorem ld_x (a : Vec Ideal S1024x1024 .f32) : View.ld a r0_0 = a := View.ld_unit_lit _ a (fun i => by fin_cases i <;> rfl)
theorem ld_g (a : Vec Ideal S1x1024 .f32) : View.ld a r0_1 = a := View.ld_unit_lit _ a (fun i => by fin_cases i <;> rfl)
theorem ld_w (a : Vec Ideal S1536x1024 .bf16) : View.ld a r0_2 = a := View.ld_unit_lit _ a (fun i => by fin_cases i <;> rfl)

theorem out3_at (a : Vec Ideal S1024x1024 .f32) (b : Vec Ideal S1x1024 .f32) (d : Vec Ideal S1536x1024 .bf16) (s : Fin 4) (r : Fin 1024)
    (k : Fin 128) : out0_3 a b d (ix3 s r k) = k0_pay2 a b d (ix2 r ⟨0 + (s.val * 128 + k.val), by omega⟩) := by
  unfold_out out0_3
  rw [ld_x, ld_g, ld_w]
  refine (canon3_eq a b d (ix3 s r k)).trans (congrArg (k0_pay2 a b d) (?_ : ix3_0 (ix3 s r k) = _))
  blk_ext

theorem out4_at (a : Vec Ideal S1024x1024 .f32) (b : Vec Ideal S1x1024 .f32) (d : Vec Ideal S1536x1024 .bf16) (s : Fin 4) (r : Fin 1024)
    (k : Fin 128) : out0_4 a b d (ix3 s r k) = k0_pay2 a b d (ix2 r ⟨512 + (s.val * 128 + k.val), by omega⟩) := by
  unfold_out out0_4
  rw [ld_x, ld_g, ld_w]
  refine (canon4_eq a b d (ix3 s r k)).trans (congrArg (k0_pay2 a b d) (?_ : ix4_0 (ix3 s r k) = _))
  blk_ext

theorem out5_at (a : Vec Ideal S1024x1024 .f32) (b : Vec Ideal S1x1024 .f32) (d : Vec Ideal S1536x1024 .bf16) (s : Fin 4) (r : Fin 1024)
    (k : Fin 128) : out0_5 a b d (ix3 s r k) = k0_pay2 a b d (ix2 r ⟨1024 + (s.val * 128 + k.val), by omega⟩) := by
  unfold_out out0_5
  rw [ld_x, ld_g, ld_w]
  refine (canon5_eq a b d (ix3 s r k)).trans (congrArg (k0_pay2 a b d) (?_ : ix5_0 (ix3 s r k) = _))
  blk_ext

theorem emb3 (s : Fin 4) (r : Fin 1024) (k : Fin 128) : (win0_3.blk t).view.emb (ix3 s r k) = ix3 s (tok t r) k := by
  blk_ext [index t, tok]

theorem emb4 (s : Fin 4) (r : Fin 1024) (k : Fin 128) : (win0_4.blk t).view.emb (ix3 s r k) = ix3 s (tok t r) k := by
  blk_ext [index t, tok]

theorem emb5 (s : Fin 4) (r : Fin 1024) (k : Fin 128) : (win0_5.blk t).view.emb (ix3 s r k) = ix3 s (tok t r) k := by
  blk_ext [index t, tok]

/-! ### The results -/

theorem final_pool : (dats m 0 c).arrAt 3 cfg0.N = slab 0 (by omega) (argX m c) (argG m c) (argW m c) := by
  refine (dats m 0 c).arrAt_eq_of_covers 3 _ (by decide +kernel) fun t hf y => ?_
  obtain ⟨s, r, k, rfl⟩ : ∃ (s : Fin 4) (r : Fin 1024) (k : Fin 128), y = ix3 s r k := ⟨y 0, y 1, y 2, eq_ix3 y⟩
  refine (congrFun (after0_3 m c t) (ix3 s r k)).trans ?_
  refine (out3_at _ _ _ s r k).trans ((point m c t r _).trans ?_)
  exact (congrArg (slab 0 (by omega) (argX m c) (argG m c) (argW m c)) (emb3 t s r k)).symm

theorem final_lru : (dats m 0 c).arrAt 4 cfg0.N = slab 512 (by omega) (argX m c) (argG m c) (argW m c) := by
  refine (dats m 0 c).arrAt_eq_of_covers 4 _ (by decide +kernel) fun t hf y => ?_
  obtain ⟨s, r, k, rfl⟩ : ∃ (s : Fin 4) (r : Fin 1024) (k : Fin 128), y = ix3 s r k := ⟨y 0, y 1, y 2, eq_ix3 y⟩
  refine (congrFun (after0_4 m c t) (ix3 s r k)).trans ?_
  refine (out4_at _ _ _ s r k).trans ((point m c t r _).trans ?_)
  exact (congrArg (slab 512 (by omega) (argX m c) (argG m c) (argW m c)) (emb4 t s r k)).symm

theorem final_gate : (dats m 0 c).arrAt 5 cfg0.N = slab 1024 (by omega) (argX m c) (argG m c) (argW m c) := by
  refine (dats m 0 c).arrAt_eq_of_covers 5 _ (by decide +kernel) fun t hf y => ?_
  obtain ⟨s, r, k, rfl⟩ : ∃ (s : Fin 4) (r : Fin 1024) (k : Fin 128), y = ix3 s r k := ⟨y 0, y 1, y 2, eq_ix3 y⟩
  refine (congrFun (after0_5 m c t) (ix3 s r k)).trans ?_
  refine (out5_at _ _ _ s r k).trans ((point m c t r _).trans ?_)
  exact (congrArg (slab 1024 (by omega) (argX m c) (argG m c) (argW m c)) (emb5 t s r k)).symm

end Cert.FwdInIdeal.Value

end
-- ==== Proof.ProjReference.lean ====
module

public import proofs.«01_k».proof.Proof.Gen.FwdInRefIdeal.Run
public import proofs.«01_k».proof.Proof.Gen.FwdInRefIdeal.Read
public import proofs.«01_k».proof.Proof.ProjSpec
public import Idealize.ShloMosaic.Lib.Pointwise

/-! The reference of the input projection, read entry by entry. -/

@[expose] public section

set_option maxRecDepth 16384

noncomputable section

open Idealize.ShloMosaic Idealize.ShloMosaic.TcCoe Idealize.SL.Sem
open Idealize.ShloMosaic.Pipeline (Dat)

namespace Cert.FwdInRefIdeal.Read

open Cert.FwdInRefIdeal Cert.FwdInRefIdeal.Gen

open Cert.Layer Cert.Layer.In

variable (x0 : Tokens) (x1 : Gain) (x2 : Weight) (r : Fin 4096) (j : Fin 1024) (i : Fin 1536) (s : Fin 4) (k : Fin 128)

theorem v8_at : val_main_v8 (F := Ideal) x0 (ix3 0 r 0) = rstd x0 r := by
  unfold rstd ms row
  pointwise [val_main_v8, val_main_v7, val_main_v6, val_main_v5, val_main_v4, val_main_v3, val_main_v2, val_main_v1, val_main_cst,
    val_main_cst_0, val_main_cst_1]

theorem v13_at : val_main_v13 (F := Ideal) x0 x1 (ix3 0 r j) = normed x0 x1 r j := by
  unfold normed
  rw [← v8_at]
  unfold row
  pointwise [val_main_v13, val_main_v12, val_main_v11, val_main_v10, val_main_v9, val_main_v0]

theorem v15_at : val_main_v15 (F := Ideal) x0 x1 x2 (ix3 0 r i) = proj x0 x1 x2 r i := by
  unfold proj
  simp only [← v13_at]
  pointwise [val_main_v15, val_main_v14]

theorem v21_at : val_main_v21 (F := Ideal) x0 x1 x2 (ix3 s r k) = slabAt 0 (by omega) x0 x1 x2 s r k := by
  unfold slabAt
  rw [← v15_at]
  pointwise [val_main_v21, val_main_v20, val_main_v19, val_main_v16]

theorem v24_at : val_main_v24 (F := Ideal) x0 x1 x2 (ix3 s r k) = slabAt 512 (by omega) x0 x1 x2 s r k := by
  unfold slabAt
  rw [← v15_at]
  pointwise [val_main_v24, val_main_v23, val_main_v22, val_main_v17]

theorem v27_at : val_main_v27 (F := Ideal) x0 x1 x2 (ix3 s r k) = slabAt 1024 (by omega) x0 x1 x2 s r k := by
  unfold slabAt
  rw [← v15_at]
  pointwise [val_main_v27, val_main_v26, val_main_v25, val_main_v18]

end Cert.FwdInRefIdeal.Read

end
-- ==== Proof.ProjClaim.lean ====
module

public import proofs.«01_k».proof.Defs
public import proofs.«01_k».proof.Proof.ProjKernel
public import proofs.«01_k».proof.Proof.ProjReference
public import Idealize.ShloMosaic.Lib.Claim

/-! The claims about the input projection. -/

@[expose] public section

set_option maxRecDepth 16384

noncomputable section

open Idealize.ShloMosaic Idealize.ShloMosaic.TcCoe Idealize.SL.Sem

namespace Cert.Proof.Proj

open Cert.Layer Cert.Layer.In Cert.FwdInRefIdeal.Read Cert.FwdInIdeal.Value

theorem frame_ref : Cert.quiescent_FwdInRefIdeal :=
  fun m g _ => (θ_run Cert.FwdInRefIdeal.defs _ _).mono (fun r h => ⟨fun c => (h c).2.2.2, sem_eq_zero_of_no_sems (by decide) r.2⟩)
    (Cert.FwdInRefIdeal.Value.run (F := Ideal) m g)

theorem algebraic : Cert.algebraic_FwdInIdeal_FwdInRefIdeal := by
  pair_intro
  · run_from (Cert.FwdInIdeal.Value.run_blocks m g)
  · refine Idealize.ShloMosaic.θ_run_mono (Cert.FwdInRefIdeal.Value.run m' g') ?_
    intro r hr c
    obtain ⟨h0, h1, h2, hargs⟩ := hr c
    obtain ⟨a0, a1, a2⟩ := hagree c
    obtain rfl : c = 0 := Subsingleton.elim _ _
    refine ⟨h0.trans ?_, h1.trans ?_, h2.trans ?_, hargs⟩
    · refine Eq.trans (val_main_v21_eq _ _ _) ?_
      rw [a0, a1, a2, final_pool]
      funext i
      obtain ⟨s, r, k, rfl⟩ : ∃ (s : Fin 4) (r : Fin 4096) (k : Fin 128), i = ix3 s r k := ⟨i 0, i 1, i 2, eq_ix3 i⟩
      exact v21_at _ _ _ r s k
    · refine Eq.trans (val_main_v24_eq _ _ _) ?_
      rw [a0, a1, a2, final_lru]
      funext i
      obtain ⟨s, r, k, rfl⟩ : ∃ (s : Fin 4) (r : Fin 4096) (k : Fin 128), i = ix3 s r k := ⟨i 0, i 1, i 2, eq_ix3 i⟩
      exact v24_at _ _ _ r s k
    · refine Eq.trans (val_main_v27_eq _ _ _) ?_
      rw [a0, a1, a2, final_gate]
      funext i
      obtain ⟨s, r, k, rfl⟩ : ∃ (s : Fin 4) (r : Fin 4096) (k : Fin 128), i = ix3 s r k := ⟨i 0, i 1, i 2, eq_ix3 i⟩
      exact v27_at _ _ _ r s k

end Cert.Proof.Proj

end
-- ==== Proof.MergeSpec.lean ====
module

public import proofs.«01_k».proof.Proof.OutSpec

/-! The mixer's output, added to the residual stream and normalised, as a function of its arrays. -/

@[expose] public section

noncomputable section

open Idealize.ShloMosaic

namespace Cert.Layer.Out

variable (x : Tokens) (yp yl : Group) (gp gl : Gain) (w : Weight) (g2 : Gain2)

/-- The residual stream after the mixer, normalised and scaled. -/
def normed2 (r : Fin 4096) (j : Fin 1024) : EReal :=
  hid x yp yl gp gl w r j * Ideal.rsqrt (ms (hid x yp yl gp gl w r)) * g2 (ix2 0 j)

/-- The residual stream after the mixer, as an array. -/
def stream (i : (⟨2, ![4096, 1024]⟩ : Shape).Idx) : EReal := hid x yp yl gp gl w (i 0) (i 1)

/-- The normalised stream, as an array. -/
def normedStream (i : (⟨2, ![4096, 1024]⟩ : Shape).Idx) : EReal := normed2 x yp yl gp gl w g2 (i 0) (i 1)

/-- A column of the stream from the two groups apart. -/
theorem hid_halves (r : Fin 4096) (j : Fin 1024) : hid x yp yl gp gl w r j
    = x (ix3 0 r j) + (∑ k : Fin 512, scaled yp gp r k * w (ix3 0 ⟨k.val, by omega⟩ j))
      + ∑ k : Fin 512, scaled yl gl r k * w (ix3 0 ⟨512 + k.val, by omega⟩ j) := by
  unfold hid
  rw [add_assoc]
  refine congrArg _ ((Fin.sum_univ_add (a := 512) (b := 512) fun i : Fin 1024 => mix yp yl gp gl r i * w (ix3 0 i j)).trans ?_)
  refine congrArg₂ _ (Finset.sum_congr rfl fun k _ => ?_) (Finset.sum_congr rfl fun k _ => ?_)
  · refine congrArg₂ _ ?_ rfl
    exact dif_pos k.isLt
  · refine congrArg₂ _ ?_ rfl
    refine (dif_neg (show ¬(512 + k.val < 512) by omega)).trans ?_
    exact congrArg (scaled yl gl r) (Fin.ext (show 512 + k.val - 512 = k.val by omega))

end Cert.Layer.Out

end
-- ==== Proof.MergeKernel.lean ====
module

public import proofs.«01_k».proof.Proof.Gen.FwdOutIdeal.Value
public import proofs.«01_k».proof.Proof.MergeSpec
public import Idealize.ShloMosaic.Lib.Pipeline.ValueKit
public import Idealize.ShloMosaic.Lib.Pointwise

/-! The kernel of the mixer's output: what its two results hold. -/

@[expose] public section

set_option maxRecDepth 16384

noncomputable section

open Idealize.ShloMosaic Idealize.ShloMosaic.TcCoe Idealize.SL.Sem
open Idealize.ShloMosaic.Pipeline (Dat)

namespace Cert.FwdOutIdeal.Value

open Cert.FwdOutIdeal Cert.FwdOutIdeal.Gen

open Cert.Layer Cert.Layer.Out

/-! ### The body's values over blocks -/

/-- Row `r` of a stack of four slabs, end to end. -/
def flat (y : S4x1024x128.Idx → EReal) (r : Fin 1024) (k : Fin 512) : EReal :=
  y (ix3 (⟨k.val / 128, by omega⟩ : Fin 4) r (⟨k.val % 128, by omega⟩ : Fin 128))

/-- Four slabs side by side. -/
def cat (a b c d : FVec Ideal S1024x128 .f32) : FVec Ideal S1024x512 .f32 :=
  concatenate S1024x512 1 [⟨S1024x128, a⟩, ⟨S1024x128, b⟩, ⟨S1024x128, c⟩, ⟨S1024x128, d⟩]
    concatenates_S1024x128_S1024x128_S1024x128_S1024x128_S1024x512_d1

/-- The four slabs of a block side by side. -/
def catOf (y : Vec Ideal S4x1024x128 .f32) : FVec Ideal S1024x512 .f32 :=
  cat (k0_pay3 (View.ld y r0_0)) (k0_pay4 (View.ld y r0_1)) (k0_pay5 (View.ld y r0_2)) (k0_pay6 (View.ld y r0_3))

variable (r : Fin 1024) (k : Fin 512) (j : Fin 1024)

theorem catOf_at (y : Vec Ideal S4x1024x128 .f32) : catOf y (ix2 r k) = flat y r k := by
  unfold flat catOf cat
  pointwise [k0_pay3, k0_pay4, k0_pay5, k0_pay6]
  split_ifs <;> (refine congrArg y (funext fun a => Fin.ext ?_); fin_cases a <;> simp <;> omega)

/-- A normalised row with its gain. -/
def scale (f : Fin 512 → EReal) (g : Vec Ideal S1x512 .f32) (k : Fin 512) : EReal :=
  f k * Ideal.rsqrt (msOf 1140850688#32 f) * g (ix2 0 k)

theorem pay2_form (a b c d : Vec Ideal S1x1024x128 .f32) (g : Vec Ideal S1x512 .f32) :
    k0_pay2 a b c d g (ix2 r k) = scale (fun k => cat (k0_pay3 a) (k0_pay4 b) (k0_pay5 c) (k0_pay6 d) (ix2 r k)) g k := by
  unfold scale msOf cat
  pointwise [k0_pay2, k0_pay3, k0_pay4, k0_pay5, k0_pay6]

theorem pay7_form (v : FVec Ideal S1024x512 .f32) (a b c d : FVec Ideal S1024x128 .f32) (g : Vec Ideal S1x512 .f32)
    (x : Vec Ideal S1024x1024 .f32) (lo hi : Vec Ideal S512x1024 .bf16) : k0_pay7 v a b c d g x lo hi (ix2 r j)
      = x (ix2 r j) + (∑ k, v (ix2 r k) * lo (ix2 k j)) + ∑ k, scale (fun k => cat a b c d (ix2 r k)) g k * hi (ix2 k j) := by
  unfold scale msOf cat
  pointwise [k0_pay7]

theorem pay8_form (v : FVec Ideal S1024x512 .f32) (a b c d : FVec Ideal S1024x128 .f32) (g : Vec Ideal S1x512 .f32)
    (x : Vec Ideal S1024x1024 .f32) (lo hi : Vec Ideal S512x1024 .bf16) :
    k0_pay8 v a b c d g x lo hi (ix2 r j) = k0_pay7 v a b c d g x lo hi (ix2 r j) := by
  pointwise [k0_pay8]

theorem pay9_form (v : FVec Ideal S1024x512 .f32) (a b c d : FVec Ideal S1024x128 .f32) (g : Vec Ideal S1x512 .f32)
    (x : Vec Ideal S1024x1024 .f32) (lo hi : Vec Ideal S512x1024 .bf16) : k0_pay9 v a b c d g x lo hi (ix2 r j)
      = Ideal.rsqrt (ms fun j => k0_pay7 v a b c d g x lo hi (ix2 r j)) := by
  unfold ms
  pointwise [k0_pay9]

theorem pay1_form (h : FVec Ideal S1024x1024 .f32) (g : Vec Ideal S1x1024 .f32) (n : FVec Ideal S1024x1024 .f32) :
    k0_pay1 h g n (ix2 r j) = h (ix2 r j) * n (ix2 r j) * g (ix2 0 j) := by
  pointwise [k0_pay1]

theorem lo_at (w : Vec Ideal S1024x1024 .bf16) : View.ld w r0_6 (ix2 k j) = w (ix2 (⟨k.val, by omega⟩ : Fin 1024) j) := by
  pointwise

theorem hi_at (w : Vec Ideal S1024x1024 .bf16) : View.ld w r0_7 (ix2 k j) = w (ix2 (⟨512 + k.val, by omega⟩ : Fin 1024) j) := by
  pointwise

theorem ld_x (a : Vec Ideal S1024x1024 .f32) : View.ld a r0_5 = a := View.ld_unit_lit _ a (fun i => by fin_cases i <;> rfl)
theorem ld_gain (a : Vec Ideal S1x512 .f32) : View.ld a r0_4 = a := View.ld_unit_lit _ a (fun i => by fin_cases i <;> rfl)
theorem ld_gain2 (a : Vec Ideal S1x1024 .f32) : View.ld a r0_8 = a := View.ld_unit_lit _ a (fun i => by fin_cases i <;> rfl)

section Blocks

variable (x : Vec Ideal S1024x1024 .f32) (yp yl : Vec Ideal S4x1024x128 .f32) (gp gl : Vec Ideal S1x512 .f32) (w : Vec Ideal S1024x1024 .bf16)
  (g2 : Vec Ideal S1x1024 .f32)

/-- The residual stream's block. -/
def hblock : FVec Ideal S1024x1024 .f32 :=
  k0_pay7 (k0_pay2 (View.ld yp r0_0) (View.ld yp r0_1) (View.ld yp r0_2) (View.ld yp r0_3) gp) (k0_pay3 (View.ld yl r0_0))
    (k0_pay4 (View.ld yl r0_1)) (k0_pay5 (View.ld yl r0_2)) (k0_pay6 (View.ld yl r0_3)) gl x (View.ld w r0_6) (View.ld w r0_7)

theorem hblock_at : hblock x yp yl gp gl w (ix2 r j)
    = x (ix2 r j) + (∑ k : Fin 512, scale (flat yp r) gp k * w (ix2 (⟨k.val, by omega⟩ : Fin 1024) j))
      + ∑ k : Fin 512, scale (flat yl r) gl k * w (ix2 (⟨512 + k.val, by omega⟩ : Fin 1024) j) := by
  unfold hblock
  rw [pay7_form]
  have ep : (fun k => cat (k0_pay3 (View.ld yp r0_0)) (k0_pay4 (View.ld yp r0_1)) (k0_pay5 (View.ld yp r0_2)) (k0_pay6 (View.ld yp r0_3))
      (ix2 r k)) = flat yp r := funext fun k => catOf_at r k yp
  have el : (fun k => cat (k0_pay3 (View.ld yl r0_0)) (k0_pay4 (View.ld yl r0_1)) (k0_pay5 (View.ld yl r0_2)) (k0_pay6 (View.ld yl r0_3))
      (ix2 r k)) = flat yl r := funext fun k => catOf_at r k yl
  simp only [pay2_form, ep, el]
  exact congrArg₂ (· + ·) (congrArg (x (ix2 r j) + ·) (Finset.sum_congr rfl fun k _ => congrArg _ (lo_at k j w)))
    (Finset.sum_congr rfl fun k _ => congrArg _ (hi_at k j w))

theorem out7_at : out0_7 x yp yl gp gl w g2 (ix2 r j) = hblock x yp yl gp gl w (ix2 r j) := by
  unfold_out out0_7
  rw [ld_x, ld_gain, ld_gain]
  exact (congrFun (View.canon_unit_zero (funext fun i => by fin_cases i <;> rfl) _ _) (ix2 r j)).trans (pay8_form r j _ _ _ _ _ _ _ _ _)

theorem out8_at : out0_8 x yp yl gp gl w g2 (ix2 r j)
    = hblock x yp yl gp gl w (ix2 r j) * Ideal.rsqrt (ms fun j => hblock x yp yl gp gl w (ix2 r j)) * g2 (ix2 0 j) := by
  have e := pay1_form r j (hblock x yp yl gp gl w) g2 (k0_pay9 (k0_pay2 (View.ld yp r0_0) (View.ld yp r0_1) (View.ld yp r0_2)
    (View.ld yp r0_3) gp) (k0_pay3 (View.ld yl r0_0)) (k0_pay4 (View.ld yl r0_1)) (k0_pay5 (View.ld yl r0_2)) (k0_pay6 (View.ld yl r0_3)) gl
    x (View.ld w r0_6) (View.ld w r0_7))
  rw [pay9_form] at e
  refine Eq.trans ?_ e
  unfold_out out0_8
  rw [ld_x, ld_gain, ld_gain, ld_gain2]
  exact congrFun (View.canon_unit_zero (funext fun i => by fin_cases i <;> rfl) _ _) (ix2 r j)

end Blocks

/-! ### One grid point -/

variable (m : (ℓ : Loc nD τ sig) → Buf (Elt Ideal) ℓ)

theorem index : ∀ t : Fin cfg0.N, win0_0.index t = ![t.val, 0] ∧ win0_1.index t = ![0, t.val, 0] ∧ win0_2.index t = ![0, t.val, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] :=
  (by decide +kernel : ∀ t : Fin grid0.N, _)

theorem in_range (t : Fin cfg0.N) (r : Fin 1024) : 1024 * t.val + r.val < 4096 := by
  have h : t.val < 4 := t.isLt
  omega

/-- The token that row `r` of point `t`'s blocks holds. -/
def tok (t : Fin cfg0.N) (r : Fin 1024) : Fin 4096 := ⟨1024 * t.val + r.val, in_range t r⟩

variable (c : Dev nD) (t : Fin cfg0.N)

abbrev argX : Tokens := m ((c : Thread nD τ).loc main_arg0)
abbrev argP : Group := m ((c : Thread nD τ).loc main_arg1)
abbrev argL : Group := m ((c : Thread nD τ).loc main_arg2)
abbrev argGP : Gain := m ((c : Thread nD τ).loc main_arg3)
abbrev argGL : Gain := m ((c : Thread nD τ).loc main_arg4)
abbrev argW : Weight := m ((c : Thread nD τ).loc main_arg5)
abbrev argG : Gain2 := m ((c : Thread nD τ).loc main_arg6)

theorem entry_x : iblk m c 0 t (ix2 r j) = argX m c (ix3 0 (tok t r) j) := by
  blk_simp [iblk]
  entry_read
  pointwise
  blk_ext [index t, tok]

theorem emb1 (s : Fin 4) (l : Fin 128) : (win0_1.blk t).view.emb (ix3 s r l) = ix3 s (tok t r) l := by
  blk_ext [index t, tok]

theorem emb2 (s : Fin 4) (l : Fin 128) : (win0_2.blk t).view.emb (ix3 s r l) = ix3 s (tok t r) l := by
  blk_ext [index t, tok]

theorem entry_p (s : Fin 4) (l : Fin 128) :
    iblk m c 1 t (ix3 s r l) = argP m c (ix3 0 (tok t r) ⟨s.val * 128 + l.val, by omega⟩) := by
  blk_simp [iblk]
  rw [emb1]
  entry_read
  pointwise

theorem entry_l (s : Fin 4) (l : Fin 128) :
    iblk m c 2 t (ix3 s r l) = argL m c (ix3 0 (tok t r) ⟨s.val * 128 + l.val, by omega⟩) := by
  blk_simp [iblk]
  rw [emb2]
  entry_read
  pointwise

theorem entry_gp : iblk m c 3 t (ix2 0 k) = argGP m c (ix2 0 k) := by
  blk_simp [iblk]
  entry_read
  pointwise
  blk_ext [index t]

theorem entry_gl : iblk m c 4 t (ix2 0 k) = argGL m c (ix2 0 k) := by
  blk_simp [iblk]
  entry_read
  pointwise
  blk_ext [index t]

theorem entry_w (i : Fin 1024) : iblk m c 5 t (ix2 i j) = argW m c (ix3 0 i j) := by
  blk_simp [iblk]
  entry_read
  pointwise
  blk_ext [index t]

theorem entry_g : iblk m c 6 t (ix2 0 j) = argG m c (ix2 0 j) := by
  blk_simp [iblk]
  entry_read
  pointwise
  blk_ext [index t]

theorem flat_p : flat (iblk m c 1 t) r = row (argP m c) (tok t r) := by
  funext k
  unfold flat row
  refine (entry_p r m c t _ _).trans (congrArg (fun q => argP m c (ix3 0 (tok t r) q)) (Fin.ext ?_))
  dsimp only
  omega

theorem flat_l : flat (iblk m c 2 t) r = row (argL m c) (tok t r) := by
  funext k
  unfold flat row
  refine (entry_l r m c t _ _).trans (congrArg (fun q => argL m c (ix3 0 (tok t r) q)) (Fin.ext ?_))
  dsimp only
  omega

theorem scale_p : scale (flat (iblk m c 1 t) r) (iblk m c 3 t) k = scaled (argP m c) (argGP m c) (tok t r) k := by
  unfold scale scaled normed rstd
  rw [flat_p, entry_gp]

theorem scale_l : scale (flat (iblk m c 2 t) r) (iblk m c 4 t) k = scaled (argL m c) (argGL m c) (tok t r) k := by
  unfold scale scaled normed rstd
  rw [flat_l, entry_gl]

theorem point_h : hblock (iblk m c 0 t) (iblk m c 1 t) (iblk m c 2 t) (iblk m c 3 t) (iblk m c 4 t) (iblk m c 5 t) (ix2 r j)
    = hid (argX m c) (argP m c) (argL m c) (argGP m c) (argGL m c) (argW m c) (tok t r) j := by
  rw [hblock_at, hid_halves]
  simp only [scale_p, scale_l, entry_x, entry_w]

theorem emb7 : (win0_7.blk t).view.emb (ix2 r j) = ix2 (tok t r) j := by
  blk_ext [index t, tok]

theorem emb8 : (win0_8.blk t).view.emb (ix2 r j) = ix2 (tok t r) j := by
  blk_ext [index t, tok]

/-! ### The results -/

theorem final_stream : (dats m 0 c).arrAt 7 cfg0.N
    = stream (argX m c) (argP m c) (argL m c) (argGP m c) (argGL m c) (argW m c) := by
  refine (dats m 0 c).arrAt_eq_of_covers 7 _ (by decide +kernel) fun t hf y => ?_
  obtain ⟨r, j, rfl⟩ : ∃ (r j : Fin 1024), y = ix2 r j := ⟨y 0, y 1, eq_ix2 y⟩
  refine (congrFun (after0_7 m c t) (ix2 r j)).trans ?_
  refine (out7_at r j _ _ _ _ _ _ _).trans ((point_h r j m c t).trans ?_)
  exact (congrArg (stream (argX m c) (argP m c) (argL m c) (argGP m c) (argGL m c) (argW m c)) (emb7 r j t)).symm

theorem final_normed : (dats m 0 c).arrAt 8 cfg0.N
    = normedStream (argX m c) (argP m c) (argL m c) (argGP m c) (argGL m c) (argW m c) (argG m c) := by
  refine (dats m 0 c).arrAt_eq_of_covers 8 _ (by decide +kernel) fun t hf y => ?_
  obtain ⟨r, j, rfl⟩ : ∃ (r j : Fin 1024), y = ix2 r j := ⟨y 0, y 1, eq_ix2 y⟩
  refine (congrFun (after0_8 m c t) (ix2 r j)).trans ?_
  refine (out8_at r j _ _ _ _ _ _ _).trans ?_
  refine Eq.trans ?_ (congrArg (normedStream (argX m c) (argP m c) (argL m c) (argGP m c) (argGL m c) (argW m c) (argG m c)) (emb8 r j t)).symm
  simp only [point_h, entry_g]
  rfl

end Cert.FwdOutIdeal.Value

end
-- ==== Proof.MergeReference.lean ====
module

public import proofs.«01_k».proof.Proof.Gen.FwdOutRefIdeal.Run
public import proofs.«01_k».proof.Proof.Gen.FwdOutRefIdeal.Read
public import proofs.«01_k».proof.Proof.MergeSpec
public import Idealize.ShloMosaic.Lib.Pointwise

/-! The reference of the mixer's output, read entry by entry. -/

@[expose] public section

set_option maxRecDepth 16384

noncomputable section

open Idealize.ShloMosaic Idealize.ShloMosaic.TcCoe Idealize.SL.Sem
open Idealize.ShloMosaic.Pipeline (Dat)

namespace Cert.FwdOutRefIdeal.Read

open Cert.FwdOutRefIdeal Cert.FwdOutRefIdeal.Gen

open Cert.Layer Cert.Layer.Out

variable (x0 : Tokens) (x1 x2 : Group) (x3 x4 : Gain) (x5 : Weight) (x6 : Gain2) (r : Fin 4096) (k : Fin 512) (j i : Fin 1024)

theorem v8_at : val_main_v8 (F := Ideal) x1 (ix3 0 r 0) = rstd x1 r := by
  unfold rstd msOf row
  pointwise [val_main_v8, val_main_v7, val_main_v6, val_main_v5, val_main_v4, val_main_v3, val_main_v2, val_main_v1, val_main_cst,
    val_main_cst_0, val_main_cst_1]

theorem v22_at : val_main_v22 (F := Ideal) x2 (ix3 0 r 0) = rstd x2 r := by
  unfold rstd msOf row
  pointwise [val_main_v22, val_main_v21, val_main_v20, val_main_v19, val_main_v18, val_main_v17, val_main_v16, val_main_v15, val_main_cst_2,
    val_main_cst_3, val_main_cst_4]

theorem v13_at : val_main_v13 (F := Ideal) x1 x3 (ix3 0 r k) = scaled x1 x3 r k := by
  unfold scaled normed
  rw [← v8_at]
  unfold row
  pointwise [val_main_v13, val_main_v12, val_main_v11, val_main_v10, val_main_v9, val_main_v0]

theorem v27_at : val_main_v27 (F := Ideal) x2 x4 (ix3 0 r k) = scaled x2 x4 r k := by
  unfold scaled normed
  rw [← v22_at]
  unfold row
  pointwise [val_main_v27, val_main_v26, val_main_v25, val_main_v24, val_main_v23, val_main_v14]

theorem v28_at : val_main_v28 (F := Ideal) x1 x2 x3 x4 (ix3 0 r i) = mix x1 x2 x3 x4 r i := by
  unfold mix
  simp only [← v13_at x1, ← v27_at x2]
  pointwise [val_main_v28]

theorem v31_at : val_main_v31 (F := Ideal) x0 x1 x2 x3 x4 x5 (ix3 0 r j) = hid x0 x1 x2 x3 x4 x5 r j := by
  unfold hid
  simp only [← v28_at]
  pointwise [val_main_v31, val_main_v30, val_main_v29]

theorem v40_at : val_main_v40 (F := Ideal) x0 x1 x2 x3 x4 x5 (ix3 0 r 0) = Ideal.rsqrt (ms (hid x0 x1 x2 x3 x4 x5 r)) := by
  unfold ms
  simp only [← v31_at]
  pointwise [val_main_v40, val_main_v39, val_main_v38, val_main_v37, val_main_v36, val_main_v35, val_main_v34, val_main_v33, val_main_cst_5,
    val_main_cst_6, val_main_cst_7]

theorem v46_at : val_main_v46 (F := Ideal) x0 x1 x2 x3 x4 x5 (ix2 r j) = hid x0 x1 x2 x3 x4 x5 r j := by
  rw [← v31_at]
  pointwise [val_main_v46]

theorem v48_at : val_main_v48 (F := Ideal) x0 x1 x2 x3 x4 x5 x6 (ix2 r j) = normed2 x0 x1 x2 x3 x4 x5 x6 r j := by
  unfold normed2
  rw [← v40_at, ← v31_at]
  pointwise [val_main_v48, val_main_v47, val_main_v45, val_main_v44, val_main_v43, val_main_v42, val_main_v41, val_main_v32]

end Cert.FwdOutRefIdeal.Read

end
-- ==== Proof.MergeClaim.lean ====
module

public import proofs.«01_k».proof.Defs
public import proofs.«01_k».proof.Proof.MergeKernel
public import proofs.«01_k».proof.Proof.MergeReference
public import Idealize.ShloMosaic.Lib.Claim

/-! The claims about the mixer's output. -/

@[expose] public section

set_option maxRecDepth 16384

noncomputable section

open Idealize.ShloMosaic Idealize.ShloMosaic.TcCoe Idealize.SL.Sem

namespace Cert.Proof.Merge

open Cert.Layer Cert.Layer.Out Cert.FwdOutRefIdeal.Read Cert.FwdOutIdeal.Value

theorem frame_ref : Cert.quiescent_FwdOutRefIdeal :=
  fun m g _ => (θ_run Cert.FwdOutRefIdeal.defs _ _).mono (fun r h => ⟨fun c => (h c).2.2, sem_eq_zero_of_no_sems (by decide) r.2⟩)
    (Cert.FwdOutRefIdeal.Value.run (F := Ideal) m g)

theorem algebraic : Cert.algebraic_FwdOutIdeal_FwdOutRefIdeal := by
  pair_intro
  · run_from (Cert.FwdOutIdeal.Value.run_blocks m g)
  · refine Idealize.ShloMosaic.θ_run_mono (Cert.FwdOutRefIdeal.Value.run m' g') ?_
    intro r hr c
    obtain ⟨h0, h1, hargs⟩ := hr c
    obtain ⟨a0, a1, a2, a3, a4, a5, a6⟩ := hagree c
    obtain rfl : c = 0 := Subsingleton.elim _ _
    refine ⟨h0.trans ?_, h1.trans ?_, hargs⟩
    · refine Eq.trans (val_main_v46_eq _ _ _ _ _ _) ?_
      rw [a0, a1, a2, a3, a4, a5, final_stream]
      funext i
      obtain ⟨r, j, rfl⟩ : ∃ (r : Fin 4096) (j : Fin 1024), i = ix2 r j := ⟨i 0, i 1, eq_ix2 i⟩
      exact v46_at _ _ _ _ _ _ r j
    · refine Eq.trans (val_main_v48_eq _ _) ?_
      rw [a0, a1, a2, a3, a4, a5, a6, final_normed]
      funext i
      obtain ⟨r, j, rfl⟩ : ∃ (r : Fin 4096) (j : Fin 1024), i = ix2 r j := ⟨i 0, i 1, eq_ix2 i⟩
      exact v48_at _ _ _ _ _ _ _ r j

end Cert.Proof.Merge

end
-- ==== Proof.AdamSpec.lean ====
module

public import Idealize.ShloMosaic.Lib.Pointwise

/-! One weight's step of the optimiser, as a function of its gradient, its value and its two moments. -/

@[expose] public section

noncomputable section

open Idealize.ShloMosaic

namespace Cert.Adam

/-- The number that 32 bits stand for. -/
abbrev bits (b : BitVec 32) : EReal := Ideal.ofBits .f32 b

/-- The first moment after the step. -/
def mom (g m : EReal) : EReal := bits 0x3F666666#32 * m + bits 0x3DCCCCCD#32 * g

/-- The second moment after the step. -/
def var (g v : EReal) : EReal := bits 0x3F7FBE77#32 * v + bits 0x3A83126F#32 * (g * g)

/-- What the step adds to the weight. -/
def delta (g w m v : EReal) : EReal :=
  bits 0xBA83126F#32 * (Ideal.div (Ideal.div (mom g m) (bits 0x3F26BD02#32))
    (Ideal.sqrt (Ideal.div (var g v) (bits 0x3C231ACC#32)) + bits 0x322BCC77#32) + bits 0x3C23D70A#32 * w)

/-! ### The four results over an array of parts -/

variable {n rows cols : Nat}

abbrev Parts (n rows cols : Nat) : Type := (⟨3, ![n, rows, cols]⟩ : Shape).Idx → EReal
abbrev Mat (rows cols : Nat) : Type := (⟨2, ![rows, cols]⟩ : Shape).Idx → EReal

/-- The sum of the parts at one entry. -/
def total (p : Parts n rows cols) (r : Fin rows) (j : Fin cols) : EReal := ∑ k : Fin n, p (ix3 k r j)

def totals (p : Parts n rows cols) : Mat rows cols := fun i => total p (i 0) (i 1)
def moms (p : Parts n rows cols) (m : Mat rows cols) : Mat rows cols := fun i => mom (total p (i 0) (i 1)) (m i)
def vars (p : Parts n rows cols) (v : Mat rows cols) : Mat rows cols := fun i => var (total p (i 0) (i 1)) (v i)
def deltas (p : Parts n rows cols) (w m v : Mat rows cols) : Mat rows cols :=
  fun i => delta (total p (i 0) (i 1)) (w i) (m i) (v i)

/-- Two matrices that agree entry by entry. -/
theorem mat_ext {a b : Mat rows cols} (h : ∀ r j, a (ix2 r j) = b (ix2 r j)) : a = b := by
  funext i
  rw [eq_ix2 i]
  exact h _ _

/-- Blocks of rows at `place` of the arrays: the four results of the blocks are the rows of the arrays' results. -/
theorem rows_at {few : Nat} {place : Fin few → Fin rows} {p : Parts n few cols} {P : Parts n rows cols} {w m v : Mat few cols}
    {W M V : Mat rows cols} (hp : ∀ k r j, p (ix3 k r j) = P (ix3 k (place r) j)) (hw : ∀ r j, w (ix2 r j) = W (ix2 (place r) j))
    (hm : ∀ r j, m (ix2 r j) = M (ix2 (place r) j)) (hv : ∀ r j, v (ix2 r j) = V (ix2 (place r) j)) (r : Fin few) (j : Fin cols) :
    totals p (ix2 r j) = totals P (ix2 (place r) j) ∧ deltas p w m v (ix2 r j) = deltas P W M V (ix2 (place r) j)
      ∧ moms p m (ix2 r j) = moms P M (ix2 (place r) j) ∧ vars p v (ix2 r j) = vars P V (ix2 (place r) j) := by
  have ht : total p r j = total P (place r) j := Finset.sum_congr rfl fun k _ => hp k r j
  refine ⟨ht, ?_, ?_, ?_⟩
  · show delta (total p r j) _ _ _ = delta (total P (place r) j) _ _ _
    rw [ht, hw, hm, hv]
  · show mom (total p r j) _ = mom (total P (place r) j) _
    rw [ht, hm]
  · show var (total p r j) _ = var (total P (place r) j) _
    rw [ht, hv]

/-- The only matrix of a stack of one. -/
def only (w : (⟨3, ![1, rows, cols]⟩ : Shape).Idx → EReal) : Mat rows cols := fun i => w (ix3 0 (i 0) (i 1))

/-- A weight kept as one matrix, seen with its axes exchanged. -/
def flipped (w : (⟨3, ![1, cols, rows]⟩ : Shape).Idx → EReal) : Mat rows cols := fun i => w (ix3 0 (i 1) (i 0))

end Cert.Adam

end
-- ==== Proof.AdamUp.lean ====
module

public import proofs.«01_k».proof.Defs
public import proofs.«01_k».proof.Proof.AdamSpec
public import proofs.«01_k».proof.Proof.Gen.AdamUpIdeal.Value
public import proofs.«01_k».proof.Proof.Gen.AdamUpRefIdeal.Run
public import proofs.«01_k».proof.Proof.Gen.AdamUpRefIdeal.Read
public import Idealize.ShloMosaic.Lib.Claim
public import Idealize.ShloMosaic.Lib.Pipeline.ValueKit
public import Idealize.ShloMosaic.Lib.Pointwise

/-! The optimiser's step on the gate and up projections: four parts, in two blocks of rows, the arrays' axes exchanged. -/

@[expose] public section

set_option maxRecDepth 16384

noncomputable section

open Idealize.ShloMosaic Idealize.ShloMosaic.TcCoe Idealize.SL.Sem
open Idealize.ShloMosaic.Pipeline (Dat)

open Cert.Adam

namespace Cert.AdamUpIdeal.Value

open Cert.AdamUpIdeal Cert.AdamUpIdeal.Gen

section Blocks

variable (p : Vec Ideal S4x176x1024 .bf16) (w m v : Vec Ideal S176x1024 .f32) (r : Fin 176) (j : Fin 1024)

theorem sum_at : k0_pay2 (View.ld p r0_0) (View.ld p r0_1) (View.ld p r0_2) (View.ld p r0_3) (ix2 r j) = total (n := 4) p r j := by
  unfold total
  rw [Fin.sum_univ_four]
  pointwise [k0_pay2]

theorem whole (a : Vec Ideal S176x1024 .f32) : View.ld a r0_4 = a := View.ld_unit_lit _ a (fun i => by fin_cases i <;> rfl)

theorem stored (a : Vec Ideal S176x1024 .f32) : View.canon [⟨r0_4, a⟩] (ix2 r j) = a (ix2 r j) :=
  congrFun (View.canon_unit_zero (funext fun i => by fin_cases i <;> rfl) _ _) (ix2 r j)

theorem sum_out : out0_4 p w m v (ix2 r j) = totals (n := 4) p (ix2 r j) := (stored r j _).trans (sum_at p r j)

theorem mom_at : k0_pay6 p w m v (ix2 r j) = moms (n := 4) p m (ix2 r j) := by
  refine Eq.trans ?_ (congrArg (fun g => mom g (m (ix2 r j))) (sum_at p r j))
  unfold k0_pay6 mom
  rw [whole]
  pointwise [k0_pay4]

theorem var_at : k0_pay7 p w m v (ix2 r j) = vars (n := 4) p v (ix2 r j) := by
  refine Eq.trans ?_ (congrArg (fun g => var g (v (ix2 r j))) (sum_at p r j))
  unfold k0_pay7 var
  rw [whole]
  pointwise [k0_pay5]

theorem mom_out : out0_6 p w m v (ix2 r j) = moms (n := 4) p m (ix2 r j) := (stored r j _).trans (mom_at p w m v r j)

theorem var_out : out0_7 p w m v (ix2 r j) = vars (n := 4) p v (ix2 r j) := (stored r j _).trans (var_at p w m v r j)

theorem delta_out : out0_5 p w m v (ix2 r j) = deltas (n := 4) p w m v (ix2 r j) := by
  refine (stored r j _).trans (Eq.trans ?_ (congrArg₂ (fun a b => bits 0xBA83126F#32 * (Ideal.div (Ideal.div a (bits 0x3F26BD02#32))
    (Ideal.sqrt (Ideal.div b (bits 0x3C231ACC#32)) + bits 0x322BCC77#32) + bits 0x3C23D70A#32 * w (ix2 r j)))
    (mom_at p w m v r j) (var_at p w m v r j)))
  rw [whole]
  pointwise [k0_pay1, k0_pay3]

end Blocks

variable (m : (ℓ : Loc nD τ sig) → Buf (Elt Ideal) ℓ) (c : Dev nD) (t : Fin cfg0.N)

abbrev argP : Parts 4 352 1024 := m ((c : Thread nD τ).loc main_arg0)
abbrev argW : Mat 352 1024 := flipped (m ((c : Thread nD τ).loc main_arg1))
abbrev argM : Mat 352 1024 := flipped (m ((c : Thread nD τ).loc main_arg2))
abbrev argV : Mat 352 1024 := flipped (m ((c : Thread nD τ).loc main_arg3))

theorem index : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The row of the arrays that row `r` of point `t`'s blocks holds. -/
def place (t : Fin cfg0.N) (r : Fin 176) : Fin 352 := ⟨176 * t.val + r.val, by have h : t.val < 2 := t.isLt; omega⟩

/-- The four results of a point's blocks are the arrays' results at the point's rows. -/
theorem point (r : Fin 176) (j : Fin 1024) :
    totals (n := 4) (rows := 176) (cols := 1024) (iblk m c 0 t) (ix2 r j) = totals (argP m c) (ix2 (place t r) j)
      ∧ deltas (n := 4) (rows := 176) (cols := 1024) (iblk m c 0 t) (iblk m c 1 t) (iblk m c 2 t) (iblk m c 3 t) (ix2 r j)
        = deltas (argP m c) (argW m c) (argM m c) (argV m c) (ix2 (place t r) j)
      ∧ moms (n := 4) (rows := 176) (cols := 1024) (iblk m c 0 t) (iblk m c 2 t) (ix2 r j)
        = moms (argP m c) (argM m c) (ix2 (place t r) j)
      ∧ vars (n := 4) (rows := 176) (cols := 1024) (iblk m c 0 t) (iblk m c 3 t) (ix2 r j)
        = vars (argP m c) (argV m c) (ix2 (place t r) j) :=
  rows_at (n := 4) (place := place t) (p := iblk m c 0 t) (P := argP m c) (w := iblk m c 1 t) (m := iblk m c 2 t) (v := iblk m c 3 t)
    (W := argW m c) (M := argM m c) (V := argV m c)
    (fun k r j => by blk_simp [iblk]; entry_read; pointwise; blk_ext [index t, place])
    (fun r j => by unfold argW flipped; blk_simp [iblk]; entry_read; pointwise; blk_ext [index t, place])
    (fun r j => by unfold argM flipped; blk_simp [iblk]; entry_read; pointwise; blk_ext [index t, place])
    (fun r j => by unfold argV flipped; blk_simp [iblk]; entry_read; pointwise; blk_ext [index t, place]) r j

theorem emb (r : Fin 176) (j : Fin 1024) : (win0_4.blk t).view.emb (ix2 r j) = ix2 (place t r) j
    ∧ (win0_5.blk t).view.emb (ix2 r j) = ix2 (place t r) j ∧ (win0_6.blk t).view.emb (ix2 r j) = ix2 (place t r) j
    ∧ (win0_7.blk t).view.emb (ix2 r j) = ix2 (place t r) j := by
  refine ⟨?_, ?_, ?_, ?_⟩ <;> blk_ext [index t, place]

theorem final_sum : (dats m 0 c).arrAt 4 cfg0.N = totals (argP m c) :=
  (dats m 0 c).arrAt_eq_of_covers 4 _ (by decide +kernel) fun t hf y => by
    obtain ⟨r, j, rfl⟩ : ∃ (r : Fin 176) (j : Fin 1024), y = ix2 r j := ⟨y 0, y 1, eq_ix2 y⟩
    exact (congrFun (after0_4 m c t) (ix2 r j)).trans ((sum_out _ _ _ _ r j).trans
      ((point m c t r j).1.trans (congrArg (totals (argP m c)) (emb t r j).1).symm))

theorem final_delta : (dats m 0 c).arrAt 5 cfg0.N = deltas (argP m c) (argW m c) (argM m c) (argV m c) :=
  (dats m 0 c).arrAt_eq_of_covers 5 _ (by decide +kernel) fun t hf y => by
    obtain ⟨r, j, rfl⟩ : ∃ (r : Fin 176) (j : Fin 1024), y = ix2 r j := ⟨y 0, y 1, eq_ix2 y⟩
    exact (congrFun (after0_5 m c t) (ix2 r j)).trans ((delta_out _ _ _ _ r j).trans
      ((point m c t r j).2.1.trans (congrArg (deltas (argP m c) (argW m c) (argM m c) (argV m c)) (emb t r j).2.1).symm))

theorem final_mom : (dats m 0 c).arrAt 6 cfg0.N = moms (argP m c) (argM m c) :=
  (dats m 0 c).arrAt_eq_of_covers 6 _ (by decide +kernel) fun t hf y => by
    obtain ⟨r, j, rfl⟩ : ∃ (r : Fin 176) (j : Fin 1024), y = ix2 r j := ⟨y 0, y 1, eq_ix2 y⟩
    exact (congrFun (after0_6 m c t) (ix2 r j)).trans ((mom_out _ _ _ _ r j).trans
      ((point m c t r j).2.2.1.trans (congrArg (moms (argP m c) (argM m c)) (emb t r j).2.2.1).symm))

theorem final_var : (dats m 0 c).arrAt 7 cfg0.N = vars (argP m c) (argV m c) :=
  (dats m 0 c).arrAt_eq_of_covers 7 _ (by decide +kernel) fun t hf y => by
    obtain ⟨r, j, rfl⟩ : ∃ (r : Fin 176) (j : Fin 1024), y = ix2 r j := ⟨y 0, y 1, eq_ix2 y⟩
    exact (congrFun (after0_7 m c t) (ix2 r j)).trans ((var_out _ _ _ _ r j).trans
      ((point m c t r j).2.2.2.trans (congrArg (vars (argP m c) (argV m c)) (emb t r j).2.2.2).symm))

end Cert.AdamUpIdeal.Value

namespace Cert.AdamUpRefIdeal.Read

open Cert.AdamUpRefIdeal Cert.AdamUpRefIdeal.Gen

variable (p : Parts 4 352 1024) (w m v : (⟨3, ![1, 1024, 352]⟩ : Shape).Idx → EReal) (r : Fin 352) (j : Fin 1024)

theorem sum_at : val_main_v3 (F := Ideal) p (ix3 0 j r) = total p r j := by
  unfold total
  pointwise [val_main_v3, val_main_v2, val_main_v1, val_main_v0, val_main_cst]

theorem mom_at : val_main_v8 (F := Ideal) p m (ix3 0 j r) = mom (total p r j) (m (ix3 0 j r)) := by
  unfold mom
  rw [← sum_at]
  pointwise [val_main_v8, val_main_v7, val_main_v6, val_main_v5, val_main_v4, val_main_cst_0, val_main_cst_1]

theorem var_at : val_main_v14 (F := Ideal) p v (ix3 0 j r) = var (total p r j) (v (ix3 0 j r)) := by
  unfold var
  rw [← sum_at]
  pointwise [val_main_v14, val_main_v13, val_main_v12, val_main_v11, val_main_v10, val_main_v9, val_main_cst_2, val_main_cst_3]

theorem delta_at :
    val_main_v27 (F := Ideal) p w m v (ix3 0 j r) = delta (total p r j) (w (ix3 0 j r)) (m (ix3 0 j r)) (v (ix3 0 j r)) := by
  unfold delta
  rw [← mom_at, ← var_at]
  pointwise [val_main_v27, val_main_v26, val_main_v25, val_main_v24, val_main_v23, val_main_v22, val_main_v21, val_main_v20,
    val_main_v19, val_main_v18, val_main_v17, val_main_v16, val_main_v15, val_main_cst_4, val_main_cst_5, val_main_cst_6,
    val_main_cst_7, val_main_cst_8]

theorem sums : val_main_v29 (F := Ideal) p = totals p :=
  mat_ext fun r j => Eq.trans (by pointwise [val_main_v29, val_main_v28]) (sum_at p r j)

theorem deltas_eq : val_main_v31 (F := Ideal) p w m v = deltas p (flipped w) (flipped m) (flipped v) :=
  mat_ext fun r j => Eq.trans (by pointwise [val_main_v31, val_main_v30]) (delta_at p w m v r j)

theorem moms_eq : val_main_v33 (F := Ideal) p m = moms p (flipped m) :=
  mat_ext fun r j => Eq.trans (by pointwise [val_main_v33, val_main_v32]) (mom_at p m r j)

theorem vars_eq : val_main_v35 (F := Ideal) p v = vars p (flipped v) :=
  mat_ext fun r j => Eq.trans (by pointwise [val_main_v35, val_main_v34]) (var_at p v r j)

end Cert.AdamUpRefIdeal.Read

namespace Cert.Proof.AdamUp

open Cert.AdamUpRefIdeal.Read Cert.AdamUpIdeal.Value

theorem frame_ref : Cert.quiescent_AdamUpRefIdeal :=
  fun m g _ => (θ_run Cert.AdamUpRefIdeal.defs _ _).mono (fun r h => ⟨fun c => (h c).2.2.2.2, sem_eq_zero_of_no_sems (by decide) r.2⟩)
    (Cert.AdamUpRefIdeal.Value.run (F := Ideal) m g)

theorem algebraic : Cert.algebraic_AdamUpIdeal_AdamUpRefIdeal := by
  pair_intro
  · run_from (Cert.AdamUpIdeal.Value.run_blocks m g)
  · refine Idealize.ShloMosaic.θ_run_mono (Cert.AdamUpRefIdeal.Value.run m' g') ?_
    intro r hr c
    obtain ⟨h0, h1, h2, h3, hargs⟩ := hr c
    obtain ⟨a0, a1, a2, a3⟩ := hagree c
    obtain rfl : c = 0 := Subsingleton.elim _ _
    refine ⟨h0.trans ?_, h1.trans ?_, h2.trans ?_, h3.trans ?_, hargs⟩
    · exact ((val_main_v29_eq _).trans (sums _)).trans (by rw [a0, final_sum])
    · exact ((val_main_v31_eq _ _ _ _).trans (deltas_eq _ _ _ _)).trans (by rw [a0, a1, a2, a3, final_delta])
    · exact ((val_main_v33_eq _ _).trans (moms_eq _ _)).trans (by rw [a0, a2, final_mom])
    · exact ((val_main_v35_eq _ _).trans (vars_eq _ _)).trans (by rw [a0, a3, final_var])

end Cert.Proof.AdamUp

end
-- ==== Proof.AdamDown.lean ====
module

public import proofs.«01_k».proof.Defs
public import proofs.«01_k».proof.Proof.AdamSpec
public import proofs.«01_k».proof.Proof.Gen.AdamDownIdeal.Value
public import proofs.«01_k».proof.Proof.Gen.AdamDownRefIdeal.Run
public import proofs.«01_k».proof.Proof.Gen.AdamDownRefIdeal.Read
public import Idealize.ShloMosaic.Lib.Claim
public import Idealize.ShloMosaic.Lib.Pipeline.ValueKit
public import Idealize.ShloMosaic.Lib.Pointwise

/-! The optimiser's step on the down projection: eight parts, in two blocks of rows. -/

@[expose] public section

set_option maxRecDepth 16384

noncomputable section

open Idealize.ShloMosaic Idealize.ShloMosaic.TcCoe Idealize.SL.Sem
open Idealize.ShloMosaic.Pipeline (Dat)

open Cert.Adam

namespace Cert.AdamDownIdeal.Value

open Cert.AdamDownIdeal Cert.AdamDownIdeal.Gen

section Blocks

variable (p : Vec Ideal S8x176x1024 .bf16) (w m v : Vec Ideal S176x1024 .f32) (r : Fin 176) (j : Fin 1024)

theorem sum_at : k0_pay5 p w m v (ix2 r j) = total (n := 8) p r j := by
  unfold k0_pay5 total
  rw [Fin.sum_univ_eight]
  pointwise [k0_pay4]

theorem whole (a : Vec Ideal S176x1024 .f32) : View.ld a r0_8 = a := View.ld_unit_lit _ a (fun i => by fin_cases i <;> rfl)

theorem stored (a : Vec Ideal S176x1024 .f32) : View.canon [⟨r0_8, a⟩] (ix2 r j) = a (ix2 r j) :=
  congrFun (View.canon_unit_zero (funext fun i => by fin_cases i <;> rfl) _ _) (ix2 r j)

theorem sum_out : out0_4 p w m v (ix2 r j) = totals (n := 8) p (ix2 r j) := (stored r j _).trans (sum_at p w m v r j)

theorem mom_out : out0_6 p w m v (ix2 r j) = moms (n := 8) p m (ix2 r j) := by
  refine (stored r j _).trans (Eq.trans ?_ (congrArg (fun g => mom g (m (ix2 r j))) (sum_at p w m v r j)))
  unfold mom
  rw [whole]
  pointwise [k0_pay1]

theorem var_out : out0_7 p w m v (ix2 r j) = vars (n := 8) p v (ix2 r j) := by
  refine (stored r j _).trans (Eq.trans ?_ (congrArg (fun g => var g (v (ix2 r j))) (sum_at p w m v r j)))
  unfold var
  rw [whole]
  pointwise [k0_pay2]

theorem delta_out : out0_5 p w m v (ix2 r j) = deltas (n := 8) p w m v (ix2 r j) := by
  refine (stored r j _).trans (Eq.trans ?_
    (congrArg (fun g => delta g (w (ix2 r j)) (m (ix2 r j)) (v (ix2 r j))) (sum_at p w m v r j)))
  unfold delta mom var
  rw [whole, whole, whole]
  pointwise [k0_pay3, k0_pay1, k0_pay2]

end Blocks

variable (m : (ℓ : Loc nD τ sig) → Buf (Elt Ideal) ℓ) (c : Dev nD) (t : Fin cfg0.N)

abbrev argP : Parts 8 352 1024 := m ((c : Thread nD τ).loc main_arg0)
abbrev argW : Mat 352 1024 := only (m ((c : Thread nD τ).loc main_arg1))
abbrev argM : Mat 352 1024 := only (m ((c : Thread nD τ).loc main_arg2))
abbrev argV : Mat 352 1024 := only (m ((c : Thread nD τ).loc main_arg3))

theorem index : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The row of the arrays that row `r` of point `t`'s blocks holds. -/
def place (t : Fin cfg0.N) (r : Fin 176) : Fin 352 := ⟨176 * t.val + r.val, by have h : t.val < 2 := t.isLt; omega⟩

/-- The four results of a point's blocks are the arrays' results at the point's rows. -/
theorem point (r : Fin 176) (j : Fin 1024) :
    totals (n := 8) (rows := 176) (cols := 1024) (iblk m c 0 t) (ix2 r j) = totals (argP m c) (ix2 (place t r) j)
      ∧ deltas (n := 8) (rows := 176) (cols := 1024) (iblk m c 0 t) (iblk m c 1 t) (iblk m c 2 t) (iblk m c 3 t) (ix2 r j)
        = deltas (argP m c) (argW m c) (argM m c) (argV m c) (ix2 (place t r) j)
      ∧ moms (n := 8) (rows := 176) (cols := 1024) (iblk m c 0 t) (iblk m c 2 t) (ix2 r j)
        = moms (argP m c) (argM m c) (ix2 (place t r) j)
      ∧ vars (n := 8) (rows := 176) (cols := 1024) (iblk m c 0 t) (iblk m c 3 t) (ix2 r j)
        = vars (argP m c) (argV m c) (ix2 (place t r) j) :=
  rows_at (n := 8) (place := place t) (p := iblk m c 0 t) (P := argP m c) (w := iblk m c 1 t) (m := iblk m c 2 t) (v := iblk m c 3 t)
    (W := argW m c) (M := argM m c) (V := argV m c)
    (fun k r j => by blk_simp [iblk]; entry_read; pointwise; blk_ext [index t, place])
    (fun r j => by unfold argW only; blk_simp [iblk]; entry_read; pointwise; blk_ext [index t, place])
    (fun r j => by unfold argM only; blk_simp [iblk]; entry_read; pointwise; blk_ext [index t, place])
    (fun r j => by unfold argV only; blk_simp [iblk]; entry_read; pointwise; blk_ext [index t, place]) r j

theorem emb (r : Fin 176) (j : Fin 1024) : (win0_4.blk t).view.emb (ix2 r j) = ix2 (place t r) j
    ∧ (win0_5.blk t).view.emb (ix2 r j) = ix2 (place t r) j ∧ (win0_6.blk t).view.emb (ix2 r j) = ix2 (place t r) j
    ∧ (win0_7.blk t).view.emb (ix2 r j) = ix2 (place t r) j := by
  refine ⟨?_, ?_, ?_, ?_⟩ <;> blk_ext [index t, place]

theorem final_sum : (dats m 0 c).arrAt 4 cfg0.N = totals (argP m c) :=
  (dats m 0 c).arrAt_eq_of_covers 4 _ (by decide +kernel) fun t hf y => by
    obtain ⟨r, j, rfl⟩ : ∃ (r : Fin 176) (j : Fin 1024), y = ix2 r j := ⟨y 0, y 1, eq_ix2 y⟩
    exact (congrFun (after0_4 m c t) (ix2 r j)).trans ((sum_out _ _ _ _ r j).trans
      ((point m c t r j).1.trans (congrArg (totals (argP m c)) (emb t r j).1).symm))

theorem final_delta : (dats m 0 c).arrAt 5 cfg0.N = deltas (argP m c) (argW m c) (argM m c) (argV m c) :=
  (dats m 0 c).arrAt_eq_of_covers 5 _ (by decide +kernel) fun t hf y => by
    obtain ⟨r, j, rfl⟩ : ∃ (r : Fin 176) (j : Fin 1024), y = ix2 r j := ⟨y 0, y 1, eq_ix2 y⟩
    exact (congrFun (after0_5 m c t) (ix2 r j)).trans ((delta_out _ _ _ _ r j).trans
      ((point m c t r j).2.1.trans (congrArg (deltas (argP m c) (argW m c) (argM m c) (argV m c)) (emb t r j).2.1).symm))

theorem final_mom : (dats m 0 c).arrAt 6 cfg0.N = moms (argP m c) (argM m c) :=
  (dats m 0 c).arrAt_eq_of_covers 6 _ (by decide +kernel) fun t hf y => by
    obtain ⟨r, j, rfl⟩ : ∃ (r : Fin 176) (j : Fin 1024), y = ix2 r j := ⟨y 0, y 1, eq_ix2 y⟩
    exact (congrFun (after0_6 m c t) (ix2 r j)).trans ((mom_out _ _ _ _ r j).trans
      ((point m c t r j).2.2.1.trans (congrArg (moms (argP m c) (argM m c)) (emb t r j).2.2.1).symm))

theorem final_var : (dats m 0 c).arrAt 7 cfg0.N = vars (argP m c) (argV m c) :=
  (dats m 0 c).arrAt_eq_of_covers 7 _ (by decide +kernel) fun t hf y => by
    obtain ⟨r, j, rfl⟩ : ∃ (r : Fin 176) (j : Fin 1024), y = ix2 r j := ⟨y 0, y 1, eq_ix2 y⟩
    exact (congrFun (after0_7 m c t) (ix2 r j)).trans ((var_out _ _ _ _ r j).trans
      ((point m c t r j).2.2.2.trans (congrArg (vars (argP m c) (argV m c)) (emb t r j).2.2.2).symm))

end Cert.AdamDownIdeal.Value

namespace Cert.AdamDownRefIdeal.Read

open Cert.AdamDownRefIdeal Cert.AdamDownRefIdeal.Gen

variable (p : Parts 8 352 1024) (w m v : (⟨3, ![1, 352, 1024]⟩ : Shape).Idx → EReal) (r : Fin 352) (j : Fin 1024)

theorem sum_at : val_main_v2 (F := Ideal) p (ix3 0 r j) = total p r j := by
  unfold total
  pointwise [val_main_v2, val_main_v1, val_main_v0, val_main_cst]

theorem mom_at : val_main_v7 (F := Ideal) p m (ix3 0 r j) = mom (total p r j) (m (ix3 0 r j)) := by
  unfold mom
  rw [← sum_at]
  pointwise [val_main_v7, val_main_v6, val_main_v5, val_main_v4, val_main_v3, val_main_cst_0, val_main_cst_1]

theorem var_at : val_main_v13 (F := Ideal) p v (ix3 0 r j) = var (total p r j) (v (ix3 0 r j)) := by
  unfold var
  rw [← sum_at]
  pointwise [val_main_v13, val_main_v12, val_main_v11, val_main_v10, val_main_v9, val_main_v8, val_main_cst_2, val_main_cst_3]

theorem delta_at :
    val_main_v26 (F := Ideal) p w m v (ix3 0 r j) = delta (total p r j) (w (ix3 0 r j)) (m (ix3 0 r j)) (v (ix3 0 r j)) := by
  unfold delta
  rw [← mom_at, ← var_at]
  pointwise [val_main_v26, val_main_v25, val_main_v24, val_main_v23, val_main_v22, val_main_v21, val_main_v20, val_main_v19,
    val_main_v18, val_main_v17, val_main_v16, val_main_v15, val_main_v14, val_main_cst_4, val_main_cst_5, val_main_cst_6,
    val_main_cst_7, val_main_cst_8]

theorem sums : val_main_v27 (F := Ideal) p = totals p :=
  mat_ext fun r j => Eq.trans (by pointwise [val_main_v27]) (sum_at p r j)

theorem deltas_eq : val_main_v28 (F := Ideal) p w m v = deltas p (only w) (only m) (only v) :=
  mat_ext fun r j => Eq.trans (by pointwise [val_main_v28]) (delta_at p w m v r j)

theorem moms_eq : val_main_v29 (F := Ideal) p m = moms p (only m) :=
  mat_ext fun r j => Eq.trans (by pointwise [val_main_v29]) (mom_at p m r j)

theorem vars_eq : val_main_v30 (F := Ideal) p v = vars p (only v) :=
  mat_ext fun r j => Eq.trans (by pointwise [val_main_v30]) (var_at p v r j)

end Cert.AdamDownRefIdeal.Read

namespace Cert.Proof.AdamDown

open Cert.AdamDownRefIdeal.Read Cert.AdamDownIdeal.Value

theorem frame_ref : Cert.quiescent_AdamDownRefIdeal :=
  fun m g _ => (θ_run Cert.AdamDownRefIdeal.defs _ _).mono (fun r h => ⟨fun c => (h c).2.2.2.2, sem_eq_zero_of_no_sems (by decide) r.2⟩)
    (Cert.AdamDownRefIdeal.Value.run (F := Ideal) m g)

theorem algebraic : Cert.algebraic_AdamDownIdeal_AdamDownRefIdeal := by
  pair_intro
  · run_from (Cert.AdamDownIdeal.Value.run_blocks m g)
  · refine Idealize.ShloMosaic.θ_run_mono (Cert.AdamDownRefIdeal.Value.run m' g') ?_
    intro r hr c
    obtain ⟨h0, h1, h2, h3, hargs⟩ := hr c
    obtain ⟨a0, a1, a2, a3⟩ := hagree c
    obtain rfl : c = 0 := Subsingleton.elim _ _
    refine ⟨h0.trans ?_, h1.trans ?_, h2.trans ?_, h3.trans ?_, hargs⟩
    · exact ((val_main_v27_eq _).trans (sums _)).trans (by rw [a0, final_sum])
    · exact ((val_main_v28_eq _ _ _ _).trans (deltas_eq _ _ _ _)).trans (by rw [a0, a1, a2, a3, final_delta])
    · exact ((val_main_v29_eq _ _).trans (moms_eq _ _)).trans (by rw [a0, a2, final_mom])
    · exact ((val_main_v30_eq _ _).trans (vars_eq _ _)).trans (by rw [a0, a3, final_var])

end Cert.Proof.AdamDown

end
-- ==== Proof.AdamIn.lean ====
module

public import proofs.«01_k».proof.Defs
public import proofs.«01_k».proof.Proof.AdamSpec
public import proofs.«01_k».proof.Proof.Gen.AdamInIdeal.Value
public import proofs.«01_k».proof.Proof.Gen.AdamInRefIdeal.Run
public import proofs.«01_k».proof.Proof.Gen.AdamInRefIdeal.Read
public import Idealize.ShloMosaic.Lib.Claim
public import Idealize.ShloMosaic.Lib.Pipeline.ValueKit
public import Idealize.ShloMosaic.Lib.Pointwise

/-! The optimiser's step on the mixer's input projection: four parts, one block, the arrays' axes exchanged. -/

@[expose] public section

set_option maxRecDepth 16384

noncomputable section

open Idealize.ShloMosaic Idealize.ShloMosaic.TcCoe Idealize.SL.Sem
open Idealize.ShloMosaic.Pipeline (Dat)

open Cert.Adam

namespace Cert.AdamInIdeal.Value

open Cert.AdamInIdeal Cert.AdamInIdeal.Gen

section Blocks

variable (p : Vec Ideal S4x192x1024 .bf16) (w m v : Vec Ideal S192x1024 .f32) (r : Fin 192) (j : Fin 1024)

theorem sum_at : k0_pay2 (View.ld p r0_0) (View.ld p r0_1) (View.ld p r0_2) (View.ld p r0_3) (ix2 r j) = total (n := 4) p r j := by
  unfold total
  rw [Fin.sum_univ_four]
  pointwise [k0_pay2]

theorem whole (a : Vec Ideal S192x1024 .f32) : View.ld a r0_4 = a := View.ld_unit_lit _ a (fun i => by fin_cases i <;> rfl)

theorem stored (a : Vec Ideal S192x1024 .f32) : View.canon [⟨r0_4, a⟩] (ix2 r j) = a (ix2 r j) :=
  congrFun (View.canon_unit_zero (funext fun i => by fin_cases i <;> rfl) _ _) (ix2 r j)

theorem sum_out : out0_4 p w m v (ix2 r j) = totals (n := 4) p (ix2 r j) := (stored r j _).trans (sum_at p r j)

theorem mom_at : k0_pay6 p w m v (ix2 r j) = moms (n := 4) p m (ix2 r j) := by
  refine Eq.trans ?_ (congrArg (fun g => mom g (m (ix2 r j))) (sum_at p r j))
  unfold k0_pay6 mom
  rw [whole]
  pointwise [k0_pay4]

theorem var_at : k0_pay7 p w m v (ix2 r j) = vars (n := 4) p v (ix2 r j) := by
  refine Eq.trans ?_ (congrArg (fun g => var g (v (ix2 r j))) (sum_at p r j))
  unfold k0_pay7 var
  rw [whole]
  pointwise [k0_pay5]

theorem mom_out : out0_6 p w m v (ix2 r j) = moms (n := 4) p m (ix2 r j) := (stored r j _).trans (mom_at p w m v r j)

theorem var_out : out0_7 p w m v (ix2 r j) = vars (n := 4) p v (ix2 r j) := (stored r j _).trans (var_at p w m v r j)

theorem delta_out : out0_5 p w m v (ix2 r j) = deltas (n := 4) p w m v (ix2 r j) := by
  refine (stored r j _).trans (Eq.trans ?_ (congrArg₂ (fun a b => bits 0xBA83126F#32 * (Ideal.div (Ideal.div a (bits 0x3F26BD02#32))
    (Ideal.sqrt (Ideal.div b (bits 0x3C231ACC#32)) + bits 0x322BCC77#32) + bits 0x3C23D70A#32 * w (ix2 r j)))
    (mom_at p w m v r j) (var_at p w m v r j)))
  rw [whole]
  pointwise [k0_pay1, k0_pay3]

end Blocks

variable (m : (ℓ : Loc nD τ sig) → Buf (Elt Ideal) ℓ) (c : Dev nD) (t : Fin cfg0.N)

abbrev argP : Parts 4 192 1024 := m ((c : Thread nD τ).loc main_arg0)
abbrev argW : Mat 192 1024 := flipped (m ((c : Thread nD τ).loc main_arg1))
abbrev argM : Mat 192 1024 := flipped (m ((c : Thread nD τ).loc main_arg2))
abbrev argV : Mat 192 1024 := flipped (m ((c : Thread nD τ).loc main_arg3))

theorem index : ∀ t : Fin cfg0.N, win0_0.index t = ![0, 0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] :=
  (by decide +kernel : ∀ t : Fin grid0.N, _)

/-- The four results of a point's blocks are the arrays' results. -/
theorem point (r : Fin 192) (j : Fin 1024) :
    totals (n := 4) (rows := 192) (cols := 1024) (iblk m c 0 t) (ix2 r j) = totals (argP m c) (ix2 r j)
      ∧ deltas (n := 4) (rows := 192) (cols := 1024) (iblk m c 0 t) (iblk m c 1 t) (iblk m c 2 t) (iblk m c 3 t) (ix2 r j)
        = deltas (argP m c) (argW m c) (argM m c) (argV m c) (ix2 r j)
      ∧ moms (n := 4) (rows := 192) (cols := 1024) (iblk m c 0 t) (iblk m c 2 t) (ix2 r j)
        = moms (argP m c) (argM m c) (ix2 r j)
      ∧ vars (n := 4) (rows := 192) (cols := 1024) (iblk m c 0 t) (iblk m c 3 t) (ix2 r j)
        = vars (argP m c) (argV m c) (ix2 r j) :=
  rows_at (n := 4) (place := fun r => r) (p := iblk m c 0 t) (P := argP m c) (w := iblk m c 1 t) (m := iblk m c 2 t) (v := iblk m c 3 t)
    (W := argW m c) (M := argM m c) (V := argV m c)
    (fun k r j => by blk_simp [iblk]; entry_read; pointwise; blk_ext [index t])
    (fun r j => by unfold argW flipped; blk_simp [iblk]; entry_read; pointwise; blk_ext [index t])
    (fun r j => by unfold argM flipped; blk_simp [iblk]; entry_read; pointwise; blk_ext [index t])
    (fun r j => by unfold argV flipped; blk_simp [iblk]; entry_read; pointwise; blk_ext [index t]) r j

theorem emb (r : Fin 192) (j : Fin 1024) : (win0_4.blk t).view.emb (ix2 r j) = ix2 r j
    ∧ (win0_5.blk t).view.emb (ix2 r j) = ix2 r j ∧ (win0_6.blk t).view.emb (ix2 r j) = ix2 r j
    ∧ (win0_7.blk t).view.emb (ix2 r j) = ix2 r j := by
  refine ⟨?_, ?_, ?_, ?_⟩ <;> blk_ext [index t]

theorem final_sum : (dats m 0 c).arrAt 4 cfg0.N = totals (argP m c) :=
  (dats m 0 c).arrAt_eq_of_covers 4 _ (by decide +kernel) fun t hf y => by
    obtain ⟨r, j, rfl⟩ : ∃ (r : Fin 192) (j : Fin 1024), y = ix2 r j := ⟨y 0, y 1, eq_ix2 y⟩
    exact (congrFun (after0_4 m c t) (ix2 r j)).trans ((sum_out _ _ _ _ r j).trans
      ((point m c t r j).1.trans (congrArg (totals (argP m c)) (emb t r j).1).symm))

theorem final_delta : (dats m 0 c).arrAt 5 cfg0.N = deltas (argP m c) (argW m c) (argM m c) (argV m c) :=
  (dats m 0 c).arrAt_eq_of_covers 5 _ (by decide +kernel) fun t hf y => by
    obtain ⟨r, j, rfl⟩ : ∃ (r : Fin 192) (j : Fin 1024), y = ix2 r j := ⟨y 0, y 1, eq_ix2 y⟩
    exact (congrFun (after0_5 m c t) (ix2 r j)).trans ((delta_out _ _ _ _ r j).trans
      ((point m c t r j).2.1.trans (congrArg (deltas (argP m c) (argW m c) (argM m c) (argV m c)) (emb t r j).2.1).symm))

theorem final_mom : (dats m 0 c).arrAt 6 cfg0.N = moms (argP m c) (argM m c) :=
  (dats m 0 c).arrAt_eq_of_covers 6 _ (by decide +kernel) fun t hf y => by
    obtain ⟨r, j, rfl⟩ : ∃ (r : Fin 192) (j : Fin 1024), y = ix2 r j := ⟨y 0, y 1, eq_ix2 y⟩
    exact (congrFun (after0_6 m c t) (ix2 r j)).trans ((mom_out _ _ _ _ r j).trans
      ((point m c t r j).2.2.1.trans (congrArg (moms (argP m c) (argM m c)) (emb t r j).2.2.1).symm))

theorem final_var : (dats m 0 c).arrAt 7 cfg0.N = vars (argP m c) (argV m c) :=
  (dats m 0 c).arrAt_eq_of_covers 7 _ (by decide +kernel) fun t hf y => by
    obtain ⟨r, j, rfl⟩ : ∃ (r : Fin 192) (j : Fin 1024), y = ix2 r j := ⟨y 0, y 1, eq_ix2 y⟩
    exact (congrFun (after0_7 m c t) (ix2 r j)).trans ((var_out _ _ _ _ r j).trans
      ((point m c t r j).2.2.2.trans (congrArg (vars (argP m c) (argV m c)) (emb t r j).2.2.2).symm))

end Cert.AdamInIdeal.Value

namespace Cert.AdamInRefIdeal.Read

open Cert.AdamInRefIdeal Cert.AdamInRefIdeal.Gen

variable (p : Parts 4 192 1024) (w m v : (⟨3, ![1, 1024, 192]⟩ : Shape).Idx → EReal) (r : Fin 192) (j : Fin 1024)

theorem sum_at : val_main_v3 (F := Ideal) p (ix3 0 j r) = total p r j := by
  unfold total
  pointwise [val_main_v3, val_main_v2, val_main_v1, val_main_v0, val_main_cst]

theorem mom_at : val_main_v8 (F := Ideal) p m (ix3 0 j r) = mom (total p r j) (m (ix3 0 j r)) := by
  unfold mom
  rw [← sum_at]
  pointwise [val_main_v8, val_main_v7, val_main_v6, val_main_v5, val_main_v4, val_main_cst_0, val_main_cst_1]

theorem var_at : val_main_v14 (F := Ideal) p v (ix3 0 j r) = var (total p r j) (v (ix3 0 j r)) := by
  unfold var
  rw [← sum_at]
  pointwise [val_main_v14, val_main_v13, val_main_v12, val_main_v11, val_main_v10, val_main_v9, val_main_cst_2, val_main_cst_3]

theorem delta_at :
    val_main_v27 (F := Ideal) p w m v (ix3 0 j r) = delta (total p r j) (w (ix3 0 j r)) (m (ix3 0 j r)) (v (ix3 0 j r)) := by
  unfold delta
  rw [← mom_at, ← var_at]
  pointwise [val_main_v27, val_main_v26, val_main_v25, val_main_v24, val_main_v23, val_main_v22, val_main_v21, val_main_v20,
    val_main_v19, val_main_v18, val_main_v17, val_main_v16, val_main_v15, val_main_cst_4, val_main_cst_5, val_main_cst_6,
    val_main_cst_7, val_main_cst_8]

theorem sums : val_main_v29 (F := Ideal) p = totals p :=
  mat_ext fun r j => Eq.trans (by pointwise [val_main_v29, val_main_v28]) (sum_at p r j)

theorem deltas_eq : val_main_v31 (F := Ideal) p w m v = deltas p (flipped w) (flipped m) (flipped v) :=
  mat_ext fun r j => Eq.trans (by pointwise [val_main_v31, val_main_v30]) (delta_at p w m v r j)

theorem moms_eq : val_main_v33 (F := Ideal) p m = moms p (flipped m) :=
  mat_ext fun r j => Eq.trans (by pointwise [val_main_v33, val_main_v32]) (mom_at p m r j)

theorem vars_eq : val_main_v35 (F := Ideal) p v = vars p (flipped v) :=
  mat_ext fun r j => Eq.trans (by pointwise [val_main_v35, val_main_v34]) (var_at p v r j)

end Cert.AdamInRefIdeal.Read

namespace Cert.Proof.AdamIn

open Cert.AdamInRefIdeal.Read Cert.AdamInIdeal.Value

theorem frame_ref : Cert.quiescent_AdamInRefIdeal :=
  fun m g _ => (θ_run Cert.AdamInRefIdeal.defs _ _).mono (fun r h => ⟨fun c => (h c).2.2.2.2, sem_eq_zero_of_no_sems (by decide) r.2⟩)
    (Cert.AdamInRefIdeal.Value.run (F := Ideal) m g)

theorem algebraic : Cert.algebraic_AdamInIdeal_AdamInRefIdeal := by
  pair_intro
  · run_from (Cert.AdamInIdeal.Value.run_blocks m g)
  · refine Idealize.ShloMosaic.θ_run_mono (Cert.AdamInRefIdeal.Value.run m' g') ?_
    intro r hr c
    obtain ⟨h0, h1, h2, h3, hargs⟩ := hr c
    obtain ⟨a0, a1, a2, a3⟩ := hagree c
    obtain rfl : c = 0 := Subsingleton.elim _ _
    refine ⟨h0.trans ?_, h1.trans ?_, h2.trans ?_, h3.trans ?_, hargs⟩
    · exact ((val_main_v29_eq _).trans (sums _)).trans (by rw [a0, final_sum])
    · exact ((val_main_v31_eq _ _ _ _).trans (deltas_eq _ _ _ _)).trans (by rw [a0, a1, a2, a3, final_delta])
    · exact ((val_main_v33_eq _ _).trans (moms_eq _ _)).trans (by rw [a0, a2, final_mom])
    · exact ((val_main_v35_eq _ _).trans (vars_eq _ _)).trans (by rw [a0, a3, final_var])

end Cert.Proof.AdamIn

end
-- ==== Proof.AdamOut.lean ====
module

public import proofs.«01_k».proof.Defs
public import proofs.«01_k».proof.Proof.AdamSpec
public import proofs.«01_k».proof.Proof.Gen.AdamOutIdeal.Value
public import proofs.«01_k».proof.Proof.Gen.AdamOutRefIdeal.Run
public import proofs.«01_k».proof.Proof.Gen.AdamOutRefIdeal.Read
public import Idealize.ShloMosaic.Lib.Claim
public import Idealize.ShloMosaic.Lib.Pipeline.ValueKit
public import Idealize.ShloMosaic.Lib.Pointwise

/-! The optimiser's step on the mixer's output projection: eight parts, one block. -/

@[expose] public section

set_option maxRecDepth 16384

noncomputable section

open Idealize.ShloMosaic Idealize.ShloMosaic.TcCoe Idealize.SL.Sem
open Idealize.ShloMosaic.Pipeline (Dat)

open Cert.Adam

namespace Cert.AdamOutIdeal.Value

open Cert.AdamOutIdeal Cert.AdamOutIdeal.Gen

section Blocks

variable (p : Vec Ideal S8x128x1024 .bf16) (w m v : Vec Ideal S128x1024 .f32) (r : Fin 128) (j : Fin 1024)

theorem sum_at : k0_pay5 p w m v (ix2 r j) = total (n := 8) p r j := by
  unfold k0_pay5 total
  rw [Fin.sum_univ_eight]
  pointwise [k0_pay4]

theorem whole (a : Vec Ideal S128x1024 .f32) : View.ld a r0_8 = a := View.ld_unit_lit _ a (fun i => by fin_cases i <;> rfl)

theorem stored (a : Vec Ideal S128x1024 .f32) : View.canon [⟨r0_8, a⟩] (ix2 r j) = a (ix2 r j) :=
  congrFun (View.canon_unit_zero (funext fun i => by fin_cases i <;> rfl) _ _) (ix2 r j)

theorem sum_out : out0_4 p w m v (ix2 r j) = totals (n := 8) p (ix2 r j) := (stored r j _).trans (sum_at p w m v r j)

theorem mom_out : out0_6 p w m v (ix2 r j) = moms (n := 8) p m (ix2 r j) := by
  refine (stored r j _).trans (Eq.trans ?_ (congrArg (fun g => mom g (m (ix2 r j))) (sum_at p w m v r j)))
  unfold mom
  rw [whole]
  pointwise [k0_pay1]

theorem var_out : out0_7 p w m v (ix2 r j) = vars (n := 8) p v (ix2 r j) := by
  refine (stored r j _).trans (Eq.trans ?_ (congrArg (fun g => var g (v (ix2 r j))) (sum_at p w m v r j)))
  unfold var
  rw [whole]
  pointwise [k0_pay2]

theorem delta_out : out0_5 p w m v (ix2 r j) = deltas (n := 8) p w m v (ix2 r j) := by
  refine (stored r j _).trans (Eq.trans ?_
    (congrArg (fun g => delta g (w (ix2 r j)) (m (ix2 r j)) (v (ix2 r j))) (sum_at p w m v r j)))
  unfold delta mom var
  rw [whole, whole, whole]
  pointwise [k0_pay3, k0_pay1, k0_pay2]

end Blocks

variable (m : (ℓ : Loc nD τ sig) → Buf (Elt Ideal) ℓ) (c : Dev nD) (t : Fin cfg0.N)

abbrev argP : Parts 8 128 1024 := m ((c : Thread nD τ).loc main_arg0)
abbrev argW : Mat 128 1024 := only (m ((c : Thread nD τ).loc main_arg1))
abbrev argM : Mat 128 1024 := only (m ((c : Thread nD τ).loc main_arg2))
abbrev argV : Mat 128 1024 := only (m ((c : Thread nD τ).loc main_arg3))

theorem index : ∀ t : Fin cfg0.N, win0_0.index t = ![0, 0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] :=
  (by decide +kernel : ∀ t : Fin grid0.N, _)

/-- The four results of a point's blocks are the arrays' results. -/
theorem point (r : Fin 128) (j : Fin 1024) :
    totals (n := 8) (rows := 128) (cols := 1024) (iblk m c 0 t) (ix2 r j) = totals (argP m c) (ix2 r j)
      ∧ deltas (n := 8) (rows := 128) (cols := 1024) (iblk m c 0 t) (iblk m c 1 t) (iblk m c 2 t) (iblk m c 3 t) (ix2 r j)
        = deltas (argP m c) (argW m c) (argM m c) (argV m c) (ix2 r j)
      ∧ moms (n := 8) (rows := 128) (cols := 1024) (iblk m c 0 t) (iblk m c 2 t) (ix2 r j)
        = moms (argP m c) (argM m c) (ix2 r j)
      ∧ vars (n := 8) (rows := 128) (cols := 1024) (iblk m c 0 t) (iblk m c 3 t) (ix2 r j)
        = vars (argP m c) (argV m c) (ix2 r j) :=
  rows_at (n := 8) (place := fun r => r) (p := iblk m c 0 t) (P := argP m c) (w := iblk m c 1 t) (m := iblk m c 2 t) (v := iblk m c 3 t)
    (W := argW m c) (M := argM m c) (V := argV m c)
    (fun k r j => by blk_simp [iblk]; entry_read; pointwise; blk_ext [index t])
    (fun r j => by unfold argW only; blk_simp [iblk]; entry_read; pointwise; blk_ext [index t])
    (fun r j => by unfold argM only; blk_simp [iblk]; entry_read; pointwise; blk_ext [index t])
    (fun r j => by unfold argV only; blk_simp [iblk]; entry_read; pointwise; blk_ext [index t]) r j

theorem emb (r : Fin 128) (j : Fin 1024) : (win0_4.blk t).view.emb (ix2 r j) = ix2 r j
    ∧ (win0_5.blk t).view.emb (ix2 r j) = ix2 r j ∧ (win0_6.blk t).view.emb (ix2 r j) = ix2 r j
    ∧ (win0_7.blk t).view.emb (ix2 r j) = ix2 r j := by
  refine ⟨?_, ?_, ?_, ?_⟩ <;> blk_ext [index t]

theorem final_sum : (dats m 0 c).arrAt 4 cfg0.N = totals (argP m c) :=
  (dats m 0 c).arrAt_eq_of_covers 4 _ (by decide +kernel) fun t hf y => by
    obtain ⟨r, j, rfl⟩ : ∃ (r : Fin 128) (j : Fin 1024), y = ix2 r j := ⟨y 0, y 1, eq_ix2 y⟩
    exact (congrFun (after0_4 m c t) (ix2 r j)).trans ((sum_out _ _ _ _ r j).trans
      ((point m c t r j).1.trans (congrArg (totals (argP m c)) (emb t r j).1).symm))

theorem final_delta : (dats m 0 c).arrAt 5 cfg0.N = deltas (argP m c) (argW m c) (argM m c) (argV m c) :=
  (dats m 0 c).arrAt_eq_of_covers 5 _ (by decide +kernel) fun t hf y => by
    obtain ⟨r, j, rfl⟩ : ∃ (r : Fin 128) (j : Fin 1024), y = ix2 r j := ⟨y 0, y 1, eq_ix2 y⟩
    exact (congrFun (after0_5 m c t) (ix2 r j)).trans ((delta_out _ _ _ _ r j).trans
      ((point m c t r j).2.1.trans (congrArg (deltas (argP m c) (argW m c) (argM m c) (argV m c)) (emb t r j).2.1).symm))

theorem final_mom : (dats m 0 c).arrAt 6 cfg0.N = moms (argP m c) (argM m c) :=
  (dats m 0 c).arrAt_eq_of_covers 6 _ (by decide +kernel) fun t hf y => by
    obtain ⟨r, j, rfl⟩ : ∃ (r : Fin 128) (j : Fin 1024), y = ix2 r j := ⟨y 0, y 1, eq_ix2 y⟩
    exact (congrFun (after0_6 m c t) (ix2 r j)).trans ((mom_out _ _ _ _ r j).trans
      ((point m c t r j).2.2.1.trans (congrArg (moms (argP m c) (argM m c)) (emb t r j).2.2.1).symm))

theorem final_var : (dats m 0 c).arrAt 7 cfg0.N = vars (argP m c) (argV m c) :=
  (dats m 0 c).arrAt_eq_of_covers 7 _ (by decide +kernel) fun t hf y => by
    obtain ⟨r, j, rfl⟩ : ∃ (r : Fin 128) (j : Fin 1024), y = ix2 r j := ⟨y 0, y 1, eq_ix2 y⟩
    exact (congrFun (after0_7 m c t) (ix2 r j)).trans ((var_out _ _ _ _ r j).trans
      ((point m c t r j).2.2.2.trans (congrArg (vars (argP m c) (argV m c)) (emb t r j).2.2.2).symm))

end Cert.AdamOutIdeal.Value

namespace Cert.AdamOutRefIdeal.Read

open Cert.AdamOutRefIdeal Cert.AdamOutRefIdeal.Gen

variable (p : Parts 8 128 1024) (w m v : (⟨3, ![1, 128, 1024]⟩ : Shape).Idx → EReal) (r : Fin 128) (j : Fin 1024)

theorem sum_at : val_main_v2 (F := Ideal) p (ix3 0 r j) = total p r j := by
  unfold total
  pointwise [val_main_v2, val_main_v1, val_main_v0, val_main_cst]

theorem mom_at : val_main_v7 (F := Ideal) p m (ix3 0 r j) = mom (total p r j) (m (ix3 0 r j)) := by
  unfold mom
  rw [← sum_at]
  pointwise [val_main_v7, val_main_v6, val_main_v5, val_main_v4, val_main_v3, val_main_cst_0, val_main_cst_1]

theorem var_at : val_main_v13 (F := Ideal) p v (ix3 0 r j) = var (total p r j) (v (ix3 0 r j)) := by
  unfold var
  rw [← sum_at]
  pointwise [val_main_v13, val_main_v12, val_main_v11, val_main_v10, val_main_v9, val_main_v8, val_main_cst_2, val_main_cst_3]

theorem delta_at :
    val_main_v26 (F := Ideal) p w m v (ix3 0 r j) = delta (total p r j) (w (ix3 0 r j)) (m (ix3 0 r j)) (v (ix3 0 r j)) := by
  unfold delta
  rw [← mom_at, ← var_at]
  pointwise [val_main_v26, val_main_v25, val_main_v24, val_main_v23, val_main_v22, val_main_v21, val_main_v20, val_main_v19,
    val_main_v18, val_main_v17, val_main_v16, val_main_v15, val_main_v14, val_main_cst_4, val_main_cst_5, val_main_cst_6,
    val_main_cst_7, val_main_cst_8]

theorem sums : val_main_v27 (F := Ideal) p = totals p :=
  mat_ext fun r j => Eq.trans (by pointwise [val_main_v27]) (sum_at p r j)

theorem deltas_eq : val_main_v28 (F := Ideal) p w m v = deltas p (only w) (only m) (only v) :=
  mat_ext fun r j => Eq.trans (by pointwise [val_main_v28]) (delta_at p w m v r j)

theorem moms_eq : val_main_v29 (F := Ideal) p m = moms p (only m) :=
  mat_ext fun r j => Eq.trans (by pointwise [val_main_v29]) (mom_at p m r j)

theorem vars_eq : val_main_v30 (F := Ideal) p v = vars p (only v) :=
  mat_ext fun r j => Eq.trans (by pointwise [val_main_v30]) (var_at p v r j)

end Cert.AdamOutRefIdeal.Read

namespace Cert.Proof.AdamOut

open Cert.AdamOutRefIdeal.Read Cert.AdamOutIdeal.Value

theorem frame_ref : Cert.quiescent_AdamOutRefIdeal :=
  fun m g _ => (θ_run Cert.AdamOutRefIdeal.defs _ _).mono (fun r h => ⟨fun c => (h c).2.2.2.2, sem_eq_zero_of_no_sems (by decide) r.2⟩)
    (Cert.AdamOutRefIdeal.Value.run (F := Ideal) m g)

theorem algebraic : Cert.algebraic_AdamOutIdeal_AdamOutRefIdeal := by
  pair_intro
  · run_from (Cert.AdamOutIdeal.Value.run_blocks m g)
  · refine Idealize.ShloMosaic.θ_run_mono (Cert.AdamOutRefIdeal.Value.run m' g') ?_
    intro r hr c
    obtain ⟨h0, h1, h2, h3, hargs⟩ := hr c
    obtain ⟨a0, a1, a2, a3⟩ := hagree c
    obtain rfl : c = 0 := Subsingleton.elim _ _
    refine ⟨h0.trans ?_, h1.trans ?_, h2.trans ?_, h3.trans ?_, hargs⟩
    · exact ((val_main_v27_eq _).trans (sums _)).trans (by rw [a0, final_sum])
    · exact ((val_main_v28_eq _ _ _ _).trans (deltas_eq _ _ _ _)).trans (by rw [a0, a1, a2, a3, final_delta])
    · exact ((val_main_v29_eq _ _).trans (moms_eq _ _)).trans (by rw [a0, a2, final_mom])
    · exact ((val_main_v30_eq _ _).trans (vars_eq _ _)).trans (by rw [a0, a3, final_var])

end Cert.Proof.AdamOut

end
-- ==== Proof.AdamGain.lean ====
module

public import proofs.«01_k».proof.Defs
public import proofs.«01_k».proof.Proof.AdamSpec
public import proofs.«01_k».proof.Proof.Gen.AdamGainIdeal.Value
public import proofs.«01_k».proof.Proof.Gen.AdamGainRefIdeal.Run
public import proofs.«01_k».proof.Proof.Gen.AdamGainRefIdeal.Read
public import Idealize.ShloMosaic.Lib.Claim
public import Idealize.ShloMosaic.Lib.Pipeline.ValueKit
public import Idealize.ShloMosaic.Lib.Pointwise

/-! The optimiser's step on the first norm's gain: eight parts of one row. -/

@[expose] public section

set_option maxRecDepth 16384

noncomputable section

open Idealize.ShloMosaic Idealize.ShloMosaic.TcCoe Idealize.SL.Sem
open Idealize.ShloMosaic.Pipeline (Dat)

open Cert.Adam

namespace Cert.AdamGainIdeal.Value

open Cert.AdamGainIdeal Cert.AdamGainIdeal.Gen

section Blocks

variable (p : Vec Ideal S8x1x1024 .f32) (w m v : Vec Ideal S1x1024 .f32) (r : Fin 1) (j : Fin 1024)

theorem sum_at : k0_pay5 p w m v (ix2 r j) = total (n := 8) p r j := by
  obtain rfl : r = 0 := Subsingleton.elim _ _
  unfold k0_pay5 total
  rw [Fin.sum_univ_eight]
  pointwise [k0_pay4]

theorem whole (a : Vec Ideal S1x1024 .f32) : View.ld a r0_8 = a := View.ld_unit_lit _ a (fun i => by fin_cases i <;> rfl)

theorem stored (a : Vec Ideal S1x1024 .f32) : View.canon [⟨r0_8, a⟩] (ix2 r j) = a (ix2 r j) :=
  congrFun (View.canon_unit_zero (funext fun i => by fin_cases i <;> rfl) _ _) (ix2 r j)

theorem sum_out : out0_4 p w m v (ix2 r j) = totals (n := 8) p (ix2 r j) := (stored r j _).trans (sum_at p w m v r j)

theorem mom_out : out0_6 p w m v (ix2 r j) = moms (n := 8) p m (ix2 r j) := by
  refine (stored r j _).trans (Eq.trans ?_ (congrArg (fun g => mom g (m (ix2 r j))) (sum_at p w m v r j)))
  unfold mom
  rw [whole]
  pointwise [k0_pay1]

theorem var_out : out0_7 p w m v (ix2 r j) = vars (n := 8) p v (ix2 r j) := by
  refine (stored r j _).trans (Eq.trans ?_ (congrArg (fun g => var g (v (ix2 r j))) (sum_at p w m v r j)))
  unfold var
  rw [whole]
  pointwise [k0_pay2]

theorem delta_out : out0_5 p w m v (ix2 r j) = deltas (n := 8) p w m v (ix2 r j) := by
  refine (stored r j _).trans (Eq.trans ?_
    (congrArg (fun g => delta g (w (ix2 r j)) (m (ix2 r j)) (v (ix2 r j))) (sum_at p w m v r j)))
  unfold delta mom var
  rw [whole, whole, whole]
  pointwise [k0_pay3, k0_pay1, k0_pay2]

end Blocks

variable (m : (ℓ : Loc nD τ sig) → Buf (Elt Ideal) ℓ) (c : Dev nD) (t : Fin cfg0.N)

abbrev argP : Parts 8 1 1024 := m ((c : Thread nD τ).loc main_arg0)
abbrev argW : Mat 1 1024 := m ((c : Thread nD τ).loc main_arg1)
abbrev argM : Mat 1 1024 := m ((c : Thread nD τ).loc main_arg2)
abbrev argV : Mat 1 1024 := m ((c : Thread nD τ).loc main_arg3)

theorem index : ∀ t : Fin cfg0.N, win0_0.index t = ![0, 0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] :=
  (by decide +kernel : ∀ t : Fin grid0.N, _)

/-- The four results of a point's blocks are the arrays' results. -/
theorem point (r : Fin 1) (j : Fin 1024) :
    totals (n := 8) (rows := 1) (cols := 1024) (iblk m c 0 t) (ix2 r j) = totals (argP m c) (ix2 r j)
      ∧ deltas (n := 8) (rows := 1) (cols := 1024) (iblk m c 0 t) (iblk m c 1 t) (iblk m c 2 t) (iblk m c 3 t) (ix2 r j)
        = deltas (argP m c) (argW m c) (argM m c) (argV m c) (ix2 r j)
      ∧ moms (n := 8) (rows := 1) (cols := 1024) (iblk m c 0 t) (iblk m c 2 t) (ix2 r j)
        = moms (argP m c) (argM m c) (ix2 r j)
      ∧ vars (n := 8) (rows := 1) (cols := 1024) (iblk m c 0 t) (iblk m c 3 t) (ix2 r j)
        = vars (argP m c) (argV m c) (ix2 r j) :=
  rows_at (n := 8) (place := fun r => r) (p := iblk m c 0 t) (P := argP m c) (w := iblk m c 1 t) (m := iblk m c 2 t) (v := iblk m c 3 t)
    (W := argW m c) (M := argM m c) (V := argV m c)
    (fun k r j => by blk_simp [iblk]; entry_read; pointwise; blk_ext [index t])
    (fun r j => by blk_simp [iblk]; entry_read; pointwise; blk_ext [index t])
    (fun r j => by blk_simp [iblk]; entry_read; pointwise; blk_ext [index t])
    (fun r j => by blk_simp [iblk]; entry_read; pointwise; blk_ext [index t]) r j

theorem emb (r : Fin 1) (j : Fin 1024) : (win0_4.blk t).view.emb (ix2 r j) = ix2 r j
    ∧ (win0_5.blk t).view.emb (ix2 r j) = ix2 r j ∧ (win0_6.blk t).view.emb (ix2 r j) = ix2 r j
    ∧ (win0_7.blk t).view.emb (ix2 r j) = ix2 r j := by
  refine ⟨?_, ?_, ?_, ?_⟩ <;> blk_ext [index t]

theorem final_sum : (dats m 0 c).arrAt 4 cfg0.N = totals (argP m c) :=
  (dats m 0 c).arrAt_eq_of_covers 4 _ (by decide +kernel) fun t hf y => by
    obtain ⟨r, j, rfl⟩ : ∃ (r : Fin 1) (j : Fin 1024), y = ix2 r j := ⟨y 0, y 1, eq_ix2 y⟩
    exact (congrFun (after0_4 m c t) (ix2 r j)).trans ((sum_out _ _ _ _ r j).trans
      ((point m c t r j).1.trans (congrArg (totals (argP m c)) (emb t r j).1).symm))

theorem final_delta : (dats m 0 c).arrAt 5 cfg0.N = deltas (argP m c) (argW m c) (argM m c) (argV m c) :=
  (dats m 0 c).arrAt_eq_of_covers 5 _ (by decide +kernel) fun t hf y => by
    obtain ⟨r, j, rfl⟩ : ∃ (r : Fin 1) (j : Fin 1024), y = ix2 r j := ⟨y 0, y 1, eq_ix2 y⟩
    exact (congrFun (after0_5 m c t) (ix2 r j)).trans ((delta_out _ _ _ _ r j).trans
      ((point m c t r j).2.1.trans (congrArg (deltas (argP m c) (argW m c) (argM m c) (argV m c)) (emb t r j).2.1).symm))

theorem final_mom : (dats m 0 c).arrAt 6 cfg0.N = moms (argP m c) (argM m c) :=
  (dats m 0 c).arrAt_eq_of_covers 6 _ (by decide +kernel) fun t hf y => by
    obtain ⟨r, j, rfl⟩ : ∃ (r : Fin 1) (j : Fin 1024), y = ix2 r j := ⟨y 0, y 1, eq_ix2 y⟩
    exact (congrFun (after0_6 m c t) (ix2 r j)).trans ((mom_out _ _ _ _ r j).trans
      ((point m c t r j).2.2.1.trans (congrArg (moms (argP m c) (argM m c)) (emb t r j).2.2.1).symm))

theorem final_var : (dats m 0 c).arrAt 7 cfg0.N = vars (argP m c) (argV m c) :=
  (dats m 0 c).arrAt_eq_of_covers 7 _ (by decide +kernel) fun t hf y => by
    obtain ⟨r, j, rfl⟩ : ∃ (r : Fin 1) (j : Fin 1024), y = ix2 r j := ⟨y 0, y 1, eq_ix2 y⟩
    exact (congrFun (after0_7 m c t) (ix2 r j)).trans ((var_out _ _ _ _ r j).trans
      ((point m c t r j).2.2.2.trans (congrArg (vars (argP m c) (argV m c)) (emb t r j).2.2.2).symm))

end Cert.AdamGainIdeal.Value

namespace Cert.AdamGainRefIdeal.Read

open Cert.AdamGainRefIdeal Cert.AdamGainRefIdeal.Gen

variable (p : Parts 8 1 1024) (w m v : Mat 1 1024) (r : Fin 1) (j : Fin 1024)

theorem sum_at : val_main_v0 (F := Ideal) p (ix2 r j) = totals p (ix2 r j) := by
  obtain rfl : r = 0 := Subsingleton.elim _ _
  show _ = total p 0 j
  unfold total
  pointwise [val_main_v0, val_main_cst]

theorem mom_at : val_main_v5 (F := Ideal) p m (ix2 r j) = moms p m (ix2 r j) := by
  refine Eq.trans ?_ (congrArg (fun g => mom g (m (ix2 r j))) (sum_at p r j))
  unfold mom
  pointwise [val_main_v5, val_main_v4, val_main_v3, val_main_v2, val_main_v1, val_main_cst_0, val_main_cst_1]

theorem var_at : val_main_v11 (F := Ideal) p v (ix2 r j) = vars p v (ix2 r j) := by
  refine Eq.trans ?_ (congrArg (fun g => var g (v (ix2 r j))) (sum_at p r j))
  unfold var
  pointwise [val_main_v11, val_main_v10, val_main_v9, val_main_v8, val_main_v7, val_main_v6, val_main_cst_2, val_main_cst_3]

theorem delta_at : val_main_v24 (F := Ideal) p w m v (ix2 r j) = deltas p w m v (ix2 r j) := by
  show _ = delta (total p r j) (w (ix2 r j)) (m (ix2 r j)) (v (ix2 r j))
  unfold delta
  refine Eq.trans ?_ (congrArg₂ (fun a b => bits 0xBA83126F#32 * (Ideal.div (Ideal.div a (bits 0x3F26BD02#32))
    (Ideal.sqrt (Ideal.div b (bits 0x3C231ACC#32)) + bits 0x322BCC77#32) + bits 0x3C23D70A#32 * w (ix2 r j)))
    (mom_at p m r j) (var_at p v r j))
  pointwise [val_main_v24, val_main_v23, val_main_v22, val_main_v21, val_main_v20, val_main_v19, val_main_v18, val_main_v17,
    val_main_v16, val_main_v15, val_main_v14, val_main_v13, val_main_v12, val_main_cst_4, val_main_cst_5, val_main_cst_6,
    val_main_cst_7, val_main_cst_8]

end Cert.AdamGainRefIdeal.Read

namespace Cert.Proof.AdamGain

open Cert.AdamGainRefIdeal.Read Cert.AdamGainIdeal.Value

theorem frame_ref : Cert.quiescent_AdamGainRefIdeal :=
  fun m g _ => (θ_run Cert.AdamGainRefIdeal.defs _ _).mono (fun r h => ⟨fun c => (h c).2.2.2.2, sem_eq_zero_of_no_sems (by decide) r.2⟩)
    (Cert.AdamGainRefIdeal.Value.run (F := Ideal) m g)

theorem algebraic : Cert.algebraic_AdamGainIdeal_AdamGainRefIdeal := by
  pair_intro
  · run_from (Cert.AdamGainIdeal.Value.run_blocks m g)
  · refine Idealize.ShloMosaic.θ_run_mono (Cert.AdamGainRefIdeal.Value.run m' g') ?_
    intro r hr c
    obtain ⟨h0, h1, h2, h3, hargs⟩ := hr c
    obtain ⟨a0, a1, a2, a3⟩ := hagree c
    obtain rfl : c = 0 := Subsingleton.elim _ _
    refine ⟨h0.trans ?_, h1.trans ?_, h2.trans ?_, h3.trans ?_, hargs⟩
    · exact ((val_main_v0_eq _).trans (mat_ext (sum_at _))).trans (by rw [a0, final_sum])
    · exact ((val_main_v24_eq _ _ _ _).trans (mat_ext (delta_at _ _ _ _))).trans (by rw [a0, a1, a2, a3, final_delta])
    · exact ((val_main_v5_eq _ _).trans (mat_ext (mom_at _ _))).trans (by rw [a0, a2, final_mom])
    · exact ((val_main_v11_eq _ _).trans (mat_ext (var_at _ _))).trans (by rw [a0, a3, final_var])

end Cert.Proof.AdamGain

end
-- ==== Proof.Pack.lean ====
module

public import proofs.«01_k».proof.Defs
public import proofs.«01_k».proof.Proof.Gen.PackIdeal.Value
public import proofs.«01_k».proof.Proof.Gen.PackRefIdeal.Run
public import proofs.«01_k».proof.Proof.Gen.PackRefIdeal.Read
public import Idealize.ShloMosaic.Lib.Claim
public import Idealize.ShloMosaic.Lib.Pipeline.ValueKit
public import Idealize.ShloMosaic.Lib.Pipeline.ReadBack
public import Idealize.ShloMosaic.Lib.Pointwise

/-! The small gradients packed in rows of 128 lanes: the vectors, the sum of squares and the filter in one array, the matrices in another. -/

@[expose] public section

set_option maxRecDepth 16384

noncomputable section

open Idealize.ShloMosaic Idealize.ShloMosaic.TcCoe Idealize.SL.Sem
open Idealize.ShloMosaic.Pipeline (Dat)

namespace Cert.Pack

/-- An array of `n` rows of `k` entries. -/
abbrev Rows (n k : ℕ) : Type := (⟨2, ![n, k]⟩ : Shape).Idx → EReal

/-- Four square matrices of 128 rows. -/
abbrev Slabs : Type := (⟨3, ![4, 128, 128]⟩ : Shape).Idx → EReal

/-- Entry `l` of the `r`th group of 128 entries of a vector. -/
def group {n : ℕ} [NeZero n] (x : Rows 1 n) (r : ℕ) (l : Fin 128) : EReal := x (ix2 0 (Fin.ofNat n (128 * r + l.val)))

/-- Entry `l` of row `r` of the first array: the nine vectors, group after group; the sum of the eight groups of `q`; the filter's
    four rows, group after group; zero in the rows that no gradient takes. -/
def narrow (x0 x1 : Rows 1 1024) (x2 x3 x4 x5 x6 x7 x8 : Rows 1 512) (f : Rows 4 512) (q : Rows 1 1024) (r : ℕ) (l : Fin 128) : EReal :=
  if r < 8 then group x0 r l else if r < 16 then group x1 (r - 8) l
  else if r < 20 then group x2 (r - 16) l else if r < 24 then group x3 (r - 20) l
  else if r < 28 then group x4 (r - 24) l else if r < 32 then group x5 (r - 28) l
  else if r < 36 then group x6 (r - 32) l else if r < 40 then group x7 (r - 36) l
  else if r < 44 then group x8 (r - 40) l
  else if r = 48 then ∑ k : Fin 8, group q k l
  else if r < 56 then 0 else f (ix2 (Fin.ofNat 4 ((r - 56) / 4)) (Fin.ofNat 512 (128 * ((r - 56) % 4) + l.val)))

/-- Entry `l` of row `r` of two heads side by side, slab after slab: lanes below 64 are the slab's upper left quarter, the others its
    lower right. -/
def heads (w : Slabs) (r : ℕ) (l : Fin 128) : EReal :=
  w (ix3 (Fin.ofNat 4 (r / 64)) (Fin.ofNat 128 (if l.val < 64 then r % 64 else 64 + r % 64)) l)

/-- Entry `l` of row `r` of the second array: the pool's matrices, then the heads of the two gates. -/
def square (p a i : Slabs) (r : ℕ) (l : Fin 128) : EReal :=
  if r < 512 then p (ix3 (Fin.ofNat 4 (r / 128)) (Fin.ofNat 128 (r % 128)) l)
  else if r < 768 then heads a (r - 512) l else heads i (r - 768) l

theorem at3 (w : Slabs) {s s' : Fin 4} {r r' l l' : Fin 128} (hs : s.val = s'.val) (hr : r.val = r'.val) (hl : l.val = l'.val) :
    w (ix3 s r l) = w (ix3 s' r' l') := by
  rw [Fin.ext hs, Fin.ext hr, Fin.ext hl]

/-- Two choices agree when their conditions and their two sides do. -/
theorem branch {α : Type} {P P' : Prop} [Decidable P] [Decidable P'] (h : P ↔ P') {x : P → α} {y : ¬P → α} {x' y' : α}
    (hx : ∀ h, x h = x') (hy : ∀ h, y h = y') : dite P x y = ite P' x' y' := by
  by_cases hp : P
  · rw [dif_pos hp, if_pos (h.mp hp), hx]
  · rw [dif_neg hp, if_neg (mt h.mpr hp), hy]

/-- A store of whole rows over earlier stores: its rows hold what it wrote, the others what they held. -/
theorem over {N n o : ℕ} {e : EltTy} (hb : ∀ a, (![o, 0] : Fin 2 → ℕ) a + (![n, 128] : Fin 2 → ℕ) a ≤ (⟨2, ![N, 128]⟩ : Shape).size a)
    (w : (⟨2, ![n, 128]⟩ : Shape).Idx → Elt Ideal e) (L : List (View.Piece (Elt Ideal) ⟨2, ![N, 128]⟩ e)) (g : ℕ → Fin 128 → Elt Ideal e)
    (r : Fin N) (l : Fin 128) (h : ∀ i : Fin n, w (ix2 i l) = g (o + i.val) l)
    (h' : ¬(o ≤ r.val ∧ r.val < o + n) → View.canon L (ix2 r l) = g r.val l) :
    View.canon (⟨Rect.unit (s := ⟨2, ![N, 128]⟩) ![o, 0] ![n, 128] hb, w⟩ :: L) (ix2 r l) = g r.val l := by
  by_cases hr : o ≤ r.val ∧ r.val < o + n
  · have he : (ix2 r l : (⟨2, ![N, 128]⟩ : Shape).Idx)
        = (Rect.unit (s := ⟨2, ![N, 128]⟩) ![o, 0] ![n, 128] hb).emb (ix2 (⟨r.val - o, by omega⟩ : Fin n) l) := by
      funext a
      refine Fin.ext ?_
      rw [Rect.emb_apply]
      match a with
      | ⟨0, _⟩ => show r.val = o + 1 * (r.val - o); omega
      | ⟨1, _⟩ => show l.val = 0 + 1 * l.val; omega
    rw [he, View.canon_cons_emb]
    refine (h _).trans (congrArg (g · l) ?_)
    show o + (r.val - o) = r.val
    omega
  · rw [View.canon_cons_of_not_mem]
    · exact h' hr
    · intro hm
      obtain ⟨x, hx⟩ := (Rect.unit (s := ⟨2, ![N, 128]⟩) ![o, 0] ![n, 128] hb).exists_idx_of_mem hm
      have h0 := congrArg (fun y => (y 0).val) hx
      change ((Rect.unit (s := ⟨2, ![N, 128]⟩) ![o, 0] ![n, 128] hb).emb x 0).val = r.val at h0
      rw [Rect.emb_apply] at h0
      have hi : (x 0).val < n := (x 0).isLt
      have h1 : o + 1 * (x 0).val = r.val := h0
      omega

/-- The same of one row, with the rows of the later stores listed. -/
theorem over_row {N o : ℕ} {e : EltTy} (hb : ∀ a, (![o, 0] : Fin 2 → ℕ) a + (![1, 128] : Fin 2 → ℕ) a ≤ (⟨2, ![N, 128]⟩ : Shape).size a)
    (w : (⟨2, ![1, 128]⟩ : Shape).Idx → Elt Ideal e) (L : List (View.Piece (Elt Ideal) ⟨2, ![N, 128]⟩ e)) (g : ℕ → Fin 128 → Elt Ideal e)
    (r : Fin N) (l : Fin 128) (later : List ℕ) (hl : r.val ∉ later) (h : w (ix2 0 l) = g o l)
    (h' : r.val ∉ o :: later → View.canon L (ix2 r l) = g r.val l) :
    View.canon (⟨Rect.unit (s := ⟨2, ![N, 128]⟩) ![o, 0] ![1, 128] hb, w⟩ :: L) (ix2 r l) = g r.val l :=
  over hb w L g r l (fun i => by obtain rfl : i = 0 := Subsingleton.elim _ _; exact h) fun hr => h' fun hm => by
    rcases List.mem_cons.mp hm with hm | hm
    · omega
    · exact hl hm

/-- A choice by the mask of the lanes below 64. -/
theorem side (l : Fin 128) (x y : EReal) :
    Scalar.select (IntOp.cmpi .slt (BitVec.ofNat 32 l.val) 64#32) x y = if l.val < 64 then x else y := by
  have h : ∀ l : Fin 128, IntOp.cmpi .slt (BitVec.ofNat 32 l.val) 64#32 = if l.val < 64 then 1#1 else 0#1 := by decide +kernel
  rw [h]
  by_cases hl : l.val < 64 <;> simp [hl, Scalar.select]

end Cert.Pack

namespace Cert.PackIdeal.Value

open Cert.PackIdeal Cert.PackIdeal.Gen Cert.Pack

variable (m : (ℓ : Loc nD τ sig) → Buf (Elt Ideal) ℓ) (c : Dev nD) (t : Fin cfg0.N)

theorem square_out (r : Fin 1024) (l : Fin 128) :
    (outsAt0 m c t).2 (ix2 r l) = square (iblk m c 9 t) (iblk m c 10 t) (iblk m c 11 t) r.val l := by
  unfold outsAt0
  frame_out
  simp only [(Memref.isWhole_whole _).read_unread]
  generalize iblk m c 9 t = p, iblk m c 10 t = a, iblk m c 11 t = i
  iterate 12 (refine over (e := .bf16) _ _ _ (square p a i) r l ?_ fun h => ?_; rotate_left)
  · omega
  all_goals
    intro k
    unfold square heads
    pointwise [k0_pay1, k0_pay2, k0_pay5, k0_pay6, k0_pay7, k0_pay8, k0_pay9, k0_pay10, k0_pay11, k0_pay12, k0_pay13, k0_pay14, k0_pay15,
      k0_pay16, k0_pay17]
    try rw [side]
    by_cases hl : l.val < 64
    all_goals
      simp only [hl, if_true, if_false]
      split_ifs
      all_goals first
        | omega
        | refine congrArg _ (congrArg₂ (ix3 · · l) (Fin.ext ?_) (Fin.ext ?_)) <;> simp [Fin.ofNat] <;> omega

set_option maxHeartbeats 4000000 in
theorem narrow_out (r : Fin 72) (l : Fin 128) :
    (outsAt0 m c t).1 (ix2 r l) = narrow (iblk m c 0 t) (iblk m c 1 t) (iblk m c 2 t) (iblk m c 3 t) (iblk m c 4 t) (iblk m c 5 t)
      (iblk m c 6 t) (iblk m c 7 t) (iblk m c 8 t) (iblk m c 12 t) (iblk m c 13 t) r.val l := by
  unfold outsAt0
  frame_out
  simp only [(Memref.isWhole_whole _).read_unread]
  generalize iblk m c 0 t = x0, iblk m c 1 t = x1, iblk m c 2 t = x2, iblk m c 3 t = x3, iblk m c 4 t = x4, iblk m c 5 t = x5,
    iblk m c 6 t = x6, iblk m c 7 t = x7, iblk m c 8 t = x8, iblk m c 12 t = f, iblk m c 13 t = q
  have hs : r.val ∉ ([] : List ℕ) := List.not_mem_nil
  iterate 61 (refine over_row (e := .f32) _ _ _ (narrow x0 x1 x2 x3 x4 x5 x6 x7 x8 f q) r l _ hs ?_ fun hs => ?_; rotate_left)
  · have key : (44 ≤ r.val ∧ r.val < 48) ∨ (49 ≤ r.val ∧ r.val < 56) := by
      clear * - hs
      revert r
      decide +kernel
    clear * - key
    refine (congrFun (View.canon_unit_zero (funext fun i => by fin_cases i <;> rfl) _ _) (ix2 r l)).trans ?_
    unfold narrow
    simp only [show ¬r.val < 8 by omega, show ¬r.val < 16 by omega, show ¬r.val < 20 by omega, show ¬r.val < 24 by omega,
      show ¬r.val < 28 by omega, show ¬r.val < 32 by omega, show ¬r.val < 36 by omega, show ¬r.val < 40 by omega,
      show ¬r.val < 44 by omega, show ¬r.val = 48 by omega, show r.val < 56 by omega, if_true, if_false]
    pointwise [k0_pay3]
  all_goals
    clear * - l
    unfold narrow group
    pointwise [k0_pay4]
    first
      | exact congrArg _ (congrArg (ix2 _) (Fin.ext (Nat.mod_eq_of_lt (by omega)).symm))
      | rw [Fin.sum_univ_eight]
        iterate 7 (refine congrArg₂ HAdd.hAdd ?_ (congrArg q (congrArg (ix2 _) (Fin.ext (Nat.mod_eq_of_lt (by omega)).symm))))
        exact congrArg q (congrArg (ix2 _) (Fin.ext (by simp [Fin.ofNat]; omega)))

theorem index : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0, 0] ∧ win0_10.index t = ![0, 0, 0]
    ∧ win0_11.index t = ![0, 0, 0] ∧ win0_12.index t = ![0, 0] ∧ win0_13.index t = ![0, 0] ∧ win0_14.index t = ![0, 0]
    ∧ win0_15.index t = ![0, 0] :=
  (by decide +kernel : ∀ t : Fin grid0.N, _)

abbrev arg0 : Rows 1 1024 := m ((c : Thread nD τ).loc main_arg0)
abbrev arg1 : Rows 1 1024 := m ((c : Thread nD τ).loc main_arg1)
abbrev arg2 : Rows 1 512 := m ((c : Thread nD τ).loc main_arg2)
abbrev arg3 : Rows 1 512 := m ((c : Thread nD τ).loc main_arg3)
abbrev arg4 : Rows 1 512 := m ((c : Thread nD τ).loc main_arg4)
abbrev arg5 : Rows 1 512 := m ((c : Thread nD τ).loc main_arg5)
abbrev arg6 : Rows 1 512 := m ((c : Thread nD τ).loc main_arg6)
abbrev arg7 : Rows 1 512 := m ((c : Thread nD τ).loc main_arg7)
abbrev arg8 : Rows 1 512 := m ((c : Thread nD τ).loc main_arg8)
abbrev arg9 : Slabs := m ((c : Thread nD τ).loc main_arg9)
abbrev arg10 : Slabs := m ((c : Thread nD τ).loc main_arg10)
abbrev arg11 : Slabs := m ((c : Thread nD τ).loc main_arg11)
abbrev arg12 : Rows 4 512 := m ((c : Thread nD τ).loc main_arg12)
abbrev arg13 : Rows 1 1024 := m ((c : Thread nD τ).loc main_arg13)

/-- Two arrays of rows that agree at every row and lane are the same. -/
theorem rows_ext {n k : ℕ} {x y : Rows n k} (h : ∀ r l, x (ix2 r l) = y (ix2 r l)) : x = y := by
  funext i
  rw [eq_ix2 i]
  exact h _ _

theorem slabs_ext {x y : Slabs} (h : ∀ s r l, x (ix3 s r l) = y (ix3 s r l)) : x = y := by
  funext i
  rw [eq_ix3 i]
  exact h _ _ _

set_option maxHeartbeats 4000000 in
/-- The windows hold the whole arguments. -/
theorem vectors_in : (iblk m c 0 t : Rows 1 1024) = arg0 m c ∧ (iblk m c 1 t : Rows 1 1024) = arg1 m c
    ∧ (iblk m c 2 t : Rows 1 512) = arg2 m c ∧ (iblk m c 3 t : Rows 1 512) = arg3 m c ∧ (iblk m c 4 t : Rows 1 512) = arg4 m c
    ∧ (iblk m c 5 t : Rows 1 512) = arg5 m c ∧ (iblk m c 6 t : Rows 1 512) = arg6 m c ∧ (iblk m c 7 t : Rows 1 512) = arg7 m c
    ∧ (iblk m c 8 t : Rows 1 512) = arg8 m c ∧ (iblk m c 12 t : Rows 4 512) = arg12 m c ∧ (iblk m c 13 t : Rows 1 1024) = arg13 m c := by
  refine ⟨?_, ?_, ?_, ?_, ?_, ?_, ?_, ?_, ?_, ?_, ?_⟩ <;>
  · refine rows_ext fun r l => ?_
    blk_simp [iblk]
    entry_read
    pointwise
    blk_ext [index t]

theorem slabs_in : (iblk m c 9 t : Slabs) = arg9 m c ∧ (iblk m c 10 t : Slabs) = arg10 m c ∧ (iblk m c 11 t : Slabs) = arg11 m c := by
  refine ⟨?_, ?_, ?_⟩ <;>
  · refine slabs_ext fun s r l => ?_
    blk_simp [iblk]
    entry_read
    pointwise
    blk_ext [index t]

/-- The first array. -/
abbrev narrows (r : Fin 72) (l : Fin 128) : EReal :=
  narrow (arg0 m c) (arg1 m c) (arg2 m c) (arg3 m c) (arg4 m c) (arg5 m c) (arg6 m c) (arg7 m c) (arg8 m c) (arg12 m c) (arg13 m c) r.val l

/-- The second array. -/
abbrev squares (r : Fin 1024) (l : Fin 128) : EReal := square (arg9 m c) (arg10 m c) (arg11 m c) r.val l

theorem emb (r : Fin 72) (r' : Fin 1024) (l : Fin 128) :
    (win0_14.blk t).view.emb (ix2 r l) = ix2 r l ∧ (win0_15.blk t).view.emb (ix2 r' l) = ix2 r' l := by
  refine ⟨?_, ?_⟩ <;> blk_ext [index t]

theorem final_narrow : (dats m 0 c).arrAt 14 cfg0.N = fun y => narrows m c (y 0) (y 1) :=
  (dats m 0 c).arrAt_eq_of_covers 14 _ (by decide +kernel) fun t hf y => by
    obtain ⟨r, l, rfl⟩ : ∃ (r : Fin 72) (l : Fin 128), y = ix2 r l := ⟨y 0, y 1, eq_ix2 y⟩
    refine (congrFun (after0_14 m c t) (ix2 r l)).trans ((narrow_out m c t r l).trans ?_)
    obtain ⟨h0, h1, h2, h3, h4, h5, h6, h7, h8, h12, h13⟩ := vectors_in m c t
    rw [h0, h1, h2, h3, h4, h5, h6, h7, h8, h12, h13]
    exact congrArg (fun y : S72x128.Idx => narrows m c (y 0) (y 1)) (emb t r 0 l).1.symm

theorem final_square : (dats m 0 c).arrAt 15 cfg0.N = fun y => squares m c (y 0) (y 1) :=
  (dats m 0 c).arrAt_eq_of_covers 15 _ (by decide +kernel) fun t hf y => by
    obtain ⟨r, l, rfl⟩ : ∃ (r : Fin 1024) (l : Fin 128), y = ix2 r l := ⟨y 0, y 1, eq_ix2 y⟩
    refine (congrFun (after0_15 m c t) (ix2 r l)).trans ((square_out m c t r l).trans ?_)
    obtain ⟨h9, h10, h11⟩ := slabs_in m c t
    rw [h9, h10, h11]
    exact congrArg (fun y : S1024x128.Idx => squares m c (y 0) (y 1)) (emb t 0 r l).2.symm

end Cert.PackIdeal.Value

namespace Cert.PackRefIdeal.Read

open Cert.PackRefIdeal Cert.PackRefIdeal.Gen Cert.Pack

variable (x0 x1 : Rows 1 1024) (x2 x3 x4 x5 x6 x7 x8 : Rows 1 512) (p a i : Slabs) (f : Rows 4 512) (q : Rows 1 1024) (l : Fin 128)

theorem square_at (r : Fin 1024) : val_main_v31 (F := Ideal) p a i (ix2 r l) = square p a i r.val l := by
  unfold square heads
  pointwise [val_main_v31, val_main_v30, val_main_v28, val_main_v27, val_main_v26, val_main_v25, val_main_v24, val_main_v23, val_main_v22,
    val_main_v21, val_main_v20, val_main_v19, val_main_v18, val_main_v17, val_main_v16]
  refine branch Iff.rfl (fun h => at3 p ?_ ?_ rfl) (fun h => branch (by omega) (fun h => ?_) fun h => ?_)
  · simp only [Fin.ofNat]
    omega
  · simp only [Fin.ofNat]
    omega
  all_goals
    by_cases hl : l.val < 64
    · rw [dif_pos (by omega)]
      refine at3 _ ?_ ?_ ?_ <;> simp only [hl, Fin.ofNat, if_true] <;> omega
    · rw [dif_neg (by omega)]
      refine at3 _ ?_ ?_ ?_ <;> simp only [hl, Fin.ofNat, if_false] <;> omega

theorem rows_of (r : Fin 44) : val_main_v9 (F := Ideal) x0 x1 x2 x3 x4 x5 x6 x7 x8 (ix2 r l) = narrow x0 x1 x2 x3 x4 x5 x6 x7 x8 f q r.val l := by
  unfold narrow group
  pointwise [val_main_v9, val_main_v8, val_main_v7, val_main_v6, val_main_v5, val_main_v4, val_main_v3, val_main_v2, val_main_v1, val_main_v0]
  iterate 8 (refine branch (by omega) (fun h => ?_) (fun h => ?_); rotate_left)
  all_goals
    refine congrArg _ (congrArg (ix2 _) (Fin.ext ?_))
    simp only [Fin.ofNat]
    omega

theorem narrow_at (r : Fin 72) : val_main_v29 (F := Ideal) x0 x1 x2 x3 x4 x5 x6 x7 x8 f q (ix2 r l) = narrow x0 x1 x2 x3 x4 x5 x6 x7 x8 f q r.val l := by
  have zero : (FloatOps.sitofp .f32 0#32 : Ideal .f32) = (0 : EReal) := by
    show ((((0#32 : BitVec 32).toInt : ℤ) : ℝ) : EReal) = 0
    simp
  pointwise [val_main_v29, val_main_v15, val_main_v14, val_main_v13, val_main_v12, val_main_v11, val_main_v10, val_main_cst, val_main_c,
    val_main_c_0, val_main_call0_v0, val_main_call1_v0]
  by_cases h44 : r.val < 44
  · rw [dif_pos (by omega), dif_pos h44]
    exact rows_of x0 x1 x2 x3 x4 x5 x6 x7 x8 f q l ⟨r.val, h44⟩
  unfold narrow
  simp only [h44, show ¬r.val < 8 by omega, show ¬r.val < 16 by omega, show ¬r.val < 20 by omega, show ¬r.val < 24 by omega,
    show ¬r.val < 28 by omega, show ¬r.val < 32 by omega, show ¬r.val < 36 by omega, show ¬r.val < 40 by omega, if_false, zero]
  by_cases h48 : r.val < 48
  · simp [h48, show ¬r.val = 48 by omega, show r.val < 56 by omega]
  by_cases hs : r.val = 48
  · rw [dif_neg h48, dif_pos (by omega), dif_pos (by omega), if_pos hs]
    refine Finset.sum_congr rfl fun k _ => congrArg q (congrArg (ix2 _) (Fin.ext ?_))
    simp only [Fin.ofNat]
    omega
  by_cases h56 : r.val < 56
  · rw [dif_neg h48, dif_pos (by omega), dif_neg (by omega), if_neg hs, if_pos h56]
  · rw [dif_neg h48, dif_neg (by omega), if_neg hs, if_neg h56]
    refine congrArg f (congrArg₂ ix2 (Fin.ext ?_) (Fin.ext ?_)) <;> simp only [Fin.ofNat] <;> omega

end Cert.PackRefIdeal.Read

namespace Cert.Proof.Pack

open Cert.PackRefIdeal.Read Cert.PackIdeal.Value

theorem frame_ref : Cert.quiescent_PackRefIdeal :=
  fun m g _ => (θ_run Cert.PackRefIdeal.defs _ _).mono (fun r h => ⟨fun c => (h c).2.2, sem_eq_zero_of_no_sems (by decide) r.2⟩)
    (Cert.PackRefIdeal.Value.run (F := Ideal) m g)

theorem algebraic : Cert.algebraic_PackIdeal_PackRefIdeal := by
  pair_intro
  · run_from (Cert.PackIdeal.Value.run_blocks m g)
  · refine Idealize.ShloMosaic.θ_run_mono (Cert.PackRefIdeal.Value.run m' g') ?_
    intro r hr c
    obtain ⟨h0, h1, hargs⟩ := hr c
    obtain ⟨a0, a1, a2, a3, a4, a5, a6, a7, a8, a9, a10, a11, a12, a13⟩ := hagree c
    obtain rfl : c = 0 := Subsingleton.elim _ _
    refine ⟨h0.trans ?_, h1.trans ?_, hargs⟩
    · refine ((val_main_v29_eq _ _ _ _ _ _ _ _ _ _ _).trans (funext fun y => ?_)).trans (final_narrow m 0).symm
      rw [eq_ix2 y, a0, a1, a2, a3, a4, a5, a6, a7, a8, a12, a13]
      exact narrow_at _ _ _ _ _ _ _ _ _ _ _ _ _
    · refine ((val_main_v31_eq _ _ _).trans (funext fun y => ?_)).trans (final_square m 0).symm
      rw [eq_ix2 y, a9, a10, a11]
      exact square_at _ _ _ _ _

end Cert.Proof.Pack

end
-- ==== Proof.lean ====
module

public import proofs.«01_k».proof.Defs
public import proofs.«01_k».proof.Proof.Gen.BwdIn
public import proofs.«01_k».proof.Proof.Gen.BwdIn.Skeleton
public import proofs.«01_k».proof.Proof.Gen.BwdIn.Launch
public import proofs.«01_k».proof.Proof.Gen.BwdIn.Points
public import proofs.«01_k».proof.Proof.Gen.BwdIn.Frame
public import proofs.«01_k».proof.Proof.Gen.BwdInIdeal
public import proofs.«01_k».proof.Proof.Gen.BwdInIdeal.Skeleton
public import proofs.«01_k».proof.Proof.Gen.BwdInIdeal.Launch
public import proofs.«01_k».proof.Proof.Gen.BwdInIdeal.Points
public import proofs.«01_k».proof.Proof.Gen.BwdInIdeal.Frame
public import proofs.«01_k».proof.Proof.Gen.BwdInIdeal.Value
public import proofs.«01_k».proof.Proof.Gen.BwdInRefIdeal
public import proofs.«01_k».proof.Proof.Gen.BwdInRefIdeal.Run
public import proofs.«01_k».proof.Proof.Gen.BwdInRefIdeal.Read
public import proofs.«01_k».proof.Proof.Gen.Pre_in_finite
public import proofs.«01_k».proof.Proof.Gen.MixerBwd
public import proofs.«01_k».proof.Proof.Gen.MixerBwd.Skeleton
public import proofs.«01_k».proof.Proof.Gen.MixerBwd.Launch
public import proofs.«01_k».proof.Proof.Gen.MixerBwd.Points
public import proofs.«01_k».proof.Proof.Gen.MixerBwd.Loops
public import proofs.«01_k».proof.Proof.Gen.MixerBwd.Frame
public import proofs.«01_k».proof.Proof.Gen.MixerBwdIdeal
public import proofs.«01_k».proof.Proof.Gen.MixerBwdIdeal.Skeleton
public import proofs.«01_k».proof.Proof.Gen.MixerBwdIdeal.Launch
public import proofs.«01_k».proof.Proof.Gen.MixerBwdIdeal.Points
public import proofs.«01_k».proof.Proof.Gen.MixerBwdIdeal.Loops
public import proofs.«01_k».proof.Proof.Gen.MixerBwdIdeal.Frame
public import proofs.«01_k».proof.Proof.Gen.MixerBwdRefIdeal
public import proofs.«01_k».proof.Proof.Gen.MixerBwdRefIdeal.Run
public import proofs.«01_k».proof.Proof.Gen.FfnFwd
public import proofs.«01_k».proof.Proof.Gen.FfnFwd.Skeleton
public import proofs.«01_k».proof.Proof.Gen.FfnFwd.Frame
public import proofs.«01_k».proof.Proof.Gen.FfnFwdIdeal
public import proofs.«01_k».proof.Proof.Gen.FfnFwdIdeal.Skeleton
public import proofs.«01_k».proof.Proof.Gen.FfnFwdIdeal.Frame
public import proofs.«01_k».proof.Proof.Gen.FfnFwdIdeal.Value
public import proofs.«01_k».proof.Proof.Gen.FfnFwdRefIdeal
public import proofs.«01_k».proof.Proof.Gen.FfnFwdRefIdeal.Run
public import proofs.«01_k».proof.Proof.Gen.FfnFwdRefIdeal.Read
public import proofs.«01_k».proof.Proof.Gen.Pre_ffn_finite
public import proofs.«01_k».proof.Proof.Gen.FfnBwd
public import proofs.«01_k».proof.Proof.Gen.FfnBwd.Skeleton
public import proofs.«01_k».proof.Proof.Gen.FfnBwd.Launch
public import proofs.«01_k».proof.Proof.Gen.FfnBwd.Points
public import proofs.«01_k».proof.Proof.Gen.FfnBwd.Frame
public import proofs.«01_k».proof.Proof.Gen.FfnBwdIdeal
public import proofs.«01_k».proof.Proof.Gen.FfnBwdIdeal.Skeleton
public import proofs.«01_k».proof.Proof.Gen.FfnBwdIdeal.Launch
public import proofs.«01_k».proof.Proof.Gen.FfnBwdIdeal.Points
public import proofs.«01_k».proof.Proof.Gen.FfnBwdIdeal.Frame
public import proofs.«01_k».proof.Proof.Gen.FfnBwdRefIdeal
public import proofs.«01_k».proof.Proof.Gen.FfnBwdRefIdeal.Run
public import proofs.«01_k».proof.Proof.Gen.FfnBwdRefIdeal.Read
public import proofs.«01_k».proof.Proof.Gen.Pre_ffb_finite
public import proofs.«01_k».proof.Proof.Gen.BwdOut
public import proofs.«01_k».proof.Proof.Gen.BwdOut.Skeleton
public import proofs.«01_k».proof.Proof.Gen.BwdOut.Launch
public import proofs.«01_k».proof.Proof.Gen.BwdOut.Points
public import proofs.«01_k».proof.Proof.Gen.BwdOut.Frame
public import proofs.«01_k».proof.Proof.Gen.BwdOutIdeal
public import proofs.«01_k».proof.Proof.Gen.BwdOutIdeal.Skeleton
public import proofs.«01_k».proof.Proof.Gen.BwdOutIdeal.Launch
public import proofs.«01_k».proof.Proof.Gen.BwdOutIdeal.Points
public import proofs.«01_k».proof.Proof.Gen.BwdOutIdeal.Frame
public import proofs.«01_k».proof.Proof.Gen.BwdOutRefIdeal
public import proofs.«01_k».proof.Proof.Gen.BwdOutRefIdeal.Run
public import proofs.«01_k».proof.Proof.Gen.BwdOutRefIdeal.Read
public import proofs.«01_k».proof.Proof.Gen.Pre_out_finite
public import proofs.«01_k».proof.Proof.Gen.FwdIn
public import proofs.«01_k».proof.Proof.Gen.FwdIn.Skeleton
public import proofs.«01_k».proof.Proof.Gen.FwdIn.Frame
public import proofs.«01_k».proof.Proof.Gen.FwdInIdeal
public import proofs.«01_k».proof.Proof.Gen.FwdInIdeal.Skeleton
public import proofs.«01_k».proof.Proof.Gen.FwdInIdeal.Frame
public import proofs.«01_k».proof.Proof.Gen.FwdInIdeal.Value
public import proofs.«01_k».proof.Proof.Gen.FwdInRefIdeal
public import proofs.«01_k».proof.Proof.Gen.FwdInRefIdeal.Run
public import proofs.«01_k».proof.Proof.Gen.FwdInRefIdeal.Read
public import proofs.«01_k».proof.Proof.Gen.FwdOut
public import proofs.«01_k».proof.Proof.Gen.FwdOut.Skeleton
public import proofs.«01_k».proof.Proof.Gen.FwdOut.Frame
public import proofs.«01_k».proof.Proof.Gen.FwdOutIdeal
public import proofs.«01_k».proof.Proof.Gen.FwdOutIdeal.Skeleton
public import proofs.«01_k».proof.Proof.Gen.FwdOutIdeal.Frame
public import proofs.«01_k».proof.Proof.Gen.FwdOutIdeal.Value
public import proofs.«01_k».proof.Proof.Gen.FwdOutRefIdeal
public import proofs.«01_k».proof.Proof.Gen.FwdOutRefIdeal.Run
public import proofs.«01_k».proof.Proof.Gen.FwdOutRefIdeal.Read
public import proofs.«01_k».proof.Proof.Gen.AdamUp
public import proofs.«01_k».proof.Proof.Gen.AdamUp.Skeleton
public import proofs.«01_k».proof.Proof.Gen.AdamUp.Frame
public import proofs.«01_k».proof.Proof.Gen.AdamUpIdeal
public import proofs.«01_k».proof.Proof.Gen.AdamUpIdeal.Skeleton
public import proofs.«01_k».proof.Proof.Gen.AdamUpIdeal.Frame
public import proofs.«01_k».proof.Proof.Gen.AdamUpIdeal.Value
public import proofs.«01_k».proof.Proof.Gen.AdamUpRefIdeal
public import proofs.«01_k».proof.Proof.Gen.AdamUpRefIdeal.Run
public import proofs.«01_k».proof.Proof.Gen.AdamUpRefIdeal.Read
public import proofs.«01_k».proof.Proof.Gen.AdamDown
public import proofs.«01_k».proof.Proof.Gen.AdamDown.Skeleton
public import proofs.«01_k».proof.Proof.Gen.AdamDown.Frame
public import proofs.«01_k».proof.Proof.Gen.AdamDownIdeal
public import proofs.«01_k».proof.Proof.Gen.AdamDownIdeal.Skeleton
public import proofs.«01_k».proof.Proof.Gen.AdamDownIdeal.Frame
public import proofs.«01_k».proof.Proof.Gen.AdamDownIdeal.Value
public import proofs.«01_k».proof.Proof.Gen.AdamDownRefIdeal
public import proofs.«01_k».proof.Proof.Gen.AdamDownRefIdeal.Run
public import proofs.«01_k».proof.Proof.Gen.AdamDownRefIdeal.Read
public import proofs.«01_k».proof.Proof.Gen.AdamIn
public import proofs.«01_k».proof.Proof.Gen.AdamIn.Skeleton
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Frame
public import proofs.«01_k».proof.Proof.Gen.AdamInIdeal.Value
public import proofs.«01_k».proof.Proof.Gen.AdamInRefIdeal
public import proofs.«01_k».proof.Proof.Gen.AdamInRefIdeal.Run
public import proofs.«01_k».proof.Proof.Gen.AdamInRefIdeal.Read
public import proofs.«01_k».proof.Proof.Gen.AdamOut
public import proofs.«01_k».proof.Proof.Gen.AdamOut.Skeleton
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Frame
public import proofs.«01_k».proof.Proof.Gen.AdamOutIdeal.Value
public import proofs.«01_k».proof.Proof.Gen.AdamOutRefIdeal
public import proofs.«01_k».proof.Proof.Gen.AdamOutRefIdeal.Run
public import proofs.«01_k».proof.Proof.Gen.AdamOutRefIdeal.Read
public import proofs.«01_k».proof.Proof.Gen.AdamGain
public import proofs.«01_k».proof.Proof.Gen.AdamGain.Skeleton
public import proofs.«01_k».proof.Proof.Gen.AdamGain.Frame
public import proofs.«01_k».proof.Proof.Gen.AdamGainIdeal
public import proofs.«01_k».proof.Proof.Gen.AdamGainIdeal.Skeleton
public import proofs.«01_k».proof.Proof.Gen.AdamGainIdeal.Frame
public import proofs.«01_k».proof.Proof.Gen.AdamGainIdeal.Value
public import proofs.«01_k».proof.Proof.Gen.AdamGainRefIdeal
public import proofs.«01_k».proof.Proof.Gen.AdamGainRefIdeal.Run
public import proofs.«01_k».proof.Proof.Gen.AdamGainRefIdeal.Read
public import proofs.«01_k».proof.Proof.Gen.Pack
public import proofs.«01_k».proof.Proof.Gen.Pack.Skeleton
public import proofs.«01_k».proof.Proof.Gen.Pack.Frame
public import proofs.«01_k».proof.Proof.Gen.PackIdeal
public import proofs.«01_k».proof.Proof.Gen.PackIdeal.Skeleton
public import proofs.«01_k».proof.Proof.Gen.PackIdeal.Frame
public import proofs.«01_k».proof.Proof.Gen.PackIdeal.Value
public import proofs.«01_k».proof.Proof.Gen.PackRefIdeal
public import proofs.«01_k».proof.Proof.Gen.PackRefIdeal.Run
public import proofs.«01_k».proof.Proof.Gen.PackRefIdeal.Read
public import proofs.«01_k».proof.Proof.InClaim
public import proofs.«01_k».proof.Proof.MixClaim
public import proofs.«01_k».proof.Proof.FfnClaim
public import proofs.«01_k».proof.Proof.FfbClaim
public import proofs.«01_k».proof.Proof.OutClaim
public import proofs.«01_k».proof.Proof.ProjClaim
public import proofs.«01_k».proof.Proof.MergeClaim
public import proofs.«01_k».proof.Proof.AdamUp
public import proofs.«01_k».proof.Proof.AdamDown
public import proofs.«01_k».proof.Proof.AdamIn
public import proofs.«01_k».proof.Proof.AdamOut
public import proofs.«01_k».proof.Proof.AdamGain
public import proofs.«01_k».proof.Proof.Pack
public import Idealize.ShloMosaic.Adequacy
public import Idealize.ShloMosaic.Init

@[expose] public section

noncomputable section

namespace Cert.Proof

open Idealize.ShloMosaic Idealize.SL.Sem Cert.BwdIn

theorem claim : Cert.Claim := ⟨Cert.BwdIn.Gen.facts, Cert.BwdInIdeal.Gen.facts, Cert.BwdInRefIdeal.Gen.facts,
  Cert.MixerBwd.Gen.facts, Cert.MixerBwdIdeal.Gen.facts, Cert.MixerBwdRefIdeal.Gen.facts,
  Cert.FfnFwd.Gen.facts, Cert.FfnFwdIdeal.Gen.facts, Cert.FfnFwdRefIdeal.Gen.facts,
  Cert.FfnBwd.Gen.facts, Cert.FfnBwdIdeal.Gen.facts, Cert.FfnBwdRefIdeal.Gen.facts,
  Cert.BwdOut.Gen.facts, Cert.BwdOutIdeal.Gen.facts, Cert.BwdOutRefIdeal.Gen.facts,
  Cert.FwdIn.Gen.facts, Cert.FwdInIdeal.Gen.facts, Cert.FwdInRefIdeal.Gen.facts,
  Cert.FwdOut.Gen.facts, Cert.FwdOutIdeal.Gen.facts, Cert.FwdOutRefIdeal.Gen.facts,
  Cert.AdamUp.Gen.facts, Cert.AdamUpIdeal.Gen.facts, Cert.AdamUpRefIdeal.Gen.facts,
  Cert.AdamDown.Gen.facts, Cert.AdamDownIdeal.Gen.facts, Cert.AdamDownRefIdeal.Gen.facts,
  Cert.AdamIn.Gen.facts, Cert.AdamInIdeal.Gen.facts, Cert.AdamInRefIdeal.Gen.facts,
  Cert.AdamOut.Gen.facts, Cert.AdamOutIdeal.Gen.facts, Cert.AdamOutRefIdeal.Gen.facts,
  Cert.AdamGain.Gen.facts, Cert.AdamGainIdeal.Gen.facts, Cert.AdamGainRefIdeal.Gen.facts,
  Cert.Pack.Gen.facts, Cert.PackIdeal.Gen.facts, Cert.PackRefIdeal.Gen.facts,
  Cert.Pre_in_finite.Gen.facts, Cert.Pre_ffn_finite.Gen.facts, Cert.Pre_ffb_finite.Gen.facts, Cert.Pre_out_finite.Gen.facts,
  fun m ρ _ => Cert.BwdIn.Gen.frame m ρ,
  fun m ρ _ => Cert.BwdInIdeal.Gen.frame m ρ,
  fun m ρ _ => Cert.BwdInIdeal.Gen.frame m ρ,
  In.frame_ref,
  In.frame_ref_pre,
  Mixer.frame_kernel,
  Mixer.frame_kernel_ideal,
  Mixer.frame_ref,
  fun m ρ _ => Cert.FfnFwd.Gen.frame m ρ,
  fun m ρ _ => Cert.FfnFwdIdeal.Gen.frame m ρ,
  fun m ρ _ => Cert.FfnFwdIdeal.Gen.frame m ρ,
  Ffn.frame_ref,
  Ffn.frame_ref_pre,
  Ffb.frame_kernel,
  Ffb.frame_kernel_ideal,
  Ffb.frame_kernel_pre,
  Ffb.frame_ref,
  Ffb.frame_ref_pre,
  Out.frame,
  Out.frame_ideal,
  Out.frame_ideal_pre,
  Out.frame_ref,
  Out.frame_ref_pre,
  fun m ρ _ => Cert.FwdIn.Gen.frame m ρ,
  fun m ρ _ => Cert.FwdInIdeal.Gen.frame m ρ,
  Proj.frame_ref,
  fun m ρ _ => Cert.FwdOut.Gen.frame m ρ,
  fun m ρ _ => Cert.FwdOutIdeal.Gen.frame m ρ,
  Merge.frame_ref,
  fun m ρ _ => Cert.AdamUp.Gen.frame m ρ,
  fun m ρ _ => Cert.AdamUpIdeal.Gen.frame m ρ,
  AdamUp.frame_ref,
  fun m ρ _ => Cert.AdamDown.Gen.frame m ρ,
  fun m ρ _ => Cert.AdamDownIdeal.Gen.frame m ρ,
  AdamDown.frame_ref,
  fun m ρ _ => Cert.AdamIn.Gen.frame m ρ,
  fun m ρ _ => Cert.AdamInIdeal.Gen.frame m ρ,
  AdamIn.frame_ref,
  fun m ρ _ => Cert.AdamOut.Gen.frame m ρ,
  fun m ρ _ => Cert.AdamOutIdeal.Gen.frame m ρ,
  AdamOut.frame_ref,
  fun m ρ _ => Cert.AdamGain.Gen.frame m ρ,
  fun m ρ _ => Cert.AdamGainIdeal.Gen.frame m ρ,
  AdamGain.frame_ref,
  fun m ρ _ => Cert.Pack.Gen.frame m ρ,
  fun m ρ _ => Cert.PackIdeal.Gen.frame m ρ,
  Pack.frame_ref,
  trivial,
  In.algebraic,
  trivial,
  trivial,
  Ffn.algebraic,
  trivial,
  Ffb.algebraic,
  trivial,
  Out.algebraic,
  trivial,
  Proj.algebraic,
  trivial,
  Merge.algebraic,
  trivial,
  AdamUp.algebraic,
  trivial,
  AdamDown.algebraic,
  trivial,
  AdamIn.algebraic,
  trivial,
  AdamOut.algebraic,
  trivial,
  AdamGain.algebraic,
  trivial,
  Pack.algebraic⟩

end Cert.Proof

end
